-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v41) = v0 c
          ∧ r.2.mem ((c.tc : Thread Cert.Reference10Ideal.nD Cert.Reference10Ideal.τ).loc Cert.Reference10Ideal.main_v42) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v41) = v0 c
          ∧ r.2.mem ((c.tc : Thread Cert.Reference11Ideal.nD Cert.Reference11Ideal.τ).loc Cert.Reference11Ideal.main_v42) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v40) = v0 c
          ∧ r.2.mem ((c.tc : Thread Cert.Reference12Ideal.nD Cert.Reference12Ideal.τ).loc Cert.Reference12Ideal.main_v41) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_v17) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_v17) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)) (v2 : (c : Dev Cert.Kernel19Ideal.nD) → Buf (Elt Ideal) ((c.tc : Thread Cert.Kernel19Ideal.nD Cert.Kernel19Ideal.τ).loc Cert.Kernel19Ideal.main_v1_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_v1_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_v10) = v1 c
          ∧ r.2.mem ((c.tc : Thread Cert.Reference19Ideal.nD Cert.Reference19Ideal.τ).loc Cert.Reference19Ideal.main_v24) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_v10) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  IdealRules.named_const.Statement Cert.Kernel21Ideal.κ "c1" .f32 0x3FC48605#32 ((8388608 / 5463681 : ℝ) : EReal)
  ∧ IdealRules.named_const.Statement Cert.Kernel21Ideal.κ "c2" .f32 0x42C8E6D3#32 ((268435456 / 2672307 : ℝ) : EReal)

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_v26) = v1 c
          ∧ r.2.mem ((c.tc : Thread Cert.Reference21Ideal.nD Cert.Reference21Ideal.τ).loc Cert.Reference21Ideal.main_v7) = v2 c
          ∧ r.2.mem ((c.tc : Thread Cert.Reference21Ideal.nD Cert.Reference21Ideal.τ).loc Cert.Reference21Ideal.main_v13) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  IdealRules.named_const.Statement Cert.Kernel22Ideal.κ "c1" .f32 0x3FC48605#32 ((8388608 / 5463681 : ℝ) : EReal)
  ∧ IdealRules.named_const.Statement Cert.Kernel22Ideal.κ "c2" .f32 0x42C8E6D3#32 ((268435456 / 2672307 : ℝ) : EReal)

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v3_0)) (v1 : (c : Dev Cert.Kernel22Ideal.nD) → Buf (Elt Ideal) ((c.tc : Thread Cert.Kernel22Ideal.nD Cert.Kernel22Ideal.τ).loc Cert.Kernel22Ideal.main_v3_1)) (v2 : (c : Dev Cert.Kernel22Ideal.nD) → Buf (Elt Ideal) ((c.tc : Thread Cert.Kernel22Ideal.nD Cert.Kernel22Ideal.τ).loc Cert.Kernel22Ideal.main_v3_2)) (v3 : (c : Dev Cert.Kernel22Ideal.nD) → Buf (Elt Ideal) ((c.tc : Thread Cert.Kernel22Ideal.nD Cert.Kernel22Ideal.τ).loc Cert.Kernel22Ideal.main_v3_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v3_0) = v0 c
          ∧ r.2.mem ((c.tc : Thread Cert.Kernel22Ideal.nD Cert.Kernel22Ideal.τ).loc Cert.Kernel22Ideal.main_v3_1) = v1 c
          ∧ r.2.mem ((c.tc : Thread Cert.Kernel22Ideal.nD Cert.Kernel22Ideal.τ).loc Cert.Kernel22Ideal.main_v3_2) = v2 c
          ∧ r.2.mem ((c.tc : Thread Cert.Kernel22Ideal.nD Cert.Kernel22Ideal.τ).loc Cert.Kernel22Ideal.main_v3_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v28) = v0 c
          ∧ r.2.mem ((c.tc : Thread Cert.Reference22Ideal.nD Cert.Reference22Ideal.τ).loc Cert.Reference22Ideal.main_v29) = v1 c
          ∧ r.2.mem ((c.tc : Thread Cert.Reference22Ideal.nD Cert.Reference22Ideal.τ).loc Cert.Reference22Ideal.main_v30) = v2 c
          ∧ r.2.mem ((c.tc : Thread Cert.Reference22Ideal.nD Cert.Reference22Ideal.τ).loc Cert.Reference22Ideal.main_v31) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  IdealRules.named_const.Statement Cert.Kernel23Ideal.κ "c1" .f32 0x3FC48605#32 ((8388608 / 5463681 : ℝ) : EReal)
  ∧ IdealRules.named_const.Statement Cert.Kernel23Ideal.κ "c2" .f32 0x42C8E6D3#32 ((268435456 / 2672307 : ℝ) : EReal)

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v3_0)) (v1 : (c : Dev Cert.Kernel23Ideal.nD) → Buf (Elt Ideal) ((c.tc : Thread Cert.Kernel23Ideal.nD Cert.Kernel23Ideal.τ).loc Cert.Kernel23Ideal.main_v3_1)) (v2 : (c : Dev Cert.Kernel23Ideal.nD) → Buf (Elt Ideal) ((c.tc : Thread Cert.Kernel23Ideal.nD Cert.Kernel23Ideal.τ).loc Cert.Kernel23Ideal.main_v3_2)) (v3 : (c : Dev Cert.Kernel23Ideal.nD) → Buf (Elt Ideal) ((c.tc : Thread Cert.Kernel23Ideal.nD Cert.Kernel23Ideal.τ).loc Cert.Kernel23Ideal.main_v3_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v3_0) = v0 c
          ∧ r.2.mem ((c.tc : Thread Cert.Kernel23Ideal.nD Cert.Kernel23Ideal.τ).loc Cert.Kernel23Ideal.main_v3_1) = v1 c
          ∧ r.2.mem ((c.tc : Thread Cert.Kernel23Ideal.nD Cert.Kernel23Ideal.τ).loc Cert.Kernel23Ideal.main_v3_2) = v2 c
          ∧ r.2.mem ((c.tc : Thread Cert.Kernel23Ideal.nD Cert.Kernel23Ideal.τ).loc Cert.Kernel23Ideal.main_v3_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v28) = v0 c
          ∧ r.2.mem ((c.tc : Thread Cert.Reference23Ideal.nD Cert.Reference23Ideal.τ).loc Cert.Reference23Ideal.main_v29) = v1 c
          ∧ r.2.mem ((c.tc : Thread Cert.Reference23Ideal.nD Cert.Reference23Ideal.τ).loc Cert.Reference23Ideal.main_v30) = v2 c
          ∧ r.2.mem ((c.tc : Thread Cert.Reference23Ideal.nD Cert.Reference23Ideal.τ).loc Cert.Reference23Ideal.main_v31) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  IdealRules.named_const.Statement Cert.Kernel24Ideal.κ "c1" .f32 0x3FC48605#32 ((8388608 / 5463681 : ℝ) : EReal)
  ∧ IdealRules.named_const.Statement Cert.Kernel24Ideal.κ "c2" .f32 0x42C8E6D3#32 ((268435456 / 2672307 : ℝ) : EReal)

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v1_0)) (v1 : (c : Dev Cert.Kernel24Ideal.nD) → Buf (Elt Ideal) ((c.tc : Thread Cert.Kernel24Ideal.nD Cert.Kernel24Ideal.τ).loc Cert.Kernel24Ideal.main_v1_1)) (v2 : (c : Dev Cert.Kernel24Ideal.nD) → Buf (Elt Ideal) ((c.tc : Thread Cert.Kernel24Ideal.nD Cert.Kernel24Ideal.τ).loc Cert.Kernel24Ideal.main_v1_2)) (v3 : (c : Dev Cert.Kernel24Ideal.nD) → Buf (Elt Ideal) ((c.tc : Thread Cert.Kernel24Ideal.nD Cert.Kernel24Ideal.τ).loc Cert.Kernel24Ideal.main_v1_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1_0) = v0 c
          ∧ r.2.mem ((c.tc : Thread Cert.Kernel24Ideal.nD Cert.Kernel24Ideal.τ).loc Cert.Kernel24Ideal.main_v1_1) = v1 c
          ∧ r.2.mem ((c.tc : Thread Cert.Kernel24Ideal.nD Cert.Kernel24Ideal.τ).loc Cert.Kernel24Ideal.main_v1_2) = v2 c
          ∧ r.2.mem ((c.tc : Thread Cert.Kernel24Ideal.nD Cert.Kernel24Ideal.τ).loc Cert.Kernel24Ideal.main_v1_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v6) = v0 c
          ∧ r.2.mem ((c.tc : Thread Cert.Reference24Ideal.nD Cert.Reference24Ideal.τ).loc Cert.Reference24Ideal.main_v30) = v1 c
          ∧ r.2.mem ((c.tc : Thread Cert.Reference24Ideal.nD Cert.Reference24Ideal.τ).loc Cert.Reference24Ideal.main_v11) = v2 c
          ∧ r.2.mem ((c.tc : Thread Cert.Reference24Ideal.nD Cert.Reference24Ideal.τ).loc Cert.Reference24Ideal.main_v17) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  IdealRules.named_const.Statement Cert.Kernel25Ideal.κ "c1" .f32 0x3FC48605#32 ((8388608 / 5463681 : ℝ) : EReal)
  ∧ IdealRules.named_const.Statement Cert.Kernel25Ideal.κ "c2" .f32 0x42C8E6D3#32 ((268435456 / 2672307 : ℝ) : EReal)

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v4_0)) (v1 : (c : Dev Cert.Kernel25Ideal.nD) → Buf (Elt Ideal) ((c.tc : Thread Cert.Kernel25Ideal.nD Cert.Kernel25Ideal.τ).loc Cert.Kernel25Ideal.main_v4_1)) (v2 : (c : Dev Cert.Kernel25Ideal.nD) → Buf (Elt Ideal) ((c.tc : Thread Cert.Kernel25Ideal.nD Cert.Kernel25Ideal.τ).loc Cert.Kernel25Ideal.main_v4_2)) (v3 : (c : Dev Cert.Kernel25Ideal.nD) → Buf (Elt Ideal) ((c.tc : Thread Cert.Kernel25Ideal.nD Cert.Kernel25Ideal.τ).loc Cert.Kernel25Ideal.main_v4_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v4_0) = v0 c
          ∧ r.2.mem ((c.tc : Thread Cert.Kernel25Ideal.nD Cert.Kernel25Ideal.τ).loc Cert.Kernel25Ideal.main_v4_1) = v1 c
          ∧ r.2.mem ((c.tc : Thread Cert.Kernel25Ideal.nD Cert.Kernel25Ideal.τ).loc Cert.Kernel25Ideal.main_v4_2) = v2 c
          ∧ r.2.mem ((c.tc : Thread Cert.Kernel25Ideal.nD Cert.Kernel25Ideal.τ).loc Cert.Kernel25Ideal.main_v4_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v32) = v0 c
          ∧ r.2.mem ((c.tc : Thread Cert.Reference25Ideal.nD Cert.Reference25Ideal.τ).loc Cert.Reference25Ideal.main_v33) = v1 c
          ∧ r.2.mem ((c.tc : Thread Cert.Reference25Ideal.nD Cert.Reference25Ideal.τ).loc Cert.Reference25Ideal.main_v34) = v2 c
          ∧ r.2.mem ((c.tc : Thread Cert.Reference25Ideal.nD Cert.Reference25Ideal.τ).loc Cert.Reference25Ideal.main_v35) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  IdealRules.named_const.Statement Cert.Kernel26Ideal.κ "c1" .f32 0x3FC48605#32 ((8388608 / 5463681 : ℝ) : EReal)
  ∧ IdealRules.named_const.Statement Cert.Kernel26Ideal.κ "c2" .f32 0x42C8E6D3#32 ((268435456 / 2672307 : ℝ) : EReal)

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v4_0)) (v1 : (c : Dev Cert.Kernel26Ideal.nD) → Buf (Elt Ideal) ((c.tc : Thread Cert.Kernel26Ideal.nD Cert.Kernel26Ideal.τ).loc Cert.Kernel26Ideal.main_v4_1)) (v2 : (c : Dev Cert.Kernel26Ideal.nD) → Buf (Elt Ideal) ((c.tc : Thread Cert.Kernel26Ideal.nD Cert.Kernel26Ideal.τ).loc Cert.Kernel26Ideal.main_v4_2)) (v3 : (c : Dev Cert.Kernel26Ideal.nD) → Buf (Elt Ideal) ((c.tc : Thread Cert.Kernel26Ideal.nD Cert.Kernel26Ideal.τ).loc Cert.Kernel26Ideal.main_v4_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v4_0) = v0 c
          ∧ r.2.mem ((c.tc : Thread Cert.Kernel26Ideal.nD Cert.Kernel26Ideal.τ).loc Cert.Kernel26Ideal.main_v4_1) = v1 c
          ∧ r.2.mem ((c.tc : Thread Cert.Kernel26Ideal.nD Cert.Kernel26Ideal.τ).loc Cert.Kernel26Ideal.main_v4_2) = v2 c
          ∧ r.2.mem ((c.tc : Thread Cert.Kernel26Ideal.nD Cert.Kernel26Ideal.τ).loc Cert.Kernel26Ideal.main_v4_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v32) = v0 c
          ∧ r.2.mem ((c.tc : Thread Cert.Reference26Ideal.nD Cert.Reference26Ideal.τ).loc Cert.Reference26Ideal.main_v33) = v1 c
          ∧ r.2.mem ((c.tc : Thread Cert.Reference26Ideal.nD Cert.Reference26Ideal.τ).loc Cert.Reference26Ideal.main_v34) = v2 c
          ∧ r.2.mem ((c.tc : Thread Cert.Reference26Ideal.nD Cert.Reference26Ideal.τ).loc Cert.Reference26Ideal.main_v35) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def preserves_Kernel27_Kernel27Ideal : Prop :=
  IdealRules.named_const.Statement Cert.Kernel27Ideal.κ "c1" .f32 0x3FC48605#32 ((8388608 / 5463681 : ℝ) : EReal)
  ∧ IdealRules.named_const.Statement Cert.Kernel27Ideal.κ "c2" .f32 0x42C8E6D3#32 ((268435456 / 2672307 : ℝ) : EReal)

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)) →
    ∃ (v0 : (c : Dev Cert.Kernel27Ideal.nD) → Buf (Elt Ideal) ((c.tc : Thread Cert.Kernel27Ideal.nD Cert.Kernel27Ideal.τ).loc Cert.Kernel27Ideal.main_v1_0)) (v1 : (c : Dev Cert.Kernel27Ideal.nD) → Buf (Elt Ideal) ((c.tc : Thread Cert.Kernel27Ideal.nD Cert.Kernel27Ideal.τ).loc Cert.Kernel27Ideal.main_v1_1)) (v2 : (c : Dev Cert.Kernel27Ideal.nD) → Buf (Elt Ideal) ((c.tc : Thread Cert.Kernel27Ideal.nD Cert.Kernel27Ideal.τ).loc Cert.Kernel27Ideal.main_v1_2)) (v3 : (c : Dev Cert.Kernel27Ideal.nD) → Buf (Elt Ideal) ((c.tc : Thread Cert.Kernel27Ideal.nD Cert.Kernel27Ideal.τ).loc Cert.Kernel27Ideal.main_v1_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1_0) = v0 c
          ∧ r.2.mem ((c.tc : Thread Cert.Kernel27Ideal.nD Cert.Kernel27Ideal.τ).loc Cert.Kernel27Ideal.main_v1_1) = v1 c
          ∧ r.2.mem ((c.tc : Thread Cert.Kernel27Ideal.nD Cert.Kernel27Ideal.τ).loc Cert.Kernel27Ideal.main_v1_2) = v2 c
          ∧ r.2.mem ((c.tc : Thread Cert.Kernel27Ideal.nD Cert.Kernel27Ideal.τ).loc Cert.Kernel27Ideal.main_v1_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v6) = v0 c
          ∧ r.2.mem ((c.tc : Thread Cert.Reference27Ideal.nD Cert.Reference27Ideal.τ).loc Cert.Reference27Ideal.main_v30) = v1 c
          ∧ r.2.mem ((c.tc : Thread Cert.Reference27Ideal.nD Cert.Reference27Ideal.τ).loc Cert.Reference27Ideal.main_v11) = v2 c
          ∧ r.2.mem ((c.tc : Thread Cert.Reference27Ideal.nD Cert.Reference27Ideal.τ).loc Cert.Reference27Ideal.main_v17) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v0) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0))

def preserves_Kernel29_Kernel29Ideal : Prop :=
  IdealRules.named_const.Statement Cert.Kernel29Ideal.κ "c1" .f32 0x3FC48605#32 ((8388608 / 5463681 : ℝ) : EReal)
  ∧ IdealRules.named_const.Statement Cert.Kernel29Ideal.κ "c2" .f32 0x42C8E6D3#32 ((268435456 / 2672307 : ℝ) : EReal)

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v0) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0))

def preserves_Kernel31_Kernel31Ideal : Prop :=
  IdealRules.named_const.Statement Cert.Kernel31Ideal.κ "c1" .f32 0x3FC48605#32 ((8388608 / 5463681 : ℝ) : EReal)
  ∧ IdealRules.named_const.Statement Cert.Kernel31Ideal.κ "c2" .f32 0x42C8E6D3#32 ((268435456 / 2672307 : ℝ) : EReal)

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v4) = v1 c
          ∧ r.2.mem ((c.tc : Thread Cert.Reference31Ideal.nD Cert.Reference31Ideal.τ).loc Cert.Reference31Ideal.main_v10) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v3)) (v1 : (c : Dev Cert.Kernel32Ideal.nD) → Buf (Elt Ideal) ((c.tc : Thread Cert.Kernel32Ideal.nD Cert.Kernel32Ideal.τ).loc Cert.Kernel32Ideal.main_v1_1)) (v2 : (c : Dev Cert.Kernel32Ideal.nD) → Buf (Elt Ideal) ((c.tc : Thread Cert.Kernel32Ideal.nD Cert.Kernel32Ideal.τ).loc Cert.Kernel32Ideal.main_v1_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v3) = v0 c
          ∧ r.2.mem ((c.tc : Thread Cert.Kernel32Ideal.nD Cert.Kernel32Ideal.τ).loc Cert.Kernel32Ideal.main_v1_1) = v1 c
          ∧ r.2.mem ((c.tc : Thread Cert.Kernel32Ideal.nD Cert.Kernel32Ideal.τ).loc Cert.Kernel32Ideal.main_v1_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v24) = v0 c
          ∧ r.2.mem ((c.tc : Thread Cert.Reference32Ideal.nD Cert.Reference32Ideal.τ).loc Cert.Reference32Ideal.main_v50) = v1 c
          ∧ r.2.mem ((c.tc : Thread Cert.Reference32Ideal.nD Cert.Reference32Ideal.τ).loc Cert.Reference32Ideal.main_v51) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v1) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v13) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v13) = v0 c
          ∧ r.2.mem ((c.tc : Thread Cert.Reference34Ideal.nD Cert.Reference34Ideal.τ).loc Cert.Reference34Ideal.main_v14) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
-- ==== Kernel.lean ====
abbrev S2x4096x2816 : Shape := ⟨3, ![2, 4096, 2816]⟩
abbrev S2x2816x1024 : Shape := ⟨3, ![2, 2816, 1024]⟩
abbrev S4096x1024 : Shape := ⟨2, ![4096, 1024]⟩
abbrev S1024 : Shape := ⟨1, ![1024]⟩
abbrev S1x1024 : Shape := ⟨2, ![1, 1024]⟩
abbrev S1x512x2816 : Shape := ⟨3, ![1, 512, 2816]⟩
abbrev S1x2816x1024 : Shape := ⟨3, ![1, 2816, 1024]⟩
abbrev S512x1024 : Shape := ⟨2, ![512, 1024]⟩
abbrev S512x2816 : Shape := ⟨2, ![512, 2816]⟩
abbrev S2816x1024 : Shape := ⟨2, ![2816, 1024]⟩
abbrev S32x1024 : Shape := ⟨2, ![32, 1024]⟩
abbrev S32 : Shape := ⟨1, ![32]⟩
abbrev S32x1 : Shape := ⟨2, ![32, 1]⟩

abbrev nBuf : Space → Nat
  | .hbm => 8
  | .vmem => 13
  | .smem => 0
  | _ => 0

abbrev bufTy : (tb : Table) → Fin (tcTables nBuf tb) → BufTy
  | .hbm, ⟨0, _⟩ => ⟨S2x4096x2816, .bf16⟩
  | .hbm, ⟨1, _⟩ => ⟨S2x2816x1024, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S4096x1024, .f32⟩
  | .hbm, ⟨7, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1x2816x1024, .bf16⟩
  | .local _ .vmem, ⟨3, _⟩ => ⟨S1x2816x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg0 : BitVec 32 := BitVec.ofNat 32 (i 0).val
  let c0_i32_9 : BitVec 32 := 0#32
  let v14 : BitVec 1 := Scalar.cmpi .eq arg0 c0_i32_9
  let v672 : BitVec 32 := Scalar.extui v14
  let c0_i32_380 : BitVec 32 := 0#32
  let v673 : BitVec 1 := Scalar.cmpi .ne v672 c0_i32_380
  v673

def k0_cond5 (i : grid0.Coords) : BitVec 1 :=
  let arg0 : BitVec 32 := BitVec.ofNat 32 (i 0).val
  let c0_i32_9 : BitVec 32 := 0#32
  let v14 : BitVec 1 := Scalar.cmpi .eq arg0 c0_i32_9
  let v_true : BitVec 1 := 1#1
  let v674 : BitVec 1 := Scalar.xori v14 v_true
  let v675 : BitVec 32 := Scalar.extui v674
  let c0_i32_381 : BitVec 32 := 0#32
  let v676 : BitVec 1 := Scalar.cmpi .ne v675 c0_i32_381
  v676

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, arg0.toNat, c0_i32_5.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S2x4096x2816 : Shape := ⟨3, ![2, 4096, 2816]⟩
abbrev S2x2816x1024 : Shape := ⟨3, ![2, 2816, 1024]⟩
abbrev S4096x1024 : Shape := ⟨2, ![4096, 1024]⟩
abbrev S1024 : Shape := ⟨1, ![1024]⟩
abbrev S5632x1024 : Shape := ⟨2, ![5632, 1024]⟩
abbrev S1024x5632 : Shape := ⟨2, ![1024, 5632]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S2x2816x1024, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S5632x1024, .bf16⟩
  | .hbm, ⟨6, _⟩ => ⟨S1024x5632, .bf16⟩
  | .hbm, ⟨7, _⟩ => ⟨S1024x5632, .f32⟩
  | .hbm, ⟨8, _⟩ => ⟨S1x4096x2816, .bf16⟩
  | .hbm, ⟨9, _⟩ => ⟨S4096x2816, .bf16⟩
  | .hbm, ⟨10, _⟩ => ⟨S1x4096x2816, .bf16⟩
  | .hbm, ⟨11, _⟩ => ⟨S4096x2816, .bf16⟩
  | .hbm, ⟨12, _⟩ => ⟨S4096x5632, .bf16⟩
  | .hbm, ⟨13, _⟩ => ⟨S4096x5632, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x5632, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S1x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Kernel2.lean ====
abbrev S2x4096x2816 : Shape := ⟨3, ![2, 4096, 2816]⟩
abbrev S4096x1024 : Shape := ⟨2, ![4096, 1024]⟩
abbrev S2x2816x1024 : Shape := ⟨3, ![2, 2816, 1024]⟩
abbrev S1x1024x1408 : Shape := ⟨3, ![1, 1024, 1408]⟩
abbrev S1024x1024 : Shape := ⟨2, ![1024, 1024]⟩
abbrev S1x1408x1024 : Shape := ⟨3, ![1, 1408, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S2x2816x1024, .bf16⟩
  | .local _ .vmem, ⟨0, _⟩ => ⟨S1x1024x1408, .bf16⟩
  | .local _ .vmem, ⟨1, _⟩ => ⟨S1x1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 2, 1, 4], ![false, false, false, false]⟩

def k0_cond3 (i : grid0.Coords) : BitVec 1 :=
  let arg3 : BitVec 32 := BitVec.ofNat 32 (i 3).val
  let c3_i32 : BitVec 32 := 3#32
  let v10 : BitVec 1 := Scalar.cmpi .eq arg3 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, v9.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, arg1.toNat, arg2.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference2Ideal.lean ====
abbrev S2x4096x2816 : Shape := ⟨3, ![2, 4096, 2816]⟩
abbrev S4096x1024 : Shape := ⟨2, ![4096, 1024]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S2x2816x1024 : Shape := ⟨3, ![2, 2816, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S1x4096x2816, .bf16⟩
  | .hbm, ⟨3, _⟩ => ⟨S4096x2816, .bf16⟩
  | .hbm, ⟨4, _⟩ => ⟨S1x4096x2816, .bf16⟩
  | .hbm, ⟨5, _⟩ => ⟨S4096x2816, .bf16⟩
  | .hbm, ⟨6, _⟩ => ⟨S4096x5632, .bf16⟩
  | .hbm, ⟨7, _⟩ => ⟨S_, .f32⟩
  | .hbm, ⟨8, _⟩ => ⟨S1024x5632, .f32⟩
  | .hbm, ⟨9, _⟩ => ⟨S4096x1024, .f32⟩
  | .hbm, ⟨10, _⟩ => ⟨S4096x5632, .f32⟩
  | .hbm, ⟨11, _⟩ => ⟨S4096x5632, .f32⟩
  | .hbm, ⟨12, _⟩ => ⟨S5632x1024, .f32⟩
  | .hbm, ⟨13, _⟩ => ⟨S1024x5632, .f32⟩
  | .hbm, ⟨14, _⟩ => ⟨S5632x1024, .f32⟩
  | .hbm, ⟨15, _⟩ => ⟨S2x2816x1024, .f32⟩
  | .hbm, ⟨16, _⟩ => ⟨S2x2816x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 1, 4], ![false, false, false, false]⟩

def k0_cond3 (i : grid0.Coords) : BitVec 1 :=
  let arg3 : BitVec 32 := BitVec.ofNat 32 (i 3).val
  let c3_i32 : BitVec 32 := 3#32
  let v10 : BitVec 1 := Scalar.cmpi .eq arg3 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, arg2.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x4224 : Shape := ⟨2, ![4096, 4224]⟩
abbrev S4096x1024 : Shape := ⟨2, ![4096, 1024]⟩
abbrev S4224x1024 : Shape := ⟨2, ![4224, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4224, .bf16⟩
  | .hbm, ⟨1, _⟩ => ⟨S4096x1024, .bf16⟩
  | .hbm, ⟨2, _⟩ => ⟨S4224x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 3, 1, 4], ![false, false, false, false]⟩

def k0_cond3 (i : grid0.Coords) : BitVec 1 :=
  let arg3 : BitVec 32 := BitVec.ofNat 32 (i 3).val
  let c3_i32 : BitVec 32 := 3#32
  let v9 : BitVec 1 := Scalar.cmpi .eq arg3 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, arg2.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference4Ideal.lean ====
abbrev S4096x4224 : Shape := ⟨2, ![4096, 4224]⟩
abbrev S4096x1024 : Shape := ⟨2, ![4096, 1024]⟩
abbrev S_ : Shape := ⟨0, ![]⟩
abbrev S1024x4224 : Shape := ⟨2, ![1024, 4224]⟩
abbrev S4224x1024 : Shape := ⟨2, ![4224, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x4224, .bf16⟩
  | .hbm, ⟨1, _⟩ => ⟨S4096x1024, .bf16⟩
  | .hbm, ⟨2, _⟩ => ⟨S_, .f32⟩
  | .hbm, ⟨3, _⟩ => ⟨S1024x4224, .f32⟩
  | .hbm, ⟨4, _⟩ => ⟨S4096x1024, .f32⟩
  | .hbm, ⟨5, _⟩ => ⟨S4096x4224, .f32⟩
  | .hbm, ⟨6, _⟩ => ⟨S4096x4224, .f32⟩
  | .hbm, ⟨7, _⟩ => ⟨S4224x1024, .f32⟩
  | .hbm, ⟨8, _⟩ => ⟨S1024x4224, .f32⟩
  | .hbm, ⟨9, _⟩ => ⟨S4224x1024, .f32⟩
  | .hbm, ⟨10, _⟩ => ⟨S4224x1024, .bf16⟩
  | _, _ => ⟨S4096x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4096x1536 : Shape := ⟨2, ![4096, 1536]⟩
abbrev S4096x1024 : Shape := ⟨2, ![4096, 1024]⟩
abbrev S1536x1024 : Shape := ⟨2, ![1536, 1024]⟩
abbrev S1024x768 : Shape := ⟨2, ![1024, 768]⟩
abbrev S1024x1024 : Shape := ⟨2, ![1024, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S1536x1024, .bf16⟩
  | .local _ .vmem, ⟨0, _⟩ => ⟨S1024x768, .bf16⟩
  | .local _ .vmem, ⟨1, _⟩ => ⟨S1024x768, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 1, 4], ![false, false, false, false]⟩

def k0_cond3 (i : grid0.Coords) : BitVec 1 :=
  let arg3 : BitVec 32 := BitVec.ofNat 32 (i 3).val
  let c3_i32 : BitVec 32 := 3#32
  let v9 : BitVec 1 := Scalar.cmpi .eq arg3 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, arg2.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference5Ideal.lean ====
abbrev S4096x1536 : Shape := ⟨2, ![4096, 1536]⟩
abbrev S4096x1024 : Shape := ⟨2, ![4096, 1024]⟩
abbrev S_ : Shape := ⟨0, ![]⟩
abbrev S1024x1536 : Shape := ⟨2, ![1024, 1536]⟩
abbrev S1536x1024 : Shape := ⟨2, ![1536, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S_, .f32⟩
  | .hbm, ⟨3, _⟩ => ⟨S1024x1536, .f32⟩
  | .hbm, ⟨4, _⟩ => ⟨S4096x1024, .f32⟩
  | .hbm, ⟨5, _⟩ => ⟨S4096x1536, .f32⟩
  | .hbm, ⟨6, _⟩ => ⟨S4096x1536, .f32⟩
  | .hbm, ⟨7, _⟩ => ⟨S1536x1024, .f32⟩
  | .hbm, ⟨8, _⟩ => ⟨S1024x1536, .f32⟩
  | .hbm, ⟨9, _⟩ => ⟨S1536x1024, .f32⟩
  | .hbm, ⟨10, _⟩ => ⟨S1536x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 4], ![false, false, false, false]⟩

def k0_cond3 (i : grid0.Coords) : BitVec 1 :=
  let arg3 : BitVec 32 := BitVec.ofNat 32 (i 3).val
  let c3_i32 : BitVec 32 := 3#32
  let v10 : BitVec 1 := Scalar.cmpi .eq arg3 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true, false]
-- ==== Reference6Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 4], ![false, false, false, false]⟩

def k0_cond3 (i : grid0.Coords) : BitVec 1 :=
  let arg3 : BitVec 32 := BitVec.ofNat 32 (i 3).val
  let c3_i32 : BitVec 32 := 3#32
  let v9 : BitVec 1 := Scalar.cmpi .eq arg3 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true, false]
-- ==== Reference7Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x1024 : Shape := ⟨2, ![4096, 1024]⟩
abbrev S4096x256 : Shape := ⟨2, ![4096, 256]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 4], ![false, false, false, false]⟩

def k0_cond3 (i : grid0.Coords) : BitVec 1 :=
  let arg3 : BitVec 32 := BitVec.ofNat 32 (i 3).val
  let c3_i32 : BitVec 32 := 3#32
  let v9 : BitVec 1 := Scalar.cmpi .eq arg3 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true, false]
-- ==== Reference8Ideal.lean ====
abbrev S4096x1024 : Shape := ⟨2, ![4096, 1024]⟩
abbrev S4096x256 : Shape := ⟨2, ![4096, 256]⟩
abbrev S_ : Shape := ⟨0, ![]⟩
abbrev S256x1024 : Shape := ⟨2, ![256, 1024]⟩
abbrev S1024x256 : Shape := ⟨2, ![1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S_, .f32⟩
  | .hbm, ⟨3, _⟩ => ⟨S256x1024, .f32⟩
  | .hbm, ⟨4, _⟩ => ⟨S4096x256, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S1024x256, .f32⟩
  | .hbm, ⟨10, _⟩ => ⟨S1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference9Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S4096x4224 : Shape := ⟨2, ![4096, 4224]⟩
abbrev S4224x1024 : Shape := ⟨2, ![4224, 1024]⟩
abbrev S4096x1024 : Shape := ⟨2, ![4096, 1024]⟩
abbrev S1024 : Shape := ⟨1, ![1024]⟩
abbrev S1x1024 : Shape := ⟨2, ![1, 1024]⟩
abbrev S512x1408 : Shape := ⟨2, ![512, 1408]⟩
abbrev S1408x1024 : Shape := ⟨2, ![1408, 1024]⟩
abbrev S512x1024 : Shape := ⟨2, ![512, 1024]⟩
abbrev S32x1024 : Shape := ⟨2, ![32, 1024]⟩
abbrev S32 : Shape := ⟨1, ![32]⟩
abbrev S32x1 : Shape := ⟨2, ![32, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x4224, .bf16⟩
  | .hbm, ⟨1, _⟩ => ⟨S4224x1024, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S4096x1024, .f32⟩
  | .hbm, ⟨7, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S4096x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 3], ![false, false]⟩

def k0_cond3 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_6 : BitVec 32 := 0#32
  let v11 : BitVec 1 := Scalar.cmpi .ne v10 c0_i32_6
  v11

def k0_cond4 (i : grid0.Coords) : BitVec 1 :=
  let arg0 : BitVec 32 := BitVec.ofNat 32 (i 0).val
  let c0_i32_7 : BitVec 32 := 0#32
  let v12 : BitVec 1 := Scalar.cmpi .eq arg0 c0_i32_7
  let v670 : BitVec 32 := Scalar.extui v12
  let c0_i32_378 : BitVec 32 := 0#32
  let v671 : BitVec 1 := Scalar.cmpi .ne v670 c0_i32_378
  v671

def k0_cond5 (i : grid0.Coords) : BitVec 1 :=
  let arg0 : BitVec 32 := BitVec.ofNat 32 (i 0).val
  let c0_i32_7 : BitVec 32 := 0#32
  let v12 : BitVec 1 := Scalar.cmpi .eq arg0 c0_i32_7
  let v_true : BitVec 1 := 1#1
  let v672 : BitVec 1 := Scalar.xori v12 v_true
  let v673 : BitVec 32 := Scalar.extui v672
  let c0_i32_379 : BitVec 32 := 0#32
  let v674 : BitVec 1 := Scalar.cmpi .ne v673 c0_i32_379
  v674

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, v9.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference10Ideal.lean ====
abbrev S4096x4224 : Shape := ⟨2, ![4096, 4224]⟩
abbrev S4224x1024 : Shape := ⟨2, ![4224, 1024]⟩
abbrev S4096x1024 : Shape := ⟨2, ![4096, 1024]⟩
abbrev S1024 : Shape := ⟨1, ![1024]⟩
abbrev S1024x4224 : Shape := ⟨2, ![1024, 4224]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x4224, .bf16⟩
  | .hbm, ⟨1, _⟩ => ⟨S4224x1024, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024x4224, .bf16⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x4224, .f32⟩
  | .hbm, ⟨27, _⟩ => ⟨S4096x4224, .f32⟩
  | .hbm, ⟨28, _⟩ => ⟨S4096x4224, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1x1024, .f32⟩
  | _, _ => ⟨S4096x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel11.lean ====
abbrev S4096x1536 : Shape := ⟨2, ![4096, 1536]⟩
abbrev S1536x1024 : Shape := ⟨2, ![1536, 1024]⟩
abbrev S4096x1024 : Shape := ⟨2, ![4096, 1024]⟩
abbrev S1024 : Shape := ⟨1, ![1024]⟩
abbrev S1x1024 : Shape := ⟨2, ![1, 1024]⟩
abbrev S512x1536 : Shape := ⟨2, ![512, 1536]⟩
abbrev S512x1024 : Shape := ⟨2, ![512, 1024]⟩
abbrev S32x1024 : Shape := ⟨2, ![32, 1024]⟩
abbrev S32 : Shape := ⟨1, ![32]⟩
abbrev S32x1 : Shape := ⟨2, ![32, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x1536, .bf16⟩
  | .hbm, ⟨1, _⟩ => ⟨S1536x1024, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S4096x1024, .f32⟩
  | .hbm, ⟨7, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S1536x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_5 : BitVec 32 := 0#32
  let v8 : BitVec 1 := Scalar.cmpi .ne v7 c0_i32_5
  v8

def k0_cond2 (i : grid0.Coords) : BitVec 1 :=
  let arg0 : BitVec 32 := BitVec.ofNat 32 (i 0).val
  let c0_i32_6 : BitVec 32 := 0#32
  let v9 : BitVec 1 := Scalar.cmpi .eq arg0 c0_i32_6
  let v667 : BitVec 32 := Scalar.extui v9
  let c0_i32_377 : BitVec 32 := 0#32
  let v668 : BitVec 1 := Scalar.cmpi .ne v667 c0_i32_377
  v668

def k0_cond3 (i : grid0.Coords) : BitVec 1 :=
  let arg0 : BitVec 32 := BitVec.ofNat 32 (i 0).val
  let c0_i32_6 : BitVec 32 := 0#32
  let v9 : BitVec 1 := Scalar.cmpi .eq arg0 c0_i32_6
  let v_true : BitVec 1 := 1#1
  let v669 : BitVec 1 := Scalar.xori v9 v_true
  let v670 : BitVec 32 := Scalar.extui v669
  let c0_i32_378 : BitVec 32 := 0#32
  let v671 : BitVec 1 := Scalar.cmpi .ne v670 c0_i32_378
  v671

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference11Ideal.lean ====
abbrev S4096x1536 : Shape := ⟨2, ![4096, 1536]⟩
abbrev S1536x1024 : Shape := ⟨2, ![1536, 1024]⟩
abbrev S4096x1024 : Shape := ⟨2, ![4096, 1024]⟩
abbrev S1024 : Shape := ⟨1, ![1024]⟩
abbrev S1024x1536 : Shape := ⟨2, ![1024, 1536]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1536x1024, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024x1536, .bf16⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x1536, .f32⟩
  | .hbm, ⟨27, _⟩ => ⟨S4096x1536, .f32⟩
  | .hbm, ⟨28, _⟩ => ⟨S4096x1536, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S32x1024 : Shape := ⟨2, ![32, 1024]⟩
abbrev S32 : Shape := ⟨1, ![32]⟩
abbrev S32x1 : Shape := ⟨2, ![32, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S4096x1024, .f32⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_5 : BitVec 32 := 0#32
  let v8 : BitVec 1 := Scalar.cmpi .ne v7 c0_i32_5
  v8

def k0_cond2 (i : grid0.Coords) : BitVec 1 :=
  let arg0 : BitVec 32 := BitVec.ofNat 32 (i 0).val
  let c0_i32_6 : BitVec 32 := 0#32
  let v9 : BitVec 1 := Scalar.cmpi .eq arg0 c0_i32_6
  let v667 : BitVec 32 := Scalar.extui v9
  let c0_i32_377 : BitVec 32 := 0#32
  let v668 : BitVec 1 := Scalar.cmpi .ne v667 c0_i32_377
  v668

def k0_cond3 (i : grid0.Coords) : BitVec 1 :=
  let arg0 : BitVec 32 := BitVec.ofNat 32 (i 0).val
  let c0_i32_6 : BitVec 32 := 0#32
  let v9 : BitVec 1 := Scalar.cmpi .eq arg0 c0_i32_6
  let v_true : BitVec 1 := 1#1
  let v669 : BitVec 1 := Scalar.xori v9 v_true
  let v670 : BitVec 32 := Scalar.extui v669
  let c0_i32_378 : BitVec 32 := 0#32
  let v671 : BitVec 1 := Scalar.cmpi .ne v670 c0_i32_378
  v671

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference12Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S1024x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference13Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4096x1024 : Shape := ⟨2, ![4096, 1024]⟩
abbrev S4224x1024 : Shape := ⟨2, ![4224, 1024]⟩
abbrev S4096x4224 : Shape := ⟨2, ![4096, 4224]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4224x1024, .bf16⟩
  | .hbm, ⟨2, _⟩ => ⟨S4096x4224, .f32⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 3, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference14Ideal.lean ====
abbrev S4096x1024 : Shape := ⟨2, ![4096, 1024]⟩
abbrev S4224x1024 : Shape := ⟨2, ![4224, 1024]⟩
abbrev S1024x4224 : Shape := ⟨2, ![1024, 4224]⟩
abbrev S4096x4224 : Shape := ⟨2, ![4096, 4224]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4224x1024, .bf16⟩
  | .hbm, ⟨2, _⟩ => ⟨S4096x1024, .f32⟩
  | .hbm, ⟨3, _⟩ => ⟨S1024x4224, .bf16⟩
  | .hbm, ⟨4, _⟩ => ⟨S1024x4224, .f32⟩
  | .hbm, ⟨5, _⟩ => ⟨S4096x4224, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S4096x1024 : Shape := ⟨2, ![4096, 1024]⟩
abbrev S1536x1024 : Shape := ⟨2, ![1536, 1024]⟩
abbrev S4096x1536 : Shape := ⟨2, ![4096, 1536]⟩
abbrev S1024x1024 : Shape := ⟨2, ![1024, 1024]⟩
abbrev S768x1024 : Shape := ⟨2, ![768, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1536x1024, .bf16⟩
  | .hbm, ⟨2, _⟩ => ⟨S4096x1536, .f32⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x768, .f32⟩
  | .local _ .vmem, ⟨5, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference15Ideal.lean ====
abbrev S4096x1024 : Shape := ⟨2, ![4096, 1024]⟩
abbrev S1536x1024 : Shape := ⟨2, ![1536, 1024]⟩
abbrev S1024x1536 : Shape := ⟨2, ![1024, 1536]⟩
abbrev S4096x1536 : Shape := ⟨2, ![4096, 1536]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1536x1024, .bf16⟩
  | .hbm, ⟨2, _⟩ => ⟨S4096x1024, .f32⟩
  | .hbm, ⟨3, _⟩ => ⟨S1024x1536, .bf16⟩
  | .hbm, ⟨4, _⟩ => ⟨S1024x1536, .f32⟩
  | .hbm, ⟨5, _⟩ => ⟨S4096x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S4096x256 : Shape := ⟨2, ![4096, 256]⟩
abbrev S1024x256 : Shape := ⟨2, ![1024, 256]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S1024x256, .bf16⟩
  | .hbm, ⟨2, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x1024, .f32⟩
  | .local _ .vmem, ⟨4, _⟩ => ⟨S1024x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference16Ideal.lean ====
abbrev S4096x256 : Shape := ⟨2, ![4096, 256]⟩
abbrev S1024x256 : Shape := ⟨2, ![1024, 256]⟩
abbrev S256x1024 : Shape := ⟨2, ![256, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S1024x256, .bf16⟩
  | .hbm, ⟨2, _⟩ => ⟨S4096x256, .f32⟩
  | .hbm, ⟨3, _⟩ => ⟨S256x1024, .bf16⟩
  | .hbm, ⟨4, _⟩ => ⟨S256x1024, .f32⟩
  | .hbm, ⟨5, _⟩ => ⟨S4096x1024, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S32x1024 : Shape := ⟨2, ![32, 1024]⟩
abbrev S32 : Shape := ⟨1, ![32]⟩
abbrev S32x1 : Shape := ⟨2, ![32, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference17Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel18.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S32x1024 : Shape := ⟨2, ![32, 1024]⟩
abbrev S32 : Shape := ⟨1, ![32]⟩
abbrev S32x1 : Shape := ⟨2, ![32, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference18Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel19.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S32x1024 : Shape := ⟨2, ![32, 1024]⟩
abbrev S32 : Shape := ⟨1, ![32]⟩
abbrev S32x1 : Shape := ⟨2, ![32, 1]⟩

abbrev nBuf : Space → Nat
  | .hbm => 9
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference19Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel20.lean ====
abbrev S4096x1024 : Shape := ⟨2, ![4096, 1024]⟩
abbrev S1024x1024 : Shape := ⟨2, ![1024, 1024]⟩
abbrev S512x1024 : Shape := ⟨2, ![512, 1024]⟩
abbrev S32x1024 : Shape := ⟨2, ![32, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference20Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel21.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel21Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference21Ideal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel22.lean ====
abbrev S8x514x1024 : Shape := ⟨3, ![8, 514, 1024]⟩
abbrev S1x1024x514 : Shape := ⟨3, ![1, 1024, 514]⟩
abbrev S1x514x1024 : Shape := ⟨3, ![1, 514, 1024]⟩
abbrev S514x1024 : Shape := ⟨2, ![514, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x514x1024, .bf16⟩
  | .hbm, ⟨1, _⟩ => ⟨S1x1024x514, .f32⟩
  | .hbm, ⟨2, _⟩ => ⟨S1x1024x514, .f32⟩
  | .hbm, ⟨3, _⟩ => ⟨S1x1024x514, .f32⟩
  | .hbm, ⟨4, _⟩ => ⟨S1x514x1024, .f32⟩
  | .hbm, ⟨5, _⟩ => ⟨S1x514x1024, .f32⟩
  | .hbm, ⟨6, _⟩ => ⟨S1x514x1024, .f32⟩
  | .hbm, ⟨7, _⟩ => ⟨S1x514x1024, .f32⟩
  | .hbm, ⟨8, _⟩ => ⟨S1x514x1024, .f32⟩
  | .hbm, ⟨9, _⟩ => ⟨S1x514x1024, .f32⟩
  | .hbm, ⟨10, _⟩ => ⟨S1x514x1024, .f32⟩
  | .local _ .vmem, ⟨0, _⟩ => ⟨S8x514x1024, .bf16⟩
  | .local _ .vmem, ⟨1, _⟩ => ⟨S1x514x1024, .f32⟩
  | .local _ .vmem, ⟨2, _⟩ => ⟨S1x514x1024, .f32⟩
  | .local _ .vmem, ⟨3, _⟩ => ⟨S1x514x1024, .f32⟩
  | .local _ .vmem, ⟨4, _⟩ => ⟨S1x514x1024, .f32⟩
  | .local _ .vmem, ⟨5, _⟩ => ⟨S1x514x1024, .f32⟩
  | .local _ .vmem, ⟨6, _⟩ => ⟨S1x514x1024, .f32⟩
  | .local _ .vmem, ⟨7, _⟩ => ⟨S1x514x1024, .f32⟩
  | _, _ => ⟨S8x514x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x514x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x514x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x514x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x514x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x514x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x514x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x514x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x514x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel22Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference22Ideal.lean ====
abbrev S8x514x1024 : Shape := ⟨3, ![8, 514, 1024]⟩
abbrev S1x1024x514 : Shape := ⟨3, ![1, 1024, 514]⟩
abbrev S_ : Shape := ⟨0, ![]⟩
abbrev S514x1024 : Shape := ⟨2, ![514, 1024]⟩
abbrev S1024x514 : Shape := ⟨2, ![1024, 514]⟩
abbrev S1x514x1024 : Shape := ⟨3, ![1, 514, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x514x1024, .bf16⟩
  | .hbm, ⟨1, _⟩ => ⟨S1x1024x514, .f32⟩
  | .hbm, ⟨2, _⟩ => ⟨S1x1024x514, .f32⟩
  | .hbm, ⟨3, _⟩ => ⟨S1x1024x514, .f32⟩
  | .hbm, ⟨4, _⟩ => ⟨S8x514x1024, .f32⟩
  | .hbm, ⟨5, _⟩ => ⟨S_, .f32⟩
  | .hbm, ⟨6, _⟩ => ⟨S514x1024, .f32⟩
  | .hbm, ⟨7, _⟩ => ⟨S1024x514, .f32⟩
  | .hbm, ⟨8, _⟩ => ⟨S1x1024x514, .f32⟩
  | .hbm, ⟨9, _⟩ => ⟨S_, .f32⟩
  | .hbm, ⟨10, _⟩ => ⟨S1x1024x514, .f32⟩
  | .hbm, ⟨11, _⟩ => ⟨S1x1024x514, .f32⟩
  | .hbm, ⟨12, _⟩ => ⟨S_, .f32⟩
  | .hbm, ⟨13, _⟩ => ⟨S1x1024x514, .f32⟩
  | .hbm, ⟨14, _⟩ => ⟨S1x1024x514, .f32⟩
  | .hbm, ⟨15, _⟩ => ⟨S1x1024x514, .f32⟩
  | .hbm, ⟨16, _⟩ => ⟨S_, .f32⟩
  | .hbm, ⟨17, _⟩ => ⟨S1x1024x514, .f32⟩
  | .hbm, ⟨18, _⟩ => ⟨S1x1024x514, .f32⟩
  | .hbm, ⟨19, _⟩ => ⟨S1x1024x514, .f32⟩
  | .hbm, ⟨20, _⟩ => ⟨S_, .f32⟩
  | .hbm, ⟨21, _⟩ => ⟨S1x1024x514, .f32⟩
  | .hbm, ⟨22, _⟩ => ⟨S1x1024x514, .f32⟩
  | .hbm, ⟨23, _⟩ => ⟨S1x1024x514, .f32⟩
  | .hbm, ⟨24, _⟩ => ⟨S_, .f32⟩
  | .hbm, ⟨25, _⟩ => ⟨S1x1024x514, .f32⟩
  | .hbm, ⟨26, _⟩ => ⟨S1x1024x514, .f32⟩
  | .hbm, ⟨27, _⟩ => ⟨S_, .f32⟩
  | .hbm, ⟨28, _⟩ => ⟨S1x1024x514, .f32⟩
  | .hbm, ⟨29, _⟩ => ⟨S1x1024x514, .f32⟩
  | .hbm, ⟨30, _⟩ => ⟨S1x1024x514, .f32⟩
  | .hbm, ⟨31, _⟩ => ⟨S_, .f32⟩
  | .hbm, ⟨32, _⟩ => ⟨S1x1024x514, .f32⟩
  | .hbm, ⟨33, _⟩ => ⟨S1x1024x514, .f32⟩
  | .hbm, ⟨34, _⟩ => ⟨S1x1024x514, .f32⟩
  | .hbm, ⟨35, _⟩ => ⟨S_, .f32⟩
  | .hbm, ⟨36, _⟩ => ⟨S1x1024x514, .f32⟩
  | .hbm, ⟨37, _⟩ => ⟨S1x1024x514, .f32⟩
  | .hbm, ⟨38, _⟩ => ⟨S1x1024x514, .f32⟩
  | .hbm, ⟨39, _⟩ => ⟨S_, .f32⟩
  | .hbm, ⟨40, _⟩ => ⟨S1x1024x514, .f32⟩
  | .hbm, ⟨41, _⟩ => ⟨S1x1024x514, .f32⟩
  | .hbm, ⟨42, _⟩ => ⟨S1x514x1024, .f32⟩
  | .hbm, ⟨43, _⟩ => ⟨S1x514x1024, .f32⟩
  | .hbm, ⟨44, _⟩ => ⟨S1x514x1024, .f32⟩
  | .hbm, ⟨45, _⟩ => ⟨S1x514x1024, .f32⟩
  | _, _ => ⟨S8x514x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel23.lean ====
abbrev S8x192x1024 : Shape := ⟨3, ![8, 192, 1024]⟩
abbrev S1x1024x192 : Shape := ⟨3, ![1, 1024, 192]⟩
abbrev S1x192x1024 : Shape := ⟨3, ![1, 192, 1024]⟩
abbrev S192x1024 : Shape := ⟨2, ![192, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x192x1024, .bf16⟩
  | .hbm, ⟨1, _⟩ => ⟨S1x1024x192, .f32⟩
  | .hbm, ⟨2, _⟩ => ⟨S1x1024x192, .f32⟩
  | .hbm, ⟨3, _⟩ => ⟨S1x1024x192, .f32⟩
  | .hbm, ⟨4, _⟩ => ⟨S1x192x1024, .f32⟩
  | .hbm, ⟨5, _⟩ => ⟨S1x192x1024, .f32⟩
  | .hbm, ⟨6, _⟩ => ⟨S1x192x1024, .f32⟩
  | .hbm, ⟨7, _⟩ => ⟨S1x192x1024, .f32⟩
  | .hbm, ⟨8, _⟩ => ⟨S1x192x1024, .f32⟩
  | .hbm, ⟨9, _⟩ => ⟨S1x192x1024, .f32⟩
  | .hbm, ⟨10, _⟩ => ⟨S1x192x1024, .f32⟩
  | .local _ .vmem, ⟨0, _⟩ => ⟨S8x192x1024, .bf16⟩
  | .local _ .vmem, ⟨1, _⟩ => ⟨S1x192x1024, .f32⟩
  | .local _ .vmem, ⟨2, _⟩ => ⟨S1x192x1024, .f32⟩
  | .local _ .vmem, ⟨3, _⟩ => ⟨S1x192x1024, .f32⟩
  | .local _ .vmem, ⟨4, _⟩ => ⟨S1x192x1024, .f32⟩
  | .local _ .vmem, ⟨5, _⟩ => ⟨S1x192x1024, .f32⟩
  | .local _ .vmem, ⟨6, _⟩ => ⟨S1x192x1024, .f32⟩
  | .local _ .vmem, ⟨7, _⟩ => ⟨S1x192x1024, .f32⟩
  | _, _ => ⟨S8x192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x192x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x192x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x192x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x192x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x192x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x192x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel23Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference23Ideal.lean ====
abbrev S8x192x1024 : Shape := ⟨3, ![8, 192, 1024]⟩
abbrev S1x1024x192 : Shape := ⟨3, ![1, 1024, 192]⟩
abbrev S_ : Shape := ⟨0, ![]⟩
abbrev S192x1024 : Shape := ⟨2, ![192, 1024]⟩
abbrev S1024x192 : Shape := ⟨2, ![1024, 192]⟩
abbrev S1x192x1024 : Shape := ⟨3, ![1, 192, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x192x1024, .bf16⟩
  | .hbm, ⟨1, _⟩ => ⟨S1x1024x192, .f32⟩
  | .hbm, ⟨2, _⟩ => ⟨S1x1024x192, .f32⟩
  | .hbm, ⟨3, _⟩ => ⟨S1x1024x192, .f32⟩
  | .hbm, ⟨4, _⟩ => ⟨S8x192x1024, .f32⟩
  | .hbm, ⟨5, _⟩ => ⟨S_, .f32⟩
  | .hbm, ⟨6, _⟩ => ⟨S192x1024, .f32⟩
  | .hbm, ⟨7, _⟩ => ⟨S1024x192, .f32⟩
  | .hbm, ⟨8, _⟩ => ⟨S1x1024x192, .f32⟩
  | .hbm, ⟨9, _⟩ => ⟨S_, .f32⟩
  | .hbm, ⟨10, _⟩ => ⟨S1x1024x192, .f32⟩
  | .hbm, ⟨11, _⟩ => ⟨S1x1024x192, .f32⟩
  | .hbm, ⟨12, _⟩ => ⟨S_, .f32⟩
  | .hbm, ⟨13, _⟩ => ⟨S1x1024x192, .f32⟩
  | .hbm, ⟨14, _⟩ => ⟨S1x1024x192, .f32⟩
  | .hbm, ⟨15, _⟩ => ⟨S1x1024x192, .f32⟩
  | .hbm, ⟨16, _⟩ => ⟨S_, .f32⟩
  | .hbm, ⟨17, _⟩ => ⟨S1x1024x192, .f32⟩
  | .hbm, ⟨18, _⟩ => ⟨S1x1024x192, .f32⟩
  | .hbm, ⟨19, _⟩ => ⟨S1x1024x192, .f32⟩
  | .hbm, ⟨20, _⟩ => ⟨S_, .f32⟩
  | .hbm, ⟨21, _⟩ => ⟨S1x1024x192, .f32⟩
  | .hbm, ⟨22, _⟩ => ⟨S1x1024x192, .f32⟩
  | .hbm, ⟨23, _⟩ => ⟨S1x1024x192, .f32⟩
  | .hbm, ⟨24, _⟩ => ⟨S_, .f32⟩
  | .hbm, ⟨25, _⟩ => ⟨S1x1024x192, .f32⟩
  | .hbm, ⟨26, _⟩ => ⟨S1x1024x192, .f32⟩
  | .hbm, ⟨27, _⟩ => ⟨S_, .f32⟩
  | .hbm, ⟨28, _⟩ => ⟨S1x1024x192, .f32⟩
  | .hbm, ⟨29, _⟩ => ⟨S1x1024x192, .f32⟩
  | .hbm, ⟨30, _⟩ => ⟨S1x1024x192, .f32⟩
  | .hbm, ⟨31, _⟩ => ⟨S_, .f32⟩
  | .hbm, ⟨32, _⟩ => ⟨S1x1024x192, .f32⟩
  | .hbm, ⟨33, _⟩ => ⟨S1x1024x192, .f32⟩
  | .hbm, ⟨34, _⟩ => ⟨S1x1024x192, .f32⟩
  | .hbm, ⟨35, _⟩ => ⟨S_, .f32⟩
  | .hbm, ⟨36, _⟩ => ⟨S1x1024x192, .f32⟩
  | .hbm, ⟨37, _⟩ => ⟨S1x1024x192, .f32⟩
  | .hbm, ⟨38, _⟩ => ⟨S1x1024x192, .f32⟩
  | .hbm, ⟨39, _⟩ => ⟨S_, .f32⟩
  | .hbm, ⟨40, _⟩ => ⟨S1x1024x192, .f32⟩
  | .hbm, ⟨41, _⟩ => ⟨S1x1024x192, .f32⟩
  | .hbm, ⟨42, _⟩ => ⟨S1x192x1024, .f32⟩
  | .hbm, ⟨43, _⟩ => ⟨S1x192x1024, .f32⟩
  | .hbm, ⟨44, _⟩ => ⟨S1x192x1024, .f32⟩
  | .hbm, ⟨45, _⟩ => ⟨S1x192x1024, .f32⟩
  | _, _ => ⟨S8x192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel24.lean ====
abbrev S8x352x1024 : Shape := ⟨3, ![8, 352, 1024]⟩
abbrev S2x352x1024 : Shape := ⟨3, ![2, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 13
  | .vmem => 32
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .hbm, ⟨11, _⟩ => ⟨S2x352x1024, .f32⟩
  | .hbm, ⟨12, _⟩ => ⟨S2x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S8x176x1024, .bf16⟩
  | .local _ .vmem, ⟨17, _⟩ => ⟨S8x176x1024, .bf16⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | .local _ .vmem, ⟨22, _⟩ => ⟨S1x176x1024, .f32⟩
  | .local _ .vmem, ⟨23, _⟩ => ⟨S1x176x1024, .f32⟩
  | .local _ .vmem, ⟨24, _⟩ => ⟨S1x176x1024, .f32⟩
  | .local _ .vmem, ⟨25, _⟩ => ⟨S1x176x1024, .f32⟩
  | .local _ .vmem, ⟨26, _⟩ => ⟨S1x176x1024, .f32⟩
  | .local _ .vmem, ⟨27, _⟩ => ⟨S1x176x1024, .f32⟩
  | .local _ .vmem, ⟨28, _⟩ => ⟨S1x176x1024, .f32⟩
  | .local _ .vmem, ⟨29, _⟩ => ⟨S1x176x1024, .f32⟩
  | .local _ .vmem, ⟨30, _⟩ => ⟨S1x176x1024, .f32⟩
  | .local _ .vmem, ⟨31, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_8 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_9 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_10 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_11 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage1_0 : Fin 2 → Memref sig .tc .vmem S8x176x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x176x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x176x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x176x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x176x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x176x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x176x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x176x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Kernel24Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference24Ideal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S1x352x1024, .f32⟩
  | .hbm, ⟨12, _⟩ => ⟨S1x352x1024, .f32⟩
  | .hbm, ⟨13, _⟩ => ⟨S2x352x1024, .f32⟩
  | .hbm, ⟨14, _⟩ => ⟨S_, .f32⟩
  | .hbm, ⟨15, _⟩ => ⟨S2x352x1024, .f32⟩
  | .hbm, ⟨16, _⟩ => ⟨S2x352x1024, .f32⟩
  | .hbm, ⟨17, _⟩ => ⟨S_, .f32⟩
  | .hbm, ⟨18, _⟩ => ⟨S2x352x1024, .f32⟩
  | .hbm, ⟨19, _⟩ => ⟨S2x352x1024, .f32⟩
  | .hbm, ⟨20, _⟩ => ⟨S2x352x1024, .f32⟩
  | .hbm, ⟨21, _⟩ => ⟨S_, .f32⟩
  | .hbm, ⟨22, _⟩ => ⟨S2x352x1024, .f32⟩
  | .hbm, ⟨23, _⟩ => ⟨S2x352x1024, .f32⟩
  | .hbm, ⟨24, _⟩ => ⟨S2x352x1024, .f32⟩
  | .hbm, ⟨25, _⟩ => ⟨S_, .f32⟩
  | .hbm, ⟨26, _⟩ => ⟨S2x352x1024, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S_, .f32⟩
  | .hbm, ⟨33, _⟩ => ⟨S2x352x1024, .f32⟩
  | .hbm, ⟨34, _⟩ => ⟨S2x352x1024, .f32⟩
  | .hbm, ⟨35, _⟩ => ⟨S2x352x1024, .f32⟩
  | .hbm, ⟨36, _⟩ => ⟨S_, .f32⟩
  | .hbm, ⟨37, _⟩ => ⟨S2x352x1024, .f32⟩
  | .hbm, ⟨38, _⟩ => ⟨S2x352x1024, .f32⟩
  | .hbm, ⟨39, _⟩ => ⟨S2x352x1024, .f32⟩
  | .hbm, ⟨40, _⟩ => ⟨S_, .f32⟩
  | .hbm, ⟨41, _⟩ => ⟨S2x352x1024, .f32⟩
  | .hbm, ⟨42, _⟩ => ⟨S2x352x1024, .f32⟩
  | .hbm, ⟨43, _⟩ => ⟨S2x352x1024, .f32⟩
  | .hbm, ⟨44, _⟩ => ⟨S_, .f32⟩
  | .hbm, ⟨45, _⟩ => ⟨S2x352x1024, .f32⟩
  | .hbm, ⟨46, _⟩ => ⟨S2x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel25.lean ====
abbrev S8x704x1024 : Shape := ⟨3, ![8, 704, 1024]⟩
abbrev S2x1024x704 : Shape := ⟨3, ![2, 1024, 704]⟩
abbrev S2x704x1024 : Shape := ⟨3, ![2, 704, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 16
  | .vmem => 32
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S2x704x1024, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S2x704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S8x176x1024, .bf16⟩
  | .local _ .vmem, ⟨17, _⟩ => ⟨S8x176x1024, .bf16⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | .local _ .vmem, ⟨22, _⟩ => ⟨S1x176x1024, .f32⟩
  | .local _ .vmem, ⟨23, _⟩ => ⟨S1x176x1024, .f32⟩
  | .local _ .vmem, ⟨24, _⟩ => ⟨S1x176x1024, .f32⟩
  | .local _ .vmem, ⟨25, _⟩ => ⟨S1x176x1024, .f32⟩
  | .local _ .vmem, ⟨26, _⟩ => ⟨S1x176x1024, .f32⟩
  | .local _ .vmem, ⟨27, _⟩ => ⟨S1x176x1024, .f32⟩
  | .local _ .vmem, ⟨28, _⟩ => ⟨S1x176x1024, .f32⟩
  | .local _ .vmem, ⟨29, _⟩ => ⟨S1x176x1024, .f32⟩
  | .local _ .vmem, ⟨30, _⟩ => ⟨S1x176x1024, .f32⟩
  | .local _ .vmem, ⟨31, _⟩ => ⟨S1x176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_8 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_9 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_10 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_11 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage1_0 : Fin 2 → Memref sig .tc .vmem S8x176x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x176x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x176x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x176x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x176x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x176x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x176x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x176x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Kernel25Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference25Ideal.lean ====
abbrev S8x704x1024 : Shape := ⟨3, ![8, 704, 1024]⟩
abbrev S2x1024x704 : Shape := ⟨3, ![2, 1024, 704]⟩
abbrev S_ : Shape := ⟨0, ![]⟩
abbrev S704x1024 : Shape := ⟨2, ![704, 1024]⟩
abbrev S1x704x1024 : Shape := ⟨3, ![1, 704, 1024]⟩
abbrev S2x704x1024 : Shape := ⟨3, ![2, 704, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S8x704x1024, .f32⟩
  | .hbm, ⟨6, _⟩ => ⟨S_, .f32⟩
  | .hbm, ⟨7, _⟩ => ⟨S704x1024, .f32⟩
  | .hbm, ⟨8, _⟩ => ⟨S8x704x1024, .f32⟩
  | .hbm, ⟨9, _⟩ => ⟨S_, .f32⟩
  | .hbm, ⟨10, _⟩ => ⟨S704x1024, .f32⟩
  | .hbm, ⟨11, _⟩ => ⟨S1x704x1024, .f32⟩
  | .hbm, ⟨12, _⟩ => ⟨S1x704x1024, .f32⟩
  | .hbm, ⟨13, _⟩ => ⟨S2x704x1024, .f32⟩
  | .hbm, ⟨14, _⟩ => ⟨S2x1024x704, .f32⟩
  | .hbm, ⟨15, _⟩ => ⟨S_, .f32⟩
  | .hbm, ⟨16, _⟩ => ⟨S2x1024x704, .f32⟩
  | .hbm, ⟨17, _⟩ => ⟨S2x1024x704, .f32⟩
  | .hbm, ⟨18, _⟩ => ⟨S_, .f32⟩
  | .hbm, ⟨19, _⟩ => ⟨S2x1024x704, .f32⟩
  | .hbm, ⟨20, _⟩ => ⟨S2x1024x704, .f32⟩
  | .hbm, ⟨21, _⟩ => ⟨S2x1024x704, .f32⟩
  | .hbm, ⟨22, _⟩ => ⟨S_, .f32⟩
  | .hbm, ⟨23, _⟩ => ⟨S2x1024x704, .f32⟩
  | .hbm, ⟨24, _⟩ => ⟨S2x1024x704, .f32⟩
  | .hbm, ⟨25, _⟩ => ⟨S2x1024x704, .f32⟩
  | .hbm, ⟨26, _⟩ => ⟨S_, .f32⟩
  | .hbm, ⟨27, _⟩ => ⟨S2x1024x704, .f32⟩
  | .hbm, ⟨28, _⟩ => ⟨S2x1024x704, .f32⟩
  | .hbm, ⟨29, _⟩ => ⟨S2x1024x704, .f32⟩
  | .hbm, ⟨30, _⟩ => ⟨S_, .f32⟩
  | .hbm, ⟨31, _⟩ => ⟨S2x1024x704, .f32⟩
  | .hbm, ⟨32, _⟩ => ⟨S2x1024x704, .f32⟩
  | .hbm, ⟨33, _⟩ => ⟨S_, .f32⟩
  | .hbm, ⟨34, _⟩ => ⟨S2x1024x704, .f32⟩
  | .hbm, ⟨35, _⟩ => ⟨S2x1024x704, .f32⟩
  | .hbm, ⟨36, _⟩ => ⟨S2x1024x704, .f32⟩
  | .hbm, ⟨37, _⟩ => ⟨S_, .f32⟩
  | .hbm, ⟨38, _⟩ => ⟨S2x1024x704, .f32⟩
  | .hbm, ⟨39, _⟩ => ⟨S2x1024x704, .f32⟩
  | .hbm, ⟨40, _⟩ => ⟨S2x1024x704, .f32⟩
  | .hbm, ⟨41, _⟩ => ⟨S_, .f32⟩
  | .hbm, ⟨42, _⟩ => ⟨S2x1024x704, .f32⟩
  | .hbm, ⟨43, _⟩ => ⟨S2x1024x704, .f32⟩
  | .hbm, ⟨44, _⟩ => ⟨S2x1024x704, .f32⟩
  | .hbm, ⟨45, _⟩ => ⟨S_, .f32⟩
  | .hbm, ⟨46, _⟩ => ⟨S2x1024x704, .f32⟩
  | .hbm, ⟨47, _⟩ => ⟨S2x1024x704, .f32⟩
  | .hbm, ⟨48, _⟩ => ⟨S2x704x1024, .f32⟩
  | .hbm, ⟨49, _⟩ => ⟨S2x704x1024, .f32⟩
  | .hbm, ⟨50, _⟩ => ⟨S2x704x1024, .f32⟩
  | .hbm, ⟨51, _⟩ => ⟨S2x704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Kernel26.lean ====
abbrev S8x128x256 : Shape := ⟨3, ![8, 128, 256]⟩
abbrev S2x256x128 : Shape := ⟨3, ![2, 256, 128]⟩
abbrev S2x128x256 : Shape := ⟨3, ![2, 128, 256]⟩
abbrev S1x128x256 : Shape := ⟨3, ![1, 128, 256]⟩
abbrev S128x256 : Shape := ⟨2, ![128, 256]⟩

abbrev nBuf : Space → Nat
  | .hbm => 16
  | .vmem => 16
  | .smem => 0
  | _ => 0

abbrev bufTy : (tb : Table) → Fin (tcTables nBuf tb) → BufTy
  | .hbm, ⟨0, _⟩ => ⟨S8x128x256, .bf16⟩
  | .hbm, ⟨1, _⟩ => ⟨S8x128x256, .bf16⟩
  | .hbm, ⟨2, _⟩ => ⟨S2x256x128, .f32⟩
  | .hbm, ⟨3, _⟩ => ⟨S2x256x128, .f32⟩
  | .hbm, ⟨4, _⟩ => ⟨S2x256x128, .f32⟩
  | .hbm, ⟨5, _⟩ => ⟨S2x128x256, .f32⟩
  | .hbm, ⟨6, _⟩ => ⟨S2x128x256, .f32⟩
  | .hbm, ⟨7, _⟩ => ⟨S2x128x256, .f32⟩
  | .hbm, ⟨8, _⟩ => ⟨S2x128x256, .f32⟩
  | .hbm, ⟨9, _⟩ => ⟨S2x128x256, .f32⟩
  | .hbm, ⟨10, _⟩ => ⟨S2x128x256, .f32⟩
  | .hbm, ⟨11, _⟩ => ⟨S2x128x256, .f32⟩
  | .hbm, ⟨12, _⟩ => ⟨S2x128x256, .f32⟩
  | .hbm, ⟨13, _⟩ => ⟨S2x128x256, .f32⟩
  | .hbm, ⟨14, _⟩ => ⟨S2x128x256, .f32⟩
  | .hbm, ⟨15, _⟩ => ⟨S2x128x256, .f32⟩
  | .local _ .vmem, ⟨0, _⟩ => ⟨S8x128x256, .bf16⟩
  | .local _ .vmem, ⟨1, _⟩ => ⟨S1x128x256, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S8x128x256, .bf16⟩
  | .local _ .vmem, ⟨9, _⟩ => ⟨S1x128x256, .f32⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .vmem, ⟨14, _⟩ => ⟨S1x128x256, .f32⟩
  | .local _ .vmem, ⟨15, _⟩ => ⟨S1x128x256, .f32⟩
  | _, _ => ⟨S8x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_8 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_9 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_10 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_11 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage1_0 : Fin 1 → Memref sig .tc .vmem S8x128x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x128x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x128x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== Kernel26Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference26Ideal.lean ====
abbrev S8x128x256 : Shape := ⟨3, ![8, 128, 256]⟩
abbrev S2x256x128 : Shape := ⟨3, ![2, 256, 128]⟩
abbrev S_ : Shape := ⟨0, ![]⟩
abbrev S128x256 : Shape := ⟨2, ![128, 256]⟩
abbrev S1x128x256 : Shape := ⟨3, ![1, 128, 256]⟩
abbrev S2x128x256 : Shape := ⟨3, ![2, 128, 256]⟩

abbrev nBuf : Space → Nat
  | .hbm => 52
  | .vmem => 0
  | .smem => 0
  | _ => 0

abbrev bufTy : (tb : Table) → Fin (tcTables nBuf tb) → BufTy
  | .hbm, ⟨0, _⟩ => ⟨S8x128x256, .bf16⟩
  | .hbm, ⟨1, _⟩ => ⟨S8x128x256, .bf16⟩
  | .hbm, ⟨2, _⟩ => ⟨S2x256x128, .f32⟩
  | .hbm, ⟨3, _⟩ => ⟨S2x256x128, .f32⟩
  | .hbm, ⟨4, _⟩ => ⟨S2x256x128, .f32⟩
  | .hbm, ⟨5, _⟩ => ⟨S8x128x256, .f32⟩
  | .hbm, ⟨6, _⟩ => ⟨S_, .f32⟩
  | .hbm, ⟨7, _⟩ => ⟨S128x256, .f32⟩
  | .hbm, ⟨8, _⟩ => ⟨S8x128x256, .f32⟩
  | .hbm, ⟨9, _⟩ => ⟨S_, .f32⟩
  | .hbm, ⟨10, _⟩ => ⟨S128x256, .f32⟩
  | .hbm, ⟨11, _⟩ => ⟨S1x128x256, .f32⟩
  | .hbm, ⟨12, _⟩ => ⟨S1x128x256, .f32⟩
  | .hbm, ⟨13, _⟩ => ⟨S2x128x256, .f32⟩
  | .hbm, ⟨14, _⟩ => ⟨S2x256x128, .f32⟩
  | .hbm, ⟨15, _⟩ => ⟨S_, .f32⟩
  | .hbm, ⟨16, _⟩ => ⟨S2x256x128, .f32⟩
  | .hbm, ⟨17, _⟩ => ⟨S2x256x128, .f32⟩
  | .hbm, ⟨18, _⟩ => ⟨S_, .f32⟩
  | .hbm, ⟨19, _⟩ => ⟨S2x256x128, .f32⟩
  | .hbm, ⟨20, _⟩ => ⟨S2x256x128, .f32⟩
  | .hbm, ⟨21, _⟩ => ⟨S2x256x128, .f32⟩
  | .hbm, ⟨22, _⟩ => ⟨S_, .f32⟩
  | .hbm, ⟨23, _⟩ => ⟨S2x256x128, .f32⟩
  | .hbm, ⟨24, _⟩ => ⟨S2x256x128, .f32⟩
  | .hbm, ⟨25, _⟩ => ⟨S2x256x128, .f32⟩
  | .hbm, ⟨26, _⟩ => ⟨S_, .f32⟩
  | .hbm, ⟨27, _⟩ => ⟨S2x256x128, .f32⟩
  | .hbm, ⟨28, _⟩ => ⟨S2x256x128, .f32⟩
  | .hbm, ⟨29, _⟩ => ⟨S2x256x128, .f32⟩
  | .hbm, ⟨30, _⟩ => ⟨S_, .f32⟩
  | .hbm, ⟨31, _⟩ => ⟨S2x256x128, .f32⟩
  | .hbm, ⟨32, _⟩ => ⟨S2x256x128, .f32⟩
  | .hbm, ⟨33, _⟩ => ⟨S_, .f32⟩
  | .hbm, ⟨34, _⟩ => ⟨S2x256x128, .f32⟩
  | .hbm, ⟨35, _⟩ => ⟨S2x256x128, .f32⟩
  | .hbm, ⟨36, _⟩ => ⟨S2x256x128, .f32⟩
  | .hbm, ⟨37, _⟩ => ⟨S_, .f32⟩
  | .hbm, ⟨38, _⟩ => ⟨S2x256x128, .f32⟩
  | .hbm, ⟨39, _⟩ => ⟨S2x256x128, .f32⟩
  | .hbm, ⟨40, _⟩ => ⟨S2x256x128, .f32⟩
  | .hbm, ⟨41, _⟩ => ⟨S_, .f32⟩
  | .hbm, ⟨42, _⟩ => ⟨S2x256x128, .f32⟩
  | .hbm, ⟨43, _⟩ => ⟨S2x256x128, .f32⟩
  | .hbm, ⟨44, _⟩ => ⟨S2x256x128, .f32⟩
  | .hbm, ⟨45, _⟩ => ⟨S_, .f32⟩
  | .hbm, ⟨46, _⟩ => ⟨S2x256x128, .f32⟩
  | .hbm, ⟨47, _⟩ => ⟨S2x256x128, .f32⟩
  | .hbm, ⟨48, _⟩ => ⟨S2x128x256, .f32⟩
  | .hbm, ⟨49, _⟩ => ⟨S2x128x256, .f32⟩
  | .hbm, ⟨50, _⟩ => ⟨S2x128x256, .f32⟩
  | .hbm, ⟨51, _⟩ => ⟨S2x128x256, .f32⟩
  | _, _ => ⟨S8x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Kernel27.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 13
  | .vmem => 16
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .hbm, ⟨12, _⟩ => ⟨S2x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S8x128x1024, .bf16⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_8 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_9 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_10 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_11 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage1_0 : Fin 1 → Memref sig .tc .vmem S8x128x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x128x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x128x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x128x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x128x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x128x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== Kernel27Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference27Ideal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel28.lean ====
abbrev S8x64x128 : Shape := ⟨3, ![8, 64, 128]⟩
abbrev S64x128 : Shape := ⟨2, ![64, 128]⟩
abbrev S1x64x128 : Shape := ⟨3, ![1, 64, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x64x128, .f32⟩
  | .hbm, ⟨1, _⟩ => ⟨S64x128, .f32⟩
  | .local _ .vmem, ⟨0, _⟩ => ⟨S8x64x128, .f32⟩
  | .local _ .vmem, ⟨1, _⟩ => ⟨S64x128, .f32⟩
  | _, _ => ⟨S8x64x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference28Ideal.lean ====
abbrev S8x64x128 : Shape := ⟨3, ![8, 64, 128]⟩
abbrev S_ : Shape := ⟨0, ![]⟩
abbrev S64x128 : Shape := ⟨2, ![64, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x64x128, .f32⟩
  | .hbm, ⟨1, _⟩ => ⟨S_, .f32⟩
  | .hbm, ⟨2, _⟩ => ⟨S64x128, .f32⟩
  | _, _ => ⟨S8x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel29.lean ====
abbrev S64x128 : Shape := ⟨2, ![64, 128]⟩

abbrev nBuf : Space → Nat
  | .hbm => 7
  | .vmem => 7
  | .smem => 0
  | _ => 0

abbrev bufTy : (tb : Table) → Fin (tcTables nBuf tb) → BufTy
  | .hbm, ⟨0, _⟩ => ⟨S64x128, .f32⟩
  | .hbm, ⟨1, _⟩ => ⟨S64x128, .f32⟩
  | .hbm, ⟨2, _⟩ => ⟨S64x128, .f32⟩
  | .hbm, ⟨3, _⟩ => ⟨S64x128, .f32⟩
  | .hbm, ⟨4, _⟩ => ⟨S64x128, .f32⟩
  | .hbm, ⟨5, _⟩ => ⟨S64x128, .f32⟩
  | .hbm, ⟨6, _⟩ => ⟨S64x128, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel29Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference29Ideal.lean ====
abbrev S64x128 : Shape := ⟨2, ![64, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S64x128, .f32⟩
  | .hbm, ⟨2, _⟩ => ⟨S64x128, .f32⟩
  | .hbm, ⟨3, _⟩ => ⟨S64x128, .f32⟩
  | .hbm, ⟨4, _⟩ => ⟨S_, .f32⟩
  | .hbm, ⟨5, _⟩ => ⟨S64x128, .f32⟩
  | .hbm, ⟨6, _⟩ => ⟨S64x128, .f32⟩
  | .hbm, ⟨7, _⟩ => ⟨S_, .f32⟩
  | .hbm, ⟨8, _⟩ => ⟨S64x128, .f32⟩
  | .hbm, ⟨9, _⟩ => ⟨S64x128, .f32⟩
  | .hbm, ⟨10, _⟩ => ⟨S64x128, .f32⟩
  | .hbm, ⟨11, _⟩ => ⟨S_, .f32⟩
  | .hbm, ⟨12, _⟩ => ⟨S64x128, .f32⟩
  | .hbm, ⟨13, _⟩ => ⟨S64x128, .f32⟩
  | .hbm, ⟨14, _⟩ => ⟨S64x128, .f32⟩
  | .hbm, ⟨15, _⟩ => ⟨S_, .f32⟩
  | .hbm, ⟨16, _⟩ => ⟨S64x128, .f32⟩
  | .hbm, ⟨17, _⟩ => ⟨S64x128, .f32⟩
  | .hbm, ⟨18, _⟩ => ⟨S64x128, .f32⟩
  | .hbm, ⟨19, _⟩ => ⟨S_, .f32⟩
  | .hbm, ⟨20, _⟩ => ⟨S64x128, .f32⟩
  | .hbm, ⟨21, _⟩ => ⟨S64x128, .f32⟩
  | .hbm, ⟨22, _⟩ => ⟨S_, .f32⟩
  | .hbm, ⟨23, _⟩ => ⟨S64x128, .f32⟩
  | .hbm, ⟨24, _⟩ => ⟨S64x128, .f32⟩
  | .hbm, ⟨25, _⟩ => ⟨S64x128, .f32⟩
  | .hbm, ⟨26, _⟩ => ⟨S_, .f32⟩
  | .hbm, ⟨27, _⟩ => ⟨S64x128, .f32⟩
  | .hbm, ⟨28, _⟩ => ⟨S64x128, .f32⟩
  | .hbm, ⟨29, _⟩ => ⟨S64x128, .f32⟩
  | .hbm, ⟨30, _⟩ => ⟨S_, .f32⟩
  | .hbm, ⟨31, _⟩ => ⟨S64x128, .f32⟩
  | .hbm, ⟨32, _⟩ => ⟨S64x128, .f32⟩
  | .hbm, ⟨33, _⟩ => ⟨S64x128, .f32⟩
  | .hbm, ⟨34, _⟩ => ⟨S_, .f32⟩
  | .hbm, ⟨35, _⟩ => ⟨S64x128, .f32⟩
  | .hbm, ⟨36, _⟩ => ⟨S64x128, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S8x48x128 : Shape := ⟨3, ![8, 48, 128]⟩
abbrev S48x128 : Shape := ⟨2, ![48, 128]⟩
abbrev S1x48x128 : Shape := ⟨3, ![1, 48, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x48x128, .f32⟩
  | .hbm, ⟨1, _⟩ => ⟨S48x128, .f32⟩
  | .local _ .vmem, ⟨0, _⟩ => ⟨S8x48x128, .f32⟩
  | .local _ .vmem, ⟨1, _⟩ => ⟨S48x128, .f32⟩
  | _, _ => ⟨S8x48x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x48x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S48x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference30Ideal.lean ====
abbrev S8x48x128 : Shape := ⟨3, ![8, 48, 128]⟩
abbrev S_ : Shape := ⟨0, ![]⟩
abbrev S48x128 : Shape := ⟨2, ![48, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x48x128, .f32⟩
  | .hbm, ⟨1, _⟩ => ⟨S_, .f32⟩
  | .hbm, ⟨2, _⟩ => ⟨S48x128, .f32⟩
  | _, _ => ⟨S8x48x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel31.lean ====
abbrev S48x128 : Shape := ⟨2, ![48, 128]⟩

abbrev nBuf : Space → Nat
  | .hbm => 7
  | .vmem => 7
  | .smem => 0
  | _ => 0

abbrev bufTy : (tb : Table) → Fin (tcTables nBuf tb) → BufTy
  | .hbm, ⟨0, _⟩ => ⟨S48x128, .f32⟩
  | .hbm, ⟨1, _⟩ => ⟨S48x128, .f32⟩
  | .hbm, ⟨2, _⟩ => ⟨S48x128, .f32⟩
  | .hbm, ⟨3, _⟩ => ⟨S48x128, .f32⟩
  | .hbm, ⟨4, _⟩ => ⟨S48x128, .f32⟩
  | .hbm, ⟨5, _⟩ => ⟨S48x128, .f32⟩
  | .hbm, ⟨6, _⟩ => ⟨S48x128, .f32⟩
  | .local _ .vmem, ⟨0, _⟩ => ⟨S48x128, .f32⟩
  | .local _ .vmem, ⟨1, _⟩ => ⟨S48x128, .f32⟩
  | .local _ .vmem, ⟨2, _⟩ => ⟨S48x128, .f32⟩
  | .local _ .vmem, ⟨3, _⟩ => ⟨S48x128, .f32⟩
  | .local _ .vmem, ⟨4, _⟩ => ⟨S48x128, .f32⟩
  | .local _ .vmem, ⟨5, _⟩ => ⟨S48x128, .f32⟩
  | .local _ .vmem, ⟨6, _⟩ => ⟨S48x128, .f32⟩
  | _, _ => ⟨S48x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S48x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S48x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S48x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S48x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S48x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S48x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S48x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel31Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference31Ideal.lean ====
abbrev S48x128 : Shape := ⟨2, ![48, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S48x128, .f32⟩
  | .hbm, ⟨1, _⟩ => ⟨S48x128, .f32⟩
  | .hbm, ⟨2, _⟩ => ⟨S48x128, .f32⟩
  | .hbm, ⟨3, _⟩ => ⟨S48x128, .f32⟩
  | .hbm, ⟨4, _⟩ => ⟨S_, .f32⟩
  | .hbm, ⟨5, _⟩ => ⟨S48x128, .f32⟩
  | .hbm, ⟨6, _⟩ => ⟨S48x128, .f32⟩
  | .hbm, ⟨7, _⟩ => ⟨S_, .f32⟩
  | .hbm, ⟨8, _⟩ => ⟨S48x128, .f32⟩
  | .hbm, ⟨9, _⟩ => ⟨S48x128, .f32⟩
  | .hbm, ⟨10, _⟩ => ⟨S48x128, .f32⟩
  | .hbm, ⟨11, _⟩ => ⟨S_, .f32⟩
  | .hbm, ⟨12, _⟩ => ⟨S48x128, .f32⟩
  | .hbm, ⟨13, _⟩ => ⟨S48x128, .f32⟩
  | .hbm, ⟨14, _⟩ => ⟨S48x128, .f32⟩
  | .hbm, ⟨15, _⟩ => ⟨S_, .f32⟩
  | .hbm, ⟨16, _⟩ => ⟨S48x128, .f32⟩
  | .hbm, ⟨17, _⟩ => ⟨S48x128, .f32⟩
  | .hbm, ⟨18, _⟩ => ⟨S48x128, .f32⟩
  | .hbm, ⟨19, _⟩ => ⟨S_, .f32⟩
  | .hbm, ⟨20, _⟩ => ⟨S48x128, .f32⟩
  | .hbm, ⟨21, _⟩ => ⟨S48x128, .f32⟩
  | .hbm, ⟨22, _⟩ => ⟨S_, .f32⟩
  | .hbm, ⟨23, _⟩ => ⟨S48x128, .f32⟩
  | .hbm, ⟨24, _⟩ => ⟨S48x128, .f32⟩
  | .hbm, ⟨25, _⟩ => ⟨S48x128, .f32⟩
  | .hbm, ⟨26, _⟩ => ⟨S_, .f32⟩
  | .hbm, ⟨27, _⟩ => ⟨S48x128, .f32⟩
  | .hbm, ⟨28, _⟩ => ⟨S48x128, .f32⟩
  | .hbm, ⟨29, _⟩ => ⟨S48x128, .f32⟩
  | .hbm, ⟨30, _⟩ => ⟨S_, .f32⟩
  | .hbm, ⟨31, _⟩ => ⟨S48x128, .f32⟩
  | .hbm, ⟨32, _⟩ => ⟨S48x128, .f32⟩
  | .hbm, ⟨33, _⟩ => ⟨S48x128, .f32⟩
  | .hbm, ⟨34, _⟩ => ⟨S_, .f32⟩
  | .hbm, ⟨35, _⟩ => ⟨S48x128, .f32⟩
  | .hbm, ⟨36, _⟩ => ⟨S48x128, .f32⟩
  | _, _ => ⟨S48x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel32.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩

abbrev nBuf : Space → Nat
  | .hbm => 9
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S1x128, .f32⟩
  | .hbm, ⟨5, _⟩ => ⟨S4096x1024, .f32⟩
  | .hbm, ⟨6, _⟩ => ⟨S1x1024, .f32⟩
  | .hbm, ⟨7, _⟩ => ⟨S1x1, .f32⟩
  | .hbm, ⟨8, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let v47 : BitVec 32 := Scalar.extui v46
  let c0_i32_18 : BitVec 32 := 0#32
  let v48 : BitVec 1 := Scalar.cmpi .ne v47 c0_i32_18
  v48

def k0_cond2 (i : grid0.Coords) : BitVec 1 :=
  let arg0 : BitVec 32 := BitVec.ofNat 32 (i 0).val
  let c0_i32_19 : BitVec 32 := 0#32
  let v49 : BitVec 1 := Scalar.cmpi .sgt arg0 c0_i32_19
  let v50 : BitVec 32 := Scalar.extui v49
  let c0_i32_20 : BitVec 32 := 0#32
  let v51 : BitVec 1 := Scalar.cmpi .ne v50 c0_i32_20
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference32Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Kernel33.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference33Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel34.lean ====
abbrev S4096x1024 : Shape := ⟨2, ![4096, 1024]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference34Ideal.lean ====
abbrev S4096x1024 : Shape := ⟨2, ![4096, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Rms.lean ====
/- The arithmetic of the gradient of a root-mean-square norm, one row of 1024 at a time, over the extended reals: what the
   kernel's epilogue computes from a row of the product (`rowDh`) and what the chain rule of `h * rsqrt (mean (h * h) + eps) * w`
   spells (`refDh`) are the same number, for every row, infinite entries included. -/
module

public import Idealize.ShloMosaic.PureOps.Ideal
public import Idealize.ShloMosaic.PureOps.Ideal.Laws
public import Idealize.ShloMosaic.Lib.Pointwise
public import Mathlib.Algebra.BigOperators.Fin

@[expose] public section

noncomputable section

namespace Cert.Rms

open Idealize.ShloMosaic

/-- The constants: the row's length, its reciprocal, the norm's epsilon and the factor minus one half. -/
theorem c1024 : Ideal.ofBits .f32 0x44800000#32 = ((1024 : ℝ) : EReal) := by
  simp [Ideal.ofBits, Ideal.ieee, -EReal.coe_mul]; norm_num

theorem cInv : Ideal.ofBits .f32 0x3A800000#32 = ((1 / 1024 : ℝ) : EReal) := by
  simp [Ideal.ofBits, Ideal.ieee, -EReal.coe_mul]; norm_num

theorem cHalf : Ideal.ofBits .f32 0xBF000000#32 = ((-(1 / 2) : ℝ) : EReal) := by
  simp [Ideal.ofBits, Ideal.ieee, -EReal.coe_mul]; norm_num

theorem cEps : ∃ e : ℝ, 0 < e ∧ Ideal.ofBits .f32 0x358637BD#32 = (e : EReal) := by
  refine ⟨_, ?_, by simp [Ideal.ofBits, Ideal.ieee, -EReal.coe_mul]; rfl⟩
  norm_num

/-- The mean square of a row plus the epsilon. -/
def meanSq (h : Fin 1024 → EReal) : EReal :=
  Ideal.div (∑ x, h x * h x) (Ideal.ofBits .f32 0x44800000#32) + Ideal.ofBits .f32 0x358637BD#32

/-- The reciprocal of a row's root mean square. -/
def inv (h : Fin 1024 → EReal) : EReal := Ideal.rsqrt (meanSq h)

/-- What the kernel adds up at place `j` of a row: `g` the row of the product, `h` the norm's input, `w` its weight, `s` the gradient
    that goes round the block. -/
def rowDh (g h w : Fin 1024 → EReal) (s : EReal) (j : Fin 1024) : EReal :=
  inv h * (g j * w j - h j * inv h * ((∑ x, g x * w x * h x) * inv h * Ideal.ofBits .f32 0x3A800000#32)) + s

/-- The part of the gradient that comes through the mean square. -/
def refC (g h w : Fin 1024 → EReal) : EReal :=
  Ideal.div ((∑ x, h x * (g x * w x)) * (Ideal.ofBits .f32 0xBF000000#32 * Ideal.div (inv h) (meanSq h))) (Ideal.ofBits .f32 0x44800000#32)

/-- The chain rule's sum at place `j` of a row. -/
def refDh (g h w : Fin 1024 → EReal) (s : EReal) (j : Fin 1024) : EReal :=
  s + g j * w j * inv h + h j * refC g h w + refC g h w * h j

theorem mul_self_nonneg (x : EReal) : 0 ≤ x * x := by
  induction x with
  | bot => simp
  | top => simp
  | coe r => exact_mod_cast _root_.mul_self_nonneg r

theorem add_self (x : EReal) : x + x = ((2 : ℝ) : EReal) * x := by
  induction x with
  | bot => rw [EReal.coe_mul_bot_of_pos (by norm_num)]; rfl
  | top => rw [EReal.coe_mul_top_of_pos (by norm_num)]; rfl
  | coe r => rw [← EReal.coe_add, ← EReal.coe_mul]; congr 1; ring

/-- Some entry of the row is infinite, or the row is a row of reals. -/
theorem real_or_top (h : Fin 1024 → EReal) : (∑ x, h x * h x = ⊤) ∨ ∃ r : Fin 1024 → ℝ, ∀ x, h x = r x := by
  by_cases hr : ∃ x, h x = ⊤ ∨ h x = ⊥
  · left
    obtain ⟨x, hx⟩ := hr
    have h1 : h x * h x = ⊤ := by rcases hx with e | e <;> rw [e] <;> simp
    refine top_le_iff.mp (h1 ▸ Finset.single_le_sum (f := fun x => h x * h x) (fun i _ => mul_self_nonneg (h i)) (Finset.mem_univ x))
  · right
    push Not at hr
    exact ⟨fun x => (h x).toReal, fun x => (EReal.coe_toReal (hr x).1 (hr x).2).symm⟩

theorem coe_sum (r : Fin 1024 → ℝ) : (∑ x, (r x : EReal) * (r x : EReal)) = ((∑ x, r x * r x : ℝ) : EReal) := by
  induction (Finset.univ : Finset (Fin 1024)) using Finset.induction_on with
  | empty => simp
  | insert a t ha ih => rw [Finset.sum_insert ha, Finset.sum_insert ha, ih, EReal.coe_add, EReal.coe_mul]

theorem rowDh_eq (g h w : Fin 1024 → EReal) (s : EReal) (j : Fin 1024) : rowDh g h w s j = refDh g h w s j := by
  have hS : (∑ x, h x * (g x * w x)) = ∑ x, g x * w x * h x := Finset.sum_congr rfl fun x _ => mul_comm _ _
  obtain ⟨e, he, hE⟩ := cEps
  unfold rowDh refDh refC
  rw [hS]
  generalize (∑ x, g x * w x * h x) = S
  generalize g j * w j = a
  rcases real_or_top h with ht | ⟨r, hr⟩
  · have hm : meanSq h = ⊤ := by
      unfold meanSq
      rw [ht, c1024, hE, Ideal.div_coe (by norm_num), EReal.top_mul_coe_of_pos (by norm_num)]; rfl
    have hi : inv h = 0 := by unfold inv; rw [hm]; rfl
    have hd : Ideal.div 0 ⊤ = 0 := by simp [Ideal.div]
    have hd2 : Ideal.div 0 ((1024 : ℝ) : EReal) = 0 := by rw [Ideal.div_coe (by norm_num), zero_mul]
    rw [hi, hm, hd, c1024]
    simp only [mul_zero, zero_mul, hd2, add_zero, zero_add]
  · have hsq : (∑ x, h x * h x) = ((∑ x, r x * r x : ℝ) : EReal) := by
      rw [← coe_sum]; exact Finset.sum_congr rfl fun x _ => by rw [hr]
    have hq : 0 ≤ ∑ x, r x * r x := Finset.sum_nonneg fun x _ => _root_.mul_self_nonneg (r x)
    generalize (∑ x, r x * r x : ℝ) = q at hsq hq
    have hm : meanSq h = ((q * (1 / 1024) + e : ℝ) : EReal) := by
      unfold meanSq
      rw [hsq, c1024, hE, Ideal.div_coe (by norm_num), ← EReal.coe_mul, ← EReal.coe_add]
    have hv : 0 < q * (1 / 1024) + e := by positivity
    generalize q * (1 / 1024) + e = v at hm hv
    have hi : inv h = (((Real.sqrt v)⁻¹ : ℝ) : EReal) := by
      unfold inv; rw [hm, Ideal.rsqrt_coe, if_neg (not_lt.mpr hv.le), if_neg hv.ne']
    have hρ : 0 < (Real.sqrt v)⁻¹ := inv_pos.mpr (Real.sqrt_pos.mpr hv)
    have hρ2 : 1 / v = (Real.sqrt v)⁻¹ * (Real.sqrt v)⁻¹ := by
      rw [← mul_inv, Real.mul_self_sqrt hv.le, one_div]
    rw [hi, hm, hr j, c1024, cInv, cHalf]
    rw [Ideal.div_coe hv.ne', Ideal.div_coe (by norm_num : (1024 : ℝ) ≠ 0), hρ2]
    generalize (Real.sqrt v)⁻¹ = ρ at hρ
    generalize r j = y
    have e1 : (ρ : EReal) * (a - (y : EReal) * ρ * (S * ρ * ((1 / 1024 : ℝ) : EReal)))
        = a * ρ + ((-(ρ * y * ρ * ρ * (1 / 1024)) : ℝ) : EReal) * S := by
      rw [sub_eq_add_neg, EReal.left_distrib_of_nonneg_of_ne_top (by exact_mod_cast hρ.le) (EReal.coe_ne_top ρ), mul_comm (ρ : EReal) a]
      congr 1
      rw [mul_neg, EReal.coe_neg, neg_mul]
      simp only [EReal.coe_mul]
      congr 1
      ac_rfl
    have e2 : (y : EReal) * (S * (((-(1 / 2) : ℝ) : EReal) * ((ρ : EReal) * ((ρ * ρ : ℝ) : EReal))) * ((1 / 1024 : ℝ) : EReal))
        = ((-(1 / 2) * (ρ * y * ρ * ρ * (1 / 1024)) : ℝ) : EReal) * S := by
      simp only [EReal.coe_mul]
      ac_rfl
    rw [e1, mul_comm _ (y : EReal), e2, add_assoc (s + a * ρ), add_self, ← mul_assoc, ← EReal.coe_mul]
    rw [show (2 * (-(1 / 2) * (ρ * y * ρ * ρ * (1 / 1024))) : ℝ) = -(ρ * y * ρ * ρ * (1 / 1024)) by ring]
    rw [add_assoc, add_assoc, add_comm _ s, add_left_comm]

/-- A row of a matrix of `1024` columns. -/
abbrev row {n : ℕ} (X : (⟨2, ![n, 1024]⟩ : Shape).Idx → EReal) (i : Fin n) : Fin 1024 → EReal := fun x => X (ix2 i x)

/-- An entry of the product of two stacks of two, the stacked axis contracted too. -/
def stackProd {M K N : ℕ} (a : (⟨3, ![2, M, K]⟩ : Shape).Idx → EReal) (b : (⟨3, ![2, K, N]⟩ : Shape).Idx → EReal) (i : Fin M) (x : Fin N) : EReal :=
  (∑ k : Fin K, a (ix3 0 i k) * b (ix3 0 k x)) + ∑ k : Fin K, a (ix3 1 i k) * b (ix3 1 k x)

/-- The gradient of the norm's input, of rows `h` with norm weight `w`, from the gradient `G` of its output and what
    the residual path brings. -/
def dhOf {n : ℕ} (G : Fin n → Fin 1024 → EReal) (h s : (⟨2, ![n, 1024]⟩ : Shape).Idx → EReal) (w : Fin 1024 → EReal) :
    (⟨2, ![n, 1024]⟩ : Shape).Idx → EReal :=
  fun z => rowDh (G (z 0)) (row h (z 0)) w (s z) (z 1)

/-- The gradient of the norm's weight. -/
def dwOf {n : ℕ} (G : Fin n → Fin 1024 → EReal) (h : (⟨2, ![n, 1024]⟩ : Shape).Idx → EReal) : (⟨2, ![1, 1024]⟩ : Shape).Idx → EReal :=
  fun z => ∑ r : Fin n, G r (z 1) * (h (ix2 r (z 1)) * inv (row h r))

end Cert.Rms

end
-- ==== Proof.UpValue.lean ====
module

public import proofs.«01_k».proof.Proof.Gen.KernelIdeal.Value
public import proofs.«01_k».proof.Proof.Rms
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Up

open Cert.KernelIdeal Cert.KernelIdeal.Gen Idealize.ShloMosaic Idealize.ShloMosaic.TcCoe Idealize.SL.Sem

variable (m : (ℓ : Loc nD τ sig) → Buf (Elt Ideal) ℓ) (c : Dev nD)

theorem scratch_A (t : Fin cfg0.N) (h0 : t.val % 2 = 0) (h1 : ¬t.val % 2 = 1) :
    (outsAt0 m c t.val t.isLt).2.2 = k0_pay2 (iblk m c 0 t) (iblk m c 1 t) := by
  rw [outsAt0_A m c t h0 h1 h1]
  frame_out

theorem scratch_B (t : Fin cfg0.N) (h0 : ¬t.val % 2 = 0) (h1 : t.val % 2 = 1) (h3 : t.val < 2) (h4 : ¬2 ≤ t.val) :
    (outsAt0 m c t.val t.isLt).2.2 = k0_pay3 (iblk m c 0 t) (iblk m c 1 t) (outsAt0 m c (t.val - 1) (Nat.sub_lt_of_lt t.isLt)).2.2 := by
  rw [outsAt0_B m c t h0 h1 h1 h3 h4]
  frame_out
  rw [read_unread_whole]

theorem scratch_C (t : Fin cfg0.N) (h0 : ¬t.val % 2 = 0) (h1 : t.val % 2 = 1) (h3 : ¬t.val < 2) (h4 : 2 ≤ t.val) :
    (outsAt0 m c t.val t.isLt).2.2 = k0_pay3 (iblk m c 0 t) (iblk m c 1 t) (outsAt0 m c (t.val - 1) (Nat.sub_lt_of_lt t.isLt)).2.2 := by
  rw [outsAt0_C m c t h0 h1 h1 h3 h4]
  frame_out
  rw [read_unread_whole]

/-- The reciprocal root mean square of each of 32 rows. -/
def rstdV (h : FVec Ideal S32x1024 .f32) : FVec Ideal S32x1 .f32 :=
  rsqrt (addf (divf (shapeCast S32x1 (multiReduction .add [1] S32 (mulf h h) 0x00000000#32 reduces_S32x1024_S32 (.inl rfl) rfl) shapeCasts_S32_S32x1)
    (broadcast S32x1 (Scalar.ofBits (F := Ideal) .f32 0x44800000#32))) (broadcast S32x1 (Scalar.ofBits (F := Ideal) .f32 0x358637BD#32)))

/-- What the epilogue stores for 32 rows of the product `g`. -/
def dhV (g h : FVec Ideal S32x1024 .f32) (w : FVec Ideal S1x1024 .f32) (sk : FVec Ideal S32x1024 .f32) : FVec Ideal S32x1024 .f32 :=
  addf (mulf (broadcastTo S32x1024 (rstdV h) broadcasts_S32x1_S32x1024)
    (subf (mulf g (broadcastTo S32x1024 (shapeCast S1x1024 w shapeCasts_S1x1024_S1x1024) broadcasts_S1x1024_S32x1024))
      (mulf (mulf h (broadcastTo S32x1024 (rstdV h) broadcasts_S32x1_S32x1024))
        (broadcastTo S32x1024 (mulf (mulf (shapeCast S32x1 (multiReduction .add [1] S32
          (mulf (mulf g (broadcastTo S32x1024 (shapeCast S1x1024 w shapeCasts_S1x1024_S1x1024) broadcasts_S1x1024_S32x1024)) h)
          0x00000000#32 reduces_S32x1024_S32 (.inl rfl) rfl) shapeCasts_S32_S32x1) (rstdV h))
          (broadcast S32x1 (Scalar.ofBits (F := Ideal) .f32 0x3A800000#32))) broadcasts_S32x1_S32x1024)))) sk

/-- The norm weight's gradient from 32 more rows, over what the rows before gave. -/
def dwV (acc : FVec Ideal S1x1024 .f32) (g h : FVec Ideal S32x1024 .f32) : FVec Ideal S1x1024 .f32 :=
  addf acc (shapeCast S1x1024 (multiReduction .add [0] S1024 (mulf g (mulf h (broadcastTo S32x1024 (rstdV h) broadcasts_S32x1_S32x1024)))
    0x00000000#32 reduces_S32x1024_S1024 (.inl rfl) rfl) shapeCasts_S1024_S1x1024)

def zeroRow : FVec Ideal S1x1024 .f32 := broadcast S1x1024 (Scalar.ofBits (F := Ideal) .f32 0x00000000#32)

theorem rstdV_apply (h : FVec Ideal S32x1024 .f32) (y : S32x1.Idx) : rstdV h y = Rms.inv (Rms.row h (y 0)) := by
  unfold rstdV Rms.inv Rms.meanSq
  pointwise

theorem dhV_apply (g h : FVec Ideal S32x1024 .f32) (w : FVec Ideal S1x1024 .f32) (sk : FVec Ideal S32x1024 .f32) (y : S32x1024.Idx) :
    dhV g h w sk y = Rms.rowDh (Rms.row g (y 0)) (Rms.row h (y 0)) (Rms.row w 0) (sk y) (y 1) := by
  have e : ∀ X : FVec Ideal S32x1024 .f32, X y = X (ix2 (y 0) (y 1)) := fun X => congrArg X (eq_ix2 y)
  unfold dhV Rms.rowDh
  pointwise [rstdV_apply]
  rw [e g, e h]

theorem dwV_apply (acc : FVec Ideal S1x1024 .f32) (g h : FVec Ideal S32x1024 .f32) (y : S1x1024.Idx) :
    dwV acc g h y = acc y + ∑ r : Fin 32, g (ix2 r (y 1)) * (h (ix2 r (y 1)) * Rms.inv (Rms.row h r)) := by
  unfold dwV
  pointwise [rstdV_apply]

/-- One stored piece of the block of `dh`: its rows are rows of the block. -/
theorem piece (A H S : Vec Ideal S512x1024 .f32) (w : FVec Ideal S1x1024 .f32) (o : ℕ)
    (inb : ∀ a, (![o, 0] : Fin 2 → ℕ) a + S32x1024.size a ≤ S512x1024.size a) (y : S32x1024.Idx) (z : S512x1024.Idx)
    (h0 : (z 0 : ℕ) = o + (y 0 : ℕ)) (h1 : (z 1 : ℕ) = (y 1 : ℕ)) :
    dhV (View.ld A (Rect.unit (s := S512x1024) ![o, 0] S32x1024.size inb)) (View.ld H (Rect.unit (s := S512x1024) ![o, 0] S32x1024.size inb)) w
      (View.ld S (Rect.unit (s := S512x1024) ![o, 0] S32x1024.size inb)) y
      = Rms.rowDh (Rms.row A (z 0)) (Rms.row H (z 0)) (Rms.row w 0) (S z) (z 1) := by
  have e : ∀ (X : Vec Ideal S512x1024 .f32) (x : Fin 1024),
      View.ld X (Rect.unit (s := S512x1024) ![o, 0] S32x1024.size inb) (ix2 (y 0) x) = X (ix2 (z 0) x) := fun X x => by
    rw [View.ld_apply]
    congr 1
    funext a
    fin_cases a <;> apply Fin.ext <;> simp [h0]
  have e1 : View.ld S (Rect.unit (s := S512x1024) ![o, 0] S32x1024.size inb) y = S z := by
    have := e S (y 1)
    rw [← eq_ix2 y] at this
    rw [this]
    congr 1
    funext a
    fin_cases a <;> apply Fin.ext <;> simp [h1]
  rw [dhV_apply, e1]
  congr 1
  · exact funext (e A)
  · exact funext (e H)
  · exact Fin.ext h1.symm

theorem dh_B (t : Fin cfg0.N) (h0 : ¬t.val % 2 = 0) (h1 : t.val % 2 = 1) (h3 : t.val < 2) (h4 : ¬2 ≤ t.val) (y : S512x1024.Idx) :
    (outsAt0 m c t.val t.isLt).1 y = Rms.rowDh (Rms.row (outsAt0 m c t.val t.isLt).2.2 (y 0)) (Rms.row (iblk m c 2 t) (y 0)) (Rms.row (iblk m c 4 t) 0) (iblk m c 3 t y) (y 1) := by
  rw [scratch_B m c t h0 h1 h3 h4, outsAt0_B m c t h0 h1 h1 h3 h4]
  frame_open
  simp (disch := decide) only [↓ View.readCov_fill]
  frame_out
  rw [read_unread_whole]
  generalize hA : (k0_pay3 (F := Ideal) _ _ _) = A
  canon_tiles y h
  all_goals
    open_payloads
    exact piece A (iblk m c 2 t) (iblk m c 3 t) (iblk m c 4 t) _ _ _ _ (by omega) (by assumption)

theorem dh_C (t : Fin cfg0.N) (h0 : ¬t.val % 2 = 0) (h1 : t.val % 2 = 1) (h3 : ¬t.val < 2) (h4 : 2 ≤ t.val) (y : S512x1024.Idx) :
    (outsAt0 m c t.val t.isLt).1 y = Rms.rowDh (Rms.row (outsAt0 m c t.val t.isLt).2.2 (y 0)) (Rms.row (iblk m c 2 t) (y 0)) (Rms.row (iblk m c 4 t) 0) (iblk m c 3 t y) (y 1) := by
  rw [scratch_C m c t h0 h1 h3 h4, outsAt0_C m c t h0 h1 h1 h3 h4]
  frame_open
  simp (disch := decide) only [↓ View.readCov_fill]
  frame_out
  rw [read_unread_whole]
  generalize hA : (k0_pay3 (F := Ideal) _ _ _) = A
  canon_tiles y h
  all_goals
    open_payloads
    exact piece A (iblk m c 2 t) (iblk m c 3 t) (iblk m c 4 t) _ _ _ _ (by omega) (by assumption)

/-- The norm weight's gradient from the 512 rows of a block. -/
def dwAll (A H : Vec Ideal S512x1024 .f32) : FVec Ideal S1x1024 .f32 :=
  (dwV (dwV (dwV (dwV (dwV (dwV (dwV (dwV (dwV (dwV (dwV (dwV (dwV (dwV (dwV (dwV zeroRow
    (View.ld A (Rect.unit (s := S512x1024) ![0, 0] S32x1024.size inb_S512x1024_S32x1024_0_0))
    (View.ld H (Rect.unit (s := S512x1024) ![0, 0] S32x1024.size inb_S512x1024_S32x1024_0_0)))
    (View.ld A (Rect.unit (s := S512x1024) ![32, 0] S32x1024.size inb_S512x1024_S32x1024_32_0))
    (View.ld H (Rect.unit (s := S512x1024) ![32, 0] S32x1024.size inb_S512x1024_S32x1024_32_0)))
    (View.ld A (Rect.unit (s := S512x1024) ![64, 0] S32x1024.size inb_S512x1024_S32x1024_64_0))
    (View.ld H (Rect.unit (s := S512x1024) ![64, 0] S32x1024.size inb_S512x1024_S32x1024_64_0)))
    (View.ld A (Rect.unit (s := S512x1024) ![96, 0] S32x1024.size inb_S512x1024_S32x1024_96_0))
    (View.ld H (Rect.unit (s := S512x1024) ![96, 0] S32x1024.size inb_S512x1024_S32x1024_96_0)))
    (View.ld A (Rect.unit (s := S512x1024) ![128, 0] S32x1024.size inb_S512x1024_S32x1024_128_0))
    (View.ld H (Rect.unit (s := S512x1024) ![128, 0] S32x1024.size inb_S512x1024_S32x1024_128_0)))
    (View.ld A (Rect.unit (s := S512x1024) ![160, 0] S32x1024.size inb_S512x1024_S32x1024_160_0))
    (View.ld H (Rect.unit (s := S512x1024) ![160, 0] S32x1024.size inb_S512x1024_S32x1024_160_0)))
    (View.ld A (Rect.unit (s := S512x1024) ![192, 0] S32x1024.size inb_S512x1024_S32x1024_192_0))
    (View.ld H (Rect.unit (s := S512x1024) ![192, 0] S32x1024.size inb_S512x1024_S32x1024_192_0)))
    (View.ld A (Rect.unit (s := S512x1024) ![224, 0] S32x1024.size inb_S512x1024_S32x1024_224_0))
    (View.ld H (Rect.unit (s := S512x1024) ![224, 0] S32x1024.size inb_S512x1024_S32x1024_224_0)))
    (View.ld A (Rect.unit (s := S512x1024) ![256, 0] S32x1024.size inb_S512x1024_S32x1024_256_0))
    (View.ld H (Rect.unit (s := S512x1024) ![256, 0] S32x1024.size inb_S512x1024_S32x1024_256_0)))
    (View.ld A (Rect.unit (s := S512x1024) ![288, 0] S32x1024.size inb_S512x1024_S32x1024_288_0))
    (View.ld H (Rect.unit (s := S512x1024) ![288, 0] S32x1024.size inb_S512x1024_S32x1024_288_0)))
    (View.ld A (Rect.unit (s := S512x1024) ![320, 0] S32x1024.size inb_S512x1024_S32x1024_320_0))
    (View.ld H (Rect.unit (s := S512x1024) ![320, 0] S32x1024.size inb_S512x1024_S32x1024_320_0)))
    (View.ld A (Rect.unit (s := S512x1024) ![352, 0] S32x1024.size inb_S512x1024_S32x1024_352_0))
    (View.ld H (Rect.unit (s := S512x1024) ![352, 0] S32x1024.size inb_S512x1024_S32x1024_352_0)))
    (View.ld A (Rect.unit (s := S512x1024) ![384, 0] S32x1024.size inb_S512x1024_S32x1024_384_0))
    (View.ld H (Rect.unit (s := S512x1024) ![384, 0] S32x1024.size inb_S512x1024_S32x1024_384_0)))
    (View.ld A (Rect.unit (s := S512x1024) ![416, 0] S32x1024.size inb_S512x1024_S32x1024_416_0))
    (View.ld H (Rect.unit (s := S512x1024) ![416, 0] S32x1024.size inb_S512x1024_S32x1024_416_0)))
    (View.ld A (Rect.unit (s := S512x1024) ![448, 0] S32x1024.size inb_S512x1024_S32x1024_448_0))
    (View.ld H (Rect.unit (s := S512x1024) ![448, 0] S32x1024.size inb_S512x1024_S32x1024_448_0)))
    (View.ld A (Rect.unit (s := S512x1024) ![480, 0] S32x1024.size inb_S512x1024_S32x1024_480_0))
    (View.ld H (Rect.unit (s := S512x1024) ![480, 0] S32x1024.size inb_S512x1024_S32x1024_480_0)))

theorem dw_B (t : Fin cfg0.N) (h0 : ¬t.val % 2 = 0) (h1 : t.val % 2 = 1) (h3 : t.val < 2) (h4 : ¬2 ≤ t.val) :
    (outsAt0 m c t.val t.isLt).2.1 = dwAll (outsAt0 m c t.val t.isLt).2.2 (iblk m c 2 t) := by
  rw [scratch_B m c t h0 h1 h3 h4, outsAt0_B m c t h0 h1 h1 h3 h4]
  frame_open
  simp (disch := decide) only [↓ View.readCov_fill]
  frame_out
  rw [read_unread_whole]
  generalize hA : (k0_pay3 (F := Ideal) _ _ _) = A
  open_payloads
  rfl

theorem dw_C (t : Fin cfg0.N) (h0 : ¬t.val % 2 = 0) (h1 : t.val % 2 = 1) (h3 : ¬t.val < 2) (h4 : 2 ≤ t.val) :
    (outsAt0 m c t.val t.isLt).2.1 = k0_pay4 (dwAll (outsAt0 m c t.val t.isLt).2.2 (iblk m c 2 t)) (outsAt0 m c (t.val - 1) (Nat.sub_lt_of_lt t.isLt)).2.1 := by
  rw [scratch_C m c t h0 h1 h3 h4, outsAt0_C m c t h0 h1 h1 h3 h4]
  frame_open
  simp (disch := decide) only [↓ View.readCov_fill]
  frame_out
  rw [read_unread_whole]
  generalize hA : (k0_pay3 (F := Ideal) _ _ _) = A
  open_payloads
  rfl

theorem dw_A (t : Fin cfg0.N) (h0 : t.val % 2 = 0) (h1 : ¬t.val % 2 = 1) :
    (outsAt0 m c t.val t.isLt).2.1 = (outsAt0 m c (t.val - 1) (Nat.sub_lt_of_lt t.isLt)).2.1 := by
  rw [outsAt0_A m c t h0 h1 h1]
  dsimp only
  unfold out0_A_6
  rfl

/-- The term of the norm weight's gradient a row of a block contributes, zero beyond the block. -/
def dwTerm (A H : Vec Ideal S512x1024 .f32) (j : Fin 1024) (k : ℕ) : EReal :=
  if h : k < 512 then A (ix2 ⟨k, h⟩ j) * (H (ix2 ⟨k, h⟩ j) * Rms.inv (Rms.row H ⟨k, h⟩)) else 0

theorem dwV_chunk (A H : Vec Ideal S512x1024 .f32) (j : Fin 1024) (acc : FVec Ideal S1x1024 .f32) (o : ℕ)
    (inb : ∀ a, (![o, 0] : Fin 2 → ℕ) a + S32x1024.size a ≤ S512x1024.size a)
    (h : acc (ix2 0 j) = ∑ k ∈ Finset.range o, dwTerm A H j k) :
    dwV acc (View.ld A (Rect.unit (s := S512x1024) ![o, 0] S32x1024.size inb)) (View.ld H (Rect.unit (s := S512x1024) ![o, 0] S32x1024.size inb)) (ix2 0 j)
      = ∑ k ∈ Finset.range (o + 32), dwTerm A H j k := by
  have ho : o + 32 ≤ 512 := inb 0
  have e : ∀ (X : Vec Ideal S512x1024 .f32) (r : Fin 32) (x : Fin 1024),
      View.ld X (Rect.unit (s := S512x1024) ![o, 0] S32x1024.size inb) (ix2 r x) = X (ix2 ⟨o + r, by omega⟩ x) := fun X r x => by
    rw [View.ld_apply]
    congr 1
    funext a
    fin_cases a <;> apply Fin.ext <;> simp
  rw [dwV_apply, h, Finset.sum_range_add, ← Fin.sum_univ_eq_sum_range (fun k => dwTerm A H j (o + k)) 32]
  congr 1
  refine Finset.sum_congr rfl fun r _ => ?_
  have hr : o + (r : ℕ) < 512 := by omega
  rw [dwTerm, dif_pos hr]
  exact congrArg₂ (· * ·) (e A r j) (congrArg₂ (· * ·) (e H r j) (congrArg Rms.inv (funext (e H r))))

theorem zeroRow_apply (j : Fin 1024) : zeroRow (ix2 0 j) = 0 := by
  unfold zeroRow
  pointwise

theorem dwAll_apply (A H : Vec Ideal S512x1024 .f32) (j : Fin 1024) :
    dwAll A H (ix2 0 j) = ∑ k ∈ Finset.range 512, dwTerm A H j k := by
  unfold dwAll
  iterate 16 refine dwV_chunk A H j _ _ _ ?_
  rw [zeroRow_apply, Finset.sum_range_zero]

theorem pay4_apply (a b : FVec Ideal S1x1024 .f32) (y : S1x1024.Idx) : k0_pay4 a b y = b y + a y := by
  pointwise [k0_pay4]

/-! ### The blocks of the grid -/

theorem idx0 : ∀ t : Fin cfg0.N, win0_0.index t = ![t.val % 2, t.val / 2, 0] := (by decide +kernel : ∀ t : Fin grid0.N, _)
theorem idx1 : ∀ t : Fin cfg0.N, win0_1.index t = ![t.val % 2, 0, 0] := (by decide +kernel : ∀ t : Fin grid0.N, _)
theorem idx2 : ∀ t : Fin cfg0.N, win0_2.index t = ![t.val / 2, 0] := (by decide +kernel : ∀ t : Fin grid0.N, _)
theorem idx3 : ∀ t : Fin cfg0.N, win0_3.index t = ![t.val / 2, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val / 2, 0] := (by decide +kernel : ∀ t : Fin grid0.N, _)
theorem idx6 : ∀ t : Fin cfg0.N, win0_6.index t = ![0, 0] := (by decide +kernel : ∀ t : Fin grid0.N, _)

theorem h_apply (t : Fin cfg0.N) (i : Fin 512) (x : Fin 1024) (hi : 512 * (t.val / 2) + i < 4096) :
    iblk m c 2 t (ix2 i x) = m ⟨c, main_arg2⟩ (ix2 ⟨512 * (t.val / 2) + i, hi⟩ x) := by
  blk_point [iblk, V, idx2 t]

theorem w_apply (t : Fin cfg0.N) (x : Fin 1024) :
    iblk m c 4 t (ix2 0 x) = m ⟨c, main_arg4⟩ (ix1 x) := by
  blk_point [iblk, V, idx4 t]

theorem acc_apply (t : Fin cfg0.N) (h1 : t.val % 2 = 1) (i : Fin 512) (x : Fin 1024) (hi : 512 * (t.val / 2) + i < 4096) :
    (outsAt0 m c t.val t.isLt).2.2 (ix2 i x) = Rms.stackProd (m ⟨c, main_arg0⟩) (m ⟨c, main_arg1⟩) ⟨512 * (t.val / 2) + i, hi⟩ x := by
  have ht := t.isLt
  have hA := scratch_A m c ⟨t.val - 1, Nat.sub_lt_of_lt t.isLt⟩ (by show (t.val - 1) % 2 = 0; omega) (by show ¬(t.val - 1) % 2 = 1; omega)
  have hB : (outsAt0 m c t.val t.isLt).2.2 = k0_pay3 (iblk m c 0 t) (iblk m c 1 t) (outsAt0 m c (t.val - 1) (Nat.sub_lt_of_lt t.isLt)).2.2 := by
    by_cases h : t.val < 2
    · exact scratch_B m c t (by omega) h1 h (by omega)
    · exact scratch_C m c t (by omega) h1 h (by omega)
  dsimp only at hA
  rw [hB, hA, Rms.stackProd]
  pointwise [k0_pay3, k0_pay2, k0_pay1]
  congr 1 <;> refine Finset.sum_congr rfl fun k _ => ?_
  · congr 1
    · blk_point [iblk, V, idx0 ⟨t.val - 1, Nat.sub_lt_of_lt t.isLt⟩]
    · blk_point [iblk, V, idx1 ⟨t.val - 1, Nat.sub_lt_of_lt t.isLt⟩]
  · congr 1
    · blk_point [iblk, V, idx0 t]
    · blk_point [iblk, V, idx1 t]

/-! ### The result arrays -/

/-- What the arrays end with. -/
abbrev dG : Fin 4096 → Fin 1024 → EReal := Rms.stackProd (m ⟨c, main_arg0⟩) (m ⟨c, main_arg1⟩)

theorem dh_arr : (dats m 0 c).arrAt 5 cfg0.N = Rms.dhOf (dG m c) (m ⟨c, main_arg2⟩) (m ⟨c, main_arg3⟩) (fun x => m ⟨c, main_arg4⟩ (ix1 x)) := by
  refine (dats m 0 c).arrAt_eq_of_covers 5 _ (by decide +kernel) fun t hf y => ?_
  have h1 : t.val % 2 = 1 := (flush0_5 t).mp hf
  blk_simp
  rw [after0_5]
  have e : (outsAt0 m c t.val t.isLt).1 y = Rms.rowDh (Rms.row (outsAt0 m c t.val t.isLt).2.2 (y 0)) (Rms.row (iblk m c 2 t) (y 0)) (Rms.row (iblk m c 4 t) 0) (iblk m c 3 t y) (y 1) := by
    by_cases h : t.val < 2
    · exact dh_B m c t (by omega) h1 h (by omega) y
    · exact dh_C m c t (by omega) h1 h (by omega) y
  have ht : t.val < 16 := lt_of_lt_of_eq t.isLt N_0
  have y0 : ((y 0 : Fin _) : ℕ) < 512 := (y 0).isLt
  have hi : 512 * (t.val / 2) + ((y 0 : Fin _) : ℕ) < 4096 := by omega
  have hz : (win0_5.blk t).view.emb y = ix2 (n0 := 4096) (n1 := 1024) ⟨512 * (t.val / 2) + ((y 0 : Fin _) : ℕ), hi⟩ (y 1) := by
    blk_ext [idx5 t]
  rw [e, hz, Rms.dhOf]
  have e1 : Rms.row (outsAt0 m c t.val t.isLt).2.2 (y 0) = dG m c ⟨512 * (t.val / 2) + ((y 0 : Fin _) : ℕ), hi⟩ :=
    funext fun x => acc_apply m c t h1 (y 0) x hi
  have e2 : Rms.row (iblk m c 2 t) (y 0) = Rms.row (m ⟨c, main_arg2⟩) ⟨512 * (t.val / 2) + ((y 0 : Fin _) : ℕ), hi⟩ :=
    funext fun x => h_apply m c t (y 0) x hi
  have e4 : Rms.row (iblk m c 4 t) 0 = fun x => m ⟨c, main_arg4⟩ (ix1 x) := funext fun x => w_apply m c t x
  have e3 : iblk m c 3 t y = m ⟨c, main_arg3⟩ (ix2 (n0 := 4096) (n1 := 1024) ⟨512 * (t.val / 2) + ((y 0 : Fin _) : ℕ), hi⟩ (y 1)) := by
    blk_point [iblk, V, idx3 t]
  rw [e1, e2, e3, e4]
  rfl

/-- The contribution of one row to the norm weight's gradient. -/
def dwRow (r : Fin 4096) (j : Fin 1024) : EReal :=
  dG m c r j * (Rms.row (m ⟨c, main_arg2⟩) r j * Rms.inv (Rms.row (m ⟨c, main_arg2⟩) r))

/-- The contribution of one block of rows to the norm weight's gradient. -/
def dwBlock (j : Fin 1024) (b : ℕ) : EReal :=
  if h : b < 8 then ∑ r : Fin 512, dwRow m c ⟨b * 512 + r, by omega⟩ j else 0

theorem dwAll_at (t : Fin cfg0.N) (h1 : t.val % 2 = 1) (j : Fin 1024) :
    dwAll (outsAt0 m c t.val t.isLt).2.2 (iblk m c 2 t) (ix2 0 j) = dwBlock m c j (t.val / 2) := by
  have ht : t.val < 16 := lt_of_lt_of_eq t.isLt N_0
  have hb : t.val / 2 < 8 := by omega
  rw [dwAll_apply, dwBlock, dif_pos hb, ← Fin.sum_univ_eq_sum_range]
  refine Finset.sum_congr rfl fun r _ => ?_
  have e : ∀ x, (outsAt0 m c t.val t.isLt).2.2 (ix2 r x) = dG m c ⟨t.val / 2 * 512 + r, by omega⟩ x := fun x => by
    rw [acc_apply m c t h1 r x (by omega)]
    exact congrArg (fun i => dG m c i x) (Fin.ext (by show 512 * (t.val / 2) + (r : ℕ) = t.val / 2 * 512 + r; omega))
  have e' : ∀ x, iblk m c 2 t (ix2 r x) = m ⟨c, main_arg2⟩ (ix2 ⟨t.val / 2 * 512 + r, by omega⟩ x) := fun x => by
    rw [h_apply m c t r x (by omega)]
    exact congrArg (fun i => m ⟨c, main_arg2⟩ (ix2 i x)) (Fin.ext (by show 512 * (t.val / 2) + (r : ℕ) = t.val / 2 * 512 + r; omega))
  rw [dwTerm, dif_pos r.isLt]
  exact congrArg₂ (· * ·) (e j) (congrArg₂ (· * ·) (e' j) (congrArg Rms.inv (funext e')))

theorem dw_fold (j : Fin 1024) : ∀ (b : ℕ) (hb : 2 * b + 1 < cfg0.N),
    (outsAt0 m c (2 * b + 1) hb).2.1 (ix2 0 j) = ∑ i ∈ Finset.range (b + 1), dwBlock m c j i := by
  intro b
  induction b with
  | zero =>
    intro hb
    have hD := (dwAll_at m c ⟨1, hb⟩ rfl j).trans (congrArg (dwBlock m c j) (show 1 / 2 = 0 from rfl))
    rw [Finset.sum_range_succ, Finset.sum_range_zero, zero_add]
    exact (congrFun (dw_B m c ⟨1, hb⟩ (by show ¬1 % 2 = 0; omega) rfl (by show 1 < 2; omega) (by show ¬2 ≤ 1; omega)) _).trans hD
  | succ b ih =>
    intro hb
    have hA := dw_A m c ⟨2 * b + 2, by omega⟩ (by show (2 * b + 2) % 2 = 0; omega) (by show ¬(2 * b + 2) % 2 = 1; omega)
    have hC := dw_C m c ⟨2 * (b + 1) + 1, hb⟩ (by show ¬(2 * (b + 1) + 1) % 2 = 0; omega) (by show (2 * (b + 1) + 1) % 2 = 1; omega)
      (by show ¬2 * (b + 1) + 1 < 2; omega) (by show 2 ≤ 2 * (b + 1) + 1; omega)
    have hD := dwAll_at m c ⟨2 * (b + 1) + 1, hb⟩ (by show (2 * (b + 1) + 1) % 2 = 1; omega) j
    rw [Finset.sum_range_succ, ← ih (by omega)]
    refine (congrFun hC _).trans ((pay4_apply _ _ _).trans (congrArg₂ (· + ·) ?_ (hD.trans ?_)))
    · exact congrFun hA _
    · exact congrArg (dwBlock m c j) (by show (2 * (b + 1) + 1) / 2 = b + 1; omega)

theorem dw_arr : (dats m 0 c).arrAt 6 cfg0.N = Rms.dwOf (dG m c) (m ⟨c, main_arg2⟩) := by
  refine (dats m 0 c).arrAt_eq_of_covers 6 _ (by decide +kernel) fun t hf y => ?_
  have h1 : t.val % 16 = 15 := (flush0_6 t).mp hf
  have ht : t = ⟨2 * 7 + 1, by decide⟩ := Fin.ext (by have : t.val < 16 := lt_of_lt_of_eq t.isLt N_0; show t.val = 15; omega)
  blk_simp
  have hz : (win0_6.blk t).view.emb y = ix2 (n0 := 1) (n1 := 1024) 0 (y 1) := by
    have y0 : ((y 0 : Fin _) : ℕ) < 1 := (y 0).isLt
    blk_ext [idx6 t]
  rw [after0_6, hz, Rms.dwOf]
  subst ht
  have hy : y = ix2 (n0 := 1) (n1 := 1024) 0 (y 1) := by
    funext a
    fin_cases a
    · exact Fin.ext (Nat.lt_one_iff.mp (y 0).isLt)
    · rfl
  refine (congrArg _ hy).trans ((dw_fold m c (y 1) 7 (by decide)).trans ?_)
  rw [← Fin.sum_univ_eq_sum_range (dwBlock m c (y 1)) 8]
  refine (Finset.sum_congr rfl fun b _ => dif_pos b.isLt).trans ?_
  exact Fin.sum_mul_add_congr (S := 8) (n := 512) fun s k hl => rfl

end Cert.KernelIdeal.Up

end
-- ==== Proof.UpRef.lean ====
module

public import proofs.«01_k».proof.Proof.Gen.ReferenceIdeal.Run
public import proofs.«01_k».proof.Proof.Rms
public import Idealize.ShloMosaic.Lib.Pipeline.ValueKit
public import Idealize.ShloMosaic.Lib.Pointwise

@[expose] public section

set_option maxRecDepth 16384

noncomputable section

namespace Cert.ReferenceIdeal.Up

open Cert.ReferenceIdeal Cert.ReferenceIdeal.Gen Cert.ReferenceIdeal.Value Idealize.ShloMosaic Idealize.ShloMosaic.TcCoe Idealize.SL.Sem

variable (m : (ℓ : Loc nD τ sig) → Buf (Elt Ideal) ℓ)

/-- The product's gradient, the two halves side by side, is the stacks' product. -/
theorem prod_apply (a0 : FVec Ideal S2x4096x2816 .bf16) (a1 : FVec Ideal S2x2816x1024 .bf16) (i : Fin 4096) (x : Fin 1024) :
    Host.dotGeneral (F := Ideal) dot_S4096x5632_S1024x5632_S4096x1024_1_1_0_0_n_n none (extf .f32 (concatenate S4096x5632 1 [⟨S4096x2816, (shapeCast _ (extractStridedSlice S1x4096x2816 ![0, 0, 0] a0 slices_S2x4096x2816_S1x4096x2816_0_0_0) shapeCasts_S1x4096x2816_S4096x2816)⟩, ⟨S4096x2816, (shapeCast _ (extractStridedSlice S1x4096x2816 ![1, 0, 0] a0 slices_S2x4096x2816_S1x4096x2816_1_0_0) shapeCasts_S1x4096x2816_S4096x2816)⟩] concatenates_S4096x2816_S4096x2816_S4096x5632_d1) bitsLt_bf16_f32) (extf .f32 (transpose S1024x5632 [1, 0] (shapeCast _ a1 shapeCasts_S2x2816x1024_S5632x1024) transposes_S5632x1024_S1024x5632_1_0) bitsLt_bf16_f32) (ix2 i x)
      = Rms.stackProd a0 a1 i x := by
  rw [Rms.stackProd]
  pointwise
  refine congrArg₂ (· + ·) (Finset.sum_congr rfl fun k _ => ?_) (Finset.sum_congr rfl fun k _ => ?_)
  · exact congrArg (fun z => a0 (ix3 0 i k) * a1 z) (congrArg₂ (fun p q => ix3 p q x)
      (Fin.ext (by show (k : ℕ) / 2816 = 0; omega)) (Fin.ext (by show (k : ℕ) % 2816 = k; omega)))
  · exact congrArg (fun z => a0 (ix3 1 i k) * a1 z) (congrArg₂ (fun p q => ix3 p q x)
      (Fin.ext (by show (2816 + (k : ℕ)) / 2816 = 1; omega)) (Fin.ext (by show (2816 + (k : ℕ)) % 2816 = k; omega)))

theorem dh_eq (c : Dev nD) : res_main_v47 m c = Rms.dhOf (Rms.stackProd (m ((c.tc : Thread nD τ).loc main_arg0)) (m ((c.tc : Thread nD τ).loc main_arg1)))
    (m ((c.tc : Thread nD τ).loc main_arg2)) (m ((c.tc : Thread nD τ).loc main_arg3)) (fun x => m ((c.tc : Thread nD τ).loc main_arg4) (ix1 x)) := by
  unfold res_main_v47
  generalize m ((c.tc : Thread nD τ).loc main_arg0) = a0
  generalize m ((c.tc : Thread nD τ).loc main_arg1) = a1
  generalize m ((c.tc : Thread nD τ).loc main_arg2) = a2
  generalize m ((c.tc : Thread nD τ).loc main_arg3) = a3
  generalize m ((c.tc : Thread nD τ).loc main_arg4) = a4
  generalize hG : Host.dotGeneral (F := Ideal) dot_S4096x5632_S1024x5632_S4096x1024_1_1_0_0_n_n none _ _ = G
  have hy : Rms.stackProd a0 a1 = fun i x => G (ix2 i x) := funext fun i => funext fun x => by
    rw [← hG]
    exact (prod_apply a0 a1 i x).symm
  clear hG
  refine funext fun (z : S4096x1024.Idx) => ?_
  obtain ⟨i, j, rfl⟩ : ∃ i j, z = ix2 i j := ⟨z 0, z 1, eq_ix2 z⟩
  show _ = Rms.rowDh (Rms.stackProd a0 a1 i) (Rms.row a2 i) (fun x => a4 (ix1 x)) (a3 (ix2 i j)) j
  refine Eq.trans ?_ (Rms.rowDh_eq ..).symm
  rw [Rms.refDh, Rms.refC, hy]
  pointwise
  simp only [Fin.sum_univ_one, Rms.inv, Rms.meanSq]

/-- The reference's run: its results are the two gradients. -/
theorem run (ρ : Dev nD → PrngReg) :
    θ_run defs (onTc (τ := τ) (main (F := Ideal))) ⟨m, fun _ => 0, ρ⟩ fun r => ∀ c : Dev nD,
      r.2.mem ((c.tc : Thread nD τ).loc main_v47) = Rms.dhOf (Rms.stackProd (m ((c.tc : Thread nD τ).loc main_arg0)) (m ((c.tc : Thread nD τ).loc main_arg1)))
        (m ((c.tc : Thread nD τ).loc main_arg2)) (m ((c.tc : Thread nD τ).loc main_arg3)) (fun x => m ((c.tc : Thread nD τ).loc main_arg4) (ix1 x))
      ∧ r.2.mem ((c.tc : Thread nD τ).loc main_v48) = Rms.dwOf (Rms.stackProd (m ((c.tc : Thread nD τ).loc main_arg0)) (m ((c.tc : Thread nD τ).loc main_arg1)))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r hr c => ?_) (Cert.ReferenceIdeal.Value.run m ρ)
  refine ⟨(hr c).1.trans ?_, (hr c).2.1.trans ?_, (hr c).2.2⟩
  · exact dh_eq m c
  · clear hr
    generalize m ((c.tc : Thread nD τ).loc main_arg0) = a0
    generalize m ((c.tc : Thread nD τ).loc main_arg1) = a1
    generalize m ((c.tc : Thread nD τ).loc main_arg2) = a2
    generalize hG : Host.dotGeneral (F := Ideal) dot_S4096x5632_S1024x5632_S4096x1024_1_1_0_0_n_n none _ _ = G
    have hy : Rms.stackProd a0 a1 = fun i x => G (ix2 i x) := funext fun i => funext fun x => by
      rw [← hG]
      exact (prod_apply a0 a1 i x).symm
    clear hG
    funext z
    rw [Rms.dwOf, hy]
    pointwise
    simp only [Fin.sum_univ_one, Rms.inv, Rms.meanSq]
    exact Finset.sum_congr rfl fun r _ => mul_comm _ _

end Cert.ReferenceIdeal.Up

end
-- ==== Proof.Mat.lean ====
/- Products of matrices over the extended reals, as the step's backward pass takes them: a weight's gradient contracts the
   rows (the tokens) of two matrices, an input's gradient the columns. -/
module

public import Idealize.ShloMosaic.PureOps.Ideal
public import Idealize.ShloMosaic.Lib.Pointwise
public import Mathlib.Algebra.BigOperators.Fin

@[expose] public section

noncomputable section

namespace Cert.Mat

open Idealize.ShloMosaic

/-- One term of the product of column `i` of one matrix with column `x` of another. -/
def colTerm {T M W : ℕ} (A : (⟨2, ![T, M]⟩ : Shape).Idx → EReal) (B : (⟨2, ![T, W]⟩ : Shape).Idx → EReal) (i : Fin M) (x : Fin W) (k : Fin T) : EReal :=
  A (ix2 k i) * B (ix2 k x)

/-- The product of column `i` of one matrix with column `x` of another. -/
def colProd {T M W : ℕ} (A : (⟨2, ![T, M]⟩ : Shape).Idx → EReal) (B : (⟨2, ![T, W]⟩ : Shape).Idx → EReal) (i : Fin M) (x : Fin W) : EReal :=
  ∑ k, colTerm A B i x k

/-- The matrix of the products of columns. -/
def colProdOf {T M W : ℕ} (A : (⟨2, ![T, M]⟩ : Shape).Idx → EReal) (B : (⟨2, ![T, W]⟩ : Shape).Idx → EReal) : (⟨2, ![M, W]⟩ : Shape).Idx → EReal :=
  fun z => colProd A B (z 0) (z 1)

/-- One matrix of a stack. -/
def slab {S T M : ℕ} (A : (⟨3, ![S, T, M]⟩ : Shape).Idx → EReal) (s : Fin S) : (⟨2, ![T, M]⟩ : Shape).Idx → EReal :=
  fun y => A (ix3 s (y 0) (y 1))

/-- The stack of the matrices of the products of columns. -/
def stackColProdOf {S T M W : ℕ} (A : (⟨3, ![S, T, M]⟩ : Shape).Idx → EReal) (B : (⟨2, ![T, W]⟩ : Shape).Idx → EReal) :
    (⟨3, ![S, M, W]⟩ : Shape).Idx → EReal :=
  fun z => colProd (slab A (z 0)) B (z 1) (z 2)

/-- The product of row `i` of one matrix with row `x` of another. -/
def rowProd {M K N : ℕ} (A : (⟨2, ![M, K]⟩ : Shape).Idx → EReal) (B : (⟨2, ![N, K]⟩ : Shape).Idx → EReal) (i : Fin M) (x : Fin N) : EReal :=
  ∑ k, A (ix2 i k) * B (ix2 x k)

/-- An entry of the product of two matrices. -/
def prod {M K N : ℕ} (A : (⟨2, ![M, K]⟩ : Shape).Idx → EReal) (B : (⟨2, ![K, N]⟩ : Shape).Idx → EReal) (i : Fin M) (x : Fin N) : EReal :=
  ∑ k, A (ix2 i k) * B (ix2 k x)

end Cert.Mat

end
-- ==== Proof.Dw2.lean ====
module

public import proofs.«01_k».proof.Proof.Gen.Kernel2Ideal.Value
public import proofs.«01_k».proof.Proof.Gen.Reference2Ideal.Run
public import proofs.«01_k».proof.Proof.Mat
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Dw

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-! ### The accumulator's steps -/

theorem first (t : Fin cfg0.N) (h : t.val % 4 = 0) :
    (outsAt0 m c t.val t.isLt).2 = k0_pay2 (iblk m c 0 t) (iblk m c 1 t) := by
  have ht : t.val < 16 := lt_of_lt_of_eq t.isLt N_0
  rw [outsAt0_A m c t h (by omega) (by omega)]
  frame_out

theorem next (t : Fin cfg0.N) (h : ¬t.val % 4 = 0) :
    (outsAt0 m c t.val t.isLt).2 = k0_pay3 (iblk m c 0 t) (iblk m c 1 t) (outsAt0 m c (t.val - 1) (Nat.sub_lt_of_lt t.isLt)).2 := by
  have ht : t.val < 16 := lt_of_lt_of_eq t.isLt N_0
  by_cases h3 : t.val % 4 = 3
  · rw [outsAt0_C m c t h (by omega) h3]
    frame_out
    rw [read_unread_whole]
  · rw [outsAt0_B m c t h (by omega) h3]
    frame_out
    rw [read_unread_whole]

theorem stored (t : Fin cfg0.N) (h3 : t.val % 4 = 3) :
    (outsAt0 m c t.val t.isLt).1 = k0_pay4 (outsAt0 m c t.val t.isLt).2 := by
  rw [next m c t (by omega), outsAt0_C m c t (by omega) (by omega) h3]
  frame_out
  rw [read_unread_whole]

/-! ### The blocks of the grid -/

theorem idx0 : ∀ t : Fin cfg0.N, win0_0.index t = ![t.val / 8, t.val % 4, t.val / 4 % 2] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 8, t.val / 4 % 2, 0] := (by decide +kernel : ∀ t : Fin grid0.N, _)

/-- The partial product of one step, over the rows the step reads. -/
theorem part_apply (t : Fin cfg0.N) (i : Fin 1408) (x : Fin 1024) (hi : 1408 * (t.val / 4 % 2) + i < 2816) (hs : t.val / 8 < 2) (b : ℕ) (hb : b < 4) (e : t.val % 4 = b) :
    k0_pay1 (iblk m c 0 t) (iblk m c 1 t) (ix2 i x)
      = ∑ k : Fin 1024, Mat.colTerm (T := 4096) (M := 2816) (W := 1024) (Mat.slab (S := 2) (T := 4096) (M := 2816) (m ⟨c, main_arg0⟩) ⟨t.val / 8, hs⟩) (m ⟨c, main_arg1⟩) ⟨1408 * (t.val / 4 % 2) + i, hi⟩ x ⟨b * 1024 + k, by omega⟩ := by
  subst e
  pointwise [k0_pay1]
  refine Finset.sum_congr rfl fun k _ => ?_
  rw [Mat.colTerm]
  congr 1
  · show _ = (m ⟨c, main_arg0⟩ : FVec Ideal S2x4096x2816 .bf16) (ix3 ⟨t.val / 8, hs⟩ _ _)
    blk_point [iblk, V, idx0 t]
  · blk_point [iblk, V, idx1 t]

theorem pay2_apply (a : Vec Ideal S1x1024x1408 .bf16) (b : Vec Ideal S1024x1024 .bf16) (y : S1408x1024.Idx) :
    k0_pay2 a b y = k0_pay1 a b y := by
  pointwise [k0_pay2]

theorem pay3_apply (a : Vec Ideal S1x1024x1408 .bf16) (b : Vec Ideal S1024x1024 .bf16) (s : Vec Ideal S1408x1024 .f32) (y : S1408x1024.Idx) :
    k0_pay3 a b s y = s y + k0_pay1 a b y := by
  pointwise [k0_pay3]

theorem pay4_apply (s : Vec Ideal S1408x1024 .f32) (y : S1x1408x1024.Idx) : k0_pay4 s y = s (ix2 (y 1) (y 2)) := by
  have y0 : (y 0 : ℕ) < 1 := (y 0).isLt
  pointwise [k0_pay4]

/-- After the last step the accumulator holds the whole product. -/
theorem acc_apply (t : Fin cfg0.N) (h3 : t.val % 4 = 3) (i : Fin 1408) (x : Fin 1024) (hi : 1408 * (t.val / 4 % 2) + i < 2816) (hs : t.val / 8 < 2) :
    (outsAt0 m c t.val t.isLt).2 (ix2 i x) = Mat.colProd (T := 4096) (M := 2816) (W := 1024) (Mat.slab (S := 2) (T := 4096) (M := 2816) (m ⟨c, main_arg0⟩) ⟨t.val / 8, hs⟩) (m ⟨c, main_arg1⟩) ⟨1408 * (t.val / 4 % 2) + i, hi⟩ x := by
  have e1 := next m c t (by omega)
  have e2 := next m c ⟨t.val - 1, lt_of_le_of_lt (Nat.sub_le _ _) t.isLt⟩ (by show ¬(t.val - 1) % 4 = 0; omega)
  have e3 := next m c ⟨t.val - 2, lt_of_le_of_lt (Nat.sub_le _ _) t.isLt⟩ (by show ¬(t.val - 2) % 4 = 0; omega)
  have e4 := first m c ⟨t.val - 3, lt_of_le_of_lt (Nat.sub_le _ _) t.isLt⟩ (by show (t.val - 3) % 4 = 0; omega)
  have p1 := part_apply m c t i x hi hs 3 (by omega) h3
  have p2 := part_apply m c ⟨t.val - 1, lt_of_le_of_lt (Nat.sub_le _ _) t.isLt⟩ i x (by show 1408 * ((t.val - 1) / 4 % 2) + (i : ℕ) < 2816; omega) (by show (t.val - 1) / 8 < 2; omega) 2 (by omega) (by show (t.val - 1) % 4 = 2; omega)
  have p3 := part_apply m c ⟨t.val - 2, lt_of_le_of_lt (Nat.sub_le _ _) t.isLt⟩ i x (by show 1408 * ((t.val - 2) / 4 % 2) + (i : ℕ) < 2816; omega) (by show (t.val - 2) / 8 < 2; omega) 1 (by omega) (by show (t.val - 2) % 4 = 1; omega)
  have p4 := part_apply m c ⟨t.val - 3, lt_of_le_of_lt (Nat.sub_le _ _) t.isLt⟩ i x (by show 1408 * ((t.val - 3) / 4 % 2) + (i : ℕ) < 2816; omega) (by show (t.val - 3) / 8 < 2; omega) 0 (by omega) (by show (t.val - 3) % 4 = 0; omega)
  dsimp only at e2 e3 e4 p2 p3 p4
  simp only [Nat.sub_sub, Nat.reduceAdd] at e2 e3
  have q1 : (t.val - 1) / 4 = t.val / 4 := by omega
  have r1 : (t.val - 1) / 8 = t.val / 8 := by omega
  have q2 : (t.val - 2) / 4 = t.val / 4 := by omega
  have r2 : (t.val - 2) / 8 = t.val / 8 := by omega
  have q3 : (t.val - 3) / 4 = t.val / 4 := by omega
  have r3 : (t.val - 3) / 8 = t.val / 8 := by omega
  simp only [q1, r1] at p2
  simp only [q2, r2] at p3
  simp only [q3, r3] at p4
  rw [e1, e2, e3, e4, pay3_apply, pay3_apply, pay3_apply, pay2_apply, p1, p2, p3, p4, Mat.colProd]
  exact (Fin.sum_univ_four fun s : Fin 4 => ∑ k : Fin 1024, Mat.colTerm (T := 4096) (M := 2816) (W := 1024) (Mat.slab (S := 2) (T := 4096) (M := 2816) (m ⟨c, main_arg0⟩) ⟨t.val / 8, hs⟩) (m ⟨c, main_arg1⟩) ⟨1408 * (t.val / 4 % 2) + i, hi⟩ x ⟨s * 1024 + k, by omega⟩).symm.trans
    (Fin.sum_mul_add_congr (S := 4) (n := 1024) fun s k hl => rfl)

/-- What the result array ends with. -/
theorem arr : (dats m 0 c).arrAt 2 cfg0.N = Mat.stackColProdOf (S := 2) (T := 4096) (M := 2816) (W := 1024) (m ⟨c, main_arg0⟩) (m ⟨c, main_arg1⟩) := by
  refine (dats m 0 c).arrAt_eq_of_covers 2 _ (by decide +kernel) fun t hf y => ?_
  have h3 : t.val % 4 = 3 := (flush0_2 t).mp hf
  have ht : t.val < 16 := lt_of_lt_of_eq t.isLt N_0
  blk_simp
  rw [after0_2, stored m c t h3]
  have y0 : ((y 0 : Fin _) : ℕ) < 1 := (y 0).isLt
  have y1 : ((y 1 : Fin _) : ℕ) < 1408 := (y 1).isLt
  have hs : t.val / 8 < 2 := by omega
  have hi : 1408 * (t.val / 4 % 2) + ((y 1 : Fin _) : ℕ) < 2816 := by omega
  have hz : (win0_2.blk t).view.emb y = ix3 (n0 := 2) (n1 := 2816) (n2 := 1024) ⟨t.val / 8, hs⟩ ⟨1408 * (t.val / 4 % 2) + ((y 1 : Fin _) : ℕ), hi⟩ (y 2) := by
    blk_ext [idx2 t]
  rw [hz, Mat.stackColProdOf]
  exact (pay4_apply _ y).trans (acc_apply m c t h3 (y 1) (y 2) hi hs)

end Cert.Kernel2Ideal.Dw

namespace Cert.Reference2Ideal.Dw

open Cert.Reference2Ideal Cert.Reference2Ideal.Gen Cert.Reference2Ideal.Value Idealize.ShloMosaic Idealize.ShloMosaic.TcCoe Idealize.SL.Sem

/-- The reference's run: its result is the product. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = Mat.stackColProdOf (S := 2) (T := 4096) (M := 2816) (W := 1024) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r hr c => ?_) (Cert.Reference2Ideal.Value.run (F := Ideal) m ρ)
  refine ⟨(hr c).1.trans ?_, (hr c).2⟩
  clear hr
  generalize m ((c.tc : Thread nD τ).loc main_arg0) = a0
  generalize m ((c.tc : Thread nD τ).loc main_arg1) = a1
  refine funext fun (z : S2x2816x1024.Idx) => ?_
  obtain ⟨s, i, j, rfl⟩ : ∃ s i j, z = ix3 s i j := ⟨z 0, z 1, z 2, eq_ix3 z⟩
  show _ = Mat.colProd (Mat.slab (S := 2) (T := 4096) (M := 2816) a0 s) (W := 1024) a1 i j
  unfold Mat.colProd Mat.colTerm Mat.slab
  fin_cases s <;> pointwise

end Cert.Reference2Ideal.Dw

end
-- ==== Proof.Dw3.lean ====
module

public import proofs.«01_k».proof.Proof.Gen.Kernel3Ideal.Value
public import proofs.«01_k».proof.Proof.Gen.Reference3Ideal.Run
public import proofs.«01_k».proof.Proof.Mat
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel3Ideal.Dw

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-! ### The accumulator's steps -/

theorem first (t : Fin cfg0.N) (h : t.val % 4 = 0) :
    (outsAt0 m c t.val t.isLt).2 = k0_pay2 (iblk m c 0 t) (iblk m c 1 t) := by
  have ht : t.val < 8 := lt_of_lt_of_eq t.isLt N_0
  rw [outsAt0_A m c t h (by omega) (by omega)]
  frame_out

theorem next (t : Fin cfg0.N) (h : ¬t.val % 4 = 0) :
    (outsAt0 m c t.val t.isLt).2 = k0_pay3 (iblk m c 0 t) (iblk m c 1 t) (outsAt0 m c (t.val - 1) (Nat.sub_lt_of_lt t.isLt)).2 := by
  have ht : t.val < 8 := lt_of_lt_of_eq t.isLt N_0
  by_cases h3 : t.val % 4 = 3
  · rw [outsAt0_C m c t h (by omega) h3]
    frame_out
    rw [read_unread_whole]
  · rw [outsAt0_B m c t h (by omega) h3]
    frame_out
    rw [read_unread_whole]

theorem stored (t : Fin cfg0.N) (h3 : t.val % 4 = 3) :
    (outsAt0 m c t.val t.isLt).1 = k0_pay4 (outsAt0 m c t.val t.isLt).2 := by
  rw [next m c t (by omega), outsAt0_C m c t (by omega) (by omega) h3]
  frame_out
  rw [read_unread_whole]

/-! ### The blocks of the grid -/

theorem idx0 : ∀ t : Fin cfg0.N, win0_0.index t = ![t.val % 4, t.val / 4] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, 0] := (by decide +kernel : ∀ t : Fin grid0.N, _)

/-- The partial product of one step, over the rows the step reads. -/
theorem part_apply (t : Fin cfg0.N) (i : Fin 1408) (x : Fin 1024) (hi : 1408 * (t.val / 4) + i < 2816) (b : ℕ) (hb : b < 4) (e : t.val % 4 = b) :
    k0_pay1 (iblk m c 0 t) (iblk m c 1 t) (ix2 i x)
      = ∑ k : Fin 1024, Mat.colTerm (T := 4096) (M := 2816) (W := 1024) (m ⟨c, main_arg0⟩) (m ⟨c, main_arg1⟩) ⟨1408 * (t.val / 4) + i, hi⟩ x ⟨b * 1024 + k, by omega⟩ := by
  subst e
  pointwise [k0_pay1]
  refine Finset.sum_congr rfl fun k _ => ?_
  rw [Mat.colTerm]
  congr 1
  · blk_point [iblk, V, idx0 t]
  · blk_point [iblk, V, idx1 t]

theorem pay2_apply (a : Vec Ideal S1024x1408 .bf16) (b : Vec Ideal S1024x1024 .f32) (y : S1408x1024.Idx) :
    k0_pay2 a b y = k0_pay1 a b y := by
  pointwise [k0_pay2]

theorem pay3_apply (a : Vec Ideal S1024x1408 .bf16) (b : Vec Ideal S1024x1024 .f32) (s : Vec Ideal S1408x1024 .f32) (y : S1408x1024.Idx) :
    k0_pay3 a b s y = s y + k0_pay1 a b y := by
  pointwise [k0_pay3]

/-- After the last step the accumulator holds the whole product. -/
theorem acc_apply (t : Fin cfg0.N) (h3 : t.val % 4 = 3) (i : Fin 1408) (x : Fin 1024) (hi : 1408 * (t.val / 4) + i < 2816) :
    (outsAt0 m c t.val t.isLt).2 (ix2 i x) = Mat.colProd (T := 4096) (M := 2816) (W := 1024) (m ⟨c, main_arg0⟩) (m ⟨c, main_arg1⟩) ⟨1408 * (t.val / 4) + i, hi⟩ x := by
  have e1 := next m c t (by omega)
  have e2 := next m c ⟨t.val - 1, lt_of_le_of_lt (Nat.sub_le _ _) t.isLt⟩ (by show ¬(t.val - 1) % 4 = 0; omega)
  have e3 := next m c ⟨t.val - 2, lt_of_le_of_lt (Nat.sub_le _ _) t.isLt⟩ (by show ¬(t.val - 2) % 4 = 0; omega)
  have e4 := first m c ⟨t.val - 3, lt_of_le_of_lt (Nat.sub_le _ _) t.isLt⟩ (by show (t.val - 3) % 4 = 0; omega)
  have p1 := part_apply m c t i x hi 3 (by omega) h3
  have p2 := part_apply m c ⟨t.val - 1, lt_of_le_of_lt (Nat.sub_le _ _) t.isLt⟩ i x (by show 1408 * ((t.val - 1) / 4) + (i : ℕ) < 2816; omega) 2 (by omega) (by show (t.val - 1) % 4 = 2; omega)
  have p3 := part_apply m c ⟨t.val - 2, lt_of_le_of_lt (Nat.sub_le _ _) t.isLt⟩ i x (by show 1408 * ((t.val - 2) / 4) + (i : ℕ) < 2816; omega) 1 (by omega) (by show (t.val - 2) % 4 = 1; omega)
  have p4 := part_apply m c ⟨t.val - 3, lt_of_le_of_lt (Nat.sub_le _ _) t.isLt⟩ i x (by show 1408 * ((t.val - 3) / 4) + (i : ℕ) < 2816; omega) 0 (by omega) (by show (t.val - 3) % 4 = 0; omega)
  dsimp only at e2 e3 e4 p2 p3 p4
  simp only [Nat.sub_sub, Nat.reduceAdd] at e2 e3
  have q1 : (t.val - 1) / 4 = t.val / 4 := by omega
  have q2 : (t.val - 2) / 4 = t.val / 4 := by omega
  have q3 : (t.val - 3) / 4 = t.val / 4 := by omega
  simp only [q1] at p2
  simp only [q2] at p3
  simp only [q3] at p4
  rw [e1, e2, e3, e4, pay3_apply, pay3_apply, pay3_apply, pay2_apply, p1, p2, p3, p4, Mat.colProd]
  exact (Fin.sum_univ_four fun s : Fin 4 => ∑ k : Fin 1024, Mat.colTerm (T := 4096) (M := 2816) (W := 1024) (m ⟨c, main_arg0⟩) (m ⟨c, main_arg1⟩) ⟨1408 * (t.val / 4) + i, hi⟩ x ⟨s * 1024 + k, by omega⟩).symm.trans
    (Fin.sum_mul_add_congr (S := 4) (n := 1024) fun s k hl => rfl)

/-- What the result array ends with. -/
theorem arr : (dats m 0 c).arrAt 2 cfg0.N = Mat.colProdOf (T := 4096) (M := 2816) (W := 1024) (m ⟨c, main_arg0⟩) (m ⟨c, main_arg1⟩) := by
  refine (dats m 0 c).arrAt_eq_of_covers 2 _ (by decide +kernel) fun t hf y => ?_
  have h3 : t.val % 4 = 3 := (flush0_2 t).mp hf
  have ht : t.val < 8 := lt_of_lt_of_eq t.isLt N_0
  blk_simp
  rw [after0_2, stored m c t h3]
  have y0 : ((y 0 : Fin _) : ℕ) < 1408 := (y 0).isLt
  have hi : 1408 * (t.val / 4) + ((y 0 : Fin _) : ℕ) < 2816 := by omega
  have hz : (win0_2.blk t).view.emb y = ix2 (n0 := 2816) (n1 := 1024) ⟨1408 * (t.val / 4) + ((y 0 : Fin _) : ℕ), hi⟩ (y 1) := by
    blk_ext [idx2 t]
  rw [hz, Mat.colProdOf]
  refine Eq.trans ?_ (acc_apply m c t h3 (y 0) (y 1) hi)
  exact congrArg _ (eq_ix2 y)

end Cert.Kernel3Ideal.Dw

namespace Cert.Reference3Ideal.Dw

open Cert.Reference3Ideal Cert.Reference3Ideal.Gen Cert.Reference3Ideal.Value Idealize.ShloMosaic Idealize.ShloMosaic.TcCoe Idealize.SL.Sem

/-- The reference's run: its result is the product. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = Mat.colProdOf (T := 4096) (M := 2816) (W := 1024) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r hr c => ?_) (Cert.Reference3Ideal.Value.run (F := Ideal) m ρ)
  refine ⟨(hr c).1.trans ?_, (hr c).2⟩
  clear hr
  generalize m ((c.tc : Thread nD τ).loc main_arg0) = a0
  generalize m ((c.tc : Thread nD τ).loc main_arg1) = a1
  refine funext fun (z : S2816x1024.Idx) => ?_
  obtain ⟨i, j, rfl⟩ : ∃ i j, z = ix2 i j := ⟨z 0, z 1, eq_ix2 z⟩
  show _ = Mat.colProd (T := 4096) (M := 2816) (W := 1024) a0 a1 i j
  unfold Mat.colProd Mat.colTerm
  pointwise
  exact Finset.sum_congr rfl fun k _ => mul_comm _ _

end Cert.Reference3Ideal.Dw

end
-- ==== Proof.Dw4.lean ====
module

public import proofs.«01_k».proof.Proof.Gen.Kernel4Ideal.Value
public import proofs.«01_k».proof.Proof.Gen.Reference4Ideal.Run
public import proofs.«01_k».proof.Proof.Mat
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel4Ideal.Dw

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-! ### The accumulator's steps -/

theorem first (t : Fin cfg0.N) (h : t.val % 4 = 0) :
    (outsAt0 m c t.val t.isLt).2 = k0_pay2 (iblk m c 0 t) (iblk m c 1 t) := by
  have ht : t.val < 12 := lt_of_lt_of_eq t.isLt N_0
  rw [outsAt0_A m c t h (by omega) (by omega)]
  frame_out

theorem next (t : Fin cfg0.N) (h : ¬t.val % 4 = 0) :
    (outsAt0 m c t.val t.isLt).2 = k0_pay3 (iblk m c 0 t) (iblk m c 1 t) (outsAt0 m c (t.val - 1) (Nat.sub_lt_of_lt t.isLt)).2 := by
  have ht : t.val < 12 := lt_of_lt_of_eq t.isLt N_0
  by_cases h3 : t.val % 4 = 3
  · rw [outsAt0_C m c t h (by omega) h3]
    frame_out
    rw [read_unread_whole]
  · rw [outsAt0_B m c t h (by omega) h3]
    frame_out
    rw [read_unread_whole]

theorem stored (t : Fin cfg0.N) (h3 : t.val % 4 = 3) :
    (outsAt0 m c t.val t.isLt).1 = k0_pay4 (outsAt0 m c t.val t.isLt).2 := by
  rw [next m c t (by omega), outsAt0_C m c t (by omega) (by omega) h3]
  frame_out
  rw [read_unread_whole]

/-! ### The blocks of the grid -/

theorem idx0 : ∀ t : Fin cfg0.N, win0_0.index t = ![t.val % 4, t.val / 4] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, 0] := (by decide +kernel : ∀ t : Fin grid0.N, _)

/-- The partial product of one step, over the rows the step reads. -/
theorem part_apply (t : Fin cfg0.N) (i : Fin 1408) (x : Fin 1024) (hi : 1408 * (t.val / 4) + i < 4224) (b : ℕ) (hb : b < 4) (e : t.val % 4 = b) :
    k0_pay1 (iblk m c 0 t) (iblk m c 1 t) (ix2 i x)
      = ∑ k : Fin 1024, Mat.colTerm (T := 4096) (M := 4224) (W := 1024) (m ⟨c, main_arg0⟩) (m ⟨c, main_arg1⟩) ⟨1408 * (t.val / 4) + i, hi⟩ x ⟨b * 1024 + k, by omega⟩ := by
  subst e
  pointwise [k0_pay1]
  refine Finset.sum_congr rfl fun k _ => ?_
  rw [Mat.colTerm]
  congr 1
  · blk_point [iblk, V, idx0 t]
  · blk_point [iblk, V, idx1 t]

theorem pay2_apply (a : Vec Ideal S1024x1408 .bf16) (b : Vec Ideal S1024x1024 .bf16) (y : S1408x1024.Idx) :
    k0_pay2 a b y = k0_pay1 a b y := by
  pointwise [k0_pay2]

theorem pay3_apply (a : Vec Ideal S1024x1408 .bf16) (b : Vec Ideal S1024x1024 .bf16) (s : Vec Ideal S1408x1024 .f32) (y : S1408x1024.Idx) :
    k0_pay3 a b s y = s y + k0_pay1 a b y := by
  pointwise [k0_pay3]

/-- After the last step the accumulator holds the whole product. -/
theorem acc_apply (t : Fin cfg0.N) (h3 : t.val % 4 = 3) (i : Fin 1408) (x : Fin 1024) (hi : 1408 * (t.val / 4) + i < 4224) :
    (outsAt0 m c t.val t.isLt).2 (ix2 i x) = Mat.colProd (T := 4096) (M := 4224) (W := 1024) (m ⟨c, main_arg0⟩) (m ⟨c, main_arg1⟩) ⟨1408 * (t.val / 4) + i, hi⟩ x := by
  have e1 := next m c t (by omega)
  have e2 := next m c ⟨t.val - 1, lt_of_le_of_lt (Nat.sub_le _ _) t.isLt⟩ (by show ¬(t.val - 1) % 4 = 0; omega)
  have e3 := next m c ⟨t.val - 2, lt_of_le_of_lt (Nat.sub_le _ _) t.isLt⟩ (by show ¬(t.val - 2) % 4 = 0; omega)
  have e4 := first m c ⟨t.val - 3, lt_of_le_of_lt (Nat.sub_le _ _) t.isLt⟩ (by show (t.val - 3) % 4 = 0; omega)
  have p1 := part_apply m c t i x hi 3 (by omega) h3
  have p2 := part_apply m c ⟨t.val - 1, lt_of_le_of_lt (Nat.sub_le _ _) t.isLt⟩ i x (by show 1408 * ((t.val - 1) / 4) + (i : ℕ) < 4224; omega) 2 (by omega) (by show (t.val - 1) % 4 = 2; omega)
  have p3 := part_apply m c ⟨t.val - 2, lt_of_le_of_lt (Nat.sub_le _ _) t.isLt⟩ i x (by show 1408 * ((t.val - 2) / 4) + (i : ℕ) < 4224; omega) 1 (by omega) (by show (t.val - 2) % 4 = 1; omega)
  have p4 := part_apply m c ⟨t.val - 3, lt_of_le_of_lt (Nat.sub_le _ _) t.isLt⟩ i x (by show 1408 * ((t.val - 3) / 4) + (i : ℕ) < 4224; omega) 0 (by omega) (by show (t.val - 3) % 4 = 0; omega)
  dsimp only at e2 e3 e4 p2 p3 p4
  simp only [Nat.sub_sub, Nat.reduceAdd] at e2 e3
  have q1 : (t.val - 1) / 4 = t.val / 4 := by omega
  have q2 : (t.val - 2) / 4 = t.val / 4 := by omega
  have q3 : (t.val - 3) / 4 = t.val / 4 := by omega
  simp only [q1] at p2
  simp only [q2] at p3
  simp only [q3] at p4
  rw [e1, e2, e3, e4, pay3_apply, pay3_apply, pay3_apply, pay2_apply, p1, p2, p3, p4, Mat.colProd]
  exact (Fin.sum_univ_four fun s : Fin 4 => ∑ k : Fin 1024, Mat.colTerm (T := 4096) (M := 4224) (W := 1024) (m ⟨c, main_arg0⟩) (m ⟨c, main_arg1⟩) ⟨1408 * (t.val / 4) + i, hi⟩ x ⟨s * 1024 + k, by omega⟩).symm.trans
    (Fin.sum_mul_add_congr (S := 4) (n := 1024) fun s k hl => rfl)

/-- What the result array ends with. -/
theorem arr : (dats m 0 c).arrAt 2 cfg0.N = Mat.colProdOf (T := 4096) (M := 4224) (W := 1024) (m ⟨c, main_arg0⟩) (m ⟨c, main_arg1⟩) := by
  refine (dats m 0 c).arrAt_eq_of_covers 2 _ (by decide +kernel) fun t hf y => ?_
  have h3 : t.val % 4 = 3 := (flush0_2 t).mp hf
  have ht : t.val < 12 := lt_of_lt_of_eq t.isLt N_0
  blk_simp
  rw [after0_2, stored m c t h3]
  have y0 : ((y 0 : Fin _) : ℕ) < 1408 := (y 0).isLt
  have hi : 1408 * (t.val / 4) + ((y 0 : Fin _) : ℕ) < 4224 := by omega
  have hz : (win0_2.blk t).view.emb y = ix2 (n0 := 4224) (n1 := 1024) ⟨1408 * (t.val / 4) + ((y 0 : Fin _) : ℕ), hi⟩ (y 1) := by
    blk_ext [idx2 t]
  rw [hz, Mat.colProdOf]
  refine Eq.trans ?_ (acc_apply m c t h3 (y 0) (y 1) hi)
  exact congrArg _ (eq_ix2 y)

end Cert.Kernel4Ideal.Dw

namespace Cert.Reference4Ideal.Dw

open Cert.Reference4Ideal Cert.Reference4Ideal.Gen Cert.Reference4Ideal.Value Idealize.ShloMosaic Idealize.ShloMosaic.TcCoe Idealize.SL.Sem

/-- The reference's run: its result is the product. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = Mat.colProdOf (T := 4096) (M := 4224) (W := 1024) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r hr c => ?_) (Cert.Reference4Ideal.Value.run (F := Ideal) m ρ)
  refine ⟨(hr c).1.trans ?_, (hr c).2⟩
  clear hr
  generalize m ((c.tc : Thread nD τ).loc main_arg0) = a0
  generalize m ((c.tc : Thread nD τ).loc main_arg1) = a1
  refine funext fun (z : S4224x1024.Idx) => ?_
  obtain ⟨i, j, rfl⟩ : ∃ i j, z = ix2 i j := ⟨z 0, z 1, eq_ix2 z⟩
  show _ = Mat.colProd (T := 4096) (M := 4224) (W := 1024) a0 a1 i j
  unfold Mat.colProd Mat.colTerm
  pointwise

end Cert.Reference4Ideal.Dw

end
-- ==== Proof.Dw5.lean ====
module

public import proofs.«01_k».proof.Proof.Gen.Kernel5Ideal.Value
public import proofs.«01_k».proof.Proof.Gen.Reference5Ideal.Run
public import proofs.«01_k».proof.Proof.Mat
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel5Ideal.Dw

open Cert.Kernel5Ideal Cert.Kernel5Ideal.Gen Idealize.ShloMosaic Idealize.ShloMosaic.TcCoe Idealize.SL.Sem

variable (m : (ℓ : Loc nD τ sig) → Buf (Elt Ideal) ℓ) (c : Dev nD)

/-! ### The accumulator's steps -/

theorem first (t : Fin cfg0.N) (h : t.val % 4 = 0) :
    (outsAt0 m c t.val t.isLt).2 = k0_pay2 (iblk m c 0 t) (iblk m c 1 t) := by
  have ht : t.val < 8 := lt_of_lt_of_eq t.isLt N_0
  rw [outsAt0_A m c t h (by omega) (by omega)]
  frame_out

theorem next (t : Fin cfg0.N) (h : ¬t.val % 4 = 0) :
    (outsAt0 m c t.val t.isLt).2 = k0_pay3 (iblk m c 0 t) (iblk m c 1 t) (outsAt0 m c (t.val - 1) (Nat.sub_lt_of_lt t.isLt)).2 := by
  have ht : t.val < 8 := lt_of_lt_of_eq t.isLt N_0
  by_cases h3 : t.val % 4 = 3
  · rw [outsAt0_C m c t h (by omega) h3]
    frame_out
    rw [read_unread_whole]
  · rw [outsAt0_B m c t h (by omega) h3]
    frame_out
    rw [read_unread_whole]

theorem stored (t : Fin cfg0.N) (h3 : t.val % 4 = 3) :
    (outsAt0 m c t.val t.isLt).1 = k0_pay4 (outsAt0 m c t.val t.isLt).2 := by
  rw [next m c t (by omega), outsAt0_C m c t (by omega) (by omega) h3]
  frame_out
  rw [read_unread_whole]

/-! ### The blocks of the grid -/

theorem idx0 : ∀ t : Fin cfg0.N, win0_0.index t = ![t.val % 4, t.val / 4] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, 0] := (by decide +kernel : ∀ t : Fin grid0.N, _)

/-- The partial product of one step, over the rows the step reads. -/
theorem part_apply (t : Fin cfg0.N) (i : Fin 768) (x : Fin 1024) (hi : 768 * (t.val / 4) + i < 1536) (b : ℕ) (hb : b < 4) (e : t.val % 4 = b) :
    k0_pay1 (iblk m c 0 t) (iblk m c 1 t) (ix2 i x)
      = ∑ k : Fin 1024, Mat.colTerm (T := 4096) (M := 1536) (W := 1024) (m ⟨c, main_arg0⟩) (m ⟨c, main_arg1⟩) ⟨768 * (t.val / 4) + i, hi⟩ x ⟨b * 1024 + k, by omega⟩ := by
  subst e
  pointwise [k0_pay1]
  refine Finset.sum_congr rfl fun k _ => ?_
  rw [Mat.colTerm]
  congr 1
  · blk_point [iblk, V, idx0 t]
  · blk_point [iblk, V, idx1 t]

theorem pay2_apply (a : Vec Ideal S1024x768 .bf16) (b : Vec Ideal S1024x1024 .bf16) (y : S768x1024.Idx) :
    k0_pay2 a b y = k0_pay1 a b y := by
  pointwise [k0_pay2]

theorem pay3_apply (a : Vec Ideal S1024x768 .bf16) (b : Vec Ideal S1024x1024 .bf16) (s : Vec Ideal S768x1024 .f32) (y : S768x1024.Idx) :
    k0_pay3 a b s y = s y + k0_pay1 a b y := by
  pointwise [k0_pay3]

/-- After the last step the accumulator holds the whole product. -/
theorem acc_apply (t : Fin cfg0.N) (h3 : t.val % 4 = 3) (i : Fin 768) (x : Fin 1024) (hi : 768 * (t.val / 4) + i < 1536) :
    (outsAt0 m c t.val t.isLt).2 (ix2 i x) = Mat.colProd (T := 4096) (M := 1536) (W := 1024) (m ⟨c, main_arg0⟩) (m ⟨c, main_arg1⟩) ⟨768 * (t.val / 4) + i, hi⟩ x := by
  have e1 := next m c t (by omega)
  have e2 := next m c ⟨t.val - 1, lt_of_le_of_lt (Nat.sub_le _ _) t.isLt⟩ (by show ¬(t.val - 1) % 4 = 0; omega)
  have e3 := next m c ⟨t.val - 2, lt_of_le_of_lt (Nat.sub_le _ _) t.isLt⟩ (by show ¬(t.val - 2) % 4 = 0; omega)
  have e4 := first m c ⟨t.val - 3, lt_of_le_of_lt (Nat.sub_le _ _) t.isLt⟩ (by show (t.val - 3) % 4 = 0; omega)
  have p1 := part_apply m c t i x hi 3 (by omega) h3
  have p2 := part_apply m c ⟨t.val - 1, lt_of_le_of_lt (Nat.sub_le _ _) t.isLt⟩ i x (by show 768 * ((t.val - 1) / 4) + (i : ℕ) < 1536; omega) 2 (by omega) (by show (t.val - 1) % 4 = 2; omega)
  have p3 := part_apply m c ⟨t.val - 2, lt_of_le_of_lt (Nat.sub_le _ _) t.isLt⟩ i x (by show 768 * ((t.val - 2) / 4) + (i : ℕ) < 1536; omega) 1 (by omega) (by show (t.val - 2) % 4 = 1; omega)
  have p4 := part_apply m c ⟨t.val - 3, lt_of_le_of_lt (Nat.sub_le _ _) t.isLt⟩ i x (by show 768 * ((t.val - 3) / 4) + (i : ℕ) < 1536; omega) 0 (by omega) (by show (t.val - 3) % 4 = 0; omega)
  dsimp only at e2 e3 e4 p2 p3 p4
  simp only [Nat.sub_sub, Nat.reduceAdd] at e2 e3
  have q1 : (t.val - 1) / 4 = t.val / 4 := by omega
  have q2 : (t.val - 2) / 4 = t.val / 4 := by omega
  have q3 : (t.val - 3) / 4 = t.val / 4 := by omega
  simp only [q1] at p2
  simp only [q2] at p3
  simp only [q3] at p4
  rw [e1, e2, e3, e4, pay3_apply, pay3_apply, pay3_apply, pay2_apply, p1, p2, p3, p4, Mat.colProd]
  exact (Fin.sum_univ_four fun s : Fin 4 => ∑ k : Fin 1024, Mat.colTerm (T := 4096) (M := 1536) (W := 1024) (m ⟨c, main_arg0⟩) (m ⟨c, main_arg1⟩) ⟨768 * (t.val / 4) + i, hi⟩ x ⟨s * 1024 + k, by omega⟩).symm.trans
    (Fin.sum_mul_add_congr (S := 4) (n := 1024) fun s k hl => rfl)

/-- What the result array ends with. -/
theorem arr : (dats m 0 c).arrAt 2 cfg0.N = Mat.colProdOf (T := 4096) (M := 1536) (W := 1024) (m ⟨c, main_arg0⟩) (m ⟨c, main_arg1⟩) := by
  refine (dats m 0 c).arrAt_eq_of_covers 2 _ (by decide +kernel) fun t hf y => ?_
  have h3 : t.val % 4 = 3 := (flush0_2 t).mp hf
  have ht : t.val < 8 := lt_of_lt_of_eq t.isLt N_0
  blk_simp
  rw [after0_2, stored m c t h3]
  have y0 : ((y 0 : Fin _) : ℕ) < 768 := (y 0).isLt
  have hi : 768 * (t.val / 4) + ((y 0 : Fin _) : ℕ) < 1536 := by omega
  have hz : (win0_2.blk t).view.emb y = ix2 (n0 := 1536) (n1 := 1024) ⟨768 * (t.val / 4) + ((y 0 : Fin _) : ℕ), hi⟩ (y 1) := by
    blk_ext [idx2 t]
  rw [hz, Mat.colProdOf]
  refine Eq.trans ?_ (acc_apply m c t h3 (y 0) (y 1) hi)
  exact congrArg _ (eq_ix2 y)

end Cert.Kernel5Ideal.Dw

namespace Cert.Reference5Ideal.Dw

open Cert.Reference5Ideal Cert.Reference5Ideal.Gen Cert.Reference5Ideal.Value Idealize.ShloMosaic Idealize.ShloMosaic.TcCoe Idealize.SL.Sem

/-- The reference's run: its result is the product. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = Mat.colProdOf (T := 4096) (M := 1536) (W := 1024) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r hr c => ?_) (Cert.Reference5Ideal.Value.run (F := Ideal) m ρ)
  refine ⟨(hr c).1.trans ?_, (hr c).2⟩
  clear hr
  generalize m ((c.tc : Thread nD τ).loc main_arg0) = a0
  generalize m ((c.tc : Thread nD τ).loc main_arg1) = a1
  refine funext fun (z : S1536x1024.Idx) => ?_
  obtain ⟨i, j, rfl⟩ : ∃ i j, z = ix2 i j := ⟨z 0, z 1, eq_ix2 z⟩
  show _ = Mat.colProd (T := 4096) (M := 1536) (W := 1024) a0 a1 i j
  unfold Mat.colProd Mat.colTerm
  pointwise

end Cert.Reference5Ideal.Dw

end
-- ==== Proof.Dw6.lean ====
module

public import proofs.«01_k».proof.Proof.Gen.Kernel6Ideal.Value
public import proofs.«01_k».proof.Proof.Gen.Reference6Ideal.Run
public import proofs.«01_k».proof.Proof.Mat
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel6Ideal.Dw

open Cert.Kernel6Ideal Cert.Kernel6Ideal.Gen Idealize.ShloMosaic Idealize.ShloMosaic.TcCoe Idealize.SL.Sem

variable (m : (ℓ : Loc nD τ sig) → Buf (Elt Ideal) ℓ) (c : Dev nD)

/-! ### The accumulator's steps -/

theorem first (t : Fin cfg0.N) (h : t.val % 4 = 0) :
    (outsAt0 m c t.val t.isLt).2 = k0_pay2 (iblk m c 0 t) (iblk m c 1 t) := by
  have ht : t.val < 4 := lt_of_lt_of_eq t.isLt N_0
  rw [outsAt0_A m c t h (by omega) (by omega)]
  frame_out

theorem next (t : Fin cfg0.N) (h : ¬t.val % 4 = 0) :
    (outsAt0 m c t.val t.isLt).2 = k0_pay3 (iblk m c 0 t) (iblk m c 1 t) (outsAt0 m c (t.val - 1) (Nat.sub_lt_of_lt t.isLt)).2 := by
  have ht : t.val < 4 := lt_of_lt_of_eq t.isLt N_0
  by_cases h3 : t.val % 4 = 3
  · rw [outsAt0_C m c t h (by omega) h3]
    frame_out
    rw [read_unread_whole]
  · rw [outsAt0_B m c t h (by omega) h3]
    frame_out
    rw [read_unread_whole]

theorem stored (t : Fin cfg0.N) (h3 : t.val % 4 = 3) :
    (outsAt0 m c t.val t.isLt).1 = k0_pay4 (outsAt0 m c t.val t.isLt).2 := by
  rw [next m c t (by omega), outsAt0_C m c t (by omega) (by omega) h3]
  frame_out
  rw [read_unread_whole]

/-! ### The blocks of the grid -/

theorem idx0 : ∀ t : Fin cfg0.N, win0_0.index t = ![t.val % 4, 0] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![0, 0] := (by decide +kernel : ∀ t : Fin grid0.N, _)

/-- The partial product of one step, over the rows the step reads. -/
theorem part_apply (t : Fin cfg0.N) (i : Fin 1024) (x : Fin 1024) (b : ℕ) (hb : b < 4) (e : t.val % 4 = b) :
    k0_pay1 (iblk m c 0 t) (iblk m c 1 t) (ix2 i x)
      = ∑ k : Fin 1024, Mat.colTerm (T := 4096) (M := 1024) (W := 1024) (m ⟨c, main_arg0⟩) (m ⟨c, main_arg1⟩) i x ⟨b * 1024 + k, by omega⟩ := by
  subst e
  pointwise [k0_pay1]
  refine Finset.sum_congr rfl fun k _ => ?_
  rw [Mat.colTerm]
  congr 1
  · blk_point [iblk, V, idx0 t]
  · blk_point [iblk, V, idx1 t]

theorem pay2_apply (a : Vec Ideal S1024x1024 .bf16) (b : Vec Ideal S1024x1024 .f32) (y : S1024x1024.Idx) :
    k0_pay2 a b y = k0_pay1 a b y := by
  pointwise [k0_pay2]

theorem pay3_apply (a : Vec Ideal S1024x1024 .bf16) (b : Vec Ideal S1024x1024 .f32) (s : Vec Ideal S1024x1024 .f32) (y : S1024x1024.Idx) :
    k0_pay3 a b s y = s y + k0_pay1 a b y := by
  pointwise [k0_pay3]

/-- After the last step the accumulator holds the whole product. -/
theorem acc_apply (t : Fin cfg0.N) (h3 : t.val % 4 = 3) (i : Fin 1024) (x : Fin 1024) :
    (outsAt0 m c t.val t.isLt).2 (ix2 i x) = Mat.colProd (T := 4096) (M := 1024) (W := 1024) (m ⟨c, main_arg0⟩) (m ⟨c, main_arg1⟩) i x := by
  have e1 := next m c t (by omega)
  have e2 := next m c ⟨t.val - 1, lt_of_le_of_lt (Nat.sub_le _ _) t.isLt⟩ (by show ¬(t.val - 1) % 4 = 0; omega)
  have e3 := next m c ⟨t.val - 2, lt_of_le_of_lt (Nat.sub_le _ _) t.isLt⟩ (by show ¬(t.val - 2) % 4 = 0; omega)
  have e4 := first m c ⟨t.val - 3, lt_of_le_of_lt (Nat.sub_le _ _) t.isLt⟩ (by show (t.val - 3) % 4 = 0; omega)
  have p1 := part_apply m c t i x 3 (by omega) h3
  have p2 := part_apply m c ⟨t.val - 1, lt_of_le_of_lt (Nat.sub_le _ _) t.isLt⟩ i x 2 (by omega) (by show (t.val - 1) % 4 = 2; omega)
  have p3 := part_apply m c ⟨t.val - 2, lt_of_le_of_lt (Nat.sub_le _ _) t.isLt⟩ i x 1 (by omega) (by show (t.val - 2) % 4 = 1; omega)
  have p4 := part_apply m c ⟨t.val - 3, lt_of_le_of_lt (Nat.sub_le _ _) t.isLt⟩ i x 0 (by omega) (by show (t.val - 3) % 4 = 0; omega)
  dsimp only at e2 e3 e4 p2 p3 p4
  simp only [Nat.sub_sub, Nat.reduceAdd] at e2 e3
  rw [e1, e2, e3, e4, pay3_apply, pay3_apply, pay3_apply, pay2_apply, p1, p2, p3, p4, Mat.colProd]
  exact (Fin.sum_univ_four fun s : Fin 4 => ∑ k : Fin 1024, Mat.colTerm (T := 4096) (M := 1024) (W := 1024) (m ⟨c, main_arg0⟩) (m ⟨c, main_arg1⟩) i x ⟨s * 1024 + k, by omega⟩).symm.trans
    (Fin.sum_mul_add_congr (S := 4) (n := 1024) fun s k hl => rfl)

/-- What the result array ends with. -/
theorem arr : (dats m 0 c).arrAt 2 cfg0.N = Mat.colProdOf (T := 4096) (M := 1024) (W := 1024) (m ⟨c, main_arg0⟩) (m ⟨c, main_arg1⟩) := by
  refine (dats m 0 c).arrAt_eq_of_covers 2 _ (by decide +kernel) fun t hf y => ?_
  have h3 : t.val % 4 = 3 := (flush0_2 t).mp hf
  have ht : t.val < 4 := lt_of_lt_of_eq t.isLt N_0
  blk_simp
  rw [after0_2, stored m c t h3]
  have hz : (win0_2.blk t).view.emb y = ix2 (n0 := 1024) (n1 := 1024) (y 0) (y 1) := by
    blk_ext [idx2 t]
  rw [hz, Mat.colProdOf]
  refine Eq.trans ?_ (acc_apply m c t h3 (y 0) (y 1))
  exact congrArg _ (eq_ix2 y)

end Cert.Kernel6Ideal.Dw

namespace Cert.Reference6Ideal.Dw

open Cert.Reference6Ideal Cert.Reference6Ideal.Gen Cert.Reference6Ideal.Value Idealize.ShloMosaic Idealize.ShloMosaic.TcCoe Idealize.SL.Sem

/-- The reference's run: its result is the product. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = Mat.colProdOf (T := 4096) (M := 1024) (W := 1024) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r hr c => ?_) (Cert.Reference6Ideal.Value.run (F := Ideal) m ρ)
  refine ⟨(hr c).1.trans ?_, (hr c).2⟩
  clear hr
  generalize m ((c.tc : Thread nD τ).loc main_arg0) = a0
  generalize m ((c.tc : Thread nD τ).loc main_arg1) = a1
  refine funext fun (z : S1024x1024.Idx) => ?_
  obtain ⟨i, j, rfl⟩ : ∃ i j, z = ix2 i j := ⟨z 0, z 1, eq_ix2 z⟩
  show _ = Mat.colProd (T := 4096) (M := 1024) (W := 1024) a0 a1 i j
  unfold Mat.colProd Mat.colTerm
  pointwise
  exact Finset.sum_congr rfl fun k _ => mul_comm _ _

end Cert.Reference6Ideal.Dw

end
-- ==== Proof.Dw7.lean ====
module

public import proofs.«01_k».proof.Proof.Gen.Kernel7Ideal.Value
public import proofs.«01_k».proof.Proof.Gen.Reference7Ideal.Run
public import proofs.«01_k».proof.Proof.Mat
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel7Ideal.Dw

open Cert.Kernel7Ideal Cert.Kernel7Ideal.Gen Idealize.ShloMosaic Idealize.ShloMosaic.TcCoe Idealize.SL.Sem

variable (m : (ℓ : Loc nD τ sig) → Buf (Elt Ideal) ℓ) (c : Dev nD)

/-! ### The accumulator's steps -/

theorem first (t : Fin cfg0.N) (h : t.val % 4 = 0) :
    (outsAt0 m c t.val t.isLt).2 = k0_pay2 (iblk m c 0 t) (iblk m c 1 t) := by
  have ht : t.val < 4 := lt_of_lt_of_eq t.isLt N_0
  rw [outsAt0_A m c t h (by omega) (by omega)]
  frame_out

theorem next (t : Fin cfg0.N) (h : ¬t.val % 4 = 0) :
    (outsAt0 m c t.val t.isLt).2 = k0_pay3 (iblk m c 0 t) (iblk m c 1 t) (outsAt0 m c (t.val - 1) (Nat.sub_lt_of_lt t.isLt)).2 := by
  have ht : t.val < 4 := lt_of_lt_of_eq t.isLt N_0
  by_cases h3 : t.val % 4 = 3
  · rw [outsAt0_C m c t h (by omega) h3]
    frame_out
    rw [read_unread_whole]
  · rw [outsAt0_B m c t h (by omega) h3]
    frame_out
    rw [read_unread_whole]

theorem stored (t : Fin cfg0.N) (h3 : t.val % 4 = 3) :
    (outsAt0 m c t.val t.isLt).1 = k0_pay4 (outsAt0 m c t.val t.isLt).2 := by
  rw [next m c t (by omega), outsAt0_C m c t (by omega) (by omega) h3]
  frame_out
  rw [read_unread_whole]

/-! ### The blocks of the grid -/

theorem idx0 : ∀ t : Fin cfg0.N, win0_0.index t = ![t.val % 4, 0] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![0, 0] := (by decide +kernel : ∀ t : Fin grid0.N, _)

/-- The partial product of one step, over the rows the step reads. -/
theorem part_apply (t : Fin cfg0.N) (i : Fin 1024) (x : Fin 1024) (b : ℕ) (hb : b < 4) (e : t.val % 4 = b) :
    k0_pay1 (iblk m c 0 t) (iblk m c 1 t) (ix2 i x)
      = ∑ k : Fin 1024, Mat.colTerm (T := 4096) (M := 1024) (W := 1024) (m ⟨c, main_arg0⟩) (m ⟨c, main_arg1⟩) i x ⟨b * 1024 + k, by omega⟩ := by
  subst e
  pointwise [k0_pay1]
  refine Finset.sum_congr rfl fun k _ => ?_
  rw [Mat.colTerm]
  congr 1
  · blk_point [iblk, V, idx0 t]
  · blk_point [iblk, V, idx1 t]

theorem pay2_apply (a : Vec Ideal S1024x1024 .bf16) (b : Vec Ideal S1024x1024 .bf16) (y : S1024x1024.Idx) :
    k0_pay2 a b y = k0_pay1 a b y := by
  pointwise [k0_pay2]

theorem pay3_apply (a : Vec Ideal S1024x1024 .bf16) (b : Vec Ideal S1024x1024 .bf16) (s : Vec Ideal S1024x1024 .f32) (y : S1024x1024.Idx) :
    k0_pay3 a b s y = s y + k0_pay1 a b y := by
  pointwise [k0_pay3]

/-- After the last step the accumulator holds the whole product. -/
theorem acc_apply (t : Fin cfg0.N) (h3 : t.val % 4 = 3) (i : Fin 1024) (x : Fin 1024) :
    (outsAt0 m c t.val t.isLt).2 (ix2 i x) = Mat.colProd (T := 4096) (M := 1024) (W := 1024) (m ⟨c, main_arg0⟩) (m ⟨c, main_arg1⟩) i x := by
  have e1 := next m c t (by omega)
  have e2 := next m c ⟨t.val - 1, lt_of_le_of_lt (Nat.sub_le _ _) t.isLt⟩ (by show ¬(t.val - 1) % 4 = 0; omega)
  have e3 := next m c ⟨t.val - 2, lt_of_le_of_lt (Nat.sub_le _ _) t.isLt⟩ (by show ¬(t.val - 2) % 4 = 0; omega)
  have e4 := first m c ⟨t.val - 3, lt_of_le_of_lt (Nat.sub_le _ _) t.isLt⟩ (by show (t.val - 3) % 4 = 0; omega)
  have p1 := part_apply m c t i x 3 (by omega) h3
  have p2 := part_apply m c ⟨t.val - 1, lt_of_le_of_lt (Nat.sub_le _ _) t.isLt⟩ i x 2 (by omega) (by show (t.val - 1) % 4 = 2; omega)
  have p3 := part_apply m c ⟨t.val - 2, lt_of_le_of_lt (Nat.sub_le _ _) t.isLt⟩ i x 1 (by omega) (by show (t.val - 2) % 4 = 1; omega)
  have p4 := part_apply m c ⟨t.val - 3, lt_of_le_of_lt (Nat.sub_le _ _) t.isLt⟩ i x 0 (by omega) (by show (t.val - 3) % 4 = 0; omega)
  dsimp only at e2 e3 e4 p2 p3 p4
  simp only [Nat.sub_sub, Nat.reduceAdd] at e2 e3
  rw [e1, e2, e3, e4, pay3_apply, pay3_apply, pay3_apply, pay2_apply, p1, p2, p3, p4, Mat.colProd]
  exact (Fin.sum_univ_four fun s : Fin 4 => ∑ k : Fin 1024, Mat.colTerm (T := 4096) (M := 1024) (W := 1024) (m ⟨c, main_arg0⟩) (m ⟨c, main_arg1⟩) i x ⟨s * 1024 + k, by omega⟩).symm.trans
    (Fin.sum_mul_add_congr (S := 4) (n := 1024) fun s k hl => rfl)

/-- What the result array ends with. -/
theorem arr : (dats m 0 c).arrAt 2 cfg0.N = Mat.colProdOf (T := 4096) (M := 1024) (W := 1024) (m ⟨c, main_arg0⟩) (m ⟨c, main_arg1⟩) := by
  refine (dats m 0 c).arrAt_eq_of_covers 2 _ (by decide +kernel) fun t hf y => ?_
  have h3 : t.val % 4 = 3 := (flush0_2 t).mp hf
  have ht : t.val < 4 := lt_of_lt_of_eq t.isLt N_0
  blk_simp
  rw [after0_2, stored m c t h3]
  have hz : (win0_2.blk t).view.emb y = ix2 (n0 := 1024) (n1 := 1024) (y 0) (y 1) := by
    blk_ext [idx2 t]
  rw [hz, Mat.colProdOf]
  refine Eq.trans ?_ (acc_apply m c t h3 (y 0) (y 1))
  exact congrArg _ (eq_ix2 y)

end Cert.Kernel7Ideal.Dw

namespace Cert.Reference7Ideal.Dw

open Cert.Reference7Ideal Cert.Reference7Ideal.Gen Cert.Reference7Ideal.Value Idealize.ShloMosaic Idealize.ShloMosaic.TcCoe Idealize.SL.Sem

/-- The reference's run: its result is the product. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = Mat.colProdOf (T := 4096) (M := 1024) (W := 1024) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r hr c => ?_) (Cert.Reference7Ideal.Value.run (F := Ideal) m ρ)
  refine ⟨(hr c).1.trans ?_, (hr c).2⟩
  clear hr
  generalize m ((c.tc : Thread nD τ).loc main_arg0) = a0
  generalize m ((c.tc : Thread nD τ).loc main_arg1) = a1
  refine funext fun (z : S1024x1024.Idx) => ?_
  obtain ⟨i, j, rfl⟩ : ∃ i j, z = ix2 i j := ⟨z 0, z 1, eq_ix2 z⟩
  show _ = Mat.colProd (T := 4096) (M := 1024) (W := 1024) a0 a1 i j
  unfold Mat.colProd Mat.colTerm
  pointwise
  exact Finset.sum_congr rfl fun k _ => mul_comm _ _

end Cert.Reference7Ideal.Dw

end
-- ==== Proof.Dw8.lean ====
module

public import proofs.«01_k».proof.Proof.Gen.Kernel8Ideal.Value
public import proofs.«01_k».proof.Proof.Gen.Reference8Ideal.Run
public import proofs.«01_k».proof.Proof.Mat
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel8Ideal.Dw

open Cert.Kernel8Ideal Cert.Kernel8Ideal.Gen Idealize.ShloMosaic Idealize.ShloMosaic.TcCoe Idealize.SL.Sem

variable (m : (ℓ : Loc nD τ sig) → Buf (Elt Ideal) ℓ) (c : Dev nD)

/-! ### The accumulator's steps -/

theorem first (t : Fin cfg0.N) (h : t.val % 4 = 0) :
    (outsAt0 m c t.val t.isLt).2 = k0_pay2 (iblk m c 0 t) (iblk m c 1 t) := by
  have ht : t.val < 4 := lt_of_lt_of_eq t.isLt N_0
  rw [outsAt0_A m c t h (by omega) (by omega)]
  frame_out

theorem next (t : Fin cfg0.N) (h : ¬t.val % 4 = 0) :
    (outsAt0 m c t.val t.isLt).2 = k0_pay3 (iblk m c 0 t) (iblk m c 1 t) (outsAt0 m c (t.val - 1) (Nat.sub_lt_of_lt t.isLt)).2 := by
  have ht : t.val < 4 := lt_of_lt_of_eq t.isLt N_0
  by_cases h3 : t.val % 4 = 3
  · rw [outsAt0_C m c t h (by omega) h3]
    frame_out
    rw [read_unread_whole]
  · rw [outsAt0_B m c t h (by omega) h3]
    frame_out
    rw [read_unread_whole]

theorem stored (t : Fin cfg0.N) (h3 : t.val % 4 = 3) :
    (outsAt0 m c t.val t.isLt).1 = k0_pay4 (outsAt0 m c t.val t.isLt).2 := by
  rw [next m c t (by omega), outsAt0_C m c t (by omega) (by omega) h3]
  frame_out
  rw [read_unread_whole]

/-! ### The blocks of the grid -/

theorem idx0 : ∀ t : Fin cfg0.N, win0_0.index t = ![t.val % 4, 0] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![0, 0] := (by decide +kernel : ∀ t : Fin grid0.N, _)

/-- The partial product of one step, over the rows the step reads. -/
theorem part_apply (t : Fin cfg0.N) (i : Fin 1024) (x : Fin 256) (b : ℕ) (hb : b < 4) (e : t.val % 4 = b) :
    k0_pay1 (iblk m c 0 t) (iblk m c 1 t) (ix2 i x)
      = ∑ k : Fin 1024, Mat.colTerm (T := 4096) (M := 1024) (W := 256) (m ⟨c, main_arg0⟩) (m ⟨c, main_arg1⟩) i x ⟨b * 1024 + k, by omega⟩ := by
  subst e
  pointwise [k0_pay1]
  refine Finset.sum_congr rfl fun k _ => ?_
  rw [Mat.colTerm]
  congr 1
  · blk_point [iblk, V, idx0 t]
  · blk_point [iblk, V, idx1 t]

theorem pay2_apply (a : Vec Ideal S1024x1024 .bf16) (b : Vec Ideal S1024x256 .bf16) (y : S1024x256.Idx) :
    k0_pay2 a b y = k0_pay1 a b y := by
  pointwise [k0_pay2]

theorem pay3_apply (a : Vec Ideal S1024x1024 .bf16) (b : Vec Ideal S1024x256 .bf16) (s : Vec Ideal S1024x256 .f32) (y : S1024x256.Idx) :
    k0_pay3 a b s y = s y + k0_pay1 a b y := by
  pointwise [k0_pay3]

/-- After the last step the accumulator holds the whole product. -/
theorem acc_apply (t : Fin cfg0.N) (h3 : t.val % 4 = 3) (i : Fin 1024) (x : Fin 256) :
    (outsAt0 m c t.val t.isLt).2 (ix2 i x) = Mat.colProd (T := 4096) (M := 1024) (W := 256) (m ⟨c, main_arg0⟩) (m ⟨c, main_arg1⟩) i x := by
  have e1 := next m c t (by omega)
  have e2 := next m c ⟨t.val - 1, lt_of_le_of_lt (Nat.sub_le _ _) t.isLt⟩ (by show ¬(t.val - 1) % 4 = 0; omega)
  have e3 := next m c ⟨t.val - 2, lt_of_le_of_lt (Nat.sub_le _ _) t.isLt⟩ (by show ¬(t.val - 2) % 4 = 0; omega)
  have e4 := first m c ⟨t.val - 3, lt_of_le_of_lt (Nat.sub_le _ _) t.isLt⟩ (by show (t.val - 3) % 4 = 0; omega)
  have p1 := part_apply m c t i x 3 (by omega) h3
  have p2 := part_apply m c ⟨t.val - 1, lt_of_le_of_lt (Nat.sub_le _ _) t.isLt⟩ i x 2 (by omega) (by show (t.val - 1) % 4 = 2; omega)
  have p3 := part_apply m c ⟨t.val - 2, lt_of_le_of_lt (Nat.sub_le _ _) t.isLt⟩ i x 1 (by omega) (by show (t.val - 2) % 4 = 1; omega)
  have p4 := part_apply m c ⟨t.val - 3, lt_of_le_of_lt (Nat.sub_le _ _) t.isLt⟩ i x 0 (by omega) (by show (t.val - 3) % 4 = 0; omega)
  dsimp only at e2 e3 e4 p2 p3 p4
  simp only [Nat.sub_sub, Nat.reduceAdd] at e2 e3
  rw [e1, e2, e3, e4, pay3_apply, pay3_apply, pay3_apply, pay2_apply, p1, p2, p3, p4, Mat.colProd]
  exact (Fin.sum_univ_four fun s : Fin 4 => ∑ k : Fin 1024, Mat.colTerm (T := 4096) (M := 1024) (W := 256) (m ⟨c, main_arg0⟩) (m ⟨c, main_arg1⟩) i x ⟨s * 1024 + k, by omega⟩).symm.trans
    (Fin.sum_mul_add_congr (S := 4) (n := 1024) fun s k hl => rfl)

/-- What the result array ends with. -/
theorem arr : (dats m 0 c).arrAt 2 cfg0.N = Mat.colProdOf (T := 4096) (M := 1024) (W := 256) (m ⟨c, main_arg0⟩) (m ⟨c, main_arg1⟩) := by
  refine (dats m 0 c).arrAt_eq_of_covers 2 _ (by decide +kernel) fun t hf y => ?_
  have h3 : t.val % 4 = 3 := (flush0_2 t).mp hf
  have ht : t.val < 4 := lt_of_lt_of_eq t.isLt N_0
  blk_simp
  rw [after0_2, stored m c t h3]
  have hz : (win0_2.blk t).view.emb y = ix2 (n0 := 1024) (n1 := 256) (y 0) (y 1) := by
    blk_ext [idx2 t]
  rw [hz, Mat.colProdOf]
  refine Eq.trans ?_ (acc_apply m c t h3 (y 0) (y 1))
  exact congrArg _ (eq_ix2 y)

end Cert.Kernel8Ideal.Dw

namespace Cert.Reference8Ideal.Dw

open Cert.Reference8Ideal Cert.Reference8Ideal.Gen Cert.Reference8Ideal.Value Idealize.ShloMosaic Idealize.ShloMosaic.TcCoe Idealize.SL.Sem

/-- The reference's run: its result is the product. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = Mat.colProdOf (T := 4096) (M := 1024) (W := 256) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r hr c => ?_) (Cert.Reference8Ideal.Value.run (F := Ideal) m ρ)
  refine ⟨(hr c).1.trans ?_, (hr c).2⟩
  clear hr
  generalize m ((c.tc : Thread nD τ).loc main_arg0) = a0
  generalize m ((c.tc : Thread nD τ).loc main_arg1) = a1
  refine funext fun (z : S1024x256.Idx) => ?_
  obtain ⟨i, j, rfl⟩ : ∃ i j, z = ix2 i j := ⟨z 0, z 1, eq_ix2 z⟩
  show _ = Mat.colProd (T := 4096) (M := 1024) (W := 256) a0 a1 i j
  unfold Mat.colProd Mat.colTerm
  pointwise

end Cert.Reference8Ideal.Dw

end
-- ==== Proof.Dx9.lean ====
module

public import proofs.«01_k».proof.Proof.Gen.Kernel9Ideal.Value
public import proofs.«01_k».proof.Proof.Gen.Reference9Ideal.Run
public import proofs.«01_k».proof.Proof.Mat
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel9Ideal.Dx

open Cert.Kernel9Ideal Cert.Kernel9Ideal.Gen Idealize.ShloMosaic Idealize.ShloMosaic.TcCoe Idealize.SL.Sem

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem out_apply (t : Fin cfg0.N) (i : Fin 1024) (x : Fin 1024) (hi : 1024 * t.val + i < 4096) :
    out0_2 (iblk m c 0 t) (iblk m c 1 t) (ix2 i x)
      = Mat.rowProd (M := 4096) (K := 1024) (N := 1024) (m ⟨c, main_arg0⟩) (m ⟨c, main_arg1⟩) ⟨1024 * t.val + i, hi⟩ x := by
  frame_out
  rw [Mat.rowProd]
  pointwise [k0_pay1]
  refine Finset.sum_congr rfl fun k _ => ?_
  congr 1
  · blk_point [iblk, V, idx0 t]
  · blk_point [iblk, V, idx1 t]

/-- What the result array ends with. -/
theorem arr : (dats m 0 c).arrAt 2 cfg0.N = fun z : S4096x1024.Idx => Mat.rowProd (M := 4096) (K := 1024) (N := 1024) (m ⟨c, main_arg0⟩) (m ⟨c, main_arg1⟩) (z 0) (z 1) := by
  refine (dats m 0 c).arrAt_eq_of_covers 2 _ (by decide +kernel) fun t hf y => ?_
  have ht : t.val < 4 := lt_of_lt_of_eq t.isLt N_0
  blk_simp
  rw [after0_2]
  have y0 : ((y 0 : Fin _) : ℕ) < 1024 := (y 0).isLt
  have hi : 1024 * t.val + ((y 0 : Fin _) : ℕ) < 4096 := by omega
  have hz : (win0_2.blk t).view.emb y = ix2 (n0 := 4096) (n1 := 1024) ⟨1024 * t.val + ((y 0 : Fin _) : ℕ), hi⟩ (y 1) := by
    blk_ext [idx2 t]
  rw [hz]
  refine Eq.trans ?_ (out_apply m c t (y 0) (y 1) hi)
  exact congrArg _ (eq_ix2 y)

end Cert.Kernel9Ideal.Dx

namespace Cert.Reference9Ideal.Dx

open Cert.Reference9Ideal Cert.Reference9Ideal.Gen Cert.Reference9Ideal.Value Idealize.ShloMosaic Idealize.ShloMosaic.TcCoe Idealize.SL.Sem

/-- The reference's run: its result is the product. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = (fun z : S4096x1024.Idx => Mat.rowProd (M := 4096) (K := 1024) (N := 1024) (m ((c.tc : Thread nD τ).loc main_arg0)) (m ((c.tc : Thread nD τ).loc main_arg1)) (z 0) (z 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r hr c => ?_) (Cert.Reference9Ideal.Value.run (F := Ideal) m ρ)
  refine ⟨(hr c).1.trans ?_, (hr c).2⟩
  clear hr
  generalize m ((c.tc : Thread nD τ).loc main_arg0) = a0
  generalize m ((c.tc : Thread nD τ).loc main_arg1) = a1
  refine funext fun (z : S4096x1024.Idx) => ?_
  obtain ⟨i, j, rfl⟩ : ∃ i j, z = ix2 i j := ⟨z 0, z 1, eq_ix2 z⟩
  show _ = Mat.rowProd (M := 4096) (K := 1024) (N := 1024) a0 a1 i j
  unfold Mat.rowProd
  pointwise

end Cert.Reference9Ideal.Dx

end
-- ==== Proof.Dx10.lean ====
module

public import proofs.«01_k».proof.Proof.Gen.Kernel10Ideal.Value
public import proofs.«01_k».proof.Proof.Gen.Reference10Ideal.Run
public import proofs.«01_k».proof.Proof.Rms
public import proofs.«01_k».proof.Proof.Mat
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel10Ideal.Dx

open Cert.Kernel10Ideal Cert.Kernel10Ideal.Gen Idealize.ShloMosaic Idealize.ShloMosaic.TcCoe Idealize.SL.Sem

variable (m : (ℓ : Loc nD τ sig) → Buf (Elt Ideal) ℓ) (c : Dev nD)

theorem scratch_A (t : Fin cfg0.N) (h0 : t.val % 3 = 0) (h1 : ¬1 ≤ t.val % 3) (h2 : ¬t.val % 3 = 2) :
    (outsAt0 m c t.val t.isLt).2.2 = k0_pay2 (iblk m c 0 t) (iblk m c 1 t) := by
  rw [outsAt0_A m c t h0 h1 h2]
  frame_out

theorem scratch_B (t : Fin cfg0.N) (h0 : ¬t.val % 3 = 0) (h1 : 1 ≤ t.val % 3) (h2 : ¬t.val % 3 = 2) :
    (outsAt0 m c t.val t.isLt).2.2 = k0_pay3 (iblk m c 0 t) (iblk m c 1 t) (outsAt0 m c (t.val - 1) (Nat.sub_lt_of_lt t.isLt)).2.2 := by
  rw [outsAt0_B m c t h0 h1 h2]
  frame_out
  rw [read_unread_whole]

theorem scratch_C (t : Fin cfg0.N) (h0 : ¬t.val % 3 = 0) (h1 : 1 ≤ t.val % 3) (h2 : t.val % 3 = 2) (h3 : t.val < 3) (h4 : ¬3 ≤ t.val) :
    (outsAt0 m c t.val t.isLt).2.2 = k0_pay3 (iblk m c 0 t) (iblk m c 1 t) (outsAt0 m c (t.val - 1) (Nat.sub_lt_of_lt t.isLt)).2.2 := by
  rw [outsAt0_C m c t h0 h1 h2 h3 h4]
  frame_out
  rw [read_unread_whole]

theorem scratch_D (t : Fin cfg0.N) (h0 : ¬t.val % 3 = 0) (h1 : 1 ≤ t.val % 3) (h2 : t.val % 3 = 2) (h3 : ¬t.val < 3) (h4 : 3 ≤ t.val) :
    (outsAt0 m c t.val t.isLt).2.2 = k0_pay3 (iblk m c 0 t) (iblk m c 1 t) (outsAt0 m c (t.val - 1) (Nat.sub_lt_of_lt t.isLt)).2.2 := by
  rw [outsAt0_D m c t h0 h1 h2 h3 h4]
  frame_out
  rw [read_unread_whole]

/-- The reciprocal root mean square of each of 32 rows. -/
def rstdV (h : FVec Ideal S32x1024 .f32) : FVec Ideal S32x1 .f32 :=
  rsqrt (addf (divf (shapeCast S32x1 (multiReduction .add [1] S32 (mulf h h) 0x00000000#32 reduces_S32x1024_S32 (.inl rfl) rfl) shapeCasts_S32_S32x1)
    (broadcast S32x1 (Scalar.ofBits (F := Ideal) .f32 0x44800000#32))) (broadcast S32x1 (Scalar.ofBits (F := Ideal) .f32 0x358637BD#32)))

/-- What the epilogue stores for 32 rows of the product `g`. -/
def dhV (g h : FVec Ideal S32x1024 .f32) (w : FVec Ideal S1x1024 .f32) (sk : FVec Ideal S32x1024 .f32) : FVec Ideal S32x1024 .f32 :=
  addf (mulf (broadcastTo S32x1024 (rstdV h) broadcasts_S32x1_S32x1024)
    (subf (mulf g (broadcastTo S32x1024 (shapeCast S1x1024 w shapeCasts_S1x1024_S1x1024) broadcasts_S1x1024_S32x1024))
      (mulf (mulf h (broadcastTo S32x1024 (rstdV h) broadcasts_S32x1_S32x1024))
        (broadcastTo S32x1024 (mulf (mulf (shapeCast S32x1 (multiReduction .add [1] S32
          (mulf (mulf g (broadcastTo S32x1024 (shapeCast S1x1024 w shapeCasts_S1x1024_S1x1024) broadcasts_S1x1024_S32x1024)) h)
          0x00000000#32 reduces_S32x1024_S32 (.inl rfl) rfl) shapeCasts_S32_S32x1) (rstdV h))
          (broadcast S32x1 (Scalar.ofBits (F := Ideal) .f32 0x3A800000#32))) broadcasts_S32x1_S32x1024)))) sk

/-- The norm weight's gradient from 32 more rows, over what the rows before gave. -/
def dwV (acc : FVec Ideal S1x1024 .f32) (g h : FVec Ideal S32x1024 .f32) : FVec Ideal S1x1024 .f32 :=
  addf acc (shapeCast S1x1024 (multiReduction .add [0] S1024 (mulf g (mulf h (broadcastTo S32x1024 (rstdV h) broadcasts_S32x1_S32x1024)))
    0x00000000#32 reduces_S32x1024_S1024 (.inl rfl) rfl) shapeCasts_S1024_S1x1024)

def zeroRow : FVec Ideal S1x1024 .f32 := broadcast S1x1024 (Scalar.ofBits (F := Ideal) .f32 0x00000000#32)

theorem rstdV_apply (h : FVec Ideal S32x1024 .f32) (y : S32x1.Idx) : rstdV h y = Rms.inv (Rms.row h (y 0)) := by
  unfold rstdV Rms.inv Rms.meanSq
  pointwise

theorem dhV_apply (g h : FVec Ideal S32x1024 .f32) (w : FVec Ideal S1x1024 .f32) (sk : FVec Ideal S32x1024 .f32) (y : S32x1024.Idx) :
    dhV g h w sk y = Rms.rowDh (Rms.row g (y 0)) (Rms.row h (y 0)) (Rms.row w 0) (sk y) (y 1) := by
  have e : ∀ X : FVec Ideal S32x1024 .f32, X y = X (ix2 (y 0) (y 1)) := fun X => congrArg X (eq_ix2 y)
  unfold dhV Rms.rowDh
  pointwise [rstdV_apply]
  rw [e g, e h]

theorem dwV_apply (acc : FVec Ideal S1x1024 .f32) (g h : FVec Ideal S32x1024 .f32) (y : S1x1024.Idx) :
    dwV acc g h y = acc y + ∑ r : Fin 32, g (ix2 r (y 1)) * (h (ix2 r (y 1)) * Rms.inv (Rms.row h r)) := by
  unfold dwV
  pointwise [rstdV_apply]

/-- One stored piece of the block of `dh`: its rows are rows of the block. -/
theorem piece (A H S : Vec Ideal S512x1024 .f32) (w : FVec Ideal S1x1024 .f32) (o : ℕ)
    (inb : ∀ a, (![o, 0] : Fin 2 → ℕ) a + S32x1024.size a ≤ S512x1024.size a) (y : S32x1024.Idx) (z : S512x1024.Idx)
    (h0 : (z 0 : ℕ) = o + (y 0 : ℕ)) (h1 : (z 1 : ℕ) = (y 1 : ℕ)) :
    dhV (View.ld A (Rect.unit (s := S512x1024) ![o, 0] S32x1024.size inb)) (View.ld H (Rect.unit (s := S512x1024) ![o, 0] S32x1024.size inb)) w
      (View.ld S (Rect.unit (s := S512x1024) ![o, 0] S32x1024.size inb)) y
      = Rms.rowDh (Rms.row A (z 0)) (Rms.row H (z 0)) (Rms.row w 0) (S z) (z 1) := by
  have e : ∀ (X : Vec Ideal S512x1024 .f32) (x : Fin 1024),
      View.ld X (Rect.unit (s := S512x1024) ![o, 0] S32x1024.size inb) (ix2 (y 0) x) = X (ix2 (z 0) x) := fun X x => by
    rw [View.ld_apply]
    congr 1
    funext a
    fin_cases a <;> apply Fin.ext <;> simp [h0]
  have e1 : View.ld S (Rect.unit (s := S512x1024) ![o, 0] S32x1024.size inb) y = S z := by
    have := e S (y 1)
    rw [← eq_ix2 y] at this
    rw [this]
    congr 1
    funext a
    fin_cases a <;> apply Fin.ext <;> simp [h1]
  rw [dhV_apply, e1]
  congr 1
  · exact funext (e A)
  · exact funext (e H)
  · exact Fin.ext h1.symm

theorem dh_C (t : Fin cfg0.N) (h0 : ¬t.val % 3 = 0) (h1 : 1 ≤ t.val % 3) (h2 : t.val % 3 = 2) (h3 : t.val < 3) (h4 : ¬3 ≤ t.val) (y : S512x1024.Idx) :
    (outsAt0 m c t.val t.isLt).1 y = Rms.rowDh (Rms.row (outsAt0 m c t.val t.isLt).2.2 (y 0)) (Rms.row (iblk m c 2 t) (y 0)) (Rms.row (iblk m c 4 t) 0) (iblk m c 3 t y) (y 1) := by
  rw [scratch_C m c t h0 h1 h2 h3 h4, outsAt0_C m c t h0 h1 h2 h3 h4]
  frame_open
  simp (disch := decide) only [↓ View.readCov_fill]
  frame_out
  rw [read_unread_whole]
  generalize hA : (k0_pay3 (F := Ideal) _ _ _) = A
  canon_tiles y h
  all_goals
    open_payloads
    exact piece A (iblk m c 2 t) (iblk m c 3 t) (iblk m c 4 t) _ _ _ _ (by omega) (by assumption)

theorem dh_D (t : Fin cfg0.N) (h0 : ¬t.val % 3 = 0) (h1 : 1 ≤ t.val % 3) (h2 : t.val % 3 = 2) (h3 : ¬t.val < 3) (h4 : 3 ≤ t.val) (y : S512x1024.Idx) :
    (outsAt0 m c t.val t.isLt).1 y = Rms.rowDh (Rms.row (outsAt0 m c t.val t.isLt).2.2 (y 0)) (Rms.row (iblk m c 2 t) (y 0)) (Rms.row (iblk m c 4 t) 0) (iblk m c 3 t y) (y 1) := by
  rw [scratch_D m c t h0 h1 h2 h3 h4, outsAt0_D m c t h0 h1 h2 h3 h4]
  frame_open
  simp (disch := decide) only [↓ View.readCov_fill]
  frame_out
  rw [read_unread_whole]
  generalize hA : (k0_pay3 (F := Ideal) _ _ _) = A
  canon_tiles y h
  all_goals
    open_payloads
    exact piece A (iblk m c 2 t) (iblk m c 3 t) (iblk m c 4 t) _ _ _ _ (by omega) (by assumption)

/-- The norm weight's gradient from the 512 rows of a block. -/
def dwAll (A H : Vec Ideal S512x1024 .f32) : FVec Ideal S1x1024 .f32 :=
  (dwV (dwV (dwV (dwV (dwV (dwV (dwV (dwV (dwV (dwV (dwV (dwV (dwV (dwV (dwV (dwV zeroRow
    (View.ld A (Rect.unit (s := S512x1024) ![0, 0] S32x1024.size inb_S512x1024_S32x1024_0_0))
    (View.ld H (Rect.unit (s := S512x1024) ![0, 0] S32x1024.size inb_S512x1024_S32x1024_0_0)))
    (View.ld A (Rect.unit (s := S512x1024) ![32, 0] S32x1024.size inb_S512x1024_S32x1024_32_0))
    (View.ld H (Rect.unit (s := S512x1024) ![32, 0] S32x1024.size inb_S512x1024_S32x1024_32_0)))
    (View.ld A (Rect.unit (s := S512x1024) ![64, 0] S32x1024.size inb_S512x1024_S32x1024_64_0))
    (View.ld H (Rect.unit (s := S512x1024) ![64, 0] S32x1024.size inb_S512x1024_S32x1024_64_0)))
    (View.ld A (Rect.unit (s := S512x1024) ![96, 0] S32x1024.size inb_S512x1024_S32x1024_96_0))
    (View.ld H (Rect.unit (s := S512x1024) ![96, 0] S32x1024.size inb_S512x1024_S32x1024_96_0)))
    (View.ld A (Rect.unit (s := S512x1024) ![128, 0] S32x1024.size inb_S512x1024_S32x1024_128_0))
    (View.ld H (Rect.unit (s := S512x1024) ![128, 0] S32x1024.size inb_S512x1024_S32x1024_128_0)))
    (View.ld A (Rect.unit (s := S512x1024) ![160, 0] S32x1024.size inb_S512x1024_S32x1024_160_0))
    (View.ld H (Rect.unit (s := S512x1024) ![160, 0] S32x1024.size inb_S512x1024_S32x1024_160_0)))
    (View.ld A (Rect.unit (s := S512x1024) ![192, 0] S32x1024.size inb_S512x1024_S32x1024_192_0))
    (View.ld H (Rect.unit (s := S512x1024) ![192, 0] S32x1024.size inb_S512x1024_S32x1024_192_0)))
    (View.ld A (Rect.unit (s := S512x1024) ![224, 0] S32x1024.size inb_S512x1024_S32x1024_224_0))
    (View.ld H (Rect.unit (s := S512x1024) ![224, 0] S32x1024.size inb_S512x1024_S32x1024_224_0)))
    (View.ld A (Rect.unit (s := S512x1024) ![256, 0] S32x1024.size inb_S512x1024_S32x1024_256_0))
    (View.ld H (Rect.unit (s := S512x1024) ![256, 0] S32x1024.size inb_S512x1024_S32x1024_256_0)))
    (View.ld A (Rect.unit (s := S512x1024) ![288, 0] S32x1024.size inb_S512x1024_S32x1024_288_0))
    (View.ld H (Rect.unit (s := S512x1024) ![288, 0] S32x1024.size inb_S512x1024_S32x1024_288_0)))
    (View.ld A (Rect.unit (s := S512x1024) ![320, 0] S32x1024.size inb_S512x1024_S32x1024_320_0))
    (View.ld H (Rect.unit (s := S512x1024) ![320, 0] S32x1024.size inb_S512x1024_S32x1024_320_0)))
    (View.ld A (Rect.unit (s := S512x1024) ![352, 0] S32x1024.size inb_S512x1024_S32x1024_352_0))
    (View.ld H (Rect.unit (s := S512x1024) ![352, 0] S32x1024.size inb_S512x1024_S32x1024_352_0)))
    (View.ld A (Rect.unit (s := S512x1024) ![384, 0] S32x1024.size inb_S512x1024_S32x1024_384_0))
    (View.ld H (Rect.unit (s := S512x1024) ![384, 0] S32x1024.size inb_S512x1024_S32x1024_384_0)))
    (View.ld A (Rect.unit (s := S512x1024) ![416, 0] S32x1024.size inb_S512x1024_S32x1024_416_0))
    (View.ld H (Rect.unit (s := S512x1024) ![416, 0] S32x1024.size inb_S512x1024_S32x1024_416_0)))
    (View.ld A (Rect.unit (s := S512x1024) ![448, 0] S32x1024.size inb_S512x1024_S32x1024_448_0))
    (View.ld H (Rect.unit (s := S512x1024) ![448, 0] S32x1024.size inb_S512x1024_S32x1024_448_0)))
    (View.ld A (Rect.unit (s := S512x1024) ![480, 0] S32x1024.size inb_S512x1024_S32x1024_480_0))
    (View.ld H (Rect.unit (s := S512x1024) ![480, 0] S32x1024.size inb_S512x1024_S32x1024_480_0)))

theorem dw_C (t : Fin cfg0.N) (h0 : ¬t.val % 3 = 0) (h1 : 1 ≤ t.val % 3) (h2 : t.val % 3 = 2) (h3 : t.val < 3) (h4 : ¬3 ≤ t.val) :
    (outsAt0 m c t.val t.isLt).2.1 = dwAll (outsAt0 m c t.val t.isLt).2.2 (iblk m c 2 t) := by
  rw [scratch_C m c t h0 h1 h2 h3 h4, outsAt0_C m c t h0 h1 h2 h3 h4]
  frame_open
  simp (disch := decide) only [↓ View.readCov_fill]
  frame_out
  rw [read_unread_whole]
  generalize hA : (k0_pay3 (F := Ideal) _ _ _) = A
  open_payloads
  rfl

theorem dw_D (t : Fin cfg0.N) (h0 : ¬t.val % 3 = 0) (h1 : 1 ≤ t.val % 3) (h2 : t.val % 3 = 2) (h3 : ¬t.val < 3) (h4 : 3 ≤ t.val) :
    (outsAt0 m c t.val t.isLt).2.1 = k0_pay4 (dwAll (outsAt0 m c t.val t.isLt).2.2 (iblk m c 2 t)) (outsAt0 m c (t.val - 1) (Nat.sub_lt_of_lt t.isLt)).2.1 := by
  rw [scratch_D m c t h0 h1 h2 h3 h4, outsAt0_D m c t h0 h1 h2 h3 h4]
  frame_open
  simp (disch := decide) only [↓ View.readCov_fill]
  frame_out
  rw [read_unread_whole]
  generalize hA : (k0_pay3 (F := Ideal) _ _ _) = A
  open_payloads
  rfl

theorem dw_A (t : Fin cfg0.N) (h0 : t.val % 3 = 0) (h1 : ¬1 ≤ t.val % 3) (h2 : ¬t.val % 3 = 2) :
    (outsAt0 m c t.val t.isLt).2.1 = (outsAt0 m c (t.val - 1) (Nat.sub_lt_of_lt t.isLt)).2.1 := by
  rw [outsAt0_A m c t h0 h1 h2]
  dsimp only
  unfold out0_A_6
  rfl

theorem dw_B (t : Fin cfg0.N) (h0 : ¬t.val % 3 = 0) (h1 : 1 ≤ t.val % 3) (h2 : ¬t.val % 3 = 2) :
    (outsAt0 m c t.val t.isLt).2.1 = (outsAt0 m c (t.val - 1) (Nat.sub_lt_of_lt t.isLt)).2.1 := by
  rw [outsAt0_B m c t h0 h1 h2]
  dsimp only
  unfold out0_B_6
  rfl

/-- The term of the norm weight's gradient a row of a block contributes, zero beyond the block. -/
def dwTerm (A H : Vec Ideal S512x1024 .f32) (j : Fin 1024) (k : ℕ) : EReal :=
  if h : k < 512 then A (ix2 ⟨k, h⟩ j) * (H (ix2 ⟨k, h⟩ j) * Rms.inv (Rms.row H ⟨k, h⟩)) else 0

theorem dwV_chunk (A H : Vec Ideal S512x1024 .f32) (j : Fin 1024) (acc : FVec Ideal S1x1024 .f32) (o : ℕ)
    (inb : ∀ a, (![o, 0] : Fin 2 → ℕ) a + S32x1024.size a ≤ S512x1024.size a)
    (h : acc (ix2 0 j) = ∑ k ∈ Finset.range o, dwTerm A H j k) :
    dwV acc (View.ld A (Rect.unit (s := S512x1024) ![o, 0] S32x1024.size inb)) (View.ld H (Rect.unit (s := S512x1024) ![o, 0] S32x1024.size inb)) (ix2 0 j)
      = ∑ k ∈ Finset.range (o + 32), dwTerm A H j k := by
  have ho : o + 32 ≤ 512 := inb 0
  have e : ∀ (X : Vec Ideal S512x1024 .f32) (r : Fin 32) (x : Fin 1024),
      View.ld X (Rect.unit (s := S512x1024) ![o, 0] S32x1024.size inb) (ix2 r x) = X (ix2 ⟨o + r, by omega⟩ x) := fun X r x => by
    rw [View.ld_apply]
    congr 1
    funext a
    fin_cases a <;> apply Fin.ext <;> simp
  rw [dwV_apply, h, Finset.sum_range_add, ← Fin.sum_univ_eq_sum_range (fun k => dwTerm A H j (o + k)) 32]
  congr 1
  refine Finset.sum_congr rfl fun r _ => ?_
  have hr : o + (r : ℕ) < 512 := by omega
  rw [dwTerm, dif_pos hr]
  exact congrArg₂ (· * ·) (e A r j) (congrArg₂ (· * ·) (e H r j) (congrArg Rms.inv (funext (e H r))))

theorem zeroRow_apply (j : Fin 1024) : zeroRow (ix2 0 j) = 0 := by
  unfold zeroRow
  pointwise

theorem dwAll_apply (A H : Vec Ideal S512x1024 .f32) (j : Fin 1024) :
    dwAll A H (ix2 0 j) = ∑ k ∈ Finset.range 512, dwTerm A H j k := by
  unfold dwAll
  iterate 16 refine dwV_chunk A H j _ _ _ ?_
  rw [zeroRow_apply, Finset.sum_range_zero]

theorem pay_apply (a b : FVec Ideal S1x1024 .f32) (y : S1x1024.Idx) : k0_pay4 a b y = b y + a y := by
  pointwise [k0_pay4]

/-! ### The blocks of the grid -/

theorem idx0 : ∀ t : Fin cfg0.N, win0_0.index t = ![t.val / 3, t.val % 3] := (by decide +kernel : ∀ t : Fin grid0.N, _)
theorem idx1 : ∀ t : Fin cfg0.N, win0_1.index t = ![t.val % 3, 0] := (by decide +kernel : ∀ t : Fin grid0.N, _)
theorem idx2 : ∀ t : Fin cfg0.N, win0_2.index t = ![t.val / 3, 0] := (by decide +kernel : ∀ t : Fin grid0.N, _)
theorem idx3 : ∀ t : Fin cfg0.N, win0_3.index t = ![t.val / 3, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val / 3, 0] := (by decide +kernel : ∀ t : Fin grid0.N, _)
theorem idx6 : ∀ t : Fin cfg0.N, win0_6.index t = ![0, 0] := (by decide +kernel : ∀ t : Fin grid0.N, _)

theorem h_apply (t : Fin cfg0.N) (i : Fin 512) (x : Fin 1024) (hi : 512 * (t.val / 3) + i < 4096) :
    iblk m c 2 t (ix2 i x) = m ⟨c, main_arg2⟩ (ix2 ⟨512 * (t.val / 3) + i, hi⟩ x) := by
  blk_point [iblk, V, idx2 t]

theorem w_apply (t : Fin cfg0.N) (x : Fin 1024) :
    iblk m c 4 t (ix2 0 x) = m ⟨c, main_arg4⟩ (ix1 x) := by
  blk_point [iblk, V, idx4 t]

/-- One term of the product. -/
def term (i : Fin 4096) (x : Fin 1024) (k : Fin 4224) : EReal :=
  let A : FVec Ideal S4096x4224 .bf16 := m ⟨c, main_arg0⟩
  let B : FVec Ideal S4224x1024 .bf16 := m ⟨c, main_arg1⟩
  A (ix2 i k) * B (ix2 k x)

/-- The product of one step's blocks: a third of each sum. -/
theorem part_apply (t : Fin cfg0.N) (i : Fin 512) (x : Fin 1024) (hi : 512 * (t.val / 3) + i < 4096) (d : ℕ) (hd : d < 3) (e : t.val % 3 = d) :
    k0_pay1 (iblk m c 0 t) (iblk m c 1 t) (ix2 i x) = ∑ k : Fin 1408, term m c ⟨512 * (t.val / 3) + i, hi⟩ x ⟨d * 1408 + k, by omega⟩ := by
  subst e
  pointwise [k0_pay1]
  refine Finset.sum_congr rfl fun k _ => ?_
  rw [term]
  congr 1
  · blk_point [iblk, V, idx0 t]
  · blk_point [iblk, V, idx1 t]

theorem pay2_apply (a : Vec Ideal S512x1408 .bf16) (b : Vec Ideal S1408x1024 .bf16) (y : S512x1024.Idx) :
    k0_pay2 a b y = k0_pay1 a b y := by
  pointwise [k0_pay2]

theorem pay3_apply (a : Vec Ideal S512x1408 .bf16) (b : Vec Ideal S1408x1024 .bf16) (s : Vec Ideal S512x1024 .f32) (y : S512x1024.Idx) :
    k0_pay3 a b s y = s y + k0_pay1 a b y := by
  pointwise [k0_pay3]

theorem acc_apply (t : Fin cfg0.N) (h2 : t.val % 3 = 2) (i : Fin 512) (x : Fin 1024) (hi : 512 * (t.val / 3) + i < 4096) :
    (outsAt0 m c t.val t.isLt).2.2 (ix2 i x) = Mat.prod (M := 4096) (K := 4224) (N := 1024) (m ⟨c, main_arg0⟩) (m ⟨c, main_arg1⟩) ⟨512 * (t.val / 3) + i, hi⟩ x := by
  have hC : (outsAt0 m c t.val t.isLt).2.2 = k0_pay3 (iblk m c 0 t) (iblk m c 1 t) (outsAt0 m c (t.val - 1) (Nat.sub_lt_of_lt t.isLt)).2.2 := by
    by_cases h : t.val < 3
    · exact scratch_C m c t (by omega) (by omega) h2 h (by omega)
    · exact scratch_D m c t (by omega) (by omega) h2 h (by omega)
  have e2 := scratch_B m c ⟨t.val - 1, lt_of_le_of_lt (Nat.sub_le _ _) t.isLt⟩ (by show ¬(t.val - 1) % 3 = 0; omega) (by show 1 ≤ (t.val - 1) % 3; omega) (by show ¬(t.val - 1) % 3 = 2; omega)
  have e3 := scratch_A m c ⟨t.val - 2, lt_of_le_of_lt (Nat.sub_le _ _) t.isLt⟩ (by show (t.val - 2) % 3 = 0; omega) (by show ¬1 ≤ (t.val - 2) % 3; omega) (by show ¬(t.val - 2) % 3 = 2; omega)
  have p1 := part_apply m c t i x hi 2 (by omega) h2
  have p2 := part_apply m c ⟨t.val - 1, lt_of_le_of_lt (Nat.sub_le _ _) t.isLt⟩ i x (by show 512 * ((t.val - 1) / 3) + (i : ℕ) < 4096; omega) 1 (by omega) (by show (t.val - 1) % 3 = 1; omega)
  have p3 := part_apply m c ⟨t.val - 2, lt_of_le_of_lt (Nat.sub_le _ _) t.isLt⟩ i x (by show 512 * ((t.val - 2) / 3) + (i : ℕ) < 4096; omega) 0 (by omega) (by show (t.val - 2) % 3 = 0; omega)
  dsimp only at e2 e3 p2 p3
  simp only [Nat.sub_sub, Nat.reduceAdd] at e2 e3
  have q1 : (t.val - 1) / 3 = t.val / 3 := by omega
  have q2 : (t.val - 2) / 3 = t.val / 3 := by omega
  simp only [q1] at p2
  simp only [q2] at p3
  rw [hC, e2, e3, pay3_apply, pay3_apply, pay2_apply, p1, p2, p3, Mat.prod]
  exact (Fin.sum_univ_three fun s : Fin 3 => ∑ k : Fin 1408, term m c ⟨512 * (t.val / 3) + i, hi⟩ x ⟨s * 1408 + k, by omega⟩).symm.trans
    (Fin.sum_mul_add_congr (S := 3) (n := 1408) fun s k hl => rfl)

/-! ### The result arrays -/

/-- The gradient of the norm's output. -/
abbrev dG : Fin 4096 → Fin 1024 → EReal := Mat.prod (M := 4096) (K := 4224) (N := 1024) (m ⟨c, main_arg0⟩) (m ⟨c, main_arg1⟩)

theorem dh_arr : (dats m 0 c).arrAt 5 cfg0.N = Rms.dhOf (dG m c) (m ⟨c, main_arg2⟩) (m ⟨c, main_arg3⟩) (fun x => m ⟨c, main_arg4⟩ (ix1 x)) := by
  refine (dats m 0 c).arrAt_eq_of_covers 5 _ (by decide +kernel) fun t hf y => ?_
  have h2 : t.val % 3 = 2 := (flush0_5 t).mp hf
  have ht : t.val < 24 := lt_of_lt_of_eq t.isLt N_0
  blk_simp
  rw [after0_5]
  have e : (outsAt0 m c t.val t.isLt).1 y = Rms.rowDh (Rms.row (outsAt0 m c t.val t.isLt).2.2 (y 0)) (Rms.row (iblk m c 2 t) (y 0)) (Rms.row (iblk m c 4 t) 0) (iblk m c 3 t y) (y 1) := by
    by_cases h : t.val < 3
    · exact dh_C m c t (by omega) (by omega) h2 h (by omega) y
    · exact dh_D m c t (by omega) (by omega) h2 h (by omega) y
  have y0 : ((y 0 : Fin _) : ℕ) < 512 := (y 0).isLt
  have hi : 512 * (t.val / 3) + ((y 0 : Fin _) : ℕ) < 4096 := by omega
  have hz : (win0_5.blk t).view.emb y = ix2 (n0 := 4096) (n1 := 1024) ⟨512 * (t.val / 3) + ((y 0 : Fin _) : ℕ), hi⟩ (y 1) := by
    blk_ext [idx5 t]
  rw [e, hz, Rms.dhOf]
  have e1 : Rms.row (outsAt0 m c t.val t.isLt).2.2 (y 0) = dG m c ⟨512 * (t.val / 3) + ((y 0 : Fin _) : ℕ), hi⟩ :=
    funext fun x => acc_apply m c t h2 (y 0) x hi
  have e2 : Rms.row (iblk m c 2 t) (y 0) = Rms.row (m ⟨c, main_arg2⟩) ⟨512 * (t.val / 3) + ((y 0 : Fin _) : ℕ), hi⟩ :=
    funext fun x => h_apply m c t (y 0) x hi
  have e4 : Rms.row (iblk m c 4 t) 0 = fun x => m ⟨c, main_arg4⟩ (ix1 x) := funext fun x => w_apply m c t x
  have e3 : iblk m c 3 t y = m ⟨c, main_arg3⟩ (ix2 (n0 := 4096) (n1 := 1024) ⟨512 * (t.val / 3) + ((y 0 : Fin _) : ℕ), hi⟩ (y 1)) := by
    blk_point [iblk, V, idx3 t]
  rw [e1, e2, e3, e4]
  rfl

/-- The contribution of one row to the norm weight's gradient. -/
def dwRow (r : Fin 4096) (j : Fin 1024) : EReal :=
  dG m c r j * (Rms.row (m ⟨c, main_arg2⟩) r j * Rms.inv (Rms.row (m ⟨c, main_arg2⟩) r))

/-- The contribution of one block of rows to the norm weight's gradient. -/
def dwBlock (j : Fin 1024) (b : ℕ) : EReal :=
  if h : b < 8 then ∑ r : Fin 512, dwRow m c ⟨b * 512 + r, by omega⟩ j else 0

theorem dwAll_at (t : Fin cfg0.N) (h2 : t.val % 3 = 2) (j : Fin 1024) :
    dwAll (outsAt0 m c t.val t.isLt).2.2 (iblk m c 2 t) (ix2 0 j) = dwBlock m c j (t.val / 3) := by
  have ht : t.val < 24 := lt_of_lt_of_eq t.isLt N_0
  have hb : t.val / 3 < 8 := by omega
  rw [dwAll_apply, dwBlock, dif_pos hb, ← Fin.sum_univ_eq_sum_range]
  refine Finset.sum_congr rfl fun r _ => ?_
  have e : ∀ x, (outsAt0 m c t.val t.isLt).2.2 (ix2 r x) = dG m c ⟨(t.val / 3) * 512 + r, by omega⟩ x := fun x => by
    rw [acc_apply m c t h2 r x (by omega)]
    exact congrArg (fun i => dG m c i x) (Fin.ext (by show 512 * (t.val / 3) + (r : ℕ) = (t.val / 3) * 512 + r; omega))
  have e' : ∀ x, iblk m c 2 t (ix2 r x) = m ⟨c, main_arg2⟩ (ix2 ⟨(t.val / 3) * 512 + r, by omega⟩ x) := fun x => by
    rw [h_apply m c t r x (by omega)]
    exact congrArg (fun i => m ⟨c, main_arg2⟩ (ix2 i x)) (Fin.ext (by show 512 * (t.val / 3) + (r : ℕ) = (t.val / 3) * 512 + r; omega))
  rw [dwTerm, dif_pos r.isLt]
  exact congrArg₂ (· * ·) (e j) (congrArg₂ (· * ·) (e' j) (congrArg Rms.inv (funext e')))

theorem dw_fold (j : Fin 1024) : ∀ (b : ℕ) (hb : 3 * b + 2 < cfg0.N),
    (outsAt0 m c (3 * b + 2) hb).2.1 (ix2 0 j) = ∑ i ∈ Finset.range (b + 1), dwBlock m c j i := by
  intro b
  induction b with
  | zero =>
    intro hb
    have hD := (dwAll_at m c ⟨2, hb⟩ rfl j).trans (congrArg (dwBlock m c j) (show 2 / 3 = 0 from rfl))
    rw [Finset.sum_range_succ, Finset.sum_range_zero, zero_add]
    exact (congrFun (dw_C m c ⟨2, hb⟩ (by show ¬2 % 3 = 0; omega) (by show 1 ≤ 2 % 3; omega) rfl (by show 2 < 3; omega) (by show ¬3 ≤ 2; omega)) _).trans hD
  | succ b ih =>
    intro hb
    have hA := dw_A m c ⟨3 * b + 3, by omega⟩ (by show (3 * b + 3) % 3 = 0; omega) (by show ¬1 ≤ (3 * b + 3) % 3; omega) (by show ¬(3 * b + 3) % 3 = 2; omega)
    have hB := dw_B m c ⟨3 * b + 4, by omega⟩ (by show ¬(3 * b + 4) % 3 = 0; omega) (by show 1 ≤ (3 * b + 4) % 3; omega) (by show ¬(3 * b + 4) % 3 = 2; omega)
    have hC := dw_D m c ⟨3 * (b + 1) + 2, hb⟩ (by show ¬(3 * (b + 1) + 2) % 3 = 0; omega) (by show 1 ≤ (3 * (b + 1) + 2) % 3; omega)
      (by show (3 * (b + 1) + 2) % 3 = 2; omega) (by show ¬3 * (b + 1) + 2 < 3; omega) (by show 3 ≤ 3 * (b + 1) + 2; omega)
    have hD := dwAll_at m c ⟨3 * (b + 1) + 2, hb⟩ (by show (3 * (b + 1) + 2) % 3 = 2; omega) j
    rw [Finset.sum_range_succ, ← ih (by omega)]
    refine (congrFun hC _).trans ((pay_apply _ _ _).trans (congrArg₂ (· + ·) ?_ (hD.trans ?_)))
    · exact (congrFun hB _).trans (congrFun hA _)
    · exact congrArg (dwBlock m c j) (by show (3 * (b + 1) + 2) / 3 = b + 1; omega)

theorem dw_arr : (dats m 0 c).arrAt 6 cfg0.N = Rms.dwOf (dG m c) (m ⟨c, main_arg2⟩) := by
  refine (dats m 0 c).arrAt_eq_of_covers 6 _ (by decide +kernel) fun t hf y => ?_
  have h1 : t.val % 24 = 23 := (flush0_6 t).mp hf
  have ht : t = ⟨3 * 7 + 2, by decide⟩ := Fin.ext (by have : t.val < 24 := lt_of_lt_of_eq t.isLt N_0; show t.val = 23; omega)
  blk_simp
  have hz : (win0_6.blk t).view.emb y = ix2 (n0 := 1) (n1 := 1024) 0 (y 1) := by
    have y0 : ((y 0 : Fin _) : ℕ) < 1 := (y 0).isLt
    blk_ext [idx6 t]
  rw [after0_6, hz, Rms.dwOf]
  subst ht
  have hy : y = ix2 (n0 := 1) (n1 := 1024) 0 (y 1) := by
    funext a
    fin_cases a
    · exact Fin.ext (Nat.lt_one_iff.mp (y 0).isLt)
    · rfl
  refine (congrArg _ hy).trans ((dw_fold m c (y 1) 7 (by decide)).trans ?_)
  rw [← Fin.sum_univ_eq_sum_range (dwBlock m c (y 1)) 8]
  refine (Finset.sum_congr rfl fun b _ => dif_pos b.isLt).trans ?_
  exact Fin.sum_mul_add_congr (S := 8) (n := 512) fun s k hl => rfl

end Cert.Kernel10Ideal.Dx

namespace Cert.Reference10Ideal.Dx

open Cert.Reference10Ideal Cert.Reference10Ideal.Gen Cert.Reference10Ideal.Value Idealize.ShloMosaic Idealize.ShloMosaic.TcCoe Idealize.SL.Sem

variable (m : (ℓ : Loc nD τ sig) → Buf (Elt Ideal) ℓ)

theorem prod_apply (a0 : FVec Ideal S4096x4224 .bf16) (a1 : FVec Ideal S4224x1024 .bf16) (i : Fin 4096) (x : Fin 1024) :
    Host.dotGeneral (F := Ideal) dot_S4096x4224_S1024x4224_S4096x1024_1_1_0_0_n_n none (extf .f32 a0 bitsLt_bf16_f32) (extf .f32 (transpose S1024x4224 [1, 0] a1 transposes_S4224x1024_S1024x4224_1_0) bitsLt_bf16_f32) (ix2 i x)
      = Mat.prod (M := 4096) (K := 4224) (N := 1024) a0 a1 i x := by
  rw [Mat.prod]
  pointwise

theorem dh_eq (c : Dev nD) : res_main_v41 m c = Rms.dhOf (Mat.prod (M := 4096) (K := 4224) (N := 1024) (m ((c.tc : Thread nD τ).loc main_arg0)) (m ((c.tc : Thread nD τ).loc main_arg1)))
    (m ((c.tc : Thread nD τ).loc main_arg2)) (m ((c.tc : Thread nD τ).loc main_arg3)) (fun x => m ((c.tc : Thread nD τ).loc main_arg4) (ix1 x)) := by
  unfold res_main_v41
  generalize m ((c.tc : Thread nD τ).loc main_arg0) = a0
  generalize m ((c.tc : Thread nD τ).loc main_arg1) = a1
  generalize m ((c.tc : Thread nD τ).loc main_arg2) = a2
  generalize m ((c.tc : Thread nD τ).loc main_arg3) = a3
  generalize m ((c.tc : Thread nD τ).loc main_arg4) = a4
  generalize hG : Host.dotGeneral (F := Ideal) dot_S4096x4224_S1024x4224_S4096x1024_1_1_0_0_n_n none _ _ = G
  have hy : Mat.prod (M := 4096) (K := 4224) (N := 1024) a0 a1 = fun i x => G (ix2 i x) := funext fun i => funext fun x => by
    rw [← hG]
    exact (prod_apply a0 a1 i x).symm
  clear hG
  refine funext fun (z : S4096x1024.Idx) => ?_
  obtain ⟨i, j, rfl⟩ : ∃ i j, z = ix2 i j := ⟨z 0, z 1, eq_ix2 z⟩
  show _ = Rms.rowDh (Mat.prod (M := 4096) (K := 4224) (N := 1024) a0 a1 i) (Rms.row a2 i) (fun x => a4 (ix1 x)) (a3 (ix2 i j)) j
  refine Eq.trans ?_ (Rms.rowDh_eq ..).symm
  rw [Rms.refDh, Rms.refC, hy]
  pointwise
  simp only [Fin.sum_univ_one, Rms.inv, Rms.meanSq]

/-- The reference's run: its results are the two gradients. -/
theorem run (ρ : Dev nD → PrngReg) :
    θ_run defs (onTc (τ := τ) (main (F := Ideal))) ⟨m, fun _ => 0, ρ⟩ fun r => ∀ c : Dev nD,
      r.2.mem ((c.tc : Thread nD τ).loc main_v41) = Rms.dhOf (Mat.prod (M := 4096) (K := 4224) (N := 1024) (m ((c.tc : Thread nD τ).loc main_arg0)) (m ((c.tc : Thread nD τ).loc main_arg1))) (m ((c.tc : Thread nD τ).loc main_arg2)) (m ((c.tc : Thread nD τ).loc main_arg3)) (fun x => m ((c.tc : Thread nD τ).loc main_arg4) (ix1 x))
      ∧ r.2.mem ((c.tc : Thread nD τ).loc main_v42) = Rms.dwOf (Mat.prod (M := 4096) (K := 4224) (N := 1024) (m ((c.tc : Thread nD τ).loc main_arg0)) (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r hr c => ?_) (Cert.Reference10Ideal.Value.run m ρ)
  refine ⟨(hr c).1.trans ?_, (hr c).2.1.trans ?_, (hr c).2.2⟩
  · exact dh_eq m c
  · clear hr
    generalize m ((c.tc : Thread nD τ).loc main_arg0) = a0
    generalize m ((c.tc : Thread nD τ).loc main_arg1) = a1
    generalize m ((c.tc : Thread nD τ).loc main_arg2) = a2
    generalize hG : Host.dotGeneral (F := Ideal) dot_S4096x4224_S1024x4224_S4096x1024_1_1_0_0_n_n none _ _ = G
    have hy : Mat.prod (M := 4096) (K := 4224) (N := 1024) a0 a1 = fun i x => G (ix2 i x) := funext fun i => funext fun x => by
      rw [← hG]
      exact (prod_apply a0 a1 i x).symm
    clear hG
    funext z
    rw [Rms.dwOf, hy]
    pointwise
    simp only [Fin.sum_univ_one, Rms.inv, Rms.meanSq]
    exact Finset.sum_congr rfl fun r _ => mul_comm _ _

end Cert.Reference10Ideal.Dx

end
-- ==== Proof.Dx11.lean ====
module

public import proofs.«01_k».proof.Proof.Gen.Kernel11Ideal.Value
public import proofs.«01_k».proof.Proof.Gen.Reference11Ideal.Run
public import proofs.«01_k».proof.Proof.Rms
public import proofs.«01_k».proof.Proof.Mat
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel11Ideal.Dx

open Cert.Kernel11Ideal Cert.Kernel11Ideal.Gen Idealize.ShloMosaic Idealize.ShloMosaic.TcCoe Idealize.SL.Sem

variable (m : (ℓ : Loc nD τ sig) → Buf (Elt Ideal) ℓ) (c : Dev nD)

/-- The reciprocal root mean square of each of 32 rows. -/
def rstdV (h : FVec Ideal S32x1024 .f32) : FVec Ideal S32x1 .f32 :=
  rsqrt (addf (divf (shapeCast S32x1 (multiReduction .add [1] S32 (mulf h h) 0x00000000#32 reduces_S32x1024_S32 (.inl rfl) rfl) shapeCasts_S32_S32x1)
    (broadcast S32x1 (Scalar.ofBits (F := Ideal) .f32 0x44800000#32))) (broadcast S32x1 (Scalar.ofBits (F := Ideal) .f32 0x358637BD#32)))

/-- What the epilogue stores for 32 rows of the product `g`. -/
def dhV (g h : FVec Ideal S32x1024 .f32) (w : FVec Ideal S1x1024 .f32) (sk : FVec Ideal S32x1024 .f32) : FVec Ideal S32x1024 .f32 :=
  addf (mulf (broadcastTo S32x1024 (rstdV h) broadcasts_S32x1_S32x1024)
    (subf (mulf g (broadcastTo S32x1024 (shapeCast S1x1024 w shapeCasts_S1x1024_S1x1024) broadcasts_S1x1024_S32x1024))
      (mulf (mulf h (broadcastTo S32x1024 (rstdV h) broadcasts_S32x1_S32x1024))
        (broadcastTo S32x1024 (mulf (mulf (shapeCast S32x1 (multiReduction .add [1] S32
          (mulf (mulf g (broadcastTo S32x1024 (shapeCast S1x1024 w shapeCasts_S1x1024_S1x1024) broadcasts_S1x1024_S32x1024)) h)
          0x00000000#32 reduces_S32x1024_S32 (.inl rfl) rfl) shapeCasts_S32_S32x1) (rstdV h))
          (broadcast S32x1 (Scalar.ofBits (F := Ideal) .f32 0x3A800000#32))) broadcasts_S32x1_S32x1024)))) sk

/-- The norm weight's gradient from 32 more rows, over what the rows before gave. -/
def dwV (acc : FVec Ideal S1x1024 .f32) (g h : FVec Ideal S32x1024 .f32) : FVec Ideal S1x1024 .f32 :=
  addf acc (shapeCast S1x1024 (multiReduction .add [0] S1024 (mulf g (mulf h (broadcastTo S32x1024 (rstdV h) broadcasts_S32x1_S32x1024)))
    0x00000000#32 reduces_S32x1024_S1024 (.inl rfl) rfl) shapeCasts_S1024_S1x1024)

def zeroRow : FVec Ideal S1x1024 .f32 := broadcast S1x1024 (Scalar.ofBits (F := Ideal) .f32 0x00000000#32)

theorem rstdV_apply (h : FVec Ideal S32x1024 .f32) (y : S32x1.Idx) : rstdV h y = Rms.inv (Rms.row h (y 0)) := by
  unfold rstdV Rms.inv Rms.meanSq
  pointwise

theorem dhV_apply (g h : FVec Ideal S32x1024 .f32) (w : FVec Ideal S1x1024 .f32) (sk : FVec Ideal S32x1024 .f32) (y : S32x1024.Idx) :
    dhV g h w sk y = Rms.rowDh (Rms.row g (y 0)) (Rms.row h (y 0)) (Rms.row w 0) (sk y) (y 1) := by
  have e : ∀ X : FVec Ideal S32x1024 .f32, X y = X (ix2 (y 0) (y 1)) := fun X => congrArg X (eq_ix2 y)
  unfold dhV Rms.rowDh
  pointwise [rstdV_apply]
  rw [e g, e h]

theorem dwV_apply (acc : FVec Ideal S1x1024 .f32) (g h : FVec Ideal S32x1024 .f32) (y : S1x1024.Idx) :
    dwV acc g h y = acc y + ∑ r : Fin 32, g (ix2 r (y 1)) * (h (ix2 r (y 1)) * Rms.inv (Rms.row h r)) := by
  unfold dwV
  pointwise [rstdV_apply]

/-- One stored piece of the block of `dh`: its rows are rows of the block. -/
theorem piece (A H S : Vec Ideal S512x1024 .f32) (w : FVec Ideal S1x1024 .f32) (o : ℕ)
    (inb : ∀ a, (![o, 0] : Fin 2 → ℕ) a + S32x1024.size a ≤ S512x1024.size a) (y : S32x1024.Idx) (z : S512x1024.Idx)
    (h0 : (z 0 : ℕ) = o + (y 0 : ℕ)) (h1 : (z 1 : ℕ) = (y 1 : ℕ)) :
    dhV (View.ld A (Rect.unit (s := S512x1024) ![o, 0] S32x1024.size inb)) (View.ld H (Rect.unit (s := S512x1024) ![o, 0] S32x1024.size inb)) w
      (View.ld S (Rect.unit (s := S512x1024) ![o, 0] S32x1024.size inb)) y
      = Rms.rowDh (Rms.row A (z 0)) (Rms.row H (z 0)) (Rms.row w 0) (S z) (z 1) := by
  have e : ∀ (X : Vec Ideal S512x1024 .f32) (x : Fin 1024),
      View.ld X (Rect.unit (s := S512x1024) ![o, 0] S32x1024.size inb) (ix2 (y 0) x) = X (ix2 (z 0) x) := fun X x => by
    rw [View.ld_apply]
    congr 1
    funext a
    fin_cases a <;> apply Fin.ext <;> simp [h0]
  have e1 : View.ld S (Rect.unit (s := S512x1024) ![o, 0] S32x1024.size inb) y = S z := by
    have := e S (y 1)
    rw [← eq_ix2 y] at this
    rw [this]
    congr 1
    funext a
    fin_cases a <;> apply Fin.ext <;> simp [h1]
  rw [dhV_apply, e1]
  congr 1
  · exact funext (e A)
  · exact funext (e H)
  · exact Fin.ext h1.symm

theorem dh_A (t : Fin cfg0.N) (h1 : t.val % 8 = 0) (h2 : ¬1 ≤ t.val) (y : S512x1024.Idx) :
    (outsAt0 m c t.val t.isLt).1 y = Rms.rowDh (Rms.row (k0_pay1 (iblk m c 0 t) (iblk m c 1 t)) (y 0)) (Rms.row (iblk m c 2 t) (y 0)) (Rms.row (iblk m c 4 t) 0) (iblk m c 3 t y) (y 1) := by
  rw [outsAt0_A m c t h1 h2]
  frame_open
  simp (disch := decide) only [↓ View.readCov_fill]
  frame_out
  generalize hA : (k0_pay1 (F := Ideal) _ _) = A
  canon_tiles y h
  all_goals
    open_payloads
    exact piece A (iblk m c 2 t) (iblk m c 3 t) (iblk m c 4 t) _ _ _ _ (by omega) (by assumption)

theorem dh_B (t : Fin cfg0.N) (h1 : ¬t.val % 8 = 0) (h2 : 1 ≤ t.val) (y : S512x1024.Idx) :
    (outsAt0 m c t.val t.isLt).1 y = Rms.rowDh (Rms.row (k0_pay1 (iblk m c 0 t) (iblk m c 1 t)) (y 0)) (Rms.row (iblk m c 2 t) (y 0)) (Rms.row (iblk m c 4 t) 0) (iblk m c 3 t y) (y 1) := by
  rw [outsAt0_B m c t h1 h2]
  frame_open
  simp (disch := decide) only [↓ View.readCov_fill]
  frame_out
  generalize hA : (k0_pay1 (F := Ideal) _ _) = A
  canon_tiles y h
  all_goals
    open_payloads
    exact piece A (iblk m c 2 t) (iblk m c 3 t) (iblk m c 4 t) _ _ _ _ (by omega) (by assumption)

/-- The norm weight's gradient from the 512 rows of a block. -/
def dwAll (A H : Vec Ideal S512x1024 .f32) : FVec Ideal S1x1024 .f32 :=
  (dwV (dwV (dwV (dwV (dwV (dwV (dwV (dwV (dwV (dwV (dwV (dwV (dwV (dwV (dwV (dwV zeroRow
    (View.ld A (Rect.unit (s := S512x1024) ![0, 0] S32x1024.size inb_S512x1024_S32x1024_0_0))
    (View.ld H (Rect.unit (s := S512x1024) ![0, 0] S32x1024.size inb_S512x1024_S32x1024_0_0)))
    (View.ld A (Rect.unit (s := S512x1024) ![32, 0] S32x1024.size inb_S512x1024_S32x1024_32_0))
    (View.ld H (Rect.unit (s := S512x1024) ![32, 0] S32x1024.size inb_S512x1024_S32x1024_32_0)))
    (View.ld A (Rect.unit (s := S512x1024) ![64, 0] S32x1024.size inb_S512x1024_S32x1024_64_0))
    (View.ld H (Rect.unit (s := S512x1024) ![64, 0] S32x1024.size inb_S512x1024_S32x1024_64_0)))
    (View.ld A (Rect.unit (s := S512x1024) ![96, 0] S32x1024.size inb_S512x1024_S32x1024_96_0))
    (View.ld H (Rect.unit (s := S512x1024) ![96, 0] S32x1024.size inb_S512x1024_S32x1024_96_0)))
    (View.ld A (Rect.unit (s := S512x1024) ![128, 0] S32x1024.size inb_S512x1024_S32x1024_128_0))
    (View.ld H (Rect.unit (s := S512x1024) ![128, 0] S32x1024.size inb_S512x1024_S32x1024_128_0)))
    (View.ld A (Rect.unit (s := S512x1024) ![160, 0] S32x1024.size inb_S512x1024_S32x1024_160_0))
    (View.ld H (Rect.unit (s := S512x1024) ![160, 0] S32x1024.size inb_S512x1024_S32x1024_160_0)))
    (View.ld A (Rect.unit (s := S512x1024) ![192, 0] S32x1024.size inb_S512x1024_S32x1024_192_0))
    (View.ld H (Rect.unit (s := S512x1024) ![192, 0] S32x1024.size inb_S512x1024_S32x1024_192_0)))
    (View.ld A (Rect.unit (s := S512x1024) ![224, 0] S32x1024.size inb_S512x1024_S32x1024_224_0))
    (View.ld H (Rect.unit (s := S512x1024) ![224, 0] S32x1024.size inb_S512x1024_S32x1024_224_0)))
    (View.ld A (Rect.unit (s := S512x1024) ![256, 0] S32x1024.size inb_S512x1024_S32x1024_256_0))
    (View.ld H (Rect.unit (s := S512x1024) ![256, 0] S32x1024.size inb_S512x1024_S32x1024_256_0)))
    (View.ld A (Rect.unit (s := S512x1024) ![288, 0] S32x1024.size inb_S512x1024_S32x1024_288_0))
    (View.ld H (Rect.unit (s := S512x1024) ![288, 0] S32x1024.size inb_S512x1024_S32x1024_288_0)))
    (View.ld A (Rect.unit (s := S512x1024) ![320, 0] S32x1024.size inb_S512x1024_S32x1024_320_0))
    (View.ld H (Rect.unit (s := S512x1024) ![320, 0] S32x1024.size inb_S512x1024_S32x1024_320_0)))
    (View.ld A (Rect.unit (s := S512x1024) ![352, 0] S32x1024.size inb_S512x1024_S32x1024_352_0))
    (View.ld H (Rect.unit (s := S512x1024) ![352, 0] S32x1024.size inb_S512x1024_S32x1024_352_0)))
    (View.ld A (Rect.unit (s := S512x1024) ![384, 0] S32x1024.size inb_S512x1024_S32x1024_384_0))
    (View.ld H (Rect.unit (s := S512x1024) ![384, 0] S32x1024.size inb_S512x1024_S32x1024_384_0)))
    (View.ld A (Rect.unit (s := S512x1024) ![416, 0] S32x1024.size inb_S512x1024_S32x1024_416_0))
    (View.ld H (Rect.unit (s := S512x1024) ![416, 0] S32x1024.size inb_S512x1024_S32x1024_416_0)))
    (View.ld A (Rect.unit (s := S512x1024) ![448, 0] S32x1024.size inb_S512x1024_S32x1024_448_0))
    (View.ld H (Rect.unit (s := S512x1024) ![448, 0] S32x1024.size inb_S512x1024_S32x1024_448_0)))
    (View.ld A (Rect.unit (s := S512x1024) ![480, 0] S32x1024.size inb_S512x1024_S32x1024_480_0))
    (View.ld H (Rect.unit (s := S512x1024) ![480, 0] S32x1024.size inb_S512x1024_S32x1024_480_0)))

theorem dw_A (t : Fin cfg0.N) (h1 : t.val % 8 = 0) (h2 : ¬1 ≤ t.val) :
    (outsAt0 m c t.val t.isLt).2 = dwAll (k0_pay1 (iblk m c 0 t) (iblk m c 1 t)) (iblk m c 2 t) := by
  rw [outsAt0_A m c t h1 h2]
  frame_open
  simp (disch := decide) only [↓ View.readCov_fill]
  frame_out
  generalize hA : (k0_pay1 (F := Ideal) _ _) = A
  open_payloads
  rfl

theorem dw_B (t : Fin cfg0.N) (h1 : ¬t.val % 8 = 0) (h2 : 1 ≤ t.val) :
    (outsAt0 m c t.val t.isLt).2 = k0_pay2 (dwAll (k0_pay1 (iblk m c 0 t) (iblk m c 1 t)) (iblk m c 2 t)) (outsAt0 m c (t.val - 1) (Nat.sub_lt_of_lt t.isLt)).2 := by
  rw [outsAt0_B m c t h1 h2]
  frame_open
  simp (disch := decide) only [↓ View.readCov_fill]
  frame_out
  generalize hA : (k0_pay1 (F := Ideal) _ _) = A
  open_payloads
  rfl

/-- The term of the norm weight's gradient a row of a block contributes, zero beyond the block. -/
def dwTerm (A H : Vec Ideal S512x1024 .f32) (j : Fin 1024) (k : ℕ) : EReal :=
  if h : k < 512 then A (ix2 ⟨k, h⟩ j) * (H (ix2 ⟨k, h⟩ j) * Rms.inv (Rms.row H ⟨k, h⟩)) else 0

theorem dwV_chunk (A H : Vec Ideal S512x1024 .f32) (j : Fin 1024) (acc : FVec Ideal S1x1024 .f32) (o : ℕ)
    (inb : ∀ a, (![o, 0] : Fin 2 → ℕ) a + S32x1024.size a ≤ S512x1024.size a)
    (h : acc (ix2 0 j) = ∑ k ∈ Finset.range o, dwTerm A H j k) :
    dwV acc (View.ld A (Rect.unit (s := S512x1024) ![o, 0] S32x1024.size inb)) (View.ld H (Rect.unit (s := S512x1024) ![o, 0] S32x1024.size inb)) (ix2 0 j)
      = ∑ k ∈ Finset.range (o + 32), dwTerm A H j k := by
  have ho : o + 32 ≤ 512 := inb 0
  have e : ∀ (X : Vec Ideal S512x1024 .f32) (r : Fin 32) (x : Fin 1024),
      View.ld X (Rect.unit (s := S512x1024) ![o, 0] S32x1024.size inb) (ix2 r x) = X (ix2 ⟨o + r, by omega⟩ x) := fun X r x => by
    rw [View.ld_apply]
    congr 1
    funext a
    fin_cases a <;> apply Fin.ext <;> simp
  rw [dwV_apply, h, Finset.sum_range_add, ← Fin.sum_univ_eq_sum_range (fun k => dwTerm A H j (o + k)) 32]
  congr 1
  refine Finset.sum_congr rfl fun r _ => ?_
  have hr : o + (r : ℕ) < 512 := by omega
  rw [dwTerm, dif_pos hr]
  exact congrArg₂ (· * ·) (e A r j) (congrArg₂ (· * ·) (e H r j) (congrArg Rms.inv (funext (e H r))))

theorem zeroRow_apply (j : Fin 1024) : zeroRow (ix2 0 j) = 0 := by
  unfold zeroRow
  pointwise

theorem dwAll_apply (A H : Vec Ideal S512x1024 .f32) (j : Fin 1024) :
    dwAll A H (ix2 0 j) = ∑ k ∈ Finset.range 512, dwTerm A H j k := by
  unfold dwAll
  iterate 16 refine dwV_chunk A H j _ _ _ ?_
  rw [zeroRow_apply, Finset.sum_range_zero]

theorem pay_apply (a b : FVec Ideal S1x1024 .f32) (y : S1x1024.Idx) : k0_pay2 a b y = b y + a y := by
  pointwise [k0_pay2]

/-! ### The blocks of the grid -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)

theorem h_apply (t : Fin cfg0.N) (i : Fin 512) (x : Fin 1024) (hi : 512 * t.val + i < 4096) :
    iblk m c 2 t (ix2 i x) = m ⟨c, main_arg2⟩ (ix2 ⟨512 * t.val + i, hi⟩ x) := by
  blk_point [iblk, V, idx2 t]

theorem w_apply (t : Fin cfg0.N) (x : Fin 1024) :
    iblk m c 4 t (ix2 0 x) = m ⟨c, main_arg4⟩ (ix1 x) := by
  blk_point [iblk, V, idx4 t]

theorem acc_apply (t : Fin cfg0.N) (i : Fin 512) (x : Fin 1024) (hi : 512 * t.val + i < 4096) :
    k0_pay1 (iblk m c 0 t) (iblk m c 1 t) (ix2 i x) = Mat.prod (M := 4096) (K := 1536) (N := 1024) (m ⟨c, main_arg0⟩) (m ⟨c, main_arg1⟩) ⟨512 * t.val + i, hi⟩ x := by
  rw [Mat.prod]
  pointwise [k0_pay1]
  refine Finset.sum_congr rfl fun k _ => ?_
  congr 1
  · blk_point [iblk, V, idx0 t]
  · blk_point [iblk, V, idx1 t]

/-! ### The result arrays -/

/-- The gradient of the norm's output. -/
abbrev dG : Fin 4096 → Fin 1024 → EReal := Mat.prod (M := 4096) (K := 1536) (N := 1024) (m ⟨c, main_arg0⟩) (m ⟨c, main_arg1⟩)

theorem dh_arr : (dats m 0 c).arrAt 5 cfg0.N = Rms.dhOf (dG m c) (m ⟨c, main_arg2⟩) (m ⟨c, main_arg3⟩) (fun x => m ⟨c, main_arg4⟩ (ix1 x)) := by
  refine (dats m 0 c).arrAt_eq_of_covers 5 _ (by decide +kernel) fun t hf y => ?_
  have ht : t.val < 8 := lt_of_lt_of_eq t.isLt N_0
  blk_simp
  rw [after0_5]
  have e : (outsAt0 m c t.val t.isLt).1 y = Rms.rowDh (Rms.row (k0_pay1 (iblk m c 0 t) (iblk m c 1 t)) (y 0)) (Rms.row (iblk m c 2 t) (y 0)) (Rms.row (iblk m c 4 t) 0) (iblk m c 3 t y) (y 1) := by
    by_cases h : t.val = 0
    · exact dh_A m c t (by omega) (by omega) y
    · exact dh_B m c t (by omega) (by omega) y
  have y0 : ((y 0 : Fin _) : ℕ) < 512 := (y 0).isLt
  have hi : 512 * t.val + ((y 0 : Fin _) : ℕ) < 4096 := by omega
  have hz : (win0_5.blk t).view.emb y = ix2 (n0 := 4096) (n1 := 1024) ⟨512 * t.val + ((y 0 : Fin _) : ℕ), hi⟩ (y 1) := by
    blk_ext [idx5 t]
  rw [e, hz, Rms.dhOf]
  have e1 : Rms.row (k0_pay1 (iblk m c 0 t) (iblk m c 1 t)) (y 0) = dG m c ⟨512 * t.val + ((y 0 : Fin _) : ℕ), hi⟩ :=
    funext fun x => acc_apply m c t (y 0) x hi
  have e2 : Rms.row (iblk m c 2 t) (y 0) = Rms.row (m ⟨c, main_arg2⟩) ⟨512 * t.val + ((y 0 : Fin _) : ℕ), hi⟩ :=
    funext fun x => h_apply m c t (y 0) x hi
  have e4 : Rms.row (iblk m c 4 t) 0 = fun x => m ⟨c, main_arg4⟩ (ix1 x) := funext fun x => w_apply m c t x
  have e3 : iblk m c 3 t y = m ⟨c, main_arg3⟩ (ix2 (n0 := 4096) (n1 := 1024) ⟨512 * t.val + ((y 0 : Fin _) : ℕ), hi⟩ (y 1)) := by
    blk_point [iblk, V, idx3 t]
  rw [e1, e2, e3, e4]
  rfl

/-- The contribution of one row to the norm weight's gradient. -/
def dwRow (r : Fin 4096) (j : Fin 1024) : EReal :=
  dG m c r j * (Rms.row (m ⟨c, main_arg2⟩) r j * Rms.inv (Rms.row (m ⟨c, main_arg2⟩) r))

/-- The contribution of one block of rows to the norm weight's gradient. -/
def dwBlock (j : Fin 1024) (b : ℕ) : EReal :=
  if h : b < 8 then ∑ r : Fin 512, dwRow m c ⟨b * 512 + r, by omega⟩ j else 0

theorem dwAll_at (t : Fin cfg0.N) (j : Fin 1024) :
    dwAll (k0_pay1 (iblk m c 0 t) (iblk m c 1 t)) (iblk m c 2 t) (ix2 0 j) = dwBlock m c j t.val := by
  have ht : t.val < 8 := lt_of_lt_of_eq t.isLt N_0
  have hb : t.val < 8 := by omega
  rw [dwAll_apply, dwBlock, dif_pos hb, ← Fin.sum_univ_eq_sum_range]
  refine Finset.sum_congr rfl fun r _ => ?_
  have e : ∀ x, (k0_pay1 (iblk m c 0 t) (iblk m c 1 t)) (ix2 r x) = dG m c ⟨t.val * 512 + r, by omega⟩ x := fun x => by
    rw [acc_apply m c t r x (by omega)]
    exact congrArg (fun i => dG m c i x) (Fin.ext (by show 512 * t.val + (r : ℕ) = t.val * 512 + r; omega))
  have e' : ∀ x, iblk m c 2 t (ix2 r x) = m ⟨c, main_arg2⟩ (ix2 ⟨t.val * 512 + r, by omega⟩ x) := fun x => by
    rw [h_apply m c t r x (by omega)]
    exact congrArg (fun i => m ⟨c, main_arg2⟩ (ix2 i x)) (Fin.ext (by show 512 * t.val + (r : ℕ) = t.val * 512 + r; omega))
  rw [dwTerm, dif_pos r.isLt]
  exact congrArg₂ (· * ·) (e j) (congrArg₂ (· * ·) (e' j) (congrArg Rms.inv (funext e')))

theorem dw_fold (j : Fin 1024) : ∀ (b : ℕ) (hb : b < cfg0.N),
    (outsAt0 m c b hb).2 (ix2 0 j) = ∑ i ∈ Finset.range (b + 1), dwBlock m c j i := by
  intro b
  induction b with
  | zero =>
    intro hb
    rw [Finset.sum_range_succ, Finset.sum_range_zero, zero_add]
    exact (congrFun (dw_A m c ⟨0, hb⟩ (by show 0 % 8 = 0; omega) (by show ¬1 ≤ 0; omega)) _).trans (dwAll_at m c ⟨0, hb⟩ j)
  | succ b ih =>
    intro hb
    have hb8 : b + 1 < 8 := lt_of_lt_of_eq hb N_0
    have hC := dw_B m c ⟨b + 1, hb⟩ (by show ¬(b + 1) % 8 = 0; omega) (by show 1 ≤ b + 1; omega)
    rw [Finset.sum_range_succ, ← ih (by omega)]
    refine (congrFun hC _).trans ((pay_apply _ _ _).trans (congrArg₂ (· + ·) ?_ (dwAll_at m c ⟨b + 1, hb⟩ j)))
    rfl

theorem dw_arr : (dats m 0 c).arrAt 6 cfg0.N = Rms.dwOf (dG m c) (m ⟨c, main_arg2⟩) := by
  refine (dats m 0 c).arrAt_eq_of_covers 6 _ (by decide +kernel) fun t hf y => ?_
  have h1 : t.val % 8 = 7 := (flush0_6 t).mp hf
  have ht : t = ⟨7, by decide⟩ := Fin.ext (by have : t.val < 8 := lt_of_lt_of_eq t.isLt N_0; show t.val = 7; omega)
  blk_simp
  have hz : (win0_6.blk t).view.emb y = ix2 (n0 := 1) (n1 := 1024) 0 (y 1) := by
    have y0 : ((y 0 : Fin _) : ℕ) < 1 := (y 0).isLt
    blk_ext [idx6 t]
  rw [after0_6, hz, Rms.dwOf]
  subst ht
  have hy : y = ix2 (n0 := 1) (n1 := 1024) 0 (y 1) := by
    funext a
    fin_cases a
    · exact Fin.ext (Nat.lt_one_iff.mp (y 0).isLt)
    · rfl
  refine (congrArg _ hy).trans ((dw_fold m c (y 1) 7 (by decide)).trans ?_)
  rw [← Fin.sum_univ_eq_sum_range (dwBlock m c (y 1)) 8]
  refine (Finset.sum_congr rfl fun b _ => dif_pos b.isLt).trans ?_
  exact Fin.sum_mul_add_congr (S := 8) (n := 512) fun s k hl => rfl

end Cert.Kernel11Ideal.Dx

namespace Cert.Reference11Ideal.Dx

open Cert.Reference11Ideal Cert.Reference11Ideal.Gen Cert.Reference11Ideal.Value Idealize.ShloMosaic Idealize.ShloMosaic.TcCoe Idealize.SL.Sem

variable (m : (ℓ : Loc nD τ sig) → Buf (Elt Ideal) ℓ)

theorem prod_apply (a0 : FVec Ideal S4096x1536 .bf16) (a1 : FVec Ideal S1536x1024 .bf16) (i : Fin 4096) (x : Fin 1024) :
    Host.dotGeneral (F := Ideal) dot_S4096x1536_S1024x1536_S4096x1024_1_1_0_0_n_n none (extf .f32 a0 bitsLt_bf16_f32) (extf .f32 (transpose S1024x1536 [1, 0] a1 transposes_S1536x1024_S1024x1536_1_0) bitsLt_bf16_f32) (ix2 i x)
      = Mat.prod (M := 4096) (K := 1536) (N := 1024) a0 a1 i x := by
  rw [Mat.prod]
  pointwise

theorem dh_eq (c : Dev nD) : res_main_v41 m c = Rms.dhOf (Mat.prod (M := 4096) (K := 1536) (N := 1024) (m ((c.tc : Thread nD τ).loc main_arg0)) (m ((c.tc : Thread nD τ).loc main_arg1)))
    (m ((c.tc : Thread nD τ).loc main_arg2)) (m ((c.tc : Thread nD τ).loc main_arg3)) (fun x => m ((c.tc : Thread nD τ).loc main_arg4) (ix1 x)) := by
  unfold res_main_v41
  generalize m ((c.tc : Thread nD τ).loc main_arg0) = a0
  generalize m ((c.tc : Thread nD τ).loc main_arg1) = a1
  generalize m ((c.tc : Thread nD τ).loc main_arg2) = a2
  generalize m ((c.tc : Thread nD τ).loc main_arg3) = a3
  generalize m ((c.tc : Thread nD τ).loc main_arg4) = a4
  generalize hG : Host.dotGeneral (F := Ideal) dot_S4096x1536_S1024x1536_S4096x1024_1_1_0_0_n_n none _ _ = G
  have hy : Mat.prod (M := 4096) (K := 1536) (N := 1024) a0 a1 = fun i x => G (ix2 i x) := funext fun i => funext fun x => by
    rw [← hG]
    exact (prod_apply a0 a1 i x).symm
  clear hG
  refine funext fun (z : S4096x1024.Idx) => ?_
  obtain ⟨i, j, rfl⟩ : ∃ i j, z = ix2 i j := ⟨z 0, z 1, eq_ix2 z⟩
  show _ = Rms.rowDh (Mat.prod (M := 4096) (K := 1536) (N := 1024) a0 a1 i) (Rms.row a2 i) (fun x => a4 (ix1 x)) (a3 (ix2 i j)) j
  refine Eq.trans ?_ (Rms.rowDh_eq ..).symm
  rw [Rms.refDh, Rms.refC, hy]
  pointwise
  simp only [Fin.sum_univ_one, Rms.inv, Rms.meanSq]

/-- The reference's run: its results are the two gradients. -/
theorem run (ρ : Dev nD → PrngReg) :
    θ_run defs (onTc (τ := τ) (main (F := Ideal))) ⟨m, fun _ => 0, ρ⟩ fun r => ∀ c : Dev nD,
      r.2.mem ((c.tc : Thread nD τ).loc main_v41) = Rms.dhOf (Mat.prod (M := 4096) (K := 1536) (N := 1024) (m ((c.tc : Thread nD τ).loc main_arg0)) (m ((c.tc : Thread nD τ).loc main_arg1))) (m ((c.tc : Thread nD τ).loc main_arg2)) (m ((c.tc : Thread nD τ).loc main_arg3)) (fun x => m ((c.tc : Thread nD τ).loc main_arg4) (ix1 x))
      ∧ r.2.mem ((c.tc : Thread nD τ).loc main_v42) = Rms.dwOf (Mat.prod (M := 4096) (K := 1536) (N := 1024) (m ((c.tc : Thread nD τ).loc main_arg0)) (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r hr c => ?_) (Cert.Reference11Ideal.Value.run m ρ)
  refine ⟨(hr c).1.trans ?_, (hr c).2.1.trans ?_, (hr c).2.2⟩
  · exact dh_eq m c
  · clear hr
    generalize m ((c.tc : Thread nD τ).loc main_arg0) = a0
    generalize m ((c.tc : Thread nD τ).loc main_arg1) = a1
    generalize m ((c.tc : Thread nD τ).loc main_arg2) = a2
    generalize hG : Host.dotGeneral (F := Ideal) dot_S4096x1536_S1024x1536_S4096x1024_1_1_0_0_n_n none _ _ = G
    have hy : Mat.prod (M := 4096) (K := 1536) (N := 1024) a0 a1 = fun i x => G (ix2 i x) := funext fun i => funext fun x => by
      rw [← hG]
      exact (prod_apply a0 a1 i x).symm
    clear hG
    funext z
    rw [Rms.dwOf, hy]
    pointwise
    simp only [Fin.sum_univ_one, Rms.inv, Rms.meanSq]
    exact Finset.sum_congr rfl fun r _ => mul_comm _ _

end Cert.Reference11Ideal.Dx

end
-- ==== Proof.Dx12.lean ====
module

public import proofs.«01_k».proof.Proof.Gen.Kernel12Ideal.Value
public import proofs.«01_k».proof.Proof.Gen.Reference12Ideal.Run
public import proofs.«01_k».proof.Proof.Rms
public import proofs.«01_k».proof.Proof.Mat
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel12Ideal.Dx

open Cert.Kernel12Ideal Cert.Kernel12Ideal.Gen Idealize.ShloMosaic Idealize.ShloMosaic.TcCoe Idealize.SL.Sem

variable (m : (ℓ : Loc nD τ sig) → Buf (Elt Ideal) ℓ) (c : Dev nD)

/-- The reciprocal root mean square of each of 32 rows. -/
def rstdV (h : FVec Ideal S32x1024 .f32) : FVec Ideal S32x1 .f32 :=
  rsqrt (addf (divf (shapeCast S32x1 (multiReduction .add [1] S32 (mulf h h) 0x00000000#32 reduces_S32x1024_S32 (.inl rfl) rfl) shapeCasts_S32_S32x1)
    (broadcast S32x1 (Scalar.ofBits (F := Ideal) .f32 0x44800000#32))) (broadcast S32x1 (Scalar.ofBits (F := Ideal) .f32 0x358637BD#32)))

/-- What the epilogue stores for 32 rows of the product `g`. -/
def dhV (g h : FVec Ideal S32x1024 .f32) (w : FVec Ideal S1x1024 .f32) (sk : FVec Ideal S32x1024 .f32) : FVec Ideal S32x1024 .f32 :=
  addf (mulf (broadcastTo S32x1024 (rstdV h) broadcasts_S32x1_S32x1024)
    (subf (mulf g (broadcastTo S32x1024 (shapeCast S1x1024 w shapeCasts_S1x1024_S1x1024) broadcasts_S1x1024_S32x1024))
      (mulf (mulf h (broadcastTo S32x1024 (rstdV h) broadcasts_S32x1_S32x1024))
        (broadcastTo S32x1024 (mulf (mulf (shapeCast S32x1 (multiReduction .add [1] S32
          (mulf (mulf g (broadcastTo S32x1024 (shapeCast S1x1024 w shapeCasts_S1x1024_S1x1024) broadcasts_S1x1024_S32x1024)) h)
          0x00000000#32 reduces_S32x1024_S32 (.inl rfl) rfl) shapeCasts_S32_S32x1) (rstdV h))
          (broadcast S32x1 (Scalar.ofBits (F := Ideal) .f32 0x3A800000#32))) broadcasts_S32x1_S32x1024)))) sk

/-- The norm weight's gradient from 32 more rows, over what the rows before gave. -/
def dwV (acc : FVec Ideal S1x1024 .f32) (g h : FVec Ideal S32x1024 .f32) : FVec Ideal S1x1024 .f32 :=
  addf acc (shapeCast S1x1024 (multiReduction .add [0] S1024 (mulf g (mulf h (broadcastTo S32x1024 (rstdV h) broadcasts_S32x1_S32x1024)))
    0x00000000#32 reduces_S32x1024_S1024 (.inl rfl) rfl) shapeCasts_S1024_S1x1024)

def zeroRow : FVec Ideal S1x1024 .f32 := broadcast S1x1024 (Scalar.ofBits (F := Ideal) .f32 0x00000000#32)

theorem rstdV_apply (h : FVec Ideal S32x1024 .f32) (y : S32x1.Idx) : rstdV h y = Rms.inv (Rms.row h (y 0)) := by
  unfold rstdV Rms.inv Rms.meanSq
  pointwise

theorem dhV_apply (g h : FVec Ideal S32x1024 .f32) (w : FVec Ideal S1x1024 .f32) (sk : FVec Ideal S32x1024 .f32) (y : S32x1024.Idx) :
    dhV g h w sk y = Rms.rowDh (Rms.row g (y 0)) (Rms.row h (y 0)) (Rms.row w 0) (sk y) (y 1) := by
  have e : ∀ X : FVec Ideal S32x1024 .f32, X y = X (ix2 (y 0) (y 1)) := fun X => congrArg X (eq_ix2 y)
  unfold dhV Rms.rowDh
  pointwise [rstdV_apply]
  rw [e g, e h]

theorem dwV_apply (acc : FVec Ideal S1x1024 .f32) (g h : FVec Ideal S32x1024 .f32) (y : S1x1024.Idx) :
    dwV acc g h y = acc y + ∑ r : Fin 32, g (ix2 r (y 1)) * (h (ix2 r (y 1)) * Rms.inv (Rms.row h r)) := by
  unfold dwV
  pointwise [rstdV_apply]

/-- One stored piece of the block of `dh`: its rows are rows of the block. -/
theorem piece (A H S : Vec Ideal S512x1024 .f32) (w : FVec Ideal S1x1024 .f32) (o : ℕ)
    (inb : ∀ a, (![o, 0] : Fin 2 → ℕ) a + S32x1024.size a ≤ S512x1024.size a) (y : S32x1024.Idx) (z : S512x1024.Idx)
    (h0 : (z 0 : ℕ) = o + (y 0 : ℕ)) (h1 : (z 1 : ℕ) = (y 1 : ℕ)) :
    dhV (View.ld A (Rect.unit (s := S512x1024) ![o, 0] S32x1024.size inb)) (View.ld H (Rect.unit (s := S512x1024) ![o, 0] S32x1024.size inb)) w
      (View.ld S (Rect.unit (s := S512x1024) ![o, 0] S32x1024.size inb)) y
      = Rms.rowDh (Rms.row A (z 0)) (Rms.row H (z 0)) (Rms.row w 0) (S z) (z 1) := by
  have e : ∀ (X : Vec Ideal S512x1024 .f32) (x : Fin 1024),
      View.ld X (Rect.unit (s := S512x1024) ![o, 0] S32x1024.size inb) (ix2 (y 0) x) = X (ix2 (z 0) x) := fun X x => by
    rw [View.ld_apply]
    congr 1
    funext a
    fin_cases a <;> apply Fin.ext <;> simp [h0]
  have e1 : View.ld S (Rect.unit (s := S512x1024) ![o, 0] S32x1024.size inb) y = S z := by
    have := e S (y 1)
    rw [← eq_ix2 y] at this
    rw [this]
    congr 1
    funext a
    fin_cases a <;> apply Fin.ext <;> simp [h1]
  rw [dhV_apply, e1]
  congr 1
  · exact funext (e A)
  · exact funext (e H)
  · exact Fin.ext h1.symm

theorem dh_A (t : Fin cfg0.N) (h1 : t.val % 8 = 0) (h2 : ¬1 ≤ t.val) (y : S512x1024.Idx) :
    (outsAt0 m c t.val t.isLt).1 y = Rms.rowDh (Rms.row (k0_pay1 (iblk m c 0 t) (iblk m c 1 t)) (y 0)) (Rms.row (iblk m c 2 t) (y 0)) (Rms.row (iblk m c 4 t) 0) (iblk m c 3 t y) (y 1) := by
  rw [outsAt0_A m c t h1 h2]
  frame_open
  simp (disch := decide) only [↓ View.readCov_fill]
  frame_out
  generalize hA : (k0_pay1 (F := Ideal) _ _) = A
  canon_tiles y h
  all_goals
    open_payloads
    exact piece A (iblk m c 2 t) (iblk m c 3 t) (iblk m c 4 t) _ _ _ _ (by omega) (by assumption)

theorem dh_B (t : Fin cfg0.N) (h1 : ¬t.val % 8 = 0) (h2 : 1 ≤ t.val) (y : S512x1024.Idx) :
    (outsAt0 m c t.val t.isLt).1 y = Rms.rowDh (Rms.row (k0_pay1 (iblk m c 0 t) (iblk m c 1 t)) (y 0)) (Rms.row (iblk m c 2 t) (y 0)) (Rms.row (iblk m c 4 t) 0) (iblk m c 3 t y) (y 1) := by
  rw [outsAt0_B m c t h1 h2]
  frame_open
  simp (disch := decide) only [↓ View.readCov_fill]
  frame_out
  generalize hA : (k0_pay1 (F := Ideal) _ _) = A
  canon_tiles y h
  all_goals
    open_payloads
    exact piece A (iblk m c 2 t) (iblk m c 3 t) (iblk m c 4 t) _ _ _ _ (by omega) (by assumption)

/-- The norm weight's gradient from the 512 rows of a block. -/
def dwAll (A H : Vec Ideal S512x1024 .f32) : FVec Ideal S1x1024 .f32 :=
  (dwV (dwV (dwV (dwV (dwV (dwV (dwV (dwV (dwV (dwV (dwV (dwV (dwV (dwV (dwV (dwV zeroRow
    (View.ld A (Rect.unit (s := S512x1024) ![0, 0] S32x1024.size inb_S512x1024_S32x1024_0_0))
    (View.ld H (Rect.unit (s := S512x1024) ![0, 0] S32x1024.size inb_S512x1024_S32x1024_0_0)))
    (View.ld A (Rect.unit (s := S512x1024) ![32, 0] S32x1024.size inb_S512x1024_S32x1024_32_0))
    (View.ld H (Rect.unit (s := S512x1024) ![32, 0] S32x1024.size inb_S512x1024_S32x1024_32_0)))
    (View.ld A (Rect.unit (s := S512x1024) ![64, 0] S32x1024.size inb_S512x1024_S32x1024_64_0))
    (View.ld H (Rect.unit (s := S512x1024) ![64, 0] S32x1024.size inb_S512x1024_S32x1024_64_0)))
    (View.ld A (Rect.unit (s := S512x1024) ![96, 0] S32x1024.size inb_S512x1024_S32x1024_96_0))
    (View.ld H (Rect.unit (s := S512x1024) ![96, 0] S32x1024.size inb_S512x1024_S32x1024_96_0)))
    (View.ld A (Rect.unit (s := S512x1024) ![128, 0] S32x1024.size inb_S512x1024_S32x1024_128_0))
    (View.ld H (Rect.unit (s := S512x1024) ![128, 0] S32x1024.size inb_S512x1024_S32x1024_128_0)))
    (View.ld A (Rect.unit (s := S512x1024) ![160, 0] S32x1024.size inb_S512x1024_S32x1024_160_0))
    (View.ld H (Rect.unit (s := S512x1024) ![160, 0] S32x1024.size inb_S512x1024_S32x1024_160_0)))
    (View.ld A (Rect.unit (s := S512x1024) ![192, 0] S32x1024.size inb_S512x1024_S32x1024_192_0))
    (View.ld H (Rect.unit (s := S512x1024) ![192, 0] S32x1024.size inb_S512x1024_S32x1024_192_0)))
    (View.ld A (Rect.unit (s := S512x1024) ![224, 0] S32x1024.size inb_S512x1024_S32x1024_224_0))
    (View.ld H (Rect.unit (s := S512x1024) ![224, 0] S32x1024.size inb_S512x1024_S32x1024_224_0)))
    (View.ld A (Rect.unit (s := S512x1024) ![256, 0] S32x1024.size inb_S512x1024_S32x1024_256_0))
    (View.ld H (Rect.unit (s := S512x1024) ![256, 0] S32x1024.size inb_S512x1024_S32x1024_256_0)))
    (View.ld A (Rect.unit (s := S512x1024) ![288, 0] S32x1024.size inb_S512x1024_S32x1024_288_0))
    (View.ld H (Rect.unit (s := S512x1024) ![288, 0] S32x1024.size inb_S512x1024_S32x1024_288_0)))
    (View.ld A (Rect.unit (s := S512x1024) ![320, 0] S32x1024.size inb_S512x1024_S32x1024_320_0))
    (View.ld H (Rect.unit (s := S512x1024) ![320, 0] S32x1024.size inb_S512x1024_S32x1024_320_0)))
    (View.ld A (Rect.unit (s := S512x1024) ![352, 0] S32x1024.size inb_S512x1024_S32x1024_352_0))
    (View.ld H (Rect.unit (s := S512x1024) ![352, 0] S32x1024.size inb_S512x1024_S32x1024_352_0)))
    (View.ld A (Rect.unit (s := S512x1024) ![384, 0] S32x1024.size inb_S512x1024_S32x1024_384_0))
    (View.ld H (Rect.unit (s := S512x1024) ![384, 0] S32x1024.size inb_S512x1024_S32x1024_384_0)))
    (View.ld A (Rect.unit (s := S512x1024) ![416, 0] S32x1024.size inb_S512x1024_S32x1024_416_0))
    (View.ld H (Rect.unit (s := S512x1024) ![416, 0] S32x1024.size inb_S512x1024_S32x1024_416_0)))
    (View.ld A (Rect.unit (s := S512x1024) ![448, 0] S32x1024.size inb_S512x1024_S32x1024_448_0))
    (View.ld H (Rect.unit (s := S512x1024) ![448, 0] S32x1024.size inb_S512x1024_S32x1024_448_0)))
    (View.ld A (Rect.unit (s := S512x1024) ![480, 0] S32x1024.size inb_S512x1024_S32x1024_480_0))
    (View.ld H (Rect.unit (s := S512x1024) ![480, 0] S32x1024.size inb_S512x1024_S32x1024_480_0)))

theorem dw_A (t : Fin cfg0.N) (h1 : t.val % 8 = 0) (h2 : ¬1 ≤ t.val) :
    (outsAt0 m c t.val t.isLt).2 = dwAll (k0_pay1 (iblk m c 0 t) (iblk m c 1 t)) (iblk m c 2 t) := by
  rw [outsAt0_A m c t h1 h2]
  frame_open
  simp (disch := decide) only [↓ View.readCov_fill]
  frame_out
  generalize hA : (k0_pay1 (F := Ideal) _ _) = A
  open_payloads
  rfl

theorem dw_B (t : Fin cfg0.N) (h1 : ¬t.val % 8 = 0) (h2 : 1 ≤ t.val) :
    (outsAt0 m c t.val t.isLt).2 = k0_pay2 (dwAll (k0_pay1 (iblk m c 0 t) (iblk m c 1 t)) (iblk m c 2 t)) (outsAt0 m c (t.val - 1) (Nat.sub_lt_of_lt t.isLt)).2 := by
  rw [outsAt0_B m c t h1 h2]
  frame_open
  simp (disch := decide) only [↓ View.readCov_fill]
  frame_out
  generalize hA : (k0_pay1 (F := Ideal) _ _) = A
  open_payloads
  rfl

/-- The term of the norm weight's gradient a row of a block contributes, zero beyond the block. -/
def dwTerm (A H : Vec Ideal S512x1024 .f32) (j : Fin 1024) (k : ℕ) : EReal :=
  if h : k < 512 then A (ix2 ⟨k, h⟩ j) * (H (ix2 ⟨k, h⟩ j) * Rms.inv (Rms.row H ⟨k, h⟩)) else 0

theorem dwV_chunk (A H : Vec Ideal S512x1024 .f32) (j : Fin 1024) (acc : FVec Ideal S1x1024 .f32) (o : ℕ)
    (inb : ∀ a, (![o, 0] : Fin 2 → ℕ) a + S32x1024.size a ≤ S512x1024.size a)
    (h : acc (ix2 0 j) = ∑ k ∈ Finset.range o, dwTerm A H j k) :
    dwV acc (View.ld A (Rect.unit (s := S512x1024) ![o, 0] S32x1024.size inb)) (View.ld H (Rect.unit (s := S512x1024) ![o, 0] S32x1024.size inb)) (ix2 0 j)
      = ∑ k ∈ Finset.range (o + 32), dwTerm A H j k := by
  have ho : o + 32 ≤ 512 := inb 0
  have e : ∀ (X : Vec Ideal S512x1024 .f32) (r : Fin 32) (x : Fin 1024),
      View.ld X (Rect.unit (s := S512x1024) ![o, 0] S32x1024.size inb) (ix2 r x) = X (ix2 ⟨o + r, by omega⟩ x) := fun X r x => by
    rw [View.ld_apply]
    congr 1
    funext a
    fin_cases a <;> apply Fin.ext <;> simp
  rw [dwV_apply, h, Finset.sum_range_add, ← Fin.sum_univ_eq_sum_range (fun k => dwTerm A H j (o + k)) 32]
  congr 1
  refine Finset.sum_congr rfl fun r _ => ?_
  have hr : o + (r : ℕ) < 512 := by omega
  rw [dwTerm, dif_pos hr]
  exact congrArg₂ (· * ·) (e A r j) (congrArg₂ (· * ·) (e H r j) (congrArg Rms.inv (funext (e H r))))

theorem zeroRow_apply (j : Fin 1024) : zeroRow (ix2 0 j) = 0 := by
  unfold zeroRow
  pointwise

theorem dwAll_apply (A H : Vec Ideal S512x1024 .f32) (j : Fin 1024) :
    dwAll A H (ix2 0 j) = ∑ k ∈ Finset.range 512, dwTerm A H j k := by
  unfold dwAll
  iterate 16 refine dwV_chunk A H j _ _ _ ?_
  rw [zeroRow_apply, Finset.sum_range_zero]

theorem pay_apply (a b : FVec Ideal S1x1024 .f32) (y : S1x1024.Idx) : k0_pay2 a b y = b y + a y := by
  pointwise [k0_pay2]

/-! ### The blocks of the grid -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)

theorem h_apply (t : Fin cfg0.N) (i : Fin 512) (x : Fin 1024) (hi : 512 * t.val + i < 4096) :
    iblk m c 2 t (ix2 i x) = m ⟨c, main_arg2⟩ (ix2 ⟨512 * t.val + i, hi⟩ x) := by
  blk_point [iblk, V, idx2 t]

theorem w_apply (t : Fin cfg0.N) (x : Fin 1024) :
    iblk m c 4 t (ix2 0 x) = m ⟨c, main_arg4⟩ (ix1 x) := by
  blk_point [iblk, V, idx4 t]

theorem acc_apply (t : Fin cfg0.N) (i : Fin 512) (x : Fin 1024) (hi : 512 * t.val + i < 4096) :
    k0_pay1 (iblk m c 0 t) (iblk m c 1 t) (ix2 i x) = Mat.rowProd (M := 4096) (K := 1024) (N := 1024) (m ⟨c, main_arg0⟩) (m ⟨c, main_arg1⟩) ⟨512 * t.val + i, hi⟩ x := by
  rw [Mat.rowProd]
  pointwise [k0_pay1]
  refine Finset.sum_congr rfl fun k _ => ?_
  congr 1
  · blk_point [iblk, V, idx0 t]
  · blk_point [iblk, V, idx1 t]

/-! ### The result arrays -/

/-- The gradient of the norm's output. -/
abbrev dG : Fin 4096 → Fin 1024 → EReal := Mat.rowProd (M := 4096) (K := 1024) (N := 1024) (m ⟨c, main_arg0⟩) (m ⟨c, main_arg1⟩)

theorem dh_arr : (dats m 0 c).arrAt 5 cfg0.N = Rms.dhOf (dG m c) (m ⟨c, main_arg2⟩) (m ⟨c, main_arg3⟩) (fun x => m ⟨c, main_arg4⟩ (ix1 x)) := by
  refine (dats m 0 c).arrAt_eq_of_covers 5 _ (by decide +kernel) fun t hf y => ?_
  have ht : t.val < 8 := lt_of_lt_of_eq t.isLt N_0
  blk_simp
  rw [after0_5]
  have e : (outsAt0 m c t.val t.isLt).1 y = Rms.rowDh (Rms.row (k0_pay1 (iblk m c 0 t) (iblk m c 1 t)) (y 0)) (Rms.row (iblk m c 2 t) (y 0)) (Rms.row (iblk m c 4 t) 0) (iblk m c 3 t y) (y 1) := by
    by_cases h : t.val = 0
    · exact dh_A m c t (by omega) (by omega) y
    · exact dh_B m c t (by omega) (by omega) y
  have y0 : ((y 0 : Fin _) : ℕ) < 512 := (y 0).isLt
  have hi : 512 * t.val + ((y 0 : Fin _) : ℕ) < 4096 := by omega
  have hz : (win0_5.blk t).view.emb y = ix2 (n0 := 4096) (n1 := 1024) ⟨512 * t.val + ((y 0 : Fin _) : ℕ), hi⟩ (y 1) := by
    blk_ext [idx5 t]
  rw [e, hz, Rms.dhOf]
  have e1 : Rms.row (k0_pay1 (iblk m c 0 t) (iblk m c 1 t)) (y 0) = dG m c ⟨512 * t.val + ((y 0 : Fin _) : ℕ), hi⟩ :=
    funext fun x => acc_apply m c t (y 0) x hi
  have e2 : Rms.row (iblk m c 2 t) (y 0) = Rms.row (m ⟨c, main_arg2⟩) ⟨512 * t.val + ((y 0 : Fin _) : ℕ), hi⟩ :=
    funext fun x => h_apply m c t (y 0) x hi
  have e4 : Rms.row (iblk m c 4 t) 0 = fun x => m ⟨c, main_arg4⟩ (ix1 x) := funext fun x => w_apply m c t x
  have e3 : iblk m c 3 t y = m ⟨c, main_arg3⟩ (ix2 (n0 := 4096) (n1 := 1024) ⟨512 * t.val + ((y 0 : Fin _) : ℕ), hi⟩ (y 1)) := by
    blk_point [iblk, V, idx3 t]
  rw [e1, e2, e3, e4]
  rfl

/-- The contribution of one row to the norm weight's gradient. -/
def dwRow (r : Fin 4096) (j : Fin 1024) : EReal :=
  dG m c r j * (Rms.row (m ⟨c, main_arg2⟩) r j * Rms.inv (Rms.row (m ⟨c, main_arg2⟩) r))

/-- The contribution of one block of rows to the norm weight's gradient. -/
def dwBlock (j : Fin 1024) (b : ℕ) : EReal :=
  if h : b < 8 then ∑ r : Fin 512, dwRow m c ⟨b * 512 + r, by omega⟩ j else 0

theorem dwAll_at (t : Fin cfg0.N) (j : Fin 1024) :
    dwAll (k0_pay1 (iblk m c 0 t) (iblk m c 1 t)) (iblk m c 2 t) (ix2 0 j) = dwBlock m c j t.val := by
  have ht : t.val < 8 := lt_of_lt_of_eq t.isLt N_0
  have hb : t.val < 8 := by omega
  rw [dwAll_apply, dwBlock, dif_pos hb, ← Fin.sum_univ_eq_sum_range]
  refine Finset.sum_congr rfl fun r _ => ?_
  have e : ∀ x, (k0_pay1 (iblk m c 0 t) (iblk m c 1 t)) (ix2 r x) = dG m c ⟨t.val * 512 + r, by omega⟩ x := fun x => by
    rw [acc_apply m c t r x (by omega)]
    exact congrArg (fun i => dG m c i x) (Fin.ext (by show 512 * t.val + (r : ℕ) = t.val * 512 + r; omega))
  have e' : ∀ x, iblk m c 2 t (ix2 r x) = m ⟨c, main_arg2⟩ (ix2 ⟨t.val * 512 + r, by omega⟩ x) := fun x => by
    rw [h_apply m c t r x (by omega)]
    exact congrArg (fun i => m ⟨c, main_arg2⟩ (ix2 i x)) (Fin.ext (by show 512 * t.val + (r : ℕ) = t.val * 512 + r; omega))
  rw [dwTerm, dif_pos r.isLt]
  exact congrArg₂ (· * ·) (e j) (congrArg₂ (· * ·) (e' j) (congrArg Rms.inv (funext e')))

theorem dw_fold (j : Fin 1024) : ∀ (b : ℕ) (hb : b < cfg0.N),
    (outsAt0 m c b hb).2 (ix2 0 j) = ∑ i ∈ Finset.range (b + 1), dwBlock m c j i := by
  intro b
  induction b with
  | zero =>
    intro hb
    rw [Finset.sum_range_succ, Finset.sum_range_zero, zero_add]
    exact (congrFun (dw_A m c ⟨0, hb⟩ (by show 0 % 8 = 0; omega) (by show ¬1 ≤ 0; omega)) _).trans (dwAll_at m c ⟨0, hb⟩ j)
  | succ b ih =>
    intro hb
    have hb8 : b + 1 < 8 := lt_of_lt_of_eq hb N_0
    have hC := dw_B m c ⟨b + 1, hb⟩ (by show ¬(b + 1) % 8 = 0; omega) (by show 1 ≤ b + 1; omega)
    rw [Finset.sum_range_succ, ← ih (by omega)]
    refine (congrFun hC _).trans ((pay_apply _ _ _).trans (congrArg₂ (· + ·) ?_ (dwAll_at m c ⟨b + 1, hb⟩ j)))
    rfl

theorem dw_arr : (dats m 0 c).arrAt 6 cfg0.N = Rms.dwOf (dG m c) (m ⟨c, main_arg2⟩) := by
  refine (dats m 0 c).arrAt_eq_of_covers 6 _ (by decide +kernel) fun t hf y => ?_
  have h1 : t.val % 8 = 7 := (flush0_6 t).mp hf
  have ht : t = ⟨7, by decide⟩ := Fin.ext (by have : t.val < 8 := lt_of_lt_of_eq t.isLt N_0; show t.val = 7; omega)
  blk_simp
  have hz : (win0_6.blk t).view.emb y = ix2 (n0 := 1) (n1 := 1024) 0 (y 1) := by
    have y0 : ((y 0 : Fin _) : ℕ) < 1 := (y 0).isLt
    blk_ext [idx6 t]
  rw [after0_6, hz, Rms.dwOf]
  subst ht
  have hy : y = ix2 (n0 := 1) (n1 := 1024) 0 (y 1) := by
    funext a
    fin_cases a
    · exact Fin.ext (Nat.lt_one_iff.mp (y 0).isLt)
    · rfl
  refine (congrArg _ hy).trans ((dw_fold m c (y 1) 7 (by decide)).trans ?_)
  rw [← Fin.sum_univ_eq_sum_range (dwBlock m c (y 1)) 8]
  refine (Finset.sum_congr rfl fun b _ => dif_pos b.isLt).trans ?_
  exact Fin.sum_mul_add_congr (S := 8) (n := 512) fun s k hl => rfl

end Cert.Kernel12Ideal.Dx

namespace Cert.Reference12Ideal.Dx

open Cert.Reference12Ideal Cert.Reference12Ideal.Gen Cert.Reference12Ideal.Value Idealize.ShloMosaic Idealize.ShloMosaic.TcCoe Idealize.SL.Sem

variable (m : (ℓ : Loc nD τ sig) → Buf (Elt Ideal) ℓ)

theorem prod_apply (a0 : FVec Ideal S4096x1024 .bf16) (a1 : FVec Ideal S1024x1024 .bf16) (i : Fin 4096) (x : Fin 1024) :
    Host.dotGeneral (F := Ideal) dot_S4096x1024_S1024x1024_S4096x1024_1_1_0_0_n_n none (extf .f32 a0 bitsLt_bf16_f32) (extf .f32 a1 bitsLt_bf16_f32) (ix2 i x)
      = Mat.rowProd (M := 4096) (K := 1024) (N := 1024) a0 a1 i x := by
  rw [Mat.rowProd]
  pointwise

theorem dh_eq (c : Dev nD) : res_main_v40 m c = Rms.dhOf (Mat.rowProd (M := 4096) (K := 1024) (N := 1024) (m ((c.tc : Thread nD τ).loc main_arg0)) (m ((c.tc : Thread nD τ).loc main_arg1)))
    (m ((c.tc : Thread nD τ).loc main_arg2)) (m ((c.tc : Thread nD τ).loc main_arg3)) (fun x => m ((c.tc : Thread nD τ).loc main_arg4) (ix1 x)) := by
  unfold res_main_v40
  generalize m ((c.tc : Thread nD τ).loc main_arg0) = a0
  generalize m ((c.tc : Thread nD τ).loc main_arg1) = a1
  generalize m ((c.tc : Thread nD τ).loc main_arg2) = a2
  generalize m ((c.tc : Thread nD τ).loc main_arg3) = a3
  generalize m ((c.tc : Thread nD τ).loc main_arg4) = a4
  generalize hG : Host.dotGeneral (F := Ideal) dot_S4096x1024_S1024x1024_S4096x1024_1_1_0_0_n_n none _ _ = G
  have hy : Mat.rowProd (M := 4096) (K := 1024) (N := 1024) a0 a1 = fun i x => G (ix2 i x) := funext fun i => funext fun x => by
    rw [← hG]
    exact (prod_apply a0 a1 i x).symm
  clear hG
  refine funext fun (z : S4096x1024.Idx) => ?_
  obtain ⟨i, j, rfl⟩ : ∃ i j, z = ix2 i j := ⟨z 0, z 1, eq_ix2 z⟩
  show _ = Rms.rowDh (Mat.rowProd (M := 4096) (K := 1024) (N := 1024) a0 a1 i) (Rms.row a2 i) (fun x => a4 (ix1 x)) (a3 (ix2 i j)) j
  refine Eq.trans ?_ (Rms.rowDh_eq ..).symm
  rw [Rms.refDh, Rms.refC, hy]
  pointwise
  simp only [Fin.sum_univ_one, Rms.inv, Rms.meanSq]

/-- The reference's run: its results are the two gradients. -/
theorem run (ρ : Dev nD → PrngReg) :
    θ_run defs (onTc (τ := τ) (main (F := Ideal))) ⟨m, fun _ => 0, ρ⟩ fun r => ∀ c : Dev nD,
      r.2.mem ((c.tc : Thread nD τ).loc main_v40) = Rms.dhOf (Mat.rowProd (M := 4096) (K := 1024) (N := 1024) (m ((c.tc : Thread nD τ).loc main_arg0)) (m ((c.tc : Thread nD τ).loc main_arg1))) (m ((c.tc : Thread nD τ).loc main_arg2)) (m ((c.tc : Thread nD τ).loc main_arg3)) (fun x => m ((c.tc : Thread nD τ).loc main_arg4) (ix1 x))
      ∧ r.2.mem ((c.tc : Thread nD τ).loc main_v41) = Rms.dwOf (Mat.rowProd (M := 4096) (K := 1024) (N := 1024) (m ((c.tc : Thread nD τ).loc main_arg0)) (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r hr c => ?_) (Cert.Reference12Ideal.Value.run m ρ)
  refine ⟨(hr c).1.trans ?_, (hr c).2.1.trans ?_, (hr c).2.2⟩
  · exact dh_eq m c
  · clear hr
    generalize m ((c.tc : Thread nD τ).loc main_arg0) = a0
    generalize m ((c.tc : Thread nD τ).loc main_arg1) = a1
    generalize m ((c.tc : Thread nD τ).loc main_arg2) = a2
    generalize hG : Host.dotGeneral (F := Ideal) dot_S4096x1024_S1024x1024_S4096x1024_1_1_0_0_n_n none _ _ = G
    have hy : Mat.rowProd (M := 4096) (K := 1024) (N := 1024) a0 a1 = fun i x => G (ix2 i x) := funext fun i => funext fun x => by
      rw [← hG]
      exact (prod_apply a0 a1 i x).symm
    clear hG
    funext z
    rw [Rms.dwOf, hy]
    pointwise
    simp only [Fin.sum_univ_one, Rms.inv, Rms.meanSq]
    exact Finset.sum_congr rfl fun r _ => mul_comm _ _

end Cert.Reference12Ideal.Dx

end
-- ==== Proof.Dx13.lean ====
module

public import proofs.«01_k».proof.Proof.Gen.Kernel13Ideal.Value
public import proofs.«01_k».proof.Proof.Gen.Reference13Ideal.Run
public import proofs.«01_k».proof.Proof.Mat
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel13Ideal.Dx

open Cert.Kernel13Ideal Cert.Kernel13Ideal.Gen Idealize.ShloMosaic Idealize.ShloMosaic.TcCoe Idealize.SL.Sem

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem out_apply (t : Fin cfg0.N) (i : Fin 1024) (x : Fin 1024) (hi : 1024 * t.val + i < 4096) :
    out0_2 (iblk m c 0 t) (iblk m c 1 t) (ix2 i x)
      = Mat.rowProd (M := 4096) (K := 1024) (N := 1024) (m ⟨c, main_arg0⟩) (m ⟨c, main_arg1⟩) ⟨1024 * t.val + i, hi⟩ x := by
  frame_out
  rw [Mat.rowProd]
  pointwise [k0_pay1]
  refine Finset.sum_congr rfl fun k _ => ?_
  congr 1
  · blk_point [iblk, V, idx0 t]
  · blk_point [iblk, V, idx1 t]

/-- What the result array ends with. -/
theorem arr : (dats m 0 c).arrAt 2 cfg0.N = fun z : S4096x1024.Idx => Mat.rowProd (M := 4096) (K := 1024) (N := 1024) (m ⟨c, main_arg0⟩) (m ⟨c, main_arg1⟩) (z 0) (z 1) := by
  refine (dats m 0 c).arrAt_eq_of_covers 2 _ (by decide +kernel) fun t hf y => ?_
  have ht : t.val < 4 := lt_of_lt_of_eq t.isLt N_0
  blk_simp
  rw [after0_2]
  have y0 : ((y 0 : Fin _) : ℕ) < 1024 := (y 0).isLt
  have hi : 1024 * t.val + ((y 0 : Fin _) : ℕ) < 4096 := by omega
  have hz : (win0_2.blk t).view.emb y = ix2 (n0 := 4096) (n1 := 1024) ⟨1024 * t.val + ((y 0 : Fin _) : ℕ), hi⟩ (y 1) := by
    blk_ext [idx2 t]
  rw [hz]
  refine Eq.trans ?_ (out_apply m c t (y 0) (y 1) hi)
  exact congrArg _ (eq_ix2 y)

end Cert.Kernel13Ideal.Dx

namespace Cert.Reference13Ideal.Dx

open Cert.Reference13Ideal Cert.Reference13Ideal.Gen Cert.Reference13Ideal.Value Idealize.ShloMosaic Idealize.ShloMosaic.TcCoe Idealize.SL.Sem

/-- The reference's run: its result is the product. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = (fun z : S4096x1024.Idx => Mat.rowProd (M := 4096) (K := 1024) (N := 1024) (m ((c.tc : Thread nD τ).loc main_arg0)) (m ((c.tc : Thread nD τ).loc main_arg1)) (z 0) (z 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r hr c => ?_) (Cert.Reference13Ideal.Value.run (F := Ideal) m ρ)
  refine ⟨(hr c).1.trans ?_, (hr c).2⟩
  clear hr
  generalize m ((c.tc : Thread nD τ).loc main_arg0) = a0
  generalize m ((c.tc : Thread nD τ).loc main_arg1) = a1
  refine funext fun (z : S4096x1024.Idx) => ?_
  obtain ⟨i, j, rfl⟩ : ∃ i j, z = ix2 i j := ⟨z 0, z 1, eq_ix2 z⟩
  show _ = Mat.rowProd (M := 4096) (K := 1024) (N := 1024) a0 a1 i j
  unfold Mat.rowProd
  pointwise

end Cert.Reference13Ideal.Dx

end
-- ==== Proof.Fw14.lean ====
module

public import proofs.«01_k».proof.Proof.Gen.Kernel14Ideal.Value
public import proofs.«01_k».proof.Proof.Gen.Reference14Ideal.Run
public import proofs.«01_k».proof.Proof.Mat
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel14Ideal.Fw

open Cert.Kernel14Ideal Cert.Kernel14Ideal.Gen Idealize.ShloMosaic Idealize.ShloMosaic.TcCoe Idealize.SL.Sem

variable (m : (ℓ : Loc nD τ sig) → Buf (Elt Ideal) ℓ) (c : Dev nD)

theorem idx0 : ∀ t : Fin cfg0.N, win0_0.index t = ![t.val / 3, 0] := (by decide +kernel : ∀ t : Fin grid0.N, _)
theorem idx1 : ∀ t : Fin cfg0.N, win0_1.index t = ![t.val % 3, 0] := (by decide +kernel : ∀ t : Fin grid0.N, _)
theorem idx2 : ∀ t : Fin cfg0.N, win0_2.index t = ![t.val / 3, t.val % 3] := (by decide +kernel : ∀ t : Fin grid0.N, _)

theorem out_apply (t : Fin cfg0.N) (i : Fin 512) (x : Fin 1408) (hi : 512 * (t.val / 3) + i < 4096) (hx : 1408 * (t.val % 3) + x < 4224) :
    out0_2 (iblk m c 0 t) (iblk m c 1 t) (ix2 i x)
      = Mat.rowProd (M := 4096) (K := 1024) (N := 4224) (m ⟨c, main_arg0⟩) (m ⟨c, main_arg1⟩) ⟨512 * (t.val / 3) + i, hi⟩ ⟨1408 * (t.val % 3) + x, hx⟩ := by
  frame_out
  rw [Mat.rowProd]
  pointwise [k0_pay1]
  refine Finset.sum_congr rfl fun k _ => ?_
  congr 1
  · blk_point [iblk, V, idx0 t]
  · blk_point [iblk, V, idx1 t]

/-- What the result array ends with. -/
theorem arr : (dats m 0 c).arrAt 2 cfg0.N = fun z : S4096x4224.Idx => Mat.rowProd (M := 4096) (K := 1024) (N := 4224) (m ⟨c, main_arg0⟩) (m ⟨c, main_arg1⟩) (z 0) (z 1) := by
  refine (dats m 0 c).arrAt_eq_of_covers 2 _ (by decide +kernel) fun t hf y => ?_
  have ht : t.val < 24 := lt_of_lt_of_eq t.isLt N_0
  blk_simp
  rw [after0_2]
  have y0 : ((y 0 : Fin _) : ℕ) < 512 := (y 0).isLt
  have hi : 512 * (t.val / 3) + ((y 0 : Fin _) : ℕ) < 4096 := by omega
  have y1 : ((y 1 : Fin _) : ℕ) < 1408 := (y 1).isLt
  have hx : 1408 * (t.val % 3) + ((y 1 : Fin _) : ℕ) < 4224 := by omega
  have hz : (win0_2.blk t).view.emb y = ix2 (n0 := 4096) (n1 := 4224) ⟨512 * (t.val / 3) + ((y 0 : Fin _) : ℕ), hi⟩ ⟨1408 * (t.val % 3) + ((y 1 : Fin _) : ℕ), hx⟩ := by
    blk_ext [idx2 t]
  rw [hz]
  refine Eq.trans ?_ (out_apply m c t (y 0) (y 1) hi hx)
  exact congrArg _ (eq_ix2 y)

end Cert.Kernel14Ideal.Fw

namespace Cert.Reference14Ideal.Fw

open Cert.Reference14Ideal Cert.Reference14Ideal.Gen Cert.Reference14Ideal.Value Idealize.ShloMosaic Idealize.ShloMosaic.TcCoe Idealize.SL.Sem

/-- The reference's run: its result is the product. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = (fun z : S4096x4224.Idx => Mat.rowProd (M := 4096) (K := 1024) (N := 4224) (m ((c.tc : Thread nD τ).loc main_arg0)) (m ((c.tc : Thread nD τ).loc main_arg1)) (z 0) (z 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r hr c => ?_) (Cert.Reference14Ideal.Value.run (F := Ideal) m ρ)
  refine ⟨(hr c).1.trans ?_, (hr c).2⟩
  clear hr
  generalize m ((c.tc : Thread nD τ).loc main_arg0) = a0
  generalize m ((c.tc : Thread nD τ).loc main_arg1) = a1
  refine funext fun (z : S4096x4224.Idx) => ?_
  obtain ⟨i, j, rfl⟩ : ∃ i j, z = ix2 i j := ⟨z 0, z 1, eq_ix2 z⟩
  show _ = Mat.rowProd (M := 4096) (K := 1024) (N := 4224) a0 a1 i j
  unfold Mat.rowProd
  pointwise

end Cert.Reference14Ideal.Fw

end
-- ==== Proof.Fw15.lean ====
module

public import proofs.«01_k».proof.Proof.Gen.Kernel15Ideal.Value
public import proofs.«01_k».proof.Proof.Gen.Reference15Ideal.Run
public import proofs.«01_k».proof.Proof.Mat
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel15Ideal.Fw

open Cert.Kernel15Ideal Cert.Kernel15Ideal.Gen Idealize.ShloMosaic Idealize.ShloMosaic.TcCoe Idealize.SL.Sem

variable (m : (ℓ : Loc nD τ sig) → Buf (Elt Ideal) ℓ) (c : Dev nD)

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, t.val % 2] := (by decide +kernel : ∀ t : Fin grid0.N, _)

theorem out_apply (t : Fin cfg0.N) (i : Fin 1024) (x : Fin 768) (hi : 1024 * (t.val / 2) + i < 4096) (hx : 768 * (t.val % 2) + x < 1536) :
    out0_2 (iblk m c 0 t) (iblk m c 1 t) (ix2 i x)
      = Mat.rowProd (M := 4096) (K := 1024) (N := 1536) (m ⟨c, main_arg0⟩) (m ⟨c, main_arg1⟩) ⟨1024 * (t.val / 2) + i, hi⟩ ⟨768 * (t.val % 2) + x, hx⟩ := by
  frame_out
  rw [Mat.rowProd]
  pointwise [k0_pay1]
  refine Finset.sum_congr rfl fun k _ => ?_
  congr 1
  · blk_point [iblk, V, idx0 t]
  · blk_point [iblk, V, idx1 t]

/-- What the result array ends with. -/
theorem arr : (dats m 0 c).arrAt 2 cfg0.N = fun z : S4096x1536.Idx => Mat.rowProd (M := 4096) (K := 1024) (N := 1536) (m ⟨c, main_arg0⟩) (m ⟨c, main_arg1⟩) (z 0) (z 1) := by
  refine (dats m 0 c).arrAt_eq_of_covers 2 _ (by decide +kernel) fun t hf y => ?_
  have ht : t.val < 8 := lt_of_lt_of_eq t.isLt N_0
  blk_simp
  rw [after0_2]
  have y0 : ((y 0 : Fin _) : ℕ) < 1024 := (y 0).isLt
  have hi : 1024 * (t.val / 2) + ((y 0 : Fin _) : ℕ) < 4096 := by omega
  have y1 : ((y 1 : Fin _) : ℕ) < 768 := (y 1).isLt
  have hx : 768 * (t.val % 2) + ((y 1 : Fin _) : ℕ) < 1536 := by omega
  have hz : (win0_2.blk t).view.emb y = ix2 (n0 := 4096) (n1 := 1536) ⟨1024 * (t.val / 2) + ((y 0 : Fin _) : ℕ), hi⟩ ⟨768 * (t.val % 2) + ((y 1 : Fin _) : ℕ), hx⟩ := by
    blk_ext [idx2 t]
  rw [hz]
  refine Eq.trans ?_ (out_apply m c t (y 0) (y 1) hi hx)
  exact congrArg _ (eq_ix2 y)

end Cert.Kernel15Ideal.Fw

namespace Cert.Reference15Ideal.Fw

open Cert.Reference15Ideal Cert.Reference15Ideal.Gen Cert.Reference15Ideal.Value Idealize.ShloMosaic Idealize.ShloMosaic.TcCoe Idealize.SL.Sem

/-- The reference's run: its result is the product. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = (fun z : S4096x1536.Idx => Mat.rowProd (M := 4096) (K := 1024) (N := 1536) (m ((c.tc : Thread nD τ).loc main_arg0)) (m ((c.tc : Thread nD τ).loc main_arg1)) (z 0) (z 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r hr c => ?_) (Cert.Reference15Ideal.Value.run (F := Ideal) m ρ)
  refine ⟨(hr c).1.trans ?_, (hr c).2⟩
  clear hr
  generalize m ((c.tc : Thread nD τ).loc main_arg0) = a0
  generalize m ((c.tc : Thread nD τ).loc main_arg1) = a1
  refine funext fun (z : S4096x1536.Idx) => ?_
  obtain ⟨i, j, rfl⟩ : ∃ i j, z = ix2 i j := ⟨z 0, z 1, eq_ix2 z⟩
  show _ = Mat.rowProd (M := 4096) (K := 1024) (N := 1536) a0 a1 i j
  unfold Mat.rowProd
  pointwise

end Cert.Reference15Ideal.Fw

end
-- ==== Proof.Fw16.lean ====
module

public import proofs.«01_k».proof.Proof.Gen.Kernel16Ideal.Value
public import proofs.«01_k».proof.Proof.Gen.Reference16Ideal.Run
public import proofs.«01_k».proof.Proof.Mat
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel16Ideal.Fw

open Cert.Kernel16Ideal Cert.Kernel16Ideal.Gen Idealize.ShloMosaic Idealize.ShloMosaic.TcCoe Idealize.SL.Sem

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem out_apply (t : Fin cfg0.N) (i : Fin 1024) (x : Fin 1024) (hi : 1024 * t.val + i < 4096) :
    out0_2 (iblk m c 0 t) (iblk m c 1 t) (ix2 i x)
      = Mat.rowProd (M := 4096) (K := 256) (N := 1024) (m ⟨c, main_arg0⟩) (m ⟨c, main_arg1⟩) ⟨1024 * t.val + i, hi⟩ x := by
  frame_out
  rw [Mat.rowProd]
  pointwise [k0_pay1]
  refine Finset.sum_congr rfl fun k _ => ?_
  congr 1
  · blk_point [iblk, V, idx0 t]
  · blk_point [iblk, V, idx1 t]

/-- What the result array ends with. -/
theorem arr : (dats m 0 c).arrAt 2 cfg0.N = fun z : S4096x1024.Idx => Mat.rowProd (M := 4096) (K := 256) (N := 1024) (m ⟨c, main_arg0⟩) (m ⟨c, main_arg1⟩) (z 0) (z 1) := by
  refine (dats m 0 c).arrAt_eq_of_covers 2 _ (by decide +kernel) fun t hf y => ?_
  have ht : t.val < 4 := lt_of_lt_of_eq t.isLt N_0
  blk_simp
  rw [after0_2]
  have y0 : ((y 0 : Fin _) : ℕ) < 1024 := (y 0).isLt
  have hi : 1024 * t.val + ((y 0 : Fin _) : ℕ) < 4096 := by omega
  have hz : (win0_2.blk t).view.emb y = ix2 (n0 := 4096) (n1 := 1024) ⟨1024 * t.val + ((y 0 : Fin _) : ℕ), hi⟩ (y 1) := by
    blk_ext [idx2 t]
  rw [hz]
  refine Eq.trans ?_ (out_apply m c t (y 0) (y 1) hi)
  exact congrArg _ (eq_ix2 y)

end Cert.Kernel16Ideal.Fw

namespace Cert.Reference16Ideal.Fw

open Cert.Reference16Ideal Cert.Reference16Ideal.Gen Cert.Reference16Ideal.Value Idealize.ShloMosaic Idealize.ShloMosaic.TcCoe Idealize.SL.Sem

/-- The reference's run: its result is the product. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = (fun z : S4096x1024.Idx => Mat.rowProd (M := 4096) (K := 256) (N := 1024) (m ((c.tc : Thread nD τ).loc main_arg0)) (m ((c.tc : Thread nD τ).loc main_arg1)) (z 0) (z 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r hr c => ?_) (Cert.Reference16Ideal.Value.run (F := Ideal) m ρ)
  refine ⟨(hr c).1.trans ?_, (hr c).2⟩
  clear hr
  generalize m ((c.tc : Thread nD τ).loc main_arg0) = a0
  generalize m ((c.tc : Thread nD τ).loc main_arg1) = a1
  refine funext fun (z : S4096x1024.Idx) => ?_
  obtain ⟨i, j, rfl⟩ : ∃ i j, z = ix2 i j := ⟨z 0, z 1, eq_ix2 z⟩
  show _ = Mat.rowProd (M := 4096) (K := 256) (N := 1024) a0 a1 i j
  unfold Mat.rowProd
  pointwise

end Cert.Reference16Ideal.Fw

end
-- ==== Proof.Fwd.lean ====
/- The forward steps round the residual stream over the extended reals: the sum with the residual path, the gate and the
   root-mean-square norm, one entry at a time. The kernel writes the gate's logistic function with a hyperbolic tangent. -/
module

public import proofs.«01_k».proof.Proof.Rms

@[expose] public section

noncomputable section

namespace Cert.Fwd

open Idealize.ShloMosaic

theorem half : Ideal.ofBits .f32 0x3F000000#32 = ((1 / 2 : ℝ) : EReal) := by
  simp [Ideal.ofBits, Ideal.ieee, -EReal.coe_mul]; norm_num

theorem one : Ideal.ofBits .f32 0x3F800000#32 = ((1 : ℝ) : EReal) := by
  simp [Ideal.ofBits, Ideal.ieee, -EReal.coe_mul]; norm_num

/-- The logistic function, as the kernel writes it. -/
def sig (z : EReal) : EReal :=
  Ideal.ofBits .f32 0x3F000000#32 * Ideal.tanh (Ideal.ofBits .f32 0x3F000000#32 * z) + Ideal.ofBits .f32 0x3F000000#32

/-- The logistic function, as the reference writes it. -/
def sigR (z : EReal) : EReal :=
  Ideal.div (Ideal.ofBits .f32 0x3F800000#32) (Ideal.ofBits .f32 0x3F800000#32 + Ideal.exp (-z))

theorem real_sig (x : ℝ) : 1 / 2 * Real.tanh (1 / 2 * x) + 1 / 2 = 1 * (1 / (1 + Real.exp (-x))) := by
  have h1 : 0 < Real.exp (1 / 2 * x) := Real.exp_pos _
  have e1 : Real.exp (-(1 / 2 * x)) = (Real.exp (1 / 2 * x))⁻¹ := Real.exp_neg _
  have e2 : Real.exp (-x) = (Real.exp (1 / 2 * x))⁻¹ * (Real.exp (1 / 2 * x))⁻¹ := by
    rw [← e1, ← Real.exp_add]; congr 1; ring
  rw [Real.tanh_eq_sinh_div_cosh, Real.sinh_eq, Real.cosh_eq, e1, e2]
  generalize Real.exp (1 / 2 * x) = y at h1
  field_simp
  ring

theorem sig_eq (z : EReal) : sig z = sigR z := by
  unfold sig sigR
  rw [half, one]
  induction z with
  | bot =>
    rw [EReal.coe_mul_bot_of_pos (by norm_num), Ideal.tanh_bot, EReal.neg_bot]
    rw [show Ideal.exp ⊤ = ⊤ from rfl, EReal.coe_add_top]
    rw [show (-1 : EReal) = ((-1 : ℝ) : EReal) by simp, ← EReal.coe_mul, ← EReal.coe_add]
    simp [Ideal.div]
  | top =>
    rw [EReal.coe_mul_top_of_pos (by norm_num), Ideal.tanh_top, EReal.neg_top]
    rw [show Ideal.exp ⊥ = 0 from rfl, add_zero, Ideal.div_coe (by norm_num), mul_one, ← EReal.coe_add, ← EReal.coe_mul]
    norm_num
  | coe x =>
    rw [← EReal.coe_mul, Ideal.tanh_coe, ← EReal.coe_mul, ← EReal.coe_add, ← EReal.coe_neg]
    rw [show Ideal.exp ((-x : ℝ) : EReal) = ((Real.exp (-x) : ℝ) : EReal) from rfl, ← EReal.coe_add]
    rw [Ideal.div_coe (by positivity), ← EReal.coe_mul, real_sig]

/-- The residual stream after a step that adds `G`. -/
def resOf (G h : Fin 4096 → Fin 1024 → EReal) (i : Fin 4096) (x : Fin 1024) : EReal := G i x + h i x

/-- The residual stream after a step that adds `p` through the gate `z`. -/
def gateOf (z h p : Fin 4096 → Fin 1024 → EReal) (i : Fin 4096) (x : Fin 1024) : EReal := h i x + sig (z i x) * p i x

/-- A normed entry. -/
def normOf (h : Fin 4096 → Fin 1024 → EReal) (w : Fin 1024 → EReal) (i : Fin 4096) (x : Fin 1024) : EReal :=
  h i x * Rms.inv (h i) * w x

end Cert.Fwd

end
-- ==== Proof.Fw17.lean ====
module

public import proofs.«01_k».proof.Proof.Gen.Kernel17Ideal.Value
public import proofs.«01_k».proof.Proof.Gen.Reference17Ideal.Run
public import proofs.«01_k».proof.Proof.Fwd
public import proofs.«01_k».proof.Proof.Mat
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel17Ideal.Fw

open Cert.Kernel17Ideal Cert.Kernel17Ideal.Gen Idealize.ShloMosaic Idealize.ShloMosaic.TcCoe Idealize.SL.Sem

variable (m : (ℓ : Loc nD τ sig) → Buf (Elt Ideal) ℓ) (c : Dev nD)

/-- The reciprocal root mean square of each of 32 rows. -/
def rstdV (h : FVec Ideal S32x1024 .f32) : FVec Ideal S32x1 .f32 :=
  rsqrt (addf (divf (shapeCast S32x1 (multiReduction .add [1] S32 (mulf h h) 0x00000000#32 reduces_S32x1024_S32 (.inl rfl) rfl) shapeCasts_S32_S32x1)
    (broadcast S32x1 (Scalar.ofBits (F := Ideal) .f32 0x44800000#32))) (broadcast S32x1 (Scalar.ofBits (F := Ideal) .f32 0x358637BD#32)))

/-- The sum with the residual path at 32 rows. -/
def hV (g h : FVec Ideal S32x1024 .f32) : FVec Ideal S32x1024 .f32 := addf g h

theorem hV_apply (g h : FVec Ideal S32x1024 .f32) (y : S32x1024.Idx) : hV g h y = g y + h y := by
  unfold hV
  pointwise

/-- The normed rows. -/
def nV (h : FVec Ideal S32x1024 .f32) (w : FVec Ideal S1x1024 .f32) : FVec Ideal S32x1024 .bf16 :=
  truncf .bf16 (mulf (mulf (shapeCast S32x1024 h shapeCasts_S32x1024_S32x1024)
    (broadcastTo S32x1024 (rstdV (shapeCast S32x1024 h shapeCasts_S32x1024_S32x1024)) broadcasts_S32x1_S32x1024))
    (broadcastTo S32x1024 (shapeCast S1x1024 w shapeCasts_S1x1024_S1x1024) broadcasts_S1x1024_S32x1024)) bitsLt_bf16_f32

theorem rstdV_apply (h : FVec Ideal S32x1024 .f32) (y : S32x1.Idx) : rstdV h y = Rms.inv (Rms.row h (y 0)) := by
  unfold rstdV Rms.inv Rms.meanSq
  pointwise

theorem nV_apply (h : FVec Ideal S32x1024 .f32) (w : FVec Ideal S1x1024 .f32) (i : Fin 32) (j : Fin 1024) :
    nV h w (ix2 i j) = h (ix2 i j) * Rms.inv (Rms.row h i) * w (ix2 0 j) := by
  unfold nV
  pointwise [rstdV_apply]

theorem ld_row (X : Vec Ideal S512x1024 .f32) (o : ℕ) (inb : ∀ a, (![o, 0] : Fin 2 → ℕ) a + S32x1024.size a ≤ S512x1024.size a)
    (i : Fin 32) (z0 : Fin 512) (h0 : (z0 : ℕ) = o + i) (x : Fin 1024) :
    View.ld X (Rect.unit (s := S512x1024) ![o, 0] S32x1024.size inb) (ix2 i x) = X (ix2 z0 x) := by
  rw [View.ld_apply]
  congr 1
  funext a
  fin_cases a <;> apply Fin.ext <;> simp [h0]

theorem ld_at (X : Vec Ideal S512x1024 .f32) (o : ℕ) (inb : ∀ a, (![o, 0] : Fin 2 → ℕ) a + S32x1024.size a ≤ S512x1024.size a)
    (y : S32x1024.Idx) (z : S512x1024.Idx) (h0 : (z 0 : ℕ) = o + (y 0 : ℕ)) (h1 : (z 1 : ℕ) = (y 1 : ℕ)) :
    View.ld X (Rect.unit (s := S512x1024) ![o, 0] S32x1024.size inb) y = X z := by
  rw [View.ld_apply]
  congr 1
  funext a
  fin_cases a <;> apply Fin.ext <;> simp [h0, h1]

/-- The block of the residual stream after the step. -/
def hB (A H : Vec Ideal S512x1024 .f32) : Vec Ideal S512x1024 .f32 := fun z => A z + H z

theorem piece_h (A H : Vec Ideal S512x1024 .f32) (o : ℕ)
    (inb : ∀ a, (![o, 0] : Fin 2 → ℕ) a + S32x1024.size a ≤ S512x1024.size a) (y : S32x1024.Idx) (z : S512x1024.Idx)
    (h0 : (z 0 : ℕ) = o + (y 0 : ℕ)) (h1 : (z 1 : ℕ) = (y 1 : ℕ)) :
    hV (View.ld A (Rect.unit (s := S512x1024) ![o, 0] S32x1024.size inb)) (View.ld H (Rect.unit (s := S512x1024) ![o, 0] S32x1024.size inb)) y
      = hB A H z := by
  rw [hV_apply, hB, ld_at A o inb y z h0 h1, ld_at H o inb y z h0 h1]

theorem piece_n (A H : Vec Ideal S512x1024 .f32) (w : FVec Ideal S1x1024 .f32) (o : ℕ)
    (inb : ∀ a, (![o, 0] : Fin 2 → ℕ) a + S32x1024.size a ≤ S512x1024.size a) (y : S32x1024.Idx) (z : S512x1024.Idx)
    (h0 : (z 0 : ℕ) = o + (y 0 : ℕ)) (h1 : (z 1 : ℕ) = (y 1 : ℕ)) :
    nV (hV (View.ld A (Rect.unit (s := S512x1024) ![o, 0] S32x1024.size inb)) (View.ld H (Rect.unit (s := S512x1024) ![o, 0] S32x1024.size inb))) w y
      = hB A H (ix2 (z 0) (z 1)) * Rms.inv (Rms.row (hB A H) (z 0)) * w (ix2 0 (z 1)) := by
  have e : ∀ x : Fin 1024, hV (View.ld A (Rect.unit (s := S512x1024) ![o, 0] S32x1024.size inb)) (View.ld H (Rect.unit (s := S512x1024) ![o, 0] S32x1024.size inb)) (ix2 (y 0) x) = hB A H (ix2 (z 0) x) := fun x =>
    piece_h A H o inb (ix2 (y 0) x) (ix2 (z 0) x) h0 rfl
  have ey : y = ix2 (y 0) (y 1) := eq_ix2 y
  have e1 : z 1 = y 1 := Fin.ext h1
  rw [e1]
  refine (congrArg (nV _ w) ey).trans ((nV_apply _ w (y 0) (y 1)).trans ?_)
  exact congrArg₂ (· * ·) (congrArg₂ (· * ·) (e (y 1)) (congrArg Rms.inv (funext e))) rfl

set_option maxHeartbeats 400000 in
theorem h_block (t : Fin cfg0.N) (y : S512x1024.Idx) : (outsAt0 m c t).1 y
    = hB (k0_pay1 (iblk m c 0 t) (iblk m c 1 t)) (iblk m c 2 t) y := by
  dsimp only [outsAt0]
  frame_open
  simp (disch := decide) only [↓ View.readCov_skip, ↓ View.readCov_cons_toLoadRect, ↓ View.readCov_fill]
  frame_out
  generalize hA : (k0_pay1 (F := Ideal) _ _) = A
  canon_tiles y h
  all_goals
    open_payloads
    exact piece_h A (iblk m c 2 t) _ _ _ _ (by omega) (by assumption)

set_option maxHeartbeats 400000 in
theorem n_block (t : Fin cfg0.N) (y : S512x1024.Idx) : (outsAt0 m c t).2 y
    = hB (k0_pay1 (iblk m c 0 t) (iblk m c 1 t)) (iblk m c 2 t) (ix2 (y 0) (y 1)) * Rms.inv (Rms.row (hB (k0_pay1 (iblk m c 0 t) (iblk m c 1 t)) (iblk m c 2 t)) (y 0)) * iblk m c 3 t (ix2 0 (y 1)) := by
  dsimp only [outsAt0]
  frame_open
  simp (disch := decide) only [↓ View.readCov_skip, ↓ View.readCov_cons_toLoadRect, ↓ View.readCov_fill]
  frame_out
  generalize hA : (k0_pay1 (F := Ideal) _ _) = A
  canon_tiles y h
  all_goals
    open_payloads
    exact piece_n A (iblk m c 2 t) (iblk m c 3 t) _ _ _ _ (by omega) (by assumption)

/-! ### The blocks of the grid -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

theorem acc_apply (t : Fin cfg0.N) (i : Fin 512) (x : Fin 1024) (hi : 512 * t.val + i < 4096) :
    k0_pay1 (iblk m c 0 t) (iblk m c 1 t) (ix2 i x) = Mat.prod (M := 4096) (K := 1024) (N := 1024) (m ⟨c, main_arg0⟩) (m ⟨c, main_arg1⟩) ⟨512 * t.val + i, hi⟩ x := by
  rw [Mat.prod]
  pointwise [k0_pay1]
  refine Finset.sum_congr rfl fun k _ => ?_
  congr 1
  · blk_point [iblk, V, idx0 t]
  · blk_point [iblk, V, idx1 t]

theorem in2_apply (t : Fin cfg0.N) (i : Fin 512) (x : Fin 1024) (hi : 512 * t.val + i < 4096) :
    iblk m c 2 t (ix2 i x) = m ⟨c, main_arg2⟩ (ix2 ⟨512 * t.val + i, hi⟩ x) := by
  blk_point [iblk, V, idx2 t]

theorem w_apply (t : Fin cfg0.N) (x : Fin 1024) :
    iblk m c 3 t (ix2 0 x) = m ⟨c, main_arg3⟩ (ix1 x) := by
  blk_point [iblk, V, idx3 t]

/-! ### The result arrays -/

/-- The residual stream after the step. -/
abbrev hS : Fin 4096 → Fin 1024 → EReal := Fwd.resOf (Mat.prod (M := 4096) (K := 1024) (N := 1024) (m ⟨c, main_arg0⟩) (m ⟨c, main_arg1⟩)) (Rms.row (m ⟨c, main_arg2⟩))

theorem hB_apply (t : Fin cfg0.N) (i : Fin 512) (x : Fin 1024) (hi : 512 * t.val + i < 4096) :
    hB (k0_pay1 (iblk m c 0 t) (iblk m c 1 t)) (iblk m c 2 t) (ix2 i x) = hS m c ⟨512 * t.val + i, hi⟩ x := by
  rw [hB, acc_apply m c t i x hi, in2_apply m c t i x hi]
  rfl

theorem h_arr : (dats m 0 c).arrAt 4 cfg0.N = fun z : S4096x1024.Idx => hS m c (z 0) (z 1) := by
  refine (dats m 0 c).arrAt_eq_of_covers 4 _ (by decide +kernel) fun t hf y => ?_
  have ht : t.val < 8 := lt_of_lt_of_eq t.isLt N_0
  blk_simp
  rw [after0_4]
  have y0 : ((y 0 : Fin _) : ℕ) < 512 := (y 0).isLt
  have hi : 512 * t.val + ((y 0 : Fin _) : ℕ) < 4096 := by omega
  have hz : (win0_4.blk t).view.emb y = ix2 (n0 := 4096) (n1 := 1024) ⟨512 * t.val + ((y 0 : Fin _) : ℕ), hi⟩ (y 1) := by
    blk_ext [idx4 t]
  rw [h_block m c t y, hz]
  refine Eq.trans ?_ (hB_apply m c t (y 0) (y 1) hi)
  exact congrArg _ (eq_ix2 y)

theorem n_arr : (dats m 0 c).arrAt 5 cfg0.N = fun z : S4096x1024.Idx => Fwd.normOf (hS m c) (fun x => m ⟨c, main_arg3⟩ (ix1 x)) (z 0) (z 1) := by
  refine (dats m 0 c).arrAt_eq_of_covers 5 _ (by decide +kernel) fun t hf y => ?_
  have ht : t.val < 8 := lt_of_lt_of_eq t.isLt N_0
  blk_simp
  rw [after0_5]
  have y0 : ((y 0 : Fin _) : ℕ) < 512 := (y 0).isLt
  have hi : 512 * t.val + ((y 0 : Fin _) : ℕ) < 4096 := by omega
  have hz : (win0_5.blk t).view.emb y = ix2 (n0 := 4096) (n1 := 1024) ⟨512 * t.val + ((y 0 : Fin _) : ℕ), hi⟩ (y 1) := by
    blk_ext [idx5 t]
  rw [n_block m c t y, hz]
  have e : ∀ x, hB (k0_pay1 (iblk m c 0 t) (iblk m c 1 t)) (iblk m c 2 t) (ix2 (y 0) x) = hS m c ⟨512 * t.val + ((y 0 : Fin _) : ℕ), hi⟩ x := fun x => hB_apply m c t (y 0) x hi
  exact congrArg₂ (· * ·) (congrArg₂ (· * ·) (e (y 1)) (congrArg Rms.inv (funext e))) (w_apply m c t (y 1))

end Cert.Kernel17Ideal.Fw

namespace Cert.Reference17Ideal.Fw

open Cert.Reference17Ideal Cert.Reference17Ideal.Gen Cert.Reference17Ideal.Value Idealize.ShloMosaic Idealize.ShloMosaic.TcCoe Idealize.SL.Sem

theorem prod_apply (a0 : FVec Ideal S4096x1024 .bf16) (a1 : FVec Ideal S1024x1024 .bf16) (i : Fin 4096) (x : Fin 1024) :
    Host.dotGeneral (F := Ideal) dot_S4096x1024_S1024x1024_S4096x1024_1_0_0_1_n_n none (extf .f32 a0 bitsLt_bf16_f32) (extf .f32 a1 bitsLt_bf16_f32) (ix2 i x)
      = Mat.prod (M := 4096) (K := 1024) (N := 1024) a0 a1 i x := by
  rw [Mat.prod]
  pointwise

/-- The reference's run: its results are the same functions of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = (fun z : S4096x1024.Idx => (Fwd.resOf (Mat.prod (M := 4096) (K := 1024) (N := 1024) (m ((c.tc : Thread nD τ).loc main_arg0)) (m ((c.tc : Thread nD τ).loc main_arg1))) (Rms.row (m ((c.tc : Thread nD τ).loc main_arg2)))) (z 0) (z 1))
      ∧ r.2.mem ((c.tc : Thread nD τ).loc main_v17) = (fun z : S4096x1024.Idx => (Fwd.normOf (Fwd.resOf (Mat.prod (M := 4096) (K := 1024) (N := 1024) (m ((c.tc : Thread nD τ).loc main_arg0)) (m ((c.tc : Thread nD τ).loc main_arg1))) (Rms.row (m ((c.tc : Thread nD τ).loc main_arg2)))) (fun x => m ((c.tc : Thread nD τ).loc main_arg3) (ix1 x))) (z 0) (z 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r hr c => ?_) (Cert.Reference17Ideal.Value.run (F := Ideal) m ρ)
  refine ⟨(hr c).1.trans ?_, (hr c).2.1.trans ?_, (hr c).2.2⟩
  · clear hr
    generalize m ((c.tc : Thread nD τ).loc main_arg0) = a0
    generalize m ((c.tc : Thread nD τ).loc main_arg1) = a1
    generalize m ((c.tc : Thread nD τ).loc main_arg2) = a2
    generalize hG : Host.dotGeneral (F := Ideal) dot_S4096x1024_S1024x1024_S4096x1024_1_0_0_1_n_n none _ _ = G
    have hy : (Mat.prod (M := 4096) (K := 1024) (N := 1024) a0 a1) = fun i x => G (ix2 i x) := funext fun i => funext fun x => by
      rw [← hG]
      exact (prod_apply a0 a1 i x).symm
    clear hG
    refine funext fun (z : S4096x1024.Idx) => ?_
    obtain ⟨i, j, rfl⟩ : ∃ i j, z = ix2 i j := ⟨z 0, z 1, eq_ix2 z⟩
    show _ = (Fwd.resOf (Mat.prod (M := 4096) (K := 1024) (N := 1024) a0 a1) (Rms.row a2)) i j
    rw [hy]
    simp only [Fwd.resOf]
    pointwise
    exact add_comm _ _
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize hG : Host.dotGeneral (F := Ideal) dot_S4096x1024_S1024x1024_S4096x1024_1_0_0_1_n_n none _ _ = G
    have hy : (Mat.prod (M := 4096) (K := 1024) (N := 1024) a0 a1) = fun i x => G (ix2 i x) := funext fun i => funext fun x => by
      rw [← hG]
      exact (prod_apply a0 a1 i x).symm
    clear hG
    refine funext fun (z : S4096x1024.Idx) => ?_
    obtain ⟨i, j, rfl⟩ : ∃ i j, z = ix2 i j := ⟨z 0, z 1, eq_ix2 z⟩
    show _ = (Fwd.normOf (Fwd.resOf (Mat.prod (M := 4096) (K := 1024) (N := 1024) a0 a1) (Rms.row a2)) (fun x => a3 (ix1 x))) i j
    rw [hy]
    simp only [Fwd.normOf, Fwd.resOf, Rms.inv, Rms.meanSq]
    pointwise
    simp only [add_comm]

end Cert.Reference17Ideal.Fw

end
-- ==== Proof.Fw18.lean ====
module

public import proofs.«01_k».proof.Proof.Gen.Kernel18Ideal.Value
public import proofs.«01_k».proof.Proof.Gen.Reference18Ideal.Run
public import proofs.«01_k».proof.Proof.Fwd
public import proofs.«01_k».proof.Proof.Mat
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel18Ideal.Fw

open Cert.Kernel18Ideal Cert.Kernel18Ideal.Gen Idealize.ShloMosaic Idealize.ShloMosaic.TcCoe Idealize.SL.Sem

variable (m : (ℓ : Loc nD τ sig) → Buf (Elt Ideal) ℓ) (c : Dev nD)

/-- The reciprocal root mean square of each of 32 rows. -/
def rstdV (h : FVec Ideal S32x1024 .f32) : FVec Ideal S32x1 .f32 :=
  rsqrt (addf (divf (shapeCast S32x1 (multiReduction .add [1] S32 (mulf h h) 0x00000000#32 reduces_S32x1024_S32 (.inl rfl) rfl) shapeCasts_S32_S32x1)
    (broadcast S32x1 (Scalar.ofBits (F := Ideal) .f32 0x44800000#32))) (broadcast S32x1 (Scalar.ofBits (F := Ideal) .f32 0x358637BD#32)))

/-- The sum with the residual path at 32 rows. -/
def hV (g h : FVec Ideal S32x1024 .f32) : FVec Ideal S32x1024 .f32 := addf g h

theorem hV_apply (g h : FVec Ideal S32x1024 .f32) (y : S32x1024.Idx) : hV g h y = g y + h y := by
  unfold hV
  pointwise

/-- The normed rows. -/
def nV (h : FVec Ideal S32x1024 .f32) (w : FVec Ideal S1x1024 .f32) : FVec Ideal S32x1024 .bf16 :=
  truncf .bf16 (mulf (mulf (shapeCast S32x1024 h shapeCasts_S32x1024_S32x1024)
    (broadcastTo S32x1024 (rstdV (shapeCast S32x1024 h shapeCasts_S32x1024_S32x1024)) broadcasts_S32x1_S32x1024))
    (broadcastTo S32x1024 (shapeCast S1x1024 w shapeCasts_S1x1024_S1x1024) broadcasts_S1x1024_S32x1024)) bitsLt_bf16_f32

theorem rstdV_apply (h : FVec Ideal S32x1024 .f32) (y : S32x1.Idx) : rstdV h y = Rms.inv (Rms.row h (y 0)) := by
  unfold rstdV Rms.inv Rms.meanSq
  pointwise

theorem nV_apply (h : FVec Ideal S32x1024 .f32) (w : FVec Ideal S1x1024 .f32) (i : Fin 32) (j : Fin 1024) :
    nV h w (ix2 i j) = h (ix2 i j) * Rms.inv (Rms.row h i) * w (ix2 0 j) := by
  unfold nV
  pointwise [rstdV_apply]

theorem ld_row (X : Vec Ideal S512x1024 .f32) (o : ℕ) (inb : ∀ a, (![o, 0] : Fin 2 → ℕ) a + S32x1024.size a ≤ S512x1024.size a)
    (i : Fin 32) (z0 : Fin 512) (h0 : (z0 : ℕ) = o + i) (x : Fin 1024) :
    View.ld X (Rect.unit (s := S512x1024) ![o, 0] S32x1024.size inb) (ix2 i x) = X (ix2 z0 x) := by
  rw [View.ld_apply]
  congr 1
  funext a
  fin_cases a <;> apply Fin.ext <;> simp [h0]

theorem ld_at (X : Vec Ideal S512x1024 .f32) (o : ℕ) (inb : ∀ a, (![o, 0] : Fin 2 → ℕ) a + S32x1024.size a ≤ S512x1024.size a)
    (y : S32x1024.Idx) (z : S512x1024.Idx) (h0 : (z 0 : ℕ) = o + (y 0 : ℕ)) (h1 : (z 1 : ℕ) = (y 1 : ℕ)) :
    View.ld X (Rect.unit (s := S512x1024) ![o, 0] S32x1024.size inb) y = X z := by
  rw [View.ld_apply]
  congr 1
  funext a
  fin_cases a <;> apply Fin.ext <;> simp [h0, h1]

/-- The block of the residual stream after the step. -/
def hB (A H : Vec Ideal S512x1024 .f32) : Vec Ideal S512x1024 .f32 := fun z => A z + H z

theorem piece_h (A H : Vec Ideal S512x1024 .f32) (o : ℕ)
    (inb : ∀ a, (![o, 0] : Fin 2 → ℕ) a + S32x1024.size a ≤ S512x1024.size a) (y : S32x1024.Idx) (z : S512x1024.Idx)
    (h0 : (z 0 : ℕ) = o + (y 0 : ℕ)) (h1 : (z 1 : ℕ) = (y 1 : ℕ)) :
    hV (View.ld A (Rect.unit (s := S512x1024) ![o, 0] S32x1024.size inb)) (View.ld H (Rect.unit (s := S512x1024) ![o, 0] S32x1024.size inb)) y
      = hB A H z := by
  rw [hV_apply, hB, ld_at A o inb y z h0 h1, ld_at H o inb y z h0 h1]

theorem piece_n (A H : Vec Ideal S512x1024 .f32) (w : FVec Ideal S1x1024 .f32) (o : ℕ)
    (inb : ∀ a, (![o, 0] : Fin 2 → ℕ) a + S32x1024.size a ≤ S512x1024.size a) (y : S32x1024.Idx) (z : S512x1024.Idx)
    (h0 : (z 0 : ℕ) = o + (y 0 : ℕ)) (h1 : (z 1 : ℕ) = (y 1 : ℕ)) :
    nV (hV (View.ld A (Rect.unit (s := S512x1024) ![o, 0] S32x1024.size inb)) (View.ld H (Rect.unit (s := S512x1024) ![o, 0] S32x1024.size inb))) w y
      = hB A H (ix2 (z 0) (z 1)) * Rms.inv (Rms.row (hB A H) (z 0)) * w (ix2 0 (z 1)) := by
  have e : ∀ x : Fin 1024, hV (View.ld A (Rect.unit (s := S512x1024) ![o, 0] S32x1024.size inb)) (View.ld H (Rect.unit (s := S512x1024) ![o, 0] S32x1024.size inb)) (ix2 (y 0) x) = hB A H (ix2 (z 0) x) := fun x =>
    piece_h A H o inb (ix2 (y 0) x) (ix2 (z 0) x) h0 rfl
  have ey : y = ix2 (y 0) (y 1) := eq_ix2 y
  have e1 : z 1 = y 1 := Fin.ext h1
  rw [e1]
  refine (congrArg (nV _ w) ey).trans ((nV_apply _ w (y 0) (y 1)).trans ?_)
  exact congrArg₂ (· * ·) (congrArg₂ (· * ·) (e (y 1)) (congrArg Rms.inv (funext e))) rfl

set_option maxHeartbeats 400000 in
theorem h_block (t : Fin cfg0.N) (y : S512x1024.Idx) : (outsAt0 m c t).1 y
    = hB (k0_pay1 (iblk m c 0 t) (iblk m c 1 t)) (iblk m c 2 t) y := by
  dsimp only [outsAt0]
  frame_open
  simp (disch := decide) only [↓ View.readCov_skip, ↓ View.readCov_cons_toLoadRect, ↓ View.readCov_fill]
  frame_out
  generalize hA : (k0_pay1 (F := Ideal) _ _) = A
  canon_tiles y h
  all_goals
    open_payloads
    exact piece_h A (iblk m c 2 t) _ _ _ _ (by omega) (by assumption)

set_option maxHeartbeats 400000 in
theorem n_block (t : Fin cfg0.N) (y : S512x1024.Idx) : (outsAt0 m c t).2 y
    = hB (k0_pay1 (iblk m c 0 t) (iblk m c 1 t)) (iblk m c 2 t) (ix2 (y 0) (y 1)) * Rms.inv (Rms.row (hB (k0_pay1 (iblk m c 0 t) (iblk m c 1 t)) (iblk m c 2 t)) (y 0)) * iblk m c 3 t (ix2 0 (y 1)) := by
  dsimp only [outsAt0]
  frame_open
  simp (disch := decide) only [↓ View.readCov_skip, ↓ View.readCov_cons_toLoadRect, ↓ View.readCov_fill]
  frame_out
  generalize hA : (k0_pay1 (F := Ideal) _ _) = A
  canon_tiles y h
  all_goals
    open_payloads
    exact piece_n A (iblk m c 2 t) (iblk m c 3 t) _ _ _ _ (by omega) (by assumption)

/-! ### The blocks of the grid -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

theorem acc_apply (t : Fin cfg0.N) (i : Fin 512) (x : Fin 1024) (hi : 512 * t.val + i < 4096) :
    k0_pay1 (iblk m c 0 t) (iblk m c 1 t) (ix2 i x) = Mat.prod (M := 4096) (K := 2816) (N := 1024) (m ⟨c, main_arg0⟩) (m ⟨c, main_arg1⟩) ⟨512 * t.val + i, hi⟩ x := by
  rw [Mat.prod]
  pointwise [k0_pay1]
  refine Finset.sum_congr rfl fun k _ => ?_
  congr 1
  · blk_point [iblk, V, idx0 t]
  · blk_point [iblk, V, idx1 t]

theorem in2_apply (t : Fin cfg0.N) (i : Fin 512) (x : Fin 1024) (hi : 512 * t.val + i < 4096) :
    iblk m c 2 t (ix2 i x) = m ⟨c, main_arg2⟩ (ix2 ⟨512 * t.val + i, hi⟩ x) := by
  blk_point [iblk, V, idx2 t]

theorem w_apply (t : Fin cfg0.N) (x : Fin 1024) :
    iblk m c 3 t (ix2 0 x) = m ⟨c, main_arg3⟩ (ix1 x) := by
  blk_point [iblk, V, idx3 t]

/-! ### The result arrays -/

/-- The residual stream after the step. -/
abbrev hS : Fin 4096 → Fin 1024 → EReal := Fwd.resOf (Mat.prod (M := 4096) (K := 2816) (N := 1024) (m ⟨c, main_arg0⟩) (m ⟨c, main_arg1⟩)) (Rms.row (m ⟨c, main_arg2⟩))

theorem hB_apply (t : Fin cfg0.N) (i : Fin 512) (x : Fin 1024) (hi : 512 * t.val + i < 4096) :
    hB (k0_pay1 (iblk m c 0 t) (iblk m c 1 t)) (iblk m c 2 t) (ix2 i x) = hS m c ⟨512 * t.val + i, hi⟩ x := by
  rw [hB, acc_apply m c t i x hi, in2_apply m c t i x hi]
  rfl

theorem h_arr : (dats m 0 c).arrAt 4 cfg0.N = fun z : S4096x1024.Idx => hS m c (z 0) (z 1) := by
  refine (dats m 0 c).arrAt_eq_of_covers 4 _ (by decide +kernel) fun t hf y => ?_
  have ht : t.val < 8 := lt_of_lt_of_eq t.isLt N_0
  blk_simp
  rw [after0_4]
  have y0 : ((y 0 : Fin _) : ℕ) < 512 := (y 0).isLt
  have hi : 512 * t.val + ((y 0 : Fin _) : ℕ) < 4096 := by omega
  have hz : (win0_4.blk t).view.emb y = ix2 (n0 := 4096) (n1 := 1024) ⟨512 * t.val + ((y 0 : Fin _) : ℕ), hi⟩ (y 1) := by
    blk_ext [idx4 t]
  rw [h_block m c t y, hz]
  refine Eq.trans ?_ (hB_apply m c t (y 0) (y 1) hi)
  exact congrArg _ (eq_ix2 y)

theorem n_arr : (dats m 0 c).arrAt 5 cfg0.N = fun z : S4096x1024.Idx => Fwd.normOf (hS m c) (fun x => m ⟨c, main_arg3⟩ (ix1 x)) (z 0) (z 1) := by
  refine (dats m 0 c).arrAt_eq_of_covers 5 _ (by decide +kernel) fun t hf y => ?_
  have ht : t.val < 8 := lt_of_lt_of_eq t.isLt N_0
  blk_simp
  rw [after0_5]
  have y0 : ((y 0 : Fin _) : ℕ) < 512 := (y 0).isLt
  have hi : 512 * t.val + ((y 0 : Fin _) : ℕ) < 4096 := by omega
  have hz : (win0_5.blk t).view.emb y = ix2 (n0 := 4096) (n1 := 1024) ⟨512 * t.val + ((y 0 : Fin _) : ℕ), hi⟩ (y 1) := by
    blk_ext [idx5 t]
  rw [n_block m c t y, hz]
  have e : ∀ x, hB (k0_pay1 (iblk m c 0 t) (iblk m c 1 t)) (iblk m c 2 t) (ix2 (y 0) x) = hS m c ⟨512 * t.val + ((y 0 : Fin _) : ℕ), hi⟩ x := fun x => hB_apply m c t (y 0) x hi
  exact congrArg₂ (· * ·) (congrArg₂ (· * ·) (e (y 1)) (congrArg Rms.inv (funext e))) (w_apply m c t (y 1))

end Cert.Kernel18Ideal.Fw

namespace Cert.Reference18Ideal.Fw

open Cert.Reference18Ideal Cert.Reference18Ideal.Gen Cert.Reference18Ideal.Value Idealize.ShloMosaic Idealize.ShloMosaic.TcCoe Idealize.SL.Sem

theorem prod_apply (a0 : FVec Ideal S4096x2816 .bf16) (a1 : FVec Ideal S2816x1024 .bf16) (i : Fin 4096) (x : Fin 1024) :
    Host.dotGeneral (F := Ideal) dot_S4096x2816_S2816x1024_S4096x1024_1_0_0_1_n_n none (extf .f32 a0 bitsLt_bf16_f32) (extf .f32 a1 bitsLt_bf16_f32) (ix2 i x)
      = Mat.prod (M := 4096) (K := 2816) (N := 1024) a0 a1 i x := by
  rw [Mat.prod]
  pointwise

/-- The reference's run: its results are the same functions of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = (fun z : S4096x1024.Idx => (Fwd.resOf (Mat.prod (M := 4096) (K := 2816) (N := 1024) (m ((c.tc : Thread nD τ).loc main_arg0)) (m ((c.tc : Thread nD τ).loc main_arg1))) (Rms.row (m ((c.tc : Thread nD τ).loc main_arg2)))) (z 0) (z 1))
      ∧ r.2.mem ((c.tc : Thread nD τ).loc main_v17) = (fun z : S4096x1024.Idx => (Fwd.normOf (Fwd.resOf (Mat.prod (M := 4096) (K := 2816) (N := 1024) (m ((c.tc : Thread nD τ).loc main_arg0)) (m ((c.tc : Thread nD τ).loc main_arg1))) (Rms.row (m ((c.tc : Thread nD τ).loc main_arg2)))) (fun x => m ((c.tc : Thread nD τ).loc main_arg3) (ix1 x))) (z 0) (z 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r hr c => ?_) (Cert.Reference18Ideal.Value.run (F := Ideal) m ρ)
  refine ⟨(hr c).1.trans ?_, (hr c).2.1.trans ?_, (hr c).2.2⟩
  · clear hr
    generalize m ((c.tc : Thread nD τ).loc main_arg0) = a0
    generalize m ((c.tc : Thread nD τ).loc main_arg1) = a1
    generalize m ((c.tc : Thread nD τ).loc main_arg2) = a2
    generalize hG : Host.dotGeneral (F := Ideal) dot_S4096x2816_S2816x1024_S4096x1024_1_0_0_1_n_n none _ _ = G
    have hy : (Mat.prod (M := 4096) (K := 2816) (N := 1024) a0 a1) = fun i x => G (ix2 i x) := funext fun i => funext fun x => by
      rw [← hG]
      exact (prod_apply a0 a1 i x).symm
    clear hG
    refine funext fun (z : S4096x1024.Idx) => ?_
    obtain ⟨i, j, rfl⟩ : ∃ i j, z = ix2 i j := ⟨z 0, z 1, eq_ix2 z⟩
    show _ = (Fwd.resOf (Mat.prod (M := 4096) (K := 2816) (N := 1024) a0 a1) (Rms.row a2)) i j
    rw [hy]
    simp only [Fwd.resOf]
    pointwise
    exact add_comm _ _
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize hG : Host.dotGeneral (F := Ideal) dot_S4096x2816_S2816x1024_S4096x1024_1_0_0_1_n_n none _ _ = G
    have hy : (Mat.prod (M := 4096) (K := 2816) (N := 1024) a0 a1) = fun i x => G (ix2 i x) := funext fun i => funext fun x => by
      rw [← hG]
      exact (prod_apply a0 a1 i x).symm
    clear hG
    refine funext fun (z : S4096x1024.Idx) => ?_
    obtain ⟨i, j, rfl⟩ : ∃ i j, z = ix2 i j := ⟨z 0, z 1, eq_ix2 z⟩
    show _ = (Fwd.normOf (Fwd.resOf (Mat.prod (M := 4096) (K := 2816) (N := 1024) a0 a1) (Rms.row a2)) (fun x => a3 (ix1 x))) i j
    rw [hy]
    simp only [Fwd.normOf, Fwd.resOf, Rms.inv, Rms.meanSq]
    pointwise
    simp only [add_comm]

end Cert.Reference18Ideal.Fw

end
-- ==== Proof.Fw19.lean ====
module

public import proofs.«01_k».proof.Proof.Gen.Kernel19Ideal.Value
public import proofs.«01_k».proof.Proof.Gen.Reference19Ideal.Run
public import proofs.«01_k».proof.Proof.Fwd
public import proofs.«01_k».proof.Proof.Mat
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel19Ideal.Fw

open Cert.Kernel19Ideal Cert.Kernel19Ideal.Gen Idealize.ShloMosaic Idealize.ShloMosaic.TcCoe Idealize.SL.Sem

variable (m : (ℓ : Loc nD τ sig) → Buf (Elt Ideal) ℓ) (c : Dev nD)

/-- The reciprocal root mean square of each of 32 rows. -/
def rstdV (h : FVec Ideal S32x1024 .f32) : FVec Ideal S32x1 .f32 :=
  rsqrt (addf (divf (shapeCast S32x1 (multiReduction .add [1] S32 (mulf h h) 0x00000000#32 reduces_S32x1024_S32 (.inl rfl) rfl) shapeCasts_S32_S32x1)
    (broadcast S32x1 (Scalar.ofBits (F := Ideal) .f32 0x44800000#32))) (broadcast S32x1 (Scalar.ofBits (F := Ideal) .f32 0x358637BD#32)))

/-- The gated sum at 32 rows. -/
def hV (z h p : FVec Ideal S32x1024 .f32) : FVec Ideal S32x1024 .f32 :=
  addf h (mulf (addf (mulf (broadcast S32x1024 (Scalar.ofBits (F := Ideal) .f32 0x3F000000#32)) (tanh (mulf (broadcast S32x1024 (Scalar.ofBits (F := Ideal) .f32 0x3F000000#32)) z)))
    (broadcast S32x1024 (Scalar.ofBits (F := Ideal) .f32 0x3F000000#32))) p)

theorem hV_apply (z h p : FVec Ideal S32x1024 .f32) (y : S32x1024.Idx) : hV z h p y = h y + Fwd.sig (z y) * p y := by
  unfold hV Fwd.sig
  pointwise

/-- The normed rows. -/
def nV (h : FVec Ideal S32x1024 .f32) (w : FVec Ideal S1x1024 .f32) : FVec Ideal S32x1024 .bf16 :=
  truncf .bf16 (mulf (mulf (shapeCast S32x1024 h shapeCasts_S32x1024_S32x1024)
    (broadcastTo S32x1024 (rstdV (shapeCast S32x1024 h shapeCasts_S32x1024_S32x1024)) broadcasts_S32x1_S32x1024))
    (broadcastTo S32x1024 (shapeCast S1x1024 w shapeCasts_S1x1024_S1x1024) broadcasts_S1x1024_S32x1024)) bitsLt_bf16_f32

theorem rstdV_apply (h : FVec Ideal S32x1024 .f32) (y : S32x1.Idx) : rstdV h y = Rms.inv (Rms.row h (y 0)) := by
  unfold rstdV Rms.inv Rms.meanSq
  pointwise

theorem nV_apply (h : FVec Ideal S32x1024 .f32) (w : FVec Ideal S1x1024 .f32) (i : Fin 32) (j : Fin 1024) :
    nV h w (ix2 i j) = h (ix2 i j) * Rms.inv (Rms.row h i) * w (ix2 0 j) := by
  unfold nV
  pointwise [rstdV_apply]

theorem ld_row (X : Vec Ideal S512x1024 .f32) (o : ℕ) (inb : ∀ a, (![o, 0] : Fin 2 → ℕ) a + S32x1024.size a ≤ S512x1024.size a)
    (i : Fin 32) (z0 : Fin 512) (h0 : (z0 : ℕ) = o + i) (x : Fin 1024) :
    View.ld X (Rect.unit (s := S512x1024) ![o, 0] S32x1024.size inb) (ix2 i x) = X (ix2 z0 x) := by
  rw [View.ld_apply]
  congr 1
  funext a
  fin_cases a <;> apply Fin.ext <;> simp [h0]

theorem ld_at (X : Vec Ideal S512x1024 .f32) (o : ℕ) (inb : ∀ a, (![o, 0] : Fin 2 → ℕ) a + S32x1024.size a ≤ S512x1024.size a)
    (y : S32x1024.Idx) (z : S512x1024.Idx) (h0 : (z 0 : ℕ) = o + (y 0 : ℕ)) (h1 : (z 1 : ℕ) = (y 1 : ℕ)) :
    View.ld X (Rect.unit (s := S512x1024) ![o, 0] S32x1024.size inb) y = X z := by
  rw [View.ld_apply]
  congr 1
  funext a
  fin_cases a <;> apply Fin.ext <;> simp [h0, h1]

/-- The block of the residual stream after the step. -/
def hB (A H P : Vec Ideal S512x1024 .f32) : Vec Ideal S512x1024 .f32 := fun z => H z + Fwd.sig (A z) * P z

theorem piece_h (A H P : Vec Ideal S512x1024 .f32) (o : ℕ)
    (inb : ∀ a, (![o, 0] : Fin 2 → ℕ) a + S32x1024.size a ≤ S512x1024.size a) (y : S32x1024.Idx) (z : S512x1024.Idx)
    (h0 : (z 0 : ℕ) = o + (y 0 : ℕ)) (h1 : (z 1 : ℕ) = (y 1 : ℕ)) :
    hV (View.ld A (Rect.unit (s := S512x1024) ![o, 0] S32x1024.size inb)) (View.ld H (Rect.unit (s := S512x1024) ![o, 0] S32x1024.size inb)) (View.ld P (Rect.unit (s := S512x1024) ![o, 0] S32x1024.size inb)) y
      = hB A H P z := by
  rw [hV_apply, hB, ld_at A o inb y z h0 h1, ld_at H o inb y z h0 h1, ld_at P o inb y z h0 h1]

theorem piece_n (A H P : Vec Ideal S512x1024 .f32) (w : FVec Ideal S1x1024 .f32) (o : ℕ)
    (inb : ∀ a, (![o, 0] : Fin 2 → ℕ) a + S32x1024.size a ≤ S512x1024.size a) (y : S32x1024.Idx) (z : S512x1024.Idx)
    (h0 : (z 0 : ℕ) = o + (y 0 : ℕ)) (h1 : (z 1 : ℕ) = (y 1 : ℕ)) :
    nV (hV (View.ld A (Rect.unit (s := S512x1024) ![o, 0] S32x1024.size inb)) (View.ld H (Rect.unit (s := S512x1024) ![o, 0] S32x1024.size inb)) (View.ld P (Rect.unit (s := S512x1024) ![o, 0] S32x1024.size inb))) w y
      = hB A H P (ix2 (z 0) (z 1)) * Rms.inv (Rms.row (hB A H P) (z 0)) * w (ix2 0 (z 1)) := by
  have e : ∀ x : Fin 1024, hV (View.ld A (Rect.unit (s := S512x1024) ![o, 0] S32x1024.size inb)) (View.ld H (Rect.unit (s := S512x1024) ![o, 0] S32x1024.size inb)) (View.ld P (Rect.unit (s := S512x1024) ![o, 0] S32x1024.size inb)) (ix2 (y 0) x) = hB A H P (ix2 (z 0) x) := fun x =>
    piece_h A H P o inb (ix2 (y 0) x) (ix2 (z 0) x) h0 rfl
  have ey : y = ix2 (y 0) (y 1) := eq_ix2 y
  have e1 : z 1 = y 1 := Fin.ext h1
  rw [e1]
  refine (congrArg (nV _ w) ey).trans ((nV_apply _ w (y 0) (y 1)).trans ?_)
  exact congrArg₂ (· * ·) (congrArg₂ (· * ·) (e (y 1)) (congrArg Rms.inv (funext e))) rfl

set_option maxHeartbeats 400000 in
theorem z_block (t : Fin cfg0.N) (y : S512x1024.Idx) : (outsAt0 m c t).1 y = k0_pay1 (iblk m c 0 t) (iblk m c 1 t) y := by
  dsimp only [outsAt0]
  frame_open
  simp (disch := decide) only [↓ View.readCov_skip, ↓ View.readCov_cons_toLoadRect, ↓ View.readCov_fill]
  frame_out
  generalize hA : (k0_pay1 (F := Ideal) _ _) = A
  canon_tiles y h
  all_goals
    open_payloads
    exact ld_at A _ _ _ _ (by omega) (by assumption)

set_option maxHeartbeats 400000 in
theorem h_block (t : Fin cfg0.N) (y : S512x1024.Idx) : (outsAt0 m c t).2.1 y
    = hB (k0_pay1 (iblk m c 0 t) (iblk m c 1 t)) (iblk m c 2 t) (iblk m c 3 t) y := by
  dsimp only [outsAt0]
  frame_open
  simp (disch := decide) only [↓ View.readCov_skip, ↓ View.readCov_cons_toLoadRect, ↓ View.readCov_fill]
  frame_out
  generalize hA : (k0_pay1 (F := Ideal) _ _) = A
  canon_tiles y h
  all_goals
    open_payloads
    exact piece_h A (iblk m c 2 t) (iblk m c 3 t) _ _ _ _ (by omega) (by assumption)

set_option maxHeartbeats 400000 in
theorem n_block (t : Fin cfg0.N) (y : S512x1024.Idx) : (outsAt0 m c t).2.2 y
    = hB (k0_pay1 (iblk m c 0 t) (iblk m c 1 t)) (iblk m c 2 t) (iblk m c 3 t) (ix2 (y 0) (y 1)) * Rms.inv (Rms.row (hB (k0_pay1 (iblk m c 0 t) (iblk m c 1 t)) (iblk m c 2 t) (iblk m c 3 t)) (y 0)) * iblk m c 4 t (ix2 0 (y 1)) := by
  dsimp only [outsAt0]
  frame_open
  simp (disch := decide) only [↓ View.readCov_skip, ↓ View.readCov_cons_toLoadRect, ↓ View.readCov_fill]
  frame_out
  generalize hA : (k0_pay1 (F := Ideal) _ _) = A
  canon_tiles y h
  all_goals
    open_payloads
    exact piece_n A (iblk m c 2 t) (iblk m c 3 t) (iblk m c 4 t) _ _ _ _ (by omega) (by assumption)

/-! ### The blocks of the grid -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

theorem acc_apply (t : Fin cfg0.N) (i : Fin 512) (x : Fin 1024) (hi : 512 * t.val + i < 4096) :
    k0_pay1 (iblk m c 0 t) (iblk m c 1 t) (ix2 i x) = Mat.prod (M := 4096) (K := 1024) (N := 1024) (m ⟨c, main_arg0⟩) (m ⟨c, main_arg1⟩) ⟨512 * t.val + i, hi⟩ x := by
  rw [Mat.prod]
  pointwise [k0_pay1]
  refine Finset.sum_congr rfl fun k _ => ?_
  congr 1
  · blk_point [iblk, V, idx0 t]
  · blk_point [iblk, V, idx1 t]

theorem in2_apply (t : Fin cfg0.N) (i : Fin 512) (x : Fin 1024) (hi : 512 * t.val + i < 4096) :
    iblk m c 2 t (ix2 i x) = m ⟨c, main_arg2⟩ (ix2 ⟨512 * t.val + i, hi⟩ x) := by
  blk_point [iblk, V, idx2 t]

theorem in3_apply (t : Fin cfg0.N) (i : Fin 512) (x : Fin 1024) (hi : 512 * t.val + i < 4096) :
    iblk m c 3 t (ix2 i x) = m ⟨c, main_arg3⟩ (ix2 ⟨512 * t.val + i, hi⟩ x) := by
  blk_point [iblk, V, idx3 t]

theorem w_apply (t : Fin cfg0.N) (x : Fin 1024) :
    iblk m c 4 t (ix2 0 x) = m ⟨c, main_arg4⟩ (ix1 x) := by
  blk_point [iblk, V, idx4 t]

/-! ### The result arrays -/

/-- The residual stream after the step. -/
abbrev hS : Fin 4096 → Fin 1024 → EReal := Fwd.gateOf (Mat.prod (M := 4096) (K := 1024) (N := 1024) (m ⟨c, main_arg0⟩) (m ⟨c, main_arg1⟩)) (Rms.row (m ⟨c, main_arg2⟩)) (Rms.row (m ⟨c, main_arg3⟩))

theorem z_arr : (dats m 0 c).arrAt 5 cfg0.N = fun z : S4096x1024.Idx => (Mat.prod (M := 4096) (K := 1024) (N := 1024) (m ⟨c, main_arg0⟩) (m ⟨c, main_arg1⟩)) (z 0) (z 1) := by
  refine (dats m 0 c).arrAt_eq_of_covers 5 _ (by decide +kernel) fun t hf y => ?_
  have ht : t.val < 8 := lt_of_lt_of_eq t.isLt N_0
  blk_simp
  rw [after0_5]
  have y0 : ((y 0 : Fin _) : ℕ) < 512 := (y 0).isLt
  have hi : 512 * t.val + ((y 0 : Fin _) : ℕ) < 4096 := by omega
  have hz : (win0_5.blk t).view.emb y = ix2 (n0 := 4096) (n1 := 1024) ⟨512 * t.val + ((y 0 : Fin _) : ℕ), hi⟩ (y 1) := by
    blk_ext [idx5 t]
  rw [z_block m c t y, hz]
  refine Eq.trans ?_ (acc_apply m c t (y 0) (y 1) hi)
  exact congrArg _ (eq_ix2 y)

theorem hB_apply (t : Fin cfg0.N) (i : Fin 512) (x : Fin 1024) (hi : 512 * t.val + i < 4096) :
    hB (k0_pay1 (iblk m c 0 t) (iblk m c 1 t)) (iblk m c 2 t) (iblk m c 3 t) (ix2 i x) = hS m c ⟨512 * t.val + i, hi⟩ x := by
  rw [hB, acc_apply m c t i x hi, in2_apply m c t i x hi, in3_apply m c t i x hi]
  rfl

theorem h_arr : (dats m 0 c).arrAt 6 cfg0.N = fun z : S4096x1024.Idx => hS m c (z 0) (z 1) := by
  refine (dats m 0 c).arrAt_eq_of_covers 6 _ (by decide +kernel) fun t hf y => ?_
  have ht : t.val < 8 := lt_of_lt_of_eq t.isLt N_0
  blk_simp
  rw [after0_6]
  have y0 : ((y 0 : Fin _) : ℕ) < 512 := (y 0).isLt
  have hi : 512 * t.val + ((y 0 : Fin _) : ℕ) < 4096 := by omega
  have hz : (win0_6.blk t).view.emb y = ix2 (n0 := 4096) (n1 := 1024) ⟨512 * t.val + ((y 0 : Fin _) : ℕ), hi⟩ (y 1) := by
    blk_ext [idx6 t]
  rw [h_block m c t y, hz]
  refine Eq.trans ?_ (hB_apply m c t (y 0) (y 1) hi)
  exact congrArg _ (eq_ix2 y)

theorem n_arr : (dats m 0 c).arrAt 7 cfg0.N = fun z : S4096x1024.Idx => Fwd.normOf (hS m c) (fun x => m ⟨c, main_arg4⟩ (ix1 x)) (z 0) (z 1) := by
  refine (dats m 0 c).arrAt_eq_of_covers 7 _ (by decide +kernel) fun t hf y => ?_
  have ht : t.val < 8 := lt_of_lt_of_eq t.isLt N_0
  blk_simp
  rw [after0_7]
  have y0 : ((y 0 : Fin _) : ℕ) < 512 := (y 0).isLt
  have hi : 512 * t.val + ((y 0 : Fin _) : ℕ) < 4096 := by omega
  have hz : (win0_7.blk t).view.emb y = ix2 (n0 := 4096) (n1 := 1024) ⟨512 * t.val + ((y 0 : Fin _) : ℕ), hi⟩ (y 1) := by
    blk_ext [idx7 t]
  rw [n_block m c t y, hz]
  have e : ∀ x, hB (k0_pay1 (iblk m c 0 t) (iblk m c 1 t)) (iblk m c 2 t) (iblk m c 3 t) (ix2 (y 0) x) = hS m c ⟨512 * t.val + ((y 0 : Fin _) : ℕ), hi⟩ x := fun x => hB_apply m c t (y 0) x hi
  exact congrArg₂ (· * ·) (congrArg₂ (· * ·) (e (y 1)) (congrArg Rms.inv (funext e))) (w_apply m c t (y 1))

end Cert.Kernel19Ideal.Fw

namespace Cert.Reference19Ideal.Fw

open Cert.Reference19Ideal Cert.Reference19Ideal.Gen Cert.Reference19Ideal.Value Idealize.ShloMosaic Idealize.ShloMosaic.TcCoe Idealize.SL.Sem

theorem prod_apply (a0 : FVec Ideal S4096x1024 .bf16) (a1 : FVec Ideal S1024x1024 .bf16) (i : Fin 4096) (x : Fin 1024) :
    Host.dotGeneral (F := Ideal) dot_S4096x1024_S1024x1024_S4096x1024_1_0_0_1_n_n none (extf .f32 a0 bitsLt_bf16_f32) (extf .f32 a1 bitsLt_bf16_f32) (ix2 i x)
      = Mat.prod (M := 4096) (K := 1024) (N := 1024) a0 a1 i x := by
  rw [Mat.prod]
  pointwise

/-- The reference's run: its results are the same functions of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = (fun z : S4096x1024.Idx => (Mat.prod (M := 4096) (K := 1024) (N := 1024) (m ((c.tc : Thread nD τ).loc main_arg0)) (m ((c.tc : Thread nD τ).loc main_arg1))) (z 0) (z 1))
      ∧ r.2.mem ((c.tc : Thread nD τ).loc main_v10) = (fun z : S4096x1024.Idx => (Fwd.gateOf (Mat.prod (M := 4096) (K := 1024) (N := 1024) (m ((c.tc : Thread nD τ).loc main_arg0)) (m ((c.tc : Thread nD τ).loc main_arg1))) (Rms.row (m ((c.tc : Thread nD τ).loc main_arg2))) (Rms.row (m ((c.tc : Thread nD τ).loc main_arg3)))) (z 0) (z 1))
      ∧ r.2.mem ((c.tc : Thread nD τ).loc main_v24) = (fun z : S4096x1024.Idx => (Fwd.normOf (Fwd.gateOf (Mat.prod (M := 4096) (K := 1024) (N := 1024) (m ((c.tc : Thread nD τ).loc main_arg0)) (m ((c.tc : Thread nD τ).loc main_arg1))) (Rms.row (m ((c.tc : Thread nD τ).loc main_arg2))) (Rms.row (m ((c.tc : Thread nD τ).loc main_arg3)))) (fun x => m ((c.tc : Thread nD τ).loc main_arg4) (ix1 x))) (z 0) (z 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r hr c => ?_) (Cert.Reference19Ideal.Value.run (F := Ideal) m ρ)
  refine ⟨(hr c).1.trans ?_, (hr c).2.1.trans ?_, (hr c).2.2.1.trans ?_, (hr c).2.2.2⟩
  · clear hr
    generalize m ((c.tc : Thread nD τ).loc main_arg0) = a0
    generalize m ((c.tc : Thread nD τ).loc main_arg1) = a1
    refine funext fun (z : S4096x1024.Idx) => ?_
    obtain ⟨i, j, rfl⟩ : ∃ i j, z = ix2 i j := ⟨z 0, z 1, eq_ix2 z⟩
    exact prod_apply a0 a1 i j
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize hG : Host.dotGeneral (F := Ideal) dot_S4096x1024_S1024x1024_S4096x1024_1_0_0_1_n_n none _ _ = G
    have hy : (Mat.prod (M := 4096) (K := 1024) (N := 1024) a0 a1) = fun i x => G (ix2 i x) := funext fun i => funext fun x => by
      rw [← hG]
      exact (prod_apply a0 a1 i x).symm
    clear hG
    refine funext fun (z : S4096x1024.Idx) => ?_
    obtain ⟨i, j, rfl⟩ : ∃ i j, z = ix2 i j := ⟨z 0, z 1, eq_ix2 z⟩
    show _ = (Fwd.gateOf (Mat.prod (M := 4096) (K := 1024) (N := 1024) a0 a1) (Rms.row a2) (Rms.row a3)) i j
    rw [hy]
    simp only [Fwd.gateOf, Fwd.sig_eq, Fwd.sigR]
    pointwise
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize m ((c.tc : Thread nD τ).loc main_arg4) = a4
    generalize hG : Host.dotGeneral (F := Ideal) dot_S4096x1024_S1024x1024_S4096x1024_1_0_0_1_n_n none _ _ = G
    have hy : (Mat.prod (M := 4096) (K := 1024) (N := 1024) a0 a1) = fun i x => G (ix2 i x) := funext fun i => funext fun x => by
      rw [← hG]
      exact (prod_apply a0 a1 i x).symm
    clear hG
    refine funext fun (z : S4096x1024.Idx) => ?_
    obtain ⟨i, j, rfl⟩ : ∃ i j, z = ix2 i j := ⟨z 0, z 1, eq_ix2 z⟩
    show _ = (Fwd.normOf (Fwd.gateOf (Mat.prod (M := 4096) (K := 1024) (N := 1024) a0 a1) (Rms.row a2) (Rms.row a3)) (fun x => a4 (ix1 x))) i j
    rw [hy]
    simp only [Fwd.normOf, Fwd.gateOf, Fwd.sig_eq, Fwd.sigR, Rms.inv, Rms.meanSq]
    pointwise

end Cert.Reference19Ideal.Fw

end
-- ==== Proof.Fw20.lean ====
module

public import proofs.«01_k».proof.Proof.Gen.Kernel20Ideal.Value
public import proofs.«01_k».proof.Proof.Gen.Reference20Ideal.Run
public import proofs.«01_k».proof.Proof.Fwd
public import proofs.«01_k».proof.Proof.Mat
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel20Ideal.Fw

open Cert.Kernel20Ideal Cert.Kernel20Ideal.Gen Idealize.ShloMosaic Idealize.ShloMosaic.TcCoe Idealize.SL.Sem

variable (m : (ℓ : Loc nD τ sig) → Buf (Elt Ideal) ℓ) (c : Dev nD)

/-- The gated sum at 32 rows. -/
def hV (z h p : FVec Ideal S32x1024 .f32) : FVec Ideal S32x1024 .f32 :=
  addf h (mulf (addf (mulf (broadcast S32x1024 (Scalar.ofBits (F := Ideal) .f32 0x3F000000#32)) (tanh (mulf (broadcast S32x1024 (Scalar.ofBits (F := Ideal) .f32 0x3F000000#32)) z)))
    (broadcast S32x1024 (Scalar.ofBits (F := Ideal) .f32 0x3F000000#32))) p)

theorem hV_apply (z h p : FVec Ideal S32x1024 .f32) (y : S32x1024.Idx) : hV z h p y = h y + Fwd.sig (z y) * p y := by
  unfold hV Fwd.sig
  pointwise

theorem ld_row (X : Vec Ideal S512x1024 .f32) (o : ℕ) (inb : ∀ a, (![o, 0] : Fin 2 → ℕ) a + S32x1024.size a ≤ S512x1024.size a)
    (i : Fin 32) (z0 : Fin 512) (h0 : (z0 : ℕ) = o + i) (x : Fin 1024) :
    View.ld X (Rect.unit (s := S512x1024) ![o, 0] S32x1024.size inb) (ix2 i x) = X (ix2 z0 x) := by
  rw [View.ld_apply]
  congr 1
  funext a
  fin_cases a <;> apply Fin.ext <;> simp [h0]

theorem ld_at (X : Vec Ideal S512x1024 .f32) (o : ℕ) (inb : ∀ a, (![o, 0] : Fin 2 → ℕ) a + S32x1024.size a ≤ S512x1024.size a)
    (y : S32x1024.Idx) (z : S512x1024.Idx) (h0 : (z 0 : ℕ) = o + (y 0 : ℕ)) (h1 : (z 1 : ℕ) = (y 1 : ℕ)) :
    View.ld X (Rect.unit (s := S512x1024) ![o, 0] S32x1024.size inb) y = X z := by
  rw [View.ld_apply]
  congr 1
  funext a
  fin_cases a <;> apply Fin.ext <;> simp [h0, h1]

/-- The block of the residual stream after the step. -/
def hB (A H P : Vec Ideal S512x1024 .f32) : Vec Ideal S512x1024 .f32 := fun z => H z + Fwd.sig (A z) * P z

theorem piece_h (A H P : Vec Ideal S512x1024 .f32) (o : ℕ)
    (inb : ∀ a, (![o, 0] : Fin 2 → ℕ) a + S32x1024.size a ≤ S512x1024.size a) (y : S32x1024.Idx) (z : S512x1024.Idx)
    (h0 : (z 0 : ℕ) = o + (y 0 : ℕ)) (h1 : (z 1 : ℕ) = (y 1 : ℕ)) :
    hV (View.ld A (Rect.unit (s := S512x1024) ![o, 0] S32x1024.size inb)) (View.ld H (Rect.unit (s := S512x1024) ![o, 0] S32x1024.size inb)) (View.ld P (Rect.unit (s := S512x1024) ![o, 0] S32x1024.size inb)) y
      = hB A H P z := by
  rw [hV_apply, hB, ld_at A o inb y z h0 h1, ld_at H o inb y z h0 h1, ld_at P o inb y z h0 h1]

set_option maxHeartbeats 400000 in
theorem z_block (t : Fin cfg0.N) (y : S512x1024.Idx) : (outsAt0 m c t).1 y = k0_pay1 (iblk m c 0 t) (iblk m c 1 t) y := by
  dsimp only [outsAt0]
  frame_open
  simp (disch := decide) only [↓ View.readCov_skip, ↓ View.readCov_cons_toLoadRect, ↓ View.readCov_fill]
  frame_out
  generalize hA : (k0_pay1 (F := Ideal) _ _) = A
  canon_tiles y h
  all_goals
    open_payloads
    exact ld_at A _ _ _ _ (by omega) (by assumption)

set_option maxHeartbeats 400000 in
theorem h_block (t : Fin cfg0.N) (y : S512x1024.Idx) : (outsAt0 m c t).2 y
    = hB (k0_pay1 (iblk m c 0 t) (iblk m c 1 t)) (iblk m c 2 t) (iblk m c 3 t) y := by
  dsimp only [outsAt0]
  frame_open
  simp (disch := decide) only [↓ View.readCov_skip, ↓ View.readCov_cons_toLoadRect, ↓ View.readCov_fill]
  frame_out
  generalize hA : (k0_pay1 (F := Ideal) _ _) = A
  canon_tiles y h
  all_goals
    open_payloads
    exact piece_h A (iblk m c 2 t) (iblk m c 3 t) _ _ _ _ (by omega) (by assumption)

/-! ### The blocks of the grid -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

theorem acc_apply (t : Fin cfg0.N) (i : Fin 512) (x : Fin 1024) (hi : 512 * t.val + i < 4096) :
    k0_pay1 (iblk m c 0 t) (iblk m c 1 t) (ix2 i x) = Mat.prod (M := 4096) (K := 1024) (N := 1024) (m ⟨c, main_arg0⟩) (m ⟨c, main_arg1⟩) ⟨512 * t.val + i, hi⟩ x := by
  rw [Mat.prod]
  pointwise [k0_pay1]
  refine Finset.sum_congr rfl fun k _ => ?_
  congr 1
  · blk_point [iblk, V, idx0 t]
  · blk_point [iblk, V, idx1 t]

theorem in2_apply (t : Fin cfg0.N) (i : Fin 512) (x : Fin 1024) (hi : 512 * t.val + i < 4096) :
    iblk m c 2 t (ix2 i x) = m ⟨c, main_arg2⟩ (ix2 ⟨512 * t.val + i, hi⟩ x) := by
  blk_point [iblk, V, idx2 t]

theorem in3_apply (t : Fin cfg0.N) (i : Fin 512) (x : Fin 1024) (hi : 512 * t.val + i < 4096) :
    iblk m c 3 t (ix2 i x) = m ⟨c, main_arg3⟩ (ix2 ⟨512 * t.val + i, hi⟩ x) := by
  blk_point [iblk, V, idx3 t]

/-! ### The result arrays -/

/-- The residual stream after the step. -/
abbrev hS : Fin 4096 → Fin 1024 → EReal := Fwd.gateOf (Mat.prod (M := 4096) (K := 1024) (N := 1024) (m ⟨c, main_arg0⟩) (m ⟨c, main_arg1⟩)) (Rms.row (m ⟨c, main_arg2⟩)) (Rms.row (m ⟨c, main_arg3⟩))

theorem z_arr : (dats m 0 c).arrAt 4 cfg0.N = fun z : S4096x1024.Idx => (Mat.prod (M := 4096) (K := 1024) (N := 1024) (m ⟨c, main_arg0⟩) (m ⟨c, main_arg1⟩)) (z 0) (z 1) := by
  refine (dats m 0 c).arrAt_eq_of_covers 4 _ (by decide +kernel) fun t hf y => ?_
  have ht : t.val < 8 := lt_of_lt_of_eq t.isLt N_0
  blk_simp
  rw [after0_4]
  have y0 : ((y 0 : Fin _) : ℕ) < 512 := (y 0).isLt
  have hi : 512 * t.val + ((y 0 : Fin _) : ℕ) < 4096 := by omega
  have hz : (win0_4.blk t).view.emb y = ix2 (n0 := 4096) (n1 := 1024) ⟨512 * t.val + ((y 0 : Fin _) : ℕ), hi⟩ (y 1) := by
    blk_ext [idx4 t]
  rw [z_block m c t y, hz]
  refine Eq.trans ?_ (acc_apply m c t (y 0) (y 1) hi)
  exact congrArg _ (eq_ix2 y)

theorem hB_apply (t : Fin cfg0.N) (i : Fin 512) (x : Fin 1024) (hi : 512 * t.val + i < 4096) :
    hB (k0_pay1 (iblk m c 0 t) (iblk m c 1 t)) (iblk m c 2 t) (iblk m c 3 t) (ix2 i x) = hS m c ⟨512 * t.val + i, hi⟩ x := by
  rw [hB, acc_apply m c t i x hi, in2_apply m c t i x hi, in3_apply m c t i x hi]
  rfl

theorem h_arr : (dats m 0 c).arrAt 5 cfg0.N = fun z : S4096x1024.Idx => hS m c (z 0) (z 1) := by
  refine (dats m 0 c).arrAt_eq_of_covers 5 _ (by decide +kernel) fun t hf y => ?_
  have ht : t.val < 8 := lt_of_lt_of_eq t.isLt N_0
  blk_simp
  rw [after0_5]
  have y0 : ((y 0 : Fin _) : ℕ) < 512 := (y 0).isLt
  have hi : 512 * t.val + ((y 0 : Fin _) : ℕ) < 4096 := by omega
  have hz : (win0_5.blk t).view.emb y = ix2 (n0 := 4096) (n1 := 1024) ⟨512 * t.val + ((y 0 : Fin _) : ℕ), hi⟩ (y 1) := by
    blk_ext [idx5 t]
  rw [h_block m c t y, hz]
  refine Eq.trans ?_ (hB_apply m c t (y 0) (y 1) hi)
  exact congrArg _ (eq_ix2 y)

end Cert.Kernel20Ideal.Fw

namespace Cert.Reference20Ideal.Fw

open Cert.Reference20Ideal Cert.Reference20Ideal.Gen Cert.Reference20Ideal.Value Idealize.ShloMosaic Idealize.ShloMosaic.TcCoe Idealize.SL.Sem

theorem prod_apply (a0 : FVec Ideal S4096x1024 .bf16) (a1 : FVec Ideal S1024x1024 .bf16) (i : Fin 4096) (x : Fin 1024) :
    Host.dotGeneral (F := Ideal) dot_S4096x1024_S1024x1024_S4096x1024_1_0_0_1_n_n none (extf .f32 a0 bitsLt_bf16_f32) (extf .f32 a1 bitsLt_bf16_f32) (ix2 i x)
      = Mat.prod (M := 4096) (K := 1024) (N := 1024) a0 a1 i x := by
  rw [Mat.prod]
  pointwise

/-- The reference's run: its results are the same functions of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = (fun z : S4096x1024.Idx => (Mat.prod (M := 4096) (K := 1024) (N := 1024) (m ((c.tc : Thread nD τ).loc main_arg0)) (m ((c.tc : Thread nD τ).loc main_arg1))) (z 0) (z 1))
      ∧ r.2.mem ((c.tc : Thread nD τ).loc main_v10) = (fun z : S4096x1024.Idx => (Fwd.gateOf (Mat.prod (M := 4096) (K := 1024) (N := 1024) (m ((c.tc : Thread nD τ).loc main_arg0)) (m ((c.tc : Thread nD τ).loc main_arg1))) (Rms.row (m ((c.tc : Thread nD τ).loc main_arg2))) (Rms.row (m ((c.tc : Thread nD τ).loc main_arg3)))) (z 0) (z 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r hr c => ?_) (Cert.Reference20Ideal.Value.run (F := Ideal) m ρ)
  refine ⟨(hr c).1.trans ?_, (hr c).2.1.trans ?_, (hr c).2.2⟩
  · clear hr
    generalize m ((c.tc : Thread nD τ).loc main_arg0) = a0
    generalize m ((c.tc : Thread nD τ).loc main_arg1) = a1
    refine funext fun (z : S4096x1024.Idx) => ?_
    obtain ⟨i, j, rfl⟩ : ∃ i j, z = ix2 i j := ⟨z 0, z 1, eq_ix2 z⟩
    exact prod_apply a0 a1 i j
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize hG : Host.dotGeneral (F := Ideal) dot_S4096x1024_S1024x1024_S4096x1024_1_0_0_1_n_n none _ _ = G
    have hy : (Mat.prod (M := 4096) (K := 1024) (N := 1024) a0 a1) = fun i x => G (ix2 i x) := funext fun i => funext fun x => by
      rw [← hG]
      exact (prod_apply a0 a1 i x).symm
    clear hG
    refine funext fun (z : S4096x1024.Idx) => ?_
    obtain ⟨i, j, rfl⟩ : ∃ i j, z = ix2 i j := ⟨z 0, z 1, eq_ix2 z⟩
    show _ = (Fwd.gateOf (Mat.prod (M := 4096) (K := 1024) (N := 1024) a0 a1) (Rms.row a2) (Rms.row a3)) i j
    rw [hy]
    simp only [Fwd.gateOf, Fwd.sig_eq, Fwd.sigR]
    pointwise

end Cert.Reference20Ideal.Fw

end
-- ==== Proof.Adam.lean ====
/- The update of one weight over the extended reals: the sum of the eight devices' parts of its gradient, the two running
   means, and the step. The constants are the ones the programs print; the two the kernel multiplies by are named, as the
   reciprocals of the two the reference divides by. -/
module

public import Idealize.ShloMosaic.PureOps.Ideal
public import Idealize.ShloMosaic.Lib.Pointwise
public import Mathlib.Algebra.BigOperators.Fin

@[expose] public section

noncomputable section

namespace Cert.Adam

open Idealize.ShloMosaic

/-- The sum of the eight parts, in the devices' order. -/
def total (p : Fin 8 → EReal) : EReal := p 0 + p 1 + p 2 + p 3 + p 4 + p 5 + p 6 + p 7

theorem total_eq (p : Fin 8 → EReal) : ∑ j, p j = total p := Fin.sum_univ_eight p

/-- The running mean of the gradients. -/
def mean (g m : EReal) : EReal := Ideal.ofBits .f32 0x3F666666#32 * m + Ideal.ofBits .f32 0x3DCCCCCD#32 * g

/-- The running mean of their squares. -/
def meanSq (g v : EReal) : EReal := Ideal.ofBits .f32 0x3F7FBE77#32 * v + Ideal.ofBits .f32 0x3A83126F#32 * (g * g)

/-- The step, from the two running means and the weight. -/
def step (w nm nv : EReal) : EReal :=
  Ideal.ofBits .f32 0xBA83126F#32 * (Ideal.div (nm * ((8388608 / 5463681 : ℝ) : EReal))
    (Ideal.sqrt (nv * ((268435456 / 2672307 : ℝ) : EReal)) + Ideal.ofBits .f32 0x322BCC77#32) + Ideal.ofBits .f32 0x3C23D70A#32 * w)

/-- The step, from the gradient, the weight and the two old running means. -/
def delta (g w m v : EReal) : EReal := step w (mean g m) (meanSq g v)

theorem d1 : Ideal.ofBits .f32 0x3F26BD02#32 = ((5463681 / 8388608 : ℝ) : EReal) := by
  simp [Ideal.ofBits, Ideal.ieee, -EReal.coe_mul]; norm_num

theorem d2 : Ideal.ofBits .f32 0x3C231ACC#32 = ((2672307 / 268435456 : ℝ) : EReal) := by
  simp [Ideal.ofBits, Ideal.ieee, -EReal.coe_mul]; norm_num

theorem div_d1 (x : EReal) : Ideal.div x (Ideal.ofBits .f32 0x3F26BD02#32) = x * ((8388608 / 5463681 : ℝ) : EReal) := by
  rw [d1, Ideal.div_coe (by norm_num)]
  norm_num

theorem div_d2 (x : EReal) : Ideal.div x (Ideal.ofBits .f32 0x3C231ACC#32) = x * ((268435456 / 2672307 : ℝ) : EReal) := by
  rw [d2, Ideal.div_coe (by norm_num)]
  norm_num

end Cert.Adam

end
-- ==== Proof.Ad21.lean ====
module

public import proofs.«01_k».proof.Proof.Gen.Kernel21Ideal.Value
public import proofs.«01_k».proof.Proof.Gen.Reference21Ideal.Run
public import proofs.«01_k».proof.Proof.Adam
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ad21

open Idealize.ShloMosaic

/-- The gradient at row `i`, column `x`: the sum of the devices' parts. -/
def g (A : (⟨3, ![8, 128, 1024]⟩ : Shape).Idx → EReal) (i : Fin 128) (x : Fin 1024) : EReal := Adam.total fun j => A (ix3 j i x)

/-- The gradient. -/
def gOf (A : (⟨3, ![8, 128, 1024]⟩ : Shape).Idx → EReal) : (⟨3, ![1, 128, 1024]⟩ : Shape).Idx → EReal := fun z => g A (z 1) (z 2)

/-- The first running mean. -/
def mOf (A : (⟨3, ![8, 128, 1024]⟩ : Shape).Idx → EReal) (M : (⟨3, ![1, 128, 1024]⟩ : Shape).Idx → EReal) : (⟨3, ![1, 128, 1024]⟩ : Shape).Idx → EReal :=
  fun z => Adam.mean (g A (z 1) (z 2)) (M (ix3 0 (z 1) (z 2)))

/-- The second running mean. -/
def vOf (A : (⟨3, ![8, 128, 1024]⟩ : Shape).Idx → EReal) (V : (⟨3, ![1, 128, 1024]⟩ : Shape).Idx → EReal) : (⟨3, ![1, 128, 1024]⟩ : Shape).Idx → EReal :=
  fun z => Adam.meanSq (g A (z 1) (z 2)) (V (ix3 0 (z 1) (z 2)))

/-- The step. -/
def dOf (A : (⟨3, ![8, 128, 1024]⟩ : Shape).Idx → EReal) (W M V : (⟨3, ![1, 128, 1024]⟩ : Shape).Idx → EReal) : (⟨3, ![1, 128, 1024]⟩ : Shape).Idx → EReal :=
  fun z => Adam.delta (g A (z 1) (z 2)) (W (ix3 0 (z 1) (z 2))) (M (ix3 0 (z 1) (z 2))) (V (ix3 0 (z 1) (z 2)))

end Cert.Ad21

namespace Cert.Kernel21Ideal.Ad

open Cert.Kernel21Ideal Cert.Kernel21Ideal.Gen Idealize.ShloMosaic Idealize.ShloMosaic.TcCoe Idealize.SL.Sem

variable (m : (ℓ : Loc nD τ sig) → Buf (Elt Ideal) ℓ) (c : Dev nD)

theorem c1 : Named.named (F := Ideal) κ "c1" (φ := .f32) 0x3FC48605#32 = ((8388608 / 5463681 : ℝ) : EReal) :=
  IdealRules.named_const.ideal_named_scalar _ _ _ _ rfl

theorem c2 : Named.named (F := Ideal) κ "c2" (φ := .f32) 0x42C8E6D3#32 = ((268435456 / 2672307 : ℝ) : EReal) :=
  IdealRules.named_const.ideal_named_scalar _ _ _ _ rfl

/-- The sum of the eight parts of a block. -/
def sumB (A : Vec Ideal S8x128x1024 .bf16) : FVec Ideal S128x1024 .f32 :=
  k0_pay3 (View.ld A r0_0) (View.ld A r0_1) (View.ld A r0_2) (View.ld A r0_3) (View.ld A r0_4) (View.ld A r0_5) (View.ld A r0_6) (View.ld A r0_7)

theorem ld_part (A : Vec Ideal S8x128x1024 .bf16) (j : Fin 8) (inb : ∀ a, (![j.val, 0, 0] : Fin 3 → ℕ) a + S1x128x1024.size a ≤ S8x128x1024.size a) (i : Fin 128) (x : Fin 1024) :
    View.ld A (Rect.unit (s := S8x128x1024) ![j.val, 0, 0] S1x128x1024.size inb) (ix3 0 i x) = A (ix3 j i x) := by
  rw [View.ld_apply]
  congr 1
  funext a
  fin_cases a <;> apply Fin.ext <;> simp

theorem sumB_apply (A : Vec Ideal S8x128x1024 .bf16) (i : Fin 128) (x : Fin 1024) : sumB A (ix2 i x) = Adam.total fun j => A (ix3 j i x) := by
  unfold sumB
  pointwise [k0_pay3, Adam.total]

theorem pay6_apply (G : FVec Ideal S128x1024 .f32) (i : Fin 128) (x : Fin 1024) : k0_pay6 G (ix3 0 i x) = G (ix2 i x) := by
  pointwise [k0_pay6]

theorem pay1_apply (G : FVec Ideal S128x1024 .f32) (M : Vec Ideal S1x128x1024 .f32) (i : Fin 128) (x : Fin 1024) :
    k0_pay1 (k0_pay4 G M) (ix3 0 i x) = Adam.mean (G (ix2 i x)) (M (ix3 0 i x)) := by
  unfold Adam.mean
  pointwise [k0_pay1, k0_pay4]

theorem pay2_apply (G : FVec Ideal S128x1024 .f32) (V : Vec Ideal S1x128x1024 .f32) (i : Fin 128) (x : Fin 1024) :
    k0_pay2 (k0_pay5 G V) (ix3 0 i x) = Adam.meanSq (G (ix2 i x)) (V (ix3 0 i x)) := by
  unfold Adam.meanSq
  pointwise [k0_pay2, k0_pay5]

theorem pay7_apply (G : FVec Ideal S128x1024 .f32) (W M V : Vec Ideal S1x128x1024 .f32) (i : Fin 128) (x : Fin 1024) :
    k0_pay7 G W M V (ix3 0 i x) = Adam.delta (G (ix2 i x)) (W (ix3 0 i x)) (M (ix3 0 i x)) (V (ix3 0 i x)) := by
  unfold Adam.delta Adam.step Adam.mean Adam.meanSq
  pointwise [k0_pay7, k0_pay4, k0_pay5, c1, c2]

theorem hz : (![0, 0, 0] : Fin 3 → ℕ) = fun _ => 0 := by decide

theorem g_block (t : Fin cfg0.N) (y : S1x128x1024.Idx) : out0_4 (F := Ideal) (iblk m c 0 t) (iblk m c 1 t) (iblk m c 2 t) (iblk m c 3 t) y = k0_pay6 (sumB (iblk m c 0 t)) y := by
  unfold out0_4
  rw [View.canon_unit_zero hz]
  rfl

theorem d_block (t : Fin cfg0.N) (y : S1x128x1024.Idx) : out0_5 (F := Ideal) (iblk m c 0 t) (iblk m c 1 t) (iblk m c 2 t) (iblk m c 3 t) y = k0_pay7 (sumB (iblk m c 0 t)) (iblk m c 1 t) (iblk m c 2 t) (iblk m c 3 t) y := by
  unfold out0_5
  rw [View.canon_unit_zero hz]
  simp only [View.ld_unit_zero (S := S1x128x1024) hz]
  rfl

theorem m_block (t : Fin cfg0.N) (y : S1x128x1024.Idx) : out0_6 (F := Ideal) (iblk m c 0 t) (iblk m c 1 t) (iblk m c 2 t) (iblk m c 3 t) y = k0_pay1 (k0_pay4 (sumB (iblk m c 0 t)) (iblk m c 2 t)) y := by
  unfold out0_6
  rw [View.canon_unit_zero hz]
  simp only [View.ld_unit_zero (S := S1x128x1024) hz]
  rfl

theorem v_block (t : Fin cfg0.N) (y : S1x128x1024.Idx) : out0_7 (F := Ideal) (iblk m c 0 t) (iblk m c 1 t) (iblk m c 2 t) (iblk m c 3 t) y = k0_pay2 (k0_pay5 (sumB (iblk m c 0 t)) (iblk m c 3 t)) y := by
  unfold out0_7
  rw [View.canon_unit_zero hz]
  simp only [View.ld_unit_zero (S := S1x128x1024) hz]
  rfl

theorem idx0 : ∀ t : Fin cfg0.N, win0_0.index t = ![0, 0, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0, 0] := (by decide +kernel : ∀ t : Fin grid0.N, _)

theorem in0_apply (t : Fin cfg0.N) (j : Fin 8) (i : Fin 128) (x : Fin 1024) : iblk m c 0 t (ix3 j i x) = m ⟨c, main_arg0⟩ (ix3 j i x) := by
  blk_point [iblk, V, idx0 t]

theorem in1_apply (t : Fin cfg0.N) (i : Fin 128) (x : Fin 1024) : iblk m c 1 t (ix3 0 i x) = m ⟨c, main_arg1⟩ (ix3 0 i x) := by
  blk_point [iblk, V, idx1 t]

theorem in2_apply (t : Fin cfg0.N) (i : Fin 128) (x : Fin 1024) : iblk m c 2 t (ix3 0 i x) = m ⟨c, main_arg2⟩ (ix3 0 i x) := by
  blk_point [iblk, V, idx2 t]

theorem in3_apply (t : Fin cfg0.N) (i : Fin 128) (x : Fin 1024) : iblk m c 3 t (ix3 0 i x) = m ⟨c, main_arg3⟩ (ix3 0 i x) := by
  blk_point [iblk, V, idx3 t]

theorem sum_apply (t : Fin cfg0.N) (i : Fin 128) (x : Fin 1024) : sumB (iblk m c 0 t) (ix2 i x) = Ad21.g (m ⟨c, main_arg0⟩) i x :=
  (sumB_apply (iblk m c 0 t) i x).trans (congrArg Adam.total (funext fun j => in0_apply m c t j i x))

theorem g_arr : (dats m 0 c).arrAt 4 cfg0.N = Ad21.gOf (m ⟨c, main_arg0⟩) := by
  refine (dats m 0 c).arrAt_eq_of_covers 4 _ (by decide +kernel) fun t hf y => ?_
  blk_simp
  rw [after0_4]
  have hz : (win0_4.blk t).view.emb y = ix3 (n0 := 1) (n1 := 128) (n2 := 1024) 0 (y 1) (y 2) := by
    blk_ext [idx4 t]
  have hy : y = ix3 (n0 := 1) (n1 := 128) (n2 := 1024) 0 (y 1) (y 2) := by
    blk_ext [idx4 t]
  rw [g_block m c t y, hz]
  refine (congrArg _ hy).trans ((pay6_apply _ _ _).trans ?_)
  exact sum_apply m c t (y 1) (y 2)

theorem d_val (t : Fin cfg0.N) (i : Fin 128) (x : Fin 1024) : Adam.delta (sumB (iblk m c 0 t) (ix2 i x)) (iblk m c 1 t (ix3 0 i x)) (iblk m c 2 t (ix3 0 i x)) (iblk m c 3 t (ix3 0 i x))
    = Adam.delta (Ad21.g (m ⟨c, main_arg0⟩) i x) (m ⟨c, main_arg1⟩ (ix3 0 i x)) (m ⟨c, main_arg2⟩ (ix3 0 i x)) (m ⟨c, main_arg3⟩ (ix3 0 i x)) := by
  rw [sum_apply m c t, in1_apply m c t, in2_apply m c t, in3_apply m c t]

theorem d_arr : (dats m 0 c).arrAt 5 cfg0.N = Ad21.dOf (m ⟨c, main_arg0⟩) (m ⟨c, main_arg1⟩) (m ⟨c, main_arg2⟩) (m ⟨c, main_arg3⟩) := by
  refine (dats m 0 c).arrAt_eq_of_covers 5 _ (by decide +kernel) fun t hf y => ?_
  blk_simp
  rw [after0_5]
  have hz : (win0_5.blk t).view.emb y = ix3 (n0 := 1) (n1 := 128) (n2 := 1024) 0 (y 1) (y 2) := by
    blk_ext [idx5 t]
  have hy : y = ix3 (n0 := 1) (n1 := 128) (n2 := 1024) 0 (y 1) (y 2) := by
    blk_ext [idx5 t]
  rw [d_block m c t y, hz]
  refine (congrArg _ hy).trans ((pay7_apply _ _ _ _ _ _).trans ?_)
  exact d_val m c t (y 1) (y 2)

theorem m_val (t : Fin cfg0.N) (i : Fin 128) (x : Fin 1024) : Adam.mean (sumB (iblk m c 0 t) (ix2 i x)) (iblk m c 2 t (ix3 0 i x))
    = Adam.mean (Ad21.g (m ⟨c, main_arg0⟩) i x) (m ⟨c, main_arg2⟩ (ix3 0 i x)) := by
  rw [sum_apply m c t, in2_apply m c t]

theorem m_arr : (dats m 0 c).arrAt 6 cfg0.N = Ad21.mOf (m ⟨c, main_arg0⟩) (m ⟨c, main_arg2⟩) := by
  refine (dats m 0 c).arrAt_eq_of_covers 6 _ (by decide +kernel) fun t hf y => ?_
  blk_simp
  rw [after0_6]
  have hz : (win0_6.blk t).view.emb y = ix3 (n0 := 1) (n1 := 128) (n2 := 1024) 0 (y 1) (y 2) := by
    blk_ext [idx6 t]
  have hy : y = ix3 (n0 := 1) (n1 := 128) (n2 := 1024) 0 (y 1) (y 2) := by
    blk_ext [idx6 t]
  rw [m_block m c t y, hz]
  refine (congrArg _ hy).trans ((pay1_apply _ _ _ _).trans ?_)
  exact m_val m c t (y 1) (y 2)

theorem v_val (t : Fin cfg0.N) (i : Fin 128) (x : Fin 1024) : Adam.meanSq (sumB (iblk m c 0 t) (ix2 i x)) (iblk m c 3 t (ix3 0 i x))
    = Adam.meanSq (Ad21.g (m ⟨c, main_arg0⟩) i x) (m ⟨c, main_arg3⟩ (ix3 0 i x)) := by
  rw [sum_apply m c t, in3_apply m c t]

theorem v_arr : (dats m 0 c).arrAt 7 cfg0.N = Ad21.vOf (m ⟨c, main_arg0⟩) (m ⟨c, main_arg3⟩) := by
  refine (dats m 0 c).arrAt_eq_of_covers 7 _ (by decide +kernel) fun t hf y => ?_
  blk_simp
  rw [after0_7]
  have hz : (win0_7.blk t).view.emb y = ix3 (n0 := 1) (n1 := 128) (n2 := 1024) 0 (y 1) (y 2) := by
    blk_ext [idx7 t]
  have hy : y = ix3 (n0 := 1) (n1 := 128) (n2 := 1024) 0 (y 1) (y 2) := by
    blk_ext [idx7 t]
  rw [v_block m c t y, hz]
  refine (congrArg _ hy).trans ((pay2_apply _ _ _ _).trans ?_)
  exact v_val m c t (y 1) (y 2)

end Cert.Kernel21Ideal.Ad

namespace Cert.Reference21Ideal.Ad

open Cert.Reference21Ideal Cert.Reference21Ideal.Gen Cert.Reference21Ideal.Value Idealize.ShloMosaic Idealize.ShloMosaic.TcCoe Idealize.SL.Sem

theorem sum_apply (a0 : FVec Ideal S8x128x1024 .bf16) (i : Fin 128) (x : Fin 1024) :
    Host.reduceAdd (F := Ideal) (extf .f32 a0 bitsLt_bf16_f32) (constant S_ .f32 0x00000000#32) reducesTo_S8x128x1024_S128x1024_d0 h_S_ (ix2 i x) = Ad21.g a0 i x := by
  rw [Ad21.g, ← Adam.total_eq]
  pointwise

/-- The reference's run: its results are the same functions of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = Ad21.gOf (m ((c.tc : Thread nD τ).loc main_arg0))
      ∧ r.2.mem ((c.tc : Thread nD τ).loc main_v26) = Ad21.dOf (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v7) = Ad21.mOf (m ((c.tc : Thread nD τ).loc main_arg0)) (m ((c.tc : Thread nD τ).loc main_arg2))
      ∧ r.2.mem ((c.tc : Thread nD τ).loc main_v13) = Ad21.vOf (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r hr c => ?_) (Cert.Reference21Ideal.Value.run (F := Ideal) m ρ)
  refine ⟨(hr c).1.trans ?_, (hr c).2.1.trans ?_, (hr c).2.2.1.trans ?_, (hr c).2.2.2.1.trans ?_, (hr c).2.2.2.2⟩
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize hG : Host.reduceAdd (F := Ideal) _ _ reducesTo_S8x128x1024_S128x1024_d0 h_S_ = G
    have hg : ∀ i x, Ad21.g a0 i x = G (ix2 i x) := fun i x => by
      rw [← hG]
      exact (sum_apply a0 i x).symm
    clear hG
    refine funext fun (z : S1x128x1024.Idx) => ?_
    obtain ⟨k, i, x, rfl⟩ : ∃ k i x, z = ix3 k i x := ⟨z 0, z 1, z 2, eq_ix3 z⟩
    obtain rfl : k = 0 := Subsingleton.elim _ _
    simp only [Ad21.gOf]
    rw [show Ad21.g a0 (ix3 (n0 := 1) (n1 := 128) (n2 := 1024) 0 i x 1) (ix3 (n0 := 1) (n1 := 128) (n2 := 1024) 0 i x 2) = G (ix2 i x) from hg i x]
    pointwise
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize hG : Host.reduceAdd (F := Ideal) _ _ reducesTo_S8x128x1024_S128x1024_d0 h_S_ = G
    have hg : ∀ i x, Ad21.g a0 i x = G (ix2 i x) := fun i x => by
      rw [← hG]
      exact (sum_apply a0 i x).symm
    clear hG
    refine funext fun (z : S1x128x1024.Idx) => ?_
    obtain ⟨k, i, x, rfl⟩ : ∃ k i x, z = ix3 k i x := ⟨z 0, z 1, z 2, eq_ix3 z⟩
    obtain rfl : k = 0 := Subsingleton.elim _ _
    simp only [Ad21.dOf]
    rw [show Ad21.g a0 (ix3 (n0 := 1) (n1 := 128) (n2 := 1024) 0 i x 1) (ix3 (n0 := 1) (n1 := 128) (n2 := 1024) 0 i x 2) = G (ix2 i x) from hg i x]
    simp only [Adam.delta, Adam.step, Adam.mean, Adam.meanSq]
    pointwise [Adam.div_d1, Adam.div_d2]
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize hG : Host.reduceAdd (F := Ideal) _ _ reducesTo_S8x128x1024_S128x1024_d0 h_S_ = G
    have hg : ∀ i x, Ad21.g a0 i x = G (ix2 i x) := fun i x => by
      rw [← hG]
      exact (sum_apply a0 i x).symm
    clear hG
    refine funext fun (z : S1x128x1024.Idx) => ?_
    obtain ⟨k, i, x, rfl⟩ : ∃ k i x, z = ix3 k i x := ⟨z 0, z 1, z 2, eq_ix3 z⟩
    obtain rfl : k = 0 := Subsingleton.elim _ _
    simp only [Ad21.mOf]
    rw [show Ad21.g a0 (ix3 (n0 := 1) (n1 := 128) (n2 := 1024) 0 i x 1) (ix3 (n0 := 1) (n1 := 128) (n2 := 1024) 0 i x 2) = G (ix2 i x) from hg i x]
    simp only [Adam.mean]
    pointwise
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize hG : Host.reduceAdd (F := Ideal) _ _ reducesTo_S8x128x1024_S128x1024_d0 h_S_ = G
    have hg : ∀ i x, Ad21.g a0 i x = G (ix2 i x) := fun i x => by
      rw [← hG]
      exact (sum_apply a0 i x).symm
    clear hG
    refine funext fun (z : S1x128x1024.Idx) => ?_
    obtain ⟨k, i, x, rfl⟩ : ∃ k i x, z = ix3 k i x := ⟨z 0, z 1, z 2, eq_ix3 z⟩
    obtain rfl : k = 0 := Subsingleton.elim _ _
    simp only [Ad21.vOf]
    rw [show Ad21.g a0 (ix3 (n0 := 1) (n1 := 128) (n2 := 1024) 0 i x 1) (ix3 (n0 := 1) (n1 := 128) (n2 := 1024) 0 i x 2) = G (ix2 i x) from hg i x]
    simp only [Adam.meanSq]
    pointwise

end Cert.Reference21Ideal.Ad

end
-- ==== Proof.Ad22.lean ====
module

public import proofs.«01_k».proof.Proof.Gen.Kernel22Ideal.Value
public import proofs.«01_k».proof.Proof.Gen.Reference22Ideal.Run
public import proofs.«01_k».proof.Proof.Adam
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ad22

open Idealize.ShloMosaic

/-- The gradient at row `i`, column `x`: the sum of the devices' parts. -/
def g (A : (⟨3, ![8, 514, 1024]⟩ : Shape).Idx → EReal) (i : Fin 514) (x : Fin 1024) : EReal := Adam.total fun j => A (ix3 j i x)

/-- The gradient. -/
def gOf (A : (⟨3, ![8, 514, 1024]⟩ : Shape).Idx → EReal) : (⟨3, ![1, 514, 1024]⟩ : Shape).Idx → EReal := fun z => g A (z 1) (z 2)

/-- The first running mean. -/
def mOf (A : (⟨3, ![8, 514, 1024]⟩ : Shape).Idx → EReal) (M : (⟨3, ![1, 1024, 514]⟩ : Shape).Idx → EReal) : (⟨3, ![1, 514, 1024]⟩ : Shape).Idx → EReal :=
  fun z => Adam.mean (g A (z 1) (z 2)) (M (ix3 0 (z 2) (z 1)))

/-- The second running mean. -/
def vOf (A : (⟨3, ![8, 514, 1024]⟩ : Shape).Idx → EReal) (V : (⟨3, ![1, 1024, 514]⟩ : Shape).Idx → EReal) : (⟨3, ![1, 514, 1024]⟩ : Shape).Idx → EReal :=
  fun z => Adam.meanSq (g A (z 1) (z 2)) (V (ix3 0 (z 2) (z 1)))

/-- The step. -/
def dOf (A : (⟨3, ![8, 514, 1024]⟩ : Shape).Idx → EReal) (W M V : (⟨3, ![1, 1024, 514]⟩ : Shape).Idx → EReal) : (⟨3, ![1, 514, 1024]⟩ : Shape).Idx → EReal :=
  fun z => Adam.delta (g A (z 1) (z 2)) (W (ix3 0 (z 2) (z 1))) (M (ix3 0 (z 2) (z 1))) (V (ix3 0 (z 2) (z 1)))

end Cert.Ad22

namespace Cert.Kernel22Ideal.Ad

open Cert.Kernel22Ideal Cert.Kernel22Ideal.Gen Idealize.ShloMosaic Idealize.ShloMosaic.TcCoe Idealize.SL.Sem

variable (m : (ℓ : Loc nD τ sig) → Buf (Elt Ideal) ℓ) (c : Dev nD)

theorem c1 : Named.named (F := Ideal) κ "c1" (φ := .f32) 0x3FC48605#32 = ((8388608 / 5463681 : ℝ) : EReal) :=
  IdealRules.named_const.ideal_named_scalar _ _ _ _ rfl

theorem c2 : Named.named (F := Ideal) κ "c2" (φ := .f32) 0x42C8E6D3#32 = ((268435456 / 2672307 : ℝ) : EReal) :=
  IdealRules.named_const.ideal_named_scalar _ _ _ _ rfl

/-- The sum of the eight parts of a block. -/
def sumB (A : Vec Ideal S8x514x1024 .bf16) : FVec Ideal S514x1024 .f32 :=
  k0_pay3 (View.ld A r0_0) (View.ld A r0_1) (View.ld A r0_2) (View.ld A r0_3) (View.ld A r0_4) (View.ld A r0_5) (View.ld A r0_6) (View.ld A r0_7)

theorem ld_part (A : Vec Ideal S8x514x1024 .bf16) (j : Fin 8) (inb : ∀ a, (![j.val, 0, 0] : Fin 3 → ℕ) a + S1x514x1024.size a ≤ S8x514x1024.size a) (i : Fin 514) (x : Fin 1024) :
    View.ld A (Rect.unit (s := S8x514x1024) ![j.val, 0, 0] S1x514x1024.size inb) (ix3 0 i x) = A (ix3 j i x) := by
  rw [View.ld_apply]
  congr 1
  funext a
  fin_cases a <;> apply Fin.ext <;> simp

theorem sumB_apply (A : Vec Ideal S8x514x1024 .bf16) (i : Fin 514) (x : Fin 1024) : sumB A (ix2 i x) = Adam.total fun j => A (ix3 j i x) := by
  unfold sumB
  pointwise [k0_pay3, Adam.total]

theorem pay6_apply (G : FVec Ideal S514x1024 .f32) (i : Fin 514) (x : Fin 1024) : k0_pay6 G (ix3 0 i x) = G (ix2 i x) := by
  pointwise [k0_pay6]

theorem pay1_apply (G : FVec Ideal S514x1024 .f32) (M : Vec Ideal S1x514x1024 .f32) (i : Fin 514) (x : Fin 1024) :
    k0_pay1 (k0_pay4 G M) (ix3 0 i x) = Adam.mean (G (ix2 i x)) (M (ix3 0 i x)) := by
  unfold Adam.mean
  pointwise [k0_pay1, k0_pay4]

theorem pay2_apply (G : FVec Ideal S514x1024 .f32) (V : Vec Ideal S1x514x1024 .f32) (i : Fin 514) (x : Fin 1024) :
    k0_pay2 (k0_pay5 G V) (ix3 0 i x) = Adam.meanSq (G (ix2 i x)) (V (ix3 0 i x)) := by
  unfold Adam.meanSq
  pointwise [k0_pay2, k0_pay5]

theorem pay7_apply (G : FVec Ideal S514x1024 .f32) (W M V : Vec Ideal S1x514x1024 .f32) (i : Fin 514) (x : Fin 1024) :
    k0_pay7 G W M V (ix3 0 i x) = Adam.delta (G (ix2 i x)) (W (ix3 0 i x)) (M (ix3 0 i x)) (V (ix3 0 i x)) := by
  unfold Adam.delta Adam.step Adam.mean Adam.meanSq
  pointwise [k0_pay7, k0_pay4, k0_pay5, c1, c2]

theorem hz : (![0, 0, 0] : Fin 3 → ℕ) = fun _ => 0 := by decide

theorem g_block (t : Fin cfg0.N) (y : S1x514x1024.Idx) : out0_4 (F := Ideal) (iblk m c 0 t) (iblk m c 1 t) (iblk m c 2 t) (iblk m c 3 t) y = k0_pay6 (sumB (iblk m c 0 t)) y := by
  unfold out0_4
  rw [View.canon_unit_zero hz]
  rfl

theorem d_block (t : Fin cfg0.N) (y : S1x514x1024.Idx) : out0_5 (F := Ideal) (iblk m c 0 t) (iblk m c 1 t) (iblk m c 2 t) (iblk m c 3 t) y = k0_pay7 (sumB (iblk m c 0 t)) (iblk m c 1 t) (iblk m c 2 t) (iblk m c 3 t) y := by
  unfold out0_5
  rw [View.canon_unit_zero hz]
  simp only [View.ld_unit_zero (S := S1x514x1024) hz]
  rfl

theorem m_block (t : Fin cfg0.N) (y : S1x514x1024.Idx) : out0_6 (F := Ideal) (iblk m c 0 t) (iblk m c 1 t) (iblk m c 2 t) (iblk m c 3 t) y = k0_pay1 (k0_pay4 (sumB (iblk m c 0 t)) (iblk m c 2 t)) y := by
  unfold out0_6
  rw [View.canon_unit_zero hz]
  simp only [View.ld_unit_zero (S := S1x514x1024) hz]
  rfl

theorem v_block (t : Fin cfg0.N) (y : S1x514x1024.Idx) : out0_7 (F := Ideal) (iblk m c 0 t) (iblk m c 1 t) (iblk m c 2 t) (iblk m c 3 t) y = k0_pay2 (k0_pay5 (sumB (iblk m c 0 t)) (iblk m c 3 t)) y := by
  unfold out0_7
  rw [View.canon_unit_zero hz]
  simp only [View.ld_unit_zero (S := S1x514x1024) hz]
  rfl

theorem idx0 : ∀ t : Fin cfg0.N, win0_0.index t = ![0, 0, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0, 0] := (by decide +kernel : ∀ t : Fin grid0.N, _)

theorem in0_apply (t : Fin cfg0.N) (j : Fin 8) (i : Fin 514) (x : Fin 1024) : iblk m c 0 t (ix3 j i x) = m ⟨c, main_arg0⟩ (ix3 j i x) := by
  blk_point [iblk, V, idx0 t]

theorem in1_apply (t : Fin cfg0.N) (i : Fin 514) (x : Fin 1024) : iblk m c 1 t (ix3 0 i x) = m ⟨c, main_arg1⟩ (ix3 0 x i) := by
  blk_point [iblk, V, idx1 t]

theorem in2_apply (t : Fin cfg0.N) (i : Fin 514) (x : Fin 1024) : iblk m c 2 t (ix3 0 i x) = m ⟨c, main_arg2⟩ (ix3 0 x i) := by
  blk_point [iblk, V, idx2 t]

theorem in3_apply (t : Fin cfg0.N) (i : Fin 514) (x : Fin 1024) : iblk m c 3 t (ix3 0 i x) = m ⟨c, main_arg3⟩ (ix3 0 x i) := by
  blk_point [iblk, V, idx3 t]

theorem sum_apply (t : Fin cfg0.N) (i : Fin 514) (x : Fin 1024) : sumB (iblk m c 0 t) (ix2 i x) = Ad22.g (m ⟨c, main_arg0⟩) i x :=
  (sumB_apply (iblk m c 0 t) i x).trans (congrArg Adam.total (funext fun j => in0_apply m c t j i x))

theorem g_arr : (dats m 0 c).arrAt 4 cfg0.N = Ad22.gOf (m ⟨c, main_arg0⟩) := by
  refine (dats m 0 c).arrAt_eq_of_covers 4 _ (by decide +kernel) fun t hf y => ?_
  blk_simp
  rw [after0_4]
  have hz : (win0_4.blk t).view.emb y = ix3 (n0 := 1) (n1 := 514) (n2 := 1024) 0 (y 1) (y 2) := by
    blk_ext [idx4 t]
  have hy : y = ix3 (n0 := 1) (n1 := 514) (n2 := 1024) 0 (y 1) (y 2) := by
    blk_ext [idx4 t]
  rw [g_block m c t y, hz]
  refine (congrArg _ hy).trans ((pay6_apply _ _ _).trans ?_)
  exact sum_apply m c t (y 1) (y 2)

theorem d_val (t : Fin cfg0.N) (i : Fin 514) (x : Fin 1024) : Adam.delta (sumB (iblk m c 0 t) (ix2 i x)) (iblk m c 1 t (ix3 0 i x)) (iblk m c 2 t (ix3 0 i x)) (iblk m c 3 t (ix3 0 i x))
    = Adam.delta (Ad22.g (m ⟨c, main_arg0⟩) i x) (m ⟨c, main_arg1⟩ (ix3 0 x i)) (m ⟨c, main_arg2⟩ (ix3 0 x i)) (m ⟨c, main_arg3⟩ (ix3 0 x i)) := by
  rw [sum_apply m c t, in1_apply m c t, in2_apply m c t, in3_apply m c t]

theorem d_arr : (dats m 0 c).arrAt 5 cfg0.N = Ad22.dOf (m ⟨c, main_arg0⟩) (m ⟨c, main_arg1⟩) (m ⟨c, main_arg2⟩) (m ⟨c, main_arg3⟩) := by
  refine (dats m 0 c).arrAt_eq_of_covers 5 _ (by decide +kernel) fun t hf y => ?_
  blk_simp
  rw [after0_5]
  have hz : (win0_5.blk t).view.emb y = ix3 (n0 := 1) (n1 := 514) (n2 := 1024) 0 (y 1) (y 2) := by
    blk_ext [idx5 t]
  have hy : y = ix3 (n0 := 1) (n1 := 514) (n2 := 1024) 0 (y 1) (y 2) := by
    blk_ext [idx5 t]
  rw [d_block m c t y, hz]
  refine (congrArg _ hy).trans ((pay7_apply _ _ _ _ _ _).trans ?_)
  exact d_val m c t (y 1) (y 2)

theorem m_val (t : Fin cfg0.N) (i : Fin 514) (x : Fin 1024) : Adam.mean (sumB (iblk m c 0 t) (ix2 i x)) (iblk m c 2 t (ix3 0 i x))
    = Adam.mean (Ad22.g (m ⟨c, main_arg0⟩) i x) (m ⟨c, main_arg2⟩ (ix3 0 x i)) := by
  rw [sum_apply m c t, in2_apply m c t]

theorem m_arr : (dats m 0 c).arrAt 6 cfg0.N = Ad22.mOf (m ⟨c, main_arg0⟩) (m ⟨c, main_arg2⟩) := by
  refine (dats m 0 c).arrAt_eq_of_covers 6 _ (by decide +kernel) fun t hf y => ?_
  blk_simp
  rw [after0_6]
  have hz : (win0_6.blk t).view.emb y = ix3 (n0 := 1) (n1 := 514) (n2 := 1024) 0 (y 1) (y 2) := by
    blk_ext [idx6 t]
  have hy : y = ix3 (n0 := 1) (n1 := 514) (n2 := 1024) 0 (y 1) (y 2) := by
    blk_ext [idx6 t]
  rw [m_block m c t y, hz]
  refine (congrArg _ hy).trans ((pay1_apply _ _ _ _).trans ?_)
  exact m_val m c t (y 1) (y 2)

theorem v_val (t : Fin cfg0.N) (i : Fin 514) (x : Fin 1024) : Adam.meanSq (sumB (iblk m c 0 t) (ix2 i x)) (iblk m c 3 t (ix3 0 i x))
    = Adam.meanSq (Ad22.g (m ⟨c, main_arg0⟩) i x) (m ⟨c, main_arg3⟩ (ix3 0 x i)) := by
  rw [sum_apply m c t, in3_apply m c t]

theorem v_arr : (dats m 0 c).arrAt 7 cfg0.N = Ad22.vOf (m ⟨c, main_arg0⟩) (m ⟨c, main_arg3⟩) := by
  refine (dats m 0 c).arrAt_eq_of_covers 7 _ (by decide +kernel) fun t hf y => ?_
  blk_simp
  rw [after0_7]
  have hz : (win0_7.blk t).view.emb y = ix3 (n0 := 1) (n1 := 514) (n2 := 1024) 0 (y 1) (y 2) := by
    blk_ext [idx7 t]
  have hy : y = ix3 (n0 := 1) (n1 := 514) (n2 := 1024) 0 (y 1) (y 2) := by
    blk_ext [idx7 t]
  rw [v_block m c t y, hz]
  refine (congrArg _ hy).trans ((pay2_apply _ _ _ _).trans ?_)
  exact v_val m c t (y 1) (y 2)

end Cert.Kernel22Ideal.Ad

namespace Cert.Reference22Ideal.Ad

open Cert.Reference22Ideal Cert.Reference22Ideal.Gen Cert.Reference22Ideal.Value Idealize.ShloMosaic Idealize.ShloMosaic.TcCoe Idealize.SL.Sem

theorem sum_apply (a0 : FVec Ideal S8x514x1024 .bf16) (i : Fin 514) (x : Fin 1024) :
    Host.reduceAdd (F := Ideal) (extf .f32 a0 bitsLt_bf16_f32) (constant S_ .f32 0x00000000#32) reducesTo_S8x514x1024_S514x1024_d0 h_S_ (ix2 i x) = Ad22.g a0 i x := by
  rw [Ad22.g, ← Adam.total_eq]
  pointwise

/-- The reference's run: its results are the same functions of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = Ad22.gOf (m ((c.tc : Thread nD τ).loc main_arg0))
      ∧ r.2.mem ((c.tc : Thread nD τ).loc main_v29) = Ad22.dOf (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v30) = Ad22.mOf (m ((c.tc : Thread nD τ).loc main_arg0)) (m ((c.tc : Thread nD τ).loc main_arg2))
      ∧ r.2.mem ((c.tc : Thread nD τ).loc main_v31) = Ad22.vOf (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r hr c => ?_) (Cert.Reference22Ideal.Value.run (F := Ideal) m ρ)
  refine ⟨(hr c).1.trans ?_, (hr c).2.1.trans ?_, (hr c).2.2.1.trans ?_, (hr c).2.2.2.1.trans ?_, (hr c).2.2.2.2⟩
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize hG : Host.reduceAdd (F := Ideal) _ _ reducesTo_S8x514x1024_S514x1024_d0 h_S_ = G
    have hg : ∀ i x, Ad22.g a0 i x = G (ix2 i x) := fun i x => by
      rw [← hG]
      exact (sum_apply a0 i x).symm
    clear hG
    refine funext fun (z : S1x514x1024.Idx) => ?_
    obtain ⟨k, i, x, rfl⟩ : ∃ k i x, z = ix3 k i x := ⟨z 0, z 1, z 2, eq_ix3 z⟩
    obtain rfl : k = 0 := Subsingleton.elim _ _
    simp only [Ad22.gOf]
    rw [show Ad22.g a0 (ix3 (n0 := 1) (n1 := 514) (n2 := 1024) 0 i x 1) (ix3 (n0 := 1) (n1 := 514) (n2 := 1024) 0 i x 2) = G (ix2 i x) from hg i x]
    pointwise
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize hG : Host.reduceAdd (F := Ideal) _ _ reducesTo_S8x514x1024_S514x1024_d0 h_S_ = G
    have hg : ∀ i x, Ad22.g a0 i x = G (ix2 i x) := fun i x => by
      rw [← hG]
      exact (sum_apply a0 i x).symm
    clear hG
    refine funext fun (z : S1x514x1024.Idx) => ?_
    obtain ⟨k, i, x, rfl⟩ : ∃ k i x, z = ix3 k i x := ⟨z 0, z 1, z 2, eq_ix3 z⟩
    obtain rfl : k = 0 := Subsingleton.elim _ _
    simp only [Ad22.dOf]
    rw [show Ad22.g a0 (ix3 (n0 := 1) (n1 := 514) (n2 := 1024) 0 i x 1) (ix3 (n0 := 1) (n1 := 514) (n2 := 1024) 0 i x 2) = G (ix2 i x) from hg i x]
    simp only [Adam.delta, Adam.step, Adam.mean, Adam.meanSq]
    pointwise [Adam.div_d1, Adam.div_d2]
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize hG : Host.reduceAdd (F := Ideal) _ _ reducesTo_S8x514x1024_S514x1024_d0 h_S_ = G
    have hg : ∀ i x, Ad22.g a0 i x = G (ix2 i x) := fun i x => by
      rw [← hG]
      exact (sum_apply a0 i x).symm
    clear hG
    refine funext fun (z : S1x514x1024.Idx) => ?_
    obtain ⟨k, i, x, rfl⟩ : ∃ k i x, z = ix3 k i x := ⟨z 0, z 1, z 2, eq_ix3 z⟩
    obtain rfl : k = 0 := Subsingleton.elim _ _
    simp only [Ad22.mOf]
    rw [show Ad22.g a0 (ix3 (n0 := 1) (n1 := 514) (n2 := 1024) 0 i x 1) (ix3 (n0 := 1) (n1 := 514) (n2 := 1024) 0 i x 2) = G (ix2 i x) from hg i x]
    simp only [Adam.mean]
    pointwise
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize hG : Host.reduceAdd (F := Ideal) _ _ reducesTo_S8x514x1024_S514x1024_d0 h_S_ = G
    have hg : ∀ i x, Ad22.g a0 i x = G (ix2 i x) := fun i x => by
      rw [← hG]
      exact (sum_apply a0 i x).symm
    clear hG
    refine funext fun (z : S1x514x1024.Idx) => ?_
    obtain ⟨k, i, x, rfl⟩ : ∃ k i x, z = ix3 k i x := ⟨z 0, z 1, z 2, eq_ix3 z⟩
    obtain rfl : k = 0 := Subsingleton.elim _ _
    simp only [Ad22.vOf]
    rw [show Ad22.g a0 (ix3 (n0 := 1) (n1 := 514) (n2 := 1024) 0 i x 1) (ix3 (n0 := 1) (n1 := 514) (n2 := 1024) 0 i x 2) = G (ix2 i x) from hg i x]
    simp only [Adam.meanSq]
    pointwise

end Cert.Reference22Ideal.Ad

end
-- ==== Proof.Ad23.lean ====
module

public import proofs.«01_k».proof.Proof.Gen.Kernel23Ideal.Value
public import proofs.«01_k».proof.Proof.Gen.Reference23Ideal.Run
public import proofs.«01_k».proof.Proof.Adam
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ad23

open Idealize.ShloMosaic

/-- The gradient at row `i`, column `x`: the sum of the devices' parts. -/
def g (A : (⟨3, ![8, 192, 1024]⟩ : Shape).Idx → EReal) (i : Fin 192) (x : Fin 1024) : EReal := Adam.total fun j => A (ix3 j i x)

/-- The gradient. -/
def gOf (A : (⟨3, ![8, 192, 1024]⟩ : Shape).Idx → EReal) : (⟨3, ![1, 192, 1024]⟩ : Shape).Idx → EReal := fun z => g A (z 1) (z 2)

/-- The first running mean. -/
def mOf (A : (⟨3, ![8, 192, 1024]⟩ : Shape).Idx → EReal) (M : (⟨3, ![1, 1024, 192]⟩ : Shape).Idx → EReal) : (⟨3, ![1, 192, 1024]⟩ : Shape).Idx → EReal :=
  fun z => Adam.mean (g A (z 1) (z 2)) (M (ix3 0 (z 2) (z 1)))

/-- The second running mean. -/
def vOf (A : (⟨3, ![8, 192, 1024]⟩ : Shape).Idx → EReal) (V : (⟨3, ![1, 1024, 192]⟩ : Shape).Idx → EReal) : (⟨3, ![1, 192, 1024]⟩ : Shape).Idx → EReal :=
  fun z => Adam.meanSq (g A (z 1) (z 2)) (V (ix3 0 (z 2) (z 1)))

/-- The step. -/
def dOf (A : (⟨3, ![8, 192, 1024]⟩ : Shape).Idx → EReal) (W M V : (⟨3, ![1, 1024, 192]⟩ : Shape).Idx → EReal) : (⟨3, ![1, 192, 1024]⟩ : Shape).Idx → EReal :=
  fun z => Adam.delta (g A (z 1) (z 2)) (W (ix3 0 (z 2) (z 1))) (M (ix3 0 (z 2) (z 1))) (V (ix3 0 (z 2) (z 1)))

end Cert.Ad23

namespace Cert.Kernel23Ideal.Ad

open Cert.Kernel23Ideal Cert.Kernel23Ideal.Gen Idealize.ShloMosaic Idealize.ShloMosaic.TcCoe Idealize.SL.Sem

variable (m : (ℓ : Loc nD τ sig) → Buf (Elt Ideal) ℓ) (c : Dev nD)

theorem c1 : Named.named (F := Ideal) κ "c1" (φ := .f32) 0x3FC48605#32 = ((8388608 / 5463681 : ℝ) : EReal) :=
  IdealRules.named_const.ideal_named_scalar _ _ _ _ rfl

theorem c2 : Named.named (F := Ideal) κ "c2" (φ := .f32) 0x42C8E6D3#32 = ((268435456 / 2672307 : ℝ) : EReal) :=
  IdealRules.named_const.ideal_named_scalar _ _ _ _ rfl

/-- The sum of the eight parts of a block. -/
def sumB (A : Vec Ideal S8x192x1024 .bf16) : FVec Ideal S192x1024 .f32 :=
  k0_pay3 (View.ld A r0_0) (View.ld A r0_1) (View.ld A r0_2) (View.ld A r0_3) (View.ld A r0_4) (View.ld A r0_5) (View.ld A r0_6) (View.ld A r0_7)

theorem ld_part (A : Vec Ideal S8x192x1024 .bf16) (j : Fin 8) (inb : ∀ a, (![j.val, 0, 0] : Fin 3 → ℕ) a + S1x192x1024.size a ≤ S8x192x1024.size a) (i : Fin 192) (x : Fin 1024) :
    View.ld A (Rect.unit (s := S8x192x1024) ![j.val, 0, 0] S1x192x1024.size inb) (ix3 0 i x) = A (ix3 j i x) := by
  rw [View.ld_apply]
  congr 1
  funext a
  fin_cases a <;> apply Fin.ext <;> simp

theorem sumB_apply (A : Vec Ideal S8x192x1024 .bf16) (i : Fin 192) (x : Fin 1024) : sumB A (ix2 i x) = Adam.total fun j => A (ix3 j i x) := by
  unfold sumB
  pointwise [k0_pay3, Adam.total]

theorem pay6_apply (G : FVec Ideal S192x1024 .f32) (i : Fin 192) (x : Fin 1024) : k0_pay6 G (ix3 0 i x) = G (ix2 i x) := by
  pointwise [k0_pay6]

theorem pay1_apply (G : FVec Ideal S192x1024 .f32) (M : Vec Ideal S1x192x1024 .f32) (i : Fin 192) (x : Fin 1024) :
    k0_pay1 (k0_pay4 G M) (ix3 0 i x) = Adam.mean (G (ix2 i x)) (M (ix3 0 i x)) := by
  unfold Adam.mean
  pointwise [k0_pay1, k0_pay4]

theorem pay2_apply (G : FVec Ideal S192x1024 .f32) (V : Vec Ideal S1x192x1024 .f32) (i : Fin 192) (x : Fin 1024) :
    k0_pay2 (k0_pay5 G V) (ix3 0 i x) = Adam.meanSq (G (ix2 i x)) (V (ix3 0 i x)) := by
  unfold Adam.meanSq
  pointwise [k0_pay2, k0_pay5]

theorem pay7_apply (G : FVec Ideal S192x1024 .f32) (W M V : Vec Ideal S1x192x1024 .f32) (i : Fin 192) (x : Fin 1024) :
    k0_pay7 G W M V (ix3 0 i x) = Adam.delta (G (ix2 i x)) (W (ix3 0 i x)) (M (ix3 0 i x)) (V (ix3 0 i x)) := by
  unfold Adam.delta Adam.step Adam.mean Adam.meanSq
  pointwise [k0_pay7, k0_pay4, k0_pay5, c1, c2]

theorem hz : (![0, 0, 0] : Fin 3 → ℕ) = fun _ => 0 := by decide

theorem g_block (t : Fin cfg0.N) (y : S1x192x1024.Idx) : out0_4 (F := Ideal) (iblk m c 0 t) (iblk m c 1 t) (iblk m c 2 t) (iblk m c 3 t) y = k0_pay6 (sumB (iblk m c 0 t)) y := by
  unfold out0_4
  rw [View.canon_unit_zero hz]
  rfl

theorem d_block (t : Fin cfg0.N) (y : S1x192x1024.Idx) : out0_5 (F := Ideal) (iblk m c 0 t) (iblk m c 1 t) (iblk m c 2 t) (iblk m c 3 t) y = k0_pay7 (sumB (iblk m c 0 t)) (iblk m c 1 t) (iblk m c 2 t) (iblk m c 3 t) y := by
  unfold out0_5
  rw [View.canon_unit_zero hz]
  simp only [View.ld_unit_zero (S := S1x192x1024) hz]
  rfl

theorem m_block (t : Fin cfg0.N) (y : S1x192x1024.Idx) : out0_6 (F := Ideal) (iblk m c 0 t) (iblk m c 1 t) (iblk m c 2 t) (iblk m c 3 t) y = k0_pay1 (k0_pay4 (sumB (iblk m c 0 t)) (iblk m c 2 t)) y := by
  unfold out0_6
  rw [View.canon_unit_zero hz]
  simp only [View.ld_unit_zero (S := S1x192x1024) hz]
  rfl

theorem v_block (t : Fin cfg0.N) (y : S1x192x1024.Idx) : out0_7 (F := Ideal) (iblk m c 0 t) (iblk m c 1 t) (iblk m c 2 t) (iblk m c 3 t) y = k0_pay2 (k0_pay5 (sumB (iblk m c 0 t)) (iblk m c 3 t)) y := by
  unfold out0_7
  rw [View.canon_unit_zero hz]
  simp only [View.ld_unit_zero (S := S1x192x1024) hz]
  rfl

theorem idx0 : ∀ t : Fin cfg0.N, win0_0.index t = ![0, 0, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0, 0] := (by decide +kernel : ∀ t : Fin grid0.N, _)

theorem in0_apply (t : Fin cfg0.N) (j : Fin 8) (i : Fin 192) (x : Fin 1024) : iblk m c 0 t (ix3 j i x) = m ⟨c, main_arg0⟩ (ix3 j i x) := by
  blk_point [iblk, V, idx0 t]

theorem in1_apply (t : Fin cfg0.N) (i : Fin 192) (x : Fin 1024) : iblk m c 1 t (ix3 0 i x) = m ⟨c, main_arg1⟩ (ix3 0 x i) := by
  blk_point [iblk, V, idx1 t]

theorem in2_apply (t : Fin cfg0.N) (i : Fin 192) (x : Fin 1024) : iblk m c 2 t (ix3 0 i x) = m ⟨c, main_arg2⟩ (ix3 0 x i) := by
  blk_point [iblk, V, idx2 t]

theorem in3_apply (t : Fin cfg0.N) (i : Fin 192) (x : Fin 1024) : iblk m c 3 t (ix3 0 i x) = m ⟨c, main_arg3⟩ (ix3 0 x i) := by
  blk_point [iblk, V, idx3 t]

theorem sum_apply (t : Fin cfg0.N) (i : Fin 192) (x : Fin 1024) : sumB (iblk m c 0 t) (ix2 i x) = Ad23.g (m ⟨c, main_arg0⟩) i x :=
  (sumB_apply (iblk m c 0 t) i x).trans (congrArg Adam.total (funext fun j => in0_apply m c t j i x))

theorem g_arr : (dats m 0 c).arrAt 4 cfg0.N = Ad23.gOf (m ⟨c, main_arg0⟩) := by
  refine (dats m 0 c).arrAt_eq_of_covers 4 _ (by decide +kernel) fun t hf y => ?_
  blk_simp
  rw [after0_4]
  have hz : (win0_4.blk t).view.emb y = ix3 (n0 := 1) (n1 := 192) (n2 := 1024) 0 (y 1) (y 2) := by
    blk_ext [idx4 t]
  have hy : y = ix3 (n0 := 1) (n1 := 192) (n2 := 1024) 0 (y 1) (y 2) := by
    blk_ext [idx4 t]
  rw [g_block m c t y, hz]
  refine (congrArg _ hy).trans ((pay6_apply _ _ _).trans ?_)
  exact sum_apply m c t (y 1) (y 2)

theorem d_val (t : Fin cfg0.N) (i : Fin 192) (x : Fin 1024) : Adam.delta (sumB (iblk m c 0 t) (ix2 i x)) (iblk m c 1 t (ix3 0 i x)) (iblk m c 2 t (ix3 0 i x)) (iblk m c 3 t (ix3 0 i x))
    = Adam.delta (Ad23.g (m ⟨c, main_arg0⟩) i x) (m ⟨c, main_arg1⟩ (ix3 0 x i)) (m ⟨c, main_arg2⟩ (ix3 0 x i)) (m ⟨c, main_arg3⟩ (ix3 0 x i)) := by
  rw [sum_apply m c t, in1_apply m c t, in2_apply m c t, in3_apply m c t]

theorem d_arr : (dats m 0 c).arrAt 5 cfg0.N = Ad23.dOf (m ⟨c, main_arg0⟩) (m ⟨c, main_arg1⟩) (m ⟨c, main_arg2⟩) (m ⟨c, main_arg3⟩) := by
  refine (dats m 0 c).arrAt_eq_of_covers 5 _ (by decide +kernel) fun t hf y => ?_
  blk_simp
  rw [after0_5]
  have hz : (win0_5.blk t).view.emb y = ix3 (n0 := 1) (n1 := 192) (n2 := 1024) 0 (y 1) (y 2) := by
    blk_ext [idx5 t]
  have hy : y = ix3 (n0 := 1) (n1 := 192) (n2 := 1024) 0 (y 1) (y 2) := by
    blk_ext [idx5 t]
  rw [d_block m c t y, hz]
  refine (congrArg _ hy).trans ((pay7_apply _ _ _ _ _ _).trans ?_)
  exact d_val m c t (y 1) (y 2)

theorem m_val (t : Fin cfg0.N) (i : Fin 192) (x : Fin 1024) : Adam.mean (sumB (iblk m c 0 t) (ix2 i x)) (iblk m c 2 t (ix3 0 i x))
    = Adam.mean (Ad23.g (m ⟨c, main_arg0⟩) i x) (m ⟨c, main_arg2⟩ (ix3 0 x i)) := by
  rw [sum_apply m c t, in2_apply m c t]

theorem m_arr : (dats m 0 c).arrAt 6 cfg0.N = Ad23.mOf (m ⟨c, main_arg0⟩) (m ⟨c, main_arg2⟩) := by
  refine (dats m 0 c).arrAt_eq_of_covers 6 _ (by decide +kernel) fun t hf y => ?_
  blk_simp
  rw [after0_6]
  have hz : (win0_6.blk t).view.emb y = ix3 (n0 := 1) (n1 := 192) (n2 := 1024) 0 (y 1) (y 2) := by
    blk_ext [idx6 t]
  have hy : y = ix3 (n0 := 1) (n1 := 192) (n2 := 1024) 0 (y 1) (y 2) := by
    blk_ext [idx6 t]
  rw [m_block m c t y, hz]
  refine (congrArg _ hy).trans ((pay1_apply _ _ _ _).trans ?_)
  exact m_val m c t (y 1) (y 2)

theorem v_val (t : Fin cfg0.N) (i : Fin 192) (x : Fin 1024) : Adam.meanSq (sumB (iblk m c 0 t) (ix2 i x)) (iblk m c 3 t (ix3 0 i x))
    = Adam.meanSq (Ad23.g (m ⟨c, main_arg0⟩) i x) (m ⟨c, main_arg3⟩ (ix3 0 x i)) := by
  rw [sum_apply m c t, in3_apply m c t]

theorem v_arr : (dats m 0 c).arrAt 7 cfg0.N = Ad23.vOf (m ⟨c, main_arg0⟩) (m ⟨c, main_arg3⟩) := by
  refine (dats m 0 c).arrAt_eq_of_covers 7 _ (by decide +kernel) fun t hf y => ?_
  blk_simp
  rw [after0_7]
  have hz : (win0_7.blk t).view.emb y = ix3 (n0 := 1) (n1 := 192) (n2 := 1024) 0 (y 1) (y 2) := by
    blk_ext [idx7 t]
  have hy : y = ix3 (n0 := 1) (n1 := 192) (n2 := 1024) 0 (y 1) (y 2) := by
    blk_ext [idx7 t]
  rw [v_block m c t y, hz]
  refine (congrArg _ hy).trans ((pay2_apply _ _ _ _).trans ?_)
  exact v_val m c t (y 1) (y 2)

end Cert.Kernel23Ideal.Ad

namespace Cert.Reference23Ideal.Ad

open Cert.Reference23Ideal Cert.Reference23Ideal.Gen Cert.Reference23Ideal.Value Idealize.ShloMosaic Idealize.ShloMosaic.TcCoe Idealize.SL.Sem

theorem sum_apply (a0 : FVec Ideal S8x192x1024 .bf16) (i : Fin 192) (x : Fin 1024) :
    Host.reduceAdd (F := Ideal) (extf .f32 a0 bitsLt_bf16_f32) (constant S_ .f32 0x00000000#32) reducesTo_S8x192x1024_S192x1024_d0 h_S_ (ix2 i x) = Ad23.g a0 i x := by
  rw [Ad23.g, ← Adam.total_eq]
  pointwise

/-- The reference's run: its results are the same functions of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = Ad23.gOf (m ((c.tc : Thread nD τ).loc main_arg0))
      ∧ r.2.mem ((c.tc : Thread nD τ).loc main_v29) = Ad23.dOf (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v30) = Ad23.mOf (m ((c.tc : Thread nD τ).loc main_arg0)) (m ((c.tc : Thread nD τ).loc main_arg2))
      ∧ r.2.mem ((c.tc : Thread nD τ).loc main_v31) = Ad23.vOf (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r hr c => ?_) (Cert.Reference23Ideal.Value.run (F := Ideal) m ρ)
  refine ⟨(hr c).1.trans ?_, (hr c).2.1.trans ?_, (hr c).2.2.1.trans ?_, (hr c).2.2.2.1.trans ?_, (hr c).2.2.2.2⟩
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize hG : Host.reduceAdd (F := Ideal) _ _ reducesTo_S8x192x1024_S192x1024_d0 h_S_ = G
    have hg : ∀ i x, Ad23.g a0 i x = G (ix2 i x) := fun i x => by
      rw [← hG]
      exact (sum_apply a0 i x).symm
    clear hG
    refine funext fun (z : S1x192x1024.Idx) => ?_
    obtain ⟨k, i, x, rfl⟩ : ∃ k i x, z = ix3 k i x := ⟨z 0, z 1, z 2, eq_ix3 z⟩
    obtain rfl : k = 0 := Subsingleton.elim _ _
    simp only [Ad23.gOf]
    rw [show Ad23.g a0 (ix3 (n0 := 1) (n1 := 192) (n2 := 1024) 0 i x 1) (ix3 (n0 := 1) (n1 := 192) (n2 := 1024) 0 i x 2) = G (ix2 i x) from hg i x]
    pointwise
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize hG : Host.reduceAdd (F := Ideal) _ _ reducesTo_S8x192x1024_S192x1024_d0 h_S_ = G
    have hg : ∀ i x, Ad23.g a0 i x = G (ix2 i x) := fun i x => by
      rw [← hG]
      exact (sum_apply a0 i x).symm
    clear hG
    refine funext fun (z : S1x192x1024.Idx) => ?_
    obtain ⟨k, i, x, rfl⟩ : ∃ k i x, z = ix3 k i x := ⟨z 0, z 1, z 2, eq_ix3 z⟩
    obtain rfl : k = 0 := Subsingleton.elim _ _
    simp only [Ad23.dOf]
    rw [show Ad23.g a0 (ix3 (n0 := 1) (n1 := 192) (n2 := 1024) 0 i x 1) (ix3 (n0 := 1) (n1 := 192) (n2 := 1024) 0 i x 2) = G (ix2 i x) from hg i x]
    simp only [Adam.delta, Adam.step, Adam.mean, Adam.meanSq]
    pointwise [Adam.div_d1, Adam.div_d2]
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize hG : Host.reduceAdd (F := Ideal) _ _ reducesTo_S8x192x1024_S192x1024_d0 h_S_ = G
    have hg : ∀ i x, Ad23.g a0 i x = G (ix2 i x) := fun i x => by
      rw [← hG]
      exact (sum_apply a0 i x).symm
    clear hG
    refine funext fun (z : S1x192x1024.Idx) => ?_
    obtain ⟨k, i, x, rfl⟩ : ∃ k i x, z = ix3 k i x := ⟨z 0, z 1, z 2, eq_ix3 z⟩
    obtain rfl : k = 0 := Subsingleton.elim _ _
    simp only [Ad23.mOf]
    rw [show Ad23.g a0 (ix3 (n0 := 1) (n1 := 192) (n2 := 1024) 0 i x 1) (ix3 (n0 := 1) (n1 := 192) (n2 := 1024) 0 i x 2) = G (ix2 i x) from hg i x]
    simp only [Adam.mean]
    pointwise
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize hG : Host.reduceAdd (F := Ideal) _ _ reducesTo_S8x192x1024_S192x1024_d0 h_S_ = G
    have hg : ∀ i x, Ad23.g a0 i x = G (ix2 i x) := fun i x => by
      rw [← hG]
      exact (sum_apply a0 i x).symm
    clear hG
    refine funext fun (z : S1x192x1024.Idx) => ?_
    obtain ⟨k, i, x, rfl⟩ : ∃ k i x, z = ix3 k i x := ⟨z 0, z 1, z 2, eq_ix3 z⟩
    obtain rfl : k = 0 := Subsingleton.elim _ _
    simp only [Ad23.vOf]
    rw [show Ad23.g a0 (ix3 (n0 := 1) (n1 := 192) (n2 := 1024) 0 i x 1) (ix3 (n0 := 1) (n1 := 192) (n2 := 1024) 0 i x 2) = G (ix2 i x) from hg i x]
    simp only [Adam.meanSq]
    pointwise

end Cert.Reference23Ideal.Ad

end
-- ==== Proof.Ad24.lean ====
module

public import proofs.«01_k».proof.Proof.Gen.Kernel24Ideal.Frame
public import proofs.«01_k».proof.Proof.Gen.Reference24Ideal.Run
public import proofs.«01_k».proof.Proof.Adam
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ad24

open Idealize.ShloMosaic

/-- The gradient of one layer at row `i`, column `x`: the sum of the devices' parts. -/
def part (A : (⟨3, ![8, 352, 1024]⟩ : Shape).Idx → EReal) (i : Fin 352) (x : Fin 1024) : EReal := Adam.total fun j => A (ix3 j i x)

/-- The gradient of layer `l`: the first argument's parts for layer 0, the second's for layer 1. -/
def g (A0 A1 : (⟨3, ![8, 352, 1024]⟩ : Shape).Idx → EReal) (l : Fin 2) (i : Fin 352) (x : Fin 1024) : EReal := if l = 0 then part A0 i x else part A1 i x

/-- The gradient. -/
def gOf (A0 A1 : (⟨3, ![8, 352, 1024]⟩ : Shape).Idx → EReal) : (⟨3, ![2, 352, 1024]⟩ : Shape).Idx → EReal := fun z => g A0 A1 (z 0) (z 1) (z 2)

/-- The first running mean. -/
def mOf (A0 A1 : (⟨3, ![8, 352, 1024]⟩ : Shape).Idx → EReal) (M : (⟨3, ![2, 352, 1024]⟩ : Shape).Idx → EReal) : (⟨3, ![2, 352, 1024]⟩ : Shape).Idx → EReal := fun z => Adam.mean (g A0 A1 (z 0) (z 1) (z 2)) (M (ix3 (z 0) (z 1) (z 2)))

/-- The second running mean. -/
def vOf (A0 A1 : (⟨3, ![8, 352, 1024]⟩ : Shape).Idx → EReal) (V : (⟨3, ![2, 352, 1024]⟩ : Shape).Idx → EReal) : (⟨3, ![2, 352, 1024]⟩ : Shape).Idx → EReal := fun z => Adam.meanSq (g A0 A1 (z 0) (z 1) (z 2)) (V (ix3 (z 0) (z 1) (z 2)))

/-- The step. -/
def dOf (A0 A1 : (⟨3, ![8, 352, 1024]⟩ : Shape).Idx → EReal) (W M V : (⟨3, ![2, 352, 1024]⟩ : Shape).Idx → EReal) : (⟨3, ![2, 352, 1024]⟩ : Shape).Idx → EReal :=
  fun z => Adam.delta (g A0 A1 (z 0) (z 1) (z 2)) (W (ix3 (z 0) (z 1) (z 2))) (M (ix3 (z 0) (z 1) (z 2))) (V (ix3 (z 0) (z 1) (z 2)))

/-- Row `i` of block `t`. -/
def row (t : Fin 2) (i : Fin 176) : Fin 352 := ⟨176 * t.val + i.val, by omega⟩

end Cert.Ad24

namespace Cert.Kernel24Ideal.Ad

open Cert.Kernel24Ideal Cert.Kernel24Ideal.Gen Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds Idealize.ShloMosaic.Tactic
open Idealize.ShloMosaic.Pipeline (Dat Cfg Window BodyObligation cellOf)

theorem c1 : Named.named (F := Ideal) κ "c1" (φ := .f32) 0x3FC48605#32 = ((8388608 / 5463681 : ℝ) : EReal) :=
  IdealRules.named_const.ideal_named_scalar _ _ _ _ rfl

theorem c2 : Named.named (F := Ideal) κ "c2" (φ := .f32) 0x42C8E6D3#32 = ((268435456 / 2672307 : ℝ) : EReal) :=
  IdealRules.named_const.ideal_named_scalar _ _ _ _ rfl

theorem hz : (![0, 0, 0] : Fin 3 → ℕ) = fun _ => 0 := by decide

section Regions

variable (V : (c : Dev nD) → (b : Ref sig .tc) → Buf (Elt Ideal) ((c : Thread nD τ).loc b)) (c : Dev nD)

theorem ld_part (A : Vec Ideal S8x176x1024 .bf16) (j : Fin 8) (inb : ∀ a, (![j.val, 0, 0] : Fin 3 → ℕ) a + S1x176x1024.size a ≤ S8x176x1024.size a) (i : Fin 176) (x : Fin 1024) :
    View.ld A (Rect.unit (s := S8x176x1024) ![j.val, 0, 0] S1x176x1024.size inb) (ix3 0 i x) = A (ix3 j i x) := by
  rw [View.ld_apply]
  congr 1
  funext a
  fin_cases a <;> apply Fin.ext <;> simp

/-- The sum of the eight parts of a block of layer 0. -/
def sumB0 (A : Vec Ideal S8x176x1024 .bf16) : FVec Ideal S176x1024 .f32 :=
  k0_pay3 (View.ld A r0_0) (View.ld A r0_1) (View.ld A r0_2) (View.ld A r0_3) (View.ld A r0_4) (View.ld A r0_5) (View.ld A r0_6) (View.ld A r0_7)

theorem sumB0_apply (A : Vec Ideal S8x176x1024 .bf16) (i : Fin 176) (x : Fin 1024) : sumB0 A (ix2 i x) = Adam.total fun j => A (ix3 j i x) := by
  unfold sumB0
  pointwise [k0_pay3, Adam.total]

theorem pay6_0 (G : FVec Ideal S176x1024 .f32) (i : Fin 176) (x : Fin 1024) : k0_pay6 G (ix3 0 i x) = G (ix2 i x) := by
  pointwise [k0_pay6]

theorem pay1_0 (G : FVec Ideal S176x1024 .f32) (M : Vec Ideal S1x176x1024 .f32) (i : Fin 176) (x : Fin 1024) :
    k0_pay1 (k0_pay4 G M) (ix3 0 i x) = Adam.mean (G (ix2 i x)) (M (ix3 0 i x)) := by
  unfold Adam.mean
  pointwise [k0_pay1, k0_pay4]

theorem pay2_0 (G : FVec Ideal S176x1024 .f32) (V : Vec Ideal S1x176x1024 .f32) (i : Fin 176) (x : Fin 1024) :
    k0_pay2 (k0_pay5 G V) (ix3 0 i x) = Adam.meanSq (G (ix2 i x)) (V (ix3 0 i x)) := by
  unfold Adam.meanSq
  pointwise [k0_pay2, k0_pay5]

theorem pay7_0 (G : FVec Ideal S176x1024 .f32) (W M V : Vec Ideal S1x176x1024 .f32) (i : Fin 176) (x : Fin 1024) :
    k0_pay7 G W M V (ix3 0 i x) = Adam.delta (G (ix2 i x)) (W (ix3 0 i x)) (M (ix3 0 i x)) (V (ix3 0 i x)) := by
  unfold Adam.delta Adam.step Adam.mean Adam.meanSq
  pointwise [k0_pay7, k0_pay4, k0_pay5, c1, c2]

theorem g_block0 (t : Fin cfg0.N) (y : S1x176x1024.Idx) : out0_4 (F := Ideal) (iblk0 V c 0 t) (iblk0 V c 1 t) (iblk0 V c 2 t) (iblk0 V c 3 t) y = k0_pay6 (sumB0 (iblk0 V c 0 t)) y := by
  unfold out0_4
  rw [View.canon_unit_zero hz]
  rfl

theorem d_block0 (t : Fin cfg0.N) (y : S1x176x1024.Idx) : out0_5 (F := Ideal) (iblk0 V c 0 t) (iblk0 V c 1 t) (iblk0 V c 2 t) (iblk0 V c 3 t) y = k0_pay7 (sumB0 (iblk0 V c 0 t)) (iblk0 V c 1 t) (iblk0 V c 2 t) (iblk0 V c 3 t) y := by
  unfold out0_5
  rw [View.canon_unit_zero hz]
  simp only [View.ld_unit_zero (S := S1x176x1024) hz]
  rfl

theorem m_block0 (t : Fin cfg0.N) (y : S1x176x1024.Idx) : out0_6 (F := Ideal) (iblk0 V c 0 t) (iblk0 V c 1 t) (iblk0 V c 2 t) (iblk0 V c 3 t) y = k0_pay1 (k0_pay4 (sumB0 (iblk0 V c 0 t)) (iblk0 V c 2 t)) y := by
  unfold out0_6
  rw [View.canon_unit_zero hz]
  simp only [View.ld_unit_zero (S := S1x176x1024) hz]
  rfl

theorem v_block0 (t : Fin cfg0.N) (y : S1x176x1024.Idx) : out0_7 (F := Ideal) (iblk0 V c 0 t) (iblk0 V c 1 t) (iblk0 V c 2 t) (iblk0 V c 3 t) y = k0_pay2 (k0_pay5 (sumB0 (iblk0 V c 0 t)) (iblk0 V c 3 t)) y := by
  unfold out0_7
  rw [View.canon_unit_zero hz]
  simp only [View.ld_unit_zero (S := S1x176x1024) hz]
  rfl

theorem idx0_0 : ∀ t : Fin cfg0.N, win0_0.index t = ![0, t.val, 0] := (by decide +kernel : ∀ t : Fin grid0.N, _)
theorem idx0_1 : ∀ t : Fin cfg0.N, win0_1.index t = ![0, t.val, 0] := (by decide +kernel : ∀ t : Fin grid0.N, _)
theorem idx0_2 : ∀ t : Fin cfg0.N, win0_2.index t = ![0, t.val, 0] := (by decide +kernel : ∀ t : Fin grid0.N, _)
theorem idx0_3 : ∀ t : Fin cfg0.N, win0_3.index t = ![0, t.val, 0] := (by decide +kernel : ∀ t : Fin grid0.N, _)
theorem idx0_4 : ∀ t : Fin cfg0.N, win0_4.index t = ![0, t.val, 0] := (by decide +kernel : ∀ t : Fin grid0.N, _)
theorem idx0_5 : ∀ t : Fin cfg0.N, win0_5.index t = ![0, t.val, 0] := (by decide +kernel : ∀ t : Fin grid0.N, _)
theorem idx0_6 : ∀ t : Fin cfg0.N, win0_6.index t = ![0, t.val, 0] := (by decide +kernel : ∀ t : Fin grid0.N, _)
theorem idx0_7 : ∀ t : Fin cfg0.N, win0_7.index t = ![0, t.val, 0] := (by decide +kernel : ∀ t : Fin grid0.N, _)

/-- The block of point `t`. -/
def pt0 (t : Fin cfg0.N) : Fin 2 := ⟨t.val, lt_of_lt_of_eq t.isLt N_0⟩

theorem in0_0 (t : Fin cfg0.N) (j : Fin 8) (i : Fin 176) (x : Fin 1024) : iblk0 V c 0 t (ix3 j i x) = V c main_arg0 (ix3 j (Ad24.row (pt0 t) i) x) := by
  blk_point [iblk0, idx0_0 t, Ad24.row, pt0]

theorem in0_1 (t : Fin cfg0.N) (i : Fin 176) (x : Fin 1024) : iblk0 V c 1 t (ix3 0 i x) = V c main_arg2 (ix3 0 (Ad24.row (pt0 t) i) x) := by
  blk_point [iblk0, idx0_1 t, Ad24.row, pt0]

theorem in0_2 (t : Fin cfg0.N) (i : Fin 176) (x : Fin 1024) : iblk0 V c 2 t (ix3 0 i x) = V c main_arg3 (ix3 0 (Ad24.row (pt0 t) i) x) := by
  blk_point [iblk0, idx0_2 t, Ad24.row, pt0]

theorem in0_3 (t : Fin cfg0.N) (i : Fin 176) (x : Fin 1024) : iblk0 V c 3 t (ix3 0 i x) = V c main_arg4 (ix3 0 (Ad24.row (pt0 t) i) x) := by
  blk_point [iblk0, idx0_3 t, Ad24.row, pt0]

theorem sum0 (t : Fin cfg0.N) (i : Fin 176) (x : Fin 1024) : sumB0 (iblk0 V c 0 t) (ix2 i x) = Ad24.part (V c main_arg0) (Ad24.row (pt0 t) i) x :=
  (sumB0_apply (iblk0 V c 0 t) i x).trans (congrArg Adam.total (funext fun j => in0_0 V c t j i x))

/-- What layer 0's call leaves there, as a function of the whole result's index. -/
def gR0 : (⟨3, ![2, 352, 1024]⟩ : Shape).Idx → EReal := fun z => Ad24.part (V c main_arg0) (z 1) (z 2)

theorem g_arr0 (l : Fin 2) (i : Fin 352) (x : Fin 1024) : (dat0 V c).arrAt 4 cfg0.N (ix3 (n0 := 2) (n1 := 352) (n2 := 1024) l i x)
    = if ((ix3 (n0 := 2) (n1 := 352) (n2 := 1024) l i x 0 : Fin 2) : ℕ) / 1 = 0 then gR0 V c (ix3 (n0 := 2) (n1 := 352) (n2 := 1024) l i x) else V c main_v0_0 (ix3 l i x) := by
  refine (dat0 V c).arrAt_apply_of_coversWhere 4 (gR0 V c) (P := fun z => ((z 0 : Fin 2) : ℕ) / 1 = 0) (fun β => β (0 : Fin 3) = 0) (by decide +kernel) (fun t hf y => ?_) (fun j => Iff.rfl) _
  blk_simp
  rw [after0_4]
  have he : (win0_4.blk t).view.emb y = ix3 (n0 := 2) (n1 := 352) (n2 := 1024) 0 (Ad24.row (pt0 t) (y 1)) (y 2) := by
    blk_ext [idx0_4 t, Ad24.row, pt0]
  have hy : y = ix3 (n0 := 1) (n1 := 176) (n2 := 1024) 0 (y 1) (y 2) := by
    blk_ext [idx0_4 t]
  rw [g_block0 V c t y, he]
  refine (congrArg _ hy).trans ((pay6_0 _ _ _).trans ?_)
  exact sum0 V c t (y 1) (y 2)

theorem d_val0 (t : Fin cfg0.N) (i : Fin 176) (x : Fin 1024) : Adam.delta (sumB0 (iblk0 V c 0 t) (ix2 i x)) (iblk0 V c 1 t (ix3 0 i x)) (iblk0 V c 2 t (ix3 0 i x)) (iblk0 V c 3 t (ix3 0 i x))
    = Adam.delta (Ad24.part (V c main_arg0) (Ad24.row (pt0 t) i) x) (V c main_arg2 (ix3 0 (Ad24.row (pt0 t) i) x)) (V c main_arg3 (ix3 0 (Ad24.row (pt0 t) i) x)) (V c main_arg4 (ix3 0 (Ad24.row (pt0 t) i) x)) := by
  rw [sum0 V c t, in0_1 V c t, in0_2 V c t, in0_3 V c t]

/-- What layer 0's call leaves there, as a function of the whole result's index. -/
def dR0 : (⟨3, ![2, 352, 1024]⟩ : Shape).Idx → EReal := fun z => Adam.delta (Ad24.part (V c main_arg0) (z 1) (z 2)) (V c main_arg2 (ix3 0 (z 1) (z 2))) (V c main_arg3 (ix3 0 (z 1) (z 2))) (V c main_arg4 (ix3 0 (z 1) (z 2)))

theorem d_arr0 (l : Fin 2) (i : Fin 352) (x : Fin 1024) : (dat0 V c).arrAt 5 cfg0.N (ix3 (n0 := 2) (n1 := 352) (n2 := 1024) l i x)
    = if ((ix3 (n0 := 2) (n1 := 352) (n2 := 1024) l i x 0 : Fin 2) : ℕ) / 1 = 0 then dR0 V c (ix3 (n0 := 2) (n1 := 352) (n2 := 1024) l i x) else V c main_v0_1 (ix3 l i x) := by
  refine (dat0 V c).arrAt_apply_of_coversWhere 5 (dR0 V c) (P := fun z => ((z 0 : Fin 2) : ℕ) / 1 = 0) (fun β => β (0 : Fin 3) = 0) (by decide +kernel) (fun t hf y => ?_) (fun j => Iff.rfl) _
  blk_simp
  rw [after0_5]
  have he : (win0_5.blk t).view.emb y = ix3 (n0 := 2) (n1 := 352) (n2 := 1024) 0 (Ad24.row (pt0 t) (y 1)) (y 2) := by
    blk_ext [idx0_5 t, Ad24.row, pt0]
  have hy : y = ix3 (n0 := 1) (n1 := 176) (n2 := 1024) 0 (y 1) (y 2) := by
    blk_ext [idx0_5 t]
  rw [d_block0 V c t y, he]
  refine (congrArg _ hy).trans ((pay7_0 _ _ _ _ _ _).trans ?_)
  exact d_val0 V c t (y 1) (y 2)

theorem m_val0 (t : Fin cfg0.N) (i : Fin 176) (x : Fin 1024) : Adam.mean (sumB0 (iblk0 V c 0 t) (ix2 i x)) (iblk0 V c 2 t (ix3 0 i x))
    = Adam.mean (Ad24.part (V c main_arg0) (Ad24.row (pt0 t) i) x) (V c main_arg3 (ix3 0 (Ad24.row (pt0 t) i) x)) := by
  rw [sum0 V c t, in0_2 V c t]

/-- What layer 0's call leaves there, as a function of the whole result's index. -/
def mR0 : (⟨3, ![2, 352, 1024]⟩ : Shape).Idx → EReal := fun z => Adam.mean (Ad24.part (V c main_arg0) (z 1) (z 2)) (V c main_arg3 (ix3 0 (z 1) (z 2)))

theorem m_arr0 (l : Fin 2) (i : Fin 352) (x : Fin 1024) : (dat0 V c).arrAt 6 cfg0.N (ix3 (n0 := 2) (n1 := 352) (n2 := 1024) l i x)
    = if ((ix3 (n0 := 2) (n1 := 352) (n2 := 1024) l i x 0 : Fin 2) : ℕ) / 1 = 0 then mR0 V c (ix3 (n0 := 2) (n1 := 352) (n2 := 1024) l i x) else V c main_v0_2 (ix3 l i x) := by
  refine (dat0 V c).arrAt_apply_of_coversWhere 6 (mR0 V c) (P := fun z => ((z 0 : Fin 2) : ℕ) / 1 = 0) (fun β => β (0 : Fin 3) = 0) (by decide +kernel) (fun t hf y => ?_) (fun j => Iff.rfl) _
  blk_simp
  rw [after0_6]
  have he : (win0_6.blk t).view.emb y = ix3 (n0 := 2) (n1 := 352) (n2 := 1024) 0 (Ad24.row (pt0 t) (y 1)) (y 2) := by
    blk_ext [idx0_6 t, Ad24.row, pt0]
  have hy : y = ix3 (n0 := 1) (n1 := 176) (n2 := 1024) 0 (y 1) (y 2) := by
    blk_ext [idx0_6 t]
  rw [m_block0 V c t y, he]
  refine (congrArg _ hy).trans ((pay1_0 _ _ _ _).trans ?_)
  exact m_val0 V c t (y 1) (y 2)

theorem v_val0 (t : Fin cfg0.N) (i : Fin 176) (x : Fin 1024) : Adam.meanSq (sumB0 (iblk0 V c 0 t) (ix2 i x)) (iblk0 V c 3 t (ix3 0 i x))
    = Adam.meanSq (Ad24.part (V c main_arg0) (Ad24.row (pt0 t) i) x) (V c main_arg4 (ix3 0 (Ad24.row (pt0 t) i) x)) := by
  rw [sum0 V c t, in0_3 V c t]

/-- What layer 0's call leaves there, as a function of the whole result's index. -/
def vR0 : (⟨3, ![2, 352, 1024]⟩ : Shape).Idx → EReal := fun z => Adam.meanSq (Ad24.part (V c main_arg0) (z 1) (z 2)) (V c main_arg4 (ix3 0 (z 1) (z 2)))

theorem v_arr0 (l : Fin 2) (i : Fin 352) (x : Fin 1024) : (dat0 V c).arrAt 7 cfg0.N (ix3 (n0 := 2) (n1 := 352) (n2 := 1024) l i x)
    = if ((ix3 (n0 := 2) (n1 := 352) (n2 := 1024) l i x 0 : Fin 2) : ℕ) / 1 = 0 then vR0 V c (ix3 (n0 := 2) (n1 := 352) (n2 := 1024) l i x) else V c main_v0_3 (ix3 l i x) := by
  refine (dat0 V c).arrAt_apply_of_coversWhere 7 (vR0 V c) (P := fun z => ((z 0 : Fin 2) : ℕ) / 1 = 0) (fun β => β (0 : Fin 3) = 0) (by decide +kernel) (fun t hf y => ?_) (fun j => Iff.rfl) _
  blk_simp
  rw [after0_7]
  have he : (win0_7.blk t).view.emb y = ix3 (n0 := 2) (n1 := 352) (n2 := 1024) 0 (Ad24.row (pt0 t) (y 1)) (y 2) := by
    blk_ext [idx0_7 t, Ad24.row, pt0]
  have hy : y = ix3 (n0 := 1) (n1 := 176) (n2 := 1024) 0 (y 1) (y 2) := by
    blk_ext [idx0_7 t]
  rw [v_block0 V c t y, he]
  refine (congrArg _ hy).trans ((pay2_0 _ _ _ _).trans ?_)
  exact v_val0 V c t (y 1) (y 2)

/-- The sum of the eight parts of a block of layer 1. -/
def sumB1 (A : Vec Ideal S8x176x1024 .bf16) : FVec Ideal S176x1024 .f32 :=
  k1_pay3 (View.ld A r0_0) (View.ld A r0_1) (View.ld A r0_2) (View.ld A r0_3) (View.ld A r0_4) (View.ld A r0_5) (View.ld A r0_6) (View.ld A r0_7)

theorem sumB1_apply (A : Vec Ideal S8x176x1024 .bf16) (i : Fin 176) (x : Fin 1024) : sumB1 A (ix2 i x) = Adam.total fun j => A (ix3 j i x) := by
  unfold sumB1
  pointwise [k1_pay3, Adam.total]

theorem pay6_1 (G : FVec Ideal S176x1024 .f32) (i : Fin 176) (x : Fin 1024) : k1_pay6 G (ix3 0 i x) = G (ix2 i x) := by
  pointwise [k1_pay6]

theorem pay1_1 (G : FVec Ideal S176x1024 .f32) (M : Vec Ideal S1x176x1024 .f32) (i : Fin 176) (x : Fin 1024) :
    k1_pay1 (k1_pay4 G M) (ix3 0 i x) = Adam.mean (G (ix2 i x)) (M (ix3 0 i x)) := by
  unfold Adam.mean
  pointwise [k1_pay1, k1_pay4]

theorem pay2_1 (G : FVec Ideal S176x1024 .f32) (V : Vec Ideal S1x176x1024 .f32) (i : Fin 176) (x : Fin 1024) :
    k1_pay2 (k1_pay5 G V) (ix3 0 i x) = Adam.meanSq (G (ix2 i x)) (V (ix3 0 i x)) := by
  unfold Adam.meanSq
  pointwise [k1_pay2, k1_pay5]

theorem pay7_1 (G : FVec Ideal S176x1024 .f32) (W M V : Vec Ideal S1x176x1024 .f32) (i : Fin 176) (x : Fin 1024) :
    k1_pay7 G W M V (ix3 0 i x) = Adam.delta (G (ix2 i x)) (W (ix3 0 i x)) (M (ix3 0 i x)) (V (ix3 0 i x)) := by
  unfold Adam.delta Adam.step Adam.mean Adam.meanSq
  pointwise [k1_pay7, k1_pay4, k1_pay5, c1, c2]

theorem g_block1 (t : Fin cfg1.N) (y : S1x176x1024.Idx) : (outsAt1 V c t).1 y = k1_pay6 (sumB1 (iblk1 V c 0 t)) y := by
  dsimp only [outsAt1]
  frame_out
  rfl

theorem d_block1 (t : Fin cfg1.N) (y : S1x176x1024.Idx) : (outsAt1 V c t).2.1 y = k1_pay7 (sumB1 (iblk1 V c 0 t)) (iblk1 V c 1 t) (iblk1 V c 2 t) (iblk1 V c 3 t) y := by
  dsimp only [outsAt1]
  frame_out
  rfl

theorem m_block1 (t : Fin cfg1.N) (y : S1x176x1024.Idx) : (outsAt1 V c t).2.2.1 y = k1_pay1 (k1_pay4 (sumB1 (iblk1 V c 0 t)) (iblk1 V c 2 t)) y := by
  dsimp only [outsAt1]
  frame_out
  rfl

theorem v_block1 (t : Fin cfg1.N) (y : S1x176x1024.Idx) : (outsAt1 V c t).2.2.2 y = k1_pay2 (k1_pay5 (sumB1 (iblk1 V c 0 t)) (iblk1 V c 3 t)) y := by
  dsimp only [outsAt1]
  frame_out
  rfl

theorem idx1_0 : ∀ t : Fin cfg1.N, win1_0.index t = ![0, t.val, 0] := (by decide +kernel : ∀ t : Fin grid1.N, _)
theorem idx1_1 : ∀ t : Fin cfg1.N, win1_1.index t = ![1, t.val, 0] := (by decide +kernel : ∀ t : Fin grid1.N, _)
theorem idx1_2 : ∀ t : Fin cfg1.N, win1_2.index t = ![1, t.val, 0] := (by decide +kernel : ∀ t : Fin grid1.N, _)
theorem idx1_3 : ∀ t : Fin cfg1.N, win1_3.index t = ![1, t.val, 0] := (by decide +kernel : ∀ t : Fin grid1.N, _)
theorem idx1_4 : ∀ t : Fin cfg1.N, win1_4.index t = ![1, t.val, 0] := (by decide +kernel : ∀ t : Fin grid1.N, _)
theorem idx1_5 : ∀ t : Fin cfg1.N, win1_5.index t = ![1, t.val, 0] := (by decide +kernel : ∀ t : Fin grid1.N, _)
theorem idx1_6 : ∀ t : Fin cfg1.N, win1_6.index t = ![1, t.val, 0] := (by decide +kernel : ∀ t : Fin grid1.N, _)
theorem idx1_7 : ∀ t : Fin cfg1.N, win1_7.index t = ![1, t.val, 0] := (by decide +kernel : ∀ t : Fin grid1.N, _)

/-- The block of point `t`. -/
def pt1 (t : Fin cfg1.N) : Fin 2 := ⟨t.val, lt_of_lt_of_eq t.isLt N_1⟩

theorem in1_0 (t : Fin cfg1.N) (j : Fin 8) (i : Fin 176) (x : Fin 1024) : iblk1 V c 0 t (ix3 j i x) = V c main_arg1 (ix3 j (Ad24.row (pt1 t) i) x) := by
  blk_point [iblk1, idx1_0 t, Ad24.row, pt1]

theorem in1_1 (t : Fin cfg1.N) (i : Fin 176) (x : Fin 1024) : iblk1 V c 1 t (ix3 0 i x) = V c main_arg2 (ix3 1 (Ad24.row (pt1 t) i) x) := by
  blk_point [iblk1, idx1_1 t, Ad24.row, pt1]

theorem in1_2 (t : Fin cfg1.N) (i : Fin 176) (x : Fin 1024) : iblk1 V c 2 t (ix3 0 i x) = V c main_arg3 (ix3 1 (Ad24.row (pt1 t) i) x) := by
  blk_point [iblk1, idx1_2 t, Ad24.row, pt1]

theorem in1_3 (t : Fin cfg1.N) (i : Fin 176) (x : Fin 1024) : iblk1 V c 3 t (ix3 0 i x) = V c main_arg4 (ix3 1 (Ad24.row (pt1 t) i) x) := by
  blk_point [iblk1, idx1_3 t, Ad24.row, pt1]

theorem sum1 (t : Fin cfg1.N) (i : Fin 176) (x : Fin 1024) : sumB1 (iblk1 V c 0 t) (ix2 i x) = Ad24.part (V c main_arg1) (Ad24.row (pt1 t) i) x :=
  (sumB1_apply (iblk1 V c 0 t) i x).trans (congrArg Adam.total (funext fun j => in1_0 V c t j i x))

/-- What layer 1's call leaves there, as a function of the whole result's index. -/
def gR1 : (⟨3, ![2, 352, 1024]⟩ : Shape).Idx → EReal := fun z => Ad24.part (V c main_arg1) (z 1) (z 2)

theorem g_arr1 (l : Fin 2) (i : Fin 352) (x : Fin 1024) : (dat1 V c).arrAt 4 cfg1.N (ix3 (n0 := 2) (n1 := 352) (n2 := 1024) l i x)
    = if ((ix3 (n0 := 2) (n1 := 352) (n2 := 1024) l i x 0 : Fin 2) : ℕ) / 1 = 1 then gR1 V c (ix3 (n0 := 2) (n1 := 352) (n2 := 1024) l i x) else V c main_v1_0 (ix3 l i x) := by
  refine (dat1 V c).arrAt_apply_of_coversWhere 4 (gR1 V c) (P := fun z => ((z 0 : Fin 2) : ℕ) / 1 = 1) (fun β => β (0 : Fin 3) = 1) (by decide +kernel) (fun t hf y => ?_) (fun j => Iff.rfl) _
  blk_simp
  rw [after1_4]
  have he : (win1_4.blk t).view.emb y = ix3 (n0 := 2) (n1 := 352) (n2 := 1024) 1 (Ad24.row (pt1 t) (y 1)) (y 2) := by
    blk_ext [idx1_4 t, Ad24.row, pt1]
  have hy : y = ix3 (n0 := 1) (n1 := 176) (n2 := 1024) 0 (y 1) (y 2) := by
    blk_ext [idx1_4 t]
  rw [g_block1 V c t y, he]
  refine (congrArg _ hy).trans ((pay6_1 _ _ _).trans ?_)
  exact sum1 V c t (y 1) (y 2)

theorem d_val1 (t : Fin cfg1.N) (i : Fin 176) (x : Fin 1024) : Adam.delta (sumB1 (iblk1 V c 0 t) (ix2 i x)) (iblk1 V c 1 t (ix3 0 i x)) (iblk1 V c 2 t (ix3 0 i x)) (iblk1 V c 3 t (ix3 0 i x))
    = Adam.delta (Ad24.part (V c main_arg1) (Ad24.row (pt1 t) i) x) (V c main_arg2 (ix3 1 (Ad24.row (pt1 t) i) x)) (V c main_arg3 (ix3 1 (Ad24.row (pt1 t) i) x)) (V c main_arg4 (ix3 1 (Ad24.row (pt1 t) i) x)) := by
  rw [sum1 V c t, in1_1 V c t, in1_2 V c t, in1_3 V c t]

/-- What layer 1's call leaves there, as a function of the whole result's index. -/
def dR1 : (⟨3, ![2, 352, 1024]⟩ : Shape).Idx → EReal := fun z => Adam.delta (Ad24.part (V c main_arg1) (z 1) (z 2)) (V c main_arg2 (ix3 1 (z 1) (z 2))) (V c main_arg3 (ix3 1 (z 1) (z 2))) (V c main_arg4 (ix3 1 (z 1) (z 2)))

theorem d_arr1 (l : Fin 2) (i : Fin 352) (x : Fin 1024) : (dat1 V c).arrAt 5 cfg1.N (ix3 (n0 := 2) (n1 := 352) (n2 := 1024) l i x)
    = if ((ix3 (n0 := 2) (n1 := 352) (n2 := 1024) l i x 0 : Fin 2) : ℕ) / 1 = 1 then dR1 V c (ix3 (n0 := 2) (n1 := 352) (n2 := 1024) l i x) else V c main_v1_1 (ix3 l i x) := by
  refine (dat1 V c).arrAt_apply_of_coversWhere 5 (dR1 V c) (P := fun z => ((z 0 : Fin 2) : ℕ) / 1 = 1) (fun β => β (0 : Fin 3) = 1) (by decide +kernel) (fun t hf y => ?_) (fun j => Iff.rfl) _
  blk_simp
  rw [after1_5]
  have he : (win1_5.blk t).view.emb y = ix3 (n0 := 2) (n1 := 352) (n2 := 1024) 1 (Ad24.row (pt1 t) (y 1)) (y 2) := by
    blk_ext [idx1_5 t, Ad24.row, pt1]
  have hy : y = ix3 (n0 := 1) (n1 := 176) (n2 := 1024) 0 (y 1) (y 2) := by
    blk_ext [idx1_5 t]
  rw [d_block1 V c t y, he]
  refine (congrArg _ hy).trans ((pay7_1 _ _ _ _ _ _).trans ?_)
  exact d_val1 V c t (y 1) (y 2)

theorem m_val1 (t : Fin cfg1.N) (i : Fin 176) (x : Fin 1024) : Adam.mean (sumB1 (iblk1 V c 0 t) (ix2 i x)) (iblk1 V c 2 t (ix3 0 i x))
    = Adam.mean (Ad24.part (V c main_arg1) (Ad24.row (pt1 t) i) x) (V c main_arg3 (ix3 1 (Ad24.row (pt1 t) i) x)) := by
  rw [sum1 V c t, in1_2 V c t]

/-- What layer 1's call leaves there, as a function of the whole result's index. -/
def mR1 : (⟨3, ![2, 352, 1024]⟩ : Shape).Idx → EReal := fun z => Adam.mean (Ad24.part (V c main_arg1) (z 1) (z 2)) (V c main_arg3 (ix3 1 (z 1) (z 2)))

theorem m_arr1 (l : Fin 2) (i : Fin 352) (x : Fin 1024) : (dat1 V c).arrAt 6 cfg1.N (ix3 (n0 := 2) (n1 := 352) (n2 := 1024) l i x)
    = if ((ix3 (n0 := 2) (n1 := 352) (n2 := 1024) l i x 0 : Fin 2) : ℕ) / 1 = 1 then mR1 V c (ix3 (n0 := 2) (n1 := 352) (n2 := 1024) l i x) else V c main_v1_2 (ix3 l i x) := by
  refine (dat1 V c).arrAt_apply_of_coversWhere 6 (mR1 V c) (P := fun z => ((z 0 : Fin 2) : ℕ) / 1 = 1) (fun β => β (0 : Fin 3) = 1) (by decide +kernel) (fun t hf y => ?_) (fun j => Iff.rfl) _
  blk_simp
  rw [after1_6]
  have he : (win1_6.blk t).view.emb y = ix3 (n0 := 2) (n1 := 352) (n2 := 1024) 1 (Ad24.row (pt1 t) (y 1)) (y 2) := by
    blk_ext [idx1_6 t, Ad24.row, pt1]
  have hy : y = ix3 (n0 := 1) (n1 := 176) (n2 := 1024) 0 (y 1) (y 2) := by
    blk_ext [idx1_6 t]
  rw [m_block1 V c t y, he]
  refine (congrArg _ hy).trans ((pay1_1 _ _ _ _).trans ?_)
  exact m_val1 V c t (y 1) (y 2)

theorem v_val1 (t : Fin cfg1.N) (i : Fin 176) (x : Fin 1024) : Adam.meanSq (sumB1 (iblk1 V c 0 t) (ix2 i x)) (iblk1 V c 3 t (ix3 0 i x))
    = Adam.meanSq (Ad24.part (V c main_arg1) (Ad24.row (pt1 t) i) x) (V c main_arg4 (ix3 1 (Ad24.row (pt1 t) i) x)) := by
  rw [sum1 V c t, in1_3 V c t]

/-- What layer 1's call leaves there, as a function of the whole result's index. -/
def vR1 : (⟨3, ![2, 352, 1024]⟩ : Shape).Idx → EReal := fun z => Adam.meanSq (Ad24.part (V c main_arg1) (z 1) (z 2)) (V c main_arg4 (ix3 1 (z 1) (z 2)))

theorem v_arr1 (l : Fin 2) (i : Fin 352) (x : Fin 1024) : (dat1 V c).arrAt 7 cfg1.N (ix3 (n0 := 2) (n1 := 352) (n2 := 1024) l i x)
    = if ((ix3 (n0 := 2) (n1 := 352) (n2 := 1024) l i x 0 : Fin 2) : ℕ) / 1 = 1 then vR1 V c (ix3 (n0 := 2) (n1 := 352) (n2 := 1024) l i x) else V c main_v1_3 (ix3 l i x) := by
  refine (dat1 V c).arrAt_apply_of_coversWhere 7 (vR1 V c) (P := fun z => ((z 0 : Fin 2) : ℕ) / 1 = 1) (fun β => β (0 : Fin 3) = 1) (by decide +kernel) (fun t hf y => ?_) (fun j => Iff.rfl) _
  blk_simp
  rw [after1_7]
  have he : (win1_7.blk t).view.emb y = ix3 (n0 := 2) (n1 := 352) (n2 := 1024) 1 (Ad24.row (pt1 t) (y 1)) (y 2) := by
    blk_ext [idx1_7 t, Ad24.row, pt1]
  have hy : y = ix3 (n0 := 1) (n1 := 176) (n2 := 1024) 0 (y 1) (y 2) := by
    blk_ext [idx1_7 t]
  rw [v_block1 V c t y, he]
  refine (congrArg _ hy).trans ((pay2_1 _ _ _ _).trans ?_)
  exact v_val1 V c t (y 1) (y 2)

end Regions

section Assembly

variable (m : (ℓ : Loc nD τ sig) → Buf (Elt Ideal) ℓ) (ρ : Dev nD → PrngReg) (c : Dev nD)

theorem copy0 : V2 m ρ c main_v1_0 = (dat0 (V0 m ρ) c).arrAt 4 cfg0.N := by
  refine Eq.trans ?_ (W1_arr m ρ c 4)
  show StableHlo.after hostOps1 (W1 m ρ c) (Proc.devRef .tc main_v1_0) = _
  after_results_simp <;> rfl

theorem copy1 : V2 m ρ c main_v1_1 = (dat0 (V0 m ρ) c).arrAt 5 cfg0.N := by
  refine Eq.trans ?_ (W1_arr m ρ c 5)
  show StableHlo.after hostOps1 (W1 m ρ c) (Proc.devRef .tc main_v1_1) = _
  after_results_simp <;> rfl

theorem copy2 : V2 m ρ c main_v1_2 = (dat0 (V0 m ρ) c).arrAt 6 cfg0.N := by
  refine Eq.trans ?_ (W1_arr m ρ c 6)
  show StableHlo.after hostOps1 (W1 m ρ c) (Proc.devRef .tc main_v1_2) = _
  after_results_simp <;> rfl

theorem copy3 : V2 m ρ c main_v1_3 = (dat0 (V0 m ρ) c).arrAt 7 cfg0.N := by
  refine Eq.trans ?_ (W1_arr m ρ c 7)
  show StableHlo.after hostOps1 (W1 m ρ c) (Proc.devRef .tc main_v1_3) = _
  after_results_simp <;> rfl

theorem parts0 : V0 m ρ c main_arg0 = m ((c : Thread nD τ).loc main_arg0) := rfl

theorem arg0_2 (z : S2x352x1024.Idx) : V0 m ρ c main_arg2 z = m ((c : Thread nD τ).loc main_arg2) (ix3 (z 0) (z 1) (z 2)) := congrArg (m ((c : Thread nD τ).loc main_arg2)) (eq_ix3 z)

theorem arg0_3 (z : S2x352x1024.Idx) : V0 m ρ c main_arg3 z = m ((c : Thread nD τ).loc main_arg3) (ix3 (z 0) (z 1) (z 2)) := congrArg (m ((c : Thread nD τ).loc main_arg3)) (eq_ix3 z)

theorem arg0_4 (z : S2x352x1024.Idx) : V0 m ρ c main_arg4 z = m ((c : Thread nD τ).loc main_arg4) (ix3 (z 0) (z 1) (z 2)) := congrArg (m ((c : Thread nD τ).loc main_arg4)) (eq_ix3 z)

theorem parts1 : V2 m ρ c main_arg1 = m ((c : Thread nD τ).loc main_arg1) := W2_args m ρ c main_arg1 (by decide)

theorem arg1_2 (z : S2x352x1024.Idx) : V2 m ρ c main_arg2 z = m ((c : Thread nD τ).loc main_arg2) (ix3 (z 0) (z 1) (z 2)) := (congrFun (W2_args m ρ c main_arg2 (by decide)) z).trans (congrArg (m ((c : Thread nD τ).loc main_arg2)) (eq_ix3 z))

theorem arg1_3 (z : S2x352x1024.Idx) : V2 m ρ c main_arg3 z = m ((c : Thread nD τ).loc main_arg3) (ix3 (z 0) (z 1) (z 2)) := (congrFun (W2_args m ρ c main_arg3 (by decide)) z).trans (congrArg (m ((c : Thread nD τ).loc main_arg3)) (eq_ix3 z))

theorem arg1_4 (z : S2x352x1024.Idx) : V2 m ρ c main_arg4 z = m ((c : Thread nD τ).loc main_arg4) (ix3 (z 0) (z 1) (z 2)) := (congrFun (W2_args m ρ c main_arg4 (by decide)) z).trans (congrArg (m ((c : Thread nD τ).loc main_arg4)) (eq_ix3 z))

theorem g_lay0 (i : Fin 352) (x : Fin 1024) : gR0 (V0 m ρ) c (ix3 0 i x) = Ad24.gOf (m ((c : Thread nD τ).loc main_arg0)) (m ((c : Thread nD τ).loc main_arg1)) (ix3 0 i x) := by
  have hp := parts0 m ρ c
  show Ad24.part (V0 m ρ c main_arg0) i x = _
  rw [hp]
  rfl

theorem g_lay1 (i : Fin 352) (x : Fin 1024) : gR1 (V2 m ρ) c (ix3 1 i x) = Ad24.gOf (m ((c : Thread nD τ).loc main_arg0)) (m ((c : Thread nD τ).loc main_arg1)) (ix3 1 i x) := by
  have hp := parts1 m ρ c
  show Ad24.part (V2 m ρ c main_arg1) i x = _
  rw [hp]
  rfl

theorem g_final : W3 m ρ c (Proc.devRef .tc main_v1_0) = Ad24.gOf (m ((c : Thread nD τ).loc main_arg0)) (m ((c : Thread nD τ).loc main_arg1)) := by
  refine (W3_arr m ρ c 4).trans (funext fun (z : S2x352x1024.Idx) => ?_)
  obtain ⟨l, i, x, rfl⟩ : ∃ l i x, z = ix3 l i x := ⟨z 0, z 1, z 2, eq_ix3 z⟩
  refine (g_arr1 (V2 m ρ) c l i x).trans ?_
  obtain rfl | rfl : l = 0 ∨ l = 1 := by omega
  · refine (if_neg (show ¬ ((0 : Fin 2) : ℕ) / 1 = 1 by decide)).trans ?_
    refine (congrFun (copy0 m ρ c) (ix3 (n0 := 2) (n1 := 352) (n2 := 1024) 0 i x)).trans ?_
    refine (g_arr0 (V0 m ρ) c 0 i x).trans ?_
    refine (if_pos (show ((0 : Fin 2) : ℕ) / 1 = 0 by decide)).trans ?_
    exact g_lay0 m ρ c i x
  · refine (if_pos (show ((1 : Fin 2) : ℕ) / 1 = 1 by decide)).trans ?_
    exact g_lay1 m ρ c i x

theorem d_lay0 (i : Fin 352) (x : Fin 1024) : dR0 (V0 m ρ) c (ix3 0 i x) = Ad24.dOf (m ((c : Thread nD τ).loc main_arg0)) (m ((c : Thread nD τ).loc main_arg1)) (m ((c : Thread nD τ).loc main_arg2)) (m ((c : Thread nD τ).loc main_arg3)) (m ((c : Thread nD τ).loc main_arg4)) (ix3 0 i x) := by
  have hp := parts0 m ρ c
  have h1 : V0 m ρ c main_arg2 (ix3 0 i x) = m ((c : Thread nD τ).loc main_arg2) (ix3 0 i x) := arg0_2 m ρ c (ix3 0 i x)
  have h2 : V0 m ρ c main_arg3 (ix3 0 i x) = m ((c : Thread nD τ).loc main_arg3) (ix3 0 i x) := arg0_3 m ρ c (ix3 0 i x)
  have h3 : V0 m ρ c main_arg4 (ix3 0 i x) = m ((c : Thread nD τ).loc main_arg4) (ix3 0 i x) := arg0_4 m ρ c (ix3 0 i x)
  show Adam.delta (Ad24.part (V0 m ρ c main_arg0) i x) (V0 m ρ c main_arg2 (ix3 0 i x)) (V0 m ρ c main_arg3 (ix3 0 i x)) (V0 m ρ c main_arg4 (ix3 0 i x)) = _
  rw [hp, h1, h2, h3]
  rfl

theorem d_lay1 (i : Fin 352) (x : Fin 1024) : dR1 (V2 m ρ) c (ix3 1 i x) = Ad24.dOf (m ((c : Thread nD τ).loc main_arg0)) (m ((c : Thread nD τ).loc main_arg1)) (m ((c : Thread nD τ).loc main_arg2)) (m ((c : Thread nD τ).loc main_arg3)) (m ((c : Thread nD τ).loc main_arg4)) (ix3 1 i x) := by
  have hp := parts1 m ρ c
  have h1 : V2 m ρ c main_arg2 (ix3 1 i x) = m ((c : Thread nD τ).loc main_arg2) (ix3 1 i x) := arg1_2 m ρ c (ix3 1 i x)
  have h2 : V2 m ρ c main_arg3 (ix3 1 i x) = m ((c : Thread nD τ).loc main_arg3) (ix3 1 i x) := arg1_3 m ρ c (ix3 1 i x)
  have h3 : V2 m ρ c main_arg4 (ix3 1 i x) = m ((c : Thread nD τ).loc main_arg4) (ix3 1 i x) := arg1_4 m ρ c (ix3 1 i x)
  show Adam.delta (Ad24.part (V2 m ρ c main_arg1) i x) (V2 m ρ c main_arg2 (ix3 1 i x)) (V2 m ρ c main_arg3 (ix3 1 i x)) (V2 m ρ c main_arg4 (ix3 1 i x)) = _
  rw [hp, h1, h2, h3]
  rfl

theorem d_final : W3 m ρ c (Proc.devRef .tc main_v1_1) = Ad24.dOf (m ((c : Thread nD τ).loc main_arg0)) (m ((c : Thread nD τ).loc main_arg1)) (m ((c : Thread nD τ).loc main_arg2)) (m ((c : Thread nD τ).loc main_arg3)) (m ((c : Thread nD τ).loc main_arg4)) := by
  refine (W3_arr m ρ c 5).trans (funext fun (z : S2x352x1024.Idx) => ?_)
  obtain ⟨l, i, x, rfl⟩ : ∃ l i x, z = ix3 l i x := ⟨z 0, z 1, z 2, eq_ix3 z⟩
  refine (d_arr1 (V2 m ρ) c l i x).trans ?_
  obtain rfl | rfl : l = 0 ∨ l = 1 := by omega
  · refine (if_neg (show ¬ ((0 : Fin 2) : ℕ) / 1 = 1 by decide)).trans ?_
    refine (congrFun (copy1 m ρ c) (ix3 (n0 := 2) (n1 := 352) (n2 := 1024) 0 i x)).trans ?_
    refine (d_arr0 (V0 m ρ) c 0 i x).trans ?_
    refine (if_pos (show ((0 : Fin 2) : ℕ) / 1 = 0 by decide)).trans ?_
    exact d_lay0 m ρ c i x
  · refine (if_pos (show ((1 : Fin 2) : ℕ) / 1 = 1 by decide)).trans ?_
    exact d_lay1 m ρ c i x

theorem m_lay0 (i : Fin 352) (x : Fin 1024) : mR0 (V0 m ρ) c (ix3 0 i x) = Ad24.mOf (m ((c : Thread nD τ).loc main_arg0)) (m ((c : Thread nD τ).loc main_arg1)) (m ((c : Thread nD τ).loc main_arg3)) (ix3 0 i x) := by
  have hp := parts0 m ρ c
  have h2 : V0 m ρ c main_arg3 (ix3 0 i x) = m ((c : Thread nD τ).loc main_arg3) (ix3 0 i x) := arg0_3 m ρ c (ix3 0 i x)
  show Adam.mean (Ad24.part (V0 m ρ c main_arg0) i x) (V0 m ρ c main_arg3 (ix3 0 i x)) = _
  rw [hp, h2]
  rfl

theorem m_lay1 (i : Fin 352) (x : Fin 1024) : mR1 (V2 m ρ) c (ix3 1 i x) = Ad24.mOf (m ((c : Thread nD τ).loc main_arg0)) (m ((c : Thread nD τ).loc main_arg1)) (m ((c : Thread nD τ).loc main_arg3)) (ix3 1 i x) := by
  have hp := parts1 m ρ c
  have h2 : V2 m ρ c main_arg3 (ix3 1 i x) = m ((c : Thread nD τ).loc main_arg3) (ix3 1 i x) := arg1_3 m ρ c (ix3 1 i x)
  show Adam.mean (Ad24.part (V2 m ρ c main_arg1) i x) (V2 m ρ c main_arg3 (ix3 1 i x)) = _
  rw [hp, h2]
  rfl

theorem m_final : W3 m ρ c (Proc.devRef .tc main_v1_2) = Ad24.mOf (m ((c : Thread nD τ).loc main_arg0)) (m ((c : Thread nD τ).loc main_arg1)) (m ((c : Thread nD τ).loc main_arg3)) := by
  refine (W3_arr m ρ c 6).trans (funext fun (z : S2x352x1024.Idx) => ?_)
  obtain ⟨l, i, x, rfl⟩ : ∃ l i x, z = ix3 l i x := ⟨z 0, z 1, z 2, eq_ix3 z⟩
  refine (m_arr1 (V2 m ρ) c l i x).trans ?_
  obtain rfl | rfl : l = 0 ∨ l = 1 := by omega
  · refine (if_neg (show ¬ ((0 : Fin 2) : ℕ) / 1 = 1 by decide)).trans ?_
    refine (congrFun (copy2 m ρ c) (ix3 (n0 := 2) (n1 := 352) (n2 := 1024) 0 i x)).trans ?_
    refine (m_arr0 (V0 m ρ) c 0 i x).trans ?_
    refine (if_pos (show ((0 : Fin 2) : ℕ) / 1 = 0 by decide)).trans ?_
    exact m_lay0 m ρ c i x
  · refine (if_pos (show ((1 : Fin 2) : ℕ) / 1 = 1 by decide)).trans ?_
    exact m_lay1 m ρ c i x

theorem v_lay0 (i : Fin 352) (x : Fin 1024) : vR0 (V0 m ρ) c (ix3 0 i x) = Ad24.vOf (m ((c : Thread nD τ).loc main_arg0)) (m ((c : Thread nD τ).loc main_arg1)) (m ((c : Thread nD τ).loc main_arg4)) (ix3 0 i x) := by
  have hp := parts0 m ρ c
  have h3 : V0 m ρ c main_arg4 (ix3 0 i x) = m ((c : Thread nD τ).loc main_arg4) (ix3 0 i x) := arg0_4 m ρ c (ix3 0 i x)
  show Adam.meanSq (Ad24.part (V0 m ρ c main_arg0) i x) (V0 m ρ c main_arg4 (ix3 0 i x)) = _
  rw [hp, h3]
  rfl

theorem v_lay1 (i : Fin 352) (x : Fin 1024) : vR1 (V2 m ρ) c (ix3 1 i x) = Ad24.vOf (m ((c : Thread nD τ).loc main_arg0)) (m ((c : Thread nD τ).loc main_arg1)) (m ((c : Thread nD τ).loc main_arg4)) (ix3 1 i x) := by
  have hp := parts1 m ρ c
  have h3 : V2 m ρ c main_arg4 (ix3 1 i x) = m ((c : Thread nD τ).loc main_arg4) (ix3 1 i x) := arg1_4 m ρ c (ix3 1 i x)
  show Adam.meanSq (Ad24.part (V2 m ρ c main_arg1) i x) (V2 m ρ c main_arg4 (ix3 1 i x)) = _
  rw [hp, h3]
  rfl

theorem v_final : W3 m ρ c (Proc.devRef .tc main_v1_3) = Ad24.vOf (m ((c : Thread nD τ).loc main_arg0)) (m ((c : Thread nD τ).loc main_arg1)) (m ((c : Thread nD τ).loc main_arg4)) := by
  refine (W3_arr m ρ c 7).trans (funext fun (z : S2x352x1024.Idx) => ?_)
  obtain ⟨l, i, x, rfl⟩ : ∃ l i x, z = ix3 l i x := ⟨z 0, z 1, z 2, eq_ix3 z⟩
  refine (v_arr1 (V2 m ρ) c l i x).trans ?_
  obtain rfl | rfl : l = 0 ∨ l = 1 := by omega
  · refine (if_neg (show ¬ ((0 : Fin 2) : ℕ) / 1 = 1 by decide)).trans ?_
    refine (congrFun (copy3 m ρ c) (ix3 (n0 := 2) (n1 := 352) (n2 := 1024) 0 i x)).trans ?_
    refine (v_arr0 (V0 m ρ) c 0 i x).trans ?_
    refine (if_pos (show ((0 : Fin 2) : ℕ) / 1 = 0 by decide)).trans ?_
    exact v_lay0 m ρ c i x
  · refine (if_pos (show ((1 : Fin 2) : ℕ) / 1 = 1 by decide)).trans ?_
    exact v_lay1 m ρ c i x

/-- The run of the two calls: the results, and the arguments unchanged. -/
theorem run : θ_run defs (onTc (τ := τ) (main (F := Ideal))) ⟨m, fun _ => 0, ρ⟩ (fun r => ∀ c : Dev nD,
      r.2.mem ((c.tc : Thread nD τ).loc main_v1_0) = Ad24.gOf (m ((c : Thread nD τ).loc main_arg0)) (m ((c : Thread nD τ).loc main_arg1))
      ∧ r.2.mem ((c.tc : Thread nD τ).loc main_v1_1) = Ad24.dOf (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v1_2) = Ad24.mOf (m ((c : Thread nD τ).loc main_arg0)) (m ((c : Thread nD τ).loc main_arg1)) (m ((c : Thread nD τ).loc main_arg3))
      ∧ r.2.mem ((c.tc : Thread nD τ).loc main_v1_3) = Ad24.vOf (m ((c : Thread nD τ).loc main_arg0)) (m ((c : Thread nD τ).loc main_arg1)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v1_0 (by decide))).trans (g_final m ρ c),
       (h c _ (mem_uc main_v1_1 (by decide))).trans (d_final m ρ c),
       (h c _ (mem_uc main_v1_2 (by decide))).trans (m_final m ρ c),
       (h c _ (mem_uc main_v1_3 (by decide))).trans (v_final m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Assembly

end Cert.Kernel24Ideal.Ad

namespace Cert.Reference24Ideal.Ad

open Cert.Reference24Ideal Cert.Reference24Ideal.Gen Cert.Reference24Ideal.Value Idealize.ShloMosaic Idealize.ShloMosaic.TcCoe Idealize.SL.Sem

theorem sum_apply (a0 : FVec Ideal S8x352x1024 .bf16) (i : Fin 352) (x : Fin 1024) :
    Host.reduceAdd (F := Ideal) (extf .f32 a0 bitsLt_bf16_f32) (constant S_ .f32 0x00000000#32) reducesTo_S8x352x1024_S352x1024_d0 h_S_ (ix2 i x) = Ad24.part a0 i x := by
  rw [Ad24.part, ← Adam.total_eq]
  pointwise

/-- The two layers' gradients, one after the other. -/
def stack (a0 a1 : FVec Ideal S8x352x1024 .bf16) : FVec Ideal S2x352x1024 .f32 :=
  concatenate S2x352x1024 0 [⟨S1x352x1024, (broadcastInDim S1x352x1024 ![1, 2] bcast_S352x1024_S1x352x1024_1_2 (Host.reduceAdd (extf .f32 a0 bitsLt_bf16_f32) (constant S_ .f32 0x00000000#32) reducesTo_S8x352x1024_S352x1024_d0 h_S_))⟩, ⟨S1x352x1024, (broadcastInDim S1x352x1024 ![1, 2] bcast_S352x1024_S1x352x1024_1_2 (Host.reduceAdd (extf .f32 a1 bitsLt_bf16_f32) (constant S_ .f32 0x00000000#32) reducesTo_S8x352x1024_S352x1024_d0 h_S_))⟩] concatenates_S1x352x1024_S1x352x1024_S2x352x1024_d0

theorem stack_apply (a0 a1 : FVec Ideal S8x352x1024 .bf16) (l : Fin 2) (i : Fin 352) (x : Fin 1024) : stack a0 a1 (ix3 l i x) = Ad24.g a0 a1 l i x := by
  unfold stack Ad24.g
  rw [← sum_apply a0 i x, ← sum_apply a1 i x]
  generalize Host.reduceAdd (F := Ideal) (extf .f32 a0 bitsLt_bf16_f32) (constant S_ .f32 0x00000000#32) reducesTo_S8x352x1024_S352x1024_d0 h_S_ = G0
  generalize Host.reduceAdd (F := Ideal) (extf .f32 a1 bitsLt_bf16_f32) (constant S_ .f32 0x00000000#32) reducesTo_S8x352x1024_S352x1024_d0 h_S_ = G1
  obtain rfl | rfl : l = 0 ∨ l = 1 := by omega
  · pointwise
  · pointwise

/-- The reference's run: its results are the same functions of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = Ad24.gOf (m ((c.tc : Thread nD τ).loc main_arg0)) (m ((c.tc : Thread nD τ).loc main_arg1))
      ∧ r.2.mem ((c.tc : Thread nD τ).loc main_v30) = Ad24.dOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v11) = Ad24.mOf (m ((c.tc : Thread nD τ).loc main_arg0)) (m ((c.tc : Thread nD τ).loc main_arg1)) (m ((c.tc : Thread nD τ).loc main_arg3))
      ∧ r.2.mem ((c.tc : Thread nD τ).loc main_v17) = Ad24.vOf (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r hr c => ?_) (Cert.Reference24Ideal.Value.run (F := Ideal) m ρ)
  refine ⟨(hr c).1.trans ?_, (hr c).2.1.trans ?_, (hr c).2.2.1.trans ?_, (hr c).2.2.2.1.trans ?_, (hr c).2.2.2.2⟩
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize m ((c.tc : Thread nD τ).loc main_arg4) = a4
    rw [show concatenate S2x352x1024 0 _ _ = stack a0 a1 from rfl]
    generalize hG : stack a0 a1 = G
    have hg : ∀ l i x, Ad24.g a0 a1 l i x = G (ix3 l i x) := fun l i x => by
      rw [← hG]
      exact (stack_apply a0 a1 l i x).symm
    clear hG
    refine funext fun (z : S2x352x1024.Idx) => ?_
    obtain ⟨l, i, x, rfl⟩ : ∃ l i x, z = ix3 l i x := ⟨z 0, z 1, z 2, eq_ix3 z⟩
    simp only [Ad24.gOf]
    rw [show Ad24.g a0 a1 (ix3 (n0 := 2) (n1 := 352) (n2 := 1024) l i x 0) (ix3 (n0 := 2) (n1 := 352) (n2 := 1024) l i x 1) (ix3 (n0 := 2) (n1 := 352) (n2 := 1024) l i x 2) = G (ix3 l i x) from hg l i x]
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize m ((c.tc : Thread nD τ).loc main_arg4) = a4
    rw [show concatenate S2x352x1024 0 _ _ = stack a0 a1 from rfl]
    generalize hG : stack a0 a1 = G
    have hg : ∀ l i x, Ad24.g a0 a1 l i x = G (ix3 l i x) := fun l i x => by
      rw [← hG]
      exact (stack_apply a0 a1 l i x).symm
    clear hG
    refine funext fun (z : S2x352x1024.Idx) => ?_
    obtain ⟨l, i, x, rfl⟩ : ∃ l i x, z = ix3 l i x := ⟨z 0, z 1, z 2, eq_ix3 z⟩
    simp only [Ad24.dOf]
    rw [show Ad24.g a0 a1 (ix3 (n0 := 2) (n1 := 352) (n2 := 1024) l i x 0) (ix3 (n0 := 2) (n1 := 352) (n2 := 1024) l i x 1) (ix3 (n0 := 2) (n1 := 352) (n2 := 1024) l i x 2) = G (ix3 l i x) from hg l i x]
    simp only [Adam.delta, Adam.step, Adam.mean, Adam.meanSq]
    pointwise [Adam.div_d1, Adam.div_d2]
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize m ((c.tc : Thread nD τ).loc main_arg4) = a4
    rw [show concatenate S2x352x1024 0 _ _ = stack a0 a1 from rfl]
    generalize hG : stack a0 a1 = G
    have hg : ∀ l i x, Ad24.g a0 a1 l i x = G (ix3 l i x) := fun l i x => by
      rw [← hG]
      exact (stack_apply a0 a1 l i x).symm
    clear hG
    refine funext fun (z : S2x352x1024.Idx) => ?_
    obtain ⟨l, i, x, rfl⟩ : ∃ l i x, z = ix3 l i x := ⟨z 0, z 1, z 2, eq_ix3 z⟩
    simp only [Ad24.mOf]
    rw [show Ad24.g a0 a1 (ix3 (n0 := 2) (n1 := 352) (n2 := 1024) l i x 0) (ix3 (n0 := 2) (n1 := 352) (n2 := 1024) l i x 1) (ix3 (n0 := 2) (n1 := 352) (n2 := 1024) l i x 2) = G (ix3 l i x) from hg l i x]
    simp only [Adam.mean]
    pointwise
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize m ((c.tc : Thread nD τ).loc main_arg4) = a4
    rw [show concatenate S2x352x1024 0 _ _ = stack a0 a1 from rfl]
    generalize hG : stack a0 a1 = G
    have hg : ∀ l i x, Ad24.g a0 a1 l i x = G (ix3 l i x) := fun l i x => by
      rw [← hG]
      exact (stack_apply a0 a1 l i x).symm
    clear hG
    refine funext fun (z : S2x352x1024.Idx) => ?_
    obtain ⟨l, i, x, rfl⟩ : ∃ l i x, z = ix3 l i x := ⟨z 0, z 1, z 2, eq_ix3 z⟩
    simp only [Ad24.vOf]
    rw [show Ad24.g a0 a1 (ix3 (n0 := 2) (n1 := 352) (n2 := 1024) l i x 0) (ix3 (n0 := 2) (n1 := 352) (n2 := 1024) l i x 1) (ix3 (n0 := 2) (n1 := 352) (n2 := 1024) l i x 2) = G (ix3 l i x) from hg l i x]
    simp only [Adam.meanSq]
    pointwise

end Cert.Reference24Ideal.Ad

end
-- ==== Proof.Ad25.lean ====
module

public import proofs.«01_k».proof.Proof.Gen.Kernel25Ideal.Frame
public import proofs.«01_k».proof.Proof.Gen.Reference25Ideal.Run
public import proofs.«01_k».proof.Proof.Adam
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ad25

open Idealize.ShloMosaic

/-- The gradient of one layer at row `i`, column `x`: the sum of the devices' parts. -/
def part (A : (⟨3, ![8, 704, 1024]⟩ : Shape).Idx → EReal) (i : Fin 704) (x : Fin 1024) : EReal := Adam.total fun j => A (ix3 j i x)

/-- The gradient of layer `l`: the first argument's parts for layer 0, the second's for layer 1. -/
def g (A0 A1 : (⟨3, ![8, 704, 1024]⟩ : Shape).Idx → EReal) (l : Fin 2) (i : Fin 704) (x : Fin 1024) : EReal := if l = 0 then part A0 i x else part A1 i x

/-- The gradient. -/
def gOf (A0 A1 : (⟨3, ![8, 704, 1024]⟩ : Shape).Idx → EReal) : (⟨3, ![2, 704, 1024]⟩ : Shape).Idx → EReal := fun z => g A0 A1 (z 0) (z 1) (z 2)

/-- The first running mean. -/
def mOf (A0 A1 : (⟨3, ![8, 704, 1024]⟩ : Shape).Idx → EReal) (M : (⟨3, ![2, 1024, 704]⟩ : Shape).Idx → EReal) : (⟨3, ![2, 704, 1024]⟩ : Shape).Idx → EReal := fun z => Adam.mean (g A0 A1 (z 0) (z 1) (z 2)) (M (ix3 (z 0) (z 2) (z 1)))

/-- The second running mean. -/
def vOf (A0 A1 : (⟨3, ![8, 704, 1024]⟩ : Shape).Idx → EReal) (V : (⟨3, ![2, 1024, 704]⟩ : Shape).Idx → EReal) : (⟨3, ![2, 704, 1024]⟩ : Shape).Idx → EReal := fun z => Adam.meanSq (g A0 A1 (z 0) (z 1) (z 2)) (V (ix3 (z 0) (z 2) (z 1)))

/-- The step. -/
def dOf (A0 A1 : (⟨3, ![8, 704, 1024]⟩ : Shape).Idx → EReal) (W M V : (⟨3, ![2, 1024, 704]⟩ : Shape).Idx → EReal) : (⟨3, ![2, 704, 1024]⟩ : Shape).Idx → EReal :=
  fun z => Adam.delta (g A0 A1 (z 0) (z 1) (z 2)) (W (ix3 (z 0) (z 2) (z 1))) (M (ix3 (z 0) (z 2) (z 1))) (V (ix3 (z 0) (z 2) (z 1)))

/-- Row `i` of block `t`. -/
def row (t : Fin 4) (i : Fin 176) : Fin 704 := ⟨176 * t.val + i.val, by omega⟩

end Cert.Ad25

namespace Cert.Kernel25Ideal.Ad

open Cert.Kernel25Ideal Cert.Kernel25Ideal.Gen Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds Idealize.ShloMosaic.Tactic
open Idealize.ShloMosaic.Pipeline (Dat Cfg Window BodyObligation cellOf)

theorem c1 : Named.named (F := Ideal) κ "c1" (φ := .f32) 0x3FC48605#32 = ((8388608 / 5463681 : ℝ) : EReal) :=
  IdealRules.named_const.ideal_named_scalar _ _ _ _ rfl

theorem c2 : Named.named (F := Ideal) κ "c2" (φ := .f32) 0x42C8E6D3#32 = ((268435456 / 2672307 : ℝ) : EReal) :=
  IdealRules.named_const.ideal_named_scalar _ _ _ _ rfl

theorem hz : (![0, 0, 0] : Fin 3 → ℕ) = fun _ => 0 := by decide

section Regions

variable (V : (c : Dev nD) → (b : Ref sig .tc) → Buf (Elt Ideal) ((c : Thread nD τ).loc b)) (c : Dev nD)

theorem ld_part (A : Vec Ideal S8x176x1024 .bf16) (j : Fin 8) (inb : ∀ a, (![j.val, 0, 0] : Fin 3 → ℕ) a + S1x176x1024.size a ≤ S8x176x1024.size a) (i : Fin 176) (x : Fin 1024) :
    View.ld A (Rect.unit (s := S8x176x1024) ![j.val, 0, 0] S1x176x1024.size inb) (ix3 0 i x) = A (ix3 j i x) := by
  rw [View.ld_apply]
  congr 1
  funext a
  fin_cases a <;> apply Fin.ext <;> simp

/-- The sum of the eight parts of a block of layer 0. -/
def sumB0 (A : Vec Ideal S8x176x1024 .bf16) : FVec Ideal S176x1024 .f32 :=
  k0_pay3 (View.ld A r0_0) (View.ld A r0_1) (View.ld A r0_2) (View.ld A r0_3) (View.ld A r0_4) (View.ld A r0_5) (View.ld A r0_6) (View.ld A r0_7)

theorem sumB0_apply (A : Vec Ideal S8x176x1024 .bf16) (i : Fin 176) (x : Fin 1024) : sumB0 A (ix2 i x) = Adam.total fun j => A (ix3 j i x) := by
  unfold sumB0
  pointwise [k0_pay3, Adam.total]

theorem pay6_0 (G : FVec Ideal S176x1024 .f32) (i : Fin 176) (x : Fin 1024) : k0_pay6 G (ix3 0 i x) = G (ix2 i x) := by
  pointwise [k0_pay6]

theorem pay1_0 (G : FVec Ideal S176x1024 .f32) (M : Vec Ideal S1x176x1024 .f32) (i : Fin 176) (x : Fin 1024) :
    k0_pay1 (k0_pay4 G M) (ix3 0 i x) = Adam.mean (G (ix2 i x)) (M (ix3 0 i x)) := by
  unfold Adam.mean
  pointwise [k0_pay1, k0_pay4]

theorem pay2_0 (G : FVec Ideal S176x1024 .f32) (V : Vec Ideal S1x176x1024 .f32) (i : Fin 176) (x : Fin 1024) :
    k0_pay2 (k0_pay5 G V) (ix3 0 i x) = Adam.meanSq (G (ix2 i x)) (V (ix3 0 i x)) := by
  unfold Adam.meanSq
  pointwise [k0_pay2, k0_pay5]

theorem pay7_0 (G : FVec Ideal S176x1024 .f32) (W M V : Vec Ideal S1x176x1024 .f32) (i : Fin 176) (x : Fin 1024) :
    k0_pay7 G W M V (ix3 0 i x) = Adam.delta (G (ix2 i x)) (W (ix3 0 i x)) (M (ix3 0 i x)) (V (ix3 0 i x)) := by
  unfold Adam.delta Adam.step Adam.mean Adam.meanSq
  pointwise [k0_pay7, k0_pay4, k0_pay5, c1, c2]

theorem g_block0 (t : Fin cfg0.N) (y : S1x176x1024.Idx) : out0_4 (F := Ideal) (iblk0 V c 0 t) (iblk0 V c 1 t) (iblk0 V c 2 t) (iblk0 V c 3 t) y = k0_pay6 (sumB0 (iblk0 V c 0 t)) y := by
  unfold out0_4
  rw [View.canon_unit_zero hz]
  rfl

theorem d_block0 (t : Fin cfg0.N) (y : S1x176x1024.Idx) : out0_5 (F := Ideal) (iblk0 V c 0 t) (iblk0 V c 1 t) (iblk0 V c 2 t) (iblk0 V c 3 t) y = k0_pay7 (sumB0 (iblk0 V c 0 t)) (iblk0 V c 1 t) (iblk0 V c 2 t) (iblk0 V c 3 t) y := by
  unfold out0_5
  rw [View.canon_unit_zero hz]
  simp only [View.ld_unit_zero (S := S1x176x1024) hz]
  rfl

theorem m_block0 (t : Fin cfg0.N) (y : S1x176x1024.Idx) : out0_6 (F := Ideal) (iblk0 V c 0 t) (iblk0 V c 1 t) (iblk0 V c 2 t) (iblk0 V c 3 t) y = k0_pay1 (k0_pay4 (sumB0 (iblk0 V c 0 t)) (iblk0 V c 2 t)) y := by
  unfold out0_6
  rw [View.canon_unit_zero hz]
  simp only [View.ld_unit_zero (S := S1x176x1024) hz]
  rfl

theorem v_block0 (t : Fin cfg0.N) (y : S1x176x1024.Idx) : out0_7 (F := Ideal) (iblk0 V c 0 t) (iblk0 V c 1 t) (iblk0 V c 2 t) (iblk0 V c 3 t) y = k0_pay2 (k0_pay5 (sumB0 (iblk0 V c 0 t)) (iblk0 V c 3 t)) y := by
  unfold out0_7
  rw [View.canon_unit_zero hz]
  simp only [View.ld_unit_zero (S := S1x176x1024) hz]
  rfl

theorem idx0_0 : ∀ t : Fin cfg0.N, win0_0.index t = ![0, t.val, 0] := (by decide +kernel : ∀ t : Fin grid0.N, _)
theorem idx0_1 : ∀ t : Fin cfg0.N, win0_1.index t = ![0, t.val, 0] := (by decide +kernel : ∀ t : Fin grid0.N, _)
theorem idx0_2 : ∀ t : Fin cfg0.N, win0_2.index t = ![0, t.val, 0] := (by decide +kernel : ∀ t : Fin grid0.N, _)
theorem idx0_3 : ∀ t : Fin cfg0.N, win0_3.index t = ![0, t.val, 0] := (by decide +kernel : ∀ t : Fin grid0.N, _)
theorem idx0_4 : ∀ t : Fin cfg0.N, win0_4.index t = ![0, t.val, 0] := (by decide +kernel : ∀ t : Fin grid0.N, _)
theorem idx0_5 : ∀ t : Fin cfg0.N, win0_5.index t = ![0, t.val, 0] := (by decide +kernel : ∀ t : Fin grid0.N, _)
theorem idx0_6 : ∀ t : Fin cfg0.N, win0_6.index t = ![0, t.val, 0] := (by decide +kernel : ∀ t : Fin grid0.N, _)
theorem idx0_7 : ∀ t : Fin cfg0.N, win0_7.index t = ![0, t.val, 0] := (by decide +kernel : ∀ t : Fin grid0.N, _)

/-- The block of point `t`. -/
def pt0 (t : Fin cfg0.N) : Fin 4 := ⟨t.val, lt_of_lt_of_eq t.isLt N_0⟩

theorem in0_0 (t : Fin cfg0.N) (j : Fin 8) (i : Fin 176) (x : Fin 1024) : iblk0 V c 0 t (ix3 j i x) = V c main_arg0 (ix3 j (Ad25.row (pt0 t) i) x) := by
  blk_point [iblk0, idx0_0 t, Ad25.row, pt0]

theorem in0_1 (t : Fin cfg0.N) (i : Fin 176) (x : Fin 1024) : iblk0 V c 1 t (ix3 0 i x) = V c main_v0 (ix3 0 (Ad25.row (pt0 t) i) x) := by
  blk_point [iblk0, idx0_1 t, Ad25.row, pt0]

theorem in0_2 (t : Fin cfg0.N) (i : Fin 176) (x : Fin 1024) : iblk0 V c 2 t (ix3 0 i x) = V c main_v1 (ix3 0 (Ad25.row (pt0 t) i) x) := by
  blk_point [iblk0, idx0_2 t, Ad25.row, pt0]

theorem in0_3 (t : Fin cfg0.N) (i : Fin 176) (x : Fin 1024) : iblk0 V c 3 t (ix3 0 i x) = V c main_v2 (ix3 0 (Ad25.row (pt0 t) i) x) := by
  blk_point [iblk0, idx0_3 t, Ad25.row, pt0]

theorem sum0 (t : Fin cfg0.N) (i : Fin 176) (x : Fin 1024) : sumB0 (iblk0 V c 0 t) (ix2 i x) = Ad25.part (V c main_arg0) (Ad25.row (pt0 t) i) x :=
  (sumB0_apply (iblk0 V c 0 t) i x).trans (congrArg Adam.total (funext fun j => in0_0 V c t j i x))

/-- What layer 0's call leaves there, as a function of the whole result's index. -/
def gR0 : (⟨3, ![2, 704, 1024]⟩ : Shape).Idx → EReal := fun z => Ad25.part (V c main_arg0) (z 1) (z 2)

theorem g_arr0 (l : Fin 2) (i : Fin 704) (x : Fin 1024) : (dat0 V c).arrAt 4 cfg0.N (ix3 (n0 := 2) (n1 := 704) (n2 := 1024) l i x)
    = if ((ix3 (n0 := 2) (n1 := 704) (n2 := 1024) l i x 0 : Fin 2) : ℕ) / 1 = 0 then gR0 V c (ix3 (n0 := 2) (n1 := 704) (n2 := 1024) l i x) else V c main_v3_0 (ix3 l i x) := by
  refine (dat0 V c).arrAt_apply_of_coversWhere 4 (gR0 V c) (P := fun z => ((z 0 : Fin 2) : ℕ) / 1 = 0) (fun β => β (0 : Fin 3) = 0) (by decide +kernel) (fun t hf y => ?_) (fun j => Iff.rfl) _
  blk_simp
  rw [after0_4]
  have he : (win0_4.blk t).view.emb y = ix3 (n0 := 2) (n1 := 704) (n2 := 1024) 0 (Ad25.row (pt0 t) (y 1)) (y 2) := by
    blk_ext [idx0_4 t, Ad25.row, pt0]
  have hy : y = ix3 (n0 := 1) (n1 := 176) (n2 := 1024) 0 (y 1) (y 2) := by
    blk_ext [idx0_4 t]
  rw [g_block0 V c t y, he]
  refine (congrArg _ hy).trans ((pay6_0 _ _ _).trans ?_)
  exact sum0 V c t (y 1) (y 2)

theorem d_val0 (t : Fin cfg0.N) (i : Fin 176) (x : Fin 1024) : Adam.delta (sumB0 (iblk0 V c 0 t) (ix2 i x)) (iblk0 V c 1 t (ix3 0 i x)) (iblk0 V c 2 t (ix3 0 i x)) (iblk0 V c 3 t (ix3 0 i x))
    = Adam.delta (Ad25.part (V c main_arg0) (Ad25.row (pt0 t) i) x) (V c main_v0 (ix3 0 (Ad25.row (pt0 t) i) x)) (V c main_v1 (ix3 0 (Ad25.row (pt0 t) i) x)) (V c main_v2 (ix3 0 (Ad25.row (pt0 t) i) x)) := by
  rw [sum0 V c t, in0_1 V c t, in0_2 V c t, in0_3 V c t]

/-- What layer 0's call leaves there, as a function of the whole result's index. -/
def dR0 : (⟨3, ![2, 704, 1024]⟩ : Shape).Idx → EReal := fun z => Adam.delta (Ad25.part (V c main_arg0) (z 1) (z 2)) (V c main_v0 (ix3 0 (z 1) (z 2))) (V c main_v1 (ix3 0 (z 1) (z 2))) (V c main_v2 (ix3 0 (z 1) (z 2)))

theorem d_arr0 (l : Fin 2) (i : Fin 704) (x : Fin 1024) : (dat0 V c).arrAt 5 cfg0.N (ix3 (n0 := 2) (n1 := 704) (n2 := 1024) l i x)
    = if ((ix3 (n0 := 2) (n1 := 704) (n2 := 1024) l i x 0 : Fin 2) : ℕ) / 1 = 0 then dR0 V c (ix3 (n0 := 2) (n1 := 704) (n2 := 1024) l i x) else V c main_v3_1 (ix3 l i x) := by
  refine (dat0 V c).arrAt_apply_of_coversWhere 5 (dR0 V c) (P := fun z => ((z 0 : Fin 2) : ℕ) / 1 = 0) (fun β => β (0 : Fin 3) = 0) (by decide +kernel) (fun t hf y => ?_) (fun j => Iff.rfl) _
  blk_simp
  rw [after0_5]
  have he : (win0_5.blk t).view.emb y = ix3 (n0 := 2) (n1 := 704) (n2 := 1024) 0 (Ad25.row (pt0 t) (y 1)) (y 2) := by
    blk_ext [idx0_5 t, Ad25.row, pt0]
  have hy : y = ix3 (n0 := 1) (n1 := 176) (n2 := 1024) 0 (y 1) (y 2) := by
    blk_ext [idx0_5 t]
  rw [d_block0 V c t y, he]
  refine (congrArg _ hy).trans ((pay7_0 _ _ _ _ _ _).trans ?_)
  exact d_val0 V c t (y 1) (y 2)

theorem m_val0 (t : Fin cfg0.N) (i : Fin 176) (x : Fin 1024) : Adam.mean (sumB0 (iblk0 V c 0 t) (ix2 i x)) (iblk0 V c 2 t (ix3 0 i x))
    = Adam.mean (Ad25.part (V c main_arg0) (Ad25.row (pt0 t) i) x) (V c main_v1 (ix3 0 (Ad25.row (pt0 t) i) x)) := by
  rw [sum0 V c t, in0_2 V c t]

/-- What layer 0's call leaves there, as a function of the whole result's index. -/
def mR0 : (⟨3, ![2, 704, 1024]⟩ : Shape).Idx → EReal := fun z => Adam.mean (Ad25.part (V c main_arg0) (z 1) (z 2)) (V c main_v1 (ix3 0 (z 1) (z 2)))

theorem m_arr0 (l : Fin 2) (i : Fin 704) (x : Fin 1024) : (dat0 V c).arrAt 6 cfg0.N (ix3 (n0 := 2) (n1 := 704) (n2 := 1024) l i x)
    = if ((ix3 (n0 := 2) (n1 := 704) (n2 := 1024) l i x 0 : Fin 2) : ℕ) / 1 = 0 then mR0 V c (ix3 (n0 := 2) (n1 := 704) (n2 := 1024) l i x) else V c main_v3_2 (ix3 l i x) := by
  refine (dat0 V c).arrAt_apply_of_coversWhere 6 (mR0 V c) (P := fun z => ((z 0 : Fin 2) : ℕ) / 1 = 0) (fun β => β (0 : Fin 3) = 0) (by decide +kernel) (fun t hf y => ?_) (fun j => Iff.rfl) _
  blk_simp
  rw [after0_6]
  have he : (win0_6.blk t).view.emb y = ix3 (n0 := 2) (n1 := 704) (n2 := 1024) 0 (Ad25.row (pt0 t) (y 1)) (y 2) := by
    blk_ext [idx0_6 t, Ad25.row, pt0]
  have hy : y = ix3 (n0 := 1) (n1 := 176) (n2 := 1024) 0 (y 1) (y 2) := by
    blk_ext [idx0_6 t]
  rw [m_block0 V c t y, he]
  refine (congrArg _ hy).trans ((pay1_0 _ _ _ _).trans ?_)
  exact m_val0 V c t (y 1) (y 2)

theorem v_val0 (t : Fin cfg0.N) (i : Fin 176) (x : Fin 1024) : Adam.meanSq (sumB0 (iblk0 V c 0 t) (ix2 i x)) (iblk0 V c 3 t (ix3 0 i x))
    = Adam.meanSq (Ad25.part (V c main_arg0) (Ad25.row (pt0 t) i) x) (V c main_v2 (ix3 0 (Ad25.row (pt0 t) i) x)) := by
  rw [sum0 V c t, in0_3 V c t]

/-- What layer 0's call leaves there, as a function of the whole result's index. -/
def vR0 : (⟨3, ![2, 704, 1024]⟩ : Shape).Idx → EReal := fun z => Adam.meanSq (Ad25.part (V c main_arg0) (z 1) (z 2)) (V c main_v2 (ix3 0 (z 1) (z 2)))

theorem v_arr0 (l : Fin 2) (i : Fin 704) (x : Fin 1024) : (dat0 V c).arrAt 7 cfg0.N (ix3 (n0 := 2) (n1 := 704) (n2 := 1024) l i x)
    = if ((ix3 (n0 := 2) (n1 := 704) (n2 := 1024) l i x 0 : Fin 2) : ℕ) / 1 = 0 then vR0 V c (ix3 (n0 := 2) (n1 := 704) (n2 := 1024) l i x) else V c main_v3_3 (ix3 l i x) := by
  refine (dat0 V c).arrAt_apply_of_coversWhere 7 (vR0 V c) (P := fun z => ((z 0 : Fin 2) : ℕ) / 1 = 0) (fun β => β (0 : Fin 3) = 0) (by decide +kernel) (fun t hf y => ?_) (fun j => Iff.rfl) _
  blk_simp
  rw [after0_7]
  have he : (win0_7.blk t).view.emb y = ix3 (n0 := 2) (n1 := 704) (n2 := 1024) 0 (Ad25.row (pt0 t) (y 1)) (y 2) := by
    blk_ext [idx0_7 t, Ad25.row, pt0]
  have hy : y = ix3 (n0 := 1) (n1 := 176) (n2 := 1024) 0 (y 1) (y 2) := by
    blk_ext [idx0_7 t]
  rw [v_block0 V c t y, he]
  refine (congrArg _ hy).trans ((pay2_0 _ _ _ _).trans ?_)
  exact v_val0 V c t (y 1) (y 2)

/-- The sum of the eight parts of a block of layer 1. -/
def sumB1 (A : Vec Ideal S8x176x1024 .bf16) : FVec Ideal S176x1024 .f32 :=
  k1_pay3 (View.ld A r0_0) (View.ld A r0_1) (View.ld A r0_2) (View.ld A r0_3) (View.ld A r0_4) (View.ld A r0_5) (View.ld A r0_6) (View.ld A r0_7)

theorem sumB1_apply (A : Vec Ideal S8x176x1024 .bf16) (i : Fin 176) (x : Fin 1024) : sumB1 A (ix2 i x) = Adam.total fun j => A (ix3 j i x) := by
  unfold sumB1
  pointwise [k1_pay3, Adam.total]

theorem pay6_1 (G : FVec Ideal S176x1024 .f32) (i : Fin 176) (x : Fin 1024) : k1_pay6 G (ix3 0 i x) = G (ix2 i x) := by
  pointwise [k1_pay6]

theorem pay1_1 (G : FVec Ideal S176x1024 .f32) (M : Vec Ideal S1x176x1024 .f32) (i : Fin 176) (x : Fin 1024) :
    k1_pay1 (k1_pay4 G M) (ix3 0 i x) = Adam.mean (G (ix2 i x)) (M (ix3 0 i x)) := by
  unfold Adam.mean
  pointwise [k1_pay1, k1_pay4]

theorem pay2_1 (G : FVec Ideal S176x1024 .f32) (V : Vec Ideal S1x176x1024 .f32) (i : Fin 176) (x : Fin 1024) :
    k1_pay2 (k1_pay5 G V) (ix3 0 i x) = Adam.meanSq (G (ix2 i x)) (V (ix3 0 i x)) := by
  unfold Adam.meanSq
  pointwise [k1_pay2, k1_pay5]

theorem pay7_1 (G : FVec Ideal S176x1024 .f32) (W M V : Vec Ideal S1x176x1024 .f32) (i : Fin 176) (x : Fin 1024) :
    k1_pay7 G W M V (ix3 0 i x) = Adam.delta (G (ix2 i x)) (W (ix3 0 i x)) (M (ix3 0 i x)) (V (ix3 0 i x)) := by
  unfold Adam.delta Adam.step Adam.mean Adam.meanSq
  pointwise [k1_pay7, k1_pay4, k1_pay5, c1, c2]

theorem g_block1 (t : Fin cfg1.N) (y : S1x176x1024.Idx) : (outsAt1 V c t).1 y = k1_pay6 (sumB1 (iblk1 V c 0 t)) y := by
  dsimp only [outsAt1]
  frame_out
  rfl

theorem d_block1 (t : Fin cfg1.N) (y : S1x176x1024.Idx) : (outsAt1 V c t).2.1 y = k1_pay7 (sumB1 (iblk1 V c 0 t)) (iblk1 V c 1 t) (iblk1 V c 2 t) (iblk1 V c 3 t) y := by
  dsimp only [outsAt1]
  frame_out
  rfl

theorem m_block1 (t : Fin cfg1.N) (y : S1x176x1024.Idx) : (outsAt1 V c t).2.2.1 y = k1_pay1 (k1_pay4 (sumB1 (iblk1 V c 0 t)) (iblk1 V c 2 t)) y := by
  dsimp only [outsAt1]
  frame_out
  rfl

theorem v_block1 (t : Fin cfg1.N) (y : S1x176x1024.Idx) : (outsAt1 V c t).2.2.2 y = k1_pay2 (k1_pay5 (sumB1 (iblk1 V c 0 t)) (iblk1 V c 3 t)) y := by
  dsimp only [outsAt1]
  frame_out
  rfl

theorem idx1_0 : ∀ t : Fin cfg1.N, win1_0.index t = ![0, t.val, 0] := (by decide +kernel : ∀ t : Fin grid1.N, _)
theorem idx1_1 : ∀ t : Fin cfg1.N, win1_1.index t = ![1, t.val, 0] := (by decide +kernel : ∀ t : Fin grid1.N, _)
theorem idx1_2 : ∀ t : Fin cfg1.N, win1_2.index t = ![1, t.val, 0] := (by decide +kernel : ∀ t : Fin grid1.N, _)
theorem idx1_3 : ∀ t : Fin cfg1.N, win1_3.index t = ![1, t.val, 0] := (by decide +kernel : ∀ t : Fin grid1.N, _)
theorem idx1_4 : ∀ t : Fin cfg1.N, win1_4.index t = ![1, t.val, 0] := (by decide +kernel : ∀ t : Fin grid1.N, _)
theorem idx1_5 : ∀ t : Fin cfg1.N, win1_5.index t = ![1, t.val, 0] := (by decide +kernel : ∀ t : Fin grid1.N, _)
theorem idx1_6 : ∀ t : Fin cfg1.N, win1_6.index t = ![1, t.val, 0] := (by decide +kernel : ∀ t : Fin grid1.N, _)
theorem idx1_7 : ∀ t : Fin cfg1.N, win1_7.index t = ![1, t.val, 0] := (by decide +kernel : ∀ t : Fin grid1.N, _)

/-- The block of point `t`. -/
def pt1 (t : Fin cfg1.N) : Fin 4 := ⟨t.val, lt_of_lt_of_eq t.isLt N_1⟩

theorem in1_0 (t : Fin cfg1.N) (j : Fin 8) (i : Fin 176) (x : Fin 1024) : iblk1 V c 0 t (ix3 j i x) = V c main_arg1 (ix3 j (Ad25.row (pt1 t) i) x) := by
  blk_point [iblk1, idx1_0 t, Ad25.row, pt1]

theorem in1_1 (t : Fin cfg1.N) (i : Fin 176) (x : Fin 1024) : iblk1 V c 1 t (ix3 0 i x) = V c main_v0 (ix3 1 (Ad25.row (pt1 t) i) x) := by
  blk_point [iblk1, idx1_1 t, Ad25.row, pt1]

theorem in1_2 (t : Fin cfg1.N) (i : Fin 176) (x : Fin 1024) : iblk1 V c 2 t (ix3 0 i x) = V c main_v1 (ix3 1 (Ad25.row (pt1 t) i) x) := by
  blk_point [iblk1, idx1_2 t, Ad25.row, pt1]

theorem in1_3 (t : Fin cfg1.N) (i : Fin 176) (x : Fin 1024) : iblk1 V c 3 t (ix3 0 i x) = V c main_v2 (ix3 1 (Ad25.row (pt1 t) i) x) := by
  blk_point [iblk1, idx1_3 t, Ad25.row, pt1]

theorem sum1 (t : Fin cfg1.N) (i : Fin 176) (x : Fin 1024) : sumB1 (iblk1 V c 0 t) (ix2 i x) = Ad25.part (V c main_arg1) (Ad25.row (pt1 t) i) x :=
  (sumB1_apply (iblk1 V c 0 t) i x).trans (congrArg Adam.total (funext fun j => in1_0 V c t j i x))

/-- What layer 1's call leaves there, as a function of the whole result's index. -/
def gR1 : (⟨3, ![2, 704, 1024]⟩ : Shape).Idx → EReal := fun z => Ad25.part (V c main_arg1) (z 1) (z 2)

theorem g_arr1 (l : Fin 2) (i : Fin 704) (x : Fin 1024) : (dat1 V c).arrAt 4 cfg1.N (ix3 (n0 := 2) (n1 := 704) (n2 := 1024) l i x)
    = if ((ix3 (n0 := 2) (n1 := 704) (n2 := 1024) l i x 0 : Fin 2) : ℕ) / 1 = 1 then gR1 V c (ix3 (n0 := 2) (n1 := 704) (n2 := 1024) l i x) else V c main_v4_0 (ix3 l i x) := by
  refine (dat1 V c).arrAt_apply_of_coversWhere 4 (gR1 V c) (P := fun z => ((z 0 : Fin 2) : ℕ) / 1 = 1) (fun β => β (0 : Fin 3) = 1) (by decide +kernel) (fun t hf y => ?_) (fun j => Iff.rfl) _
  blk_simp
  rw [after1_4]
  have he : (win1_4.blk t).view.emb y = ix3 (n0 := 2) (n1 := 704) (n2 := 1024) 1 (Ad25.row (pt1 t) (y 1)) (y 2) := by
    blk_ext [idx1_4 t, Ad25.row, pt1]
  have hy : y = ix3 (n0 := 1) (n1 := 176) (n2 := 1024) 0 (y 1) (y 2) := by
    blk_ext [idx1_4 t]
  rw [g_block1 V c t y, he]
  refine (congrArg _ hy).trans ((pay6_1 _ _ _).trans ?_)
  exact sum1 V c t (y 1) (y 2)

theorem d_val1 (t : Fin cfg1.N) (i : Fin 176) (x : Fin 1024) : Adam.delta (sumB1 (iblk1 V c 0 t) (ix2 i x)) (iblk1 V c 1 t (ix3 0 i x)) (iblk1 V c 2 t (ix3 0 i x)) (iblk1 V c 3 t (ix3 0 i x))
    = Adam.delta (Ad25.part (V c main_arg1) (Ad25.row (pt1 t) i) x) (V c main_v0 (ix3 1 (Ad25.row (pt1 t) i) x)) (V c main_v1 (ix3 1 (Ad25.row (pt1 t) i) x)) (V c main_v2 (ix3 1 (Ad25.row (pt1 t) i) x)) := by
  rw [sum1 V c t, in1_1 V c t, in1_2 V c t, in1_3 V c t]

/-- What layer 1's call leaves there, as a function of the whole result's index. -/
def dR1 : (⟨3, ![2, 704, 1024]⟩ : Shape).Idx → EReal := fun z => Adam.delta (Ad25.part (V c main_arg1) (z 1) (z 2)) (V c main_v0 (ix3 1 (z 1) (z 2))) (V c main_v1 (ix3 1 (z 1) (z 2))) (V c main_v2 (ix3 1 (z 1) (z 2)))

theorem d_arr1 (l : Fin 2) (i : Fin 704) (x : Fin 1024) : (dat1 V c).arrAt 5 cfg1.N (ix3 (n0 := 2) (n1 := 704) (n2 := 1024) l i x)
    = if ((ix3 (n0 := 2) (n1 := 704) (n2 := 1024) l i x 0 : Fin 2) : ℕ) / 1 = 1 then dR1 V c (ix3 (n0 := 2) (n1 := 704) (n2 := 1024) l i x) else V c main_v4_1 (ix3 l i x) := by
  refine (dat1 V c).arrAt_apply_of_coversWhere 5 (dR1 V c) (P := fun z => ((z 0 : Fin 2) : ℕ) / 1 = 1) (fun β => β (0 : Fin 3) = 1) (by decide +kernel) (fun t hf y => ?_) (fun j => Iff.rfl) _
  blk_simp
  rw [after1_5]
  have he : (win1_5.blk t).view.emb y = ix3 (n0 := 2) (n1 := 704) (n2 := 1024) 1 (Ad25.row (pt1 t) (y 1)) (y 2) := by
    blk_ext [idx1_5 t, Ad25.row, pt1]
  have hy : y = ix3 (n0 := 1) (n1 := 176) (n2 := 1024) 0 (y 1) (y 2) := by
    blk_ext [idx1_5 t]
  rw [d_block1 V c t y, he]
  refine (congrArg _ hy).trans ((pay7_1 _ _ _ _ _ _).trans ?_)
  exact d_val1 V c t (y 1) (y 2)

theorem m_val1 (t : Fin cfg1.N) (i : Fin 176) (x : Fin 1024) : Adam.mean (sumB1 (iblk1 V c 0 t) (ix2 i x)) (iblk1 V c 2 t (ix3 0 i x))
    = Adam.mean (Ad25.part (V c main_arg1) (Ad25.row (pt1 t) i) x) (V c main_v1 (ix3 1 (Ad25.row (pt1 t) i) x)) := by
  rw [sum1 V c t, in1_2 V c t]

/-- What layer 1's call leaves there, as a function of the whole result's index. -/
def mR1 : (⟨3, ![2, 704, 1024]⟩ : Shape).Idx → EReal := fun z => Adam.mean (Ad25.part (V c main_arg1) (z 1) (z 2)) (V c main_v1 (ix3 1 (z 1) (z 2)))

theorem m_arr1 (l : Fin 2) (i : Fin 704) (x : Fin 1024) : (dat1 V c).arrAt 6 cfg1.N (ix3 (n0 := 2) (n1 := 704) (n2 := 1024) l i x)
    = if ((ix3 (n0 := 2) (n1 := 704) (n2 := 1024) l i x 0 : Fin 2) : ℕ) / 1 = 1 then mR1 V c (ix3 (n0 := 2) (n1 := 704) (n2 := 1024) l i x) else V c main_v4_2 (ix3 l i x) := by
  refine (dat1 V c).arrAt_apply_of_coversWhere 6 (mR1 V c) (P := fun z => ((z 0 : Fin 2) : ℕ) / 1 = 1) (fun β => β (0 : Fin 3) = 1) (by decide +kernel) (fun t hf y => ?_) (fun j => Iff.rfl) _
  blk_simp
  rw [after1_6]
  have he : (win1_6.blk t).view.emb y = ix3 (n0 := 2) (n1 := 704) (n2 := 1024) 1 (Ad25.row (pt1 t) (y 1)) (y 2) := by
    blk_ext [idx1_6 t, Ad25.row, pt1]
  have hy : y = ix3 (n0 := 1) (n1 := 176) (n2 := 1024) 0 (y 1) (y 2) := by
    blk_ext [idx1_6 t]
  rw [m_block1 V c t y, he]
  refine (congrArg _ hy).trans ((pay1_1 _ _ _ _).trans ?_)
  exact m_val1 V c t (y 1) (y 2)

theorem v_val1 (t : Fin cfg1.N) (i : Fin 176) (x : Fin 1024) : Adam.meanSq (sumB1 (iblk1 V c 0 t) (ix2 i x)) (iblk1 V c 3 t (ix3 0 i x))
    = Adam.meanSq (Ad25.part (V c main_arg1) (Ad25.row (pt1 t) i) x) (V c main_v2 (ix3 1 (Ad25.row (pt1 t) i) x)) := by
  rw [sum1 V c t, in1_3 V c t]

/-- What layer 1's call leaves there, as a function of the whole result's index. -/
def vR1 : (⟨3, ![2, 704, 1024]⟩ : Shape).Idx → EReal := fun z => Adam.meanSq (Ad25.part (V c main_arg1) (z 1) (z 2)) (V c main_v2 (ix3 1 (z 1) (z 2)))

theorem v_arr1 (l : Fin 2) (i : Fin 704) (x : Fin 1024) : (dat1 V c).arrAt 7 cfg1.N (ix3 (n0 := 2) (n1 := 704) (n2 := 1024) l i x)
    = if ((ix3 (n0 := 2) (n1 := 704) (n2 := 1024) l i x 0 : Fin 2) : ℕ) / 1 = 1 then vR1 V c (ix3 (n0 := 2) (n1 := 704) (n2 := 1024) l i x) else V c main_v4_3 (ix3 l i x) := by
  refine (dat1 V c).arrAt_apply_of_coversWhere 7 (vR1 V c) (P := fun z => ((z 0 : Fin 2) : ℕ) / 1 = 1) (fun β => β (0 : Fin 3) = 1) (by decide +kernel) (fun t hf y => ?_) (fun j => Iff.rfl) _
  blk_simp
  rw [after1_7]
  have he : (win1_7.blk t).view.emb y = ix3 (n0 := 2) (n1 := 704) (n2 := 1024) 1 (Ad25.row (pt1 t) (y 1)) (y 2) := by
    blk_ext [idx1_7 t, Ad25.row, pt1]
  have hy : y = ix3 (n0 := 1) (n1 := 176) (n2 := 1024) 0 (y 1) (y 2) := by
    blk_ext [idx1_7 t]
  rw [v_block1 V c t y, he]
  refine (congrArg _ hy).trans ((pay2_1 _ _ _ _).trans ?_)
  exact v_val1 V c t (y 1) (y 2)

end Regions

section Assembly

variable (m : (ℓ : Loc nD τ sig) → Buf (Elt Ideal) ℓ) (ρ : Dev nD → PrngReg) (c : Dev nD)

theorem host0 (z : S2x704x1024.Idx) : V1 m ρ c main_v0 z = m ((c : Thread nD τ).loc main_arg2) (ix3 (z 0) (z 2) (z 1)) := by
  have h : V1 m ρ c main_v0 = transpose S2x704x1024 [0, 2, 1] (m ((c : Thread nD τ).loc main_arg2)) transposes_S2x1024x704_S2x704x1024_0_2_1 := by
    show StableHlo.after hostOps0 (W0 m ρ c) (Proc.devRef .tc main_v0) = _
    after_results_simp <;> rfl
  rw [h, eq_ix3 z]
  pointwise

theorem keep0 : V3 m ρ c main_v0 = V1 m ρ c main_v0 :=
  (W3_of m ρ c main_v0 (by decide)).trans (W2_of m ρ c main_v0 (by decide))

theorem host1 (z : S2x704x1024.Idx) : V1 m ρ c main_v1 z = m ((c : Thread nD τ).loc main_arg3) (ix3 (z 0) (z 2) (z 1)) := by
  have h : V1 m ρ c main_v1 = transpose S2x704x1024 [0, 2, 1] (m ((c : Thread nD τ).loc main_arg3)) transposes_S2x1024x704_S2x704x1024_0_2_1 := by
    show StableHlo.after hostOps0 (W0 m ρ c) (Proc.devRef .tc main_v1) = _
    after_results_simp <;> rfl
  rw [h, eq_ix3 z]
  pointwise

theorem keep1 : V3 m ρ c main_v1 = V1 m ρ c main_v1 :=
  (W3_of m ρ c main_v1 (by decide)).trans (W2_of m ρ c main_v1 (by decide))

theorem host2 (z : S2x704x1024.Idx) : V1 m ρ c main_v2 z = m ((c : Thread nD τ).loc main_arg4) (ix3 (z 0) (z 2) (z 1)) := by
  have h : V1 m ρ c main_v2 = transpose S2x704x1024 [0, 2, 1] (m ((c : Thread nD τ).loc main_arg4)) transposes_S2x1024x704_S2x704x1024_0_2_1 := by
    show StableHlo.after hostOps0 (W0 m ρ c) (Proc.devRef .tc main_v2) = _
    after_results_simp <;> rfl
  rw [h, eq_ix3 z]
  pointwise

theorem keep2 : V3 m ρ c main_v2 = V1 m ρ c main_v2 :=
  (W3_of m ρ c main_v2 (by decide)).trans (W2_of m ρ c main_v2 (by decide))

theorem copy0 : V3 m ρ c main_v4_0 = (dat0 (V1 m ρ) c).arrAt 4 cfg0.N := by
  refine Eq.trans ?_ (W2_arr m ρ c 4)
  show StableHlo.after hostOps1 (W2 m ρ c) (Proc.devRef .tc main_v4_0) = _
  after_results_simp <;> rfl

theorem copy1 : V3 m ρ c main_v4_1 = (dat0 (V1 m ρ) c).arrAt 5 cfg0.N := by
  refine Eq.trans ?_ (W2_arr m ρ c 5)
  show StableHlo.after hostOps1 (W2 m ρ c) (Proc.devRef .tc main_v4_1) = _
  after_results_simp <;> rfl

theorem copy2 : V3 m ρ c main_v4_2 = (dat0 (V1 m ρ) c).arrAt 6 cfg0.N := by
  refine Eq.trans ?_ (W2_arr m ρ c 6)
  show StableHlo.after hostOps1 (W2 m ρ c) (Proc.devRef .tc main_v4_2) = _
  after_results_simp <;> rfl

theorem copy3 : V3 m ρ c main_v4_3 = (dat0 (V1 m ρ) c).arrAt 7 cfg0.N := by
  refine Eq.trans ?_ (W2_arr m ρ c 7)
  show StableHlo.after hostOps1 (W2 m ρ c) (Proc.devRef .tc main_v4_3) = _
  after_results_simp <;> rfl

theorem parts0 : V1 m ρ c main_arg0 = m ((c : Thread nD τ).loc main_arg0) := W1_args m ρ c main_arg0 (by decide)

theorem arg0_2 (z : S2x704x1024.Idx) : V1 m ρ c main_v0 z = m ((c : Thread nD τ).loc main_arg2) (ix3 (z 0) (z 2) (z 1)) := host0 m ρ c z

theorem arg0_3 (z : S2x704x1024.Idx) : V1 m ρ c main_v1 z = m ((c : Thread nD τ).loc main_arg3) (ix3 (z 0) (z 2) (z 1)) := host1 m ρ c z

theorem arg0_4 (z : S2x704x1024.Idx) : V1 m ρ c main_v2 z = m ((c : Thread nD τ).loc main_arg4) (ix3 (z 0) (z 2) (z 1)) := host2 m ρ c z

theorem parts1 : V3 m ρ c main_arg1 = m ((c : Thread nD τ).loc main_arg1) := W3_args m ρ c main_arg1 (by decide)

theorem arg1_2 (z : S2x704x1024.Idx) : V3 m ρ c main_v0 z = m ((c : Thread nD τ).loc main_arg2) (ix3 (z 0) (z 2) (z 1)) := (congrFun (keep0 m ρ c) z).trans (host0 m ρ c z)

theorem arg1_3 (z : S2x704x1024.Idx) : V3 m ρ c main_v1 z = m ((c : Thread nD τ).loc main_arg3) (ix3 (z 0) (z 2) (z 1)) := (congrFun (keep1 m ρ c) z).trans (host1 m ρ c z)

theorem arg1_4 (z : S2x704x1024.Idx) : V3 m ρ c main_v2 z = m ((c : Thread nD τ).loc main_arg4) (ix3 (z 0) (z 2) (z 1)) := (congrFun (keep2 m ρ c) z).trans (host2 m ρ c z)

theorem g_lay0 (i : Fin 704) (x : Fin 1024) : gR0 (V1 m ρ) c (ix3 0 i x) = Ad25.gOf (m ((c : Thread nD τ).loc main_arg0)) (m ((c : Thread nD τ).loc main_arg1)) (ix3 0 i x) := by
  have hp := parts0 m ρ c
  show Ad25.part (V1 m ρ c main_arg0) i x = _
  rw [hp]
  rfl

theorem g_lay1 (i : Fin 704) (x : Fin 1024) : gR1 (V3 m ρ) c (ix3 1 i x) = Ad25.gOf (m ((c : Thread nD τ).loc main_arg0)) (m ((c : Thread nD τ).loc main_arg1)) (ix3 1 i x) := by
  have hp := parts1 m ρ c
  show Ad25.part (V3 m ρ c main_arg1) i x = _
  rw [hp]
  rfl

theorem g_final : W4 m ρ c (Proc.devRef .tc main_v4_0) = Ad25.gOf (m ((c : Thread nD τ).loc main_arg0)) (m ((c : Thread nD τ).loc main_arg1)) := by
  refine (W4_arr m ρ c 4).trans (funext fun (z : S2x704x1024.Idx) => ?_)
  obtain ⟨l, i, x, rfl⟩ : ∃ l i x, z = ix3 l i x := ⟨z 0, z 1, z 2, eq_ix3 z⟩
  refine (g_arr1 (V3 m ρ) c l i x).trans ?_
  obtain rfl | rfl : l = 0 ∨ l = 1 := by omega
  · refine (if_neg (show ¬ ((0 : Fin 2) : ℕ) / 1 = 1 by decide)).trans ?_
    refine (congrFun (copy0 m ρ c) (ix3 (n0 := 2) (n1 := 704) (n2 := 1024) 0 i x)).trans ?_
    refine (g_arr0 (V1 m ρ) c 0 i x).trans ?_
    refine (if_pos (show ((0 : Fin 2) : ℕ) / 1 = 0 by decide)).trans ?_
    exact g_lay0 m ρ c i x
  · refine (if_pos (show ((1 : Fin 2) : ℕ) / 1 = 1 by decide)).trans ?_
    exact g_lay1 m ρ c i x

theorem d_lay0 (i : Fin 704) (x : Fin 1024) : dR0 (V1 m ρ) c (ix3 0 i x) = Ad25.dOf (m ((c : Thread nD τ).loc main_arg0)) (m ((c : Thread nD τ).loc main_arg1)) (m ((c : Thread nD τ).loc main_arg2)) (m ((c : Thread nD τ).loc main_arg3)) (m ((c : Thread nD τ).loc main_arg4)) (ix3 0 i x) := by
  have hp := parts0 m ρ c
  have h1 : V1 m ρ c main_v0 (ix3 0 i x) = m ((c : Thread nD τ).loc main_arg2) (ix3 0 x i) := arg0_2 m ρ c (ix3 0 i x)
  have h2 : V1 m ρ c main_v1 (ix3 0 i x) = m ((c : Thread nD τ).loc main_arg3) (ix3 0 x i) := arg0_3 m ρ c (ix3 0 i x)
  have h3 : V1 m ρ c main_v2 (ix3 0 i x) = m ((c : Thread nD τ).loc main_arg4) (ix3 0 x i) := arg0_4 m ρ c (ix3 0 i x)
  show Adam.delta (Ad25.part (V1 m ρ c main_arg0) i x) (V1 m ρ c main_v0 (ix3 0 i x)) (V1 m ρ c main_v1 (ix3 0 i x)) (V1 m ρ c main_v2 (ix3 0 i x)) = _
  rw [hp, h1, h2, h3]
  rfl

theorem d_lay1 (i : Fin 704) (x : Fin 1024) : dR1 (V3 m ρ) c (ix3 1 i x) = Ad25.dOf (m ((c : Thread nD τ).loc main_arg0)) (m ((c : Thread nD τ).loc main_arg1)) (m ((c : Thread nD τ).loc main_arg2)) (m ((c : Thread nD τ).loc main_arg3)) (m ((c : Thread nD τ).loc main_arg4)) (ix3 1 i x) := by
  have hp := parts1 m ρ c
  have h1 : V3 m ρ c main_v0 (ix3 1 i x) = m ((c : Thread nD τ).loc main_arg2) (ix3 1 x i) := arg1_2 m ρ c (ix3 1 i x)
  have h2 : V3 m ρ c main_v1 (ix3 1 i x) = m ((c : Thread nD τ).loc main_arg3) (ix3 1 x i) := arg1_3 m ρ c (ix3 1 i x)
  have h3 : V3 m ρ c main_v2 (ix3 1 i x) = m ((c : Thread nD τ).loc main_arg4) (ix3 1 x i) := arg1_4 m ρ c (ix3 1 i x)
  show Adam.delta (Ad25.part (V3 m ρ c main_arg1) i x) (V3 m ρ c main_v0 (ix3 1 i x)) (V3 m ρ c main_v1 (ix3 1 i x)) (V3 m ρ c main_v2 (ix3 1 i x)) = _
  rw [hp, h1, h2, h3]
  rfl

theorem d_final : W4 m ρ c (Proc.devRef .tc main_v4_1) = Ad25.dOf (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 5).trans (funext fun (z : S2x704x1024.Idx) => ?_)
  obtain ⟨l, i, x, rfl⟩ : ∃ l i x, z = ix3 l i x := ⟨z 0, z 1, z 2, eq_ix3 z⟩
  refine (d_arr1 (V3 m ρ) c l i x).trans ?_
  obtain rfl | rfl : l = 0 ∨ l = 1 := by omega
  · refine (if_neg (show ¬ ((0 : Fin 2) : ℕ) / 1 = 1 by decide)).trans ?_
    refine (congrFun (copy1 m ρ c) (ix3 (n0 := 2) (n1 := 704) (n2 := 1024) 0 i x)).trans ?_
    refine (d_arr0 (V1 m ρ) c 0 i x).trans ?_
    refine (if_pos (show ((0 : Fin 2) : ℕ) / 1 = 0 by decide)).trans ?_
    exact d_lay0 m ρ c i x
  · refine (if_pos (show ((1 : Fin 2) : ℕ) / 1 = 1 by decide)).trans ?_
    exact d_lay1 m ρ c i x

theorem m_lay0 (i : Fin 704) (x : Fin 1024) : mR0 (V1 m ρ) c (ix3 0 i x) = Ad25.mOf (m ((c : Thread nD τ).loc main_arg0)) (m ((c : Thread nD τ).loc main_arg1)) (m ((c : Thread nD τ).loc main_arg3)) (ix3 0 i x) := by
  have hp := parts0 m ρ c
  have h2 : V1 m ρ c main_v1 (ix3 0 i x) = m ((c : Thread nD τ).loc main_arg3) (ix3 0 x i) := arg0_3 m ρ c (ix3 0 i x)
  show Adam.mean (Ad25.part (V1 m ρ c main_arg0) i x) (V1 m ρ c main_v1 (ix3 0 i x)) = _
  rw [hp, h2]
  rfl

theorem m_lay1 (i : Fin 704) (x : Fin 1024) : mR1 (V3 m ρ) c (ix3 1 i x) = Ad25.mOf (m ((c : Thread nD τ).loc main_arg0)) (m ((c : Thread nD τ).loc main_arg1)) (m ((c : Thread nD τ).loc main_arg3)) (ix3 1 i x) := by
  have hp := parts1 m ρ c
  have h2 : V3 m ρ c main_v1 (ix3 1 i x) = m ((c : Thread nD τ).loc main_arg3) (ix3 1 x i) := arg1_3 m ρ c (ix3 1 i x)
  show Adam.mean (Ad25.part (V3 m ρ c main_arg1) i x) (V3 m ρ c main_v1 (ix3 1 i x)) = _
  rw [hp, h2]
  rfl

theorem m_final : W4 m ρ c (Proc.devRef .tc main_v4_2) = Ad25.mOf (m ((c : Thread nD τ).loc main_arg0)) (m ((c : Thread nD τ).loc main_arg1)) (m ((c : Thread nD τ).loc main_arg3)) := by
  refine (W4_arr m ρ c 6).trans (funext fun (z : S2x704x1024.Idx) => ?_)
  obtain ⟨l, i, x, rfl⟩ : ∃ l i x, z = ix3 l i x := ⟨z 0, z 1, z 2, eq_ix3 z⟩
  refine (m_arr1 (V3 m ρ) c l i x).trans ?_
  obtain rfl | rfl : l = 0 ∨ l = 1 := by omega
  · refine (if_neg (show ¬ ((0 : Fin 2) : ℕ) / 1 = 1 by decide)).trans ?_
    refine (congrFun (copy2 m ρ c) (ix3 (n0 := 2) (n1 := 704) (n2 := 1024) 0 i x)).trans ?_
    refine (m_arr0 (V1 m ρ) c 0 i x).trans ?_
    refine (if_pos (show ((0 : Fin 2) : ℕ) / 1 = 0 by decide)).trans ?_
    exact m_lay0 m ρ c i x
  · refine (if_pos (show ((1 : Fin 2) : ℕ) / 1 = 1 by decide)).trans ?_
    exact m_lay1 m ρ c i x

theorem v_lay0 (i : Fin 704) (x : Fin 1024) : vR0 (V1 m ρ) c (ix3 0 i x) = Ad25.vOf (m ((c : Thread nD τ).loc main_arg0)) (m ((c : Thread nD τ).loc main_arg1)) (m ((c : Thread nD τ).loc main_arg4)) (ix3 0 i x) := by
  have hp := parts0 m ρ c
  have h3 : V1 m ρ c main_v2 (ix3 0 i x) = m ((c : Thread nD τ).loc main_arg4) (ix3 0 x i) := arg0_4 m ρ c (ix3 0 i x)
  show Adam.meanSq (Ad25.part (V1 m ρ c main_arg0) i x) (V1 m ρ c main_v2 (ix3 0 i x)) = _
  rw [hp, h3]
  rfl

theorem v_lay1 (i : Fin 704) (x : Fin 1024) : vR1 (V3 m ρ) c (ix3 1 i x) = Ad25.vOf (m ((c : Thread nD τ).loc main_arg0)) (m ((c : Thread nD τ).loc main_arg1)) (m ((c : Thread nD τ).loc main_arg4)) (ix3 1 i x) := by
  have hp := parts1 m ρ c
  have h3 : V3 m ρ c main_v2 (ix3 1 i x) = m ((c : Thread nD τ).loc main_arg4) (ix3 1 x i) := arg1_4 m ρ c (ix3 1 i x)
  show Adam.meanSq (Ad25.part (V3 m ρ c main_arg1) i x) (V3 m ρ c main_v2 (ix3 1 i x)) = _
  rw [hp, h3]
  rfl

theorem v_final : W4 m ρ c (Proc.devRef .tc main_v4_3) = Ad25.vOf (m ((c : Thread nD τ).loc main_arg0)) (m ((c : Thread nD τ).loc main_arg1)) (m ((c : Thread nD τ).loc main_arg4)) := by
  refine (W4_arr m ρ c 7).trans (funext fun (z : S2x704x1024.Idx) => ?_)
  obtain ⟨l, i, x, rfl⟩ : ∃ l i x, z = ix3 l i x := ⟨z 0, z 1, z 2, eq_ix3 z⟩
  refine (v_arr1 (V3 m ρ) c l i x).trans ?_
  obtain rfl | rfl : l = 0 ∨ l = 1 := by omega
  · refine (if_neg (show ¬ ((0 : Fin 2) : ℕ) / 1 = 1 by decide)).trans ?_
    refine (congrFun (copy3 m ρ c) (ix3 (n0 := 2) (n1 := 704) (n2 := 1024) 0 i x)).trans ?_
    refine (v_arr0 (V1 m ρ) c 0 i x).trans ?_
    refine (if_pos (show ((0 : Fin 2) : ℕ) / 1 = 0 by decide)).trans ?_
    exact v_lay0 m ρ c i x
  · refine (if_pos (show ((1 : Fin 2) : ℕ) / 1 = 1 by decide)).trans ?_
    exact v_lay1 m ρ c i x

/-- The run of the two calls: the results, and the arguments unchanged. -/
theorem run : θ_run defs (onTc (τ := τ) (main (F := Ideal))) ⟨m, fun _ => 0, ρ⟩ (fun r => ∀ c : Dev nD,
      r.2.mem ((c.tc : Thread nD τ).loc main_v4_0) = Ad25.gOf (m ((c : Thread nD τ).loc main_arg0)) (m ((c : Thread nD τ).loc main_arg1))
      ∧ r.2.mem ((c.tc : Thread nD τ).loc main_v4_1) = Ad25.dOf (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v4_2) = Ad25.mOf (m ((c : Thread nD τ).loc main_arg0)) (m ((c : Thread nD τ).loc main_arg1)) (m ((c : Thread nD τ).loc main_arg3))
      ∧ r.2.mem ((c.tc : Thread nD τ).loc main_v4_3) = Ad25.vOf (m ((c : Thread nD τ).loc main_arg0)) (m ((c : Thread nD τ).loc main_arg1)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v4_0 (by decide))).trans (g_final m ρ c),
       (h c _ (mem_uc main_v4_1 (by decide))).trans (d_final m ρ c),
       (h c _ (mem_uc main_v4_2 (by decide))).trans (m_final m ρ c),
       (h c _ (mem_uc main_v4_3 (by decide))).trans (v_final m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Assembly

end Cert.Kernel25Ideal.Ad

namespace Cert.Reference25Ideal.Ad

open Cert.Reference25Ideal Cert.Reference25Ideal.Gen Cert.Reference25Ideal.Value Idealize.ShloMosaic Idealize.ShloMosaic.TcCoe Idealize.SL.Sem

theorem sum_apply (a0 : FVec Ideal S8x704x1024 .bf16) (i : Fin 704) (x : Fin 1024) :
    Host.reduceAdd (F := Ideal) (extf .f32 a0 bitsLt_bf16_f32) (constant S_ .f32 0x00000000#32) reducesTo_S8x704x1024_S704x1024_d0 h_S_ (ix2 i x) = Ad25.part a0 i x := by
  rw [Ad25.part, ← Adam.total_eq]
  pointwise

/-- The two layers' gradients, one after the other. -/
def stack (a0 a1 : FVec Ideal S8x704x1024 .bf16) : FVec Ideal S2x704x1024 .f32 :=
  concatenate S2x704x1024 0 [⟨S1x704x1024, (broadcastInDim S1x704x1024 ![1, 2] bcast_S704x1024_S1x704x1024_1_2 (Host.reduceAdd (extf .f32 a0 bitsLt_bf16_f32) (constant S_ .f32 0x00000000#32) reducesTo_S8x704x1024_S704x1024_d0 h_S_))⟩, ⟨S1x704x1024, (broadcastInDim S1x704x1024 ![1, 2] bcast_S704x1024_S1x704x1024_1_2 (Host.reduceAdd (extf .f32 a1 bitsLt_bf16_f32) (constant S_ .f32 0x00000000#32) reducesTo_S8x704x1024_S704x1024_d0 h_S_))⟩] concatenates_S1x704x1024_S1x704x1024_S2x704x1024_d0

theorem stack_apply (a0 a1 : FVec Ideal S8x704x1024 .bf16) (l : Fin 2) (i : Fin 704) (x : Fin 1024) : stack a0 a1 (ix3 l i x) = Ad25.g a0 a1 l i x := by
  unfold stack Ad25.g
  rw [← sum_apply a0 i x, ← sum_apply a1 i x]
  generalize Host.reduceAdd (F := Ideal) (extf .f32 a0 bitsLt_bf16_f32) (constant S_ .f32 0x00000000#32) reducesTo_S8x704x1024_S704x1024_d0 h_S_ = G0
  generalize Host.reduceAdd (F := Ideal) (extf .f32 a1 bitsLt_bf16_f32) (constant S_ .f32 0x00000000#32) reducesTo_S8x704x1024_S704x1024_d0 h_S_ = G1
  obtain rfl | rfl : l = 0 ∨ l = 1 := by omega
  · pointwise
  · pointwise

/-- The reference's run: its results are the same functions of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = Ad25.gOf (m ((c.tc : Thread nD τ).loc main_arg0)) (m ((c.tc : Thread nD τ).loc main_arg1))
      ∧ r.2.mem ((c.tc : Thread nD τ).loc main_v33) = Ad25.dOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v34) = Ad25.mOf (m ((c.tc : Thread nD τ).loc main_arg0)) (m ((c.tc : Thread nD τ).loc main_arg1)) (m ((c.tc : Thread nD τ).loc main_arg3))
      ∧ r.2.mem ((c.tc : Thread nD τ).loc main_v35) = Ad25.vOf (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r hr c => ?_) (Cert.Reference25Ideal.Value.run (F := Ideal) m ρ)
  refine ⟨(hr c).1.trans ?_, (hr c).2.1.trans ?_, (hr c).2.2.1.trans ?_, (hr c).2.2.2.1.trans ?_, (hr c).2.2.2.2⟩
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize m ((c.tc : Thread nD τ).loc main_arg4) = a4
    rw [show concatenate S2x704x1024 0 _ _ = stack a0 a1 from rfl]
    generalize hG : stack a0 a1 = G
    have hg : ∀ l i x, Ad25.g a0 a1 l i x = G (ix3 l i x) := fun l i x => by
      rw [← hG]
      exact (stack_apply a0 a1 l i x).symm
    clear hG
    refine funext fun (z : S2x704x1024.Idx) => ?_
    obtain ⟨l, i, x, rfl⟩ : ∃ l i x, z = ix3 l i x := ⟨z 0, z 1, z 2, eq_ix3 z⟩
    simp only [Ad25.gOf]
    rw [show Ad25.g a0 a1 (ix3 (n0 := 2) (n1 := 704) (n2 := 1024) l i x 0) (ix3 (n0 := 2) (n1 := 704) (n2 := 1024) l i x 1) (ix3 (n0 := 2) (n1 := 704) (n2 := 1024) l i x 2) = G (ix3 l i x) from hg l i x]
    pointwise
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize m ((c.tc : Thread nD τ).loc main_arg4) = a4
    rw [show concatenate S2x704x1024 0 _ _ = stack a0 a1 from rfl]
    generalize hG : stack a0 a1 = G
    have hg : ∀ l i x, Ad25.g a0 a1 l i x = G (ix3 l i x) := fun l i x => by
      rw [← hG]
      exact (stack_apply a0 a1 l i x).symm
    clear hG
    refine funext fun (z : S2x704x1024.Idx) => ?_
    obtain ⟨l, i, x, rfl⟩ : ∃ l i x, z = ix3 l i x := ⟨z 0, z 1, z 2, eq_ix3 z⟩
    simp only [Ad25.dOf]
    rw [show Ad25.g a0 a1 (ix3 (n0 := 2) (n1 := 704) (n2 := 1024) l i x 0) (ix3 (n0 := 2) (n1 := 704) (n2 := 1024) l i x 1) (ix3 (n0 := 2) (n1 := 704) (n2 := 1024) l i x 2) = G (ix3 l i x) from hg l i x]
    simp only [Adam.delta, Adam.step, Adam.mean, Adam.meanSq]
    pointwise [Adam.div_d1, Adam.div_d2]
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize m ((c.tc : Thread nD τ).loc main_arg4) = a4
    rw [show concatenate S2x704x1024 0 _ _ = stack a0 a1 from rfl]
    generalize hG : stack a0 a1 = G
    have hg : ∀ l i x, Ad25.g a0 a1 l i x = G (ix3 l i x) := fun l i x => by
      rw [← hG]
      exact (stack_apply a0 a1 l i x).symm
    clear hG
    refine funext fun (z : S2x704x1024.Idx) => ?_
    obtain ⟨l, i, x, rfl⟩ : ∃ l i x, z = ix3 l i x := ⟨z 0, z 1, z 2, eq_ix3 z⟩
    simp only [Ad25.mOf]
    rw [show Ad25.g a0 a1 (ix3 (n0 := 2) (n1 := 704) (n2 := 1024) l i x 0) (ix3 (n0 := 2) (n1 := 704) (n2 := 1024) l i x 1) (ix3 (n0 := 2) (n1 := 704) (n2 := 1024) l i x 2) = G (ix3 l i x) from hg l i x]
    simp only [Adam.mean]
    pointwise
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize m ((c.tc : Thread nD τ).loc main_arg4) = a4
    rw [show concatenate S2x704x1024 0 _ _ = stack a0 a1 from rfl]
    generalize hG : stack a0 a1 = G
    have hg : ∀ l i x, Ad25.g a0 a1 l i x = G (ix3 l i x) := fun l i x => by
      rw [← hG]
      exact (stack_apply a0 a1 l i x).symm
    clear hG
    refine funext fun (z : S2x704x1024.Idx) => ?_
    obtain ⟨l, i, x, rfl⟩ : ∃ l i x, z = ix3 l i x := ⟨z 0, z 1, z 2, eq_ix3 z⟩
    simp only [Ad25.vOf]
    rw [show Ad25.g a0 a1 (ix3 (n0 := 2) (n1 := 704) (n2 := 1024) l i x 0) (ix3 (n0 := 2) (n1 := 704) (n2 := 1024) l i x 1) (ix3 (n0 := 2) (n1 := 704) (n2 := 1024) l i x 2) = G (ix3 l i x) from hg l i x]
    simp only [Adam.meanSq]
    pointwise

end Cert.Reference25Ideal.Ad

end
-- ==== Proof.Ad26.lean ====
module

public import proofs.«01_k».proof.Proof.Gen.Kernel26Ideal.Frame
public import proofs.«01_k».proof.Proof.Gen.Reference26Ideal.Run
public import proofs.«01_k».proof.Proof.Adam
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ad26

open Idealize.ShloMosaic

/-- The gradient of one layer at row `i`, column `x`: the sum of the devices' parts. -/
def part (A : (⟨3, ![8, 128, 256]⟩ : Shape).Idx → EReal) (i : Fin 128) (x : Fin 256) : EReal := Adam.total fun j => A (ix3 j i x)

/-- The gradient of layer `l`: the first argument's parts for layer 0, the second's for layer 1. -/
def g (A0 A1 : (⟨3, ![8, 128, 256]⟩ : Shape).Idx → EReal) (l : Fin 2) (i : Fin 128) (x : Fin 256) : EReal := if l = 0 then part A0 i x else part A1 i x

/-- The gradient. -/
def gOf (A0 A1 : (⟨3, ![8, 128, 256]⟩ : Shape).Idx → EReal) : (⟨3, ![2, 128, 256]⟩ : Shape).Idx → EReal := fun z => g A0 A1 (z 0) (z 1) (z 2)

/-- The first running mean. -/
def mOf (A0 A1 : (⟨3, ![8, 128, 256]⟩ : Shape).Idx → EReal) (M : (⟨3, ![2, 256, 128]⟩ : Shape).Idx → EReal) : (⟨3, ![2, 128, 256]⟩ : Shape).Idx → EReal := fun z => Adam.mean (g A0 A1 (z 0) (z 1) (z 2)) (M (ix3 (z 0) (z 2) (z 1)))

/-- The second running mean. -/
def vOf (A0 A1 : (⟨3, ![8, 128, 256]⟩ : Shape).Idx → EReal) (V : (⟨3, ![2, 256, 128]⟩ : Shape).Idx → EReal) : (⟨3, ![2, 128, 256]⟩ : Shape).Idx → EReal := fun z => Adam.meanSq (g A0 A1 (z 0) (z 1) (z 2)) (V (ix3 (z 0) (z 2) (z 1)))

/-- The step. -/
def dOf (A0 A1 : (⟨3, ![8, 128, 256]⟩ : Shape).Idx → EReal) (W M V : (⟨3, ![2, 256, 128]⟩ : Shape).Idx → EReal) : (⟨3, ![2, 128, 256]⟩ : Shape).Idx → EReal :=
  fun z => Adam.delta (g A0 A1 (z 0) (z 1) (z 2)) (W (ix3 (z 0) (z 2) (z 1))) (M (ix3 (z 0) (z 2) (z 1))) (V (ix3 (z 0) (z 2) (z 1)))

/-- Row `i` of block `t`. -/
def row (t : Fin 1) (i : Fin 128) : Fin 128 := ⟨128 * t.val + i.val, by omega⟩

end Cert.Ad26

namespace Cert.Kernel26Ideal.Ad

open Cert.Kernel26Ideal Cert.Kernel26Ideal.Gen Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds Idealize.ShloMosaic.Tactic
open Idealize.ShloMosaic.Pipeline (Dat Cfg Window BodyObligation cellOf)

theorem c1 : Named.named (F := Ideal) κ "c1" (φ := .f32) 0x3FC48605#32 = ((8388608 / 5463681 : ℝ) : EReal) :=
  IdealRules.named_const.ideal_named_scalar _ _ _ _ rfl

theorem c2 : Named.named (F := Ideal) κ "c2" (φ := .f32) 0x42C8E6D3#32 = ((268435456 / 2672307 : ℝ) : EReal) :=
  IdealRules.named_const.ideal_named_scalar _ _ _ _ rfl

theorem hz : (![0, 0, 0] : Fin 3 → ℕ) = fun _ => 0 := by decide

section Regions

variable (V : (c : Dev nD) → (b : Ref sig .tc) → Buf (Elt Ideal) ((c : Thread nD τ).loc b)) (c : Dev nD)

theorem ld_part (A : Vec Ideal S8x128x256 .bf16) (j : Fin 8) (inb : ∀ a, (![j.val, 0, 0] : Fin 3 → ℕ) a + S1x128x256.size a ≤ S8x128x256.size a) (i : Fin 128) (x : Fin 256) :
    View.ld A (Rect.unit (s := S8x128x256) ![j.val, 0, 0] S1x128x256.size inb) (ix3 0 i x) = A (ix3 j i x) := by
  rw [View.ld_apply]
  congr 1
  funext a
  fin_cases a <;> apply Fin.ext <;> simp

/-- The sum of the eight parts of a block of layer 0. -/
def sumB0 (A : Vec Ideal S8x128x256 .bf16) : FVec Ideal S128x256 .f32 :=
  k0_pay3 (View.ld A r0_0) (View.ld A r0_1) (View.ld A r0_2) (View.ld A r0_3) (View.ld A r0_4) (View.ld A r0_5) (View.ld A r0_6) (View.ld A r0_7)

theorem sumB0_apply (A : Vec Ideal S8x128x256 .bf16) (i : Fin 128) (x : Fin 256) : sumB0 A (ix2 i x) = Adam.total fun j => A (ix3 j i x) := by
  unfold sumB0
  pointwise [k0_pay3, Adam.total]

theorem pay6_0 (G : FVec Ideal S128x256 .f32) (i : Fin 128) (x : Fin 256) : k0_pay6 G (ix3 0 i x) = G (ix2 i x) := by
  pointwise [k0_pay6]

theorem pay1_0 (G : FVec Ideal S128x256 .f32) (M : Vec Ideal S1x128x256 .f32) (i : Fin 128) (x : Fin 256) :
    k0_pay1 (k0_pay4 G M) (ix3 0 i x) = Adam.mean (G (ix2 i x)) (M (ix3 0 i x)) := by
  unfold Adam.mean
  pointwise [k0_pay1, k0_pay4]

theorem pay2_0 (G : FVec Ideal S128x256 .f32) (V : Vec Ideal S1x128x256 .f32) (i : Fin 128) (x : Fin 256) :
    k0_pay2 (k0_pay5 G V) (ix3 0 i x) = Adam.meanSq (G (ix2 i x)) (V (ix3 0 i x)) := by
  unfold Adam.meanSq
  pointwise [k0_pay2, k0_pay5]

theorem pay7_0 (G : FVec Ideal S128x256 .f32) (W M V : Vec Ideal S1x128x256 .f32) (i : Fin 128) (x : Fin 256) :
    k0_pay7 G W M V (ix3 0 i x) = Adam.delta (G (ix2 i x)) (W (ix3 0 i x)) (M (ix3 0 i x)) (V (ix3 0 i x)) := by
  unfold Adam.delta Adam.step Adam.mean Adam.meanSq
  pointwise [k0_pay7, k0_pay4, k0_pay5, c1, c2]

theorem g_block0 (t : Fin cfg0.N) (y : S1x128x256.Idx) : out0_4 (F := Ideal) (iblk0 V c 0 t) (iblk0 V c 1 t) (iblk0 V c 2 t) (iblk0 V c 3 t) y = k0_pay6 (sumB0 (iblk0 V c 0 t)) y := by
  unfold out0_4
  rw [View.canon_unit_zero hz]
  rfl

theorem d_block0 (t : Fin cfg0.N) (y : S1x128x256.Idx) : out0_5 (F := Ideal) (iblk0 V c 0 t) (iblk0 V c 1 t) (iblk0 V c 2 t) (iblk0 V c 3 t) y = k0_pay7 (sumB0 (iblk0 V c 0 t)) (iblk0 V c 1 t) (iblk0 V c 2 t) (iblk0 V c 3 t) y := by
  unfold out0_5
  rw [View.canon_unit_zero hz]
  simp only [View.ld_unit_zero (S := S1x128x256) hz]
  rfl

theorem m_block0 (t : Fin cfg0.N) (y : S1x128x256.Idx) : out0_6 (F := Ideal) (iblk0 V c 0 t) (iblk0 V c 1 t) (iblk0 V c 2 t) (iblk0 V c 3 t) y = k0_pay1 (k0_pay4 (sumB0 (iblk0 V c 0 t)) (iblk0 V c 2 t)) y := by
  unfold out0_6
  rw [View.canon_unit_zero hz]
  simp only [View.ld_unit_zero (S := S1x128x256) hz]
  rfl

theorem v_block0 (t : Fin cfg0.N) (y : S1x128x256.Idx) : out0_7 (F := Ideal) (iblk0 V c 0 t) (iblk0 V c 1 t) (iblk0 V c 2 t) (iblk0 V c 3 t) y = k0_pay2 (k0_pay5 (sumB0 (iblk0 V c 0 t)) (iblk0 V c 3 t)) y := by
  unfold out0_7
  rw [View.canon_unit_zero hz]
  simp only [View.ld_unit_zero (S := S1x128x256) hz]
  rfl

theorem idx0_0 : ∀ t : Fin cfg0.N, win0_0.index t = ![0, t.val, 0] := (by decide +kernel : ∀ t : Fin grid0.N, _)
theorem idx0_1 : ∀ t : Fin cfg0.N, win0_1.index t = ![0, t.val, 0] := (by decide +kernel : ∀ t : Fin grid0.N, _)
theorem idx0_2 : ∀ t : Fin cfg0.N, win0_2.index t = ![0, t.val, 0] := (by decide +kernel : ∀ t : Fin grid0.N, _)
theorem idx0_3 : ∀ t : Fin cfg0.N, win0_3.index t = ![0, t.val, 0] := (by decide +kernel : ∀ t : Fin grid0.N, _)
theorem idx0_4 : ∀ t : Fin cfg0.N, win0_4.index t = ![0, t.val, 0] := (by decide +kernel : ∀ t : Fin grid0.N, _)
theorem idx0_5 : ∀ t : Fin cfg0.N, win0_5.index t = ![0, t.val, 0] := (by decide +kernel : ∀ t : Fin grid0.N, _)
theorem idx0_6 : ∀ t : Fin cfg0.N, win0_6.index t = ![0, t.val, 0] := (by decide +kernel : ∀ t : Fin grid0.N, _)
theorem idx0_7 : ∀ t : Fin cfg0.N, win0_7.index t = ![0, t.val, 0] := (by decide +kernel : ∀ t : Fin grid0.N, _)

/-- The block of point `t`. -/
def pt0 (t : Fin cfg0.N) : Fin 1 := ⟨t.val, lt_of_lt_of_eq t.isLt N_0⟩

theorem in0_0 (t : Fin cfg0.N) (j : Fin 8) (i : Fin 128) (x : Fin 256) : iblk0 V c 0 t (ix3 j i x) = V c main_arg0 (ix3 j (Ad26.row (pt0 t) i) x) := by
  blk_point [iblk0, idx0_0 t, Ad26.row, pt0]

theorem in0_1 (t : Fin cfg0.N) (i : Fin 128) (x : Fin 256) : iblk0 V c 1 t (ix3 0 i x) = V c main_v0 (ix3 0 (Ad26.row (pt0 t) i) x) := by
  blk_point [iblk0, idx0_1 t, Ad26.row, pt0]

theorem in0_2 (t : Fin cfg0.N) (i : Fin 128) (x : Fin 256) : iblk0 V c 2 t (ix3 0 i x) = V c main_v1 (ix3 0 (Ad26.row (pt0 t) i) x) := by
  blk_point [iblk0, idx0_2 t, Ad26.row, pt0]

theorem in0_3 (t : Fin cfg0.N) (i : Fin 128) (x : Fin 256) : iblk0 V c 3 t (ix3 0 i x) = V c main_v2 (ix3 0 (Ad26.row (pt0 t) i) x) := by
  blk_point [iblk0, idx0_3 t, Ad26.row, pt0]

theorem sum0 (t : Fin cfg0.N) (i : Fin 128) (x : Fin 256) : sumB0 (iblk0 V c 0 t) (ix2 i x) = Ad26.part (V c main_arg0) (Ad26.row (pt0 t) i) x :=
  (sumB0_apply (iblk0 V c 0 t) i x).trans (congrArg Adam.total (funext fun j => in0_0 V c t j i x))

/-- What layer 0's call leaves there, as a function of the whole result's index. -/
def gR0 : (⟨3, ![2, 128, 256]⟩ : Shape).Idx → EReal := fun z => Ad26.part (V c main_arg0) (z 1) (z 2)

theorem g_arr0 (l : Fin 2) (i : Fin 128) (x : Fin 256) : (dat0 V c).arrAt 4 cfg0.N (ix3 (n0 := 2) (n1 := 128) (n2 := 256) l i x)
    = if ((ix3 (n0 := 2) (n1 := 128) (n2 := 256) l i x 0 : Fin 2) : ℕ) / 1 = 0 then gR0 V c (ix3 (n0 := 2) (n1 := 128) (n2 := 256) l i x) else V c main_v3_0 (ix3 l i x) := by
  refine (dat0 V c).arrAt_apply_of_coversWhere 4 (gR0 V c) (P := fun z => ((z 0 : Fin 2) : ℕ) / 1 = 0) (fun β => β (0 : Fin 3) = 0) (by decide +kernel) (fun t hf y => ?_) (fun j => Iff.rfl) _
  blk_simp
  rw [after0_4]
  have he : (win0_4.blk t).view.emb y = ix3 (n0 := 2) (n1 := 128) (n2 := 256) 0 (Ad26.row (pt0 t) (y 1)) (y 2) := by
    blk_ext [idx0_4 t, Ad26.row, pt0]
  have hy : y = ix3 (n0 := 1) (n1 := 128) (n2 := 256) 0 (y 1) (y 2) := by
    blk_ext [idx0_4 t]
  rw [g_block0 V c t y, he]
  refine (congrArg _ hy).trans ((pay6_0 _ _ _).trans ?_)
  exact sum0 V c t (y 1) (y 2)

theorem d_val0 (t : Fin cfg0.N) (i : Fin 128) (x : Fin 256) : Adam.delta (sumB0 (iblk0 V c 0 t) (ix2 i x)) (iblk0 V c 1 t (ix3 0 i x)) (iblk0 V c 2 t (ix3 0 i x)) (iblk0 V c 3 t (ix3 0 i x))
    = Adam.delta (Ad26.part (V c main_arg0) (Ad26.row (pt0 t) i) x) (V c main_v0 (ix3 0 (Ad26.row (pt0 t) i) x)) (V c main_v1 (ix3 0 (Ad26.row (pt0 t) i) x)) (V c main_v2 (ix3 0 (Ad26.row (pt0 t) i) x)) := by
  rw [sum0 V c t, in0_1 V c t, in0_2 V c t, in0_3 V c t]

/-- What layer 0's call leaves there, as a function of the whole result's index. -/
def dR0 : (⟨3, ![2, 128, 256]⟩ : Shape).Idx → EReal := fun z => Adam.delta (Ad26.part (V c main_arg0) (z 1) (z 2)) (V c main_v0 (ix3 0 (z 1) (z 2))) (V c main_v1 (ix3 0 (z 1) (z 2))) (V c main_v2 (ix3 0 (z 1) (z 2)))

theorem d_arr0 (l : Fin 2) (i : Fin 128) (x : Fin 256) : (dat0 V c).arrAt 5 cfg0.N (ix3 (n0 := 2) (n1 := 128) (n2 := 256) l i x)
    = if ((ix3 (n0 := 2) (n1 := 128) (n2 := 256) l i x 0 : Fin 2) : ℕ) / 1 = 0 then dR0 V c (ix3 (n0 := 2) (n1 := 128) (n2 := 256) l i x) else V c main_v3_1 (ix3 l i x) := by
  refine (dat0 V c).arrAt_apply_of_coversWhere 5 (dR0 V c) (P := fun z => ((z 0 : Fin 2) : ℕ) / 1 = 0) (fun β => β (0 : Fin 3) = 0) (by decide +kernel) (fun t hf y => ?_) (fun j => Iff.rfl) _
  blk_simp
  rw [after0_5]
  have he : (win0_5.blk t).view.emb y = ix3 (n0 := 2) (n1 := 128) (n2 := 256) 0 (Ad26.row (pt0 t) (y 1)) (y 2) := by
    blk_ext [idx0_5 t, Ad26.row, pt0]
  have hy : y = ix3 (n0 := 1) (n1 := 128) (n2 := 256) 0 (y 1) (y 2) := by
    blk_ext [idx0_5 t]
  rw [d_block0 V c t y, he]
  refine (congrArg _ hy).trans ((pay7_0 _ _ _ _ _ _).trans ?_)
  exact d_val0 V c t (y 1) (y 2)

theorem m_val0 (t : Fin cfg0.N) (i : Fin 128) (x : Fin 256) : Adam.mean (sumB0 (iblk0 V c 0 t) (ix2 i x)) (iblk0 V c 2 t (ix3 0 i x))
    = Adam.mean (Ad26.part (V c main_arg0) (Ad26.row (pt0 t) i) x) (V c main_v1 (ix3 0 (Ad26.row (pt0 t) i) x)) := by
  rw [sum0 V c t, in0_2 V c t]

/-- What layer 0's call leaves there, as a function of the whole result's index. -/
def mR0 : (⟨3, ![2, 128, 256]⟩ : Shape).Idx → EReal := fun z => Adam.mean (Ad26.part (V c main_arg0) (z 1) (z 2)) (V c main_v1 (ix3 0 (z 1) (z 2)))

theorem m_arr0 (l : Fin 2) (i : Fin 128) (x : Fin 256) : (dat0 V c).arrAt 6 cfg0.N (ix3 (n0 := 2) (n1 := 128) (n2 := 256) l i x)
    = if ((ix3 (n0 := 2) (n1 := 128) (n2 := 256) l i x 0 : Fin 2) : ℕ) / 1 = 0 then mR0 V c (ix3 (n0 := 2) (n1 := 128) (n2 := 256) l i x) else V c main_v3_2 (ix3 l i x) := by
  refine (dat0 V c).arrAt_apply_of_coversWhere 6 (mR0 V c) (P := fun z => ((z 0 : Fin 2) : ℕ) / 1 = 0) (fun β => β (0 : Fin 3) = 0) (by decide +kernel) (fun t hf y => ?_) (fun j => Iff.rfl) _
  blk_simp
  rw [after0_6]
  have he : (win0_6.blk t).view.emb y = ix3 (n0 := 2) (n1 := 128) (n2 := 256) 0 (Ad26.row (pt0 t) (y 1)) (y 2) := by
    blk_ext [idx0_6 t, Ad26.row, pt0]
  have hy : y = ix3 (n0 := 1) (n1 := 128) (n2 := 256) 0 (y 1) (y 2) := by
    blk_ext [idx0_6 t]
  rw [m_block0 V c t y, he]
  refine (congrArg _ hy).trans ((pay1_0 _ _ _ _).trans ?_)
  exact m_val0 V c t (y 1) (y 2)

theorem v_val0 (t : Fin cfg0.N) (i : Fin 128) (x : Fin 256) : Adam.meanSq (sumB0 (iblk0 V c 0 t) (ix2 i x)) (iblk0 V c 3 t (ix3 0 i x))
    = Adam.meanSq (Ad26.part (V c main_arg0) (Ad26.row (pt0 t) i) x) (V c main_v2 (ix3 0 (Ad26.row (pt0 t) i) x)) := by
  rw [sum0 V c t, in0_3 V c t]

/-- What layer 0's call leaves there, as a function of the whole result's index. -/
def vR0 : (⟨3, ![2, 128, 256]⟩ : Shape).Idx → EReal := fun z => Adam.meanSq (Ad26.part (V c main_arg0) (z 1) (z 2)) (V c main_v2 (ix3 0 (z 1) (z 2)))

theorem v_arr0 (l : Fin 2) (i : Fin 128) (x : Fin 256) : (dat0 V c).arrAt 7 cfg0.N (ix3 (n0 := 2) (n1 := 128) (n2 := 256) l i x)
    = if ((ix3 (n0 := 2) (n1 := 128) (n2 := 256) l i x 0 : Fin 2) : ℕ) / 1 = 0 then vR0 V c (ix3 (n0 := 2) (n1 := 128) (n2 := 256) l i x) else V c main_v3_3 (ix3 l i x) := by
  refine (dat0 V c).arrAt_apply_of_coversWhere 7 (vR0 V c) (P := fun z => ((z 0 : Fin 2) : ℕ) / 1 = 0) (fun β => β (0 : Fin 3) = 0) (by decide +kernel) (fun t hf y => ?_) (fun j => Iff.rfl) _
  blk_simp
  rw [after0_7]
  have he : (win0_7.blk t).view.emb y = ix3 (n0 := 2) (n1 := 128) (n2 := 256) 0 (Ad26.row (pt0 t) (y 1)) (y 2) := by
    blk_ext [idx0_7 t, Ad26.row, pt0]
  have hy : y = ix3 (n0 := 1) (n1 := 128) (n2 := 256) 0 (y 1) (y 2) := by
    blk_ext [idx0_7 t]
  rw [v_block0 V c t y, he]
  refine (congrArg _ hy).trans ((pay2_0 _ _ _ _).trans ?_)
  exact v_val0 V c t (y 1) (y 2)

/-- The sum of the eight parts of a block of layer 1. -/
def sumB1 (A : Vec Ideal S8x128x256 .bf16) : FVec Ideal S128x256 .f32 :=
  k1_pay3 (View.ld A r0_0) (View.ld A r0_1) (View.ld A r0_2) (View.ld A r0_3) (View.ld A r0_4) (View.ld A r0_5) (View.ld A r0_6) (View.ld A r0_7)

theorem sumB1_apply (A : Vec Ideal S8x128x256 .bf16) (i : Fin 128) (x : Fin 256) : sumB1 A (ix2 i x) = Adam.total fun j => A (ix3 j i x) := by
  unfold sumB1
  pointwise [k1_pay3, Adam.total]

theorem pay6_1 (G : FVec Ideal S128x256 .f32) (i : Fin 128) (x : Fin 256) : k1_pay6 G (ix3 0 i x) = G (ix2 i x) := by
  pointwise [k1_pay6]

theorem pay1_1 (G : FVec Ideal S128x256 .f32) (M : Vec Ideal S1x128x256 .f32) (i : Fin 128) (x : Fin 256) :
    k1_pay1 (k1_pay4 G M) (ix3 0 i x) = Adam.mean (G (ix2 i x)) (M (ix3 0 i x)) := by
  unfold Adam.mean
  pointwise [k1_pay1, k1_pay4]

theorem pay2_1 (G : FVec Ideal S128x256 .f32) (V : Vec Ideal S1x128x256 .f32) (i : Fin 128) (x : Fin 256) :
    k1_pay2 (k1_pay5 G V) (ix3 0 i x) = Adam.meanSq (G (ix2 i x)) (V (ix3 0 i x)) := by
  unfold Adam.meanSq
  pointwise [k1_pay2, k1_pay5]

theorem pay7_1 (G : FVec Ideal S128x256 .f32) (W M V : Vec Ideal S1x128x256 .f32) (i : Fin 128) (x : Fin 256) :
    k1_pay7 G W M V (ix3 0 i x) = Adam.delta (G (ix2 i x)) (W (ix3 0 i x)) (M (ix3 0 i x)) (V (ix3 0 i x)) := by
  unfold Adam.delta Adam.step Adam.mean Adam.meanSq
  pointwise [k1_pay7, k1_pay4, k1_pay5, c1, c2]

theorem g_block1 (t : Fin cfg1.N) (y : S1x128x256.Idx) : (outsAt1 V c t).1 y = k1_pay6 (sumB1 (iblk1 V c 0 t)) y := by
  dsimp only [outsAt1]
  frame_out
  rfl

theorem d_block1 (t : Fin cfg1.N) (y : S1x128x256.Idx) : (outsAt1 V c t).2.1 y = k1_pay7 (sumB1 (iblk1 V c 0 t)) (iblk1 V c 1 t) (iblk1 V c 2 t) (iblk1 V c 3 t) y := by
  dsimp only [outsAt1]
  frame_out
  rfl

theorem m_block1 (t : Fin cfg1.N) (y : S1x128x256.Idx) : (outsAt1 V c t).2.2.1 y = k1_pay1 (k1_pay4 (sumB1 (iblk1 V c 0 t)) (iblk1 V c 2 t)) y := by
  dsimp only [outsAt1]
  frame_out
  rfl

theorem v_block1 (t : Fin cfg1.N) (y : S1x128x256.Idx) : (outsAt1 V c t).2.2.2 y = k1_pay2 (k1_pay5 (sumB1 (iblk1 V c 0 t)) (iblk1 V c 3 t)) y := by
  dsimp only [outsAt1]
  frame_out
  rfl

theorem idx1_0 : ∀ t : Fin cfg1.N, win1_0.index t = ![0, t.val, 0] := (by decide +kernel : ∀ t : Fin grid1.N, _)
theorem idx1_1 : ∀ t : Fin cfg1.N, win1_1.index t = ![1, t.val, 0] := (by decide +kernel : ∀ t : Fin grid1.N, _)
theorem idx1_2 : ∀ t : Fin cfg1.N, win1_2.index t = ![1, t.val, 0] := (by decide +kernel : ∀ t : Fin grid1.N, _)
theorem idx1_3 : ∀ t : Fin cfg1.N, win1_3.index t = ![1, t.val, 0] := (by decide +kernel : ∀ t : Fin grid1.N, _)
theorem idx1_4 : ∀ t : Fin cfg1.N, win1_4.index t = ![1, t.val, 0] := (by decide +kernel : ∀ t : Fin grid1.N, _)
theorem idx1_5 : ∀ t : Fin cfg1.N, win1_5.index t = ![1, t.val, 0] := (by decide +kernel : ∀ t : Fin grid1.N, _)
theorem idx1_6 : ∀ t : Fin cfg1.N, win1_6.index t = ![1, t.val, 0] := (by decide +kernel : ∀ t : Fin grid1.N, _)
theorem idx1_7 : ∀ t : Fin cfg1.N, win1_7.index t = ![1, t.val, 0] := (by decide +kernel : ∀ t : Fin grid1.N, _)

/-- The block of point `t`. -/
def pt1 (t : Fin cfg1.N) : Fin 1 := ⟨t.val, lt_of_lt_of_eq t.isLt N_1⟩

theorem in1_0 (t : Fin cfg1.N) (j : Fin 8) (i : Fin 128) (x : Fin 256) : iblk1 V c 0 t (ix3 j i x) = V c main_arg1 (ix3 j (Ad26.row (pt1 t) i) x) := by
  blk_point [iblk1, idx1_0 t, Ad26.row, pt1]

theorem in1_1 (t : Fin cfg1.N) (i : Fin 128) (x : Fin 256) : iblk1 V c 1 t (ix3 0 i x) = V c main_v0 (ix3 1 (Ad26.row (pt1 t) i) x) := by
  blk_point [iblk1, idx1_1 t, Ad26.row, pt1]

theorem in1_2 (t : Fin cfg1.N) (i : Fin 128) (x : Fin 256) : iblk1 V c 2 t (ix3 0 i x) = V c main_v1 (ix3 1 (Ad26.row (pt1 t) i) x) := by
  blk_point [iblk1, idx1_2 t, Ad26.row, pt1]

theorem in1_3 (t : Fin cfg1.N) (i : Fin 128) (x : Fin 256) : iblk1 V c 3 t (ix3 0 i x) = V c main_v2 (ix3 1 (Ad26.row (pt1 t) i) x) := by
  blk_point [iblk1, idx1_3 t, Ad26.row, pt1]

theorem sum1 (t : Fin cfg1.N) (i : Fin 128) (x : Fin 256) : sumB1 (iblk1 V c 0 t) (ix2 i x) = Ad26.part (V c main_arg1) (Ad26.row (pt1 t) i) x :=
  (sumB1_apply (iblk1 V c 0 t) i x).trans (congrArg Adam.total (funext fun j => in1_0 V c t j i x))

/-- What layer 1's call leaves there, as a function of the whole result's index. -/
def gR1 : (⟨3, ![2, 128, 256]⟩ : Shape).Idx → EReal := fun z => Ad26.part (V c main_arg1) (z 1) (z 2)

theorem g_arr1 (l : Fin 2) (i : Fin 128) (x : Fin 256) : (dat1 V c).arrAt 4 cfg1.N (ix3 (n0 := 2) (n1 := 128) (n2 := 256) l i x)
    = if ((ix3 (n0 := 2) (n1 := 128) (n2 := 256) l i x 0 : Fin 2) : ℕ) / 1 = 1 then gR1 V c (ix3 (n0 := 2) (n1 := 128) (n2 := 256) l i x) else V c main_v4_0 (ix3 l i x) := by
  refine (dat1 V c).arrAt_apply_of_coversWhere 4 (gR1 V c) (P := fun z => ((z 0 : Fin 2) : ℕ) / 1 = 1) (fun β => β (0 : Fin 3) = 1) (by decide +kernel) (fun t hf y => ?_) (fun j => Iff.rfl) _
  blk_simp
  rw [after1_4]
  have he : (win1_4.blk t).view.emb y = ix3 (n0 := 2) (n1 := 128) (n2 := 256) 1 (Ad26.row (pt1 t) (y 1)) (y 2) := by
    blk_ext [idx1_4 t, Ad26.row, pt1]
  have hy : y = ix3 (n0 := 1) (n1 := 128) (n2 := 256) 0 (y 1) (y 2) := by
    blk_ext [idx1_4 t]
  rw [g_block1 V c t y, he]
  refine (congrArg _ hy).trans ((pay6_1 _ _ _).trans ?_)
  exact sum1 V c t (y 1) (y 2)

theorem d_val1 (t : Fin cfg1.N) (i : Fin 128) (x : Fin 256) : Adam.delta (sumB1 (iblk1 V c 0 t) (ix2 i x)) (iblk1 V c 1 t (ix3 0 i x)) (iblk1 V c 2 t (ix3 0 i x)) (iblk1 V c 3 t (ix3 0 i x))
    = Adam.delta (Ad26.part (V c main_arg1) (Ad26.row (pt1 t) i) x) (V c main_v0 (ix3 1 (Ad26.row (pt1 t) i) x)) (V c main_v1 (ix3 1 (Ad26.row (pt1 t) i) x)) (V c main_v2 (ix3 1 (Ad26.row (pt1 t) i) x)) := by
  rw [sum1 V c t, in1_1 V c t, in1_2 V c t, in1_3 V c t]

/-- What layer 1's call leaves there, as a function of the whole result's index. -/
def dR1 : (⟨3, ![2, 128, 256]⟩ : Shape).Idx → EReal := fun z => Adam.delta (Ad26.part (V c main_arg1) (z 1) (z 2)) (V c main_v0 (ix3 1 (z 1) (z 2))) (V c main_v1 (ix3 1 (z 1) (z 2))) (V c main_v2 (ix3 1 (z 1) (z 2)))

theorem d_arr1 (l : Fin 2) (i : Fin 128) (x : Fin 256) : (dat1 V c).arrAt 5 cfg1.N (ix3 (n0 := 2) (n1 := 128) (n2 := 256) l i x)
    = if ((ix3 (n0 := 2) (n1 := 128) (n2 := 256) l i x 0 : Fin 2) : ℕ) / 1 = 1 then dR1 V c (ix3 (n0 := 2) (n1 := 128) (n2 := 256) l i x) else V c main_v4_1 (ix3 l i x) := by
  refine (dat1 V c).arrAt_apply_of_coversWhere 5 (dR1 V c) (P := fun z => ((z 0 : Fin 2) : ℕ) / 1 = 1) (fun β => β (0 : Fin 3) = 1) (by decide +kernel) (fun t hf y => ?_) (fun j => Iff.rfl) _
  blk_simp
  rw [after1_5]
  have he : (win1_5.blk t).view.emb y = ix3 (n0 := 2) (n1 := 128) (n2 := 256) 1 (Ad26.row (pt1 t) (y 1)) (y 2) := by
    blk_ext [idx1_5 t, Ad26.row, pt1]
  have hy : y = ix3 (n0 := 1) (n1 := 128) (n2 := 256) 0 (y 1) (y 2) := by
    blk_ext [idx1_5 t]
  rw [d_block1 V c t y, he]
  refine (congrArg _ hy).trans ((pay7_1 _ _ _ _ _ _).trans ?_)
  exact d_val1 V c t (y 1) (y 2)

theorem m_val1 (t : Fin cfg1.N) (i : Fin 128) (x : Fin 256) : Adam.mean (sumB1 (iblk1 V c 0 t) (ix2 i x)) (iblk1 V c 2 t (ix3 0 i x))
    = Adam.mean (Ad26.part (V c main_arg1) (Ad26.row (pt1 t) i) x) (V c main_v1 (ix3 1 (Ad26.row (pt1 t) i) x)) := by
  rw [sum1 V c t, in1_2 V c t]

/-- What layer 1's call leaves there, as a function of the whole result's index. -/
def mR1 : (⟨3, ![2, 128, 256]⟩ : Shape).Idx → EReal := fun z => Adam.mean (Ad26.part (V c main_arg1) (z 1) (z 2)) (V c main_v1 (ix3 1 (z 1) (z 2)))

theorem m_arr1 (l : Fin 2) (i : Fin 128) (x : Fin 256) : (dat1 V c).arrAt 6 cfg1.N (ix3 (n0 := 2) (n1 := 128) (n2 := 256) l i x)
    = if ((ix3 (n0 := 2) (n1 := 128) (n2 := 256) l i x 0 : Fin 2) : ℕ) / 1 = 1 then mR1 V c (ix3 (n0 := 2) (n1 := 128) (n2 := 256) l i x) else V c main_v4_2 (ix3 l i x) := by
  refine (dat1 V c).arrAt_apply_of_coversWhere 6 (mR1 V c) (P := fun z => ((z 0 : Fin 2) : ℕ) / 1 = 1) (fun β => β (0 : Fin 3) = 1) (by decide +kernel) (fun t hf y => ?_) (fun j => Iff.rfl) _
  blk_simp
  rw [after1_6]
  have he : (win1_6.blk t).view.emb y = ix3 (n0 := 2) (n1 := 128) (n2 := 256) 1 (Ad26.row (pt1 t) (y 1)) (y 2) := by
    blk_ext [idx1_6 t, Ad26.row, pt1]
  have hy : y = ix3 (n0 := 1) (n1 := 128) (n2 := 256) 0 (y 1) (y 2) := by
    blk_ext [idx1_6 t]
  rw [m_block1 V c t y, he]
  refine (congrArg _ hy).trans ((pay1_1 _ _ _ _).trans ?_)
  exact m_val1 V c t (y 1) (y 2)

theorem v_val1 (t : Fin cfg1.N) (i : Fin 128) (x : Fin 256) : Adam.meanSq (sumB1 (iblk1 V c 0 t) (ix2 i x)) (iblk1 V c 3 t (ix3 0 i x))
    = Adam.meanSq (Ad26.part (V c main_arg1) (Ad26.row (pt1 t) i) x) (V c main_v2 (ix3 1 (Ad26.row (pt1 t) i) x)) := by
  rw [sum1 V c t, in1_3 V c t]

/-- What layer 1's call leaves there, as a function of the whole result's index. -/
def vR1 : (⟨3, ![2, 128, 256]⟩ : Shape).Idx → EReal := fun z => Adam.meanSq (Ad26.part (V c main_arg1) (z 1) (z 2)) (V c main_v2 (ix3 1 (z 1) (z 2)))

theorem v_arr1 (l : Fin 2) (i : Fin 128) (x : Fin 256) : (dat1 V c).arrAt 7 cfg1.N (ix3 (n0 := 2) (n1 := 128) (n2 := 256) l i x)
    = if ((ix3 (n0 := 2) (n1 := 128) (n2 := 256) l i x 0 : Fin 2) : ℕ) / 1 = 1 then vR1 V c (ix3 (n0 := 2) (n1 := 128) (n2 := 256) l i x) else V c main_v4_3 (ix3 l i x) := by
  refine (dat1 V c).arrAt_apply_of_coversWhere 7 (vR1 V c) (P := fun z => ((z 0 : Fin 2) : ℕ) / 1 = 1) (fun β => β (0 : Fin 3) = 1) (by decide +kernel) (fun t hf y => ?_) (fun j => Iff.rfl) _
  blk_simp
  rw [after1_7]
  have he : (win1_7.blk t).view.emb y = ix3 (n0 := 2) (n1 := 128) (n2 := 256) 1 (Ad26.row (pt1 t) (y 1)) (y 2) := by
    blk_ext [idx1_7 t, Ad26.row, pt1]
  have hy : y = ix3 (n0 := 1) (n1 := 128) (n2 := 256) 0 (y 1) (y 2) := by
    blk_ext [idx1_7 t]
  rw [v_block1 V c t y, he]
  refine (congrArg _ hy).trans ((pay2_1 _ _ _ _).trans ?_)
  exact v_val1 V c t (y 1) (y 2)

end Regions

section Assembly

variable (m : (ℓ : Loc nD τ sig) → Buf (Elt Ideal) ℓ) (ρ : Dev nD → PrngReg) (c : Dev nD)

theorem host0 (z : S2x128x256.Idx) : V1 m ρ c main_v0 z = m ((c : Thread nD τ).loc main_arg2) (ix3 (z 0) (z 2) (z 1)) := by
  have h : V1 m ρ c main_v0 = transpose S2x128x256 [0, 2, 1] (m ((c : Thread nD τ).loc main_arg2)) transposes_S2x256x128_S2x128x256_0_2_1 := by
    show StableHlo.after hostOps0 (W0 m ρ c) (Proc.devRef .tc main_v0) = _
    after_results_simp <;> rfl
  rw [h, eq_ix3 z]
  pointwise

theorem keep0 : V3 m ρ c main_v0 = V1 m ρ c main_v0 :=
  (W3_of m ρ c main_v0 (by decide)).trans (W2_of m ρ c main_v0 (by decide))

theorem host1 (z : S2x128x256.Idx) : V1 m ρ c main_v1 z = m ((c : Thread nD τ).loc main_arg3) (ix3 (z 0) (z 2) (z 1)) := by
  have h : V1 m ρ c main_v1 = transpose S2x128x256 [0, 2, 1] (m ((c : Thread nD τ).loc main_arg3)) transposes_S2x256x128_S2x128x256_0_2_1 := by
    show StableHlo.after hostOps0 (W0 m ρ c) (Proc.devRef .tc main_v1) = _
    after_results_simp <;> rfl
  rw [h, eq_ix3 z]
  pointwise

theorem keep1 : V3 m ρ c main_v1 = V1 m ρ c main_v1 :=
  (W3_of m ρ c main_v1 (by decide)).trans (W2_of m ρ c main_v1 (by decide))

theorem host2 (z : S2x128x256.Idx) : V1 m ρ c main_v2 z = m ((c : Thread nD τ).loc main_arg4) (ix3 (z 0) (z 2) (z 1)) := by
  have h : V1 m ρ c main_v2 = transpose S2x128x256 [0, 2, 1] (m ((c : Thread nD τ).loc main_arg4)) transposes_S2x256x128_S2x128x256_0_2_1 := by
    show StableHlo.after hostOps0 (W0 m ρ c) (Proc.devRef .tc main_v2) = _
    after_results_simp <;> rfl
  rw [h, eq_ix3 z]
  pointwise

theorem keep2 : V3 m ρ c main_v2 = V1 m ρ c main_v2 :=
  (W3_of m ρ c main_v2 (by decide)).trans (W2_of m ρ c main_v2 (by decide))

theorem copy0 : V3 m ρ c main_v4_0 = (dat0 (V1 m ρ) c).arrAt 4 cfg0.N := by
  refine Eq.trans ?_ (W2_arr m ρ c 4)
  show StableHlo.after hostOps1 (W2 m ρ c) (Proc.devRef .tc main_v4_0) = _
  after_results_simp <;> rfl

theorem copy1 : V3 m ρ c main_v4_1 = (dat0 (V1 m ρ) c).arrAt 5 cfg0.N := by
  refine Eq.trans ?_ (W2_arr m ρ c 5)
  show StableHlo.after hostOps1 (W2 m ρ c) (Proc.devRef .tc main_v4_1) = _
  after_results_simp <;> rfl

theorem copy2 : V3 m ρ c main_v4_2 = (dat0 (V1 m ρ) c).arrAt 6 cfg0.N := by
  refine Eq.trans ?_ (W2_arr m ρ c 6)
  show StableHlo.after hostOps1 (W2 m ρ c) (Proc.devRef .tc main_v4_2) = _
  after_results_simp <;> rfl

theorem copy3 : V3 m ρ c main_v4_3 = (dat0 (V1 m ρ) c).arrAt 7 cfg0.N := by
  refine Eq.trans ?_ (W2_arr m ρ c 7)
  show StableHlo.after hostOps1 (W2 m ρ c) (Proc.devRef .tc main_v4_3) = _
  after_results_simp <;> rfl

theorem parts0 : V1 m ρ c main_arg0 = m ((c : Thread nD τ).loc main_arg0) := W1_args m ρ c main_arg0 (by decide)

theorem arg0_2 (z : S2x128x256.Idx) : V1 m ρ c main_v0 z = m ((c : Thread nD τ).loc main_arg2) (ix3 (z 0) (z 2) (z 1)) := host0 m ρ c z

theorem arg0_3 (z : S2x128x256.Idx) : V1 m ρ c main_v1 z = m ((c : Thread nD τ).loc main_arg3) (ix3 (z 0) (z 2) (z 1)) := host1 m ρ c z

theorem arg0_4 (z : S2x128x256.Idx) : V1 m ρ c main_v2 z = m ((c : Thread nD τ).loc main_arg4) (ix3 (z 0) (z 2) (z 1)) := host2 m ρ c z

theorem parts1 : V3 m ρ c main_arg1 = m ((c : Thread nD τ).loc main_arg1) := W3_args m ρ c main_arg1 (by decide)

theorem arg1_2 (z : S2x128x256.Idx) : V3 m ρ c main_v0 z = m ((c : Thread nD τ).loc main_arg2) (ix3 (z 0) (z 2) (z 1)) := (congrFun (keep0 m ρ c) z).trans (host0 m ρ c z)

theorem arg1_3 (z : S2x128x256.Idx) : V3 m ρ c main_v1 z = m ((c : Thread nD τ).loc main_arg3) (ix3 (z 0) (z 2) (z 1)) := (congrFun (keep1 m ρ c) z).trans (host1 m ρ c z)

theorem arg1_4 (z : S2x128x256.Idx) : V3 m ρ c main_v2 z = m ((c : Thread nD τ).loc main_arg4) (ix3 (z 0) (z 2) (z 1)) := (congrFun (keep2 m ρ c) z).trans (host2 m ρ c z)

theorem g_lay0 (i : Fin 128) (x : Fin 256) : gR0 (V1 m ρ) c (ix3 0 i x) = Ad26.gOf (m ((c : Thread nD τ).loc main_arg0)) (m ((c : Thread nD τ).loc main_arg1)) (ix3 0 i x) := by
  have hp := parts0 m ρ c
  show Ad26.part (V1 m ρ c main_arg0) i x = _
  rw [hp]
  rfl

theorem g_lay1 (i : Fin 128) (x : Fin 256) : gR1 (V3 m ρ) c (ix3 1 i x) = Ad26.gOf (m ((c : Thread nD τ).loc main_arg0)) (m ((c : Thread nD τ).loc main_arg1)) (ix3 1 i x) := by
  have hp := parts1 m ρ c
  show Ad26.part (V3 m ρ c main_arg1) i x = _
  rw [hp]
  rfl

theorem g_final : W4 m ρ c (Proc.devRef .tc main_v4_0) = Ad26.gOf (m ((c : Thread nD τ).loc main_arg0)) (m ((c : Thread nD τ).loc main_arg1)) := by
  refine (W4_arr m ρ c 4).trans (funext fun (z : S2x128x256.Idx) => ?_)
  obtain ⟨l, i, x, rfl⟩ : ∃ l i x, z = ix3 l i x := ⟨z 0, z 1, z 2, eq_ix3 z⟩
  refine (g_arr1 (V3 m ρ) c l i x).trans ?_
  obtain rfl | rfl : l = 0 ∨ l = 1 := by omega
  · refine (if_neg (show ¬ ((0 : Fin 2) : ℕ) / 1 = 1 by decide)).trans ?_
    refine (congrFun (copy0 m ρ c) (ix3 (n0 := 2) (n1 := 128) (n2 := 256) 0 i x)).trans ?_
    refine (g_arr0 (V1 m ρ) c 0 i x).trans ?_
    refine (if_pos (show ((0 : Fin 2) : ℕ) / 1 = 0 by decide)).trans ?_
    exact g_lay0 m ρ c i x
  · refine (if_pos (show ((1 : Fin 2) : ℕ) / 1 = 1 by decide)).trans ?_
    exact g_lay1 m ρ c i x

theorem d_lay0 (i : Fin 128) (x : Fin 256) : dR0 (V1 m ρ) c (ix3 0 i x) = Ad26.dOf (m ((c : Thread nD τ).loc main_arg0)) (m ((c : Thread nD τ).loc main_arg1)) (m ((c : Thread nD τ).loc main_arg2)) (m ((c : Thread nD τ).loc main_arg3)) (m ((c : Thread nD τ).loc main_arg4)) (ix3 0 i x) := by
  have hp := parts0 m ρ c
  have h1 : V1 m ρ c main_v0 (ix3 0 i x) = m ((c : Thread nD τ).loc main_arg2) (ix3 0 x i) := arg0_2 m ρ c (ix3 0 i x)
  have h2 : V1 m ρ c main_v1 (ix3 0 i x) = m ((c : Thread nD τ).loc main_arg3) (ix3 0 x i) := arg0_3 m ρ c (ix3 0 i x)
  have h3 : V1 m ρ c main_v2 (ix3 0 i x) = m ((c : Thread nD τ).loc main_arg4) (ix3 0 x i) := arg0_4 m ρ c (ix3 0 i x)
  show Adam.delta (Ad26.part (V1 m ρ c main_arg0) i x) (V1 m ρ c main_v0 (ix3 0 i x)) (V1 m ρ c main_v1 (ix3 0 i x)) (V1 m ρ c main_v2 (ix3 0 i x)) = _
  rw [hp, h1, h2, h3]
  rfl

theorem d_lay1 (i : Fin 128) (x : Fin 256) : dR1 (V3 m ρ) c (ix3 1 i x) = Ad26.dOf (m ((c : Thread nD τ).loc main_arg0)) (m ((c : Thread nD τ).loc main_arg1)) (m ((c : Thread nD τ).loc main_arg2)) (m ((c : Thread nD τ).loc main_arg3)) (m ((c : Thread nD τ).loc main_arg4)) (ix3 1 i x) := by
  have hp := parts1 m ρ c
  have h1 : V3 m ρ c main_v0 (ix3 1 i x) = m ((c : Thread nD τ).loc main_arg2) (ix3 1 x i) := arg1_2 m ρ c (ix3 1 i x)
  have h2 : V3 m ρ c main_v1 (ix3 1 i x) = m ((c : Thread nD τ).loc main_arg3) (ix3 1 x i) := arg1_3 m ρ c (ix3 1 i x)
  have h3 : V3 m ρ c main_v2 (ix3 1 i x) = m ((c : Thread nD τ).loc main_arg4) (ix3 1 x i) := arg1_4 m ρ c (ix3 1 i x)
  show Adam.delta (Ad26.part (V3 m ρ c main_arg1) i x) (V3 m ρ c main_v0 (ix3 1 i x)) (V3 m ρ c main_v1 (ix3 1 i x)) (V3 m ρ c main_v2 (ix3 1 i x)) = _
  rw [hp, h1, h2, h3]
  rfl

theorem d_final : W4 m ρ c (Proc.devRef .tc main_v4_1) = Ad26.dOf (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 5).trans (funext fun (z : S2x128x256.Idx) => ?_)
  obtain ⟨l, i, x, rfl⟩ : ∃ l i x, z = ix3 l i x := ⟨z 0, z 1, z 2, eq_ix3 z⟩
  refine (d_arr1 (V3 m ρ) c l i x).trans ?_
  obtain rfl | rfl : l = 0 ∨ l = 1 := by omega
  · refine (if_neg (show ¬ ((0 : Fin 2) : ℕ) / 1 = 1 by decide)).trans ?_
    refine (congrFun (copy1 m ρ c) (ix3 (n0 := 2) (n1 := 128) (n2 := 256) 0 i x)).trans ?_
    refine (d_arr0 (V1 m ρ) c 0 i x).trans ?_
    refine (if_pos (show ((0 : Fin 2) : ℕ) / 1 = 0 by decide)).trans ?_
    exact d_lay0 m ρ c i x
  · refine (if_pos (show ((1 : Fin 2) : ℕ) / 1 = 1 by decide)).trans ?_
    exact d_lay1 m ρ c i x

theorem m_lay0 (i : Fin 128) (x : Fin 256) : mR0 (V1 m ρ) c (ix3 0 i x) = Ad26.mOf (m ((c : Thread nD τ).loc main_arg0)) (m ((c : Thread nD τ).loc main_arg1)) (m ((c : Thread nD τ).loc main_arg3)) (ix3 0 i x) := by
  have hp := parts0 m ρ c
  have h2 : V1 m ρ c main_v1 (ix3 0 i x) = m ((c : Thread nD τ).loc main_arg3) (ix3 0 x i) := arg0_3 m ρ c (ix3 0 i x)
  show Adam.mean (Ad26.part (V1 m ρ c main_arg0) i x) (V1 m ρ c main_v1 (ix3 0 i x)) = _
  rw [hp, h2]
  rfl

theorem m_lay1 (i : Fin 128) (x : Fin 256) : mR1 (V3 m ρ) c (ix3 1 i x) = Ad26.mOf (m ((c : Thread nD τ).loc main_arg0)) (m ((c : Thread nD τ).loc main_arg1)) (m ((c : Thread nD τ).loc main_arg3)) (ix3 1 i x) := by
  have hp := parts1 m ρ c
  have h2 : V3 m ρ c main_v1 (ix3 1 i x) = m ((c : Thread nD τ).loc main_arg3) (ix3 1 x i) := arg1_3 m ρ c (ix3 1 i x)
  show Adam.mean (Ad26.part (V3 m ρ c main_arg1) i x) (V3 m ρ c main_v1 (ix3 1 i x)) = _
  rw [hp, h2]
  rfl

theorem m_final : W4 m ρ c (Proc.devRef .tc main_v4_2) = Ad26.mOf (m ((c : Thread nD τ).loc main_arg0)) (m ((c : Thread nD τ).loc main_arg1)) (m ((c : Thread nD τ).loc main_arg3)) := by
  refine (W4_arr m ρ c 6).trans (funext fun (z : S2x128x256.Idx) => ?_)
  obtain ⟨l, i, x, rfl⟩ : ∃ l i x, z = ix3 l i x := ⟨z 0, z 1, z 2, eq_ix3 z⟩
  refine (m_arr1 (V3 m ρ) c l i x).trans ?_
  obtain rfl | rfl : l = 0 ∨ l = 1 := by omega
  · refine (if_neg (show ¬ ((0 : Fin 2) : ℕ) / 1 = 1 by decide)).trans ?_
    refine (congrFun (copy2 m ρ c) (ix3 (n0 := 2) (n1 := 128) (n2 := 256) 0 i x)).trans ?_
    refine (m_arr0 (V1 m ρ) c 0 i x).trans ?_
    refine (if_pos (show ((0 : Fin 2) : ℕ) / 1 = 0 by decide)).trans ?_
    exact m_lay0 m ρ c i x
  · refine (if_pos (show ((1 : Fin 2) : ℕ) / 1 = 1 by decide)).trans ?_
    exact m_lay1 m ρ c i x

theorem v_lay0 (i : Fin 128) (x : Fin 256) : vR0 (V1 m ρ) c (ix3 0 i x) = Ad26.vOf (m ((c : Thread nD τ).loc main_arg0)) (m ((c : Thread nD τ).loc main_arg1)) (m ((c : Thread nD τ).loc main_arg4)) (ix3 0 i x) := by
  have hp := parts0 m ρ c
  have h3 : V1 m ρ c main_v2 (ix3 0 i x) = m ((c : Thread nD τ).loc main_arg4) (ix3 0 x i) := arg0_4 m ρ c (ix3 0 i x)
  show Adam.meanSq (Ad26.part (V1 m ρ c main_arg0) i x) (V1 m ρ c main_v2 (ix3 0 i x)) = _
  rw [hp, h3]
  rfl

theorem v_lay1 (i : Fin 128) (x : Fin 256) : vR1 (V3 m ρ) c (ix3 1 i x) = Ad26.vOf (m ((c : Thread nD τ).loc main_arg0)) (m ((c : Thread nD τ).loc main_arg1)) (m ((c : Thread nD τ).loc main_arg4)) (ix3 1 i x) := by
  have hp := parts1 m ρ c
  have h3 : V3 m ρ c main_v2 (ix3 1 i x) = m ((c : Thread nD τ).loc main_arg4) (ix3 1 x i) := arg1_4 m ρ c (ix3 1 i x)
  show Adam.meanSq (Ad26.part (V3 m ρ c main_arg1) i x) (V3 m ρ c main_v2 (ix3 1 i x)) = _
  rw [hp, h3]
  rfl

theorem v_final : W4 m ρ c (Proc.devRef .tc main_v4_3) = Ad26.vOf (m ((c : Thread nD τ).loc main_arg0)) (m ((c : Thread nD τ).loc main_arg1)) (m ((c : Thread nD τ).loc main_arg4)) := by
  refine (W4_arr m ρ c 7).trans (funext fun (z : S2x128x256.Idx) => ?_)
  obtain ⟨l, i, x, rfl⟩ : ∃ l i x, z = ix3 l i x := ⟨z 0, z 1, z 2, eq_ix3 z⟩
  refine (v_arr1 (V3 m ρ) c l i x).trans ?_
  obtain rfl | rfl : l = 0 ∨ l = 1 := by omega
  · refine (if_neg (show ¬ ((0 : Fin 2) : ℕ) / 1 = 1 by decide)).trans ?_
    refine (congrFun (copy3 m ρ c) (ix3 (n0 := 2) (n1 := 128) (n2 := 256) 0 i x)).trans ?_
    refine (v_arr0 (V1 m ρ) c 0 i x).trans ?_
    refine (if_pos (show ((0 : Fin 2) : ℕ) / 1 = 0 by decide)).trans ?_
    exact v_lay0 m ρ c i x
  · refine (if_pos (show ((1 : Fin 2) : ℕ) / 1 = 1 by decide)).trans ?_
    exact v_lay1 m ρ c i x

/-- The run of the two calls: the results, and the arguments unchanged. -/
theorem run : θ_run defs (onTc (τ := τ) (main (F := Ideal))) ⟨m, fun _ => 0, ρ⟩ (fun r => ∀ c : Dev nD,
      r.2.mem ((c.tc : Thread nD τ).loc main_v4_0) = Ad26.gOf (m ((c : Thread nD τ).loc main_arg0)) (m ((c : Thread nD τ).loc main_arg1))
      ∧ r.2.mem ((c.tc : Thread nD τ).loc main_v4_1) = Ad26.dOf (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v4_2) = Ad26.mOf (m ((c : Thread nD τ).loc main_arg0)) (m ((c : Thread nD τ).loc main_arg1)) (m ((c : Thread nD τ).loc main_arg3))
      ∧ r.2.mem ((c.tc : Thread nD τ).loc main_v4_3) = Ad26.vOf (m ((c : Thread nD τ).loc main_arg0)) (m ((c : Thread nD τ).loc main_arg1)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v4_0 (by decide))).trans (g_final m ρ c),
       (h c _ (mem_uc main_v4_1 (by decide))).trans (d_final m ρ c),
       (h c _ (mem_uc main_v4_2 (by decide))).trans (m_final m ρ c),
       (h c _ (mem_uc main_v4_3 (by decide))).trans (v_final m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Assembly

end Cert.Kernel26Ideal.Ad

namespace Cert.Reference26Ideal.Ad

open Cert.Reference26Ideal Cert.Reference26Ideal.Gen Cert.Reference26Ideal.Value Idealize.ShloMosaic Idealize.ShloMosaic.TcCoe Idealize.SL.Sem

theorem sum_apply (a0 : FVec Ideal S8x128x256 .bf16) (i : Fin 128) (x : Fin 256) :
    Host.reduceAdd (F := Ideal) (extf .f32 a0 bitsLt_bf16_f32) (constant S_ .f32 0x00000000#32) reducesTo_S8x128x256_S128x256_d0 h_S_ (ix2 i x) = Ad26.part a0 i x := by
  rw [Ad26.part, ← Adam.total_eq]
  pointwise

/-- The two layers' gradients, one after the other. -/
def stack (a0 a1 : FVec Ideal S8x128x256 .bf16) : FVec Ideal S2x128x256 .f32 :=
  concatenate S2x128x256 0 [⟨S1x128x256, (broadcastInDim S1x128x256 ![1, 2] bcast_S128x256_S1x128x256_1_2 (Host.reduceAdd (extf .f32 a0 bitsLt_bf16_f32) (constant S_ .f32 0x00000000#32) reducesTo_S8x128x256_S128x256_d0 h_S_))⟩, ⟨S1x128x256, (broadcastInDim S1x128x256 ![1, 2] bcast_S128x256_S1x128x256_1_2 (Host.reduceAdd (extf .f32 a1 bitsLt_bf16_f32) (constant S_ .f32 0x00000000#32) reducesTo_S8x128x256_S128x256_d0 h_S_))⟩] concatenates_S1x128x256_S1x128x256_S2x128x256_d0

theorem stack_apply (a0 a1 : FVec Ideal S8x128x256 .bf16) (l : Fin 2) (i : Fin 128) (x : Fin 256) : stack a0 a1 (ix3 l i x) = Ad26.g a0 a1 l i x := by
  unfold stack Ad26.g
  rw [← sum_apply a0 i x, ← sum_apply a1 i x]
  generalize Host.reduceAdd (F := Ideal) (extf .f32 a0 bitsLt_bf16_f32) (constant S_ .f32 0x00000000#32) reducesTo_S8x128x256_S128x256_d0 h_S_ = G0
  generalize Host.reduceAdd (F := Ideal) (extf .f32 a1 bitsLt_bf16_f32) (constant S_ .f32 0x00000000#32) reducesTo_S8x128x256_S128x256_d0 h_S_ = G1
  obtain rfl | rfl : l = 0 ∨ l = 1 := by omega
  · pointwise
  · pointwise

/-- The reference's run: its results are the same functions of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = Ad26.gOf (m ((c.tc : Thread nD τ).loc main_arg0)) (m ((c.tc : Thread nD τ).loc main_arg1))
      ∧ r.2.mem ((c.tc : Thread nD τ).loc main_v33) = Ad26.dOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v34) = Ad26.mOf (m ((c.tc : Thread nD τ).loc main_arg0)) (m ((c.tc : Thread nD τ).loc main_arg1)) (m ((c.tc : Thread nD τ).loc main_arg3))
      ∧ r.2.mem ((c.tc : Thread nD τ).loc main_v35) = Ad26.vOf (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r hr c => ?_) (Cert.Reference26Ideal.Value.run (F := Ideal) m ρ)
  refine ⟨(hr c).1.trans ?_, (hr c).2.1.trans ?_, (hr c).2.2.1.trans ?_, (hr c).2.2.2.1.trans ?_, (hr c).2.2.2.2⟩
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize m ((c.tc : Thread nD τ).loc main_arg4) = a4
    rw [show concatenate S2x128x256 0 _ _ = stack a0 a1 from rfl]
    generalize hG : stack a0 a1 = G
    have hg : ∀ l i x, Ad26.g a0 a1 l i x = G (ix3 l i x) := fun l i x => by
      rw [← hG]
      exact (stack_apply a0 a1 l i x).symm
    clear hG
    refine funext fun (z : S2x128x256.Idx) => ?_
    obtain ⟨l, i, x, rfl⟩ : ∃ l i x, z = ix3 l i x := ⟨z 0, z 1, z 2, eq_ix3 z⟩
    simp only [Ad26.gOf]
    rw [show Ad26.g a0 a1 (ix3 (n0 := 2) (n1 := 128) (n2 := 256) l i x 0) (ix3 (n0 := 2) (n1 := 128) (n2 := 256) l i x 1) (ix3 (n0 := 2) (n1 := 128) (n2 := 256) l i x 2) = G (ix3 l i x) from hg l i x]
    pointwise
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize m ((c.tc : Thread nD τ).loc main_arg4) = a4
    rw [show concatenate S2x128x256 0 _ _ = stack a0 a1 from rfl]
    generalize hG : stack a0 a1 = G
    have hg : ∀ l i x, Ad26.g a0 a1 l i x = G (ix3 l i x) := fun l i x => by
      rw [← hG]
      exact (stack_apply a0 a1 l i x).symm
    clear hG
    refine funext fun (z : S2x128x256.Idx) => ?_
    obtain ⟨l, i, x, rfl⟩ : ∃ l i x, z = ix3 l i x := ⟨z 0, z 1, z 2, eq_ix3 z⟩
    simp only [Ad26.dOf]
    rw [show Ad26.g a0 a1 (ix3 (n0 := 2) (n1 := 128) (n2 := 256) l i x 0) (ix3 (n0 := 2) (n1 := 128) (n2 := 256) l i x 1) (ix3 (n0 := 2) (n1 := 128) (n2 := 256) l i x 2) = G (ix3 l i x) from hg l i x]
    simp only [Adam.delta, Adam.step, Adam.mean, Adam.meanSq]
    pointwise [Adam.div_d1, Adam.div_d2]
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize m ((c.tc : Thread nD τ).loc main_arg4) = a4
    rw [show concatenate S2x128x256 0 _ _ = stack a0 a1 from rfl]
    generalize hG : stack a0 a1 = G
    have hg : ∀ l i x, Ad26.g a0 a1 l i x = G (ix3 l i x) := fun l i x => by
      rw [← hG]
      exact (stack_apply a0 a1 l i x).symm
    clear hG
    refine funext fun (z : S2x128x256.Idx) => ?_
    obtain ⟨l, i, x, rfl⟩ : ∃ l i x, z = ix3 l i x := ⟨z 0, z 1, z 2, eq_ix3 z⟩
    simp only [Ad26.mOf]
    rw [show Ad26.g a0 a1 (ix3 (n0 := 2) (n1 := 128) (n2 := 256) l i x 0) (ix3 (n0 := 2) (n1 := 128) (n2 := 256) l i x 1) (ix3 (n0 := 2) (n1 := 128) (n2 := 256) l i x 2) = G (ix3 l i x) from hg l i x]
    simp only [Adam.mean]
    pointwise
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize m ((c.tc : Thread nD τ).loc main_arg4) = a4
    rw [show concatenate S2x128x256 0 _ _ = stack a0 a1 from rfl]
    generalize hG : stack a0 a1 = G
    have hg : ∀ l i x, Ad26.g a0 a1 l i x = G (ix3 l i x) := fun l i x => by
      rw [← hG]
      exact (stack_apply a0 a1 l i x).symm
    clear hG
    refine funext fun (z : S2x128x256.Idx) => ?_
    obtain ⟨l, i, x, rfl⟩ : ∃ l i x, z = ix3 l i x := ⟨z 0, z 1, z 2, eq_ix3 z⟩
    simp only [Ad26.vOf]
    rw [show Ad26.g a0 a1 (ix3 (n0 := 2) (n1 := 128) (n2 := 256) l i x 0) (ix3 (n0 := 2) (n1 := 128) (n2 := 256) l i x 1) (ix3 (n0 := 2) (n1 := 128) (n2 := 256) l i x 2) = G (ix3 l i x) from hg l i x]
    simp only [Adam.meanSq]
    pointwise

end Cert.Reference26Ideal.Ad

end
-- ==== Proof.Ad27.lean ====
module

public import proofs.«01_k».proof.Proof.Gen.Kernel27Ideal.Frame
public import proofs.«01_k».proof.Proof.Gen.Reference27Ideal.Run
public import proofs.«01_k».proof.Proof.Adam
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ad27

open Idealize.ShloMosaic

/-- The gradient of one layer at row `i`, column `x`: the sum of the devices' parts. -/
def part (A : (⟨3, ![8, 128, 1024]⟩ : Shape).Idx → EReal) (i : Fin 128) (x : Fin 1024) : EReal := Adam.total fun j => A (ix3 j i x)

/-- The gradient of layer `l`: the first argument's parts for layer 0, the second's for layer 1. -/
def g (A0 A1 : (⟨3, ![8, 128, 1024]⟩ : Shape).Idx → EReal) (l : Fin 2) (i : Fin 128) (x : Fin 1024) : EReal := if l = 0 then part A0 i x else part A1 i x

/-- The gradient. -/
def gOf (A0 A1 : (⟨3, ![8, 128, 1024]⟩ : Shape).Idx → EReal) : (⟨3, ![2, 128, 1024]⟩ : Shape).Idx → EReal := fun z => g A0 A1 (z 0) (z 1) (z 2)

/-- The first running mean. -/
def mOf (A0 A1 : (⟨3, ![8, 128, 1024]⟩ : Shape).Idx → EReal) (M : (⟨3, ![2, 128, 1024]⟩ : Shape).Idx → EReal) : (⟨3, ![2, 128, 1024]⟩ : Shape).Idx → EReal := fun z => Adam.mean (g A0 A1 (z 0) (z 1) (z 2)) (M (ix3 (z 0) (z 1) (z 2)))

/-- The second running mean. -/
def vOf (A0 A1 : (⟨3, ![8, 128, 1024]⟩ : Shape).Idx → EReal) (V : (⟨3, ![2, 128, 1024]⟩ : Shape).Idx → EReal) : (⟨3, ![2, 128, 1024]⟩ : Shape).Idx → EReal := fun z => Adam.meanSq (g A0 A1 (z 0) (z 1) (z 2)) (V (ix3 (z 0) (z 1) (z 2)))

/-- The step. -/
def dOf (A0 A1 : (⟨3, ![8, 128, 1024]⟩ : Shape).Idx → EReal) (W M V : (⟨3, ![2, 128, 1024]⟩ : Shape).Idx → EReal) : (⟨3, ![2, 128, 1024]⟩ : Shape).Idx → EReal :=
  fun z => Adam.delta (g A0 A1 (z 0) (z 1) (z 2)) (W (ix3 (z 0) (z 1) (z 2))) (M (ix3 (z 0) (z 1) (z 2))) (V (ix3 (z 0) (z 1) (z 2)))

/-- Row `i` of block `t`. -/
def row (t : Fin 1) (i : Fin 128) : Fin 128 := ⟨128 * t.val + i.val, by omega⟩

end Cert.Ad27

namespace Cert.Kernel27Ideal.Ad

open Cert.Kernel27Ideal Cert.Kernel27Ideal.Gen Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds Idealize.ShloMosaic.Tactic
open Idealize.ShloMosaic.Pipeline (Dat Cfg Window BodyObligation cellOf)

theorem c1 : Named.named (F := Ideal) κ "c1" (φ := .f32) 0x3FC48605#32 = ((8388608 / 5463681 : ℝ) : EReal) :=
  IdealRules.named_const.ideal_named_scalar _ _ _ _ rfl

theorem c2 : Named.named (F := Ideal) κ "c2" (φ := .f32) 0x42C8E6D3#32 = ((268435456 / 2672307 : ℝ) : EReal) :=
  IdealRules.named_const.ideal_named_scalar _ _ _ _ rfl

theorem hz : (![0, 0, 0] : Fin 3 → ℕ) = fun _ => 0 := by decide

section Regions

variable (V : (c : Dev nD) → (b : Ref sig .tc) → Buf (Elt Ideal) ((c : Thread nD τ).loc b)) (c : Dev nD)

theorem ld_part (A : Vec Ideal S8x128x1024 .bf16) (j : Fin 8) (inb : ∀ a, (![j.val, 0, 0] : Fin 3 → ℕ) a + S1x128x1024.size a ≤ S8x128x1024.size a) (i : Fin 128) (x : Fin 1024) :
    View.ld A (Rect.unit (s := S8x128x1024) ![j.val, 0, 0] S1x128x1024.size inb) (ix3 0 i x) = A (ix3 j i x) := by
  rw [View.ld_apply]
  congr 1
  funext a
  fin_cases a <;> apply Fin.ext <;> simp

/-- The sum of the eight parts of a block of layer 0. -/
def sumB0 (A : Vec Ideal S8x128x1024 .bf16) : FVec Ideal S128x1024 .f32 :=
  k0_pay3 (View.ld A r0_0) (View.ld A r0_1) (View.ld A r0_2) (View.ld A r0_3) (View.ld A r0_4) (View.ld A r0_5) (View.ld A r0_6) (View.ld A r0_7)

theorem sumB0_apply (A : Vec Ideal S8x128x1024 .bf16) (i : Fin 128) (x : Fin 1024) : sumB0 A (ix2 i x) = Adam.total fun j => A (ix3 j i x) := by
  unfold sumB0
  pointwise [k0_pay3, Adam.total]

theorem pay6_0 (G : FVec Ideal S128x1024 .f32) (i : Fin 128) (x : Fin 1024) : k0_pay6 G (ix3 0 i x) = G (ix2 i x) := by
  pointwise [k0_pay6]

theorem pay1_0 (G : FVec Ideal S128x1024 .f32) (M : Vec Ideal S1x128x1024 .f32) (i : Fin 128) (x : Fin 1024) :
    k0_pay1 (k0_pay4 G M) (ix3 0 i x) = Adam.mean (G (ix2 i x)) (M (ix3 0 i x)) := by
  unfold Adam.mean
  pointwise [k0_pay1, k0_pay4]

theorem pay2_0 (G : FVec Ideal S128x1024 .f32) (V : Vec Ideal S1x128x1024 .f32) (i : Fin 128) (x : Fin 1024) :
    k0_pay2 (k0_pay5 G V) (ix3 0 i x) = Adam.meanSq (G (ix2 i x)) (V (ix3 0 i x)) := by
  unfold Adam.meanSq
  pointwise [k0_pay2, k0_pay5]

theorem pay7_0 (G : FVec Ideal S128x1024 .f32) (W M V : Vec Ideal S1x128x1024 .f32) (i : Fin 128) (x : Fin 1024) :
    k0_pay7 G W M V (ix3 0 i x) = Adam.delta (G (ix2 i x)) (W (ix3 0 i x)) (M (ix3 0 i x)) (V (ix3 0 i x)) := by
  unfold Adam.delta Adam.step Adam.mean Adam.meanSq
  pointwise [k0_pay7, k0_pay4, k0_pay5, c1, c2]

theorem g_block0 (t : Fin cfg0.N) (y : S1x128x1024.Idx) : out0_4 (F := Ideal) (iblk0 V c 0 t) (iblk0 V c 1 t) (iblk0 V c 2 t) (iblk0 V c 3 t) y = k0_pay6 (sumB0 (iblk0 V c 0 t)) y := by
  unfold out0_4
  rw [View.canon_unit_zero hz]
  rfl

theorem d_block0 (t : Fin cfg0.N) (y : S1x128x1024.Idx) : out0_5 (F := Ideal) (iblk0 V c 0 t) (iblk0 V c 1 t) (iblk0 V c 2 t) (iblk0 V c 3 t) y = k0_pay7 (sumB0 (iblk0 V c 0 t)) (iblk0 V c 1 t) (iblk0 V c 2 t) (iblk0 V c 3 t) y := by
  unfold out0_5
  rw [View.canon_unit_zero hz]
  simp only [View.ld_unit_zero (S := S1x128x1024) hz]
  rfl

theorem m_block0 (t : Fin cfg0.N) (y : S1x128x1024.Idx) : out0_6 (F := Ideal) (iblk0 V c 0 t) (iblk0 V c 1 t) (iblk0 V c 2 t) (iblk0 V c 3 t) y = k0_pay1 (k0_pay4 (sumB0 (iblk0 V c 0 t)) (iblk0 V c 2 t)) y := by
  unfold out0_6
  rw [View.canon_unit_zero hz]
  simp only [View.ld_unit_zero (S := S1x128x1024) hz]
  rfl

theorem v_block0 (t : Fin cfg0.N) (y : S1x128x1024.Idx) : out0_7 (F := Ideal) (iblk0 V c 0 t) (iblk0 V c 1 t) (iblk0 V c 2 t) (iblk0 V c 3 t) y = k0_pay2 (k0_pay5 (sumB0 (iblk0 V c 0 t)) (iblk0 V c 3 t)) y := by
  unfold out0_7
  rw [View.canon_unit_zero hz]
  simp only [View.ld_unit_zero (S := S1x128x1024) hz]
  rfl

theorem idx0_0 : ∀ t : Fin cfg0.N, win0_0.index t = ![0, t.val, 0] := (by decide +kernel : ∀ t : Fin grid0.N, _)
theorem idx0_1 : ∀ t : Fin cfg0.N, win0_1.index t = ![0, t.val, 0] := (by decide +kernel : ∀ t : Fin grid0.N, _)
theorem idx0_2 : ∀ t : Fin cfg0.N, win0_2.index t = ![0, t.val, 0] := (by decide +kernel : ∀ t : Fin grid0.N, _)
theorem idx0_3 : ∀ t : Fin cfg0.N, win0_3.index t = ![0, t.val, 0] := (by decide +kernel : ∀ t : Fin grid0.N, _)
theorem idx0_4 : ∀ t : Fin cfg0.N, win0_4.index t = ![0, t.val, 0] := (by decide +kernel : ∀ t : Fin grid0.N, _)
theorem idx0_5 : ∀ t : Fin cfg0.N, win0_5.index t = ![0, t.val, 0] := (by decide +kernel : ∀ t : Fin grid0.N, _)
theorem idx0_6 : ∀ t : Fin cfg0.N, win0_6.index t = ![0, t.val, 0] := (by decide +kernel : ∀ t : Fin grid0.N, _)
theorem idx0_7 : ∀ t : Fin cfg0.N, win0_7.index t = ![0, t.val, 0] := (by decide +kernel : ∀ t : Fin grid0.N, _)

/-- The block of point `t`. -/
def pt0 (t : Fin cfg0.N) : Fin 1 := ⟨t.val, lt_of_lt_of_eq t.isLt N_0⟩

theorem in0_0 (t : Fin cfg0.N) (j : Fin 8) (i : Fin 128) (x : Fin 1024) : iblk0 V c 0 t (ix3 j i x) = V c main_arg0 (ix3 j (Ad27.row (pt0 t) i) x) := by
  blk_point [iblk0, idx0_0 t, Ad27.row, pt0]

theorem in0_1 (t : Fin cfg0.N) (i : Fin 128) (x : Fin 1024) : iblk0 V c 1 t (ix3 0 i x) = V c main_arg2 (ix3 0 (Ad27.row (pt0 t) i) x) := by
  blk_point [iblk0, idx0_1 t, Ad27.row, pt0]

theorem in0_2 (t : Fin cfg0.N) (i : Fin 128) (x : Fin 1024) : iblk0 V c 2 t (ix3 0 i x) = V c main_arg3 (ix3 0 (Ad27.row (pt0 t) i) x) := by
  blk_point [iblk0, idx0_2 t, Ad27.row, pt0]

theorem in0_3 (t : Fin cfg0.N) (i : Fin 128) (x : Fin 1024) : iblk0 V c 3 t (ix3 0 i x) = V c main_arg4 (ix3 0 (Ad27.row (pt0 t) i) x) := by
  blk_point [iblk0, idx0_3 t, Ad27.row, pt0]

theorem sum0 (t : Fin cfg0.N) (i : Fin 128) (x : Fin 1024) : sumB0 (iblk0 V c 0 t) (ix2 i x) = Ad27.part (V c main_arg0) (Ad27.row (pt0 t) i) x :=
  (sumB0_apply (iblk0 V c 0 t) i x).trans (congrArg Adam.total (funext fun j => in0_0 V c t j i x))

/-- What layer 0's call leaves there, as a function of the whole result's index. -/
def gR0 : (⟨3, ![2, 128, 1024]⟩ : Shape).Idx → EReal := fun z => Ad27.part (V c main_arg0) (z 1) (z 2)

theorem g_arr0 (l : Fin 2) (i : Fin 128) (x : Fin 1024) : (dat0 V c).arrAt 4 cfg0.N (ix3 (n0 := 2) (n1 := 128) (n2 := 1024) l i x)
    = if ((ix3 (n0 := 2) (n1 := 128) (n2 := 1024) l i x 0 : Fin 2) : ℕ) / 1 = 0 then gR0 V c (ix3 (n0 := 2) (n1 := 128) (n2 := 1024) l i x) else V c main_v0_0 (ix3 l i x) := by
  refine (dat0 V c).arrAt_apply_of_coversWhere 4 (gR0 V c) (P := fun z => ((z 0 : Fin 2) : ℕ) / 1 = 0) (fun β => β (0 : Fin 3) = 0) (by decide +kernel) (fun t hf y => ?_) (fun j => Iff.rfl) _
  blk_simp
  rw [after0_4]
  have he : (win0_4.blk t).view.emb y = ix3 (n0 := 2) (n1 := 128) (n2 := 1024) 0 (Ad27.row (pt0 t) (y 1)) (y 2) := by
    blk_ext [idx0_4 t, Ad27.row, pt0]
  have hy : y = ix3 (n0 := 1) (n1 := 128) (n2 := 1024) 0 (y 1) (y 2) := by
    blk_ext [idx0_4 t]
  rw [g_block0 V c t y, he]
  refine (congrArg _ hy).trans ((pay6_0 _ _ _).trans ?_)
  exact sum0 V c t (y 1) (y 2)

theorem d_val0 (t : Fin cfg0.N) (i : Fin 128) (x : Fin 1024) : Adam.delta (sumB0 (iblk0 V c 0 t) (ix2 i x)) (iblk0 V c 1 t (ix3 0 i x)) (iblk0 V c 2 t (ix3 0 i x)) (iblk0 V c 3 t (ix3 0 i x))
    = Adam.delta (Ad27.part (V c main_arg0) (Ad27.row (pt0 t) i) x) (V c main_arg2 (ix3 0 (Ad27.row (pt0 t) i) x)) (V c main_arg3 (ix3 0 (Ad27.row (pt0 t) i) x)) (V c main_arg4 (ix3 0 (Ad27.row (pt0 t) i) x)) := by
  rw [sum0 V c t, in0_1 V c t, in0_2 V c t, in0_3 V c t]

/-- What layer 0's call leaves there, as a function of the whole result's index. -/
def dR0 : (⟨3, ![2, 128, 1024]⟩ : Shape).Idx → EReal := fun z => Adam.delta (Ad27.part (V c main_arg0) (z 1) (z 2)) (V c main_arg2 (ix3 0 (z 1) (z 2))) (V c main_arg3 (ix3 0 (z 1) (z 2))) (V c main_arg4 (ix3 0 (z 1) (z 2)))

theorem d_arr0 (l : Fin 2) (i : Fin 128) (x : Fin 1024) : (dat0 V c).arrAt 5 cfg0.N (ix3 (n0 := 2) (n1 := 128) (n2 := 1024) l i x)
    = if ((ix3 (n0 := 2) (n1 := 128) (n2 := 1024) l i x 0 : Fin 2) : ℕ) / 1 = 0 then dR0 V c (ix3 (n0 := 2) (n1 := 128) (n2 := 1024) l i x) else V c main_v0_1 (ix3 l i x) := by
  refine (dat0 V c).arrAt_apply_of_coversWhere 5 (dR0 V c) (P := fun z => ((z 0 : Fin 2) : ℕ) / 1 = 0) (fun β => β (0 : Fin 3) = 0) (by decide +kernel) (fun t hf y => ?_) (fun j => Iff.rfl) _
  blk_simp
  rw [after0_5]
  have he : (win0_5.blk t).view.emb y = ix3 (n0 := 2) (n1 := 128) (n2 := 1024) 0 (Ad27.row (pt0 t) (y 1)) (y 2) := by
    blk_ext [idx0_5 t, Ad27.row, pt0]
  have hy : y = ix3 (n0 := 1) (n1 := 128) (n2 := 1024) 0 (y 1) (y 2) := by
    blk_ext [idx0_5 t]
  rw [d_block0 V c t y, he]
  refine (congrArg _ hy).trans ((pay7_0 _ _ _ _ _ _).trans ?_)
  exact d_val0 V c t (y 1) (y 2)

theorem m_val0 (t : Fin cfg0.N) (i : Fin 128) (x : Fin 1024) : Adam.mean (sumB0 (iblk0 V c 0 t) (ix2 i x)) (iblk0 V c 2 t (ix3 0 i x))
    = Adam.mean (Ad27.part (V c main_arg0) (Ad27.row (pt0 t) i) x) (V c main_arg3 (ix3 0 (Ad27.row (pt0 t) i) x)) := by
  rw [sum0 V c t, in0_2 V c t]

/-- What layer 0's call leaves there, as a function of the whole result's index. -/
def mR0 : (⟨3, ![2, 128, 1024]⟩ : Shape).Idx → EReal := fun z => Adam.mean (Ad27.part (V c main_arg0) (z 1) (z 2)) (V c main_arg3 (ix3 0 (z 1) (z 2)))

theorem m_arr0 (l : Fin 2) (i : Fin 128) (x : Fin 1024) : (dat0 V c).arrAt 6 cfg0.N (ix3 (n0 := 2) (n1 := 128) (n2 := 1024) l i x)
    = if ((ix3 (n0 := 2) (n1 := 128) (n2 := 1024) l i x 0 : Fin 2) : ℕ) / 1 = 0 then mR0 V c (ix3 (n0 := 2) (n1 := 128) (n2 := 1024) l i x) else V c main_v0_2 (ix3 l i x) := by
  refine (dat0 V c).arrAt_apply_of_coversWhere 6 (mR0 V c) (P := fun z => ((z 0 : Fin 2) : ℕ) / 1 = 0) (fun β => β (0 : Fin 3) = 0) (by decide +kernel) (fun t hf y => ?_) (fun j => Iff.rfl) _
  blk_simp
  rw [after0_6]
  have he : (win0_6.blk t).view.emb y = ix3 (n0 := 2) (n1 := 128) (n2 := 1024) 0 (Ad27.row (pt0 t) (y 1)) (y 2) := by
    blk_ext [idx0_6 t, Ad27.row, pt0]
  have hy : y = ix3 (n0 := 1) (n1 := 128) (n2 := 1024) 0 (y 1) (y 2) := by
    blk_ext [idx0_6 t]
  rw [m_block0 V c t y, he]
  refine (congrArg _ hy).trans ((pay1_0 _ _ _ _).trans ?_)
  exact m_val0 V c t (y 1) (y 2)

theorem v_val0 (t : Fin cfg0.N) (i : Fin 128) (x : Fin 1024) : Adam.meanSq (sumB0 (iblk0 V c 0 t) (ix2 i x)) (iblk0 V c 3 t (ix3 0 i x))
    = Adam.meanSq (Ad27.part (V c main_arg0) (Ad27.row (pt0 t) i) x) (V c main_arg4 (ix3 0 (Ad27.row (pt0 t) i) x)) := by
  rw [sum0 V c t, in0_3 V c t]

/-- What layer 0's call leaves there, as a function of the whole result's index. -/
def vR0 : (⟨3, ![2, 128, 1024]⟩ : Shape).Idx → EReal := fun z => Adam.meanSq (Ad27.part (V c main_arg0) (z 1) (z 2)) (V c main_arg4 (ix3 0 (z 1) (z 2)))

theorem v_arr0 (l : Fin 2) (i : Fin 128) (x : Fin 1024) : (dat0 V c).arrAt 7 cfg0.N (ix3 (n0 := 2) (n1 := 128) (n2 := 1024) l i x)
    = if ((ix3 (n0 := 2) (n1 := 128) (n2 := 1024) l i x 0 : Fin 2) : ℕ) / 1 = 0 then vR0 V c (ix3 (n0 := 2) (n1 := 128) (n2 := 1024) l i x) else V c main_v0_3 (ix3 l i x) := by
  refine (dat0 V c).arrAt_apply_of_coversWhere 7 (vR0 V c) (P := fun z => ((z 0 : Fin 2) : ℕ) / 1 = 0) (fun β => β (0 : Fin 3) = 0) (by decide +kernel) (fun t hf y => ?_) (fun j => Iff.rfl) _
  blk_simp
  rw [after0_7]
  have he : (win0_7.blk t).view.emb y = ix3 (n0 := 2) (n1 := 128) (n2 := 1024) 0 (Ad27.row (pt0 t) (y 1)) (y 2) := by
    blk_ext [idx0_7 t, Ad27.row, pt0]
  have hy : y = ix3 (n0 := 1) (n1 := 128) (n2 := 1024) 0 (y 1) (y 2) := by
    blk_ext [idx0_7 t]
  rw [v_block0 V c t y, he]
  refine (congrArg _ hy).trans ((pay2_0 _ _ _ _).trans ?_)
  exact v_val0 V c t (y 1) (y 2)

/-- The sum of the eight parts of a block of layer 1. -/
def sumB1 (A : Vec Ideal S8x128x1024 .bf16) : FVec Ideal S128x1024 .f32 :=
  k1_pay3 (View.ld A r0_0) (View.ld A r0_1) (View.ld A r0_2) (View.ld A r0_3) (View.ld A r0_4) (View.ld A r0_5) (View.ld A r0_6) (View.ld A r0_7)

theorem sumB1_apply (A : Vec Ideal S8x128x1024 .bf16) (i : Fin 128) (x : Fin 1024) : sumB1 A (ix2 i x) = Adam.total fun j => A (ix3 j i x) := by
  unfold sumB1
  pointwise [k1_pay3, Adam.total]

theorem pay6_1 (G : FVec Ideal S128x1024 .f32) (i : Fin 128) (x : Fin 1024) : k1_pay6 G (ix3 0 i x) = G (ix2 i x) := by
  pointwise [k1_pay6]

theorem pay1_1 (G : FVec Ideal S128x1024 .f32) (M : Vec Ideal S1x128x1024 .f32) (i : Fin 128) (x : Fin 1024) :
    k1_pay1 (k1_pay4 G M) (ix3 0 i x) = Adam.mean (G (ix2 i x)) (M (ix3 0 i x)) := by
  unfold Adam.mean
  pointwise [k1_pay1, k1_pay4]

theorem pay2_1 (G : FVec Ideal S128x1024 .f32) (V : Vec Ideal S1x128x1024 .f32) (i : Fin 128) (x : Fin 1024) :
    k1_pay2 (k1_pay5 G V) (ix3 0 i x) = Adam.meanSq (G (ix2 i x)) (V (ix3 0 i x)) := by
  unfold Adam.meanSq
  pointwise [k1_pay2, k1_pay5]

theorem pay7_1 (G : FVec Ideal S128x1024 .f32) (W M V : Vec Ideal S1x128x1024 .f32) (i : Fin 128) (x : Fin 1024) :
    k1_pay7 G W M V (ix3 0 i x) = Adam.delta (G (ix2 i x)) (W (ix3 0 i x)) (M (ix3 0 i x)) (V (ix3 0 i x)) := by
  unfold Adam.delta Adam.step Adam.mean Adam.meanSq
  pointwise [k1_pay7, k1_pay4, k1_pay5, c1, c2]

theorem g_block1 (t : Fin cfg1.N) (y : S1x128x1024.Idx) : (outsAt1 V c t).1 y = k1_pay6 (sumB1 (iblk1 V c 0 t)) y := by
  dsimp only [outsAt1]
  frame_out
  rfl

theorem d_block1 (t : Fin cfg1.N) (y : S1x128x1024.Idx) : (outsAt1 V c t).2.1 y = k1_pay7 (sumB1 (iblk1 V c 0 t)) (iblk1 V c 1 t) (iblk1 V c 2 t) (iblk1 V c 3 t) y := by
  dsimp only [outsAt1]
  frame_out
  rfl

theorem m_block1 (t : Fin cfg1.N) (y : S1x128x1024.Idx) : (outsAt1 V c t).2.2.1 y = k1_pay1 (k1_pay4 (sumB1 (iblk1 V c 0 t)) (iblk1 V c 2 t)) y := by
  dsimp only [outsAt1]
  frame_out
  rfl

theorem v_block1 (t : Fin cfg1.N) (y : S1x128x1024.Idx) : (outsAt1 V c t).2.2.2 y = k1_pay2 (k1_pay5 (sumB1 (iblk1 V c 0 t)) (iblk1 V c 3 t)) y := by
  dsimp only [outsAt1]
  frame_out
  rfl

theorem idx1_0 : ∀ t : Fin cfg1.N, win1_0.index t = ![0, t.val, 0] := (by decide +kernel : ∀ t : Fin grid1.N, _)
theorem idx1_1 : ∀ t : Fin cfg1.N, win1_1.index t = ![1, t.val, 0] := (by decide +kernel : ∀ t : Fin grid1.N, _)
theorem idx1_2 : ∀ t : Fin cfg1.N, win1_2.index t = ![1, t.val, 0] := (by decide +kernel : ∀ t : Fin grid1.N, _)
theorem idx1_3 : ∀ t : Fin cfg1.N, win1_3.index t = ![1, t.val, 0] := (by decide +kernel : ∀ t : Fin grid1.N, _)
theorem idx1_4 : ∀ t : Fin cfg1.N, win1_4.index t = ![1, t.val, 0] := (by decide +kernel : ∀ t : Fin grid1.N, _)
theorem idx1_5 : ∀ t : Fin cfg1.N, win1_5.index t = ![1, t.val, 0] := (by decide +kernel : ∀ t : Fin grid1.N, _)
theorem idx1_6 : ∀ t : Fin cfg1.N, win1_6.index t = ![1, t.val, 0] := (by decide +kernel : ∀ t : Fin grid1.N, _)
theorem idx1_7 : ∀ t : Fin cfg1.N, win1_7.index t = ![1, t.val, 0] := (by decide +kernel : ∀ t : Fin grid1.N, _)

/-- The block of point `t`. -/
def pt1 (t : Fin cfg1.N) : Fin 1 := ⟨t.val, lt_of_lt_of_eq t.isLt N_1⟩

theorem in1_0 (t : Fin cfg1.N) (j : Fin 8) (i : Fin 128) (x : Fin 1024) : iblk1 V c 0 t (ix3 j i x) = V c main_arg1 (ix3 j (Ad27.row (pt1 t) i) x) := by
  blk_point [iblk1, idx1_0 t, Ad27.row, pt1]

theorem in1_1 (t : Fin cfg1.N) (i : Fin 128) (x : Fin 1024) : iblk1 V c 1 t (ix3 0 i x) = V c main_arg2 (ix3 1 (Ad27.row (pt1 t) i) x) := by
  blk_point [iblk1, idx1_1 t, Ad27.row, pt1]

theorem in1_2 (t : Fin cfg1.N) (i : Fin 128) (x : Fin 1024) : iblk1 V c 2 t (ix3 0 i x) = V c main_arg3 (ix3 1 (Ad27.row (pt1 t) i) x) := by
  blk_point [iblk1, idx1_2 t, Ad27.row, pt1]

theorem in1_3 (t : Fin cfg1.N) (i : Fin 128) (x : Fin 1024) : iblk1 V c 3 t (ix3 0 i x) = V c main_arg4 (ix3 1 (Ad27.row (pt1 t) i) x) := by
  blk_point [iblk1, idx1_3 t, Ad27.row, pt1]

theorem sum1 (t : Fin cfg1.N) (i : Fin 128) (x : Fin 1024) : sumB1 (iblk1 V c 0 t) (ix2 i x) = Ad27.part (V c main_arg1) (Ad27.row (pt1 t) i) x :=
  (sumB1_apply (iblk1 V c 0 t) i x).trans (congrArg Adam.total (funext fun j => in1_0 V c t j i x))

/-- What layer 1's call leaves there, as a function of the whole result's index. -/
def gR1 : (⟨3, ![2, 128, 1024]⟩ : Shape).Idx → EReal := fun z => Ad27.part (V c main_arg1) (z 1) (z 2)

theorem g_arr1 (l : Fin 2) (i : Fin 128) (x : Fin 1024) : (dat1 V c).arrAt 4 cfg1.N (ix3 (n0 := 2) (n1 := 128) (n2 := 1024) l i x)
    = if ((ix3 (n0 := 2) (n1 := 128) (n2 := 1024) l i x 0 : Fin 2) : ℕ) / 1 = 1 then gR1 V c (ix3 (n0 := 2) (n1 := 128) (n2 := 1024) l i x) else V c main_v1_0 (ix3 l i x) := by
  refine (dat1 V c).arrAt_apply_of_coversWhere 4 (gR1 V c) (P := fun z => ((z 0 : Fin 2) : ℕ) / 1 = 1) (fun β => β (0 : Fin 3) = 1) (by decide +kernel) (fun t hf y => ?_) (fun j => Iff.rfl) _
  blk_simp
  rw [after1_4]
  have he : (win1_4.blk t).view.emb y = ix3 (n0 := 2) (n1 := 128) (n2 := 1024) 1 (Ad27.row (pt1 t) (y 1)) (y 2) := by
    blk_ext [idx1_4 t, Ad27.row, pt1]
  have hy : y = ix3 (n0 := 1) (n1 := 128) (n2 := 1024) 0 (y 1) (y 2) := by
    blk_ext [idx1_4 t]
  rw [g_block1 V c t y, he]
  refine (congrArg _ hy).trans ((pay6_1 _ _ _).trans ?_)
  exact sum1 V c t (y 1) (y 2)

theorem d_val1 (t : Fin cfg1.N) (i : Fin 128) (x : Fin 1024) : Adam.delta (sumB1 (iblk1 V c 0 t) (ix2 i x)) (iblk1 V c 1 t (ix3 0 i x)) (iblk1 V c 2 t (ix3 0 i x)) (iblk1 V c 3 t (ix3 0 i x))
    = Adam.delta (Ad27.part (V c main_arg1) (Ad27.row (pt1 t) i) x) (V c main_arg2 (ix3 1 (Ad27.row (pt1 t) i) x)) (V c main_arg3 (ix3 1 (Ad27.row (pt1 t) i) x)) (V c main_arg4 (ix3 1 (Ad27.row (pt1 t) i) x)) := by
  rw [sum1 V c t, in1_1 V c t, in1_2 V c t, in1_3 V c t]

/-- What layer 1's call leaves there, as a function of the whole result's index. -/
def dR1 : (⟨3, ![2, 128, 1024]⟩ : Shape).Idx → EReal := fun z => Adam.delta (Ad27.part (V c main_arg1) (z 1) (z 2)) (V c main_arg2 (ix3 1 (z 1) (z 2))) (V c main_arg3 (ix3 1 (z 1) (z 2))) (V c main_arg4 (ix3 1 (z 1) (z 2)))

theorem d_arr1 (l : Fin 2) (i : Fin 128) (x : Fin 1024) : (dat1 V c).arrAt 5 cfg1.N (ix3 (n0 := 2) (n1 := 128) (n2 := 1024) l i x)
    = if ((ix3 (n0 := 2) (n1 := 128) (n2 := 1024) l i x 0 : Fin 2) : ℕ) / 1 = 1 then dR1 V c (ix3 (n0 := 2) (n1 := 128) (n2 := 1024) l i x) else V c main_v1_1 (ix3 l i x) := by
  refine (dat1 V c).arrAt_apply_of_coversWhere 5 (dR1 V c) (P := fun z => ((z 0 : Fin 2) : ℕ) / 1 = 1) (fun β => β (0 : Fin 3) = 1) (by decide +kernel) (fun t hf y => ?_) (fun j => Iff.rfl) _
  blk_simp
  rw [after1_5]
  have he : (win1_5.blk t).view.emb y = ix3 (n0 := 2) (n1 := 128) (n2 := 1024) 1 (Ad27.row (pt1 t) (y 1)) (y 2) := by
    blk_ext [idx1_5 t, Ad27.row, pt1]
  have hy : y = ix3 (n0 := 1) (n1 := 128) (n2 := 1024) 0 (y 1) (y 2) := by
    blk_ext [idx1_5 t]
  rw [d_block1 V c t y, he]
  refine (congrArg _ hy).trans ((pay7_1 _ _ _ _ _ _).trans ?_)
  exact d_val1 V c t (y 1) (y 2)

theorem m_val1 (t : Fin cfg1.N) (i : Fin 128) (x : Fin 1024) : Adam.mean (sumB1 (iblk1 V c 0 t) (ix2 i x)) (iblk1 V c 2 t (ix3 0 i x))
    = Adam.mean (Ad27.part (V c main_arg1) (Ad27.row (pt1 t) i) x) (V c main_arg3 (ix3 1 (Ad27.row (pt1 t) i) x)) := by
  rw [sum1 V c t, in1_2 V c t]

/-- What layer 1's call leaves there, as a function of the whole result's index. -/
def mR1 : (⟨3, ![2, 128, 1024]⟩ : Shape).Idx → EReal := fun z => Adam.mean (Ad27.part (V c main_arg1) (z 1) (z 2)) (V c main_arg3 (ix3 1 (z 1) (z 2)))

theorem m_arr1 (l : Fin 2) (i : Fin 128) (x : Fin 1024) : (dat1 V c).arrAt 6 cfg1.N (ix3 (n0 := 2) (n1 := 128) (n2 := 1024) l i x)
    = if ((ix3 (n0 := 2) (n1 := 128) (n2 := 1024) l i x 0 : Fin 2) : ℕ) / 1 = 1 then mR1 V c (ix3 (n0 := 2) (n1 := 128) (n2 := 1024) l i x) else V c main_v1_2 (ix3 l i x) := by
  refine (dat1 V c).arrAt_apply_of_coversWhere 6 (mR1 V c) (P := fun z => ((z 0 : Fin 2) : ℕ) / 1 = 1) (fun β => β (0 : Fin 3) = 1) (by decide +kernel) (fun t hf y => ?_) (fun j => Iff.rfl) _
  blk_simp
  rw [after1_6]
  have he : (win1_6.blk t).view.emb y = ix3 (n0 := 2) (n1 := 128) (n2 := 1024) 1 (Ad27.row (pt1 t) (y 1)) (y 2) := by
    blk_ext [idx1_6 t, Ad27.row, pt1]
  have hy : y = ix3 (n0 := 1) (n1 := 128) (n2 := 1024) 0 (y 1) (y 2) := by
    blk_ext [idx1_6 t]
  rw [m_block1 V c t y, he]
  refine (congrArg _ hy).trans ((pay1_1 _ _ _ _).trans ?_)
  exact m_val1 V c t (y 1) (y 2)

theorem v_val1 (t : Fin cfg1.N) (i : Fin 128) (x : Fin 1024) : Adam.meanSq (sumB1 (iblk1 V c 0 t) (ix2 i x)) (iblk1 V c 3 t (ix3 0 i x))
    = Adam.meanSq (Ad27.part (V c main_arg1) (Ad27.row (pt1 t) i) x) (V c main_arg4 (ix3 1 (Ad27.row (pt1 t) i) x)) := by
  rw [sum1 V c t, in1_3 V c t]

/-- What layer 1's call leaves there, as a function of the whole result's index. -/
def vR1 : (⟨3, ![2, 128, 1024]⟩ : Shape).Idx → EReal := fun z => Adam.meanSq (Ad27.part (V c main_arg1) (z 1) (z 2)) (V c main_arg4 (ix3 1 (z 1) (z 2)))

theorem v_arr1 (l : Fin 2) (i : Fin 128) (x : Fin 1024) : (dat1 V c).arrAt 7 cfg1.N (ix3 (n0 := 2) (n1 := 128) (n2 := 1024) l i x)
    = if ((ix3 (n0 := 2) (n1 := 128) (n2 := 1024) l i x 0 : Fin 2) : ℕ) / 1 = 1 then vR1 V c (ix3 (n0 := 2) (n1 := 128) (n2 := 1024) l i x) else V c main_v1_3 (ix3 l i x) := by
  refine (dat1 V c).arrAt_apply_of_coversWhere 7 (vR1 V c) (P := fun z => ((z 0 : Fin 2) : ℕ) / 1 = 1) (fun β => β (0 : Fin 3) = 1) (by decide +kernel) (fun t hf y => ?_) (fun j => Iff.rfl) _
  blk_simp
  rw [after1_7]
  have he : (win1_7.blk t).view.emb y = ix3 (n0 := 2) (n1 := 128) (n2 := 1024) 1 (Ad27.row (pt1 t) (y 1)) (y 2) := by
    blk_ext [idx1_7 t, Ad27.row, pt1]
  have hy : y = ix3 (n0 := 1) (n1 := 128) (n2 := 1024) 0 (y 1) (y 2) := by
    blk_ext [idx1_7 t]
  rw [v_block1 V c t y, he]
  refine (congrArg _ hy).trans ((pay2_1 _ _ _ _).trans ?_)
  exact v_val1 V c t (y 1) (y 2)

end Regions

section Assembly

variable (m : (ℓ : Loc nD τ sig) → Buf (Elt Ideal) ℓ) (ρ : Dev nD → PrngReg) (c : Dev nD)

theorem copy0 : V2 m ρ c main_v1_0 = (dat0 (V0 m ρ) c).arrAt 4 cfg0.N := by
  refine Eq.trans ?_ (W1_arr m ρ c 4)
  show StableHlo.after hostOps1 (W1 m ρ c) (Proc.devRef .tc main_v1_0) = _
  after_results_simp <;> rfl

theorem copy1 : V2 m ρ c main_v1_1 = (dat0 (V0 m ρ) c).arrAt 5 cfg0.N := by
  refine Eq.trans ?_ (W1_arr m ρ c 5)
  show StableHlo.after hostOps1 (W1 m ρ c) (Proc.devRef .tc main_v1_1) = _
  after_results_simp <;> rfl

theorem copy2 : V2 m ρ c main_v1_2 = (dat0 (V0 m ρ) c).arrAt 6 cfg0.N := by
  refine Eq.trans ?_ (W1_arr m ρ c 6)
  show StableHlo.after hostOps1 (W1 m ρ c) (Proc.devRef .tc main_v1_2) = _
  after_results_simp <;> rfl

theorem copy3 : V2 m ρ c main_v1_3 = (dat0 (V0 m ρ) c).arrAt 7 cfg0.N := by
  refine Eq.trans ?_ (W1_arr m ρ c 7)
  show StableHlo.after hostOps1 (W1 m ρ c) (Proc.devRef .tc main_v1_3) = _
  after_results_simp <;> rfl

theorem parts0 : V0 m ρ c main_arg0 = m ((c : Thread nD τ).loc main_arg0) := rfl

theorem arg0_2 (z : S2x128x1024.Idx) : V0 m ρ c main_arg2 z = m ((c : Thread nD τ).loc main_arg2) (ix3 (z 0) (z 1) (z 2)) := congrArg (m ((c : Thread nD τ).loc main_arg2)) (eq_ix3 z)

theorem arg0_3 (z : S2x128x1024.Idx) : V0 m ρ c main_arg3 z = m ((c : Thread nD τ).loc main_arg3) (ix3 (z 0) (z 1) (z 2)) := congrArg (m ((c : Thread nD τ).loc main_arg3)) (eq_ix3 z)

theorem arg0_4 (z : S2x128x1024.Idx) : V0 m ρ c main_arg4 z = m ((c : Thread nD τ).loc main_arg4) (ix3 (z 0) (z 1) (z 2)) := congrArg (m ((c : Thread nD τ).loc main_arg4)) (eq_ix3 z)

theorem parts1 : V2 m ρ c main_arg1 = m ((c : Thread nD τ).loc main_arg1) := W2_args m ρ c main_arg1 (by decide)

theorem arg1_2 (z : S2x128x1024.Idx) : V2 m ρ c main_arg2 z = m ((c : Thread nD τ).loc main_arg2) (ix3 (z 0) (z 1) (z 2)) := (congrFun (W2_args m ρ c main_arg2 (by decide)) z).trans (congrArg (m ((c : Thread nD τ).loc main_arg2)) (eq_ix3 z))

theorem arg1_3 (z : S2x128x1024.Idx) : V2 m ρ c main_arg3 z = m ((c : Thread nD τ).loc main_arg3) (ix3 (z 0) (z 1) (z 2)) := (congrFun (W2_args m ρ c main_arg3 (by decide)) z).trans (congrArg (m ((c : Thread nD τ).loc main_arg3)) (eq_ix3 z))

theorem arg1_4 (z : S2x128x1024.Idx) : V2 m ρ c main_arg4 z = m ((c : Thread nD τ).loc main_arg4) (ix3 (z 0) (z 1) (z 2)) := (congrFun (W2_args m ρ c main_arg4 (by decide)) z).trans (congrArg (m ((c : Thread nD τ).loc main_arg4)) (eq_ix3 z))

theorem g_lay0 (i : Fin 128) (x : Fin 1024) : gR0 (V0 m ρ) c (ix3 0 i x) = Ad27.gOf (m ((c : Thread nD τ).loc main_arg0)) (m ((c : Thread nD τ).loc main_arg1)) (ix3 0 i x) := by
  have hp := parts0 m ρ c
  show Ad27.part (V0 m ρ c main_arg0) i x = _
  rw [hp]
  rfl

theorem g_lay1 (i : Fin 128) (x : Fin 1024) : gR1 (V2 m ρ) c (ix3 1 i x) = Ad27.gOf (m ((c : Thread nD τ).loc main_arg0)) (m ((c : Thread nD τ).loc main_arg1)) (ix3 1 i x) := by
  have hp := parts1 m ρ c
  show Ad27.part (V2 m ρ c main_arg1) i x = _
  rw [hp]
  rfl

theorem g_final : W3 m ρ c (Proc.devRef .tc main_v1_0) = Ad27.gOf (m ((c : Thread nD τ).loc main_arg0)) (m ((c : Thread nD τ).loc main_arg1)) := by
  refine (W3_arr m ρ c 4).trans (funext fun (z : S2x128x1024.Idx) => ?_)
  obtain ⟨l, i, x, rfl⟩ : ∃ l i x, z = ix3 l i x := ⟨z 0, z 1, z 2, eq_ix3 z⟩
  refine (g_arr1 (V2 m ρ) c l i x).trans ?_
  obtain rfl | rfl : l = 0 ∨ l = 1 := by omega
  · refine (if_neg (show ¬ ((0 : Fin 2) : ℕ) / 1 = 1 by decide)).trans ?_
    refine (congrFun (copy0 m ρ c) (ix3 (n0 := 2) (n1 := 128) (n2 := 1024) 0 i x)).trans ?_
    refine (g_arr0 (V0 m ρ) c 0 i x).trans ?_
    refine (if_pos (show ((0 : Fin 2) : ℕ) / 1 = 0 by decide)).trans ?_
    exact g_lay0 m ρ c i x
  · refine (if_pos (show ((1 : Fin 2) : ℕ) / 1 = 1 by decide)).trans ?_
    exact g_lay1 m ρ c i x

theorem d_lay0 (i : Fin 128) (x : Fin 1024) : dR0 (V0 m ρ) c (ix3 0 i x) = Ad27.dOf (m ((c : Thread nD τ).loc main_arg0)) (m ((c : Thread nD τ).loc main_arg1)) (m ((c : Thread nD τ).loc main_arg2)) (m ((c : Thread nD τ).loc main_arg3)) (m ((c : Thread nD τ).loc main_arg4)) (ix3 0 i x) := by
  have hp := parts0 m ρ c
  have h1 : V0 m ρ c main_arg2 (ix3 0 i x) = m ((c : Thread nD τ).loc main_arg2) (ix3 0 i x) := arg0_2 m ρ c (ix3 0 i x)
  have h2 : V0 m ρ c main_arg3 (ix3 0 i x) = m ((c : Thread nD τ).loc main_arg3) (ix3 0 i x) := arg0_3 m ρ c (ix3 0 i x)
  have h3 : V0 m ρ c main_arg4 (ix3 0 i x) = m ((c : Thread nD τ).loc main_arg4) (ix3 0 i x) := arg0_4 m ρ c (ix3 0 i x)
  show Adam.delta (Ad27.part (V0 m ρ c main_arg0) i x) (V0 m ρ c main_arg2 (ix3 0 i x)) (V0 m ρ c main_arg3 (ix3 0 i x)) (V0 m ρ c main_arg4 (ix3 0 i x)) = _
  rw [hp, h1, h2, h3]
  rfl

theorem d_lay1 (i : Fin 128) (x : Fin 1024) : dR1 (V2 m ρ) c (ix3 1 i x) = Ad27.dOf (m ((c : Thread nD τ).loc main_arg0)) (m ((c : Thread nD τ).loc main_arg1)) (m ((c : Thread nD τ).loc main_arg2)) (m ((c : Thread nD τ).loc main_arg3)) (m ((c : Thread nD τ).loc main_arg4)) (ix3 1 i x) := by
  have hp := parts1 m ρ c
  have h1 : V2 m ρ c main_arg2 (ix3 1 i x) = m ((c : Thread nD τ).loc main_arg2) (ix3 1 i x) := arg1_2 m ρ c (ix3 1 i x)
  have h2 : V2 m ρ c main_arg3 (ix3 1 i x) = m ((c : Thread nD τ).loc main_arg3) (ix3 1 i x) := arg1_3 m ρ c (ix3 1 i x)
  have h3 : V2 m ρ c main_arg4 (ix3 1 i x) = m ((c : Thread nD τ).loc main_arg4) (ix3 1 i x) := arg1_4 m ρ c (ix3 1 i x)
  show Adam.delta (Ad27.part (V2 m ρ c main_arg1) i x) (V2 m ρ c main_arg2 (ix3 1 i x)) (V2 m ρ c main_arg3 (ix3 1 i x)) (V2 m ρ c main_arg4 (ix3 1 i x)) = _
  rw [hp, h1, h2, h3]
  rfl

theorem d_final : W3 m ρ c (Proc.devRef .tc main_v1_1) = Ad27.dOf (m ((c : Thread nD τ).loc main_arg0)) (m ((c : Thread nD τ).loc main_arg1)) (m ((c : Thread nD τ).loc main_arg2)) (m ((c : Thread nD τ).loc main_arg3)) (m ((c : Thread nD τ).loc main_arg4)) := by
  refine (W3_arr m ρ c 5).trans (funext fun (z : S2x128x1024.Idx) => ?_)
  obtain ⟨l, i, x, rfl⟩ : ∃ l i x, z = ix3 l i x := ⟨z 0, z 1, z 2, eq_ix3 z⟩
  refine (d_arr1 (V2 m ρ) c l i x).trans ?_
  obtain rfl | rfl : l = 0 ∨ l = 1 := by omega
  · refine (if_neg (show ¬ ((0 : Fin 2) : ℕ) / 1 = 1 by decide)).trans ?_
    refine (congrFun (copy1 m ρ c) (ix3 (n0 := 2) (n1 := 128) (n2 := 1024) 0 i x)).trans ?_
    refine (d_arr0 (V0 m ρ) c 0 i x).trans ?_
    refine (if_pos (show ((0 : Fin 2) : ℕ) / 1 = 0 by decide)).trans ?_
    exact d_lay0 m ρ c i x
  · refine (if_pos (show ((1 : Fin 2) : ℕ) / 1 = 1 by decide)).trans ?_
    exact d_lay1 m ρ c i x

theorem m_lay0 (i : Fin 128) (x : Fin 1024) : mR0 (V0 m ρ) c (ix3 0 i x) = Ad27.mOf (m ((c : Thread nD τ).loc main_arg0)) (m ((c : Thread nD τ).loc main_arg1)) (m ((c : Thread nD τ).loc main_arg3)) (ix3 0 i x) := by
  have hp := parts0 m ρ c
  have h2 : V0 m ρ c main_arg3 (ix3 0 i x) = m ((c : Thread nD τ).loc main_arg3) (ix3 0 i x) := arg0_3 m ρ c (ix3 0 i x)
  show Adam.mean (Ad27.part (V0 m ρ c main_arg0) i x) (V0 m ρ c main_arg3 (ix3 0 i x)) = _
  rw [hp, h2]
  rfl

theorem m_lay1 (i : Fin 128) (x : Fin 1024) : mR1 (V2 m ρ) c (ix3 1 i x) = Ad27.mOf (m ((c : Thread nD τ).loc main_arg0)) (m ((c : Thread nD τ).loc main_arg1)) (m ((c : Thread nD τ).loc main_arg3)) (ix3 1 i x) := by
  have hp := parts1 m ρ c
  have h2 : V2 m ρ c main_arg3 (ix3 1 i x) = m ((c : Thread nD τ).loc main_arg3) (ix3 1 i x) := arg1_3 m ρ c (ix3 1 i x)
  show Adam.mean (Ad27.part (V2 m ρ c main_arg1) i x) (V2 m ρ c main_arg3 (ix3 1 i x)) = _
  rw [hp, h2]
  rfl

theorem m_final : W3 m ρ c (Proc.devRef .tc main_v1_2) = Ad27.mOf (m ((c : Thread nD τ).loc main_arg0)) (m ((c : Thread nD τ).loc main_arg1)) (m ((c : Thread nD τ).loc main_arg3)) := by
  refine (W3_arr m ρ c 6).trans (funext fun (z : S2x128x1024.Idx) => ?_)
  obtain ⟨l, i, x, rfl⟩ : ∃ l i x, z = ix3 l i x := ⟨z 0, z 1, z 2, eq_ix3 z⟩
  refine (m_arr1 (V2 m ρ) c l i x).trans ?_
  obtain rfl | rfl : l = 0 ∨ l = 1 := by omega
  · refine (if_neg (show ¬ ((0 : Fin 2) : ℕ) / 1 = 1 by decide)).trans ?_
    refine (congrFun (copy2 m ρ c) (ix3 (n0 := 2) (n1 := 128) (n2 := 1024) 0 i x)).trans ?_
    refine (m_arr0 (V0 m ρ) c 0 i x).trans ?_
    refine (if_pos (show ((0 : Fin 2) : ℕ) / 1 = 0 by decide)).trans ?_
    exact m_lay0 m ρ c i x
  · refine (if_pos (show ((1 : Fin 2) : ℕ) / 1 = 1 by decide)).trans ?_
    exact m_lay1 m ρ c i x

theorem v_lay0 (i : Fin 128) (x : Fin 1024) : vR0 (V0 m ρ) c (ix3 0 i x) = Ad27.vOf (m ((c : Thread nD τ).loc main_arg0)) (m ((c : Thread nD τ).loc main_arg1)) (m ((c : Thread nD τ).loc main_arg4)) (ix3 0 i x) := by
  have hp := parts0 m ρ c
  have h3 : V0 m ρ c main_arg4 (ix3 0 i x) = m ((c : Thread nD τ).loc main_arg4) (ix3 0 i x) := arg0_4 m ρ c (ix3 0 i x)
  show Adam.meanSq (Ad27.part (V0 m ρ c main_arg0) i x) (V0 m ρ c main_arg4 (ix3 0 i x)) = _
  rw [hp, h3]
  rfl

theorem v_lay1 (i : Fin 128) (x : Fin 1024) : vR1 (V2 m ρ) c (ix3 1 i x) = Ad27.vOf (m ((c : Thread nD τ).loc main_arg0)) (m ((c : Thread nD τ).loc main_arg1)) (m ((c : Thread nD τ).loc main_arg4)) (ix3 1 i x) := by
  have hp := parts1 m ρ c
  have h3 : V2 m ρ c main_arg4 (ix3 1 i x) = m ((c : Thread nD τ).loc main_arg4) (ix3 1 i x) := arg1_4 m ρ c (ix3 1 i x)
  show Adam.meanSq (Ad27.part (V2 m ρ c main_arg1) i x) (V2 m ρ c main_arg4 (ix3 1 i x)) = _
  rw [hp, h3]
  rfl

theorem v_final : W3 m ρ c (Proc.devRef .tc main_v1_3) = Ad27.vOf (m ((c : Thread nD τ).loc main_arg0)) (m ((c : Thread nD τ).loc main_arg1)) (m ((c : Thread nD τ).loc main_arg4)) := by
  refine (W3_arr m ρ c 7).trans (funext fun (z : S2x128x1024.Idx) => ?_)
  obtain ⟨l, i, x, rfl⟩ : ∃ l i x, z = ix3 l i x := ⟨z 0, z 1, z 2, eq_ix3 z⟩
  refine (v_arr1 (V2 m ρ) c l i x).trans ?_
  obtain rfl | rfl : l = 0 ∨ l = 1 := by omega
  · refine (if_neg (show ¬ ((0 : Fin 2) : ℕ) / 1 = 1 by decide)).trans ?_
    refine (congrFun (copy3 m ρ c) (ix3 (n0 := 2) (n1 := 128) (n2 := 1024) 0 i x)).trans ?_
    refine (v_arr0 (V0 m ρ) c 0 i x).trans ?_
    refine (if_pos (show ((0 : Fin 2) : ℕ) / 1 = 0 by decide)).trans ?_
    exact v_lay0 m ρ c i x
  · refine (if_pos (show ((1 : Fin 2) : ℕ) / 1 = 1 by decide)).trans ?_
    exact v_lay1 m ρ c i x

/-- The run of the two calls: the results, and the arguments unchanged. -/
theorem run : θ_run defs (onTc (τ := τ) (main (F := Ideal))) ⟨m, fun _ => 0, ρ⟩ (fun r => ∀ c : Dev nD,
      r.2.mem ((c.tc : Thread nD τ).loc main_v1_0) = Ad27.gOf (m ((c : Thread nD τ).loc main_arg0)) (m ((c : Thread nD τ).loc main_arg1))
      ∧ r.2.mem ((c.tc : Thread nD τ).loc main_v1_1) = Ad27.dOf (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v1_2) = Ad27.mOf (m ((c : Thread nD τ).loc main_arg0)) (m ((c : Thread nD τ).loc main_arg1)) (m ((c : Thread nD τ).loc main_arg3))
      ∧ r.2.mem ((c.tc : Thread nD τ).loc main_v1_3) = Ad27.vOf (m ((c : Thread nD τ).loc main_arg0)) (m ((c : Thread nD τ).loc main_arg1)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v1_0 (by decide))).trans (g_final m ρ c),
       (h c _ (mem_uc main_v1_1 (by decide))).trans (d_final m ρ c),
       (h c _ (mem_uc main_v1_2 (by decide))).trans (m_final m ρ c),
       (h c _ (mem_uc main_v1_3 (by decide))).trans (v_final m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Assembly

end Cert.Kernel27Ideal.Ad

namespace Cert.Reference27Ideal.Ad

open Cert.Reference27Ideal Cert.Reference27Ideal.Gen Cert.Reference27Ideal.Value Idealize.ShloMosaic Idealize.ShloMosaic.TcCoe Idealize.SL.Sem

theorem sum_apply (a0 : FVec Ideal S8x128x1024 .bf16) (i : Fin 128) (x : Fin 1024) :
    Host.reduceAdd (F := Ideal) (extf .f32 a0 bitsLt_bf16_f32) (constant S_ .f32 0x00000000#32) reducesTo_S8x128x1024_S128x1024_d0 h_S_ (ix2 i x) = Ad27.part a0 i x := by
  rw [Ad27.part, ← Adam.total_eq]
  pointwise

/-- The two layers' gradients, one after the other. -/
def stack (a0 a1 : FVec Ideal S8x128x1024 .bf16) : FVec Ideal S2x128x1024 .f32 :=
  concatenate S2x128x1024 0 [⟨S1x128x1024, (broadcastInDim S1x128x1024 ![1, 2] bcast_S128x1024_S1x128x1024_1_2 (Host.reduceAdd (extf .f32 a0 bitsLt_bf16_f32) (constant S_ .f32 0x00000000#32) reducesTo_S8x128x1024_S128x1024_d0 h_S_))⟩, ⟨S1x128x1024, (broadcastInDim S1x128x1024 ![1, 2] bcast_S128x1024_S1x128x1024_1_2 (Host.reduceAdd (extf .f32 a1 bitsLt_bf16_f32) (constant S_ .f32 0x00000000#32) reducesTo_S8x128x1024_S128x1024_d0 h_S_))⟩] concatenates_S1x128x1024_S1x128x1024_S2x128x1024_d0

theorem stack_apply (a0 a1 : FVec Ideal S8x128x1024 .bf16) (l : Fin 2) (i : Fin 128) (x : Fin 1024) : stack a0 a1 (ix3 l i x) = Ad27.g a0 a1 l i x := by
  unfold stack Ad27.g
  rw [← sum_apply a0 i x, ← sum_apply a1 i x]
  generalize Host.reduceAdd (F := Ideal) (extf .f32 a0 bitsLt_bf16_f32) (constant S_ .f32 0x00000000#32) reducesTo_S8x128x1024_S128x1024_d0 h_S_ = G0
  generalize Host.reduceAdd (F := Ideal) (extf .f32 a1 bitsLt_bf16_f32) (constant S_ .f32 0x00000000#32) reducesTo_S8x128x1024_S128x1024_d0 h_S_ = G1
  obtain rfl | rfl : l = 0 ∨ l = 1 := by omega
  · pointwise
  · pointwise

/-- The reference's run: its results are the same functions of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = Ad27.gOf (m ((c.tc : Thread nD τ).loc main_arg0)) (m ((c.tc : Thread nD τ).loc main_arg1))
      ∧ r.2.mem ((c.tc : Thread nD τ).loc main_v30) = Ad27.dOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v11) = Ad27.mOf (m ((c.tc : Thread nD τ).loc main_arg0)) (m ((c.tc : Thread nD τ).loc main_arg1)) (m ((c.tc : Thread nD τ).loc main_arg3))
      ∧ r.2.mem ((c.tc : Thread nD τ).loc main_v17) = Ad27.vOf (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r hr c => ?_) (Cert.Reference27Ideal.Value.run (F := Ideal) m ρ)
  refine ⟨(hr c).1.trans ?_, (hr c).2.1.trans ?_, (hr c).2.2.1.trans ?_, (hr c).2.2.2.1.trans ?_, (hr c).2.2.2.2⟩
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize m ((c.tc : Thread nD τ).loc main_arg4) = a4
    rw [show concatenate S2x128x1024 0 _ _ = stack a0 a1 from rfl]
    generalize hG : stack a0 a1 = G
    have hg : ∀ l i x, Ad27.g a0 a1 l i x = G (ix3 l i x) := fun l i x => by
      rw [← hG]
      exact (stack_apply a0 a1 l i x).symm
    clear hG
    refine funext fun (z : S2x128x1024.Idx) => ?_
    obtain ⟨l, i, x, rfl⟩ : ∃ l i x, z = ix3 l i x := ⟨z 0, z 1, z 2, eq_ix3 z⟩
    simp only [Ad27.gOf]
    rw [show Ad27.g a0 a1 (ix3 (n0 := 2) (n1 := 128) (n2 := 1024) l i x 0) (ix3 (n0 := 2) (n1 := 128) (n2 := 1024) l i x 1) (ix3 (n0 := 2) (n1 := 128) (n2 := 1024) l i x 2) = G (ix3 l i x) from hg l i x]
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize m ((c.tc : Thread nD τ).loc main_arg4) = a4
    rw [show concatenate S2x128x1024 0 _ _ = stack a0 a1 from rfl]
    generalize hG : stack a0 a1 = G
    have hg : ∀ l i x, Ad27.g a0 a1 l i x = G (ix3 l i x) := fun l i x => by
      rw [← hG]
      exact (stack_apply a0 a1 l i x).symm
    clear hG
    refine funext fun (z : S2x128x1024.Idx) => ?_
    obtain ⟨l, i, x, rfl⟩ : ∃ l i x, z = ix3 l i x := ⟨z 0, z 1, z 2, eq_ix3 z⟩
    simp only [Ad27.dOf]
    rw [show Ad27.g a0 a1 (ix3 (n0 := 2) (n1 := 128) (n2 := 1024) l i x 0) (ix3 (n0 := 2) (n1 := 128) (n2 := 1024) l i x 1) (ix3 (n0 := 2) (n1 := 128) (n2 := 1024) l i x 2) = G (ix3 l i x) from hg l i x]
    simp only [Adam.delta, Adam.step, Adam.mean, Adam.meanSq]
    pointwise [Adam.div_d1, Adam.div_d2]
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize m ((c.tc : Thread nD τ).loc main_arg4) = a4
    rw [show concatenate S2x128x1024 0 _ _ = stack a0 a1 from rfl]
    generalize hG : stack a0 a1 = G
    have hg : ∀ l i x, Ad27.g a0 a1 l i x = G (ix3 l i x) := fun l i x => by
      rw [← hG]
      exact (stack_apply a0 a1 l i x).symm
    clear hG
    refine funext fun (z : S2x128x1024.Idx) => ?_
    obtain ⟨l, i, x, rfl⟩ : ∃ l i x, z = ix3 l i x := ⟨z 0, z 1, z 2, eq_ix3 z⟩
    simp only [Ad27.mOf]
    rw [show Ad27.g a0 a1 (ix3 (n0 := 2) (n1 := 128) (n2 := 1024) l i x 0) (ix3 (n0 := 2) (n1 := 128) (n2 := 1024) l i x 1) (ix3 (n0 := 2) (n1 := 128) (n2 := 1024) l i x 2) = G (ix3 l i x) from hg l i x]
    simp only [Adam.mean]
    pointwise
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize m ((c.tc : Thread nD τ).loc main_arg4) = a4
    rw [show concatenate S2x128x1024 0 _ _ = stack a0 a1 from rfl]
    generalize hG : stack a0 a1 = G
    have hg : ∀ l i x, Ad27.g a0 a1 l i x = G (ix3 l i x) := fun l i x => by
      rw [← hG]
      exact (stack_apply a0 a1 l i x).symm
    clear hG
    refine funext fun (z : S2x128x1024.Idx) => ?_
    obtain ⟨l, i, x, rfl⟩ : ∃ l i x, z = ix3 l i x := ⟨z 0, z 1, z 2, eq_ix3 z⟩
    simp only [Ad27.vOf]
    rw [show Ad27.g a0 a1 (ix3 (n0 := 2) (n1 := 128) (n2 := 1024) l i x 0) (ix3 (n0 := 2) (n1 := 128) (n2 := 1024) l i x 1) (ix3 (n0 := 2) (n1 := 128) (n2 := 1024) l i x 2) = G (ix3 l i x) from hg l i x]
    simp only [Adam.meanSq]
    pointwise

end Cert.Reference27Ideal.Ad

end
-- ==== Proof.Ad28.lean ====
module

public import proofs.«01_k».proof.Proof.Gen.Kernel28Ideal.Value
public import proofs.«01_k».proof.Proof.Gen.Reference28Ideal.Run
public import proofs.«01_k».proof.Proof.Adam
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ad28

open Idealize.ShloMosaic

/-- The sum of the devices' parts. -/
def gOf (A : (⟨3, ![8, 64, 128]⟩ : Shape).Idx → EReal) : (⟨2, ![64, 128]⟩ : Shape).Idx → EReal := fun z => Adam.total fun j => A (ix3 j (z 0) (z 1))

end Cert.Ad28

namespace Cert.Kernel28Ideal.Ad

open Cert.Kernel28Ideal Cert.Kernel28Ideal.Gen Idealize.ShloMosaic Idealize.ShloMosaic.TcCoe Idealize.SL.Sem

variable (m : (ℓ : Loc nD τ sig) → Buf (Elt Ideal) ℓ) (c : Dev nD)

theorem hz : (![0, 0] : Fin 2 → ℕ) = fun _ => 0 := by decide

theorem ld_part (A : Vec Ideal S8x64x128 .f32) (j : Fin 8) (inb : ∀ a, (![j.val, 0, 0] : Fin 3 → ℕ) a + S1x64x128.size a ≤ S8x64x128.size a) (i : Fin 64) (x : Fin 128) :
    View.ld A (Rect.unit (s := S8x64x128) ![j.val, 0, 0] S1x64x128.size inb) (ix3 0 i x) = A (ix3 j i x) := by
  rw [View.ld_apply]
  congr 1
  funext a
  fin_cases a <;> apply Fin.ext <;> simp

/-- The sum of the eight parts of a block. -/
def sumB (A : Vec Ideal S8x64x128 .f32) : FVec Ideal S64x128 .f32 :=
  k0_pay1 (View.ld A r0_0) (View.ld A r0_1) (View.ld A r0_2) (View.ld A r0_3) (View.ld A r0_4) (View.ld A r0_5) (View.ld A r0_6) (View.ld A r0_7)

theorem sumB_apply (A : Vec Ideal S8x64x128 .f32) (i : Fin 64) (x : Fin 128) : sumB A (ix2 i x) = Adam.total fun j => A (ix3 j i x) := by
  unfold sumB
  pointwise [k0_pay1, Adam.total]

theorem block (t : Fin cfg0.N) (y : S64x128.Idx) : out0_1 (F := Ideal) (iblk m c 0 t) y = sumB (iblk m c 0 t) y := by
  unfold out0_1
  rw [View.canon_unit_zero hz]
  rfl

theorem idx0 : ∀ t : Fin cfg0.N, win0_0.index t = ![0, 0, 0] := (by decide +kernel : ∀ t : Fin grid0.N, _)
theorem idx1 : ∀ t : Fin cfg0.N, win0_1.index t = ![0, 0] := (by decide +kernel : ∀ t : Fin grid0.N, _)

theorem in0_apply (t : Fin cfg0.N) (j : Fin 8) (i : Fin 64) (x : Fin 128) : iblk m c 0 t (ix3 j i x) = m ⟨c, main_arg0⟩ (ix3 j i x) := by
  blk_point [iblk, V, idx0 t]

theorem g_val (t : Fin cfg0.N) (i : Fin 64) (x : Fin 128) : (Adam.total fun j => iblk m c 0 t (ix3 j i x)) = Adam.total fun j => m ⟨c, main_arg0⟩ (ix3 j i x) :=
  congrArg Adam.total (funext fun j => in0_apply m c t j i x)

theorem g_arr : (dats m 0 c).arrAt 1 cfg0.N = Ad28.gOf (m ⟨c, main_arg0⟩) := by
  refine (dats m 0 c).arrAt_eq_of_covers 1 _ (by decide +kernel) fun t hf y => ?_
  blk_simp
  rw [after0_1]
  have hz : (win0_1.blk t).view.emb y = ix2 (n0 := 64) (n1 := 128) (y 0) (y 1) := by
    blk_ext [idx1 t]
  have hy : y = ix2 (n0 := 64) (n1 := 128) (y 0) (y 1) := by
    blk_ext [idx1 t]
  rw [block m c t y, hz]
  refine (congrArg _ hy).trans ((sumB_apply _ _ _).trans ?_)
  exact g_val m c t (y 0) (y 1)

end Cert.Kernel28Ideal.Ad

namespace Cert.Reference28Ideal.Ad

open Cert.Reference28Ideal Cert.Reference28Ideal.Gen Cert.Reference28Ideal.Value Idealize.ShloMosaic Idealize.ShloMosaic.TcCoe Idealize.SL.Sem

/-- The reference's run: its result is the same function of its argument. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = Ad28.gOf (m ((c.tc : Thread nD τ).loc main_arg0))
      ∧ r.2.mem ((c.tc : Thread nD τ).loc main_arg0) = m ((c.tc : Thread nD τ).loc main_arg0) := by
  refine (θ_run defs _ _).mono (fun r hr c => ?_) (Cert.Reference28Ideal.Value.run (F := Ideal) m ρ)
  refine ⟨(hr c).1.trans ?_, (hr c).2⟩
  clear hr
  generalize m ((c.tc : Thread nD τ).loc main_arg0) = a0
  refine funext fun (z : S64x128.Idx) => ?_
  obtain ⟨i, x, rfl⟩ : ∃ i x, z = ix2 i x := ⟨z 0, z 1, eq_ix2 z⟩
  refine Eq.trans ?_ (Adam.total_eq fun j => a0 (ix3 j i x))
  pointwise

end Cert.Reference28Ideal.Ad

end
-- ==== Proof.Ad29.lean ====
module

public import proofs.«01_k».proof.Proof.Gen.Kernel29Ideal.Value
public import proofs.«01_k».proof.Proof.Gen.Reference29Ideal.Run
public import proofs.«01_k».proof.Proof.Adam
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ad29

open Idealize.ShloMosaic

/-- The first running mean. -/
def mOf (G M : (⟨2, ![64, 128]⟩ : Shape).Idx → EReal) : (⟨2, ![64, 128]⟩ : Shape).Idx → EReal := fun z => Adam.mean (G z) (M z)

/-- The second running mean. -/
def vOf (G V : (⟨2, ![64, 128]⟩ : Shape).Idx → EReal) : (⟨2, ![64, 128]⟩ : Shape).Idx → EReal := fun z => Adam.meanSq (G z) (V z)

/-- The step. -/
def dOf (G W M V : (⟨2, ![64, 128]⟩ : Shape).Idx → EReal) : (⟨2, ![64, 128]⟩ : Shape).Idx → EReal := fun z => Adam.delta (G z) (W z) (M z) (V z)

end Cert.Ad29

namespace Cert.Kernel29Ideal.Ad

open Cert.Kernel29Ideal Cert.Kernel29Ideal.Gen Idealize.ShloMosaic Idealize.ShloMosaic.TcCoe Idealize.SL.Sem

variable (m : (ℓ : Loc nD τ sig) → Buf (Elt Ideal) ℓ) (c : Dev nD)

theorem hz : (![0, 0] : Fin 2 → ℕ) = fun _ => 0 := by decide

theorem c1 : Named.named (F := Ideal) κ "c1" (φ := .f32) 0x3FC48605#32 = ((8388608 / 5463681 : ℝ) : EReal) :=
  IdealRules.named_const.ideal_named_scalar _ _ _ _ rfl

theorem c2 : Named.named (F := Ideal) κ "c2" (φ := .f32) 0x42C8E6D3#32 = ((268435456 / 2672307 : ℝ) : EReal) :=
  IdealRules.named_const.ideal_named_scalar _ _ _ _ rfl

theorem m_pay (G M : Vec Ideal S64x128 .f32) (i : Fin 64) (x : Fin 128) : k0_pay1 G M (ix2 i x) = Adam.mean (G (ix2 i x)) (M (ix2 i x)) := by
  unfold Adam.mean
  pointwise [k0_pay1]

theorem v_pay (G V : Vec Ideal S64x128 .f32) (i : Fin 64) (x : Fin 128) : k0_pay2 G V (ix2 i x) = Adam.meanSq (G (ix2 i x)) (V (ix2 i x)) := by
  unfold Adam.meanSq
  pointwise [k0_pay2]

theorem d_pay (G W M V : Vec Ideal S64x128 .f32) (i : Fin 64) (x : Fin 128) :
    k0_pay3 G M V W (ix2 i x) = Adam.delta (G (ix2 i x)) (W (ix2 i x)) (M (ix2 i x)) (V (ix2 i x)) := by
  unfold Adam.delta Adam.step Adam.mean Adam.meanSq
  pointwise [k0_pay3, k0_pay1, k0_pay2, c1, c2]

theorem d_block (t : Fin cfg0.N) (y : S64x128.Idx) : out0_4 (F := Ideal) (iblk m c 0 t) (iblk m c 1 t) (iblk m c 2 t) (iblk m c 3 t) y = k0_pay3 (iblk m c 0 t) (iblk m c 2 t) (iblk m c 3 t) (iblk m c 1 t) y := by
  unfold out0_4
  rw [View.canon_unit_zero hz]
  simp only [View.ld_unit_zero (S := S64x128) hz]

theorem m_block (t : Fin cfg0.N) (y : S64x128.Idx) : out0_5 (F := Ideal) (iblk m c 0 t) (iblk m c 1 t) (iblk m c 2 t) (iblk m c 3 t) y = k0_pay1 (iblk m c 0 t) (iblk m c 2 t) y := by
  unfold out0_5
  rw [View.canon_unit_zero hz]
  simp only [View.ld_unit_zero (S := S64x128) hz]

theorem v_block (t : Fin cfg0.N) (y : S64x128.Idx) : out0_6 (F := Ideal) (iblk m c 0 t) (iblk m c 1 t) (iblk m c 2 t) (iblk m c 3 t) y = k0_pay2 (iblk m c 0 t) (iblk m c 3 t) y := by
  unfold out0_6
  rw [View.canon_unit_zero hz]
  simp only [View.ld_unit_zero (S := S64x128) hz]

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

theorem in0_apply (t : Fin cfg0.N) (i : Fin 64) (x : Fin 128) : iblk m c 0 t (ix2 i x) = m ⟨c, main_arg0⟩ (ix2 i x) := by
  blk_point [iblk, V, idx0 t]

theorem in1_apply (t : Fin cfg0.N) (i : Fin 64) (x : Fin 128) : iblk m c 1 t (ix2 i x) = m ⟨c, main_arg1⟩ (ix2 i x) := by
  blk_point [iblk, V, idx1 t]

theorem in2_apply (t : Fin cfg0.N) (i : Fin 64) (x : Fin 128) : iblk m c 2 t (ix2 i x) = m ⟨c, main_arg2⟩ (ix2 i x) := by
  blk_point [iblk, V, idx2 t]

theorem in3_apply (t : Fin cfg0.N) (i : Fin 64) (x : Fin 128) : iblk m c 3 t (ix2 i x) = m ⟨c, main_arg3⟩ (ix2 i x) := by
  blk_point [iblk, V, idx3 t]

theorem d_val (t : Fin cfg0.N) (i : Fin 64) (x : Fin 128) : Adam.delta (iblk m c 0 t (ix2 i x)) (iblk m c 1 t (ix2 i x)) (iblk m c 2 t (ix2 i x)) (iblk m c 3 t (ix2 i x))
    = Adam.delta (m ⟨c, main_arg0⟩ (ix2 i x)) (m ⟨c, main_arg1⟩ (ix2 i x)) (m ⟨c, main_arg2⟩ (ix2 i x)) (m ⟨c, main_arg3⟩ (ix2 i x)) := by
  rw [in0_apply m c t, in1_apply m c t, in2_apply m c t, in3_apply m c t]

theorem d_arr : (dats m 0 c).arrAt 4 cfg0.N = Ad29.dOf (m ⟨c, main_arg0⟩) (m ⟨c, main_arg1⟩) (m ⟨c, main_arg2⟩) (m ⟨c, main_arg3⟩) := by
  refine (dats m 0 c).arrAt_eq_of_covers 4 _ (by decide +kernel) fun t hf y => ?_
  blk_simp
  rw [after0_4]
  have hz : (win0_4.blk t).view.emb y = ix2 (n0 := 64) (n1 := 128) (y 0) (y 1) := by
    blk_ext [idx4 t]
  have hy : y = ix2 (n0 := 64) (n1 := 128) (y 0) (y 1) := by
    blk_ext [idx4 t]
  rw [d_block m c t y, hz]
  refine (congrArg _ hy).trans ((d_pay _ _ _ _ _ _).trans ?_)
  exact d_val m c t (y 0) (y 1)

theorem m_val (t : Fin cfg0.N) (i : Fin 64) (x : Fin 128) : Adam.mean (iblk m c 0 t (ix2 i x)) (iblk m c 2 t (ix2 i x))
    = Adam.mean (m ⟨c, main_arg0⟩ (ix2 i x)) (m ⟨c, main_arg2⟩ (ix2 i x)) := by
  rw [in0_apply m c t, in2_apply m c t]

theorem m_arr : (dats m 0 c).arrAt 5 cfg0.N = Ad29.mOf (m ⟨c, main_arg0⟩) (m ⟨c, main_arg2⟩) := by
  refine (dats m 0 c).arrAt_eq_of_covers 5 _ (by decide +kernel) fun t hf y => ?_
  blk_simp
  rw [after0_5]
  have hz : (win0_5.blk t).view.emb y = ix2 (n0 := 64) (n1 := 128) (y 0) (y 1) := by
    blk_ext [idx5 t]
  have hy : y = ix2 (n0 := 64) (n1 := 128) (y 0) (y 1) := by
    blk_ext [idx5 t]
  rw [m_block m c t y, hz]
  refine (congrArg _ hy).trans ((m_pay _ _ _ _).trans ?_)
  exact m_val m c t (y 0) (y 1)

theorem v_val (t : Fin cfg0.N) (i : Fin 64) (x : Fin 128) : Adam.meanSq (iblk m c 0 t (ix2 i x)) (iblk m c 3 t (ix2 i x))
    = Adam.meanSq (m ⟨c, main_arg0⟩ (ix2 i x)) (m ⟨c, main_arg3⟩ (ix2 i x)) := by
  rw [in0_apply m c t, in3_apply m c t]

theorem v_arr : (dats m 0 c).arrAt 6 cfg0.N = Ad29.vOf (m ⟨c, main_arg0⟩) (m ⟨c, main_arg3⟩) := by
  refine (dats m 0 c).arrAt_eq_of_covers 6 _ (by decide +kernel) fun t hf y => ?_
  blk_simp
  rw [after0_6]
  have hz : (win0_6.blk t).view.emb y = ix2 (n0 := 64) (n1 := 128) (y 0) (y 1) := by
    blk_ext [idx6 t]
  have hy : y = ix2 (n0 := 64) (n1 := 128) (y 0) (y 1) := by
    blk_ext [idx6 t]
  rw [v_block m c t y, hz]
  refine (congrArg _ hy).trans ((v_pay _ _ _ _).trans ?_)
  exact v_val m c t (y 0) (y 1)

end Cert.Kernel29Ideal.Ad

namespace Cert.Reference29Ideal.Ad

open Cert.Reference29Ideal Cert.Reference29Ideal.Gen Cert.Reference29Ideal.Value Idealize.ShloMosaic Idealize.ShloMosaic.TcCoe Idealize.SL.Sem

/-- The reference's run: its results are the same functions of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = Ad29.dOf (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = Ad29.mOf (m ((c.tc : Thread nD τ).loc main_arg0)) (m ((c.tc : Thread nD τ).loc main_arg2))
      ∧ r.2.mem ((c.tc : Thread nD τ).loc main_v10) = Ad29.vOf (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r hr c => ?_) (Cert.Reference29Ideal.Value.run (F := Ideal) m ρ)
  refine ⟨(hr c).1.trans ?_, (hr c).2.1.trans ?_, (hr c).2.2.1.trans ?_, (hr c).2.2.2⟩
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    refine funext fun (z : S64x128.Idx) => ?_
    obtain ⟨i, x, rfl⟩ : ∃ i x, z = ix2 i x := ⟨z 0, z 1, eq_ix2 z⟩
    simp only [Ad29.dOf, Adam.delta, Adam.step, Adam.mean, Adam.meanSq]
    pointwise [Adam.div_d1, Adam.div_d2]
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    refine funext fun (z : S64x128.Idx) => ?_
    obtain ⟨i, x, rfl⟩ : ∃ i x, z = ix2 i x := ⟨z 0, z 1, eq_ix2 z⟩
    simp only [Ad29.mOf, Adam.mean]
    pointwise
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    refine funext fun (z : S64x128.Idx) => ?_
    obtain ⟨i, x, rfl⟩ : ∃ i x, z = ix2 i x := ⟨z 0, z 1, eq_ix2 z⟩
    simp only [Ad29.vOf, Adam.meanSq]
    pointwise

end Cert.Reference29Ideal.Ad

end
-- ==== Proof.Ad30.lean ====
module

public import proofs.«01_k».proof.Proof.Gen.Kernel30Ideal.Value
public import proofs.«01_k».proof.Proof.Gen.Reference30Ideal.Run
public import proofs.«01_k».proof.Proof.Adam
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ad30

open Idealize.ShloMosaic

/-- The sum of the devices' parts. -/
def gOf (A : (⟨3, ![8, 48, 128]⟩ : Shape).Idx → EReal) : (⟨2, ![48, 128]⟩ : Shape).Idx → EReal := fun z => Adam.total fun j => A (ix3 j (z 0) (z 1))

end Cert.Ad30

namespace Cert.Kernel30Ideal.Ad

open Cert.Kernel30Ideal Cert.Kernel30Ideal.Gen Idealize.ShloMosaic Idealize.ShloMosaic.TcCoe Idealize.SL.Sem

variable (m : (ℓ : Loc nD τ sig) → Buf (Elt Ideal) ℓ) (c : Dev nD)

theorem hz : (![0, 0] : Fin 2 → ℕ) = fun _ => 0 := by decide

theorem ld_part (A : Vec Ideal S8x48x128 .f32) (j : Fin 8) (inb : ∀ a, (![j.val, 0, 0] : Fin 3 → ℕ) a + S1x48x128.size a ≤ S8x48x128.size a) (i : Fin 48) (x : Fin 128) :
    View.ld A (Rect.unit (s := S8x48x128) ![j.val, 0, 0] S1x48x128.size inb) (ix3 0 i x) = A (ix3 j i x) := by
  rw [View.ld_apply]
  congr 1
  funext a
  fin_cases a <;> apply Fin.ext <;> simp

/-- The sum of the eight parts of a block. -/
def sumB (A : Vec Ideal S8x48x128 .f32) : FVec Ideal S48x128 .f32 :=
  k0_pay1 (View.ld A r0_0) (View.ld A r0_1) (View.ld A r0_2) (View.ld A r0_3) (View.ld A r0_4) (View.ld A r0_5) (View.ld A r0_6) (View.ld A r0_7)

theorem sumB_apply (A : Vec Ideal S8x48x128 .f32) (i : Fin 48) (x : Fin 128) : sumB A (ix2 i x) = Adam.total fun j => A (ix3 j i x) := by
  unfold sumB
  pointwise [k0_pay1, Adam.total]

theorem block (t : Fin cfg0.N) (y : S48x128.Idx) : out0_1 (F := Ideal) (iblk m c 0 t) y = sumB (iblk m c 0 t) y := by
  unfold out0_1
  rw [View.canon_unit_zero hz]
  rfl

theorem idx0 : ∀ t : Fin cfg0.N, win0_0.index t = ![0, 0, 0] := (by decide +kernel : ∀ t : Fin grid0.N, _)
theorem idx1 : ∀ t : Fin cfg0.N, win0_1.index t = ![0, 0] := (by decide +kernel : ∀ t : Fin grid0.N, _)

theorem in0_apply (t : Fin cfg0.N) (j : Fin 8) (i : Fin 48) (x : Fin 128) : iblk m c 0 t (ix3 j i x) = m ⟨c, main_arg0⟩ (ix3 j i x) := by
  blk_point [iblk, V, idx0 t]

theorem g_val (t : Fin cfg0.N) (i : Fin 48) (x : Fin 128) : (Adam.total fun j => iblk m c 0 t (ix3 j i x)) = Adam.total fun j => m ⟨c, main_arg0⟩ (ix3 j i x) :=
  congrArg Adam.total (funext fun j => in0_apply m c t j i x)

theorem g_arr : (dats m 0 c).arrAt 1 cfg0.N = Ad30.gOf (m ⟨c, main_arg0⟩) := by
  refine (dats m 0 c).arrAt_eq_of_covers 1 _ (by decide +kernel) fun t hf y => ?_
  blk_simp
  rw [after0_1]
  have hz : (win0_1.blk t).view.emb y = ix2 (n0 := 48) (n1 := 128) (y 0) (y 1) := by
    blk_ext [idx1 t]
  have hy : y = ix2 (n0 := 48) (n1 := 128) (y 0) (y 1) := by
    blk_ext [idx1 t]
  rw [block m c t y, hz]
  refine (congrArg _ hy).trans ((sumB_apply _ _ _).trans ?_)
  exact g_val m c t (y 0) (y 1)

end Cert.Kernel30Ideal.Ad

namespace Cert.Reference30Ideal.Ad

open Cert.Reference30Ideal Cert.Reference30Ideal.Gen Cert.Reference30Ideal.Value Idealize.ShloMosaic Idealize.ShloMosaic.TcCoe Idealize.SL.Sem

/-- The reference's run: its result is the same function of its argument. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = Ad30.gOf (m ((c.tc : Thread nD τ).loc main_arg0))
      ∧ r.2.mem ((c.tc : Thread nD τ).loc main_arg0) = m ((c.tc : Thread nD τ).loc main_arg0) := by
  refine (θ_run defs _ _).mono (fun r hr c => ?_) (Cert.Reference30Ideal.Value.run (F := Ideal) m ρ)
  refine ⟨(hr c).1.trans ?_, (hr c).2⟩
  clear hr
  generalize m ((c.tc : Thread nD τ).loc main_arg0) = a0
  refine funext fun (z : S48x128.Idx) => ?_
  obtain ⟨i, x, rfl⟩ : ∃ i x, z = ix2 i x := ⟨z 0, z 1, eq_ix2 z⟩
  refine Eq.trans ?_ (Adam.total_eq fun j => a0 (ix3 j i x))
  pointwise

end Cert.Reference30Ideal.Ad

end
-- ==== Proof.Ad31.lean ====
module

public import proofs.«01_k».proof.Proof.Gen.Kernel31Ideal.Value
public import proofs.«01_k».proof.Proof.Gen.Reference31Ideal.Run
public import proofs.«01_k».proof.Proof.Adam
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ad31

open Idealize.ShloMosaic

/-- The first running mean. -/
def mOf (G M : (⟨2, ![48, 128]⟩ : Shape).Idx → EReal) : (⟨2, ![48, 128]⟩ : Shape).Idx → EReal := fun z => Adam.mean (G z) (M z)

/-- The second running mean. -/
def vOf (G V : (⟨2, ![48, 128]⟩ : Shape).Idx → EReal) : (⟨2, ![48, 128]⟩ : Shape).Idx → EReal := fun z => Adam.meanSq (G z) (V z)

/-- The step. -/
def dOf (G W M V : (⟨2, ![48, 128]⟩ : Shape).Idx → EReal) : (⟨2, ![48, 128]⟩ : Shape).Idx → EReal := fun z => Adam.delta (G z) (W z) (M z) (V z)

end Cert.Ad31

namespace Cert.Kernel31Ideal.Ad

open Cert.Kernel31Ideal Cert.Kernel31Ideal.Gen Idealize.ShloMosaic Idealize.ShloMosaic.TcCoe Idealize.SL.Sem

variable (m : (ℓ : Loc nD τ sig) → Buf (Elt Ideal) ℓ) (c : Dev nD)

theorem hz : (![0, 0] : Fin 2 → ℕ) = fun _ => 0 := by decide

theorem c1 : Named.named (F := Ideal) κ "c1" (φ := .f32) 0x3FC48605#32 = ((8388608 / 5463681 : ℝ) : EReal) :=
  IdealRules.named_const.ideal_named_scalar _ _ _ _ rfl

theorem c2 : Named.named (F := Ideal) κ "c2" (φ := .f32) 0x42C8E6D3#32 = ((268435456 / 2672307 : ℝ) : EReal) :=
  IdealRules.named_const.ideal_named_scalar _ _ _ _ rfl

theorem m_pay (G M : Vec Ideal S48x128 .f32) (i : Fin 48) (x : Fin 128) : k0_pay1 G M (ix2 i x) = Adam.mean (G (ix2 i x)) (M (ix2 i x)) := by
  unfold Adam.mean
  pointwise [k0_pay1]

theorem v_pay (G V : Vec Ideal S48x128 .f32) (i : Fin 48) (x : Fin 128) : k0_pay2 G V (ix2 i x) = Adam.meanSq (G (ix2 i x)) (V (ix2 i x)) := by
  unfold Adam.meanSq
  pointwise [k0_pay2]

theorem d_pay (G W M V : Vec Ideal S48x128 .f32) (i : Fin 48) (x : Fin 128) :
    k0_pay3 G M V W (ix2 i x) = Adam.delta (G (ix2 i x)) (W (ix2 i x)) (M (ix2 i x)) (V (ix2 i x)) := by
  unfold Adam.delta Adam.step Adam.mean Adam.meanSq
  pointwise [k0_pay3, k0_pay1, k0_pay2, c1, c2]

theorem d_block (t : Fin cfg0.N) (y : S48x128.Idx) : out0_4 (F := Ideal) (iblk m c 0 t) (iblk m c 1 t) (iblk m c 2 t) (iblk m c 3 t) y = k0_pay3 (iblk m c 0 t) (iblk m c 2 t) (iblk m c 3 t) (iblk m c 1 t) y := by
  unfold out0_4
  rw [View.canon_unit_zero hz]
  simp only [View.ld_unit_zero (S := S48x128) hz]

theorem m_block (t : Fin cfg0.N) (y : S48x128.Idx) : out0_5 (F := Ideal) (iblk m c 0 t) (iblk m c 1 t) (iblk m c 2 t) (iblk m c 3 t) y = k0_pay1 (iblk m c 0 t) (iblk m c 2 t) y := by
  unfold out0_5
  rw [View.canon_unit_zero hz]
  simp only [View.ld_unit_zero (S := S48x128) hz]

theorem v_block (t : Fin cfg0.N) (y : S48x128.Idx) : out0_6 (F := Ideal) (iblk m c 0 t) (iblk m c 1 t) (iblk m c 2 t) (iblk m c 3 t) y = k0_pay2 (iblk m c 0 t) (iblk m c 3 t) y := by
  unfold out0_6
  rw [View.canon_unit_zero hz]
  simp only [View.ld_unit_zero (S := S48x128) hz]

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

theorem in0_apply (t : Fin cfg0.N) (i : Fin 48) (x : Fin 128) : iblk m c 0 t (ix2 i x) = m ⟨c, main_arg0⟩ (ix2 i x) := by
  blk_point [iblk, V, idx0 t]

theorem in1_apply (t : Fin cfg0.N) (i : Fin 48) (x : Fin 128) : iblk m c 1 t (ix2 i x) = m ⟨c, main_arg1⟩ (ix2 i x) := by
  blk_point [iblk, V, idx1 t]

theorem in2_apply (t : Fin cfg0.N) (i : Fin 48) (x : Fin 128) : iblk m c 2 t (ix2 i x) = m ⟨c, main_arg2⟩ (ix2 i x) := by
  blk_point [iblk, V, idx2 t]

theorem in3_apply (t : Fin cfg0.N) (i : Fin 48) (x : Fin 128) : iblk m c 3 t (ix2 i x) = m ⟨c, main_arg3⟩ (ix2 i x) := by
  blk_point [iblk, V, idx3 t]

theorem d_val (t : Fin cfg0.N) (i : Fin 48) (x : Fin 128) : Adam.delta (iblk m c 0 t (ix2 i x)) (iblk m c 1 t (ix2 i x)) (iblk m c 2 t (ix2 i x)) (iblk m c 3 t (ix2 i x))
    = Adam.delta (m ⟨c, main_arg0⟩ (ix2 i x)) (m ⟨c, main_arg1⟩ (ix2 i x)) (m ⟨c, main_arg2⟩ (ix2 i x)) (m ⟨c, main_arg3⟩ (ix2 i x)) := by
  rw [in0_apply m c t, in1_apply m c t, in2_apply m c t, in3_apply m c t]

theorem d_arr : (dats m 0 c).arrAt 4 cfg0.N = Ad31.dOf (m ⟨c, main_arg0⟩) (m ⟨c, main_arg1⟩) (m ⟨c, main_arg2⟩) (m ⟨c, main_arg3⟩) := by
  refine (dats m 0 c).arrAt_eq_of_covers 4 _ (by decide +kernel) fun t hf y => ?_
  blk_simp
  rw [after0_4]
  have hz : (win0_4.blk t).view.emb y = ix2 (n0 := 48) (n1 := 128) (y 0) (y 1) := by
    blk_ext [idx4 t]
  have hy : y = ix2 (n0 := 48) (n1 := 128) (y 0) (y 1) := by
    blk_ext [idx4 t]
  rw [d_block m c t y, hz]
  refine (congrArg _ hy).trans ((d_pay _ _ _ _ _ _).trans ?_)
  exact d_val m c t (y 0) (y 1)

theorem m_val (t : Fin cfg0.N) (i : Fin 48) (x : Fin 128) : Adam.mean (iblk m c 0 t (ix2 i x)) (iblk m c 2 t (ix2 i x))
    = Adam.mean (m ⟨c, main_arg0⟩ (ix2 i x)) (m ⟨c, main_arg2⟩ (ix2 i x)) := by
  rw [in0_apply m c t, in2_apply m c t]

theorem m_arr : (dats m 0 c).arrAt 5 cfg0.N = Ad31.mOf (m ⟨c, main_arg0⟩) (m ⟨c, main_arg2⟩) := by
  refine (dats m 0 c).arrAt_eq_of_covers 5 _ (by decide +kernel) fun t hf y => ?_
  blk_simp
  rw [after0_5]
  have hz : (win0_5.blk t).view.emb y = ix2 (n0 := 48) (n1 := 128) (y 0) (y 1) := by
    blk_ext [idx5 t]
  have hy : y = ix2 (n0 := 48) (n1 := 128) (y 0) (y 1) := by
    blk_ext [idx5 t]
  rw [m_block m c t y, hz]
  refine (congrArg _ hy).trans ((m_pay _ _ _ _).trans ?_)
  exact m_val m c t (y 0) (y 1)

theorem v_val (t : Fin cfg0.N) (i : Fin 48) (x : Fin 128) : Adam.meanSq (iblk m c 0 t (ix2 i x)) (iblk m c 3 t (ix2 i x))
    = Adam.meanSq (m ⟨c, main_arg0⟩ (ix2 i x)) (m ⟨c, main_arg3⟩ (ix2 i x)) := by
  rw [in0_apply m c t, in3_apply m c t]

theorem v_arr : (dats m 0 c).arrAt 6 cfg0.N = Ad31.vOf (m ⟨c, main_arg0⟩) (m ⟨c, main_arg3⟩) := by
  refine (dats m 0 c).arrAt_eq_of_covers 6 _ (by decide +kernel) fun t hf y => ?_
  blk_simp
  rw [after0_6]
  have hz : (win0_6.blk t).view.emb y = ix2 (n0 := 48) (n1 := 128) (y 0) (y 1) := by
    blk_ext [idx6 t]
  have hy : y = ix2 (n0 := 48) (n1 := 128) (y 0) (y 1) := by
    blk_ext [idx6 t]
  rw [v_block m c t y, hz]
  refine (congrArg _ hy).trans ((v_pay _ _ _ _).trans ?_)
  exact v_val m c t (y 0) (y 1)

end Cert.Kernel31Ideal.Ad

namespace Cert.Reference31Ideal.Ad

open Cert.Reference31Ideal Cert.Reference31Ideal.Gen Cert.Reference31Ideal.Value Idealize.ShloMosaic Idealize.ShloMosaic.TcCoe Idealize.SL.Sem

/-- The reference's run: its results are the same functions of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = Ad31.dOf (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = Ad31.mOf (m ((c.tc : Thread nD τ).loc main_arg0)) (m ((c.tc : Thread nD τ).loc main_arg2))
      ∧ r.2.mem ((c.tc : Thread nD τ).loc main_v10) = Ad31.vOf (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r hr c => ?_) (Cert.Reference31Ideal.Value.run (F := Ideal) m ρ)
  refine ⟨(hr c).1.trans ?_, (hr c).2.1.trans ?_, (hr c).2.2.1.trans ?_, (hr c).2.2.2⟩
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    refine funext fun (z : S48x128.Idx) => ?_
    obtain ⟨i, x, rfl⟩ : ∃ i x, z = ix2 i x := ⟨z 0, z 1, eq_ix2 z⟩
    simp only [Ad31.dOf, Adam.delta, Adam.step, Adam.mean, Adam.meanSq]
    pointwise [Adam.div_d1, Adam.div_d2]
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    refine funext fun (z : S48x128.Idx) => ?_
    obtain ⟨i, x, rfl⟩ : ∃ i x, z = ix2 i x := ⟨z 0, z 1, eq_ix2 z⟩
    simp only [Ad31.mOf, Adam.mean]
    pointwise
  · clear hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    refine funext fun (z : S48x128.Idx) => ?_
    obtain ⟨i, x, rfl⟩ : ∃ i x, z = ix2 i x := ⟨z 0, z 1, eq_ix2 z⟩
    simp only [Ad31.vOf, Adam.meanSq]
    pointwise

end Cert.Reference31Ideal.Ad

end
-- ==== Proof.Fl32.lean ====
module

public import proofs.«01_k».proof.Proof.Gen.Kernel32Ideal.Frame
public import proofs.«01_k».proof.Proof.Gen.Reference32Ideal.Run
public import proofs.«01_k».proof.Proof.Rms
public import Idealize.ShloMosaic.Lib.Pipeline.ValueKit
public import Idealize.ShloMosaic.Lib.Pipeline.ReadBack
public import Idealize.ShloMosaic.Lib.Pointwise

@[expose] public section

set_option maxRecDepth 16384

noncomputable section

/-! The loss of one sequence: half the sum over the tokens of the mean squared distance from the target of the normed
    last hidden state, and its gradient at the hidden state and at the norm's weight. -/

namespace Cert.Head

open Idealize.ShloMosaic

/-- The distance of one normed row from its target. -/
def err (h w t : Fin 1024 → EReal) (j : Fin 1024) : EReal := h j * Rms.inv h * w j - t j

/-- A row's squared distance. -/
def sq (h w t : Fin 1024 → EReal) : EReal := ∑ x, err h w t x * err h w t x

/-- The loss's gradient at the normed row. -/
def gOut (h w t : Fin 1024 → EReal) (j : Fin 1024) : EReal := err h w t j * Ideal.ofBits .f32 0x3A800000#32

theorem c1 : Ideal.ofBits .f32 0x3F800000#32 = ((1 : ℝ) : EReal) := by
  simp [Ideal.ofBits, Ideal.ieee, -EReal.coe_mul]; norm_num

theorem c2 : Ideal.ofBits .f32 0x40000000#32 = ((2 : ℝ) : EReal) := by
  simp [Ideal.ofBits, Ideal.ieee, -EReal.coe_mul]; norm_num

theorem cHalf : Ideal.ofBits .f32 0x3F000000#32 = ((1 / 2 : ℝ) : EReal) := by
  simp [Ideal.ofBits, Ideal.ieee, -EReal.coe_mul]; norm_num

theorem c2048 : Ideal.ofBits .f32 0x3A000000#32 = ((1 / 2048 : ℝ) : EReal) := by
  simp [Ideal.ofBits, Ideal.ieee, -EReal.coe_mul]; norm_num

/-- The chain rule's factors in front of a distance. -/
theorem factor (e : EReal) :
    Ideal.div (Ideal.ofBits .f32 0x3F000000#32 * Ideal.ofBits .f32 0x3F800000#32) (Ideal.ofBits .f32 0x44800000#32) * (Ideal.ofBits .f32 0x40000000#32 * e)
      = e * Ideal.ofBits .f32 0x3A800000#32 := by
  rw [cHalf, c1, c2, Rms.c1024, Rms.cInv, Ideal.div_coe (by norm_num), ← mul_assoc, ← EReal.coe_mul, ← EReal.coe_mul, ← EReal.coe_mul, mul_comm]
  congr 2
  norm_num

/-- A factor that is no negative number and not infinite goes into a sum. -/
theorem mul_sum {ι : Type} (s : Finset ι) (f : ι → EReal) (r : EReal) (h0 : 0 ≤ r) (ht : r ≠ ⊤) : r * ∑ x ∈ s, f x = ∑ x ∈ s, r * f x := by
  induction s using Finset.cons_induction with
  | empty => simp
  | cons a s ha ih => rw [Finset.sum_cons, Finset.sum_cons, EReal.left_distrib_of_nonneg_of_ne_top h0 ht, ih]

theorem inv_nonneg (h : Fin 1024 → EReal) : 0 ≤ Rms.inv h ∧ Rms.inv h ≠ ⊤ := by
  obtain ⟨e, he, hE⟩ := Rms.cEps
  rcases Rms.real_or_top h with ht | ⟨r, hr⟩
  · have hm : Rms.meanSq h = ⊤ := by
      unfold Rms.meanSq
      rw [ht, Rms.c1024, hE, Ideal.div_coe (by norm_num), EReal.top_mul_coe_of_pos (by norm_num)]; rfl
    have hi : Rms.inv h = 0 := by unfold Rms.inv; rw [hm]; rfl
    rw [hi]
    exact ⟨le_refl _, by simp⟩
  · have hsq : (∑ x, h x * h x) = ((∑ x, r x * r x : ℝ) : EReal) := by
      rw [← Rms.coe_sum]; exact Finset.sum_congr rfl fun x _ => by rw [hr]
    have hq : 0 ≤ ∑ x, r x * r x := Finset.sum_nonneg fun x _ => _root_.mul_self_nonneg (r x)
    generalize (∑ x, r x * r x : ℝ) = q at hsq hq
    have hm : Rms.meanSq h = ((q * (1 / 1024) + e : ℝ) : EReal) := by
      unfold Rms.meanSq
      rw [hsq, Rms.c1024, hE, Ideal.div_coe (by norm_num), ← EReal.coe_mul, ← EReal.coe_add]
    have hv : 0 < q * (1 / 1024) + e := by positivity
    have hi : Rms.inv h = (((Real.sqrt (q * (1 / 1024) + e))⁻¹ : ℝ) : EReal) := by
      unfold Rms.inv; rw [hm, Ideal.rsqrt_coe, if_neg (not_lt.mpr hv.le), if_neg hv.ne']
    rw [hi]
    exact ⟨by exact_mod_cast (inv_pos.mpr (Real.sqrt_pos.mpr hv)).le, EReal.coe_ne_top _⟩

/-- The kernel's form of a row of the gradient: the mean is taken of the products with the normed row. -/
theorem rowDh_eq (g h w : Fin 1024 → EReal) (j : Fin 1024) :
    Rms.inv h * (g j * w j - h j * Rms.inv h * Ideal.div (∑ x, g x * w x * (h x * Rms.inv h)) (Ideal.ofBits .f32 0x44800000#32))
      = Rms.rowDh g h w 0 j := by
  have e : (∑ x, g x * w x * (h x * Rms.inv h)) = (∑ x, g x * w x * h x) * Rms.inv h := by
    rw [mul_comm _ (Rms.inv h), mul_sum _ _ _ (inv_nonneg h).1 (inv_nonneg h).2]
    exact Finset.sum_congr rfl fun x _ => by rw [← mul_assoc, mul_comm]
  rw [e, Rms.rowDh, Rms.c1024, Rms.cInv, Ideal.div_coe (by norm_num), add_zero]

theorem sq_nonneg (h w t : Fin 1024 → EReal) : 0 ≤ sq h w t := Finset.sum_nonneg fun x _ => Rms.mul_self_nonneg _

/-- The loss of `4096` rows. -/
def loss (H T : (⟨2, ![4096, 1024]⟩ : Shape).Idx → EReal) (w : Fin 1024 → EReal) : EReal :=
  ∑ i : Fin 4096, ((1 / 2048 : ℝ) : EReal) * sq (Rms.row H i) w (Rms.row T i)

/-- Half the sum of the rows' means, as the reference writes it. -/
theorem loss_eq (H T : (⟨2, ![4096, 1024]⟩ : Shape).Idx → EReal) (w : Fin 1024 → EReal) :
    Ideal.ofBits .f32 0x3F000000#32 * ∑ i : Fin 4096, Ideal.div (sq (Rms.row H i) w (Rms.row T i)) (Ideal.ofBits .f32 0x44800000#32) = loss H T w := by
  rw [cHalf, mul_sum _ _ _ (by exact_mod_cast (by norm_num : (0 : ℝ) ≤ 1 / 2)) (EReal.coe_ne_top _), loss]
  refine Finset.sum_congr rfl fun i _ => ?_
  rw [Rms.c1024, Ideal.div_coe (by norm_num), mul_comm _ ((1 / 1024 : ℝ) : EReal), ← mul_assoc, ← EReal.coe_mul]
  congr 2
  norm_num

/-- The gradient of the loss at the normed rows. -/
def G (H T : (⟨2, ![4096, 1024]⟩ : Shape).Idx → EReal) (w : Fin 1024 → EReal) (i : Fin 4096) (j : Fin 1024) : EReal :=
  gOut (Rms.row H i) w (Rms.row T i) j

def lossOf (H T : (⟨2, ![4096, 1024]⟩ : Shape).Idx → EReal) (w : Fin 1024 → EReal) : (⟨0, ![]⟩ : Shape).Idx → EReal := fun _ => loss H T w

def dhOf (H T : (⟨2, ![4096, 1024]⟩ : Shape).Idx → EReal) (w : Fin 1024 → EReal) : (⟨2, ![4096, 1024]⟩ : Shape).Idx → EReal :=
  Rms.dhOf (G H T w) H (fun _ => 0) w

def dwOf (H T : (⟨2, ![4096, 1024]⟩ : Shape).Idx → EReal) (w : Fin 1024 → EReal) : (⟨2, ![1, 1024]⟩ : Shape).Idx → EReal :=
  Rms.dwOf (G H T w) H

end Cert.Head

namespace Cert.Kernel32Ideal.Fl

open Cert.Kernel32Ideal Cert.Kernel32Ideal.Gen Idealize.ShloMosaic Idealize.ShloMosaic.TcCoe Idealize.SL.Sem

variable (m : (ℓ : Loc nD τ sig) → Buf (Elt Ideal) ℓ) (c : Dev nD)

theorem inv_apply (h : Vec Ideal S512x1024 .f32) (y : S512x1.Idx) : k0_pay5 h y = Rms.inv (Rms.row h (y 0)) := by
  unfold Rms.inv Rms.meanSq
  pointwise [k0_pay5]

theorem nh_apply (h : Vec Ideal S512x1024 .f32) (i : Fin 512) (x : Fin 1024) : k0_pay6 h (ix2 i x) = Rms.row h i x * Rms.inv (Rms.row h i) := by
  pointwise [k0_pay6, inv_apply]

theorem err_apply (h : Vec Ideal S512x1024 .f32) (w : Vec Ideal S1x1024 .f32) (t : Vec Ideal S512x1024 .f32) (i : Fin 512) (x : Fin 1024) :
    k0_pay7 h w t (ix2 i x) = Head.err (Rms.row h i) (Rms.row w 0) (Rms.row t i) x := by
  unfold Head.err
  pointwise [k0_pay7, nh_apply]

theorem g_apply (h : Vec Ideal S512x1024 .f32) (w : Vec Ideal S1x1024 .f32) (t : Vec Ideal S512x1024 .f32) (i : Fin 512) (x : Fin 1024) :
    k0_pay9 h w t (ix2 i x) = Head.gOut (Rms.row h i) (Rms.row w 0) (Rms.row t i) x := by
  unfold Head.gOut
  pointwise [k0_pay9, err_apply]

theorem loss_apply (h : Vec Ideal S512x1024 .f32) (w : Vec Ideal S1x1024 .f32) (t : Vec Ideal S512x1024 .f32) (y : S1x1.Idx) :
    k0_pay8 h w t y = ((1 / 2048 : ℝ) : EReal) * ∑ i : Fin 512, Head.sq (Rms.row h i) (Rms.row w 0) (Rms.row t i) := by
  unfold Head.sq
  rw [← Head.c2048]
  pointwise [k0_pay8, err_apply]

theorem dh_apply (h : Vec Ideal S512x1024 .f32) (w : Vec Ideal S1x1024 .f32) (t : Vec Ideal S512x1024 .f32) (i : Fin 512) (x : Fin 1024) :
    k0_pay10 h w t w (ix2 i x) = Rms.rowDh (Head.gOut (Rms.row h i) (Rms.row w 0) (Rms.row t i)) (Rms.row h i) (Rms.row w 0) 0 x := by
  rw [← Head.rowDh_eq]
  pointwise [k0_pay10, g_apply, nh_apply, inv_apply]

theorem dw_apply (h : Vec Ideal S512x1024 .f32) (w : Vec Ideal S1x1024 .f32) (t : Vec Ideal S512x1024 .f32) (x : Fin 1024) :
    k0_pay1 (k0_pay6 h) (k0_pay9 h w t) (ix2 0 x)
      = ∑ i : Fin 512, Head.gOut (Rms.row h i) (Rms.row w 0) (Rms.row t i) x * (Rms.row h i x * Rms.inv (Rms.row h i)) := by
  pointwise [k0_pay1, g_apply, nh_apply]

/-! ### The results of a block -/

theorem outs_A (t : Fin cfg0.N) (h0 : t.val % 8 = 0) (h1 : ¬1 ≤ t.val) :
    outsAt0 m c t.val t.isLt = (k0_pay2 (k0_pay8 (iblk m c 0 t) (iblk m c 1 t) (iblk m c 2 t)), k0_pay10 (iblk m c 0 t) (iblk m c 1 t) (iblk m c 2 t) (iblk m c 1 t),
      k0_pay1 (k0_pay6 (iblk m c 0 t)) (k0_pay9 (iblk m c 0 t) (iblk m c 1 t) (iblk m c 2 t))) := by
  rw [outsAt0_A m c t h0 h1]
  frame_out

theorem outs_B (t : Fin cfg0.N) (h0 : ¬t.val % 8 = 0) (h1 : 1 ≤ t.val) :
    outsAt0 m c t.val t.isLt = (k0_pay4 (k0_pay8 (iblk m c 0 t) (iblk m c 1 t) (iblk m c 2 t)) (outsAt0 m c (t.val - 1) (Nat.sub_lt_of_lt t.isLt)).1,
      k0_pay10 (iblk m c 0 t) (iblk m c 1 t) (iblk m c 2 t) (iblk m c 1 t),
      k0_pay3 (k0_pay6 (iblk m c 0 t)) (k0_pay9 (iblk m c 0 t) (iblk m c 1 t) (iblk m c 2 t)) (outsAt0 m c (t.val - 1) (Nat.sub_lt_of_lt t.isLt)).2.2) := by
  rw [outsAt0_B m c t h0 h1]
  frame_out

/-! ### The blocks of the grid -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)

/-- The norm's weight. -/
abbrev wt : Fin 1024 → EReal := fun x => m ⟨c, main_arg1⟩ (ix1 x)

theorem h_row (t : Fin cfg0.N) (i : Fin 512) (hi : t.val * 512 + i < 4096) :
    Rms.row (iblk m c 0 t) i = Rms.row (m ⟨c, main_arg0⟩) ⟨t.val * 512 + i, hi⟩ := funext fun x => by
  show iblk m c 0 t (ix2 i x) = m ⟨c, main_arg0⟩ (ix2 (n0 := 4096) (n1 := 1024) ⟨t.val * 512 + i, hi⟩ x)
  blk_point [iblk, V, idx0 t]

theorem V_v0 : V m c main_v0 = shapeCast S1x1024 (m ⟨c, main_arg1⟩ : FVec Ideal S1024 .f32) shapeCasts_S1024_S1x1024 := by
  show StableHlo.after hostOps0 (fun b => m (c, b)) (Proc.devRef .tc main_v0) = _
  after_results_simp <;> rfl

theorem w_row (t : Fin cfg0.N) : Rms.row (iblk m c 1 t) 0 = wt m c := funext fun x => by
  show V m c main_v0 ((win0_1.blk t).view.emb (ix2 0 x)) = m ⟨c, main_arg1⟩ (ix1 x)
  have hz : (win0_1.blk t).view.emb (ix2 0 x) = ix2 (n0 := 1) (n1 := 1024) 0 x := by blk_ext [idx1 t]
  rw [hz, V_v0]
  pointwise

theorem t_row (t : Fin cfg0.N) (i : Fin 512) (hi : t.val * 512 + i < 4096) :
    Rms.row (iblk m c 2 t) i = Rms.row (m ⟨c, main_arg2⟩) ⟨t.val * 512 + i, hi⟩ := funext fun x => by
  show iblk m c 2 t (ix2 i x) = m ⟨c, main_arg2⟩ (ix2 (n0 := 4096) (n1 := 1024) ⟨t.val * 512 + i, hi⟩ x)
  blk_point [iblk, V, idx2 t]

/-! ### The result arrays -/

theorem dh_arr : (dats m 0 c).arrAt 4 cfg0.N = Head.dhOf (m ⟨c, main_arg0⟩) (m ⟨c, main_arg2⟩) (wt m c) := by
  refine (dats m 0 c).arrAt_eq_of_covers 4 _ (by decide +kernel) fun t hf y => ?_
  have ht : t.val < 8 := lt_of_lt_of_eq t.isLt N_0
  blk_simp
  rw [after0_4]
  have e : (outsAt0 m c t.val t.isLt).2.1 = k0_pay10 (iblk m c 0 t) (iblk m c 1 t) (iblk m c 2 t) (iblk m c 1 t) := by
    by_cases h : t.val = 0
    · rw [outs_A m c t (by omega) (by omega)]
    · rw [outs_B m c t (by omega) (by omega)]
  have y0 : ((y 0 : Fin _) : ℕ) < 512 := (y 0).isLt
  have hi : t.val * 512 + ((y 0 : Fin _) : ℕ) < 4096 := by omega
  have hz : (win0_4.blk t).view.emb y = ix2 (n0 := 4096) (n1 := 1024) ⟨t.val * 512 + ((y 0 : Fin _) : ℕ), hi⟩ (y 1) := by
    blk_ext [idx4 t]
  rw [e, hz, Head.dhOf, Rms.dhOf]
  refine (congrArg _ (eq_ix2 y)).trans ((dh_apply _ _ _ (y 0) (y 1)).trans ?_)
  rw [h_row m c t (y 0) hi, w_row, t_row m c t (y 0) hi]
  rfl

/-- One row's part of the weight's gradient. -/
def dwRow (j : Fin 1024) (r : Fin 4096) : EReal :=
  Head.G (m ⟨c, main_arg0⟩) (m ⟨c, main_arg2⟩) (wt m c) r j * (Rms.row (m ⟨c, main_arg0⟩) r j * Rms.inv (Rms.row (m ⟨c, main_arg0⟩) r))

def dwBlock (j : Fin 1024) (b : ℕ) : EReal :=
  if h : b < 8 then ∑ r : Fin 512, dwRow m c j ⟨b * 512 + r, by omega⟩ else 0

/-- One row's part of the loss. -/
def lossRow (r : Fin 4096) : EReal :=
  ((1 / 2048 : ℝ) : EReal) * Head.sq (Rms.row (m ⟨c, main_arg0⟩) r) (wt m c) (Rms.row (m ⟨c, main_arg2⟩) r)

def lossBlock (b : ℕ) : EReal :=
  if h : b < 8 then ∑ r : Fin 512, lossRow m c ⟨b * 512 + r, by omega⟩ else 0

theorem dw_at (t : Fin cfg0.N) (j : Fin 1024) :
    k0_pay1 (k0_pay6 (iblk m c 0 t)) (k0_pay9 (iblk m c 0 t) (iblk m c 1 t) (iblk m c 2 t)) (ix2 0 j) = dwBlock m c j t.val := by
  have ht : t.val < 8 := lt_of_lt_of_eq t.isLt N_0
  rw [dw_apply, dwBlock, dif_pos ht]
  refine Finset.sum_congr rfl fun r _ => ?_
  rw [h_row m c t r (by omega), w_row, t_row m c t r (by omega)]
  rfl

theorem loss_at (t : Fin cfg0.N) (y : S1x1.Idx) : k0_pay8 (iblk m c 0 t) (iblk m c 1 t) (iblk m c 2 t) y = lossBlock m c t.val := by
  have ht : t.val < 8 := lt_of_lt_of_eq t.isLt N_0
  rw [loss_apply, lossBlock, dif_pos ht,
    Head.mul_sum _ _ _ (by exact_mod_cast (by norm_num : (0 : ℝ) ≤ 1 / 2048)) (EReal.coe_ne_top _)]
  refine Finset.sum_congr rfl fun r _ => ?_
  rw [h_row m c t r (by omega), w_row, t_row m c t r (by omega)]
  rfl

theorem pay2_apply (a : FVec Ideal S1x1 .f32) (y : S1x128.Idx) : k0_pay2 a y = a (ix2 0 0) := by
  pointwise [k0_pay2]

theorem pay3_apply (a b : FVec Ideal S512x1024 .f32) (v : FVec Ideal S1x1024 .f32) (j : Fin 1024) : k0_pay3 a b v (ix2 0 j) = v (ix2 0 j) + k0_pay1 a b (ix2 0 j) := by
  pointwise [k0_pay3]

theorem pay4_apply (a : FVec Ideal S1x1 .f32) (v : FVec Ideal S1x128 .f32) (y : S1x128.Idx) : k0_pay4 a v y = v y + a (ix2 0 0) := by
  pointwise [k0_pay4, pay2_apply]

theorem fold (j : Fin 1024) (y : S1x128.Idx) : ∀ (b : ℕ) (hb : b < cfg0.N),
    (outsAt0 m c b hb).1 y = (∑ i ∈ Finset.range (b + 1), lossBlock m c i)
      ∧ (outsAt0 m c b hb).2.2 (ix2 0 j) = ∑ i ∈ Finset.range (b + 1), dwBlock m c j i := by
  intro b
  induction b with
  | zero =>
    intro hb
    have h := outs_A m c ⟨0, hb⟩ (by show 0 % 8 = 0; omega) (by show ¬1 ≤ 0; omega)
    rw [Finset.sum_range_succ, Finset.sum_range_zero, zero_add, Finset.sum_range_succ, Finset.sum_range_zero, zero_add]
    constructor
    · exact (congrFun (congrArg (·.1) h) y).trans ((pay2_apply _ y).trans (loss_at m c ⟨0, hb⟩ _))
    · exact (congrFun (congrArg (·.2.2) h) (ix2 0 j)).trans (dw_at m c ⟨0, hb⟩ j)
  | succ b ih =>
    intro hb
    have hb8 : b + 1 < 8 := lt_of_lt_of_eq hb N_0
    have h := outs_B m c ⟨b + 1, hb⟩ (by show ¬(b + 1) % 8 = 0; omega) (by show 1 ≤ b + 1; omega)
    rw [Finset.sum_range_succ, Finset.sum_range_succ _ (b + 1), ← (ih (by omega)).1, ← (ih (by omega)).2]
    constructor
    · exact (congrFun (congrArg (·.1) h) y).trans ((pay4_apply _ _ y).trans (congrArg _ (loss_at m c ⟨b + 1, hb⟩ _)))
    · exact (congrFun (congrArg (·.2.2) h) (ix2 0 j)).trans ((pay3_apply _ _ _ j).trans (congrArg _ (dw_at m c ⟨b + 1, hb⟩ j)))

theorem dw_arr : (dats m 0 c).arrAt 5 cfg0.N = Head.dwOf (m ⟨c, main_arg0⟩) (m ⟨c, main_arg2⟩) (wt m c) := by
  refine (dats m 0 c).arrAt_eq_of_covers 5 _ (by decide +kernel) fun t hf y => ?_
  have h1 : t.val % 8 = 7 := (flush0_5 t).mp hf
  have ht : t = ⟨7, by decide⟩ := Fin.ext (by have : t.val < 8 := lt_of_lt_of_eq t.isLt N_0; show t.val = 7; omega)
  blk_simp
  have hz : (win0_5.blk t).view.emb y = ix2 (n0 := 1) (n1 := 1024) 0 (y 1) := by
    have y0 : ((y 0 : Fin _) : ℕ) < 1 := (y 0).isLt
    blk_ext [idx5 t]
  rw [after0_5, hz, Head.dwOf, Rms.dwOf]
  subst ht
  have hy : y = ix2 (n0 := 1) (n1 := 1024) 0 (y 1) := by
    funext a
    fin_cases a
    · exact Fin.ext (Nat.lt_one_iff.mp (y 0).isLt)
    · rfl
  refine (congrArg _ hy).trans ((fold m c (y 1) (ix2 0 0) 7 (by decide)).2.trans ?_)
  rw [← Fin.sum_univ_eq_sum_range (dwBlock m c (y 1)) 8]
  refine (Finset.sum_congr rfl fun b _ => dif_pos b.isLt).trans ?_
  exact Fin.sum_mul_add_congr (S := 8) (n := 512) fun s k hl => rfl

theorem loss_arr (z : S1x128.Idx) : (dats m 0 c).arrAt 3 cfg0.N z = Head.loss (m ⟨c, main_arg0⟩) (m ⟨c, main_arg2⟩) (wt m c) := by
  refine congrFun (g := fun _ => Head.loss (m ⟨c, main_arg0⟩) (m ⟨c, main_arg2⟩) (wt m c)) ((dats m 0 c).arrAt_eq_of_covers 3 _ (by decide +kernel) fun t hf y => ?_) z
  have h1 : t.val % 8 = 7 := (flush0_3 t).mp hf
  have ht : t = ⟨7, by decide⟩ := Fin.ext (by have : t.val < 8 := lt_of_lt_of_eq t.isLt N_0; show t.val = 7; omega)
  blk_simp
  rw [after0_3]
  subst ht
  refine (fold m c 0 y 7 (by decide)).1.trans ?_
  rw [← Fin.sum_univ_eq_sum_range (lossBlock m c) 8]
  refine (Finset.sum_congr rfl fun b _ => dif_pos b.isLt).trans ?_
  exact Fin.sum_mul_add_congr (S := 8) (n := 512) fun s k hl => rfl

/-- The host takes the loss out of the first place of the row. -/
theorem loss_tail : Pipeline.afterTail₀ cfgs (dats m) 0 (V0 m) [hostOps1] c main_v3 = Head.lossOf (m ⟨c, main_arg0⟩) (m ⟨c, main_arg2⟩) (wt m c) := by
  have e : Pipeline.afterTail₀ cfgs (dats m) 0 (V0 m) [hostOps1] c main_v3
      = shapeCast _ (extractStridedSlice S1x1 ![0, 0] ((dats m 0 c).arrAt 3 cfg0.N : FVec Ideal S1x128 .f32) slices_S1x128_S1x1_0_0) shapeCasts_S1x1_S_ := by
    refine Eq.trans ?_ (congrArg (fun X : FVec Ideal S1x128 .f32 => shapeCast S_ (extractStridedSlice S1x1 ![0, 0] X slices_S1x128_S1x1_0_0) shapeCasts_S1x1_S_)
      (Pipeline.withArrays_arr spec0 (by decide) c (V0 m c) (fun w => (dats m 0 c).arrAt w cfg0.N) 3))
    show StableHlo.after hostOps1 (Pipeline.withArrays spec0 c (V0 m c) fun w => (dats m 0 c).arrAt w cfg0.N) (Proc.devRef .tc main_v3) = _
    after_results_simp <;> rfl
  rw [e]
  generalize hX : ((dats m 0 c).arrAt 3 cfg0.N : FVec Ideal S1x128 .f32) = X
  have hx : ∀ z, X z = Head.loss (m ⟨c, main_arg0⟩) (m ⟨c, main_arg2⟩) (wt m c) := fun z => by rw [← hX]; exact loss_arr m c z
  clear hX
  funext z
  unfold Head.lossOf
  pointwise [hx]

/-- The run: the loss and its two gradients, and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v3) = Head.lossOf (m ((c : Thread nD τ).loc main_arg0)) (m ((c : Thread nD τ).loc main_arg2)) (fun x => m ((c : Thread nD τ).loc main_arg1) (ix1 x))
      ∧ r.2.mem ((c.tc : Thread nD τ).loc main_v1_1) = Head.dhOf (m ((c : Thread nD τ).loc main_arg0)) (m ((c : Thread nD τ).loc main_arg2)) (fun x => m ((c : Thread nD τ).loc main_arg1) (ix1 x))
      ∧ r.2.mem ((c.tc : Thread nD τ).loc main_v1_2) = Head.dwOf (m ((c : Thread nD τ).loc main_arg0)) (m ((c : Thread nD τ).loc main_arg2)) (fun x => m ((c : Thread nD τ).loc main_arg1) (ix1 x))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans (loss_tail m c),
      ((h c).1 4).trans (dh_arr m c),
      ((h c).1 5).trans (dw_arr m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩) (run_main m ρ)

end Cert.Kernel32Ideal.Fl

namespace Cert.Reference32Ideal.Fl

open Cert.Reference32Ideal Cert.Reference32Ideal.Gen Cert.Reference32Ideal.Value Idealize.ShloMosaic Idealize.ShloMosaic.TcCoe Idealize.SL.Sem

variable (m : (ℓ : Loc nD τ sig) → Buf (Elt Ideal) ℓ)

theorem inv_apply (a0 : FVec Ideal S4096x1024 .f32) (i : Fin 4096) :
    Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))) (ix2 i 0)
      = Rms.inv (Rms.row a0 i) := by
  unfold Rms.inv Rms.meanSq
  pointwise

/-- The distances, and the gradient at the normed rows, as the reference forms them. -/
def errV (a0 : FVec Ideal S4096x1024 .f32) (a1 : FVec Ideal S1024 .f32) (a2 : FVec Ideal S4096x1024 .f32) : FVec Ideal S4096x1024 .f32 :=
  subf (mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 a1))) a2

def gV (E : FVec Ideal S4096x1024 .f32) : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) E)

theorem gV_def (E : FVec Ideal S4096x1024 .f32) : gV E = mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) E) := rfl

theorem errV_apply (a0 : FVec Ideal S4096x1024 .f32) (a1 : FVec Ideal S1024 .f32) (a2 : FVec Ideal S4096x1024 .f32) (i : Fin 4096) (x : Fin 1024) :
    errV a0 a1 a2 (ix2 i x) = Head.err (Rms.row a0 i) (fun x => a1 (ix1 x)) (Rms.row a2 i) x := by
  unfold errV Head.err Rms.inv Rms.meanSq
  pointwise

theorem gV_apply (E : FVec Ideal S4096x1024 .f32) (i : Fin 4096) (x : Fin 1024) : gV E (ix2 i x) = E (ix2 i x) * Ideal.ofBits .f32 0x3A800000#32 := by
  rw [← Head.factor]
  unfold gV
  pointwise

theorem G_apply (a0 : FVec Ideal S4096x1024 .f32) (a1 : FVec Ideal S1024 .f32) (a2 : FVec Ideal S4096x1024 .f32) (i : Fin 4096) (x : Fin 1024) :
    gV (errV a0 a1 a2) (ix2 i x) = Head.G a0 a2 (fun x => a1 (ix1 x)) i x := by
  rw [gV_apply, errV_apply]
  rfl

theorem dh_eq (c : Dev nD) : res_main_v50 m c = Head.dhOf (m ((c.tc : Thread nD τ).loc main_arg0)) (m ((c.tc : Thread nD τ).loc main_arg2)) (fun x => m ((c.tc : Thread nD τ).loc main_arg1) (ix1 x)) := by
  unfold res_main_v50
  generalize m ((c.tc : Thread nD τ).loc main_arg0) = a0
  generalize m ((c.tc : Thread nD τ).loc main_arg1) = a1
  generalize m ((c.tc : Thread nD τ).loc main_arg2) = a2
  rw [show subf (mulf (mulf a0 _) _) a2 = errV a0 a1 a2 from rfl, ← gV_def]
  generalize hG : gV (errV a0 a1 a2) = G
  have hg : Head.G a0 a2 (fun x => a1 (ix1 x)) = fun i x => G (ix2 i x) := funext fun i => funext fun x => by
    rw [← hG]
    exact (G_apply a0 a1 a2 i x).symm
  clear hG
  refine funext fun (z : S4096x1024.Idx) => ?_
  obtain ⟨i, j, rfl⟩ : ∃ i j, z = ix2 i j := ⟨z 0, z 1, eq_ix2 z⟩
  show _ = Rms.rowDh (Head.G a0 a2 (fun x => a1 (ix1 x)) i) (Rms.row a0 i) (fun x => a1 (ix1 x)) 0 j
  refine Eq.trans ?_ (Rms.rowDh_eq ..).symm
  rw [Rms.refDh, Rms.refC, hg, zero_add]
  pointwise
  simp only [Fin.sum_univ_one, Rms.inv, Rms.meanSq]

/-- The reference's run: the loss and its two gradients. -/
theorem run (ρ : Dev nD → PrngReg) :
    θ_run defs (onTc (τ := τ) (main (F := Ideal))) ⟨m, fun _ => 0, ρ⟩ fun r => ∀ c : Dev nD,
      r.2.mem ((c.tc : Thread nD τ).loc main_v24) = Head.lossOf (m ((c.tc : Thread nD τ).loc main_arg0)) (m ((c.tc : Thread nD τ).loc main_arg2)) (fun x => m ((c.tc : Thread nD τ).loc main_arg1) (ix1 x))
      ∧ r.2.mem ((c.tc : Thread nD τ).loc main_v50) = Head.dhOf (m ((c.tc : Thread nD τ).loc main_arg0)) (m ((c.tc : Thread nD τ).loc main_arg2)) (fun x => m ((c.tc : Thread nD τ).loc main_arg1) (ix1 x))
      ∧ r.2.mem ((c.tc : Thread nD τ).loc main_v51) = Head.dwOf (m ((c.tc : Thread nD τ).loc main_arg0)) (m ((c.tc : Thread nD τ).loc main_arg2)) (fun x => m ((c.tc : Thread nD τ).loc main_arg1) (ix1 x))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r hr c => ?_) (Cert.Reference32Ideal.Value.run m ρ)
  refine ⟨(hr c).1.trans ?_, (hr c).2.1.trans ?_, (hr c).2.2.1.trans ?_, (hr c).2.2.2⟩
  · clear hr
    generalize m ((c.tc : Thread nD τ).loc main_arg0) = a0
    generalize m ((c.tc : Thread nD τ).loc main_arg1) = a1
    generalize m ((c.tc : Thread nD τ).loc main_arg2) = a2
    refine funext fun z => ?_
    rw [Head.lossOf, ← Head.loss_eq]
    rw [show subf (mulf (mulf a0 _) _) a2 = errV a0 a1 a2 from rfl]
    unfold Head.sq
    pointwise [errV_apply]
  · exact dh_eq m c
  · clear hr
    generalize m ((c.tc : Thread nD τ).loc main_arg0) = a0
    generalize m ((c.tc : Thread nD τ).loc main_arg1) = a1
    generalize m ((c.tc : Thread nD τ).loc main_arg2) = a2
    rw [show subf (mulf (mulf a0 _) _) a2 = errV a0 a1 a2 from rfl, ← gV_def]
    generalize hG : gV (errV a0 a1 a2) = G
    have hg : Head.G a0 a2 (fun x => a1 (ix1 x)) = fun i x => G (ix2 i x) := funext fun i => funext fun x => by
      rw [← hG]
      exact (G_apply a0 a1 a2 i x).symm
    clear hG
    funext z
    rw [Head.dwOf, Rms.dwOf, hg]
    pointwise
    simp only [Fin.sum_univ_one, Rms.inv, Rms.meanSq]
    exact Finset.sum_congr rfl fun r _ => mul_comm _ _

end Cert.Reference32Ideal.Fl

end
-- ==== Proof.Nf33.lean ====
module

public import proofs.«01_k».proof.Proof.Gen.Kernel33Ideal.Value
public import proofs.«01_k».proof.Proof.Gen.Reference33Ideal.Run
public import proofs.«01_k».proof.Proof.Fwd
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel33Ideal.Nf

open Cert.Kernel33Ideal Cert.Kernel33Ideal.Gen Idealize.ShloMosaic Idealize.ShloMosaic.TcCoe Idealize.SL.Sem

variable (m : (ℓ : Loc nD τ sig) → Buf (Elt Ideal) ℓ) (c : Dev nD)

theorem pay_apply (h : Vec Ideal S512x1024 .f32) (w : Vec Ideal S1x1024 .f32) (i : Fin 512) (x : Fin 1024) :
    k0_pay1 h w (ix2 i x) = Rms.row h i x * Rms.inv (Rms.row h i) * w (ix2 0 x) := by
  unfold Rms.inv Rms.meanSq
  pointwise [k0_pay1]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem h_row (t : Fin cfg0.N) (i : Fin 512) (hi : t.val * 512 + i < 4096) :
    Rms.row (iblk m c 0 t) i = Rms.row (m ⟨c, main_arg0⟩) ⟨t.val * 512 + i, hi⟩ := funext fun x => by
  show iblk m c 0 t (ix2 i x) = m ⟨c, main_arg0⟩ (ix2 (n0 := 4096) (n1 := 1024) ⟨t.val * 512 + i, hi⟩ x)
  blk_point [iblk, V, idx0 t]

theorem w_apply (t : Fin cfg0.N) (x : Fin 1024) : iblk m c 1 t (ix2 0 x) = m ⟨c, main_arg1⟩ (ix1 x) := by
  blk_point [iblk, V, idx1 t]

theorem block (t : Fin cfg0.N) (i : Fin 512) (x : Fin 1024) :
    out0_2 (iblk m c 0 t) (iblk m c 1 t) (ix2 i x) = Rms.row (iblk m c 0 t) i x * Rms.inv (Rms.row (iblk m c 0 t) i) * iblk m c 1 t (ix2 0 x) := by
  frame_out
  exact pay_apply _ _ i x

theorem arr : (dats m 0 c).arrAt 2 cfg0.N = fun z : S4096x1024.Idx => Fwd.normOf (Rms.row (m ⟨c, main_arg0⟩)) (fun x => m ⟨c, main_arg1⟩ (ix1 x)) (z 0) (z 1) := by
  refine (dats m 0 c).arrAt_eq_of_covers 2 _ (by decide +kernel) fun t hf y => ?_
  have ht : t.val < 8 := lt_of_lt_of_eq t.isLt N_0
  blk_simp
  rw [after0_2]
  have y0 : ((y 0 : Fin _) : ℕ) < 512 := (y 0).isLt
  have hi : t.val * 512 + ((y 0 : Fin _) : ℕ) < 4096 := by omega
  have hz : (win0_2.blk t).view.emb y = ix2 (n0 := 4096) (n1 := 1024) ⟨t.val * 512 + ((y 0 : Fin _) : ℕ), hi⟩ (y 1) := by
    blk_ext [idx2 t]
  rw [hz]
  refine (congrArg _ (eq_ix2 y)).trans ((block m c t (y 0) (y 1)).trans ?_)
  rw [h_row m c t (y 0) hi]
  exact congrArg (_ * ·) (w_apply m c t (y 1))

end Cert.Kernel33Ideal.Nf

namespace Cert.Reference33Ideal.Nf

open Cert.Reference33Ideal Cert.Reference33Ideal.Gen Cert.Reference33Ideal.Value Idealize.ShloMosaic Idealize.ShloMosaic.TcCoe Idealize.SL.Sem

/-- The reference's run: the normed rows. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = (fun z : S4096x1024.Idx => Fwd.normOf (Rms.row (m ((c.tc : Thread nD τ).loc main_arg0))) (fun x => m ((c.tc : Thread nD τ).loc main_arg1) (ix1 x)) (z 0) (z 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r hr c => ⟨(hr c).1.trans ?_, (hr c).2⟩) (Cert.Reference33Ideal.Value.run (F := Ideal) m ρ)
  clear hr
  generalize m ((c.tc : Thread nD τ).loc main_arg0) = a0
  generalize m ((c.tc : Thread nD τ).loc main_arg1) = a1
  refine funext fun (z : S4096x1024.Idx) => ?_
  obtain ⟨i, j, rfl⟩ : ∃ i j, z = ix2 i j := ⟨z 0, z 1, eq_ix2 z⟩
  show _ = Rms.row a0 i j * Rms.inv (Rms.row a0 i) * a1 (ix1 j)
  unfold Rms.inv Rms.meanSq
  pointwise

end Cert.Reference33Ideal.Nf

end
-- ==== Proof.Gt34.lean ====
module

public import proofs.«01_k».proof.Proof.Gen.Kernel34Ideal.Value
public import proofs.«01_k».proof.Proof.Gen.Reference34Ideal.Run
public import proofs.«01_k».proof.Proof.Fwd
public import Idealize.ShloMosaic.Lib.Pipeline.ValueKit
public import Idealize.ShloMosaic.Lib.Pipeline.ReadBack
public import Idealize.ShloMosaic.Lib.Pointwise

@[expose] public section

set_option maxRecDepth 16384

noncomputable section

/-! The gradient of `sigmoid z * p` at `z` and at `p`, entry by entry. -/

namespace Cert.Gate

open Idealize.ShloMosaic

/-- The gradient at the gate's argument. -/
def dz (g z p : EReal) : EReal := g * p * Fwd.sig z * (Ideal.ofBits .f32 0x3F800000#32 - Fwd.sig z)

/-- The gradient at the other factor. -/
def dp (g z : EReal) : EReal := g * Fwd.sig z

end Cert.Gate

namespace Cert.Kernel34Ideal.Gt

open Cert.Kernel34Ideal Cert.Kernel34Ideal.Gen Idealize.ShloMosaic Idealize.ShloMosaic.TcCoe Idealize.SL.Sem

variable (m : (ℓ : Loc nD τ sig) → Buf (Elt Ideal) ℓ) (c : Dev nD)

theorem dz_arr : (dats m 0 c).arrAt 3 cfg0.N
    = fun i : S4096x1024.Idx => Gate.dz (m ⟨c, main_arg0⟩ i) (m ⟨c, main_arg1⟩ i) (m ⟨c, main_arg2⟩ i) :=
  (Value.final3 m c).trans rfl

theorem dp_arr : (dats m 0 c).arrAt 4 cfg0.N = fun i : S4096x1024.Idx => Gate.dp (m ⟨c, main_arg0⟩ i) (m ⟨c, main_arg1⟩ i) :=
  (Value.final4 m c).trans rfl

end Cert.Kernel34Ideal.Gt

namespace Cert.Reference34Ideal.Gt

open Cert.Reference34Ideal Cert.Reference34Ideal.Gen Cert.Reference34Ideal.Value Idealize.ShloMosaic Idealize.ShloMosaic.TcCoe Idealize.SL.Sem

/-- The reference's run: the two gradients. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = (fun i : S4096x1024.Idx => Gate.dz (m ((c.tc : Thread nD τ).loc main_arg0) i) (m ((c.tc : Thread nD τ).loc main_arg1) i) (m ((c.tc : Thread nD τ).loc main_arg2) i))
      ∧ r.2.mem ((c.tc : Thread nD τ).loc main_v14) = (fun i : S4096x1024.Idx => Gate.dp (m ((c.tc : Thread nD τ).loc main_arg0) i) (m ((c.tc : Thread nD τ).loc main_arg1) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r hr c => ⟨(hr c).1.trans ?_, (hr c).2.1.trans ?_, (hr c).2.2⟩) (Cert.Reference34Ideal.Value.run (F := Ideal) m ρ)
  · clear hr
    generalize m ((c.tc : Thread nD τ).loc main_arg0) = a0
    generalize m ((c.tc : Thread nD τ).loc main_arg1) = a1
    generalize m ((c.tc : Thread nD τ).loc main_arg2) = a2
    refine funext fun (z : S4096x1024.Idx) => ?_
    rw [Gate.dz, Fwd.sig_eq, mul_assoc, Fwd.sigR]
    pointwise
  · clear hr
    generalize m ((c.tc : Thread nD τ).loc main_arg0) = a0
    generalize m ((c.tc : Thread nD τ).loc main_arg1) = a1
    refine funext fun (z : S4096x1024.Idx) => ?_
    rw [Gate.dp, Fwd.sig_eq, mul_comm, Fwd.sigR]
    pointwise

end Cert.Reference34Ideal.Gt

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Reference24Ideal
public import proofs.«01_k».proof.Proof.Gen.Reference24Ideal.Run
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Reference25Ideal
public import proofs.«01_k».proof.Proof.Gen.Reference25Ideal.Run
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Reference26Ideal
public import proofs.«01_k».proof.Proof.Gen.Reference26Ideal.Run
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Reference27Ideal
public import proofs.«01_k».proof.Proof.Gen.Reference27Ideal.Run
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Frame
public import proofs.«01_k».proof.Proof.Gen.Reference32Ideal
public import proofs.«01_k».proof.Proof.Gen.Reference32Ideal.Run
public import proofs.«01_k».proof.Proof.Gen.Kernel33
public import proofs.«01_k».proof.Proof.Gen.Kernel33.Frame
public import proofs.«01_k».proof.Proof.Gen.Kernel33Ideal
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Kernel34
public import proofs.«01_k».proof.Proof.Gen.Kernel34.Frame
public import proofs.«01_k».proof.Proof.Gen.Kernel34Ideal
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.UpValue
public import proofs.«01_k».proof.Proof.UpRef
public import proofs.«01_k».proof.Proof.Dw2
public import proofs.«01_k».proof.Proof.Dw3
public import proofs.«01_k».proof.Proof.Dw4
public import proofs.«01_k».proof.Proof.Dw5
public import proofs.«01_k».proof.Proof.Dw6
public import proofs.«01_k».proof.Proof.Dw7
public import proofs.«01_k».proof.Proof.Dw8
public import proofs.«01_k».proof.Proof.Dx9
public import proofs.«01_k».proof.Proof.Dx10
public import proofs.«01_k».proof.Proof.Dx11
public import proofs.«01_k».proof.Proof.Dx12
public import proofs.«01_k».proof.Proof.Dx13
public import proofs.«01_k».proof.Proof.Fw14
public import proofs.«01_k».proof.Proof.Fw15
public import proofs.«01_k».proof.Proof.Fw16
public import proofs.«01_k».proof.Proof.Fw17
public import proofs.«01_k».proof.Proof.Fw18
public import proofs.«01_k».proof.Proof.Fw19
public import proofs.«01_k».proof.Proof.Fw20
public import proofs.«01_k».proof.Proof.Adam
public import proofs.«01_k».proof.Proof.Ad21
public import proofs.«01_k».proof.Proof.Ad22
public import proofs.«01_k».proof.Proof.Ad23
public import proofs.«01_k».proof.Proof.Ad24
public import proofs.«01_k».proof.Proof.Ad25
public import proofs.«01_k».proof.Proof.Ad26
public import proofs.«01_k».proof.Proof.Ad27
public import proofs.«01_k».proof.Proof.Ad28
public import proofs.«01_k».proof.Proof.Ad29
public import proofs.«01_k».proof.Proof.Ad30
public import proofs.«01_k».proof.Proof.Ad31
public import proofs.«01_k».proof.Proof.Fl32
public import proofs.«01_k».proof.Proof.Nf33
public import proofs.«01_k».proof.Proof.Gt34

@[expose] public section

noncomputable section

namespace Cert.Proof

open Idealize.ShloMosaic Idealize.SL.Sem

theorem frame_p : Cert.quiescent_Kernel := fun m ρ _ => Cert.Kernel.Gen.frame m ρ
theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem algebraic : Cert.algebraic_KernelIdeal_ReferenceIdeal := fun m ρ m' ρ' _ hag =>
  ⟨_, _, (θ_run _ _ _).mono (fun r h c => ⟨(h c).1.trans (KernelIdeal.Up.dh_arr m c), (h c).2.1.trans (KernelIdeal.Up.dw_arr m c), (h c).2.2⟩) (Cert.KernelIdeal.Value.run_blocks m ρ),
    (θ_run _ _ _).mono (fun r h c => by
      obtain ⟨a0, a1, a2, a3, a4⟩ := hag c
      refine ⟨(h c).1.trans ?_, (h c).2.1.trans ?_, (h c).2.2⟩
      · rw [a0, a1, a2, a3, a4]
      · rw [a0, a1, a2]) (Cert.ReferenceIdeal.Up.run m' ρ')⟩

theorem frame_p2 : Cert.quiescent_Kernel2 := fun m ρ _ => Cert.Kernel2.Gen.frame m ρ
theorem frame_pi2 : Cert.quiescent_Kernel2Ideal := fun m ρ _ => Cert.Kernel2Ideal.Gen.frame m ρ

theorem frame_ri2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic2 : Cert.algebraic_Kernel2Ideal_Reference2Ideal := fun m ρ m' ρ' _ hag =>
  ⟨_, (θ_run _ _ _).mono (fun r h c => ⟨(h c).1.trans (Kernel2Ideal.Dw.arr m c), (h c).2⟩) (Cert.Kernel2Ideal.Value.run_blocks m ρ),
    (θ_run _ _ _).mono (fun r h c => by
      obtain ⟨a0, a1⟩ := hag c
      refine ⟨(h c).1.trans ?_, (h c).2⟩
      · rw [a0, a1]) (Cert.Reference2Ideal.Dw.run m' ρ')⟩

theorem frame_p3 : Cert.quiescent_Kernel3 := fun m ρ _ => Cert.Kernel3.Gen.frame m ρ
theorem frame_pi3 : Cert.quiescent_Kernel3Ideal := fun m ρ _ => Cert.Kernel3Ideal.Gen.frame m ρ

theorem frame_ri3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic3 : Cert.algebraic_Kernel3Ideal_Reference3Ideal := fun m ρ m' ρ' _ hag =>
  ⟨_, (θ_run _ _ _).mono (fun r h c => ⟨(h c).1.trans (Kernel3Ideal.Dw.arr m c), (h c).2⟩) (Cert.Kernel3Ideal.Value.run_blocks m ρ),
    (θ_run _ _ _).mono (fun r h c => by
      obtain ⟨a0, a1⟩ := hag c
      refine ⟨(h c).1.trans ?_, (h c).2⟩
      · rw [a0, a1]) (Cert.Reference3Ideal.Dw.run m' ρ')⟩

theorem frame_p4 : Cert.quiescent_Kernel4 := fun m ρ _ => Cert.Kernel4.Gen.frame m ρ
theorem frame_pi4 : Cert.quiescent_Kernel4Ideal := fun m ρ _ => Cert.Kernel4Ideal.Gen.frame m ρ

theorem frame_ri4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic4 : Cert.algebraic_Kernel4Ideal_Reference4Ideal := fun m ρ m' ρ' _ hag =>
  ⟨_, (θ_run _ _ _).mono (fun r h c => ⟨(h c).1.trans (Kernel4Ideal.Dw.arr m c), (h c).2⟩) (Cert.Kernel4Ideal.Value.run_blocks m ρ),
    (θ_run _ _ _).mono (fun r h c => by
      obtain ⟨a0, a1⟩ := hag c
      refine ⟨(h c).1.trans ?_, (h c).2⟩
      · rw [a0, a1]) (Cert.Reference4Ideal.Dw.run m' ρ')⟩

theorem frame_p5 : Cert.quiescent_Kernel5 := fun m ρ _ => Cert.Kernel5.Gen.frame m ρ
theorem frame_pi5 : Cert.quiescent_Kernel5Ideal := fun m ρ _ => Cert.Kernel5Ideal.Gen.frame m ρ

theorem frame_ri5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic5 : Cert.algebraic_Kernel5Ideal_Reference5Ideal := fun m ρ m' ρ' _ hag =>
  ⟨_, (θ_run _ _ _).mono (fun r h c => ⟨(h c).1.trans (Kernel5Ideal.Dw.arr m c), (h c).2⟩) (Cert.Kernel5Ideal.Value.run_blocks m ρ),
    (θ_run _ _ _).mono (fun r h c => by
      obtain ⟨a0, a1⟩ := hag c
      refine ⟨(h c).1.trans ?_, (h c).2⟩
      · rw [a0, a1]) (Cert.Reference5Ideal.Dw.run m' ρ')⟩

theorem frame_p6 : Cert.quiescent_Kernel6 := fun m ρ _ => Cert.Kernel6.Gen.frame m ρ
theorem frame_pi6 : Cert.quiescent_Kernel6Ideal := fun m ρ _ => Cert.Kernel6Ideal.Gen.frame m ρ

theorem frame_ri6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic6 : Cert.algebraic_Kernel6Ideal_Reference6Ideal := fun m ρ m' ρ' _ hag =>
  ⟨_, (θ_run _ _ _).mono (fun r h c => ⟨(h c).1.trans (Kernel6Ideal.Dw.arr m c), (h c).2⟩) (Cert.Kernel6Ideal.Value.run_blocks m ρ),
    (θ_run _ _ _).mono (fun r h c => by
      obtain ⟨a0, a1⟩ := hag c
      refine ⟨(h c).1.trans ?_, (h c).2⟩
      · rw [a0, a1]) (Cert.Reference6Ideal.Dw.run m' ρ')⟩

theorem frame_p7 : Cert.quiescent_Kernel7 := fun m ρ _ => Cert.Kernel7.Gen.frame m ρ
theorem frame_pi7 : Cert.quiescent_Kernel7Ideal := fun m ρ _ => Cert.Kernel7Ideal.Gen.frame m ρ

theorem frame_ri7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic7 : Cert.algebraic_Kernel7Ideal_Reference7Ideal := fun m ρ m' ρ' _ hag =>
  ⟨_, (θ_run _ _ _).mono (fun r h c => ⟨(h c).1.trans (Kernel7Ideal.Dw.arr m c), (h c).2⟩) (Cert.Kernel7Ideal.Value.run_blocks m ρ),
    (θ_run _ _ _).mono (fun r h c => by
      obtain ⟨a0, a1⟩ := hag c
      refine ⟨(h c).1.trans ?_, (h c).2⟩
      · rw [a0, a1]) (Cert.Reference7Ideal.Dw.run m' ρ')⟩

theorem frame_p8 : Cert.quiescent_Kernel8 := fun m ρ _ => Cert.Kernel8.Gen.frame m ρ
theorem frame_pi8 : Cert.quiescent_Kernel8Ideal := fun m ρ _ => Cert.Kernel8Ideal.Gen.frame m ρ

theorem frame_ri8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic8 : Cert.algebraic_Kernel8Ideal_Reference8Ideal := fun m ρ m' ρ' _ hag =>
  ⟨_, (θ_run _ _ _).mono (fun r h c => ⟨(h c).1.trans (Kernel8Ideal.Dw.arr m c), (h c).2⟩) (Cert.Kernel8Ideal.Value.run_blocks m ρ),
    (θ_run _ _ _).mono (fun r h c => by
      obtain ⟨a0, a1⟩ := hag c
      refine ⟨(h c).1.trans ?_, (h c).2⟩
      · rw [a0, a1]) (Cert.Reference8Ideal.Dw.run m' ρ')⟩

theorem frame_p9 : Cert.quiescent_Kernel9 := fun m ρ _ => Cert.Kernel9.Gen.frame m ρ
theorem frame_pi9 : Cert.quiescent_Kernel9Ideal := fun m ρ _ => Cert.Kernel9Ideal.Gen.frame m ρ

theorem frame_ri9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic9 : Cert.algebraic_Kernel9Ideal_Reference9Ideal := fun m ρ m' ρ' _ hag =>
  ⟨_, (θ_run _ _ _).mono (fun r h c => ⟨(h c).1.trans (Kernel9Ideal.Dx.arr m c), (h c).2⟩) (Cert.Kernel9Ideal.Value.run_blocks m ρ),
    (θ_run _ _ _).mono (fun r h c => by
      obtain ⟨a0, a1⟩ := hag c
      refine ⟨(h c).1.trans ?_, (h c).2⟩
      · rw [a0, a1]) (Cert.Reference9Ideal.Dx.run m' ρ')⟩

theorem frame_p10 : Cert.quiescent_Kernel10 := fun m ρ _ => Cert.Kernel10.Gen.frame m ρ
theorem frame_pi10 : Cert.quiescent_Kernel10Ideal := fun m ρ _ => Cert.Kernel10Ideal.Gen.frame m ρ

theorem frame_ri10 : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

theorem algebraic10 : Cert.algebraic_Kernel10Ideal_Reference10Ideal := fun m ρ m' ρ' _ hag =>
  ⟨_, _, (θ_run _ _ _).mono (fun r h c => ⟨(h c).1.trans (Kernel10Ideal.Dx.dh_arr m c), (h c).2.1.trans (Kernel10Ideal.Dx.dw_arr m c), (h c).2.2⟩) (Cert.Kernel10Ideal.Value.run_blocks m ρ),
    (θ_run _ _ _).mono (fun r h c => by
      obtain ⟨a0, a1, a2, a3, a4⟩ := hag c
      refine ⟨(h c).1.trans ?_, (h c).2.1.trans ?_, (h c).2.2⟩
      · rw [a0, a1, a2, a3, a4]
      · rw [a0, a1, a2]) (Cert.Reference10Ideal.Dx.run m' ρ')⟩

theorem frame_p11 : Cert.quiescent_Kernel11 := fun m ρ _ => Cert.Kernel11.Gen.frame m ρ
theorem frame_pi11 : Cert.quiescent_Kernel11Ideal := fun m ρ _ => Cert.Kernel11Ideal.Gen.frame m ρ

theorem frame_ri11 : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

theorem algebraic11 : Cert.algebraic_Kernel11Ideal_Reference11Ideal := fun m ρ m' ρ' _ hag =>
  ⟨_, _, (θ_run _ _ _).mono (fun r h c => ⟨(h c).1.trans (Kernel11Ideal.Dx.dh_arr m c), (h c).2.1.trans (Kernel11Ideal.Dx.dw_arr m c), (h c).2.2⟩) (Cert.Kernel11Ideal.Value.run_blocks m ρ),
    (θ_run _ _ _).mono (fun r h c => by
      obtain ⟨a0, a1, a2, a3, a4⟩ := hag c
      refine ⟨(h c).1.trans ?_, (h c).2.1.trans ?_, (h c).2.2⟩
      · rw [a0, a1, a2, a3, a4]
      · rw [a0, a1, a2]) (Cert.Reference11Ideal.Dx.run m' ρ')⟩

theorem frame_p12 : Cert.quiescent_Kernel12 := fun m ρ _ => Cert.Kernel12.Gen.frame m ρ
theorem frame_pi12 : Cert.quiescent_Kernel12Ideal := fun m ρ _ => Cert.Kernel12Ideal.Gen.frame m ρ

theorem frame_ri12 : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

theorem algebraic12 : Cert.algebraic_Kernel12Ideal_Reference12Ideal := fun m ρ m' ρ' _ hag =>
  ⟨_, _, (θ_run _ _ _).mono (fun r h c => ⟨(h c).1.trans (Kernel12Ideal.Dx.dh_arr m c), (h c).2.1.trans (Kernel12Ideal.Dx.dw_arr m c), (h c).2.2⟩) (Cert.Kernel12Ideal.Value.run_blocks m ρ),
    (θ_run _ _ _).mono (fun r h c => by
      obtain ⟨a0, a1, a2, a3, a4⟩ := hag c
      refine ⟨(h c).1.trans ?_, (h c).2.1.trans ?_, (h c).2.2⟩
      · rw [a0, a1, a2, a3, a4]
      · rw [a0, a1, a2]) (Cert.Reference12Ideal.Dx.run m' ρ')⟩

theorem frame_p13 : Cert.quiescent_Kernel13 := fun m ρ _ => Cert.Kernel13.Gen.frame m ρ
theorem frame_pi13 : Cert.quiescent_Kernel13Ideal := fun m ρ _ => Cert.Kernel13Ideal.Gen.frame m ρ

theorem frame_ri13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem algebraic13 : Cert.algebraic_Kernel13Ideal_Reference13Ideal := fun m ρ m' ρ' _ hag =>
  ⟨_, (θ_run _ _ _).mono (fun r h c => ⟨(h c).1.trans (Kernel13Ideal.Dx.arr m c), (h c).2⟩) (Cert.Kernel13Ideal.Value.run_blocks m ρ),
    (θ_run _ _ _).mono (fun r h c => by
      obtain ⟨a0, a1⟩ := hag c
      refine ⟨(h c).1.trans ?_, (h c).2⟩
      · rw [a0, a1]) (Cert.Reference13Ideal.Dx.run m' ρ')⟩

theorem frame_p14 : Cert.quiescent_Kernel14 := fun m ρ _ => Cert.Kernel14.Gen.frame m ρ
theorem frame_pi14 : Cert.quiescent_Kernel14Ideal := fun m ρ _ => Cert.Kernel14Ideal.Gen.frame m ρ

theorem frame_ri14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem algebraic14 : Cert.algebraic_Kernel14Ideal_Reference14Ideal := fun m ρ m' ρ' _ hag =>
  ⟨_, (θ_run _ _ _).mono (fun r h c => ⟨(h c).1.trans (Kernel14Ideal.Fw.arr m c), (h c).2⟩) (Cert.Kernel14Ideal.Value.run_blocks m ρ),
    (θ_run _ _ _).mono (fun r h c => by
      obtain ⟨a0, a1⟩ := hag c
      refine ⟨(h c).1.trans ?_, (h c).2⟩
      · rw [a0, a1]) (Cert.Reference14Ideal.Fw.run m' ρ')⟩

theorem frame_p15 : Cert.quiescent_Kernel15 := fun m ρ _ => Cert.Kernel15.Gen.frame m ρ
theorem frame_pi15 : Cert.quiescent_Kernel15Ideal := fun m ρ _ => Cert.Kernel15Ideal.Gen.frame m ρ

theorem frame_ri15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem algebraic15 : Cert.algebraic_Kernel15Ideal_Reference15Ideal := fun m ρ m' ρ' _ hag =>
  ⟨_, (θ_run _ _ _).mono (fun r h c => ⟨(h c).1.trans (Kernel15Ideal.Fw.arr m c), (h c).2⟩) (Cert.Kernel15Ideal.Value.run_blocks m ρ),
    (θ_run _ _ _).mono (fun r h c => by
      obtain ⟨a0, a1⟩ := hag c
      refine ⟨(h c).1.trans ?_, (h c).2⟩
      · rw [a0, a1]) (Cert.Reference15Ideal.Fw.run m' ρ')⟩

theorem frame_p16 : Cert.quiescent_Kernel16 := fun m ρ _ => Cert.Kernel16.Gen.frame m ρ
theorem frame_pi16 : Cert.quiescent_Kernel16Ideal := fun m ρ _ => Cert.Kernel16Ideal.Gen.frame m ρ

theorem frame_ri16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem algebraic16 : Cert.algebraic_Kernel16Ideal_Reference16Ideal := fun m ρ m' ρ' _ hag =>
  ⟨_, (θ_run _ _ _).mono (fun r h c => ⟨(h c).1.trans (Kernel16Ideal.Fw.arr m c), (h c).2⟩) (Cert.Kernel16Ideal.Value.run_blocks m ρ),
    (θ_run _ _ _).mono (fun r h c => by
      obtain ⟨a0, a1⟩ := hag c
      refine ⟨(h c).1.trans ?_, (h c).2⟩
      · rw [a0, a1]) (Cert.Reference16Ideal.Fw.run m' ρ')⟩

theorem frame_p17 : Cert.quiescent_Kernel17 := fun m ρ _ => Cert.Kernel17.Gen.frame m ρ
theorem frame_pi17 : Cert.quiescent_Kernel17Ideal := fun m ρ _ => Cert.Kernel17Ideal.Gen.frame m ρ

theorem frame_ri17 : Cert.quiescent_Reference17Ideal := fun m ρ _ =>
  (θ_run Cert.Reference17Ideal.defs _ _).mono (fun r h => ⟨fun c => (h c).2.2, sem_eq_zero_of_no_sems (by decide) r.2⟩)
    (Cert.Reference17Ideal.Value.run (F := Ideal) m ρ)

theorem algebraic17 : Cert.algebraic_Kernel17Ideal_Reference17Ideal := fun m ρ m' ρ' _ hag =>
  ⟨_, _, (θ_run _ _ _).mono (fun r h c => ⟨(h c).1.trans (Kernel17Ideal.Fw.h_arr m c), (h c).2.1.trans (Kernel17Ideal.Fw.n_arr m c), (h c).2.2⟩) (Cert.Kernel17Ideal.Value.run_blocks m ρ),
    (θ_run _ _ _).mono (fun r h c => by
      obtain ⟨a0, a1, a2, a3⟩ := hag c
      refine ⟨(h c).1.trans ?_, (h c).2.1.trans ?_, (h c).2.2⟩
      · rw [a0, a1, a2]
      · rw [a0, a1, a2, a3]) (Cert.Reference17Ideal.Fw.run m' ρ')⟩

theorem frame_p18 : Cert.quiescent_Kernel18 := fun m ρ _ => Cert.Kernel18.Gen.frame m ρ
theorem frame_pi18 : Cert.quiescent_Kernel18Ideal := fun m ρ _ => Cert.Kernel18Ideal.Gen.frame m ρ

theorem frame_ri18 : Cert.quiescent_Reference18Ideal := fun m ρ _ =>
  (θ_run Cert.Reference18Ideal.defs _ _).mono (fun r h => ⟨fun c => (h c).2.2, sem_eq_zero_of_no_sems (by decide) r.2⟩)
    (Cert.Reference18Ideal.Value.run (F := Ideal) m ρ)

theorem algebraic18 : Cert.algebraic_Kernel18Ideal_Reference18Ideal := fun m ρ m' ρ' _ hag =>
  ⟨_, _, (θ_run _ _ _).mono (fun r h c => ⟨(h c).1.trans (Kernel18Ideal.Fw.h_arr m c), (h c).2.1.trans (Kernel18Ideal.Fw.n_arr m c), (h c).2.2⟩) (Cert.Kernel18Ideal.Value.run_blocks m ρ),
    (θ_run _ _ _).mono (fun r h c => by
      obtain ⟨a0, a1, a2, a3⟩ := hag c
      refine ⟨(h c).1.trans ?_, (h c).2.1.trans ?_, (h c).2.2⟩
      · rw [a0, a1, a2]
      · rw [a0, a1, a2, a3]) (Cert.Reference18Ideal.Fw.run m' ρ')⟩

theorem frame_p19 : Cert.quiescent_Kernel19 := fun m ρ _ => Cert.Kernel19.Gen.frame m ρ
theorem frame_pi19 : Cert.quiescent_Kernel19Ideal := fun m ρ _ => Cert.Kernel19Ideal.Gen.frame m ρ

theorem frame_ri19 : Cert.quiescent_Reference19Ideal := fun m ρ _ =>
  (θ_run Cert.Reference19Ideal.defs _ _).mono (fun r h => ⟨fun c => (h c).2.2.2, sem_eq_zero_of_no_sems (by decide) r.2⟩)
    (Cert.Reference19Ideal.Value.run (F := Ideal) m ρ)

theorem algebraic19 : Cert.algebraic_Kernel19Ideal_Reference19Ideal := fun m ρ m' ρ' _ hag =>
  ⟨_, _, _, (θ_run _ _ _).mono (fun r h c => ⟨(h c).1.trans (Kernel19Ideal.Fw.z_arr m c), (h c).2.1.trans (Kernel19Ideal.Fw.h_arr m c), (h c).2.2.1.trans (Kernel19Ideal.Fw.n_arr m c), (h c).2.2.2⟩) (Cert.Kernel19Ideal.Value.run_blocks m ρ),
    (θ_run _ _ _).mono (fun r h c => by
      obtain ⟨a0, a1, a2, a3, a4⟩ := hag c
      refine ⟨(h c).1.trans ?_, (h c).2.1.trans ?_, (h c).2.2.1.trans ?_, (h c).2.2.2⟩
      · rw [a0, a1]
      · rw [a0, a1, a2, a3]
      · rw [a0, a1, a2, a3, a4]) (Cert.Reference19Ideal.Fw.run m' ρ')⟩

theorem frame_p20 : Cert.quiescent_Kernel20 := fun m ρ _ => Cert.Kernel20.Gen.frame m ρ
theorem frame_pi20 : Cert.quiescent_Kernel20Ideal := fun m ρ _ => Cert.Kernel20Ideal.Gen.frame m ρ

theorem frame_ri20 : Cert.quiescent_Reference20Ideal := fun m ρ _ =>
  (θ_run Cert.Reference20Ideal.defs _ _).mono (fun r h => ⟨fun c => (h c).2.2, sem_eq_zero_of_no_sems (by decide) r.2⟩)
    (Cert.Reference20Ideal.Value.run (F := Ideal) m ρ)

theorem algebraic20 : Cert.algebraic_Kernel20Ideal_Reference20Ideal := fun m ρ m' ρ' _ hag =>
  ⟨_, _, (θ_run _ _ _).mono (fun r h c => ⟨(h c).1.trans (Kernel20Ideal.Fw.z_arr m c), (h c).2.1.trans (Kernel20Ideal.Fw.h_arr m c), (h c).2.2⟩) (Cert.Kernel20Ideal.Value.run_blocks m ρ),
    (θ_run _ _ _).mono (fun r h c => by
      obtain ⟨a0, a1, a2, a3⟩ := hag c
      refine ⟨(h c).1.trans ?_, (h c).2.1.trans ?_, (h c).2.2⟩
      · rw [a0, a1]
      · rw [a0, a1, a2, a3]) (Cert.Reference20Ideal.Fw.run m' ρ')⟩

theorem frame_p21 : Cert.quiescent_Kernel21 := fun m ρ _ => Cert.Kernel21.Gen.frame m ρ
theorem frame_pi21 : Cert.quiescent_Kernel21Ideal := fun m ρ _ => Cert.Kernel21Ideal.Gen.frame m ρ

theorem frame_ri21 : Cert.quiescent_Reference21Ideal := fun m ρ _ =>
  (θ_run Cert.Reference21Ideal.defs _ _).mono (fun r h => ⟨fun c => (h c).2.2.2.2, sem_eq_zero_of_no_sems (by decide) r.2⟩)
    (Cert.Reference21Ideal.Value.run (F := Ideal) m ρ)

theorem algebraic21 : Cert.algebraic_Kernel21Ideal_Reference21Ideal := fun m ρ m' ρ' _ hag =>
  ⟨_, _, _, _, (θ_run _ _ _).mono (fun r h c => ⟨(h c).1.trans (Kernel21Ideal.Ad.g_arr m c), (h c).2.1.trans (Kernel21Ideal.Ad.d_arr m c), (h c).2.2.1.trans (Kernel21Ideal.Ad.m_arr m c), (h c).2.2.2.1.trans (Kernel21Ideal.Ad.v_arr m c), (h c).2.2.2.2⟩) (Cert.Kernel21Ideal.Value.run_blocks m ρ),
    (θ_run _ _ _).mono (fun r h c => by
      obtain ⟨a0, a1, a2, a3⟩ := hag c
      refine ⟨(h c).1.trans ?_, (h c).2.1.trans ?_, (h c).2.2.1.trans ?_, (h c).2.2.2.1.trans ?_, (h c).2.2.2.2⟩
      · rw [a0]
      · rw [a0, a1, a2, a3]
      · rw [a0, a2]
      · rw [a0, a3]) (Cert.Reference21Ideal.Ad.run m' ρ')⟩

theorem frame_p22 : Cert.quiescent_Kernel22 := fun m ρ _ => Cert.Kernel22.Gen.frame m ρ
theorem frame_pi22 : Cert.quiescent_Kernel22Ideal := fun m ρ _ => Cert.Kernel22Ideal.Gen.frame m ρ

theorem frame_ri22 : Cert.quiescent_Reference22Ideal := fun m ρ _ =>
  (θ_run Cert.Reference22Ideal.defs _ _).mono (fun r h => ⟨fun c => (h c).2.2.2.2, sem_eq_zero_of_no_sems (by decide) r.2⟩)
    (Cert.Reference22Ideal.Value.run (F := Ideal) m ρ)

theorem algebraic22 : Cert.algebraic_Kernel22Ideal_Reference22Ideal := fun m ρ m' ρ' _ hag =>
  ⟨_, _, _, _, (θ_run _ _ _).mono (fun r h c => ⟨(h c).1.trans (Kernel22Ideal.Ad.g_arr m c), (h c).2.1.trans (Kernel22Ideal.Ad.d_arr m c), (h c).2.2.1.trans (Kernel22Ideal.Ad.m_arr m c), (h c).2.2.2.1.trans (Kernel22Ideal.Ad.v_arr m c), (h c).2.2.2.2⟩) (Cert.Kernel22Ideal.Value.run_blocks m ρ),
    (θ_run _ _ _).mono (fun r h c => by
      obtain ⟨a0, a1, a2, a3⟩ := hag c
      refine ⟨(h c).1.trans ?_, (h c).2.1.trans ?_, (h c).2.2.1.trans ?_, (h c).2.2.2.1.trans ?_, (h c).2.2.2.2⟩
      · rw [a0]
      · rw [a0, a1, a2, a3]
      · rw [a0, a2]
      · rw [a0, a3]) (Cert.Reference22Ideal.Ad.run m' ρ')⟩

theorem frame_p23 : Cert.quiescent_Kernel23 := fun m ρ _ => Cert.Kernel23.Gen.frame m ρ
theorem frame_pi23 : Cert.quiescent_Kernel23Ideal := fun m ρ _ => Cert.Kernel23Ideal.Gen.frame m ρ

theorem frame_ri23 : Cert.quiescent_Reference23Ideal := fun m ρ _ =>
  (θ_run Cert.Reference23Ideal.defs _ _).mono (fun r h => ⟨fun c => (h c).2.2.2.2, sem_eq_zero_of_no_sems (by decide) r.2⟩)
    (Cert.Reference23Ideal.Value.run (F := Ideal) m ρ)

theorem algebraic23 : Cert.algebraic_Kernel23Ideal_Reference23Ideal := fun m ρ m' ρ' _ hag =>
  ⟨_, _, _, _, (θ_run _ _ _).mono (fun r h c => ⟨(h c).1.trans (Kernel23Ideal.Ad.g_arr m c), (h c).2.1.trans (Kernel23Ideal.Ad.d_arr m c), (h c).2.2.1.trans (Kernel23Ideal.Ad.m_arr m c), (h c).2.2.2.1.trans (Kernel23Ideal.Ad.v_arr m c), (h c).2.2.2.2⟩) (Cert.Kernel23Ideal.Value.run_blocks m ρ),
    (θ_run _ _ _).mono (fun r h c => by
      obtain ⟨a0, a1, a2, a3⟩ := hag c
      refine ⟨(h c).1.trans ?_, (h c).2.1.trans ?_, (h c).2.2.1.trans ?_, (h c).2.2.2.1.trans ?_, (h c).2.2.2.2⟩
      · rw [a0]
      · rw [a0, a1, a2, a3]
      · rw [a0, a2]
      · rw [a0, a3]) (Cert.Reference23Ideal.Ad.run m' ρ')⟩

theorem frame_p24 : Cert.quiescent_Kernel24 := fun m ρ _ => Cert.Kernel24.Gen.frame m ρ
theorem frame_pi24 : Cert.quiescent_Kernel24Ideal := fun m ρ _ => Cert.Kernel24Ideal.Gen.frame m ρ

theorem frame_ri24 : Cert.quiescent_Reference24Ideal := fun m ρ _ =>
  (θ_run Cert.Reference24Ideal.defs _ _).mono (fun r h => ⟨fun c => (h c).2.2.2.2, sem_eq_zero_of_no_sems (by decide) r.2⟩)
    (Cert.Reference24Ideal.Value.run (F := Ideal) m ρ)

theorem algebraic24 : Cert.algebraic_Kernel24Ideal_Reference24Ideal := fun m ρ m' ρ' _ hag =>
  ⟨_, _, _, _, Cert.Kernel24Ideal.Ad.run m ρ,
    (θ_run _ _ _).mono (fun r h c => by
      obtain ⟨a0, a1, a2, a3, a4⟩ := hag c
      refine ⟨(h c).1.trans ?_, (h c).2.1.trans ?_, (h c).2.2.1.trans ?_, (h c).2.2.2.1.trans ?_, (h c).2.2.2.2⟩
      · rw [a0, a1]
      · rw [a0, a1, a2, a3, a4]
      · rw [a0, a1, a3]
      · rw [a0, a1, a4]) (Cert.Reference24Ideal.Ad.run m' ρ')⟩

theorem frame_p25 : Cert.quiescent_Kernel25 := fun m ρ _ => Cert.Kernel25.Gen.frame m ρ
theorem frame_pi25 : Cert.quiescent_Kernel25Ideal := fun m ρ _ => Cert.Kernel25Ideal.Gen.frame m ρ

theorem frame_ri25 : Cert.quiescent_Reference25Ideal := fun m ρ _ =>
  (θ_run Cert.Reference25Ideal.defs _ _).mono (fun r h => ⟨fun c => (h c).2.2.2.2, sem_eq_zero_of_no_sems (by decide) r.2⟩)
    (Cert.Reference25Ideal.Value.run (F := Ideal) m ρ)

theorem algebraic25 : Cert.algebraic_Kernel25Ideal_Reference25Ideal := fun m ρ m' ρ' _ hag =>
  ⟨_, _, _, _, Cert.Kernel25Ideal.Ad.run m ρ,
    (θ_run _ _ _).mono (fun r h c => by
      obtain ⟨a0, a1, a2, a3, a4⟩ := hag c
      refine ⟨(h c).1.trans ?_, (h c).2.1.trans ?_, (h c).2.2.1.trans ?_, (h c).2.2.2.1.trans ?_, (h c).2.2.2.2⟩
      · rw [a0, a1]
      · rw [a0, a1, a2, a3, a4]
      · rw [a0, a1, a3]
      · rw [a0, a1, a4]) (Cert.Reference25Ideal.Ad.run m' ρ')⟩

theorem frame_p26 : Cert.quiescent_Kernel26 := fun m ρ _ => Cert.Kernel26.Gen.frame m ρ
theorem frame_pi26 : Cert.quiescent_Kernel26Ideal := fun m ρ _ => Cert.Kernel26Ideal.Gen.frame m ρ

theorem frame_ri26 : Cert.quiescent_Reference26Ideal := fun m ρ _ =>
  (θ_run Cert.Reference26Ideal.defs _ _).mono (fun r h => ⟨fun c => (h c).2.2.2.2, sem_eq_zero_of_no_sems (by decide) r.2⟩)
    (Cert.Reference26Ideal.Value.run (F := Ideal) m ρ)

theorem algebraic26 : Cert.algebraic_Kernel26Ideal_Reference26Ideal := fun m ρ m' ρ' _ hag =>
  ⟨_, _, _, _, Cert.Kernel26Ideal.Ad.run m ρ,
    (θ_run _ _ _).mono (fun r h c => by
      obtain ⟨a0, a1, a2, a3, a4⟩ := hag c
      refine ⟨(h c).1.trans ?_, (h c).2.1.trans ?_, (h c).2.2.1.trans ?_, (h c).2.2.2.1.trans ?_, (h c).2.2.2.2⟩
      · rw [a0, a1]
      · rw [a0, a1, a2, a3, a4]
      · rw [a0, a1, a3]
      · rw [a0, a1, a4]) (Cert.Reference26Ideal.Ad.run m' ρ')⟩

theorem frame_p27 : Cert.quiescent_Kernel27 := fun m ρ _ => Cert.Kernel27.Gen.frame m ρ
theorem frame_pi27 : Cert.quiescent_Kernel27Ideal := fun m ρ _ => Cert.Kernel27Ideal.Gen.frame m ρ

theorem frame_ri27 : Cert.quiescent_Reference27Ideal := fun m ρ _ =>
  (θ_run Cert.Reference27Ideal.defs _ _).mono (fun r h => ⟨fun c => (h c).2.2.2.2, sem_eq_zero_of_no_sems (by decide) r.2⟩)
    (Cert.Reference27Ideal.Value.run (F := Ideal) m ρ)

theorem algebraic27 : Cert.algebraic_Kernel27Ideal_Reference27Ideal := fun m ρ m' ρ' _ hag =>
  ⟨_, _, _, _, Cert.Kernel27Ideal.Ad.run m ρ,
    (θ_run _ _ _).mono (fun r h c => by
      obtain ⟨a0, a1, a2, a3, a4⟩ := hag c
      refine ⟨(h c).1.trans ?_, (h c).2.1.trans ?_, (h c).2.2.1.trans ?_, (h c).2.2.2.1.trans ?_, (h c).2.2.2.2⟩
      · rw [a0, a1]
      · rw [a0, a1, a2, a3, a4]
      · rw [a0, a1, a3]
      · rw [a0, a1, a4]) (Cert.Reference27Ideal.Ad.run m' ρ')⟩

theorem frame_p28 : Cert.quiescent_Kernel28 := fun m ρ _ => Cert.Kernel28.Gen.frame m ρ
theorem frame_pi28 : Cert.quiescent_Kernel28Ideal := fun m ρ _ => Cert.Kernel28Ideal.Gen.frame m ρ

theorem frame_ri28 : Cert.quiescent_Reference28Ideal := fun m ρ _ =>
  (θ_run Cert.Reference28Ideal.defs _ _).mono (fun r h => ⟨fun c => (h c).2, sem_eq_zero_of_no_sems (by decide) r.2⟩)
    (Cert.Reference28Ideal.Value.run (F := Ideal) m ρ)

theorem algebraic28 : Cert.algebraic_Kernel28Ideal_Reference28Ideal := fun m ρ m' ρ' _ hag =>
  ⟨_, (θ_run _ _ _).mono (fun r h c => ⟨(h c).1.trans (Kernel28Ideal.Ad.g_arr m c), (h c).2⟩) (Cert.Kernel28Ideal.Value.run_blocks m ρ),
    (θ_run _ _ _).mono (fun r h c => by
      obtain a0 := hag c
      refine ⟨(h c).1.trans ?_, (h c).2⟩
      · rw [a0]) (Cert.Reference28Ideal.Ad.run m' ρ')⟩

theorem frame_p29 : Cert.quiescent_Kernel29 := fun m ρ _ => Cert.Kernel29.Gen.frame m ρ
theorem frame_pi29 : Cert.quiescent_Kernel29Ideal := fun m ρ _ => Cert.Kernel29Ideal.Gen.frame m ρ

theorem frame_ri29 : Cert.quiescent_Reference29Ideal := fun m ρ _ =>
  (θ_run Cert.Reference29Ideal.defs _ _).mono (fun r h => ⟨fun c => (h c).2.2.2, sem_eq_zero_of_no_sems (by decide) r.2⟩)
    (Cert.Reference29Ideal.Value.run (F := Ideal) m ρ)

theorem algebraic29 : Cert.algebraic_Kernel29Ideal_Reference29Ideal := fun m ρ m' ρ' _ hag =>
  ⟨_, _, _, (θ_run _ _ _).mono (fun r h c => ⟨(h c).1.trans (Kernel29Ideal.Ad.d_arr m c), (h c).2.1.trans (Kernel29Ideal.Ad.m_arr m c), (h c).2.2.1.trans (Kernel29Ideal.Ad.v_arr m c), (h c).2.2.2⟩) (Cert.Kernel29Ideal.Value.run_blocks m ρ),
    (θ_run _ _ _).mono (fun r h c => by
      obtain ⟨a0, a1, a2, a3⟩ := hag c
      refine ⟨(h c).1.trans ?_, (h c).2.1.trans ?_, (h c).2.2.1.trans ?_, (h c).2.2.2⟩
      · rw [a0, a1, a2, a3]
      · rw [a0, a2]
      · rw [a0, a3]) (Cert.Reference29Ideal.Ad.run m' ρ')⟩

theorem frame_p30 : Cert.quiescent_Kernel30 := fun m ρ _ => Cert.Kernel30.Gen.frame m ρ
theorem frame_pi30 : Cert.quiescent_Kernel30Ideal := fun m ρ _ => Cert.Kernel30Ideal.Gen.frame m ρ

theorem frame_ri30 : Cert.quiescent_Reference30Ideal := fun m ρ _ =>
  (θ_run Cert.Reference30Ideal.defs _ _).mono (fun r h => ⟨fun c => (h c).2, sem_eq_zero_of_no_sems (by decide) r.2⟩)
    (Cert.Reference30Ideal.Value.run (F := Ideal) m ρ)

theorem algebraic30 : Cert.algebraic_Kernel30Ideal_Reference30Ideal := fun m ρ m' ρ' _ hag =>
  ⟨_, (θ_run _ _ _).mono (fun r h c => ⟨(h c).1.trans (Kernel30Ideal.Ad.g_arr m c), (h c).2⟩) (Cert.Kernel30Ideal.Value.run_blocks m ρ),
    (θ_run _ _ _).mono (fun r h c => by
      obtain a0 := hag c
      refine ⟨(h c).1.trans ?_, (h c).2⟩
      · rw [a0]) (Cert.Reference30Ideal.Ad.run m' ρ')⟩

theorem frame_p31 : Cert.quiescent_Kernel31 := fun m ρ _ => Cert.Kernel31.Gen.frame m ρ
theorem frame_pi31 : Cert.quiescent_Kernel31Ideal := fun m ρ _ => Cert.Kernel31Ideal.Gen.frame m ρ

theorem frame_ri31 : Cert.quiescent_Reference31Ideal := fun m ρ _ =>
  (θ_run Cert.Reference31Ideal.defs _ _).mono (fun r h => ⟨fun c => (h c).2.2.2, sem_eq_zero_of_no_sems (by decide) r.2⟩)
    (Cert.Reference31Ideal.Value.run (F := Ideal) m ρ)

theorem algebraic31 : Cert.algebraic_Kernel31Ideal_Reference31Ideal := fun m ρ m' ρ' _ hag =>
  ⟨_, _, _, (θ_run _ _ _).mono (fun r h c => ⟨(h c).1.trans (Kernel31Ideal.Ad.d_arr m c), (h c).2.1.trans (Kernel31Ideal.Ad.m_arr m c), (h c).2.2.1.trans (Kernel31Ideal.Ad.v_arr m c), (h c).2.2.2⟩) (Cert.Kernel31Ideal.Value.run_blocks m ρ),
    (θ_run _ _ _).mono (fun r h c => by
      obtain ⟨a0, a1, a2, a3⟩ := hag c
      refine ⟨(h c).1.trans ?_, (h c).2.1.trans ?_, (h c).2.2.1.trans ?_, (h c).2.2.2⟩
      · rw [a0, a1, a2, a3]
      · rw [a0, a2]
      · rw [a0, a3]) (Cert.Reference31Ideal.Ad.run m' ρ')⟩

theorem frame_p32 : Cert.quiescent_Kernel32 := fun m ρ _ => Cert.Kernel32.Gen.frame m ρ
theorem frame_pi32 : Cert.quiescent_Kernel32Ideal := fun m ρ _ => Cert.Kernel32Ideal.Gen.frame m ρ

theorem frame_ri32 : Cert.quiescent_Reference32Ideal := fun m ρ _ =>
  (θ_run Cert.Reference32Ideal.defs _ _).mono (fun r h => ⟨fun c => (h c).2.2.2, sem_eq_zero_of_no_sems (by decide) r.2⟩)
    (Cert.Reference32Ideal.Value.run (F := Ideal) m ρ)

theorem algebraic32 : Cert.algebraic_Kernel32Ideal_Reference32Ideal := fun m ρ m' ρ' _ hag =>
  ⟨_, _, _, Cert.Kernel32Ideal.Fl.run m ρ,
    (θ_run _ _ _).mono (fun r h c => by
      obtain ⟨a0, a1, a2⟩ := hag c
      refine ⟨(h c).1.trans ?_, (h c).2.1.trans ?_, (h c).2.2.1.trans ?_, (h c).2.2.2⟩
      · rw [a0, a1, a2]
      · rw [a0, a1, a2]
      · rw [a0, a1, a2]) (Cert.Reference32Ideal.Fl.run m' ρ')⟩

theorem frame_p33 : Cert.quiescent_Kernel33 := fun m ρ _ => Cert.Kernel33.Gen.frame m ρ
theorem frame_pi33 : Cert.quiescent_Kernel33Ideal := fun m ρ _ => Cert.Kernel33Ideal.Gen.frame m ρ

theorem frame_ri33 : Cert.quiescent_Reference33Ideal := fun m ρ _ =>
  (θ_run Cert.Reference33Ideal.defs _ _).mono (fun r h => ⟨fun c => (h c).2, sem_eq_zero_of_no_sems (by decide) r.2⟩)
    (Cert.Reference33Ideal.Value.run (F := Ideal) m ρ)

theorem algebraic33 : Cert.algebraic_Kernel33Ideal_Reference33Ideal := fun m ρ m' ρ' _ hag =>
  ⟨_, (θ_run _ _ _).mono (fun r h c => ⟨(h c).1.trans (Kernel33Ideal.Nf.arr m c), (h c).2⟩) (Cert.Kernel33Ideal.Value.run_blocks m ρ),
    (θ_run _ _ _).mono (fun r h c => by
      obtain ⟨a0, a1⟩ := hag c
      refine ⟨(h c).1.trans ?_, (h c).2⟩
      · rw [a0, a1]) (Cert.Reference33Ideal.Nf.run m' ρ')⟩

theorem frame_p34 : Cert.quiescent_Kernel34 := fun m ρ _ => Cert.Kernel34.Gen.frame m ρ
theorem frame_pi34 : Cert.quiescent_Kernel34Ideal := fun m ρ _ => Cert.Kernel34Ideal.Gen.frame m ρ

theorem frame_ri34 : Cert.quiescent_Reference34Ideal := fun m ρ _ =>
  (θ_run Cert.Reference34Ideal.defs _ _).mono (fun r h => ⟨fun c => (h c).2.2, sem_eq_zero_of_no_sems (by decide) r.2⟩)
    (Cert.Reference34Ideal.Value.run (F := Ideal) m ρ)

theorem algebraic34 : Cert.algebraic_Kernel34Ideal_Reference34Ideal := fun m ρ m' ρ' _ hag =>
  ⟨_, _, (θ_run _ _ _).mono (fun r h c => ⟨(h c).1.trans (Kernel34Ideal.Gt.dz_arr m c), (h c).2.1.trans (Kernel34Ideal.Gt.dp_arr m c), (h c).2.2⟩) (Cert.Kernel34Ideal.Value.run_blocks m ρ),
    (θ_run _ _ _).mono (fun r h c => by
      obtain ⟨a0, a1, a2⟩ := hag c
      refine ⟨(h c).1.trans ?_, (h c).2.1.trans ?_, (h c).2.2⟩
      · rw [a0, a1, a2]
      · rw [a0, a1]) (Cert.Reference34Ideal.Gt.run m' ρ')⟩

theorem preserves21 : Cert.preserves_Kernel21_Kernel21Ideal :=
  ⟨IdealRules.named_const.statement Cert.Kernel21Ideal.κ "c1" .f32 0x3FC48605#32 ((8388608 / 5463681 : ℝ) : EReal) rfl,
    IdealRules.named_const.statement Cert.Kernel21Ideal.κ "c2" .f32 0x42C8E6D3#32 ((268435456 / 2672307 : ℝ) : EReal) rfl⟩

theorem preserves22 : Cert.preserves_Kernel22_Kernel22Ideal :=
  ⟨IdealRules.named_const.statement Cert.Kernel22Ideal.κ "c1" .f32 0x3FC48605#32 ((8388608 / 5463681 : ℝ) : EReal) rfl,
    IdealRules.named_const.statement Cert.Kernel22Ideal.κ "c2" .f32 0x42C8E6D3#32 ((268435456 / 2672307 : ℝ) : EReal) rfl⟩

theorem preserves23 : Cert.preserves_Kernel23_Kernel23Ideal :=
  ⟨IdealRules.named_const.statement Cert.Kernel23Ideal.κ "c1" .f32 0x3FC48605#32 ((8388608 / 5463681 : ℝ) : EReal) rfl,
    IdealRules.named_const.statement Cert.Kernel23Ideal.κ "c2" .f32 0x42C8E6D3#32 ((268435456 / 2672307 : ℝ) : EReal) rfl⟩

theorem preserves24 : Cert.preserves_Kernel24_Kernel24Ideal :=
  ⟨IdealRules.named_const.statement Cert.Kernel24Ideal.κ "c1" .f32 0x3FC48605#32 ((8388608 / 5463681 : ℝ) : EReal) rfl,
    IdealRules.named_const.statement Cert.Kernel24Ideal.κ "c2" .f32 0x42C8E6D3#32 ((268435456 / 2672307 : ℝ) : EReal) rfl⟩

theorem preserves25 : Cert.preserves_Kernel25_Kernel25Ideal :=
  ⟨IdealRules.named_const.statement Cert.Kernel25Ideal.κ "c1" .f32 0x3FC48605#32 ((8388608 / 5463681 : ℝ) : EReal) rfl,
    IdealRules.named_const.statement Cert.Kernel25Ideal.κ "c2" .f32 0x42C8E6D3#32 ((268435456 / 2672307 : ℝ) : EReal) rfl⟩

theorem preserves26 : Cert.preserves_Kernel26_Kernel26Ideal :=
  ⟨IdealRules.named_const.statement Cert.Kernel26Ideal.κ "c1" .f32 0x3FC48605#32 ((8388608 / 5463681 : ℝ) : EReal) rfl,
    IdealRules.named_const.statement Cert.Kernel26Ideal.κ "c2" .f32 0x42C8E6D3#32 ((268435456 / 2672307 : ℝ) : EReal) rfl⟩

theorem preserves27 : Cert.preserves_Kernel27_Kernel27Ideal :=
  ⟨IdealRules.named_const.statement Cert.Kernel27Ideal.κ "c1" .f32 0x3FC48605#32 ((8388608 / 5463681 : ℝ) : EReal) rfl,
    IdealRules.named_const.statement Cert.Kernel27Ideal.κ "c2" .f32 0x42C8E6D3#32 ((268435456 / 2672307 : ℝ) : EReal) rfl⟩

theorem preserves29 : Cert.preserves_Kernel29_Kernel29Ideal :=
  ⟨IdealRules.named_const.statement Cert.Kernel29Ideal.κ "c1" .f32 0x3FC48605#32 ((8388608 / 5463681 : ℝ) : EReal) rfl,
    IdealRules.named_const.statement Cert.Kernel29Ideal.κ "c2" .f32 0x42C8E6D3#32 ((268435456 / 2672307 : ℝ) : EReal) rfl⟩

theorem preserves31 : Cert.preserves_Kernel31_Kernel31Ideal :=
  ⟨IdealRules.named_const.statement Cert.Kernel31Ideal.κ "c1" .f32 0x3FC48605#32 ((8388608 / 5463681 : ℝ) : EReal) rfl,
    IdealRules.named_const.statement Cert.Kernel31Ideal.κ "c2" .f32 0x42C8E6D3#32 ((268435456 / 2672307 : ℝ) : EReal) rfl⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts,
  frame_p, frame_pi, frame_ri, frame_p2, frame_pi2, frame_ri2, frame_p3, frame_pi3, frame_ri3, frame_p4, frame_pi4, frame_ri4, frame_p5, frame_pi5, frame_ri5, frame_p6, frame_pi6, frame_ri6, frame_p7, frame_pi7, frame_ri7, frame_p8, frame_pi8, frame_ri8, frame_p9, frame_pi9, frame_ri9, frame_p10, frame_pi10, frame_ri10, frame_p11, frame_pi11, frame_ri11, frame_p12, frame_pi12, frame_ri12, frame_p13, frame_pi13, frame_ri13, frame_p14, frame_pi14, frame_ri14, frame_p15, frame_pi15, frame_ri15, frame_p16, frame_pi16, frame_ri16, frame_p17, frame_pi17, frame_ri17, frame_p18, frame_pi18, frame_ri18, frame_p19, frame_pi19, frame_ri19, frame_p20, frame_pi20, frame_ri20, frame_p21, frame_pi21, frame_ri21, frame_p22, frame_pi22, frame_ri22, frame_p23, frame_pi23, frame_ri23, frame_p24, frame_pi24, frame_ri24, frame_p25, frame_pi25, frame_ri25, frame_p26, frame_pi26, frame_ri26, frame_p27, frame_pi27, frame_ri27, frame_p28, frame_pi28, frame_ri28, frame_p29, frame_pi29, frame_ri29, frame_p30, frame_pi30, frame_ri30, frame_p31, frame_pi31, frame_ri31, frame_p32, frame_pi32, frame_ri32, frame_p33, frame_pi33, frame_ri33, frame_p34, frame_pi34, frame_ri34, trivial, algebraic, trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic15, trivial, algebraic16, trivial, algebraic17, trivial, algebraic18, trivial, algebraic19, trivial, algebraic20, preserves21, algebraic21, preserves22, algebraic22, preserves23, algebraic23, preserves24, algebraic24, preserves25, algebraic25, preserves26, algebraic26, preserves27, algebraic27, trivial, algebraic28, preserves29, algebraic29, trivial, algebraic30, preserves31, algebraic31, trivial, algebraic32, trivial, algebraic33, trivial, algebraic34⟩

end Cert.Proof

end
